-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Down [hPre_down_tables : Cert.Pre_down_tables.Facts] (m : (ℓ : Loc Cert.Down.nD Cert.Down.τ Cert.Down.sig) → Buf (Elt Bits) ℓ) : Prop :=
  ∀ c : Dev Cert.Down.nD,
    (Cert.Pre_down_tables.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_down_tables : Cert.Pre_down_tables.Facts] (m : (ℓ : Loc Cert.DownIdeal.nD Cert.DownIdeal.τ Cert.DownIdeal.sig) → Buf (Elt Ideal) ℓ) : Prop :=
  ∀ c : Dev Cert.DownIdeal.nD,
    (Cert.Pre_down_tables.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_tables [hPre_down_tables : Cert.Pre_down_tables.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_tables.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def Pre_Up [hPre_up_tables : Cert.Pre_up_tables.Facts] (m : (ℓ : Loc Cert.Up.nD Cert.Up.τ Cert.Up.sig) → Buf (Elt Bits) ℓ) : Prop :=
  ∀ c : Dev Cert.Up.nD,
    (Cert.Pre_up_tables.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5))) = (fun _ => 1#1)

def Pre_UpIdeal [hPre_up_tables : Cert.Pre_up_tables.Facts] (m : (ℓ : Loc Cert.UpIdeal.nD Cert.UpIdeal.τ Cert.UpIdeal.sig) → Buf (Elt Ideal) ℓ) : Prop :=
  ∀ c : Dev Cert.UpIdeal.nD,
    (Cert.Pre_up_tables.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_tables [hPre_up_tables : Cert.Pre_up_tables.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_tables.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5))) = (fun _ => 1#1)

def Pre_DenseDown [hPre_dense_down_tables : Cert.Pre_dense_down_tables.Facts] (m : (ℓ : Loc Cert.DenseDown.nD Cert.DenseDown.τ Cert.DenseDown.sig) → Buf (Elt Bits) ℓ) : Prop :=
  ∀ c : Dev Cert.DenseDown.nD,
    (Cert.Pre_dense_down_tables.fn (F := Bits) (m ((c.tc : Thread Cert.DenseDown.nD Cert.DenseDown.τ).loc Cert.DenseDown.main_arg0)) (m ((c.tc : Thread Cert.DenseDown.nD Cert.DenseDown.τ).loc Cert.DenseDown.main_arg1)) (m ((c.tc : Thread Cert.DenseDown.nD Cert.DenseDown.τ).loc Cert.DenseDown.main_arg2)) (m ((c.tc : Thread Cert.DenseDown.nD Cert.DenseDown.τ).loc Cert.DenseDown.main_arg3))) = (fun _ => 1#1)

def Pre_DenseDownIdeal [hPre_dense_down_tables : Cert.Pre_dense_down_tables.Facts] (m : (ℓ : Loc Cert.DenseDownIdeal.nD Cert.DenseDownIdeal.τ Cert.DenseDownIdeal.sig) → Buf (Elt Ideal) ℓ) : Prop :=
  ∀ c : Dev Cert.DenseDownIdeal.nD,
    (Cert.Pre_dense_down_tables.fn (F := Ideal) (m ((c.tc : Thread Cert.DenseDownIdeal.nD Cert.DenseDownIdeal.τ).loc Cert.DenseDownIdeal.main_arg0)) (m ((c.tc : Thread Cert.DenseDownIdeal.nD Cert.DenseDownIdeal.τ).loc Cert.DenseDownIdeal.main_arg1)) (m ((c.tc : Thread Cert.DenseDownIdeal.nD Cert.DenseDownIdeal.τ).loc Cert.DenseDownIdeal.main_arg2)) (m ((c.tc : Thread Cert.DenseDownIdeal.nD Cert.DenseDownIdeal.τ).loc Cert.DenseDownIdeal.main_arg3))) = (fun _ => 1#1)

def Pre_DenseDownRefIdeal (m : (ℓ : Loc Cert.DenseDownRefIdeal.nD Cert.DenseDownRefIdeal.τ Cert.DenseDownRefIdeal.sig) → Buf (Elt Ideal) ℓ) : Prop :=
  True

def Pre_DenseDownRefIdeal_dense_down_tables [hPre_dense_down_tables : Cert.Pre_dense_down_tables.Facts] (m : (ℓ : Loc Cert.DenseDownRefIdeal.nD Cert.DenseDownRefIdeal.τ Cert.DenseDownRefIdeal.sig) → Buf (Elt Ideal) ℓ) : Prop :=
  ∀ c : Dev Cert.DenseDownRefIdeal.nD,
    (Cert.Pre_dense_down_tables.fn (F := Ideal) (m ((c.tc : Thread Cert.DenseDownRefIdeal.nD Cert.DenseDownRefIdeal.τ).loc Cert.DenseDownRefIdeal.main_arg0)) (m ((c.tc : Thread Cert.DenseDownRefIdeal.nD Cert.DenseDownRefIdeal.τ).loc Cert.DenseDownRefIdeal.main_arg1)) (m ((c.tc : Thread Cert.DenseDownRefIdeal.nD Cert.DenseDownRefIdeal.τ).loc Cert.DenseDownRefIdeal.main_arg2)) (m ((c.tc : Thread Cert.DenseDownRefIdeal.nD Cert.DenseDownRefIdeal.τ).loc Cert.DenseDownRefIdeal.main_arg3))) = (fun _ => 1#1)

def Pre_DenseUp [hPre_dense_up_tables : Cert.Pre_dense_up_tables.Facts] (m : (ℓ : Loc Cert.DenseUp.nD Cert.DenseUp.τ Cert.DenseUp.sig) → Buf (Elt Bits) ℓ) : Prop :=
  ∀ c : Dev Cert.DenseUp.nD,
    (Cert.Pre_dense_up_tables.fn (F := Bits) (m ((c.tc : Thread Cert.DenseUp.nD Cert.DenseUp.τ).loc Cert.DenseUp.main_arg0)) (m ((c.tc : Thread Cert.DenseUp.nD Cert.DenseUp.τ).loc Cert.DenseUp.main_arg1)) (m ((c.tc : Thread Cert.DenseUp.nD Cert.DenseUp.τ).loc Cert.DenseUp.main_arg2)) (m ((c.tc : Thread Cert.DenseUp.nD Cert.DenseUp.τ).loc Cert.DenseUp.main_arg3)) (m ((c.tc : Thread Cert.DenseUp.nD Cert.DenseUp.τ).loc Cert.DenseUp.main_arg4))) = (fun _ => 1#1)

def Pre_DenseUpIdeal [hPre_dense_up_tables : Cert.Pre_dense_up_tables.Facts] (m : (ℓ : Loc Cert.DenseUpIdeal.nD Cert.DenseUpIdeal.τ Cert.DenseUpIdeal.sig) → Buf (Elt Ideal) ℓ) : Prop :=
  ∀ c : Dev Cert.DenseUpIdeal.nD,
    (Cert.Pre_dense_up_tables.fn (F := Ideal) (m ((c.tc : Thread Cert.DenseUpIdeal.nD Cert.DenseUpIdeal.τ).loc Cert.DenseUpIdeal.main_arg0)) (m ((c.tc : Thread Cert.DenseUpIdeal.nD Cert.DenseUpIdeal.τ).loc Cert.DenseUpIdeal.main_arg1)) (m ((c.tc : Thread Cert.DenseUpIdeal.nD Cert.DenseUpIdeal.τ).loc Cert.DenseUpIdeal.main_arg2)) (m ((c.tc : Thread Cert.DenseUpIdeal.nD Cert.DenseUpIdeal.τ).loc Cert.DenseUpIdeal.main_arg3)) (m ((c.tc : Thread Cert.DenseUpIdeal.nD Cert.DenseUpIdeal.τ).loc Cert.DenseUpIdeal.main_arg4))) = (fun _ => 1#1)

def Pre_DenseUpRefIdeal (m : (ℓ : Loc Cert.DenseUpRefIdeal.nD Cert.DenseUpRefIdeal.τ Cert.DenseUpRefIdeal.sig) → Buf (Elt Ideal) ℓ) : Prop :=
  True

def Pre_DenseUpRefIdeal_dense_up_tables [hPre_dense_up_tables : Cert.Pre_dense_up_tables.Facts] (m : (ℓ : Loc Cert.DenseUpRefIdeal.nD Cert.DenseUpRefIdeal.τ Cert.DenseUpRefIdeal.sig) → Buf (Elt Ideal) ℓ) : Prop :=
  ∀ c : Dev Cert.DenseUpRefIdeal.nD,
    (Cert.Pre_dense_up_tables.fn (F := Ideal) (m ((c.tc : Thread Cert.DenseUpRefIdeal.nD Cert.DenseUpRefIdeal.τ).loc Cert.DenseUpRefIdeal.main_arg0)) (m ((c.tc : Thread Cert.DenseUpRefIdeal.nD Cert.DenseUpRefIdeal.τ).loc Cert.DenseUpRefIdeal.main_arg1)) (m ((c.tc : Thread Cert.DenseUpRefIdeal.nD Cert.DenseUpRefIdeal.τ).loc Cert.DenseUpRefIdeal.main_arg2)) (m ((c.tc : Thread Cert.DenseUpRefIdeal.nD Cert.DenseUpRefIdeal.τ).loc Cert.DenseUpRefIdeal.main_arg3)) (m ((c.tc : Thread Cert.DenseUpRefIdeal.nD Cert.DenseUpRefIdeal.τ).loc Cert.DenseUpRefIdeal.main_arg4))) = (fun _ => 1#1)

def Pre_MatIn0 (m : (ℓ : Loc Cert.MatIn0.nD Cert.MatIn0.τ Cert.MatIn0.sig) → Buf (Elt Bits) ℓ) : Prop :=
  True

def Pre_MatIn0Ideal (m : (ℓ : Loc Cert.MatIn0Ideal.nD Cert.MatIn0Ideal.τ Cert.MatIn0Ideal.sig) → Buf (Elt Ideal) ℓ) : Prop :=
  True

def Pre_MatIn0RefIdeal (m : (ℓ : Loc Cert.MatIn0RefIdeal.nD Cert.MatIn0RefIdeal.τ Cert.MatIn0RefIdeal.sig) → Buf (Elt Ideal) ℓ) : Prop :=
  True

def Pre_MatIn1 (m : (ℓ : Loc Cert.MatIn1.nD Cert.MatIn1.τ Cert.MatIn1.sig) → Buf (Elt Bits) ℓ) : Prop :=
  True

def Pre_MatIn1Ideal (m : (ℓ : Loc Cert.MatIn1Ideal.nD Cert.MatIn1Ideal.τ Cert.MatIn1Ideal.sig) → Buf (Elt Ideal) ℓ) : Prop :=
  True

def Pre_MatIn1RefIdeal (m : (ℓ : Loc Cert.MatIn1RefIdeal.nD Cert.MatIn1RefIdeal.τ Cert.MatIn1RefIdeal.sig) → Buf (Elt Ideal) ℓ) : Prop :=
  True

def Pre_MatIn2 (m : (ℓ : Loc Cert.MatIn2.nD Cert.MatIn2.τ Cert.MatIn2.sig) → Buf (Elt Bits) ℓ) : Prop :=
  True

def Pre_MatIn2Ideal (m : (ℓ : Loc Cert.MatIn2Ideal.nD Cert.MatIn2Ideal.τ Cert.MatIn2Ideal.sig) → Buf (Elt Ideal) ℓ) : Prop :=
  True

def Pre_MatIn2RefIdeal (m : (ℓ : Loc Cert.MatIn2RefIdeal.nD Cert.MatIn2RefIdeal.τ Cert.MatIn2RefIdeal.sig) → Buf (Elt Ideal) ℓ) : Prop :=
  True

def Pre_MatIn3 (m : (ℓ : Loc Cert.MatIn3.nD Cert.MatIn3.τ Cert.MatIn3.sig) → Buf (Elt Bits) ℓ) : Prop :=
  True

def Pre_MatIn3Ideal (m : (ℓ : Loc Cert.MatIn3Ideal.nD Cert.MatIn3Ideal.τ Cert.MatIn3Ideal.sig) → Buf (Elt Ideal) ℓ) : Prop :=
  True

def Pre_MatIn3RefIdeal (m : (ℓ : Loc Cert.MatIn3RefIdeal.nD Cert.MatIn3RefIdeal.τ Cert.MatIn3RefIdeal.sig) → Buf (Elt Ideal) ℓ) : Prop :=
  True

def Pre_MatOut0 (m : (ℓ : Loc Cert.MatOut0.nD Cert.MatOut0.τ Cert.MatOut0.sig) → Buf (Elt Bits) ℓ) : Prop :=
  True

def Pre_MatOut0Ideal (m : (ℓ : Loc Cert.MatOut0Ideal.nD Cert.MatOut0Ideal.τ Cert.MatOut0Ideal.sig) → Buf (Elt Ideal) ℓ) : Prop :=
  True

def Pre_MatOut0RefIdeal (m : (ℓ : Loc Cert.MatOut0RefIdeal.nD Cert.MatOut0RefIdeal.τ Cert.MatOut0RefIdeal.sig) → Buf (Elt Ideal) ℓ) : Prop :=
  True

def Pre_MatOut1 (m : (ℓ : Loc Cert.MatOut1.nD Cert.MatOut1.τ Cert.MatOut1.sig) → Buf (Elt Bits) ℓ) : Prop :=
  True

def Pre_MatOut1Ideal (m : (ℓ : Loc Cert.MatOut1Ideal.nD Cert.MatOut1Ideal.τ Cert.MatOut1Ideal.sig) → Buf (Elt Ideal) ℓ) : Prop :=
  True

def Pre_MatOut1RefIdeal (m : (ℓ : Loc Cert.MatOut1RefIdeal.nD Cert.MatOut1RefIdeal.τ Cert.MatOut1RefIdeal.sig) → Buf (Elt Ideal) ℓ) : Prop :=
  True

def Pre_MatOut2 (m : (ℓ : Loc Cert.MatOut2.nD Cert.MatOut2.τ Cert.MatOut2.sig) → Buf (Elt Bits) ℓ) : Prop :=
  True

def Pre_MatOut2Ideal (m : (ℓ : Loc Cert.MatOut2Ideal.nD Cert.MatOut2Ideal.τ Cert.MatOut2Ideal.sig) → Buf (Elt Ideal) ℓ) : Prop :=
  True

def Pre_MatOut2RefIdeal (m : (ℓ : Loc Cert.MatOut2RefIdeal.nD Cert.MatOut2RefIdeal.τ Cert.MatOut2RefIdeal.sig) → Buf (Elt Ideal) ℓ) : Prop :=
  True

def Pre_MatOut3 (m : (ℓ : Loc Cert.MatOut3.nD Cert.MatOut3.τ Cert.MatOut3.sig) → Buf (Elt Bits) ℓ) : Prop :=
  True

def Pre_MatOut3Ideal (m : (ℓ : Loc Cert.MatOut3Ideal.nD Cert.MatOut3Ideal.τ Cert.MatOut3Ideal.sig) → Buf (Elt Ideal) ℓ) : Prop :=
  True

def Pre_MatOut3RefIdeal (m : (ℓ : Loc Cert.MatOut3RefIdeal.nD Cert.MatOut3RefIdeal.τ Cert.MatOut3RefIdeal.sig) → Buf (Elt Ideal) ℓ) : Prop :=
  True

def Pre_Mix0 (m : (ℓ : Loc Cert.Mix0.nD Cert.Mix0.τ Cert.Mix0.sig) → Buf (Elt Bits) ℓ) : Prop :=
  True

def Pre_Mix0Ideal (m : (ℓ : Loc Cert.Mix0Ideal.nD Cert.Mix0Ideal.τ Cert.Mix0Ideal.sig) → Buf (Elt Ideal) ℓ) : Prop :=
  True

def Pre_Mix0RefIdeal (m : (ℓ : Loc Cert.Mix0RefIdeal.nD Cert.Mix0RefIdeal.τ Cert.Mix0RefIdeal.sig) → Buf (Elt Ideal) ℓ) : Prop :=
  True

def Pre_Mix1 (m : (ℓ : Loc Cert.Mix1.nD Cert.Mix1.τ Cert.Mix1.sig) → Buf (Elt Bits) ℓ) : Prop :=
  True

def Pre_Mix1Ideal (m : (ℓ : Loc Cert.Mix1Ideal.nD Cert.Mix1Ideal.τ Cert.Mix1Ideal.sig) → Buf (Elt Ideal) ℓ) : Prop :=
  True

def Pre_Mix1RefIdeal (m : (ℓ : Loc Cert.Mix1RefIdeal.nD Cert.Mix1RefIdeal.τ Cert.Mix1RefIdeal.sig) → Buf (Elt Ideal) ℓ) : Prop :=
  True

def Pre_Mix2 (m : (ℓ : Loc Cert.Mix2.nD Cert.Mix2.τ Cert.Mix2.sig) → Buf (Elt Bits) ℓ) : Prop :=
  True

def Pre_Mix2Ideal (m : (ℓ : Loc Cert.Mix2Ideal.nD Cert.Mix2Ideal.τ Cert.Mix2Ideal.sig) → Buf (Elt Ideal) ℓ) : Prop :=
  True

def Pre_Mix2RefIdeal (m : (ℓ : Loc Cert.Mix2RefIdeal.nD Cert.Mix2RefIdeal.τ Cert.Mix2RefIdeal.sig) → Buf (Elt Ideal) ℓ) : Prop :=
  True

def Pre_Mix3 (m : (ℓ : Loc Cert.Mix3.nD Cert.Mix3.τ Cert.Mix3.sig) → Buf (Elt Bits) ℓ) : Prop :=
  True

def Pre_Mix3Ideal (m : (ℓ : Loc Cert.Mix3Ideal.nD Cert.Mix3Ideal.τ Cert.Mix3Ideal.sig) → Buf (Elt Ideal) ℓ) : Prop :=
  True

def Pre_Mix3RefIdeal (m : (ℓ : Loc Cert.Mix3RefIdeal.nD Cert.Mix3RefIdeal.τ Cert.Mix3RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Down [hDown : Cert.Down.Facts] [hPre_down_tables : Cert.Pre_down_tables.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_down_tables : Cert.Pre_down_tables.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_down_tables [hDownRefIdeal : Cert.DownRefIdeal.Facts] [hPre_down_tables : Cert.Pre_down_tables.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_tables m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Up [hUp : Cert.Up.Facts] [hPre_up_tables : Cert.Pre_up_tables.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] [hPre_up_tables : Cert.Pre_up_tables.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_UpRefIdeal_pre_up_tables [hUpRefIdeal : Cert.UpRefIdeal.Facts] [hPre_up_tables : Cert.Pre_up_tables.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_tables m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_DenseDown [hDenseDown : Cert.DenseDown.Facts] [hPre_dense_down_tables : Cert.Pre_dense_down_tables.Facts] : Prop :=
  ∀ (m : (ℓ : Loc Cert.DenseDown.nD Cert.DenseDown.τ Cert.DenseDown.sig) → Buf (Elt Bits) ℓ) (g : Dev Cert.DenseDown.nD → PrngReg), Pre_DenseDown m →
    θ_run (Cert.DenseDown.defs (F := Bits)) (onTc (τ := Cert.DenseDown.τ) (Cert.DenseDown.main (F := Bits))) ⟨m, fun _ => 0, g⟩ (fun r => (∀ c : Dev Cert.DenseDown.nD,
      r.2.mem ((c.tc : Thread Cert.DenseDown.nD Cert.DenseDown.τ).loc Cert.DenseDown.main_arg0) = m ((c.tc : Thread Cert.DenseDown.nD Cert.DenseDown.τ).loc Cert.DenseDown.main_arg0)
      ∧ r.2.mem ((c.tc : Thread Cert.DenseDown.nD Cert.DenseDown.τ).loc Cert.DenseDown.main_arg1) = m ((c.tc : Thread Cert.DenseDown.nD Cert.DenseDown.τ).loc Cert.DenseDown.main_arg1)
      ∧ r.2.mem ((c.tc : Thread Cert.DenseDown.nD Cert.DenseDown.τ).loc Cert.DenseDown.main_arg2) = m ((c.tc : Thread Cert.DenseDown.nD Cert.DenseDown.τ).loc Cert.DenseDown.main_arg2)
      ∧ r.2.mem ((c.tc : Thread Cert.DenseDown.nD Cert.DenseDown.τ).loc Cert.DenseDown.main_arg3) = m ((c.tc : Thread Cert.DenseDown.nD Cert.DenseDown.τ).loc Cert.DenseDown.main_arg3))
      ∧ r.2.sem = fun _ => 0)

def quiescent_DenseDownIdeal [hDenseDownIdeal : Cert.DenseDownIdeal.Facts] [hPre_dense_down_tables : Cert.Pre_dense_down_tables.Facts] : Prop :=
  ∀ (m : (ℓ : Loc Cert.DenseDownIdeal.nD Cert.DenseDownIdeal.τ Cert.DenseDownIdeal.sig) → Buf (Elt Ideal) ℓ) (g : Dev Cert.DenseDownIdeal.nD → PrngReg), Pre_DenseDownIdeal m →
    θ_run (Cert.DenseDownIdeal.defs (F := Ideal)) (onTc (τ := Cert.DenseDownIdeal.τ) (Cert.DenseDownIdeal.main (F := Ideal))) ⟨m, fun _ => 0, g⟩ (fun r => (∀ c : Dev Cert.DenseDownIdeal.nD,
      r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
      ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
      ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2)
      ∧ r.2.mem ((c.tc : Thread Cert.DenseDownIdeal.nD Cert.DenseDownIdeal.τ).loc Cert.DenseDownIdeal.main_arg3) = m ((c.tc : Thread Cert.DenseDownIdeal.nD Cert.DenseDownIdeal.τ).loc Cert.DenseDownIdeal.main_arg3))
      ∧ r.2.sem = fun _ => 0)

def quiescent_DenseDownRefIdeal [hDenseDownRefIdeal : Cert.DenseDownRefIdeal.Facts] : Prop :=
  ∀ (m : (ℓ : Loc Cert.DenseDownRefIdeal.nD Cert.DenseDownRefIdeal.τ Cert.DenseDownRefIdeal.sig) → Buf (Elt Ideal) ℓ) (g : Dev Cert.DenseDownRefIdeal.nD → PrngReg), Pre_DenseDownRefIdeal m →
    θ_run (Cert.DenseDownRefIdeal.defs (F := Ideal)) (onTc (τ := Cert.DenseDownRefIdeal.τ) (Cert.DenseDownRefIdeal.main (F := Ideal))) ⟨m, fun _ => 0, g⟩ (fun r => (∀ c : Dev Cert.DenseDownRefIdeal.nD,
      r.2.mem ((c.tc : Thread Cert.DenseDownRefIdeal.nD Cert.DenseDownRefIdeal.τ).loc Cert.DenseDownRefIdeal.main_arg0) = m ((c.tc : Thread Cert.DenseDownRefIdeal.nD Cert.DenseDownRefIdeal.τ).loc Cert.DenseDownRefIdeal.main_arg0)
      ∧ r.2.mem ((c.tc : Thread Cert.DenseDownRefIdeal.nD Cert.DenseDownRefIdeal.τ).loc Cert.DenseDownRefIdeal.main_arg1) = m ((c.tc : Thread Cert.DenseDownRefIdeal.nD Cert.DenseDownRefIdeal.τ).loc Cert.DenseDownRefIdeal.main_arg1)
      ∧ r.2.mem ((c.tc : Thread Cert.DenseDownRefIdeal.nD Cert.DenseDownRefIdeal.τ).loc Cert.DenseDownRefIdeal.main_arg2) = m ((c.tc : Thread Cert.DenseDownRefIdeal.nD Cert.DenseDownRefIdeal.τ).loc Cert.DenseDownRefIdeal.main_arg2)
      ∧ r.2.mem ((c.tc : Thread Cert.DenseDownRefIdeal.nD Cert.DenseDownRefIdeal.τ).loc Cert.DenseDownRefIdeal.main_arg3) = m ((c.tc : Thread Cert.DenseDownRefIdeal.nD Cert.DenseDownRefIdeal.τ).loc Cert.DenseDownRefIdeal.main_arg3))
      ∧ r.2.sem = fun _ => 0)

def quiescent_DenseDownRefIdeal_pre_dense_down_tables [hDenseDownRefIdeal : Cert.DenseDownRefIdeal.Facts] [hPre_dense_down_tables : Cert.Pre_dense_down_tables.Facts] : Prop :=
  ∀ (m : (ℓ : Loc Cert.DenseDownRefIdeal.nD Cert.DenseDownRefIdeal.τ Cert.DenseDownRefIdeal.sig) → Buf (Elt Ideal) ℓ) (g : Dev Cert.DenseDownRefIdeal.nD → PrngReg), Pre_DenseDownRefIdeal_dense_down_tables m →
    θ_run (Cert.DenseDownRefIdeal.defs (F := Ideal)) (onTc (τ := Cert.DenseDownRefIdeal.τ) (Cert.DenseDownRefIdeal.main (F := Ideal))) ⟨m, fun _ => 0, g⟩ (fun r => (∀ c : Dev Cert.DenseDownRefIdeal.nD,
      r.2.mem ((c.tc : Thread Cert.DenseDownRefIdeal.nD Cert.DenseDownRefIdeal.τ).loc Cert.DenseDownRefIdeal.main_arg0) = m ((c.tc : Thread Cert.DenseDownRefIdeal.nD Cert.DenseDownRefIdeal.τ).loc Cert.DenseDownRefIdeal.main_arg0)
      ∧ r.2.mem ((c.tc : Thread Cert.DenseDownRefIdeal.nD Cert.DenseDownRefIdeal.τ).loc Cert.DenseDownRefIdeal.main_arg1) = m ((c.tc : Thread Cert.DenseDownRefIdeal.nD Cert.DenseDownRefIdeal.τ).loc Cert.DenseDownRefIdeal.main_arg1)
      ∧ r.2.mem ((c.tc : Thread Cert.DenseDownRefIdeal.nD Cert.DenseDownRefIdeal.τ).loc Cert.DenseDownRefIdeal.main_arg2) = m ((c.tc : Thread Cert.DenseDownRefIdeal.nD Cert.DenseDownRefIdeal.τ).loc Cert.DenseDownRefIdeal.main_arg2)
      ∧ r.2.mem ((c.tc : Thread Cert.DenseDownRefIdeal.nD Cert.DenseDownRefIdeal.τ).loc Cert.DenseDownRefIdeal.main_arg3) = m ((c.tc : Thread Cert.DenseDownRefIdeal.nD Cert.DenseDownRefIdeal.τ).loc Cert.DenseDownRefIdeal.main_arg3))
      ∧ r.2.sem = fun _ => 0)

def quiescent_DenseUp [hDenseUp : Cert.DenseUp.Facts] [hPre_dense_up_tables : Cert.Pre_dense_up_tables.Facts] : Prop :=
  ∀ (m : (ℓ : Loc Cert.DenseUp.nD Cert.DenseUp.τ Cert.DenseUp.sig) → Buf (Elt Bits) ℓ) (g : Dev Cert.DenseUp.nD → PrngReg), Pre_DenseUp m →
    θ_run (Cert.DenseUp.defs (F := Bits)) (onTc (τ := Cert.DenseUp.τ) (Cert.DenseUp.main (F := Bits))) ⟨m, fun _ => 0, g⟩ (fun r => (∀ c : Dev Cert.DenseUp.nD,
      r.2.mem ((c.tc : Thread Cert.DenseUp.nD Cert.DenseUp.τ).loc Cert.DenseUp.main_arg0) = m ((c.tc : Thread Cert.DenseUp.nD Cert.DenseUp.τ).loc Cert.DenseUp.main_arg0)
      ∧ r.2.mem ((c.tc : Thread Cert.DenseUp.nD Cert.DenseUp.τ).loc Cert.DenseUp.main_arg1) = m ((c.tc : Thread Cert.DenseUp.nD Cert.DenseUp.τ).loc Cert.DenseUp.main_arg1)
      ∧ r.2.mem ((c.tc : Thread Cert.DenseUp.nD Cert.DenseUp.τ).loc Cert.DenseUp.main_arg2) = m ((c.tc : Thread Cert.DenseUp.nD Cert.DenseUp.τ).loc Cert.DenseUp.main_arg2)
      ∧ r.2.mem ((c.tc : Thread Cert.DenseUp.nD Cert.DenseUp.τ).loc Cert.DenseUp.main_arg3) = m ((c.tc : Thread Cert.DenseUp.nD Cert.DenseUp.τ).loc Cert.DenseUp.main_arg3)
      ∧ r.2.mem ((c.tc : Thread Cert.DenseUp.nD Cert.DenseUp.τ).loc Cert.DenseUp.main_arg4) = m ((c.tc : Thread Cert.DenseUp.nD Cert.DenseUp.τ).loc Cert.DenseUp.main_arg4))
      ∧ r.2.sem = fun _ => 0)

def quiescent_DenseUpIdeal [hDenseUpIdeal : Cert.DenseUpIdeal.Facts] [hPre_dense_up_tables : Cert.Pre_dense_up_tables.Facts] : Prop :=
  ∀ (m : (ℓ : Loc Cert.DenseUpIdeal.nD Cert.DenseUpIdeal.τ Cert.DenseUpIdeal.sig) → Buf (Elt Ideal) ℓ) (g : Dev Cert.DenseUpIdeal.nD → PrngReg), Pre_DenseUpIdeal m →
    θ_run (Cert.DenseUpIdeal.defs (F := Ideal)) (onTc (τ := Cert.DenseUpIdeal.τ) (Cert.DenseUpIdeal.main (F := Ideal))) ⟨m, fun _ => 0, g⟩ (fun r => (∀ c : Dev Cert.DenseUpIdeal.nD,
      r.2.mem ((c.tc : Thread Cert.DenseUpIdeal.nD Cert.DenseUpIdeal.τ).loc Cert.DenseUpIdeal.main_arg0) = m ((c.tc : Thread Cert.DenseUpIdeal.nD Cert.DenseUpIdeal.τ).loc Cert.DenseUpIdeal.main_arg0)
      ∧ r.2.mem ((c.tc : Thread Cert.DenseUpIdeal.nD Cert.DenseUpIdeal.τ).loc Cert.DenseUpIdeal.main_arg1) = m ((c.tc : Thread Cert.DenseUpIdeal.nD Cert.DenseUpIdeal.τ).loc Cert.DenseUpIdeal.main_arg1)
      ∧ r.2.mem ((c.tc : Thread Cert.DenseUpIdeal.nD Cert.DenseUpIdeal.τ).loc Cert.DenseUpIdeal.main_arg2) = m ((c.tc : Thread Cert.DenseUpIdeal.nD Cert.DenseUpIdeal.τ).loc Cert.DenseUpIdeal.main_arg2)
      ∧ r.2.mem ((c.tc : Thread Cert.DenseUpIdeal.nD Cert.DenseUpIdeal.τ).loc Cert.DenseUpIdeal.main_arg3) = m ((c.tc : Thread Cert.DenseUpIdeal.nD Cert.DenseUpIdeal.τ).loc Cert.DenseUpIdeal.main_arg3)
      ∧ r.2.mem ((c.tc : Thread Cert.DenseUpIdeal.nD Cert.DenseUpIdeal.τ).loc Cert.DenseUpIdeal.main_arg4) = m ((c.tc : Thread Cert.DenseUpIdeal.nD Cert.DenseUpIdeal.τ).loc Cert.DenseUpIdeal.main_arg4))
      ∧ r.2.sem = fun _ => 0)

def quiescent_DenseUpRefIdeal [hDenseUpRefIdeal : Cert.DenseUpRefIdeal.Facts] : Prop :=
  ∀ (m : (ℓ : Loc Cert.DenseUpRefIdeal.nD Cert.DenseUpRefIdeal.τ Cert.DenseUpRefIdeal.sig) → Buf (Elt Ideal) ℓ) (g : Dev Cert.DenseUpRefIdeal.nD → PrngReg), Pre_DenseUpRefIdeal m →
    θ_run (Cert.DenseUpRefIdeal.defs (F := Ideal)) (onTc (τ := Cert.DenseUpRefIdeal.τ) (Cert.DenseUpRefIdeal.main (F := Ideal))) ⟨m, fun _ => 0, g⟩ (fun r => (∀ c : Dev Cert.DenseUpRefIdeal.nD,
      r.2.mem ((c.tc : Thread Cert.DenseUpRefIdeal.nD Cert.DenseUpRefIdeal.τ).loc Cert.DenseUpRefIdeal.main_arg0) = m ((c.tc : Thread Cert.DenseUpRefIdeal.nD Cert.DenseUpRefIdeal.τ).loc Cert.DenseUpRefIdeal.main_arg0)
      ∧ r.2.mem ((c.tc : Thread Cert.DenseUpRefIdeal.nD Cert.DenseUpRefIdeal.τ).loc Cert.DenseUpRefIdeal.main_arg1) = m ((c.tc : Thread Cert.DenseUpRefIdeal.nD Cert.DenseUpRefIdeal.τ).loc Cert.DenseUpRefIdeal.main_arg1)
      ∧ r.2.mem ((c.tc : Thread Cert.DenseUpRefIdeal.nD Cert.DenseUpRefIdeal.τ).loc Cert.DenseUpRefIdeal.main_arg2) = m ((c.tc : Thread Cert.DenseUpRefIdeal.nD Cert.DenseUpRefIdeal.τ).loc Cert.DenseUpRefIdeal.main_arg2)
      ∧ r.2.mem ((c.tc : Thread Cert.DenseUpRefIdeal.nD Cert.DenseUpRefIdeal.τ).loc Cert.DenseUpRefIdeal.main_arg3) = m ((c.tc : Thread Cert.DenseUpRefIdeal.nD Cert.DenseUpRefIdeal.τ).loc Cert.DenseUpRefIdeal.main_arg3)
      ∧ r.2.mem ((c.tc : Thread Cert.DenseUpRefIdeal.nD Cert.DenseUpRefIdeal.τ).loc Cert.DenseUpRefIdeal.main_arg4) = m ((c.tc : Thread Cert.DenseUpRefIdeal.nD Cert.DenseUpRefIdeal.τ).loc Cert.DenseUpRefIdeal.main_arg4))
      ∧ r.2.sem = fun _ => 0)

def quiescent_DenseUpRefIdeal_pre_dense_up_tables [hDenseUpRefIdeal : Cert.DenseUpRefIdeal.Facts] [hPre_dense_up_tables : Cert.Pre_dense_up_tables.Facts] : Prop :=
  ∀ (m : (ℓ : Loc Cert.DenseUpRefIdeal.nD Cert.DenseUpRefIdeal.τ Cert.DenseUpRefIdeal.sig) → Buf (Elt Ideal) ℓ) (g : Dev Cert.DenseUpRefIdeal.nD → PrngReg), Pre_DenseUpRefIdeal_dense_up_tables m →
    θ_run (Cert.DenseUpRefIdeal.defs (F := Ideal)) (onTc (τ := Cert.DenseUpRefIdeal.τ) (Cert.DenseUpRefIdeal.main (F := Ideal))) ⟨m, fun _ => 0, g⟩ (fun r => (∀ c : Dev Cert.DenseUpRefIdeal.nD,
      r.2.mem ((c.tc : Thread Cert.DenseUpRefIdeal.nD Cert.DenseUpRefIdeal.τ).loc Cert.DenseUpRefIdeal.main_arg0) = m ((c.tc : Thread Cert.DenseUpRefIdeal.nD Cert.DenseUpRefIdeal.τ).loc Cert.DenseUpRefIdeal.main_arg0)
      ∧ r.2.mem ((c.tc : Thread Cert.DenseUpRefIdeal.nD Cert.DenseUpRefIdeal.τ).loc Cert.DenseUpRefIdeal.main_arg1) = m ((c.tc : Thread Cert.DenseUpRefIdeal.nD Cert.DenseUpRefIdeal.τ).loc Cert.DenseUpRefIdeal.main_arg1)
      ∧ r.2.mem ((c.tc : Thread Cert.DenseUpRefIdeal.nD Cert.DenseUpRefIdeal.τ).loc Cert.DenseUpRefIdeal.main_arg2) = m ((c.tc : Thread Cert.DenseUpRefIdeal.nD Cert.DenseUpRefIdeal.τ).loc Cert.DenseUpRefIdeal.main_arg2)
      ∧ r.2.mem ((c.tc : Thread Cert.DenseUpRefIdeal.nD Cert.DenseUpRefIdeal.τ).loc Cert.DenseUpRefIdeal.main_arg3) = m ((c.tc : Thread Cert.DenseUpRefIdeal.nD Cert.DenseUpRefIdeal.τ).loc Cert.DenseUpRefIdeal.main_arg3)
      ∧ r.2.mem ((c.tc : Thread Cert.DenseUpRefIdeal.nD Cert.DenseUpRefIdeal.τ).loc Cert.DenseUpRefIdeal.main_arg4) = m ((c.tc : Thread Cert.DenseUpRefIdeal.nD Cert.DenseUpRefIdeal.τ).loc Cert.DenseUpRefIdeal.main_arg4))
      ∧ r.2.sem = fun _ => 0)

def quiescent_MatIn0 [hMatIn0 : Cert.MatIn0.Facts] : Prop :=
  ∀ (m : (ℓ : Loc Cert.MatIn0.nD Cert.MatIn0.τ Cert.MatIn0.sig) → Buf (Elt Bits) ℓ) (g : Dev Cert.MatIn0.nD → PrngReg), Pre_MatIn0 m →
    θ_run (Cert.MatIn0.defs (F := Bits)) (onTc (τ := Cert.MatIn0.τ) (Cert.MatIn0.main (F := Bits))) ⟨m, fun _ => 0, g⟩ (fun r => (∀ c : Dev Cert.MatIn0.nD,
      r.2.mem ((c.tc : Thread Cert.MatIn0.nD Cert.MatIn0.τ).loc Cert.MatIn0.main_arg0) = m ((c.tc : Thread Cert.MatIn0.nD Cert.MatIn0.τ).loc Cert.MatIn0.main_arg0)
      ∧ r.2.mem ((c.tc : Thread Cert.MatIn0.nD Cert.MatIn0.τ).loc Cert.MatIn0.main_arg1) = m ((c.tc : Thread Cert.MatIn0.nD Cert.MatIn0.τ).loc Cert.MatIn0.main_arg1))
      ∧ r.2.sem = fun _ => 0)

def quiescent_MatIn0Ideal [hMatIn0Ideal : Cert.MatIn0Ideal.Facts] : Prop :=
  ∀ (m : (ℓ : Loc Cert.MatIn0Ideal.nD Cert.MatIn0Ideal.τ Cert.MatIn0Ideal.sig) → Buf (Elt Ideal) ℓ) (g : Dev Cert.MatIn0Ideal.nD → PrngReg), Pre_MatIn0Ideal m →
    θ_run (Cert.MatIn0Ideal.defs (F := Ideal)) (onTc (τ := Cert.MatIn0Ideal.τ) (Cert.MatIn0Ideal.main (F := Ideal))) ⟨m, fun _ => 0, g⟩ (fun r => (∀ c : Dev Cert.MatIn0Ideal.nD,
      r.2.mem ((c.tc : Thread Cert.MatIn0Ideal.nD Cert.MatIn0Ideal.τ).loc Cert.MatIn0Ideal.main_arg0) = m ((c.tc : Thread Cert.MatIn0Ideal.nD Cert.MatIn0Ideal.τ).loc Cert.MatIn0Ideal.main_arg0)
      ∧ r.2.mem ((c.tc : Thread Cert.MatIn0Ideal.nD Cert.MatIn0Ideal.τ).loc Cert.MatIn0Ideal.main_arg1) = m ((c.tc : Thread Cert.MatIn0Ideal.nD Cert.MatIn0Ideal.τ).loc Cert.MatIn0Ideal.main_arg1))
      ∧ r.2.sem = fun _ => 0)

def quiescent_MatIn0RefIdeal [hMatIn0RefIdeal : Cert.MatIn0RefIdeal.Facts] : Prop :=
  ∀ (m : (ℓ : Loc Cert.MatIn0RefIdeal.nD Cert.MatIn0RefIdeal.τ Cert.MatIn0RefIdeal.sig) → Buf (Elt Ideal) ℓ) (g : Dev Cert.MatIn0RefIdeal.nD → PrngReg), Pre_MatIn0RefIdeal m →
    θ_run (Cert.MatIn0RefIdeal.defs (F := Ideal)) (onTc (τ := Cert.MatIn0RefIdeal.τ) (Cert.MatIn0RefIdeal.main (F := Ideal))) ⟨m, fun _ => 0, g⟩ (fun r => (∀ c : Dev Cert.MatIn0RefIdeal.nD,
      r.2.mem ((c.tc : Thread Cert.MatIn0RefIdeal.nD Cert.MatIn0RefIdeal.τ).loc Cert.MatIn0RefIdeal.main_arg0) = m ((c.tc : Thread Cert.MatIn0RefIdeal.nD Cert.MatIn0RefIdeal.τ).loc Cert.MatIn0RefIdeal.main_arg0)
      ∧ r.2.mem ((c.tc : Thread Cert.MatIn0RefIdeal.nD Cert.MatIn0RefIdeal.τ).loc Cert.MatIn0RefIdeal.main_arg1) = m ((c.tc : Thread Cert.MatIn0RefIdeal.nD Cert.MatIn0RefIdeal.τ).loc Cert.MatIn0RefIdeal.main_arg1))
      ∧ r.2.sem = fun _ => 0)

def quiescent_MatIn1 [hMatIn1 : Cert.MatIn1.Facts] : Prop :=
  ∀ (m : (ℓ : Loc Cert.MatIn1.nD Cert.MatIn1.τ Cert.MatIn1.sig) → Buf (Elt Bits) ℓ) (g : Dev Cert.MatIn1.nD → PrngReg), Pre_MatIn1 m →
    θ_run (Cert.MatIn1.defs (F := Bits)) (onTc (τ := Cert.MatIn1.τ) (Cert.MatIn1.main (F := Bits))) ⟨m, fun _ => 0, g⟩ (fun r => (∀ c : Dev Cert.MatIn1.nD,
      r.2.mem ((c.tc : Thread Cert.MatIn1.nD Cert.MatIn1.τ).loc Cert.MatIn1.main_arg0) = m ((c.tc : Thread Cert.MatIn1.nD Cert.MatIn1.τ).loc Cert.MatIn1.main_arg0)
      ∧ r.2.mem ((c.tc : Thread Cert.MatIn1.nD Cert.MatIn1.τ).loc Cert.MatIn1.main_arg1) = m ((c.tc : Thread Cert.MatIn1.nD Cert.MatIn1.τ).loc Cert.MatIn1.main_arg1))
      ∧ r.2.sem = fun _ => 0)

def quiescent_MatIn1Ideal [hMatIn1Ideal : Cert.MatIn1Ideal.Facts] : Prop :=
  ∀ (m : (ℓ : Loc Cert.MatIn1Ideal.nD Cert.MatIn1Ideal.τ Cert.MatIn1Ideal.sig) → Buf (Elt Ideal) ℓ) (g : Dev Cert.MatIn1Ideal.nD → PrngReg), Pre_MatIn1Ideal m →
    θ_run (Cert.MatIn1Ideal.defs (F := Ideal)) (onTc (τ := Cert.MatIn1Ideal.τ) (Cert.MatIn1Ideal.main (F := Ideal))) ⟨m, fun _ => 0, g⟩ (fun r => (∀ c : Dev Cert.MatIn1Ideal.nD,
      r.2.mem ((c.tc : Thread Cert.MatIn1Ideal.nD Cert.MatIn1Ideal.τ).loc Cert.MatIn1Ideal.main_arg0) = m ((c.tc : Thread Cert.MatIn1Ideal.nD Cert.MatIn1Ideal.τ).loc Cert.MatIn1Ideal.main_arg0)
      ∧ r.2.mem ((c.tc : Thread Cert.MatIn1Ideal.nD Cert.MatIn1Ideal.τ).loc Cert.MatIn1Ideal.main_arg1) = m ((c.tc : Thread Cert.MatIn1Ideal.nD Cert.MatIn1Ideal.τ).loc Cert.MatIn1Ideal.main_arg1))
      ∧ r.2.sem = fun _ => 0)

def quiescent_MatIn1RefIdeal [hMatIn1RefIdeal : Cert.MatIn1RefIdeal.Facts] : Prop :=
  ∀ (m : (ℓ : Loc Cert.MatIn1RefIdeal.nD Cert.MatIn1RefIdeal.τ Cert.MatIn1RefIdeal.sig) → Buf (Elt Ideal) ℓ) (g : Dev Cert.MatIn1RefIdeal.nD → PrngReg), Pre_MatIn1RefIdeal m →
    θ_run (Cert.MatIn1RefIdeal.defs (F := Ideal)) (onTc (τ := Cert.MatIn1RefIdeal.τ) (Cert.MatIn1RefIdeal.main (F := Ideal))) ⟨m, fun _ => 0, g⟩ (fun r => (∀ c : Dev Cert.MatIn1RefIdeal.nD,
      r.2.mem ((c.tc : Thread Cert.MatIn1RefIdeal.nD Cert.MatIn1RefIdeal.τ).loc Cert.MatIn1RefIdeal.main_arg0) = m ((c.tc : Thread Cert.MatIn1RefIdeal.nD Cert.MatIn1RefIdeal.τ).loc Cert.MatIn1RefIdeal.main_arg0)
      ∧ r.2.mem ((c.tc : Thread Cert.MatIn1RefIdeal.nD Cert.MatIn1RefIdeal.τ).loc Cert.MatIn1RefIdeal.main_arg1) = m ((c.tc : Thread Cert.MatIn1RefIdeal.nD Cert.MatIn1RefIdeal.τ).loc Cert.MatIn1RefIdeal.main_arg1))
      ∧ r.2.sem = fun _ => 0)

def quiescent_MatIn2 [hMatIn2 : Cert.MatIn2.Facts] : Prop :=
  ∀ (m : (ℓ : Loc Cert.MatIn2.nD Cert.MatIn2.τ Cert.MatIn2.sig) → Buf (Elt Bits) ℓ) (g : Dev Cert.MatIn2.nD → PrngReg), Pre_MatIn2 m →
    θ_run (Cert.MatIn2.defs (F := Bits)) (onTc (τ := Cert.MatIn2.τ) (Cert.MatIn2.main (F := Bits))) ⟨m, fun _ => 0, g⟩ (fun r => (∀ c : Dev Cert.MatIn2.nD,
      r.2.mem ((c.tc : Thread Cert.MatIn2.nD Cert.MatIn2.τ).loc Cert.MatIn2.main_arg0) = m ((c.tc : Thread Cert.MatIn2.nD Cert.MatIn2.τ).loc Cert.MatIn2.main_arg0)
      ∧ r.2.mem ((c.tc : Thread Cert.MatIn2.nD Cert.MatIn2.τ).loc Cert.MatIn2.main_arg1) = m ((c.tc : Thread Cert.MatIn2.nD Cert.MatIn2.τ).loc Cert.MatIn2.main_arg1))
      ∧ r.2.sem = fun _ => 0)

def quiescent_MatIn2Ideal [hMatIn2Ideal : Cert.MatIn2Ideal.Facts] : Prop :=
  ∀ (m : (ℓ : Loc Cert.MatIn2Ideal.nD Cert.MatIn2Ideal.τ Cert.MatIn2Ideal.sig) → Buf (Elt Ideal) ℓ) (g : Dev Cert.MatIn2Ideal.nD → PrngReg), Pre_MatIn2Ideal m →
    θ_run (Cert.MatIn2Ideal.defs (F := Ideal)) (onTc (τ := Cert.MatIn2Ideal.τ) (Cert.MatIn2Ideal.main (F := Ideal))) ⟨m, fun _ => 0, g⟩ (fun r => (∀ c : Dev Cert.MatIn2Ideal.nD,
      r.2.mem ((c.tc : Thread Cert.MatIn2Ideal.nD Cert.MatIn2Ideal.τ).loc Cert.MatIn2Ideal.main_arg0) = m ((c.tc : Thread Cert.MatIn2Ideal.nD Cert.MatIn2Ideal.τ).loc Cert.MatIn2Ideal.main_arg0)
      ∧ r.2.mem ((c.tc : Thread Cert.MatIn2Ideal.nD Cert.MatIn2Ideal.τ).loc Cert.MatIn2Ideal.main_arg1) = m ((c.tc : Thread Cert.MatIn2Ideal.nD Cert.MatIn2Ideal.τ).loc Cert.MatIn2Ideal.main_arg1))
      ∧ r.2.sem = fun _ => 0)

def quiescent_MatIn2RefIdeal [hMatIn2RefIdeal : Cert.MatIn2RefIdeal.Facts] : Prop :=
  ∀ (m : (ℓ : Loc Cert.MatIn2RefIdeal.nD Cert.MatIn2RefIdeal.τ Cert.MatIn2RefIdeal.sig) → Buf (Elt Ideal) ℓ) (g : Dev Cert.MatIn2RefIdeal.nD → PrngReg), Pre_MatIn2RefIdeal m →
    θ_run (Cert.MatIn2RefIdeal.defs (F := Ideal)) (onTc (τ := Cert.MatIn2RefIdeal.τ) (Cert.MatIn2RefIdeal.main (F := Ideal))) ⟨m, fun _ => 0, g⟩ (fun r => (∀ c : Dev Cert.MatIn2RefIdeal.nD,
      r.2.mem ((c.tc : Thread Cert.MatIn2RefIdeal.nD Cert.MatIn2RefIdeal.τ).loc Cert.MatIn2RefIdeal.main_arg0) = m ((c.tc : Thread Cert.MatIn2RefIdeal.nD Cert.MatIn2RefIdeal.τ).loc Cert.MatIn2RefIdeal.main_arg0)
      ∧ r.2.mem ((c.tc : Thread Cert.MatIn2RefIdeal.nD Cert.MatIn2RefIdeal.τ).loc Cert.MatIn2RefIdeal.main_arg1) = m ((c.tc : Thread Cert.MatIn2RefIdeal.nD Cert.MatIn2RefIdeal.τ).loc Cert.MatIn2RefIdeal.main_arg1))
      ∧ r.2.sem = fun _ => 0)

def quiescent_MatIn3 [hMatIn3 : Cert.MatIn3.Facts] : Prop :=
  ∀ (m : (ℓ : Loc Cert.MatIn3.nD Cert.MatIn3.τ Cert.MatIn3.sig) → Buf (Elt Bits) ℓ) (g : Dev Cert.MatIn3.nD → PrngReg), Pre_MatIn3 m →
    θ_run (Cert.MatIn3.defs (F := Bits)) (onTc (τ := Cert.MatIn3.τ) (Cert.MatIn3.main (F := Bits))) ⟨m, fun _ => 0, g⟩ (fun r => (∀ c : Dev Cert.MatIn3.nD,
      r.2.mem ((c.tc : Thread Cert.MatIn3.nD Cert.MatIn3.τ).loc Cert.MatIn3.main_arg0) = m ((c.tc : Thread Cert.MatIn3.nD Cert.MatIn3.τ).loc Cert.MatIn3.main_arg0)
      ∧ r.2.mem ((c.tc : Thread Cert.MatIn3.nD Cert.MatIn3.τ).loc Cert.MatIn3.main_arg1) = m ((c.tc : Thread Cert.MatIn3.nD Cert.MatIn3.τ).loc Cert.MatIn3.main_arg1))
      ∧ r.2.sem = fun _ => 0)

def quiescent_MatIn3Ideal [hMatIn3Ideal : Cert.MatIn3Ideal.Facts] : Prop :=
  ∀ (m : (ℓ : Loc Cert.MatIn3Ideal.nD Cert.MatIn3Ideal.τ Cert.MatIn3Ideal.sig) → Buf (Elt Ideal) ℓ) (g : Dev Cert.MatIn3Ideal.nD → PrngReg), Pre_MatIn3Ideal m →
    θ_run (Cert.MatIn3Ideal.defs (F := Ideal)) (onTc (τ := Cert.MatIn3Ideal.τ) (Cert.MatIn3Ideal.main (F := Ideal))) ⟨m, fun _ => 0, g⟩ (fun r => (∀ c : Dev Cert.MatIn3Ideal.nD,
      r.2.mem ((c.tc : Thread Cert.MatIn3Ideal.nD Cert.MatIn3Ideal.τ).loc Cert.MatIn3Ideal.main_arg0) = m ((c.tc : Thread Cert.MatIn3Ideal.nD Cert.MatIn3Ideal.τ).loc Cert.MatIn3Ideal.main_arg0)
      ∧ r.2.mem ((c.tc : Thread Cert.MatIn3Ideal.nD Cert.MatIn3Ideal.τ).loc Cert.MatIn3Ideal.main_arg1) = m ((c.tc : Thread Cert.MatIn3Ideal.nD Cert.MatIn3Ideal.τ).loc Cert.MatIn3Ideal.main_arg1))
      ∧ r.2.sem = fun _ => 0)

def quiescent_MatIn3RefIdeal [hMatIn3RefIdeal : Cert.MatIn3RefIdeal.Facts] : Prop :=
  ∀ (m : (ℓ : Loc Cert.MatIn3RefIdeal.nD Cert.MatIn3RefIdeal.τ Cert.MatIn3RefIdeal.sig) → Buf (Elt Ideal) ℓ) (g : Dev Cert.MatIn3RefIdeal.nD → PrngReg), Pre_MatIn3RefIdeal m →
    θ_run (Cert.MatIn3RefIdeal.defs (F := Ideal)) (onTc (τ := Cert.MatIn3RefIdeal.τ) (Cert.MatIn3RefIdeal.main (F := Ideal))) ⟨m, fun _ => 0, g⟩ (fun r => (∀ c : Dev Cert.MatIn3RefIdeal.nD,
      r.2.mem ((c.tc : Thread Cert.MatIn3RefIdeal.nD Cert.MatIn3RefIdeal.τ).loc Cert.MatIn3RefIdeal.main_arg0) = m ((c.tc : Thread Cert.MatIn3RefIdeal.nD Cert.MatIn3RefIdeal.τ).loc Cert.MatIn3RefIdeal.main_arg0)
      ∧ r.2.mem ((c.tc : Thread Cert.MatIn3RefIdeal.nD Cert.MatIn3RefIdeal.τ).loc Cert.MatIn3RefIdeal.main_arg1) = m ((c.tc : Thread Cert.MatIn3RefIdeal.nD Cert.MatIn3RefIdeal.τ).loc Cert.MatIn3RefIdeal.main_arg1))
      ∧ r.2.sem = fun _ => 0)

def quiescent_MatOut0 [hMatOut0 : Cert.MatOut0.Facts] : Prop :=
  ∀ (m : (ℓ : Loc Cert.MatOut0.nD Cert.MatOut0.τ Cert.MatOut0.sig) → Buf (Elt Bits) ℓ) (g : Dev Cert.MatOut0.nD → PrngReg), Pre_MatOut0 m →
    θ_run (Cert.MatOut0.defs (F := Bits)) (onTc (τ := Cert.MatOut0.τ) (Cert.MatOut0.main (F := Bits))) ⟨m, fun _ => 0, g⟩ (fun r => (∀ c : Dev Cert.MatOut0.nD,
      r.2.mem ((c.tc : Thread Cert.MatOut0.nD Cert.MatOut0.τ).loc Cert.MatOut0.main_arg0) = m ((c.tc : Thread Cert.MatOut0.nD Cert.MatOut0.τ).loc Cert.MatOut0.main_arg0)
      ∧ r.2.mem ((c.tc : Thread Cert.MatOut0.nD Cert.MatOut0.τ).loc Cert.MatOut0.main_arg1) = m ((c.tc : Thread Cert.MatOut0.nD Cert.MatOut0.τ).loc Cert.MatOut0.main_arg1))
      ∧ r.2.sem = fun _ => 0)

def quiescent_MatOut0Ideal [hMatOut0Ideal : Cert.MatOut0Ideal.Facts] : Prop :=
  ∀ (m : (ℓ : Loc Cert.MatOut0Ideal.nD Cert.MatOut0Ideal.τ Cert.MatOut0Ideal.sig) → Buf (Elt Ideal) ℓ) (g : Dev Cert.MatOut0Ideal.nD → PrngReg), Pre_MatOut0Ideal m →
    θ_run (Cert.MatOut0Ideal.defs (F := Ideal)) (onTc (τ := Cert.MatOut0Ideal.τ) (Cert.MatOut0Ideal.main (F := Ideal))) ⟨m, fun _ => 0, g⟩ (fun r => (∀ c : Dev Cert.MatOut0Ideal.nD,
      r.2.mem ((c.tc : Thread Cert.MatOut0Ideal.nD Cert.MatOut0Ideal.τ).loc Cert.MatOut0Ideal.main_arg0) = m ((c.tc : Thread Cert.MatOut0Ideal.nD Cert.MatOut0Ideal.τ).loc Cert.MatOut0Ideal.main_arg0)
      ∧ r.2.mem ((c.tc : Thread Cert.MatOut0Ideal.nD Cert.MatOut0Ideal.τ).loc Cert.MatOut0Ideal.main_arg1) = m ((c.tc : Thread Cert.MatOut0Ideal.nD Cert.MatOut0Ideal.τ).loc Cert.MatOut0Ideal.main_arg1))
      ∧ r.2.sem = fun _ => 0)

def quiescent_MatOut0RefIdeal [hMatOut0RefIdeal : Cert.MatOut0RefIdeal.Facts] : Prop :=
  ∀ (m : (ℓ : Loc Cert.MatOut0RefIdeal.nD Cert.MatOut0RefIdeal.τ Cert.MatOut0RefIdeal.sig) → Buf (Elt Ideal) ℓ) (g : Dev Cert.MatOut0RefIdeal.nD → PrngReg), Pre_MatOut0RefIdeal m →
    θ_run (Cert.MatOut0RefIdeal.defs (F := Ideal)) (onTc (τ := Cert.MatOut0RefIdeal.τ) (Cert.MatOut0RefIdeal.main (F := Ideal))) ⟨m, fun _ => 0, g⟩ (fun r => (∀ c : Dev Cert.MatOut0RefIdeal.nD,
      r.2.mem ((c.tc : Thread Cert.MatOut0RefIdeal.nD Cert.MatOut0RefIdeal.τ).loc Cert.MatOut0RefIdeal.main_arg0) = m ((c.tc : Thread Cert.MatOut0RefIdeal.nD Cert.MatOut0RefIdeal.τ).loc Cert.MatOut0RefIdeal.main_arg0)
      ∧ r.2.mem ((c.tc : Thread Cert.MatOut0RefIdeal.nD Cert.MatOut0RefIdeal.τ).loc Cert.MatOut0RefIdeal.main_arg1) = m ((c.tc : Thread Cert.MatOut0RefIdeal.nD Cert.MatOut0RefIdeal.τ).loc Cert.MatOut0RefIdeal.main_arg1))
      ∧ r.2.sem = fun _ => 0)

def quiescent_MatOut1 [hMatOut1 : Cert.MatOut1.Facts] : Prop :=
  ∀ (m : (ℓ : Loc Cert.MatOut1.nD Cert.MatOut1.τ Cert.MatOut1.sig) → Buf (Elt Bits) ℓ) (g : Dev Cert.MatOut1.nD → PrngReg), Pre_MatOut1 m →
    θ_run (Cert.MatOut1.defs (F := Bits)) (onTc (τ := Cert.MatOut1.τ) (Cert.MatOut1.main (F := Bits))) ⟨m, fun _ => 0, g⟩ (fun r => (∀ c : Dev Cert.MatOut1.nD,
      r.2.mem ((c.tc : Thread Cert.MatOut1.nD Cert.MatOut1.τ).loc Cert.MatOut1.main_arg0) = m ((c.tc : Thread Cert.MatOut1.nD Cert.MatOut1.τ).loc Cert.MatOut1.main_arg0)
      ∧ r.2.mem ((c.tc : Thread Cert.MatOut1.nD Cert.MatOut1.τ).loc Cert.MatOut1.main_arg1) = m ((c.tc : Thread Cert.MatOut1.nD Cert.MatOut1.τ).loc Cert.MatOut1.main_arg1))
      ∧ r.2.sem = fun _ => 0)

def quiescent_MatOut1Ideal [hMatOut1Ideal : Cert.MatOut1Ideal.Facts] : Prop :=
  ∀ (m : (ℓ : Loc Cert.MatOut1Ideal.nD Cert.MatOut1Ideal.τ Cert.MatOut1Ideal.sig) → Buf (Elt Ideal) ℓ) (g : Dev Cert.MatOut1Ideal.nD → PrngReg), Pre_MatOut1Ideal m →
    θ_run (Cert.MatOut1Ideal.defs (F := Ideal)) (onTc (τ := Cert.MatOut1Ideal.τ) (Cert.MatOut1Ideal.main (F := Ideal))) ⟨m, fun _ => 0, g⟩ (fun r => (∀ c : Dev Cert.MatOut1Ideal.nD,
      r.2.mem ((c.tc : Thread Cert.MatOut1Ideal.nD Cert.MatOut1Ideal.τ).loc Cert.MatOut1Ideal.main_arg0) = m ((c.tc : Thread Cert.MatOut1Ideal.nD Cert.MatOut1Ideal.τ).loc Cert.MatOut1Ideal.main_arg0)
      ∧ r.2.mem ((c.tc : Thread Cert.MatOut1Ideal.nD Cert.MatOut1Ideal.τ).loc Cert.MatOut1Ideal.main_arg1) = m ((c.tc : Thread Cert.MatOut1Ideal.nD Cert.MatOut1Ideal.τ).loc Cert.MatOut1Ideal.main_arg1))
      ∧ r.2.sem = fun _ => 0)

def quiescent_MatOut1RefIdeal [hMatOut1RefIdeal : Cert.MatOut1RefIdeal.Facts] : Prop :=
  ∀ (m : (ℓ : Loc Cert.MatOut1RefIdeal.nD Cert.MatOut1RefIdeal.τ Cert.MatOut1RefIdeal.sig) → Buf (Elt Ideal) ℓ) (g : Dev Cert.MatOut1RefIdeal.nD → PrngReg), Pre_MatOut1RefIdeal m →
    θ_run (Cert.MatOut1RefIdeal.defs (F := Ideal)) (onTc (τ := Cert.MatOut1RefIdeal.τ) (Cert.MatOut1RefIdeal.main (F := Ideal))) ⟨m, fun _ => 0, g⟩ (fun r => (∀ c : Dev Cert.MatOut1RefIdeal.nD,
      r.2.mem ((c.tc : Thread Cert.MatOut1RefIdeal.nD Cert.MatOut1RefIdeal.τ).loc Cert.MatOut1RefIdeal.main_arg0) = m ((c.tc : Thread Cert.MatOut1RefIdeal.nD Cert.MatOut1RefIdeal.τ).loc Cert.MatOut1RefIdeal.main_arg0)
      ∧ r.2.mem ((c.tc : Thread Cert.MatOut1RefIdeal.nD Cert.MatOut1RefIdeal.τ).loc Cert.MatOut1RefIdeal.main_arg1) = m ((c.tc : Thread Cert.MatOut1RefIdeal.nD Cert.MatOut1RefIdeal.τ).loc Cert.MatOut1RefIdeal.main_arg1))
      ∧ r.2.sem = fun _ => 0)

def quiescent_MatOut2 [hMatOut2 : Cert.MatOut2.Facts] : Prop :=
  ∀ (m : (ℓ : Loc Cert.MatOut2.nD Cert.MatOut2.τ Cert.MatOut2.sig) → Buf (Elt Bits) ℓ) (g : Dev Cert.MatOut2.nD → PrngReg), Pre_MatOut2 m →
    θ_run (Cert.MatOut2.defs (F := Bits)) (onTc (τ := Cert.MatOut2.τ) (Cert.MatOut2.main (F := Bits))) ⟨m, fun _ => 0, g⟩ (fun r => (∀ c : Dev Cert.MatOut2.nD,
      r.2.mem ((c.tc : Thread Cert.MatOut2.nD Cert.MatOut2.τ).loc Cert.MatOut2.main_arg0) = m ((c.tc : Thread Cert.MatOut2.nD Cert.MatOut2.τ).loc Cert.MatOut2.main_arg0)
      ∧ r.2.mem ((c.tc : Thread Cert.MatOut2.nD Cert.MatOut2.τ).loc Cert.MatOut2.main_arg1) = m ((c.tc : Thread Cert.MatOut2.nD Cert.MatOut2.τ).loc Cert.MatOut2.main_arg1))
      ∧ r.2.sem = fun _ => 0)

def quiescent_MatOut2Ideal [hMatOut2Ideal : Cert.MatOut2Ideal.Facts] : Prop :=
  ∀ (m : (ℓ : Loc Cert.MatOut2Ideal.nD Cert.MatOut2Ideal.τ Cert.MatOut2Ideal.sig) → Buf (Elt Ideal) ℓ) (g : Dev Cert.MatOut2Ideal.nD → PrngReg), Pre_MatOut2Ideal m →
    θ_run (Cert.MatOut2Ideal.defs (F := Ideal)) (onTc (τ := Cert.MatOut2Ideal.τ) (Cert.MatOut2Ideal.main (F := Ideal))) ⟨m, fun _ => 0, g⟩ (fun r => (∀ c : Dev Cert.MatOut2Ideal.nD,
      r.2.mem ((c.tc : Thread Cert.MatOut2Ideal.nD Cert.MatOut2Ideal.τ).loc Cert.MatOut2Ideal.main_arg0) = m ((c.tc : Thread Cert.MatOut2Ideal.nD Cert.MatOut2Ideal.τ).loc Cert.MatOut2Ideal.main_arg0)
      ∧ r.2.mem ((c.tc : Thread Cert.MatOut2Ideal.nD Cert.MatOut2Ideal.τ).loc Cert.MatOut2Ideal.main_arg1) = m ((c.tc : Thread Cert.MatOut2Ideal.nD Cert.MatOut2Ideal.τ).loc Cert.MatOut2Ideal.main_arg1))
      ∧ r.2.sem = fun _ => 0)

def quiescent_MatOut2RefIdeal [hMatOut2RefIdeal : Cert.MatOut2RefIdeal.Facts] : Prop :=
  ∀ (m : (ℓ : Loc Cert.MatOut2RefIdeal.nD Cert.MatOut2RefIdeal.τ Cert.MatOut2RefIdeal.sig) → Buf (Elt Ideal) ℓ) (g : Dev Cert.MatOut2RefIdeal.nD → PrngReg), Pre_MatOut2RefIdeal m →
    θ_run (Cert.MatOut2RefIdeal.defs (F := Ideal)) (onTc (τ := Cert.MatOut2RefIdeal.τ) (Cert.MatOut2RefIdeal.main (F := Ideal))) ⟨m, fun _ => 0, g⟩ (fun r => (∀ c : Dev Cert.MatOut2RefIdeal.nD,
      r.2.mem ((c.tc : Thread Cert.MatOut2RefIdeal.nD Cert.MatOut2RefIdeal.τ).loc Cert.MatOut2RefIdeal.main_arg0) = m ((c.tc : Thread Cert.MatOut2RefIdeal.nD Cert.MatOut2RefIdeal.τ).loc Cert.MatOut2RefIdeal.main_arg0)
      ∧ r.2.mem ((c.tc : Thread Cert.MatOut2RefIdeal.nD Cert.MatOut2RefIdeal.τ).loc Cert.MatOut2RefIdeal.main_arg1) = m ((c.tc : Thread Cert.MatOut2RefIdeal.nD Cert.MatOut2RefIdeal.τ).loc Cert.MatOut2RefIdeal.main_arg1))
      ∧ r.2.sem = fun _ => 0)

def quiescent_MatOut3 [hMatOut3 : Cert.MatOut3.Facts] : Prop :=
  ∀ (m : (ℓ : Loc Cert.MatOut3.nD Cert.MatOut3.τ Cert.MatOut3.sig) → Buf (Elt Bits) ℓ) (g : Dev Cert.MatOut3.nD → PrngReg), Pre_MatOut3 m →
    θ_run (Cert.MatOut3.defs (F := Bits)) (onTc (τ := Cert.MatOut3.τ) (Cert.MatOut3.main (F := Bits))) ⟨m, fun _ => 0, g⟩ (fun r => (∀ c : Dev Cert.MatOut3.nD,
      r.2.mem ((c.tc : Thread Cert.MatOut3.nD Cert.MatOut3.τ).loc Cert.MatOut3.main_arg0) = m ((c.tc : Thread Cert.MatOut3.nD Cert.MatOut3.τ).loc Cert.MatOut3.main_arg0)
      ∧ r.2.mem ((c.tc : Thread Cert.MatOut3.nD Cert.MatOut3.τ).loc Cert.MatOut3.main_arg1) = m ((c.tc : Thread Cert.MatOut3.nD Cert.MatOut3.τ).loc Cert.MatOut3.main_arg1))
      ∧ r.2.sem = fun _ => 0)

def quiescent_MatOut3Ideal [hMatOut3Ideal : Cert.MatOut3Ideal.Facts] : Prop :=
  ∀ (m : (ℓ : Loc Cert.MatOut3Ideal.nD Cert.MatOut3Ideal.τ Cert.MatOut3Ideal.sig) → Buf (Elt Ideal) ℓ) (g : Dev Cert.MatOut3Ideal.nD → PrngReg), Pre_MatOut3Ideal m →
    θ_run (Cert.MatOut3Ideal.defs (F := Ideal)) (onTc (τ := Cert.MatOut3Ideal.τ) (Cert.MatOut3Ideal.main (F := Ideal))) ⟨m, fun _ => 0, g⟩ (fun r => (∀ c : Dev Cert.MatOut3Ideal.nD,
      r.2.mem ((c.tc : Thread Cert.MatOut3Ideal.nD Cert.MatOut3Ideal.τ).loc Cert.MatOut3Ideal.main_arg0) = m ((c.tc : Thread Cert.MatOut3Ideal.nD Cert.MatOut3Ideal.τ).loc Cert.MatOut3Ideal.main_arg0)
      ∧ r.2.mem ((c.tc : Thread Cert.MatOut3Ideal.nD Cert.MatOut3Ideal.τ).loc Cert.MatOut3Ideal.main_arg1) = m ((c.tc : Thread Cert.MatOut3Ideal.nD Cert.MatOut3Ideal.τ).loc Cert.MatOut3Ideal.main_arg1))
      ∧ r.2.sem = fun _ => 0)

def quiescent_MatOut3RefIdeal [hMatOut3RefIdeal : Cert.MatOut3RefIdeal.Facts] : Prop :=
  ∀ (m : (ℓ : Loc Cert.MatOut3RefIdeal.nD Cert.MatOut3RefIdeal.τ Cert.MatOut3RefIdeal.sig) → Buf (Elt Ideal) ℓ) (g : Dev Cert.MatOut3RefIdeal.nD → PrngReg), Pre_MatOut3RefIdeal m →
    θ_run (Cert.MatOut3RefIdeal.defs (F := Ideal)) (onTc (τ := Cert.MatOut3RefIdeal.τ) (Cert.MatOut3RefIdeal.main (F := Ideal))) ⟨m, fun _ => 0, g⟩ (fun r => (∀ c : Dev Cert.MatOut3RefIdeal.nD,
      r.2.mem ((c.tc : Thread Cert.MatOut3RefIdeal.nD Cert.MatOut3RefIdeal.τ).loc Cert.MatOut3RefIdeal.main_arg0) = m ((c.tc : Thread Cert.MatOut3RefIdeal.nD Cert.MatOut3RefIdeal.τ).loc Cert.MatOut3RefIdeal.main_arg0)
      ∧ r.2.mem ((c.tc : Thread Cert.MatOut3RefIdeal.nD Cert.MatOut3RefIdeal.τ).loc Cert.MatOut3RefIdeal.main_arg1) = m ((c.tc : Thread Cert.MatOut3RefIdeal.nD Cert.MatOut3RefIdeal.τ).loc Cert.MatOut3RefIdeal.main_arg1))
      ∧ r.2.sem = fun _ => 0)

def quiescent_Mix0 [hMix0 : Cert.Mix0.Facts] : Prop :=
  ∀ (m : (ℓ : Loc Cert.Mix0.nD Cert.Mix0.τ Cert.Mix0.sig) → Buf (Elt Bits) ℓ) (g : Dev Cert.Mix0.nD → PrngReg), Pre_Mix0 m →
    θ_run (Cert.Mix0.defs (F := Bits)) (onTc (τ := Cert.Mix0.τ) (Cert.Mix0.main (F := Bits))) ⟨m, fun _ => 0, g⟩ (fun r => (∀ c : Dev Cert.Mix0.nD,
      r.2.mem ((c.tc : Thread Cert.Mix0.nD Cert.Mix0.τ).loc Cert.Mix0.main_arg0) = m ((c.tc : Thread Cert.Mix0.nD Cert.Mix0.τ).loc Cert.Mix0.main_arg0)
      ∧ r.2.mem ((c.tc : Thread Cert.Mix0.nD Cert.Mix0.τ).loc Cert.Mix0.main_arg1) = m ((c.tc : Thread Cert.Mix0.nD Cert.Mix0.τ).loc Cert.Mix0.main_arg1)
      ∧ r.2.mem ((c.tc : Thread Cert.Mix0.nD Cert.Mix0.τ).loc Cert.Mix0.main_arg2) = m ((c.tc : Thread Cert.Mix0.nD Cert.Mix0.τ).loc Cert.Mix0.main_arg2)
      ∧ r.2.mem ((c.tc : Thread Cert.Mix0.nD Cert.Mix0.τ).loc Cert.Mix0.main_arg3) = m ((c.tc : Thread Cert.Mix0.nD Cert.Mix0.τ).loc Cert.Mix0.main_arg3)
      ∧ r.2.mem ((c.tc : Thread Cert.Mix0.nD Cert.Mix0.τ).loc Cert.Mix0.main_arg4) = m ((c.tc : Thread Cert.Mix0.nD Cert.Mix0.τ).loc Cert.Mix0.main_arg4)
      ∧ r.2.mem ((c.tc : Thread Cert.Mix0.nD Cert.Mix0.τ).loc Cert.Mix0.main_arg5) = m ((c.tc : Thread Cert.Mix0.nD Cert.Mix0.τ).loc Cert.Mix0.main_arg5)
      ∧ r.2.mem ((c.tc : Thread Cert.Mix0.nD Cert.Mix0.τ).loc Cert.Mix0.main_arg6) = m ((c.tc : Thread Cert.Mix0.nD Cert.Mix0.τ).loc Cert.Mix0.main_arg6)
      ∧ r.2.mem ((c.tc : Thread Cert.Mix0.nD Cert.Mix0.τ).loc Cert.Mix0.main_arg7) = m ((c.tc : Thread Cert.Mix0.nD Cert.Mix0.τ).loc Cert.Mix0.main_arg7)
      ∧ r.2.mem ((c.tc : Thread Cert.Mix0.nD Cert.Mix0.τ).loc Cert.Mix0.main_arg8) = m ((c.tc : Thread Cert.Mix0.nD Cert.Mix0.τ).loc Cert.Mix0.main_arg8)
      ∧ r.2.mem ((c.tc : Thread Cert.Mix0.nD Cert.Mix0.τ).loc Cert.Mix0.main_arg9) = m ((c.tc : Thread Cert.Mix0.nD Cert.Mix0.τ).loc Cert.Mix0.main_arg9))
      ∧ r.2.sem = fun _ => 0)

def quiescent_Mix0Ideal [hMix0Ideal : Cert.Mix0Ideal.Facts] : Prop :=
  ∀ (m : (ℓ : Loc Cert.Mix0Ideal.nD Cert.Mix0Ideal.τ Cert.Mix0Ideal.sig) → Buf (Elt Ideal) ℓ) (g : Dev Cert.Mix0Ideal.nD → PrngReg), Pre_Mix0Ideal m →
    θ_run (Cert.Mix0Ideal.defs (F := Ideal)) (onTc (τ := Cert.Mix0Ideal.τ) (Cert.Mix0Ideal.main (F := Ideal))) ⟨m, fun _ => 0, g⟩ (fun r => (∀ c : Dev Cert.Mix0Ideal.nD,
      r.2.mem ((c.tc : Thread Cert.Mix0Ideal.nD Cert.Mix0Ideal.τ).loc Cert.Mix0Ideal.main_arg0) = m ((c.tc : Thread Cert.Mix0Ideal.nD Cert.Mix0Ideal.τ).loc Cert.Mix0Ideal.main_arg0)
      ∧ r.2.mem ((c.tc : Thread Cert.Mix0Ideal.nD Cert.Mix0Ideal.τ).loc Cert.Mix0Ideal.main_arg1) = m ((c.tc : Thread Cert.Mix0Ideal.nD Cert.Mix0Ideal.τ).loc Cert.Mix0Ideal.main_arg1)
      ∧ r.2.mem ((c.tc : Thread Cert.Mix0Ideal.nD Cert.Mix0Ideal.τ).loc Cert.Mix0Ideal.main_arg2) = m ((c.tc : Thread Cert.Mix0Ideal.nD Cert.Mix0Ideal.τ).loc Cert.Mix0Ideal.main_arg2)
      ∧ r.2.mem ((c.tc : Thread Cert.Mix0Ideal.nD Cert.Mix0Ideal.τ).loc Cert.Mix0Ideal.main_arg3) = m ((c.tc : Thread Cert.Mix0Ideal.nD Cert.Mix0Ideal.τ).loc Cert.Mix0Ideal.main_arg3)
      ∧ r.2.mem ((c.tc : Thread Cert.Mix0Ideal.nD Cert.Mix0Ideal.τ).loc Cert.Mix0Ideal.main_arg4) = m ((c.tc : Thread Cert.Mix0Ideal.nD Cert.Mix0Ideal.τ).loc Cert.Mix0Ideal.main_arg4)
      ∧ r.2.mem ((c.tc : Thread Cert.Mix0Ideal.nD Cert.Mix0Ideal.τ).loc Cert.Mix0Ideal.main_arg5) = m ((c.tc : Thread Cert.Mix0Ideal.nD Cert.Mix0Ideal.τ).loc Cert.Mix0Ideal.main_arg5)
      ∧ r.2.mem ((c.tc : Thread Cert.Mix0Ideal.nD Cert.Mix0Ideal.τ).loc Cert.Mix0Ideal.main_arg6) = m ((c.tc : Thread Cert.Mix0Ideal.nD Cert.Mix0Ideal.τ).loc Cert.Mix0Ideal.main_arg6)
      ∧ r.2.mem ((c.tc : Thread Cert.Mix0Ideal.nD Cert.Mix0Ideal.τ).loc Cert.Mix0Ideal.main_arg7) = m ((c.tc : Thread Cert.Mix0Ideal.nD Cert.Mix0Ideal.τ).loc Cert.Mix0Ideal.main_arg7)
      ∧ r.2.mem ((c.tc : Thread Cert.Mix0Ideal.nD Cert.Mix0Ideal.τ).loc Cert.Mix0Ideal.main_arg8) = m ((c.tc : Thread Cert.Mix0Ideal.nD Cert.Mix0Ideal.τ).loc Cert.Mix0Ideal.main_arg8)
      ∧ r.2.mem ((c.tc : Thread Cert.Mix0Ideal.nD Cert.Mix0Ideal.τ).loc Cert.Mix0Ideal.main_arg9) = m ((c.tc : Thread Cert.Mix0Ideal.nD Cert.Mix0Ideal.τ).loc Cert.Mix0Ideal.main_arg9))
      ∧ r.2.sem = fun _ => 0)

def quiescent_Mix0RefIdeal [hMix0RefIdeal : Cert.Mix0RefIdeal.Facts] : Prop :=
  ∀ (m : (ℓ : Loc Cert.Mix0RefIdeal.nD Cert.Mix0RefIdeal.τ Cert.Mix0RefIdeal.sig) → Buf (Elt Ideal) ℓ) (g : Dev Cert.Mix0RefIdeal.nD → PrngReg), Pre_Mix0RefIdeal m →
    θ_run (Cert.Mix0RefIdeal.defs (F := Ideal)) (onTc (τ := Cert.Mix0RefIdeal.τ) (Cert.Mix0RefIdeal.main (F := Ideal))) ⟨m, fun _ => 0, g⟩ (fun r => (∀ c : Dev Cert.Mix0RefIdeal.nD,
      r.2.mem ((c.tc : Thread Cert.Mix0RefIdeal.nD Cert.Mix0RefIdeal.τ).loc Cert.Mix0RefIdeal.main_arg0) = m ((c.tc : Thread Cert.Mix0RefIdeal.nD Cert.Mix0RefIdeal.τ).loc Cert.Mix0RefIdeal.main_arg0)
      ∧ r.2.mem ((c.tc : Thread Cert.Mix0RefIdeal.nD Cert.Mix0RefIdeal.τ).loc Cert.Mix0RefIdeal.main_arg1) = m ((c.tc : Thread Cert.Mix0RefIdeal.nD Cert.Mix0RefIdeal.τ).loc Cert.Mix0RefIdeal.main_arg1)
      ∧ r.2.mem ((c.tc : Thread Cert.Mix0RefIdeal.nD Cert.Mix0RefIdeal.τ).loc Cert.Mix0RefIdeal.main_arg2) = m ((c.tc : Thread Cert.Mix0RefIdeal.nD Cert.Mix0RefIdeal.τ).loc Cert.Mix0RefIdeal.main_arg2)
      ∧ r.2.mem ((c.tc : Thread Cert.Mix0RefIdeal.nD Cert.Mix0RefIdeal.τ).loc Cert.Mix0RefIdeal.main_arg3) = m ((c.tc : Thread Cert.Mix0RefIdeal.nD Cert.Mix0RefIdeal.τ).loc Cert.Mix0RefIdeal.main_arg3)
      ∧ r.2.mem ((c.tc : Thread Cert.Mix0RefIdeal.nD Cert.Mix0RefIdeal.τ).loc Cert.Mix0RefIdeal.main_arg4) = m ((c.tc : Thread Cert.Mix0RefIdeal.nD Cert.Mix0RefIdeal.τ).loc Cert.Mix0RefIdeal.main_arg4)
      ∧ r.2.mem ((c.tc : Thread Cert.Mix0RefIdeal.nD Cert.Mix0RefIdeal.τ).loc Cert.Mix0RefIdeal.main_arg5) = m ((c.tc : Thread Cert.Mix0RefIdeal.nD Cert.Mix0RefIdeal.τ).loc Cert.Mix0RefIdeal.main_arg5)
      ∧ r.2.mem ((c.tc : Thread Cert.Mix0RefIdeal.nD Cert.Mix0RefIdeal.τ).loc Cert.Mix0RefIdeal.main_arg6) = m ((c.tc : Thread Cert.Mix0RefIdeal.nD Cert.Mix0RefIdeal.τ).loc Cert.Mix0RefIdeal.main_arg6)
      ∧ r.2.mem ((c.tc : Thread Cert.Mix0RefIdeal.nD Cert.Mix0RefIdeal.τ).loc Cert.Mix0RefIdeal.main_arg7) = m ((c.tc : Thread Cert.Mix0RefIdeal.nD Cert.Mix0RefIdeal.τ).loc Cert.Mix0RefIdeal.main_arg7)
      ∧ r.2.mem ((c.tc : Thread Cert.Mix0RefIdeal.nD Cert.Mix0RefIdeal.τ).loc Cert.Mix0RefIdeal.main_arg8) = m ((c.tc : Thread Cert.Mix0RefIdeal.nD Cert.Mix0RefIdeal.τ).loc Cert.Mix0RefIdeal.main_arg8)
      ∧ r.2.mem ((c.tc : Thread Cert.Mix0RefIdeal.nD Cert.Mix0RefIdeal.τ).loc Cert.Mix0RefIdeal.main_arg9) = m ((c.tc : Thread Cert.Mix0RefIdeal.nD Cert.Mix0RefIdeal.τ).loc Cert.Mix0RefIdeal.main_arg9))
      ∧ r.2.sem = fun _ => 0)

def quiescent_Mix1 [hMix1 : Cert.Mix1.Facts] : Prop :=
  ∀ (m : (ℓ : Loc Cert.Mix1.nD Cert.Mix1.τ Cert.Mix1.sig) → Buf (Elt Bits) ℓ) (g : Dev Cert.Mix1.nD → PrngReg), Pre_Mix1 m →
    θ_run (Cert.Mix1.defs (F := Bits)) (onTc (τ := Cert.Mix1.τ) (Cert.Mix1.main (F := Bits))) ⟨m, fun _ => 0, g⟩ (fun r => (∀ c : Dev Cert.Mix1.nD,
      r.2.mem ((c.tc : Thread Cert.Mix1.nD Cert.Mix1.τ).loc Cert.Mix1.main_arg0) = m ((c.tc : Thread Cert.Mix1.nD Cert.Mix1.τ).loc Cert.Mix1.main_arg0)
      ∧ r.2.mem ((c.tc : Thread Cert.Mix1.nD Cert.Mix1.τ).loc Cert.Mix1.main_arg1) = m ((c.tc : Thread Cert.Mix1.nD Cert.Mix1.τ).loc Cert.Mix1.main_arg1)
      ∧ r.2.mem ((c.tc : Thread Cert.Mix1.nD Cert.Mix1.τ).loc Cert.Mix1.main_arg2) = m ((c.tc : Thread Cert.Mix1.nD Cert.Mix1.τ).loc Cert.Mix1.main_arg2)
      ∧ r.2.mem ((c.tc : Thread Cert.Mix1.nD Cert.Mix1.τ).loc Cert.Mix1.main_arg3) = m ((c.tc : Thread Cert.Mix1.nD Cert.Mix1.τ).loc Cert.Mix1.main_arg3)
      ∧ r.2.mem ((c.tc : Thread Cert.Mix1.nD Cert.Mix1.τ).loc Cert.Mix1.main_arg4) = m ((c.tc : Thread Cert.Mix1.nD Cert.Mix1.τ).loc Cert.Mix1.main_arg4)
      ∧ r.2.mem ((c.tc : Thread Cert.Mix1.nD Cert.Mix1.τ).loc Cert.Mix1.main_arg5) = m ((c.tc : Thread Cert.Mix1.nD Cert.Mix1.τ).loc Cert.Mix1.main_arg5)
      ∧ r.2.mem ((c.tc : Thread Cert.Mix1.nD Cert.Mix1.τ).loc Cert.Mix1.main_arg6) = m ((c.tc : Thread Cert.Mix1.nD Cert.Mix1.τ).loc Cert.Mix1.main_arg6)
      ∧ r.2.mem ((c.tc : Thread Cert.Mix1.nD Cert.Mix1.τ).loc Cert.Mix1.main_arg7) = m ((c.tc : Thread Cert.Mix1.nD Cert.Mix1.τ).loc Cert.Mix1.main_arg7)
      ∧ r.2.mem ((c.tc : Thread Cert.Mix1.nD Cert.Mix1.τ).loc Cert.Mix1.main_arg8) = m ((c.tc : Thread Cert.Mix1.nD Cert.Mix1.τ).loc Cert.Mix1.main_arg8)
      ∧ r.2.mem ((c.tc : Thread Cert.Mix1.nD Cert.Mix1.τ).loc Cert.Mix1.main_arg9) = m ((c.tc : Thread Cert.Mix1.nD Cert.Mix1.τ).loc Cert.Mix1.main_arg9))
      ∧ r.2.sem = fun _ => 0)

def quiescent_Mix1Ideal [hMix1Ideal : Cert.Mix1Ideal.Facts] : Prop :=
  ∀ (m : (ℓ : Loc Cert.Mix1Ideal.nD Cert.Mix1Ideal.τ Cert.Mix1Ideal.sig) → Buf (Elt Ideal) ℓ) (g : Dev Cert.Mix1Ideal.nD → PrngReg), Pre_Mix1Ideal m →
    θ_run (Cert.Mix1Ideal.defs (F := Ideal)) (onTc (τ := Cert.Mix1Ideal.τ) (Cert.Mix1Ideal.main (F := Ideal))) ⟨m, fun _ => 0, g⟩ (fun r => (∀ c : Dev Cert.Mix1Ideal.nD,
      r.2.mem ((c.tc : Thread Cert.Mix1Ideal.nD Cert.Mix1Ideal.τ).loc Cert.Mix1Ideal.main_arg0) = m ((c.tc : Thread Cert.Mix1Ideal.nD Cert.Mix1Ideal.τ).loc Cert.Mix1Ideal.main_arg0)
      ∧ r.2.mem ((c.tc : Thread Cert.Mix1Ideal.nD Cert.Mix1Ideal.τ).loc Cert.Mix1Ideal.main_arg1) = m ((c.tc : Thread Cert.Mix1Ideal.nD Cert.Mix1Ideal.τ).loc Cert.Mix1Ideal.main_arg1)
      ∧ r.2.mem ((c.tc : Thread Cert.Mix1Ideal.nD Cert.Mix1Ideal.τ).loc Cert.Mix1Ideal.main_arg2) = m ((c.tc : Thread Cert.Mix1Ideal.nD Cert.Mix1Ideal.τ).loc Cert.Mix1Ideal.main_arg2)
      ∧ r.2.mem ((c.tc : Thread Cert.Mix1Ideal.nD Cert.Mix1Ideal.τ).loc Cert.Mix1Ideal.main_arg3) = m ((c.tc : Thread Cert.Mix1Ideal.nD Cert.Mix1Ideal.τ).loc Cert.Mix1Ideal.main_arg3)
      ∧ r.2.mem ((c.tc : Thread Cert.Mix1Ideal.nD Cert.Mix1Ideal.τ).loc Cert.Mix1Ideal.main_arg4) = m ((c.tc : Thread Cert.Mix1Ideal.nD Cert.Mix1Ideal.τ).loc Cert.Mix1Ideal.main_arg4)
      ∧ r.2.mem ((c.tc : Thread Cert.Mix1Ideal.nD Cert.Mix1Ideal.τ).loc Cert.Mix1Ideal.main_arg5) = m ((c.tc : Thread Cert.Mix1Ideal.nD Cert.Mix1Ideal.τ).loc Cert.Mix1Ideal.main_arg5)
      ∧ r.2.mem ((c.tc : Thread Cert.Mix1Ideal.nD Cert.Mix1Ideal.τ).loc Cert.Mix1Ideal.main_arg6) = m ((c.tc : Thread Cert.Mix1Ideal.nD Cert.Mix1Ideal.τ).loc Cert.Mix1Ideal.main_arg6)
      ∧ r.2.mem ((c.tc : Thread Cert.Mix1Ideal.nD Cert.Mix1Ideal.τ).loc Cert.Mix1Ideal.main_arg7) = m ((c.tc : Thread Cert.Mix1Ideal.nD Cert.Mix1Ideal.τ).loc Cert.Mix1Ideal.main_arg7)
      ∧ r.2.mem ((c.tc : Thread Cert.Mix1Ideal.nD Cert.Mix1Ideal.τ).loc Cert.Mix1Ideal.main_arg8) = m ((c.tc : Thread Cert.Mix1Ideal.nD Cert.Mix1Ideal.τ).loc Cert.Mix1Ideal.main_arg8)
      ∧ r.2.mem ((c.tc : Thread Cert.Mix1Ideal.nD Cert.Mix1Ideal.τ).loc Cert.Mix1Ideal.main_arg9) = m ((c.tc : Thread Cert.Mix1Ideal.nD Cert.Mix1Ideal.τ).loc Cert.Mix1Ideal.main_arg9))
      ∧ r.2.sem = fun _ => 0)

def quiescent_Mix1RefIdeal [hMix1RefIdeal : Cert.Mix1RefIdeal.Facts] : Prop :=
  ∀ (m : (ℓ : Loc Cert.Mix1RefIdeal.nD Cert.Mix1RefIdeal.τ Cert.Mix1RefIdeal.sig) → Buf (Elt Ideal) ℓ) (g : Dev Cert.Mix1RefIdeal.nD → PrngReg), Pre_Mix1RefIdeal m →
    θ_run (Cert.Mix1RefIdeal.defs (F := Ideal)) (onTc (τ := Cert.Mix1RefIdeal.τ) (Cert.Mix1RefIdeal.main (F := Ideal))) ⟨m, fun _ => 0, g⟩ (fun r => (∀ c : Dev Cert.Mix1RefIdeal.nD,
      r.2.mem ((c.tc : Thread Cert.Mix1RefIdeal.nD Cert.Mix1RefIdeal.τ).loc Cert.Mix1RefIdeal.main_arg0) = m ((c.tc : Thread Cert.Mix1RefIdeal.nD Cert.Mix1RefIdeal.τ).loc Cert.Mix1RefIdeal.main_arg0)
      ∧ r.2.mem ((c.tc : Thread Cert.Mix1RefIdeal.nD Cert.Mix1RefIdeal.τ).loc Cert.Mix1RefIdeal.main_arg1) = m ((c.tc : Thread Cert.Mix1RefIdeal.nD Cert.Mix1RefIdeal.τ).loc Cert.Mix1RefIdeal.main_arg1)
      ∧ r.2.mem ((c.tc : Thread Cert.Mix1RefIdeal.nD Cert.Mix1RefIdeal.τ).loc Cert.Mix1RefIdeal.main_arg2) = m ((c.tc : Thread Cert.Mix1RefIdeal.nD Cert.Mix1RefIdeal.τ).loc Cert.Mix1RefIdeal.main_arg2)
      ∧ r.2.mem ((c.tc : Thread Cert.Mix1RefIdeal.nD Cert.Mix1RefIdeal.τ).loc Cert.Mix1RefIdeal.main_arg3) = m ((c.tc : Thread Cert.Mix1RefIdeal.nD Cert.Mix1RefIdeal.τ).loc Cert.Mix1RefIdeal.main_arg3)
      ∧ r.2.mem ((c.tc : Thread Cert.Mix1RefIdeal.nD Cert.Mix1RefIdeal.τ).loc Cert.Mix1RefIdeal.main_arg4) = m ((c.tc : Thread Cert.Mix1RefIdeal.nD Cert.Mix1RefIdeal.τ).loc Cert.Mix1RefIdeal.main_arg4)
      ∧ r.2.mem ((c.tc : Thread Cert.Mix1RefIdeal.nD Cert.Mix1RefIdeal.τ).loc Cert.Mix1RefIdeal.main_arg5) = m ((c.tc : Thread Cert.Mix1RefIdeal.nD Cert.Mix1RefIdeal.τ).loc Cert.Mix1RefIdeal.main_arg5)
      ∧ r.2.mem ((c.tc : Thread Cert.Mix1RefIdeal.nD Cert.Mix1RefIdeal.τ).loc Cert.Mix1RefIdeal.main_arg6) = m ((c.tc : Thread Cert.Mix1RefIdeal.nD Cert.Mix1RefIdeal.τ).loc Cert.Mix1RefIdeal.main_arg6)
      ∧ r.2.mem ((c.tc : Thread Cert.Mix1RefIdeal.nD Cert.Mix1RefIdeal.τ).loc Cert.Mix1RefIdeal.main_arg7) = m ((c.tc : Thread Cert.Mix1RefIdeal.nD Cert.Mix1RefIdeal.τ).loc Cert.Mix1RefIdeal.main_arg7)
      ∧ r.2.mem ((c.tc : Thread Cert.Mix1RefIdeal.nD Cert.Mix1RefIdeal.τ).loc Cert.Mix1RefIdeal.main_arg8) = m ((c.tc : Thread Cert.Mix1RefIdeal.nD Cert.Mix1RefIdeal.τ).loc Cert.Mix1RefIdeal.main_arg8)
      ∧ r.2.mem ((c.tc : Thread Cert.Mix1RefIdeal.nD Cert.Mix1RefIdeal.τ).loc Cert.Mix1RefIdeal.main_arg9) = m ((c.tc : Thread Cert.Mix1RefIdeal.nD Cert.Mix1RefIdeal.τ).loc Cert.Mix1RefIdeal.main_arg9))
      ∧ r.2.sem = fun _ => 0)

def quiescent_Mix2 [hMix2 : Cert.Mix2.Facts] : Prop :=
  ∀ (m : (ℓ : Loc Cert.Mix2.nD Cert.Mix2.τ Cert.Mix2.sig) → Buf (Elt Bits) ℓ) (g : Dev Cert.Mix2.nD → PrngReg), Pre_Mix2 m →
    θ_run (Cert.Mix2.defs (F := Bits)) (onTc (τ := Cert.Mix2.τ) (Cert.Mix2.main (F := Bits))) ⟨m, fun _ => 0, g⟩ (fun r => (∀ c : Dev Cert.Mix2.nD,
      r.2.mem ((c.tc : Thread Cert.Mix2.nD Cert.Mix2.τ).loc Cert.Mix2.main_arg0) = m ((c.tc : Thread Cert.Mix2.nD Cert.Mix2.τ).loc Cert.Mix2.main_arg0)
      ∧ r.2.mem ((c.tc : Thread Cert.Mix2.nD Cert.Mix2.τ).loc Cert.Mix2.main_arg1) = m ((c.tc : Thread Cert.Mix2.nD Cert.Mix2.τ).loc Cert.Mix2.main_arg1)
      ∧ r.2.mem ((c.tc : Thread Cert.Mix2.nD Cert.Mix2.τ).loc Cert.Mix2.main_arg2) = m ((c.tc : Thread Cert.Mix2.nD Cert.Mix2.τ).loc Cert.Mix2.main_arg2)
      ∧ r.2.mem ((c.tc : Thread Cert.Mix2.nD Cert.Mix2.τ).loc Cert.Mix2.main_arg3) = m ((c.tc : Thread Cert.Mix2.nD Cert.Mix2.τ).loc Cert.Mix2.main_arg3)
      ∧ r.2.mem ((c.tc : Thread Cert.Mix2.nD Cert.Mix2.τ).loc Cert.Mix2.main_arg4) = m ((c.tc : Thread Cert.Mix2.nD Cert.Mix2.τ).loc Cert.Mix2.main_arg4)
      ∧ r.2.mem ((c.tc : Thread Cert.Mix2.nD Cert.Mix2.τ).loc Cert.Mix2.main_arg5) = m ((c.tc : Thread Cert.Mix2.nD Cert.Mix2.τ).loc Cert.Mix2.main_arg5)
      ∧ r.2.mem ((c.tc : Thread Cert.Mix2.nD Cert.Mix2.τ).loc Cert.Mix2.main_arg6) = m ((c.tc : Thread Cert.Mix2.nD Cert.Mix2.τ).loc Cert.Mix2.main_arg6)
      ∧ r.2.mem ((c.tc : Thread Cert.Mix2.nD Cert.Mix2.τ).loc Cert.Mix2.main_arg7) = m ((c.tc : Thread Cert.Mix2.nD Cert.Mix2.τ).loc Cert.Mix2.main_arg7)
      ∧ r.2.mem ((c.tc : Thread Cert.Mix2.nD Cert.Mix2.τ).loc Cert.Mix2.main_arg8) = m ((c.tc : Thread Cert.Mix2.nD Cert.Mix2.τ).loc Cert.Mix2.main_arg8)
      ∧ r.2.mem ((c.tc : Thread Cert.Mix2.nD Cert.Mix2.τ).loc Cert.Mix2.main_arg9) = m ((c.tc : Thread Cert.Mix2.nD Cert.Mix2.τ).loc Cert.Mix2.main_arg9))
      ∧ r.2.sem = fun _ => 0)

def quiescent_Mix2Ideal [hMix2Ideal : Cert.Mix2Ideal.Facts] : Prop :=
  ∀ (m : (ℓ : Loc Cert.Mix2Ideal.nD Cert.Mix2Ideal.τ Cert.Mix2Ideal.sig) → Buf (Elt Ideal) ℓ) (g : Dev Cert.Mix2Ideal.nD → PrngReg), Pre_Mix2Ideal m →
    θ_run (Cert.Mix2Ideal.defs (F := Ideal)) (onTc (τ := Cert.Mix2Ideal.τ) (Cert.Mix2Ideal.main (F := Ideal))) ⟨m, fun _ => 0, g⟩ (fun r => (∀ c : Dev Cert.Mix2Ideal.nD,
      r.2.mem ((c.tc : Thread Cert.Mix2Ideal.nD Cert.Mix2Ideal.τ).loc Cert.Mix2Ideal.main_arg0) = m ((c.tc : Thread Cert.Mix2Ideal.nD Cert.Mix2Ideal.τ).loc Cert.Mix2Ideal.main_arg0)
      ∧ r.2.mem ((c.tc : Thread Cert.Mix2Ideal.nD Cert.Mix2Ideal.τ).loc Cert.Mix2Ideal.main_arg1) = m ((c.tc : Thread Cert.Mix2Ideal.nD Cert.Mix2Ideal.τ).loc Cert.Mix2Ideal.main_arg1)
      ∧ r.2.mem ((c.tc : Thread Cert.Mix2Ideal.nD Cert.Mix2Ideal.τ).loc Cert.Mix2Ideal.main_arg2) = m ((c.tc : Thread Cert.Mix2Ideal.nD Cert.Mix2Ideal.τ).loc Cert.Mix2Ideal.main_arg2)
      ∧ r.2.mem ((c.tc : Thread Cert.Mix2Ideal.nD Cert.Mix2Ideal.τ).loc Cert.Mix2Ideal.main_arg3) = m ((c.tc : Thread Cert.Mix2Ideal.nD Cert.Mix2Ideal.τ).loc Cert.Mix2Ideal.main_arg3)
      ∧ r.2.mem ((c.tc : Thread Cert.Mix2Ideal.nD Cert.Mix2Ideal.τ).loc Cert.Mix2Ideal.main_arg4) = m ((c.tc : Thread Cert.Mix2Ideal.nD Cert.Mix2Ideal.τ).loc Cert.Mix2Ideal.main_arg4)
      ∧ r.2.mem ((c.tc : Thread Cert.Mix2Ideal.nD Cert.Mix2Ideal.τ).loc Cert.Mix2Ideal.main_arg5) = m ((c.tc : Thread Cert.Mix2Ideal.nD Cert.Mix2Ideal.τ).loc Cert.Mix2Ideal.main_arg5)
      ∧ r.2.mem ((c.tc : Thread Cert.Mix2Ideal.nD Cert.Mix2Ideal.τ).loc Cert.Mix2Ideal.main_arg6) = m ((c.tc : Thread Cert.Mix2Ideal.nD Cert.Mix2Ideal.τ).loc Cert.Mix2Ideal.main_arg6)
      ∧ r.2.mem ((c.tc : Thread Cert.Mix2Ideal.nD Cert.Mix2Ideal.τ).loc Cert.Mix2Ideal.main_arg7) = m ((c.tc : Thread Cert.Mix2Ideal.nD Cert.Mix2Ideal.τ).loc Cert.Mix2Ideal.main_arg7)
      ∧ r.2.mem ((c.tc : Thread Cert.Mix2Ideal.nD Cert.Mix2Ideal.τ).loc Cert.Mix2Ideal.main_arg8) = m ((c.tc : Thread Cert.Mix2Ideal.nD Cert.Mix2Ideal.τ).loc Cert.Mix2Ideal.main_arg8)
      ∧ r.2.mem ((c.tc : Thread Cert.Mix2Ideal.nD Cert.Mix2Ideal.τ).loc Cert.Mix2Ideal.main_arg9) = m ((c.tc : Thread Cert.Mix2Ideal.nD Cert.Mix2Ideal.τ).loc Cert.Mix2Ideal.main_arg9))
      ∧ r.2.sem = fun _ => 0)

def quiescent_Mix2RefIdeal [hMix2RefIdeal : Cert.Mix2RefIdeal.Facts] : Prop :=
  ∀ (m : (ℓ : Loc Cert.Mix2RefIdeal.nD Cert.Mix2RefIdeal.τ Cert.Mix2RefIdeal.sig) → Buf (Elt Ideal) ℓ) (g : Dev Cert.Mix2RefIdeal.nD → PrngReg), Pre_Mix2RefIdeal m →
    θ_run (Cert.Mix2RefIdeal.defs (F := Ideal)) (onTc (τ := Cert.Mix2RefIdeal.τ) (Cert.Mix2RefIdeal.main (F := Ideal))) ⟨m, fun _ => 0, g⟩ (fun r => (∀ c : Dev Cert.Mix2RefIdeal.nD,
      r.2.mem ((c.tc : Thread Cert.Mix2RefIdeal.nD Cert.Mix2RefIdeal.τ).loc Cert.Mix2RefIdeal.main_arg0) = m ((c.tc : Thread Cert.Mix2RefIdeal.nD Cert.Mix2RefIdeal.τ).loc Cert.Mix2RefIdeal.main_arg0)
      ∧ r.2.mem ((c.tc : Thread Cert.Mix2RefIdeal.nD Cert.Mix2RefIdeal.τ).loc Cert.Mix2RefIdeal.main_arg1) = m ((c.tc : Thread Cert.Mix2RefIdeal.nD Cert.Mix2RefIdeal.τ).loc Cert.Mix2RefIdeal.main_arg1)
      ∧ r.2.mem ((c.tc : Thread Cert.Mix2RefIdeal.nD Cert.Mix2RefIdeal.τ).loc Cert.Mix2RefIdeal.main_arg2) = m ((c.tc : Thread Cert.Mix2RefIdeal.nD Cert.Mix2RefIdeal.τ).loc Cert.Mix2RefIdeal.main_arg2)
      ∧ r.2.mem ((c.tc : Thread Cert.Mix2RefIdeal.nD Cert.Mix2RefIdeal.τ).loc Cert.Mix2RefIdeal.main_arg3) = m ((c.tc : Thread Cert.Mix2RefIdeal.nD Cert.Mix2RefIdeal.τ).loc Cert.Mix2RefIdeal.main_arg3)
      ∧ r.2.mem ((c.tc : Thread Cert.Mix2RefIdeal.nD Cert.Mix2RefIdeal.τ).loc Cert.Mix2RefIdeal.main_arg4) = m ((c.tc : Thread Cert.Mix2RefIdeal.nD Cert.Mix2RefIdeal.τ).loc Cert.Mix2RefIdeal.main_arg4)
      ∧ r.2.mem ((c.tc : Thread Cert.Mix2RefIdeal.nD Cert.Mix2RefIdeal.τ).loc Cert.Mix2RefIdeal.main_arg5) = m ((c.tc : Thread Cert.Mix2RefIdeal.nD Cert.Mix2RefIdeal.τ).loc Cert.Mix2RefIdeal.main_arg5)
      ∧ r.2.mem ((c.tc : Thread Cert.Mix2RefIdeal.nD Cert.Mix2RefIdeal.τ).loc Cert.Mix2RefIdeal.main_arg6) = m ((c.tc : Thread Cert.Mix2RefIdeal.nD Cert.Mix2RefIdeal.τ).loc Cert.Mix2RefIdeal.main_arg6)
      ∧ r.2.mem ((c.tc : Thread Cert.Mix2RefIdeal.nD Cert.Mix2RefIdeal.τ).loc Cert.Mix2RefIdeal.main_arg7) = m ((c.tc : Thread Cert.Mix2RefIdeal.nD Cert.Mix2RefIdeal.τ).loc Cert.Mix2RefIdeal.main_arg7)
      ∧ r.2.mem ((c.tc : Thread Cert.Mix2RefIdeal.nD Cert.Mix2RefIdeal.τ).loc Cert.Mix2RefIdeal.main_arg8) = m ((c.tc : Thread Cert.Mix2RefIdeal.nD Cert.Mix2RefIdeal.τ).loc Cert.Mix2RefIdeal.main_arg8)
      ∧ r.2.mem ((c.tc : Thread Cert.Mix2RefIdeal.nD Cert.Mix2RefIdeal.τ).loc Cert.Mix2RefIdeal.main_arg9) = m ((c.tc : Thread Cert.Mix2RefIdeal.nD Cert.Mix2RefIdeal.τ).loc Cert.Mix2RefIdeal.main_arg9))
      ∧ r.2.sem = fun _ => 0)

def quiescent_Mix3 [hMix3 : Cert.Mix3.Facts] : Prop :=
  ∀ (m : (ℓ : Loc Cert.Mix3.nD Cert.Mix3.τ Cert.Mix3.sig) → Buf (Elt Bits) ℓ) (g : Dev Cert.Mix3.nD → PrngReg), Pre_Mix3 m →
    θ_run (Cert.Mix3.defs (F := Bits)) (onTc (τ := Cert.Mix3.τ) (Cert.Mix3.main (F := Bits))) ⟨m, fun _ => 0, g⟩ (fun r => (∀ c : Dev Cert.Mix3.nD,
      r.2.mem ((c.tc : Thread Cert.Mix3.nD Cert.Mix3.τ).loc Cert.Mix3.main_arg0) = m ((c.tc : Thread Cert.Mix3.nD Cert.Mix3.τ).loc Cert.Mix3.main_arg0)
      ∧ r.2.mem ((c.tc : Thread Cert.Mix3.nD Cert.Mix3.τ).loc Cert.Mix3.main_arg1) = m ((c.tc : Thread Cert.Mix3.nD Cert.Mix3.τ).loc Cert.Mix3.main_arg1)
      ∧ r.2.mem ((c.tc : Thread Cert.Mix3.nD Cert.Mix3.τ).loc Cert.Mix3.main_arg2) = m ((c.tc : Thread Cert.Mix3.nD Cert.Mix3.τ).loc Cert.Mix3.main_arg2)
      ∧ r.2.mem ((c.tc : Thread Cert.Mix3.nD Cert.Mix3.τ).loc Cert.Mix3.main_arg3) = m ((c.tc : Thread Cert.Mix3.nD Cert.Mix3.τ).loc Cert.Mix3.main_arg3)
      ∧ r.2.mem ((c.tc : Thread Cert.Mix3.nD Cert.Mix3.τ).loc Cert.Mix3.main_arg4) = m ((c.tc : Thread Cert.Mix3.nD Cert.Mix3.τ).loc Cert.Mix3.main_arg4)
      ∧ r.2.mem ((c.tc : Thread Cert.Mix3.nD Cert.Mix3.τ).loc Cert.Mix3.main_arg5) = m ((c.tc : Thread Cert.Mix3.nD Cert.Mix3.τ).loc Cert.Mix3.main_arg5)
      ∧ r.2.mem ((c.tc : Thread Cert.Mix3.nD Cert.Mix3.τ).loc Cert.Mix3.main_arg6) = m ((c.tc : Thread Cert.Mix3.nD Cert.Mix3.τ).loc Cert.Mix3.main_arg6)
      ∧ r.2.mem ((c.tc : Thread Cert.Mix3.nD Cert.Mix3.τ).loc Cert.Mix3.main_arg7) = m ((c.tc : Thread Cert.Mix3.nD Cert.Mix3.τ).loc Cert.Mix3.main_arg7)
      ∧ r.2.mem ((c.tc : Thread Cert.Mix3.nD Cert.Mix3.τ).loc Cert.Mix3.main_arg8) = m ((c.tc : Thread Cert.Mix3.nD Cert.Mix3.τ).loc Cert.Mix3.main_arg8)
      ∧ r.2.mem ((c.tc : Thread Cert.Mix3.nD Cert.Mix3.τ).loc Cert.Mix3.main_arg9) = m ((c.tc : Thread Cert.Mix3.nD Cert.Mix3.τ).loc Cert.Mix3.main_arg9))
      ∧ r.2.sem = fun _ => 0)

def quiescent_Mix3Ideal [hMix3Ideal : Cert.Mix3Ideal.Facts] : Prop :=
  ∀ (m : (ℓ : Loc Cert.Mix3Ideal.nD Cert.Mix3Ideal.τ Cert.Mix3Ideal.sig) → Buf (Elt Ideal) ℓ) (g : Dev Cert.Mix3Ideal.nD → PrngReg), Pre_Mix3Ideal m →
    θ_run (Cert.Mix3Ideal.defs (F := Ideal)) (onTc (τ := Cert.Mix3Ideal.τ) (Cert.Mix3Ideal.main (F := Ideal))) ⟨m, fun _ => 0, g⟩ (fun r => (∀ c : Dev Cert.Mix3Ideal.nD,
      r.2.mem ((c.tc : Thread Cert.Mix3Ideal.nD Cert.Mix3Ideal.τ).loc Cert.Mix3Ideal.main_arg0) = m ((c.tc : Thread Cert.Mix3Ideal.nD Cert.Mix3Ideal.τ).loc Cert.Mix3Ideal.main_arg0)
      ∧ r.2.mem ((c.tc : Thread Cert.Mix3Ideal.nD Cert.Mix3Ideal.τ).loc Cert.Mix3Ideal.main_arg1) = m ((c.tc : Thread Cert.Mix3Ideal.nD Cert.Mix3Ideal.τ).loc Cert.Mix3Ideal.main_arg1)
      ∧ r.2.mem ((c.tc : Thread Cert.Mix3Ideal.nD Cert.Mix3Ideal.τ).loc Cert.Mix3Ideal.main_arg2) = m ((c.tc : Thread Cert.Mix3Ideal.nD Cert.Mix3Ideal.τ).loc Cert.Mix3Ideal.main_arg2)
      ∧ r.2.mem ((c.tc : Thread Cert.Mix3Ideal.nD Cert.Mix3Ideal.τ).loc Cert.Mix3Ideal.main_arg3) = m ((c.tc : Thread Cert.Mix3Ideal.nD Cert.Mix3Ideal.τ).loc Cert.Mix3Ideal.main_arg3)
      ∧ r.2.mem ((c.tc : Thread Cert.Mix3Ideal.nD Cert.Mix3Ideal.τ).loc Cert.Mix3Ideal.main_arg4) = m ((c.tc : Thread Cert.Mix3Ideal.nD Cert.Mix3Ideal.τ).loc Cert.Mix3Ideal.main_arg4)
      ∧ r.2.mem ((c.tc : Thread Cert.Mix3Ideal.nD Cert.Mix3Ideal.τ).loc Cert.Mix3Ideal.main_arg5) = m ((c.tc : Thread Cert.Mix3Ideal.nD Cert.Mix3Ideal.τ).loc Cert.Mix3Ideal.main_arg5)
      ∧ r.2.mem ((c.tc : Thread Cert.Mix3Ideal.nD Cert.Mix3Ideal.τ).loc Cert.Mix3Ideal.main_arg6) = m ((c.tc : Thread Cert.Mix3Ideal.nD Cert.Mix3Ideal.τ).loc Cert.Mix3Ideal.main_arg6)
      ∧ r.2.mem ((c.tc : Thread Cert.Mix3Ideal.nD Cert.Mix3Ideal.τ).loc Cert.Mix3Ideal.main_arg7) = m ((c.tc : Thread Cert.Mix3Ideal.nD Cert.Mix3Ideal.τ).loc Cert.Mix3Ideal.main_arg7)
      ∧ r.2.mem ((c.tc : Thread Cert.Mix3Ideal.nD Cert.Mix3Ideal.τ).loc Cert.Mix3Ideal.main_arg8) = m ((c.tc : Thread Cert.Mix3Ideal.nD Cert.Mix3Ideal.τ).loc Cert.Mix3Ideal.main_arg8)
      ∧ r.2.mem ((c.tc : Thread Cert.Mix3Ideal.nD Cert.Mix3Ideal.τ).loc Cert.Mix3Ideal.main_arg9) = m ((c.tc : Thread Cert.Mix3Ideal.nD Cert.Mix3Ideal.τ).loc Cert.Mix3Ideal.main_arg9))
      ∧ r.2.sem = fun _ => 0)

def quiescent_Mix3RefIdeal [hMix3RefIdeal : Cert.Mix3RefIdeal.Facts] : Prop :=
  ∀ (m : (ℓ : Loc Cert.Mix3RefIdeal.nD Cert.Mix3RefIdeal.τ Cert.Mix3RefIdeal.sig) → Buf (Elt Ideal) ℓ) (g : Dev Cert.Mix3RefIdeal.nD → PrngReg), Pre_Mix3RefIdeal m →
    θ_run (Cert.Mix3RefIdeal.defs (F := Ideal)) (onTc (τ := Cert.Mix3RefIdeal.τ) (Cert.Mix3RefIdeal.main (F := Ideal))) ⟨m, fun _ => 0, g⟩ (fun r => (∀ c : Dev Cert.Mix3RefIdeal.nD,
      r.2.mem ((c.tc : Thread Cert.Mix3RefIdeal.nD Cert.Mix3RefIdeal.τ).loc Cert.Mix3RefIdeal.main_arg0) = m ((c.tc : Thread Cert.Mix3RefIdeal.nD Cert.Mix3RefIdeal.τ).loc Cert.Mix3RefIdeal.main_arg0)
      ∧ r.2.mem ((c.tc : Thread Cert.Mix3RefIdeal.nD Cert.Mix3RefIdeal.τ).loc Cert.Mix3RefIdeal.main_arg1) = m ((c.tc : Thread Cert.Mix3RefIdeal.nD Cert.Mix3RefIdeal.τ).loc Cert.Mix3RefIdeal.main_arg1)
      ∧ r.2.mem ((c.tc : Thread Cert.Mix3RefIdeal.nD Cert.Mix3RefIdeal.τ).loc Cert.Mix3RefIdeal.main_arg2) = m ((c.tc : Thread Cert.Mix3RefIdeal.nD Cert.Mix3RefIdeal.τ).loc Cert.Mix3RefIdeal.main_arg2)
      ∧ r.2.mem ((c.tc : Thread Cert.Mix3RefIdeal.nD Cert.Mix3RefIdeal.τ).loc Cert.Mix3RefIdeal.main_arg3) = m ((c.tc : Thread Cert.Mix3RefIdeal.nD Cert.Mix3RefIdeal.τ).loc Cert.Mix3RefIdeal.main_arg3)
      ∧ r.2.mem ((c.tc : Thread Cert.Mix3RefIdeal.nD Cert.Mix3RefIdeal.τ).loc Cert.Mix3RefIdeal.main_arg4) = m ((c.tc : Thread Cert.Mix3RefIdeal.nD Cert.Mix3RefIdeal.τ).loc Cert.Mix3RefIdeal.main_arg4)
      ∧ r.2.mem ((c.tc : Thread Cert.Mix3RefIdeal.nD Cert.Mix3RefIdeal.τ).loc Cert.Mix3RefIdeal.main_arg5) = m ((c.tc : Thread Cert.Mix3RefIdeal.nD Cert.Mix3RefIdeal.τ).loc Cert.Mix3RefIdeal.main_arg5)
      ∧ r.2.mem ((c.tc : Thread Cert.Mix3RefIdeal.nD Cert.Mix3RefIdeal.τ).loc Cert.Mix3RefIdeal.main_arg6) = m ((c.tc : Thread Cert.Mix3RefIdeal.nD Cert.Mix3RefIdeal.τ).loc Cert.Mix3RefIdeal.main_arg6)
      ∧ r.2.mem ((c.tc : Thread Cert.Mix3RefIdeal.nD Cert.Mix3RefIdeal.τ).loc Cert.Mix3RefIdeal.main_arg7) = m ((c.tc : Thread Cert.Mix3RefIdeal.nD Cert.Mix3RefIdeal.τ).loc Cert.Mix3RefIdeal.main_arg7)
      ∧ r.2.mem ((c.tc : Thread Cert.Mix3RefIdeal.nD Cert.Mix3RefIdeal.τ).loc Cert.Mix3RefIdeal.main_arg8) = m ((c.tc : Thread Cert.Mix3RefIdeal.nD Cert.Mix3RefIdeal.τ).loc Cert.Mix3RefIdeal.main_arg8)
      ∧ r.2.mem ((c.tc : Thread Cert.Mix3RefIdeal.nD Cert.Mix3RefIdeal.τ).loc Cert.Mix3RefIdeal.main_arg9) = m ((c.tc : Thread Cert.Mix3RefIdeal.nD Cert.Mix3RefIdeal.τ).loc Cert.Mix3RefIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Down_DownIdeal : Prop :=
  True

def algebraic_DownIdeal_DownRefIdeal [hDownIdeal : Cert.DownIdeal.Facts] [hDownRefIdeal : Cert.DownRefIdeal.Facts] [hPre_down_tables : Cert.Pre_down_tables.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v16) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Up_UpIdeal : Prop :=
  True

def algebraic_UpIdeal_UpRefIdeal [hUpIdeal : Cert.UpIdeal.Facts] [hUpRefIdeal : Cert.UpRefIdeal.Facts] [hPre_up_tables : Cert.Pre_up_tables.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v28) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def preserves_DenseDown_DenseDownIdeal : Prop :=
  True

def algebraic_DenseDownIdeal_DenseDownRefIdeal [hDenseDownIdeal : Cert.DenseDownIdeal.Facts] [hDenseDownRefIdeal : Cert.DenseDownRefIdeal.Facts] [hPre_dense_down_tables : Cert.Pre_dense_down_tables.Facts] : Prop :=
  ∀ (m : (ℓ : Loc Cert.DenseDownIdeal.nD Cert.DenseDownIdeal.τ Cert.DenseDownIdeal.sig) → Buf (Elt Ideal) ℓ) (g : Dev Cert.DenseDownIdeal.nD → PrngReg)
    (m' : (ℓ : Loc Cert.DenseDownRefIdeal.nD Cert.DenseDownRefIdeal.τ Cert.DenseDownRefIdeal.sig) → Buf (Elt Ideal) ℓ) (g' : Dev Cert.DenseDownRefIdeal.nD → PrngReg), Pre_DenseDownIdeal m →
    (∀ c : Dev Cert.DenseDownIdeal.nD,
      m' ((c.tc : Thread Cert.DenseDownRefIdeal.nD Cert.DenseDownRefIdeal.τ).loc Cert.DenseDownRefIdeal.main_arg0) = m ((c.tc : Thread Cert.DenseDownIdeal.nD Cert.DenseDownIdeal.τ).loc Cert.DenseDownIdeal.main_arg0)
      ∧ m' ((c.tc : Thread Cert.DenseDownRefIdeal.nD Cert.DenseDownRefIdeal.τ).loc Cert.DenseDownRefIdeal.main_arg1) = m ((c.tc : Thread Cert.DenseDownIdeal.nD Cert.DenseDownIdeal.τ).loc Cert.DenseDownIdeal.main_arg1)
      ∧ m' ((c.tc : Thread Cert.DenseDownRefIdeal.nD Cert.DenseDownRefIdeal.τ).loc Cert.DenseDownRefIdeal.main_arg2) = m ((c.tc : Thread Cert.DenseDownIdeal.nD Cert.DenseDownIdeal.τ).loc Cert.DenseDownIdeal.main_arg2)
      ∧ m' ((c.tc : Thread Cert.DenseDownRefIdeal.nD Cert.DenseDownRefIdeal.τ).loc Cert.DenseDownRefIdeal.main_arg3) = m ((c.tc : Thread Cert.DenseDownIdeal.nD Cert.DenseDownIdeal.τ).loc Cert.DenseDownIdeal.main_arg3)) →
    ∃ (v0 : (c : Dev Cert.DenseDownIdeal.nD) → Buf (Elt Ideal) ((c.tc : Thread Cert.DenseDownIdeal.nD Cert.DenseDownIdeal.τ).loc Cert.DenseDownIdeal.main_v0)),
      θ_run (Cert.DenseDownIdeal.defs (F := Ideal)) (onTc (τ := Cert.DenseDownIdeal.τ) (Cert.DenseDownIdeal.main (F := Ideal))) ⟨m, fun _ => 0, g⟩ (fun r => ∀ c : Dev Cert.DenseDownIdeal.nD,
          r.2.mem ((c.tc : Thread Cert.DenseDownIdeal.nD Cert.DenseDownIdeal.τ).loc Cert.DenseDownIdeal.main_v0) = v0 c
          ∧ r.2.mem ((c.tc : Thread Cert.DenseDownIdeal.nD Cert.DenseDownIdeal.τ).loc Cert.DenseDownIdeal.main_arg0) = m ((c.tc : Thread Cert.DenseDownIdeal.nD Cert.DenseDownIdeal.τ).loc Cert.DenseDownIdeal.main_arg0)
          ∧ r.2.mem ((c.tc : Thread Cert.DenseDownIdeal.nD Cert.DenseDownIdeal.τ).loc Cert.DenseDownIdeal.main_arg1) = m ((c.tc : Thread Cert.DenseDownIdeal.nD Cert.DenseDownIdeal.τ).loc Cert.DenseDownIdeal.main_arg1)
          ∧ r.2.mem ((c.tc : Thread Cert.DenseDownIdeal.nD Cert.DenseDownIdeal.τ).loc Cert.DenseDownIdeal.main_arg2) = m ((c.tc : Thread Cert.DenseDownIdeal.nD Cert.DenseDownIdeal.τ).loc Cert.DenseDownIdeal.main_arg2)
          ∧ r.2.mem ((c.tc : Thread Cert.DenseDownIdeal.nD Cert.DenseDownIdeal.τ).loc Cert.DenseDownIdeal.main_arg3) = m ((c.tc : Thread Cert.DenseDownIdeal.nD Cert.DenseDownIdeal.τ).loc Cert.DenseDownIdeal.main_arg3))
      ∧ θ_run (Cert.DenseDownRefIdeal.defs (F := Ideal)) (onTc (τ := Cert.DenseDownRefIdeal.τ) (Cert.DenseDownRefIdeal.main (F := Ideal))) ⟨m', fun _ => 0, g'⟩ (fun r => ∀ c : Dev Cert.DenseDownRefIdeal.nD,
          r.2.mem ((c.tc : Thread Cert.DenseDownRefIdeal.nD Cert.DenseDownRefIdeal.τ).loc Cert.DenseDownRefIdeal.main_v16) = v0 c
          ∧ r.2.mem ((c.tc : Thread Cert.DenseDownRefIdeal.nD Cert.DenseDownRefIdeal.τ).loc Cert.DenseDownRefIdeal.main_arg0) = m' ((c.tc : Thread Cert.DenseDownRefIdeal.nD Cert.DenseDownRefIdeal.τ).loc Cert.DenseDownRefIdeal.main_arg0)
          ∧ r.2.mem ((c.tc : Thread Cert.DenseDownRefIdeal.nD Cert.DenseDownRefIdeal.τ).loc Cert.DenseDownRefIdeal.main_arg1) = m' ((c.tc : Thread Cert.DenseDownRefIdeal.nD Cert.DenseDownRefIdeal.τ).loc Cert.DenseDownRefIdeal.main_arg1)
          ∧ r.2.mem ((c.tc : Thread Cert.DenseDownRefIdeal.nD Cert.DenseDownRefIdeal.τ).loc Cert.DenseDownRefIdeal.main_arg2) = m' ((c.tc : Thread Cert.DenseDownRefIdeal.nD Cert.DenseDownRefIdeal.τ).loc Cert.DenseDownRefIdeal.main_arg2)
          ∧ r.2.mem ((c.tc : Thread Cert.DenseDownRefIdeal.nD Cert.DenseDownRefIdeal.τ).loc Cert.DenseDownRefIdeal.main_arg3) = m' ((c.tc : Thread Cert.DenseDownRefIdeal.nD Cert.DenseDownRefIdeal.τ).loc Cert.DenseDownRefIdeal.main_arg3))

def preserves_DenseUp_DenseUpIdeal : Prop :=
  True

def algebraic_DenseUpIdeal_DenseUpRefIdeal [hDenseUpIdeal : Cert.DenseUpIdeal.Facts] [hDenseUpRefIdeal : Cert.DenseUpRefIdeal.Facts] [hPre_dense_up_tables : Cert.Pre_dense_up_tables.Facts] : Prop :=
  ∀ (m : (ℓ : Loc Cert.DenseUpIdeal.nD Cert.DenseUpIdeal.τ Cert.DenseUpIdeal.sig) → Buf (Elt Ideal) ℓ) (g : Dev Cert.DenseUpIdeal.nD → PrngReg)
    (m' : (ℓ : Loc Cert.DenseUpRefIdeal.nD Cert.DenseUpRefIdeal.τ Cert.DenseUpRefIdeal.sig) → Buf (Elt Ideal) ℓ) (g' : Dev Cert.DenseUpRefIdeal.nD → PrngReg), Pre_DenseUpIdeal m →
    (∀ c : Dev Cert.DenseUpIdeal.nD,
      m' ((c.tc : Thread Cert.DenseUpRefIdeal.nD Cert.DenseUpRefIdeal.τ).loc Cert.DenseUpRefIdeal.main_arg0) = m ((c.tc : Thread Cert.DenseUpIdeal.nD Cert.DenseUpIdeal.τ).loc Cert.DenseUpIdeal.main_arg0)
      ∧ m' ((c.tc : Thread Cert.DenseUpRefIdeal.nD Cert.DenseUpRefIdeal.τ).loc Cert.DenseUpRefIdeal.main_arg1) = m ((c.tc : Thread Cert.DenseUpIdeal.nD Cert.DenseUpIdeal.τ).loc Cert.DenseUpIdeal.main_arg1)
      ∧ m' ((c.tc : Thread Cert.DenseUpRefIdeal.nD Cert.DenseUpRefIdeal.τ).loc Cert.DenseUpRefIdeal.main_arg2) = m ((c.tc : Thread Cert.DenseUpIdeal.nD Cert.DenseUpIdeal.τ).loc Cert.DenseUpIdeal.main_arg2)
      ∧ m' ((c.tc : Thread Cert.DenseUpRefIdeal.nD Cert.DenseUpRefIdeal.τ).loc Cert.DenseUpRefIdeal.main_arg3) = m ((c.tc : Thread Cert.DenseUpIdeal.nD Cert.DenseUpIdeal.τ).loc Cert.DenseUpIdeal.main_arg3)
      ∧ m' ((c.tc : Thread Cert.DenseUpRefIdeal.nD Cert.DenseUpRefIdeal.τ).loc Cert.DenseUpRefIdeal.main_arg4) = m ((c.tc : Thread Cert.DenseUpIdeal.nD Cert.DenseUpIdeal.τ).loc Cert.DenseUpIdeal.main_arg4)) →
    ∃ (v0 : (c : Dev Cert.DenseUpIdeal.nD) → Buf (Elt Ideal) ((c.tc : Thread Cert.DenseUpIdeal.nD Cert.DenseUpIdeal.τ).loc Cert.DenseUpIdeal.main_v0)),
      θ_run (Cert.DenseUpIdeal.defs (F := Ideal)) (onTc (τ := Cert.DenseUpIdeal.τ) (Cert.DenseUpIdeal.main (F := Ideal))) ⟨m, fun _ => 0, g⟩ (fun r => ∀ c : Dev Cert.DenseUpIdeal.nD,
          r.2.mem ((c.tc : Thread Cert.DenseUpIdeal.nD Cert.DenseUpIdeal.τ).loc Cert.DenseUpIdeal.main_v0) = v0 c
          ∧ r.2.mem ((c.tc : Thread Cert.DenseUpIdeal.nD Cert.DenseUpIdeal.τ).loc Cert.DenseUpIdeal.main_arg0) = m ((c.tc : Thread Cert.DenseUpIdeal.nD Cert.DenseUpIdeal.τ).loc Cert.DenseUpIdeal.main_arg0)
          ∧ r.2.mem ((c.tc : Thread Cert.DenseUpIdeal.nD Cert.DenseUpIdeal.τ).loc Cert.DenseUpIdeal.main_arg1) = m ((c.tc : Thread Cert.DenseUpIdeal.nD Cert.DenseUpIdeal.τ).loc Cert.DenseUpIdeal.main_arg1)
          ∧ r.2.mem ((c.tc : Thread Cert.DenseUpIdeal.nD Cert.DenseUpIdeal.τ).loc Cert.DenseUpIdeal.main_arg2) = m ((c.tc : Thread Cert.DenseUpIdeal.nD Cert.DenseUpIdeal.τ).loc Cert.DenseUpIdeal.main_arg2)
          ∧ r.2.mem ((c.tc : Thread Cert.DenseUpIdeal.nD Cert.DenseUpIdeal.τ).loc Cert.DenseUpIdeal.main_arg3) = m ((c.tc : Thread Cert.DenseUpIdeal.nD Cert.DenseUpIdeal.τ).loc Cert.DenseUpIdeal.main_arg3)
          ∧ r.2.mem ((c.tc : Thread Cert.DenseUpIdeal.nD Cert.DenseUpIdeal.τ).loc Cert.DenseUpIdeal.main_arg4) = m ((c.tc : Thread Cert.DenseUpIdeal.nD Cert.DenseUpIdeal.τ).loc Cert.DenseUpIdeal.main_arg4))
      ∧ θ_run (Cert.DenseUpRefIdeal.defs (F := Ideal)) (onTc (τ := Cert.DenseUpRefIdeal.τ) (Cert.DenseUpRefIdeal.main (F := Ideal))) ⟨m', fun _ => 0, g'⟩ (fun r => ∀ c : Dev Cert.DenseUpRefIdeal.nD,
          r.2.mem ((c.tc : Thread Cert.DenseUpRefIdeal.nD Cert.DenseUpRefIdeal.τ).loc Cert.DenseUpRefIdeal.main_v27) = v0 c
          ∧ r.2.mem ((c.tc : Thread Cert.DenseUpRefIdeal.nD Cert.DenseUpRefIdeal.τ).loc Cert.DenseUpRefIdeal.main_arg0) = m' ((c.tc : Thread Cert.DenseUpRefIdeal.nD Cert.DenseUpRefIdeal.τ).loc Cert.DenseUpRefIdeal.main_arg0)
          ∧ r.2.mem ((c.tc : Thread Cert.DenseUpRefIdeal.nD Cert.DenseUpRefIdeal.τ).loc Cert.DenseUpRefIdeal.main_arg1) = m' ((c.tc : Thread Cert.DenseUpRefIdeal.nD Cert.DenseUpRefIdeal.τ).loc Cert.DenseUpRefIdeal.main_arg1)
          ∧ r.2.mem ((c.tc : Thread Cert.DenseUpRefIdeal.nD Cert.DenseUpRefIdeal.τ).loc Cert.DenseUpRefIdeal.main_arg2) = m' ((c.tc : Thread Cert.DenseUpRefIdeal.nD Cert.DenseUpRefIdeal.τ).loc Cert.DenseUpRefIdeal.main_arg2)
          ∧ r.2.mem ((c.tc : Thread Cert.DenseUpRefIdeal.nD Cert.DenseUpRefIdeal.τ).loc Cert.DenseUpRefIdeal.main_arg3) = m' ((c.tc : Thread Cert.DenseUpRefIdeal.nD Cert.DenseUpRefIdeal.τ).loc Cert.DenseUpRefIdeal.main_arg3)
          ∧ r.2.mem ((c.tc : Thread Cert.DenseUpRefIdeal.nD Cert.DenseUpRefIdeal.τ).loc Cert.DenseUpRefIdeal.main_arg4) = m' ((c.tc : Thread Cert.DenseUpRefIdeal.nD Cert.DenseUpRefIdeal.τ).loc Cert.DenseUpRefIdeal.main_arg4))

def preserves_MatIn0_MatIn0Ideal : Prop :=
  True

def algebraic_MatIn0Ideal_MatIn0RefIdeal [hMatIn0Ideal : Cert.MatIn0Ideal.Facts] [hMatIn0RefIdeal : Cert.MatIn0RefIdeal.Facts] : Prop :=
  ∀ (m : (ℓ : Loc Cert.MatIn0Ideal.nD Cert.MatIn0Ideal.τ Cert.MatIn0Ideal.sig) → Buf (Elt Ideal) ℓ) (g : Dev Cert.MatIn0Ideal.nD → PrngReg)
    (m' : (ℓ : Loc Cert.MatIn0RefIdeal.nD Cert.MatIn0RefIdeal.τ Cert.MatIn0RefIdeal.sig) → Buf (Elt Ideal) ℓ) (g' : Dev Cert.MatIn0RefIdeal.nD → PrngReg), Pre_MatIn0Ideal m →
    (∀ c : Dev Cert.MatIn0Ideal.nD,
      m' ((c.tc : Thread Cert.MatIn0RefIdeal.nD Cert.MatIn0RefIdeal.τ).loc Cert.MatIn0RefIdeal.main_arg0) = m ((c.tc : Thread Cert.MatIn0Ideal.nD Cert.MatIn0Ideal.τ).loc Cert.MatIn0Ideal.main_arg0)
      ∧ m' ((c.tc : Thread Cert.MatIn0RefIdeal.nD Cert.MatIn0RefIdeal.τ).loc Cert.MatIn0RefIdeal.main_arg1) = m ((c.tc : Thread Cert.MatIn0Ideal.nD Cert.MatIn0Ideal.τ).loc Cert.MatIn0Ideal.main_arg1)) →
    ∃ (v0 : (c : Dev Cert.MatIn0Ideal.nD) → Buf (Elt Ideal) ((c.tc : Thread Cert.MatIn0Ideal.nD Cert.MatIn0Ideal.τ).loc Cert.MatIn0Ideal.main_v0)),
      θ_run (Cert.MatIn0Ideal.defs (F := Ideal)) (onTc (τ := Cert.MatIn0Ideal.τ) (Cert.MatIn0Ideal.main (F := Ideal))) ⟨m, fun _ => 0, g⟩ (fun r => ∀ c : Dev Cert.MatIn0Ideal.nD,
          r.2.mem ((c.tc : Thread Cert.MatIn0Ideal.nD Cert.MatIn0Ideal.τ).loc Cert.MatIn0Ideal.main_v0) = v0 c
          ∧ r.2.mem ((c.tc : Thread Cert.MatIn0Ideal.nD Cert.MatIn0Ideal.τ).loc Cert.MatIn0Ideal.main_arg0) = m ((c.tc : Thread Cert.MatIn0Ideal.nD Cert.MatIn0Ideal.τ).loc Cert.MatIn0Ideal.main_arg0)
          ∧ r.2.mem ((c.tc : Thread Cert.MatIn0Ideal.nD Cert.MatIn0Ideal.τ).loc Cert.MatIn0Ideal.main_arg1) = m ((c.tc : Thread Cert.MatIn0Ideal.nD Cert.MatIn0Ideal.τ).loc Cert.MatIn0Ideal.main_arg1))
      ∧ θ_run (Cert.MatIn0RefIdeal.defs (F := Ideal)) (onTc (τ := Cert.MatIn0RefIdeal.τ) (Cert.MatIn0RefIdeal.main (F := Ideal))) ⟨m', fun _ => 0, g'⟩ (fun r => ∀ c : Dev Cert.MatIn0RefIdeal.nD,
          r.2.mem ((c.tc : Thread Cert.MatIn0RefIdeal.nD Cert.MatIn0RefIdeal.τ).loc Cert.MatIn0RefIdeal.main_v3) = v0 c
          ∧ r.2.mem ((c.tc : Thread Cert.MatIn0RefIdeal.nD Cert.MatIn0RefIdeal.τ).loc Cert.MatIn0RefIdeal.main_arg0) = m' ((c.tc : Thread Cert.MatIn0RefIdeal.nD Cert.MatIn0RefIdeal.τ).loc Cert.MatIn0RefIdeal.main_arg0)
          ∧ r.2.mem ((c.tc : Thread Cert.MatIn0RefIdeal.nD Cert.MatIn0RefIdeal.τ).loc Cert.MatIn0RefIdeal.main_arg1) = m' ((c.tc : Thread Cert.MatIn0RefIdeal.nD Cert.MatIn0RefIdeal.τ).loc Cert.MatIn0RefIdeal.main_arg1))

def preserves_MatIn1_MatIn1Ideal : Prop :=
  True

def algebraic_MatIn1Ideal_MatIn1RefIdeal [hMatIn1Ideal : Cert.MatIn1Ideal.Facts] [hMatIn1RefIdeal : Cert.MatIn1RefIdeal.Facts] : Prop :=
  ∀ (m : (ℓ : Loc Cert.MatIn1Ideal.nD Cert.MatIn1Ideal.τ Cert.MatIn1Ideal.sig) → Buf (Elt Ideal) ℓ) (g : Dev Cert.MatIn1Ideal.nD → PrngReg)
    (m' : (ℓ : Loc Cert.MatIn1RefIdeal.nD Cert.MatIn1RefIdeal.τ Cert.MatIn1RefIdeal.sig) → Buf (Elt Ideal) ℓ) (g' : Dev Cert.MatIn1RefIdeal.nD → PrngReg), Pre_MatIn1Ideal m →
    (∀ c : Dev Cert.MatIn1Ideal.nD,
      m' ((c.tc : Thread Cert.MatIn1RefIdeal.nD Cert.MatIn1RefIdeal.τ).loc Cert.MatIn1RefIdeal.main_arg0) = m ((c.tc : Thread Cert.MatIn1Ideal.nD Cert.MatIn1Ideal.τ).loc Cert.MatIn1Ideal.main_arg0)
      ∧ m' ((c.tc : Thread Cert.MatIn1RefIdeal.nD Cert.MatIn1RefIdeal.τ).loc Cert.MatIn1RefIdeal.main_arg1) = m ((c.tc : Thread Cert.MatIn1Ideal.nD Cert.MatIn1Ideal.τ).loc Cert.MatIn1Ideal.main_arg1)) →
    ∃ (v0 : (c : Dev Cert.MatIn1Ideal.nD) → Buf (Elt Ideal) ((c.tc : Thread Cert.MatIn1Ideal.nD Cert.MatIn1Ideal.τ).loc Cert.MatIn1Ideal.main_v0)),
      θ_run (Cert.MatIn1Ideal.defs (F := Ideal)) (onTc (τ := Cert.MatIn1Ideal.τ) (Cert.MatIn1Ideal.main (F := Ideal))) ⟨m, fun _ => 0, g⟩ (fun r => ∀ c : Dev Cert.MatIn1Ideal.nD,
          r.2.mem ((c.tc : Thread Cert.MatIn1Ideal.nD Cert.MatIn1Ideal.τ).loc Cert.MatIn1Ideal.main_v0) = v0 c
          ∧ r.2.mem ((c.tc : Thread Cert.MatIn1Ideal.nD Cert.MatIn1Ideal.τ).loc Cert.MatIn1Ideal.main_arg0) = m ((c.tc : Thread Cert.MatIn1Ideal.nD Cert.MatIn1Ideal.τ).loc Cert.MatIn1Ideal.main_arg0)
          ∧ r.2.mem ((c.tc : Thread Cert.MatIn1Ideal.nD Cert.MatIn1Ideal.τ).loc Cert.MatIn1Ideal.main_arg1) = m ((c.tc : Thread Cert.MatIn1Ideal.nD Cert.MatIn1Ideal.τ).loc Cert.MatIn1Ideal.main_arg1))
      ∧ θ_run (Cert.MatIn1RefIdeal.defs (F := Ideal)) (onTc (τ := Cert.MatIn1RefIdeal.τ) (Cert.MatIn1RefIdeal.main (F := Ideal))) ⟨m', fun _ => 0, g'⟩ (fun r => ∀ c : Dev Cert.MatIn1RefIdeal.nD,
          r.2.mem ((c.tc : Thread Cert.MatIn1RefIdeal.nD Cert.MatIn1RefIdeal.τ).loc Cert.MatIn1RefIdeal.main_v3) = v0 c
          ∧ r.2.mem ((c.tc : Thread Cert.MatIn1RefIdeal.nD Cert.MatIn1RefIdeal.τ).loc Cert.MatIn1RefIdeal.main_arg0) = m' ((c.tc : Thread Cert.MatIn1RefIdeal.nD Cert.MatIn1RefIdeal.τ).loc Cert.MatIn1RefIdeal.main_arg0)
          ∧ r.2.mem ((c.tc : Thread Cert.MatIn1RefIdeal.nD Cert.MatIn1RefIdeal.τ).loc Cert.MatIn1RefIdeal.main_arg1) = m' ((c.tc : Thread Cert.MatIn1RefIdeal.nD Cert.MatIn1RefIdeal.τ).loc Cert.MatIn1RefIdeal.main_arg1))

def preserves_MatIn2_MatIn2Ideal : Prop :=
  True

def algebraic_MatIn2Ideal_MatIn2RefIdeal [hMatIn2Ideal : Cert.MatIn2Ideal.Facts] [hMatIn2RefIdeal : Cert.MatIn2RefIdeal.Facts] : Prop :=
  ∀ (m : (ℓ : Loc Cert.MatIn2Ideal.nD Cert.MatIn2Ideal.τ Cert.MatIn2Ideal.sig) → Buf (Elt Ideal) ℓ) (g : Dev Cert.MatIn2Ideal.nD → PrngReg)
    (m' : (ℓ : Loc Cert.MatIn2RefIdeal.nD Cert.MatIn2RefIdeal.τ Cert.MatIn2RefIdeal.sig) → Buf (Elt Ideal) ℓ) (g' : Dev Cert.MatIn2RefIdeal.nD → PrngReg), Pre_MatIn2Ideal m →
    (∀ c : Dev Cert.MatIn2Ideal.nD,
      m' ((c.tc : Thread Cert.MatIn2RefIdeal.nD Cert.MatIn2RefIdeal.τ).loc Cert.MatIn2RefIdeal.main_arg0) = m ((c.tc : Thread Cert.MatIn2Ideal.nD Cert.MatIn2Ideal.τ).loc Cert.MatIn2Ideal.main_arg0)
      ∧ m' ((c.tc : Thread Cert.MatIn2RefIdeal.nD Cert.MatIn2RefIdeal.τ).loc Cert.MatIn2RefIdeal.main_arg1) = m ((c.tc : Thread Cert.MatIn2Ideal.nD Cert.MatIn2Ideal.τ).loc Cert.MatIn2Ideal.main_arg1)) →
    ∃ (v0 : (c : Dev Cert.MatIn2Ideal.nD) → Buf (Elt Ideal) ((c.tc : Thread Cert.MatIn2Ideal.nD Cert.MatIn2Ideal.τ).loc Cert.MatIn2Ideal.main_v0)),
      θ_run (Cert.MatIn2Ideal.defs (F := Ideal)) (onTc (τ := Cert.MatIn2Ideal.τ) (Cert.MatIn2Ideal.main (F := Ideal))) ⟨m, fun _ => 0, g⟩ (fun r => ∀ c : Dev Cert.MatIn2Ideal.nD,
          r.2.mem ((c.tc : Thread Cert.MatIn2Ideal.nD Cert.MatIn2Ideal.τ).loc Cert.MatIn2Ideal.main_v0) = v0 c
          ∧ r.2.mem ((c.tc : Thread Cert.MatIn2Ideal.nD Cert.MatIn2Ideal.τ).loc Cert.MatIn2Ideal.main_arg0) = m ((c.tc : Thread Cert.MatIn2Ideal.nD Cert.MatIn2Ideal.τ).loc Cert.MatIn2Ideal.main_arg0)
          ∧ r.2.mem ((c.tc : Thread Cert.MatIn2Ideal.nD Cert.MatIn2Ideal.τ).loc Cert.MatIn2Ideal.main_arg1) = m ((c.tc : Thread Cert.MatIn2Ideal.nD Cert.MatIn2Ideal.τ).loc Cert.MatIn2Ideal.main_arg1))
      ∧ θ_run (Cert.MatIn2RefIdeal.defs (F := Ideal)) (onTc (τ := Cert.MatIn2RefIdeal.τ) (Cert.MatIn2RefIdeal.main (F := Ideal))) ⟨m', fun _ => 0, g'⟩ (fun r => ∀ c : Dev Cert.MatIn2RefIdeal.nD,
          r.2.mem ((c.tc : Thread Cert.MatIn2RefIdeal.nD Cert.MatIn2RefIdeal.τ).loc Cert.MatIn2RefIdeal.main_v3) = v0 c
          ∧ r.2.mem ((c.tc : Thread Cert.MatIn2RefIdeal.nD Cert.MatIn2RefIdeal.τ).loc Cert.MatIn2RefIdeal.main_arg0) = m' ((c.tc : Thread Cert.MatIn2RefIdeal.nD Cert.MatIn2RefIdeal.τ).loc Cert.MatIn2RefIdeal.main_arg0)
          ∧ r.2.mem ((c.tc : Thread Cert.MatIn2RefIdeal.nD Cert.MatIn2RefIdeal.τ).loc Cert.MatIn2RefIdeal.main_arg1) = m' ((c.tc : Thread Cert.MatIn2RefIdeal.nD Cert.MatIn2RefIdeal.τ).loc Cert.MatIn2RefIdeal.main_arg1))

def preserves_MatIn3_MatIn3Ideal : Prop :=
  True

def algebraic_MatIn3Ideal_MatIn3RefIdeal [hMatIn3Ideal : Cert.MatIn3Ideal.Facts] [hMatIn3RefIdeal : Cert.MatIn3RefIdeal.Facts] : Prop :=
  ∀ (m : (ℓ : Loc Cert.MatIn3Ideal.nD Cert.MatIn3Ideal.τ Cert.MatIn3Ideal.sig) → Buf (Elt Ideal) ℓ) (g : Dev Cert.MatIn3Ideal.nD → PrngReg)
    (m' : (ℓ : Loc Cert.MatIn3RefIdeal.nD Cert.MatIn3RefIdeal.τ Cert.MatIn3RefIdeal.sig) → Buf (Elt Ideal) ℓ) (g' : Dev Cert.MatIn3RefIdeal.nD → PrngReg), Pre_MatIn3Ideal m →
    (∀ c : Dev Cert.MatIn3Ideal.nD,
      m' ((c.tc : Thread Cert.MatIn3RefIdeal.nD Cert.MatIn3RefIdeal.τ).loc Cert.MatIn3RefIdeal.main_arg0) = m ((c.tc : Thread Cert.MatIn3Ideal.nD Cert.MatIn3Ideal.τ).loc Cert.MatIn3Ideal.main_arg0)
      ∧ m' ((c.tc : Thread Cert.MatIn3RefIdeal.nD Cert.MatIn3RefIdeal.τ).loc Cert.MatIn3RefIdeal.main_arg1) = m ((c.tc : Thread Cert.MatIn3Ideal.nD Cert.MatIn3Ideal.τ).loc Cert.MatIn3Ideal.main_arg1)) →
    ∃ (v0 : (c : Dev Cert.MatIn3Ideal.nD) → Buf (Elt Ideal) ((c.tc : Thread Cert.MatIn3Ideal.nD Cert.MatIn3Ideal.τ).loc Cert.MatIn3Ideal.main_v0)),
      θ_run (Cert.MatIn3Ideal.defs (F := Ideal)) (onTc (τ := Cert.MatIn3Ideal.τ) (Cert.MatIn3Ideal.main (F := Ideal))) ⟨m, fun _ => 0, g⟩ (fun r => ∀ c : Dev Cert.MatIn3Ideal.nD,
          r.2.mem ((c.tc : Thread Cert.MatIn3Ideal.nD Cert.MatIn3Ideal.τ).loc Cert.MatIn3Ideal.main_v0) = v0 c
          ∧ r.2.mem ((c.tc : Thread Cert.MatIn3Ideal.nD Cert.MatIn3Ideal.τ).loc Cert.MatIn3Ideal.main_arg0) = m ((c.tc : Thread Cert.MatIn3Ideal.nD Cert.MatIn3Ideal.τ).loc Cert.MatIn3Ideal.main_arg0)
          ∧ r.2.mem ((c.tc : Thread Cert.MatIn3Ideal.nD Cert.MatIn3Ideal.τ).loc Cert.MatIn3Ideal.main_arg1) = m ((c.tc : Thread Cert.MatIn3Ideal.nD Cert.MatIn3Ideal.τ).loc Cert.MatIn3Ideal.main_arg1))
      ∧ θ_run (Cert.MatIn3RefIdeal.defs (F := Ideal)) (onTc (τ := Cert.MatIn3RefIdeal.τ) (Cert.MatIn3RefIdeal.main (F := Ideal))) ⟨m', fun _ => 0, g'⟩ (fun r => ∀ c : Dev Cert.MatIn3RefIdeal.nD,
          r.2.mem ((c.tc : Thread Cert.MatIn3RefIdeal.nD Cert.MatIn3RefIdeal.τ).loc Cert.MatIn3RefIdeal.main_v3) = v0 c
          ∧ r.2.mem ((c.tc : Thread Cert.MatIn3RefIdeal.nD Cert.MatIn3RefIdeal.τ).loc Cert.MatIn3RefIdeal.main_arg0) = m' ((c.tc : Thread Cert.MatIn3RefIdeal.nD Cert.MatIn3RefIdeal.τ).loc Cert.MatIn3RefIdeal.main_arg0)
          ∧ r.2.mem ((c.tc : Thread Cert.MatIn3RefIdeal.nD Cert.MatIn3RefIdeal.τ).loc Cert.MatIn3RefIdeal.main_arg1) = m' ((c.tc : Thread Cert.MatIn3RefIdeal.nD Cert.MatIn3RefIdeal.τ).loc Cert.MatIn3RefIdeal.main_arg1))

def preserves_MatOut0_MatOut0Ideal : Prop :=
  True

def algebraic_MatOut0Ideal_MatOut0RefIdeal [hMatOut0Ideal : Cert.MatOut0Ideal.Facts] [hMatOut0RefIdeal : Cert.MatOut0RefIdeal.Facts] : Prop :=
  ∀ (m : (ℓ : Loc Cert.MatOut0Ideal.nD Cert.MatOut0Ideal.τ Cert.MatOut0Ideal.sig) → Buf (Elt Ideal) ℓ) (g : Dev Cert.MatOut0Ideal.nD → PrngReg)
    (m' : (ℓ : Loc Cert.MatOut0RefIdeal.nD Cert.MatOut0RefIdeal.τ Cert.MatOut0RefIdeal.sig) → Buf (Elt Ideal) ℓ) (g' : Dev Cert.MatOut0RefIdeal.nD → PrngReg), Pre_MatOut0Ideal m →
    (∀ c : Dev Cert.MatOut0Ideal.nD,
      m' ((c.tc : Thread Cert.MatOut0RefIdeal.nD Cert.MatOut0RefIdeal.τ).loc Cert.MatOut0RefIdeal.main_arg0) = m ((c.tc : Thread Cert.MatOut0Ideal.nD Cert.MatOut0Ideal.τ).loc Cert.MatOut0Ideal.main_arg0)
      ∧ m' ((c.tc : Thread Cert.MatOut0RefIdeal.nD Cert.MatOut0RefIdeal.τ).loc Cert.MatOut0RefIdeal.main_arg1) = m ((c.tc : Thread Cert.MatOut0Ideal.nD Cert.MatOut0Ideal.τ).loc Cert.MatOut0Ideal.main_arg1)) →
    ∃ (v0 : (c : Dev Cert.MatOut0Ideal.nD) → Buf (Elt Ideal) ((c.tc : Thread Cert.MatOut0Ideal.nD Cert.MatOut0Ideal.τ).loc Cert.MatOut0Ideal.main_v0)),
      θ_run (Cert.MatOut0Ideal.defs (F := Ideal)) (onTc (τ := Cert.MatOut0Ideal.τ) (Cert.MatOut0Ideal.main (F := Ideal))) ⟨m, fun _ => 0, g⟩ (fun r => ∀ c : Dev Cert.MatOut0Ideal.nD,
          r.2.mem ((c.tc : Thread Cert.MatOut0Ideal.nD Cert.MatOut0Ideal.τ).loc Cert.MatOut0Ideal.main_v0) = v0 c
          ∧ r.2.mem ((c.tc : Thread Cert.MatOut0Ideal.nD Cert.MatOut0Ideal.τ).loc Cert.MatOut0Ideal.main_arg0) = m ((c.tc : Thread Cert.MatOut0Ideal.nD Cert.MatOut0Ideal.τ).loc Cert.MatOut0Ideal.main_arg0)
          ∧ r.2.mem ((c.tc : Thread Cert.MatOut0Ideal.nD Cert.MatOut0Ideal.τ).loc Cert.MatOut0Ideal.main_arg1) = m ((c.tc : Thread Cert.MatOut0Ideal.nD Cert.MatOut0Ideal.τ).loc Cert.MatOut0Ideal.main_arg1))
      ∧ θ_run (Cert.MatOut0RefIdeal.defs (F := Ideal)) (onTc (τ := Cert.MatOut0RefIdeal.τ) (Cert.MatOut0RefIdeal.main (F := Ideal))) ⟨m', fun _ => 0, g'⟩ (fun r => ∀ c : Dev Cert.MatOut0RefIdeal.nD,
          r.2.mem ((c.tc : Thread Cert.MatOut0RefIdeal.nD Cert.MatOut0RefIdeal.τ).loc Cert.MatOut0RefIdeal.main_v3) = v0 c
          ∧ r.2.mem ((c.tc : Thread Cert.MatOut0RefIdeal.nD Cert.MatOut0RefIdeal.τ).loc Cert.MatOut0RefIdeal.main_arg0) = m' ((c.tc : Thread Cert.MatOut0RefIdeal.nD Cert.MatOut0RefIdeal.τ).loc Cert.MatOut0RefIdeal.main_arg0)
          ∧ r.2.mem ((c.tc : Thread Cert.MatOut0RefIdeal.nD Cert.MatOut0RefIdeal.τ).loc Cert.MatOut0RefIdeal.main_arg1) = m' ((c.tc : Thread Cert.MatOut0RefIdeal.nD Cert.MatOut0RefIdeal.τ).loc Cert.MatOut0RefIdeal.main_arg1))

def preserves_MatOut1_MatOut1Ideal : Prop :=
  True

def algebraic_MatOut1Ideal_MatOut1RefIdeal [hMatOut1Ideal : Cert.MatOut1Ideal.Facts] [hMatOut1RefIdeal : Cert.MatOut1RefIdeal.Facts] : Prop :=
  ∀ (m : (ℓ : Loc Cert.MatOut1Ideal.nD Cert.MatOut1Ideal.τ Cert.MatOut1Ideal.sig) → Buf (Elt Ideal) ℓ) (g : Dev Cert.MatOut1Ideal.nD → PrngReg)
    (m' : (ℓ : Loc Cert.MatOut1RefIdeal.nD Cert.MatOut1RefIdeal.τ Cert.MatOut1RefIdeal.sig) → Buf (Elt Ideal) ℓ) (g' : Dev Cert.MatOut1RefIdeal.nD → PrngReg), Pre_MatOut1Ideal m →
    (∀ c : Dev Cert.MatOut1Ideal.nD,
      m' ((c.tc : Thread Cert.MatOut1RefIdeal.nD Cert.MatOut1RefIdeal.τ).loc Cert.MatOut1RefIdeal.main_arg0) = m ((c.tc : Thread Cert.MatOut1Ideal.nD Cert.MatOut1Ideal.τ).loc Cert.MatOut1Ideal.main_arg0)
      ∧ m' ((c.tc : Thread Cert.MatOut1RefIdeal.nD Cert.MatOut1RefIdeal.τ).loc Cert.MatOut1RefIdeal.main_arg1) = m ((c.tc : Thread Cert.MatOut1Ideal.nD Cert.MatOut1Ideal.τ).loc Cert.MatOut1Ideal.main_arg1)) →
    ∃ (v0 : (c : Dev Cert.MatOut1Ideal.nD) → Buf (Elt Ideal) ((c.tc : Thread Cert.MatOut1Ideal.nD Cert.MatOut1Ideal.τ).loc Cert.MatOut1Ideal.main_v0)),
      θ_run (Cert.MatOut1Ideal.defs (F := Ideal)) (onTc (τ := Cert.MatOut1Ideal.τ) (Cert.MatOut1Ideal.main (F := Ideal))) ⟨m, fun _ => 0, g⟩ (fun r => ∀ c : Dev Cert.MatOut1Ideal.nD,
          r.2.mem ((c.tc : Thread Cert.MatOut1Ideal.nD Cert.MatOut1Ideal.τ).loc Cert.MatOut1Ideal.main_v0) = v0 c
          ∧ r.2.mem ((c.tc : Thread Cert.MatOut1Ideal.nD Cert.MatOut1Ideal.τ).loc Cert.MatOut1Ideal.main_arg0) = m ((c.tc : Thread Cert.MatOut1Ideal.nD Cert.MatOut1Ideal.τ).loc Cert.MatOut1Ideal.main_arg0)
          ∧ r.2.mem ((c.tc : Thread Cert.MatOut1Ideal.nD Cert.MatOut1Ideal.τ).loc Cert.MatOut1Ideal.main_arg1) = m ((c.tc : Thread Cert.MatOut1Ideal.nD Cert.MatOut1Ideal.τ).loc Cert.MatOut1Ideal.main_arg1))
      ∧ θ_run (Cert.MatOut1RefIdeal.defs (F := Ideal)) (onTc (τ := Cert.MatOut1RefIdeal.τ) (Cert.MatOut1RefIdeal.main (F := Ideal))) ⟨m', fun _ => 0, g'⟩ (fun r => ∀ c : Dev Cert.MatOut1RefIdeal.nD,
          r.2.mem ((c.tc : Thread Cert.MatOut1RefIdeal.nD Cert.MatOut1RefIdeal.τ).loc Cert.MatOut1RefIdeal.main_v3) = v0 c
          ∧ r.2.mem ((c.tc : Thread Cert.MatOut1RefIdeal.nD Cert.MatOut1RefIdeal.τ).loc Cert.MatOut1RefIdeal.main_arg0) = m' ((c.tc : Thread Cert.MatOut1RefIdeal.nD Cert.MatOut1RefIdeal.τ).loc Cert.MatOut1RefIdeal.main_arg0)
          ∧ r.2.mem ((c.tc : Thread Cert.MatOut1RefIdeal.nD Cert.MatOut1RefIdeal.τ).loc Cert.MatOut1RefIdeal.main_arg1) = m' ((c.tc : Thread Cert.MatOut1RefIdeal.nD Cert.MatOut1RefIdeal.τ).loc Cert.MatOut1RefIdeal.main_arg1))

def preserves_MatOut2_MatOut2Ideal : Prop :=
  True

def algebraic_MatOut2Ideal_MatOut2RefIdeal [hMatOut2Ideal : Cert.MatOut2Ideal.Facts] [hMatOut2RefIdeal : Cert.MatOut2RefIdeal.Facts] : Prop :=
  ∀ (m : (ℓ : Loc Cert.MatOut2Ideal.nD Cert.MatOut2Ideal.τ Cert.MatOut2Ideal.sig) → Buf (Elt Ideal) ℓ) (g : Dev Cert.MatOut2Ideal.nD → PrngReg)
    (m' : (ℓ : Loc Cert.MatOut2RefIdeal.nD Cert.MatOut2RefIdeal.τ Cert.MatOut2RefIdeal.sig) → Buf (Elt Ideal) ℓ) (g' : Dev Cert.MatOut2RefIdeal.nD → PrngReg), Pre_MatOut2Ideal m →
    (∀ c : Dev Cert.MatOut2Ideal.nD,
      m' ((c.tc : Thread Cert.MatOut2RefIdeal.nD Cert.MatOut2RefIdeal.τ).loc Cert.MatOut2RefIdeal.main_arg0) = m ((c.tc : Thread Cert.MatOut2Ideal.nD Cert.MatOut2Ideal.τ).loc Cert.MatOut2Ideal.main_arg0)
      ∧ m' ((c.tc : Thread Cert.MatOut2RefIdeal.nD Cert.MatOut2RefIdeal.τ).loc Cert.MatOut2RefIdeal.main_arg1) = m ((c.tc : Thread Cert.MatOut2Ideal.nD Cert.MatOut2Ideal.τ).loc Cert.MatOut2Ideal.main_arg1)) →
    ∃ (v0 : (c : Dev Cert.MatOut2Ideal.nD) → Buf (Elt Ideal) ((c.tc : Thread Cert.MatOut2Ideal.nD Cert.MatOut2Ideal.τ).loc Cert.MatOut2Ideal.main_v0)),
      θ_run (Cert.MatOut2Ideal.defs (F := Ideal)) (onTc (τ := Cert.MatOut2Ideal.τ) (Cert.MatOut2Ideal.main (F := Ideal))) ⟨m, fun _ => 0, g⟩ (fun r => ∀ c : Dev Cert.MatOut2Ideal.nD,
          r.2.mem ((c.tc : Thread Cert.MatOut2Ideal.nD Cert.MatOut2Ideal.τ).loc Cert.MatOut2Ideal.main_v0) = v0 c
          ∧ r.2.mem ((c.tc : Thread Cert.MatOut2Ideal.nD Cert.MatOut2Ideal.τ).loc Cert.MatOut2Ideal.main_arg0) = m ((c.tc : Thread Cert.MatOut2Ideal.nD Cert.MatOut2Ideal.τ).loc Cert.MatOut2Ideal.main_arg0)
          ∧ r.2.mem ((c.tc : Thread Cert.MatOut2Ideal.nD Cert.MatOut2Ideal.τ).loc Cert.MatOut2Ideal.main_arg1) = m ((c.tc : Thread Cert.MatOut2Ideal.nD Cert.MatOut2Ideal.τ).loc Cert.MatOut2Ideal.main_arg1))
      ∧ θ_run (Cert.MatOut2RefIdeal.defs (F := Ideal)) (onTc (τ := Cert.MatOut2RefIdeal.τ) (Cert.MatOut2RefIdeal.main (F := Ideal))) ⟨m', fun _ => 0, g'⟩ (fun r => ∀ c : Dev Cert.MatOut2RefIdeal.nD,
          r.2.mem ((c.tc : Thread Cert.MatOut2RefIdeal.nD Cert.MatOut2RefIdeal.τ).loc Cert.MatOut2RefIdeal.main_v3) = v0 c
          ∧ r.2.mem ((c.tc : Thread Cert.MatOut2RefIdeal.nD Cert.MatOut2RefIdeal.τ).loc Cert.MatOut2RefIdeal.main_arg0) = m' ((c.tc : Thread Cert.MatOut2RefIdeal.nD Cert.MatOut2RefIdeal.τ).loc Cert.MatOut2RefIdeal.main_arg0)
          ∧ r.2.mem ((c.tc : Thread Cert.MatOut2RefIdeal.nD Cert.MatOut2RefIdeal.τ).loc Cert.MatOut2RefIdeal.main_arg1) = m' ((c.tc : Thread Cert.MatOut2RefIdeal.nD Cert.MatOut2RefIdeal.τ).loc Cert.MatOut2RefIdeal.main_arg1))

def preserves_MatOut3_MatOut3Ideal : Prop :=
  True

def algebraic_MatOut3Ideal_MatOut3RefIdeal [hMatOut3Ideal : Cert.MatOut3Ideal.Facts] [hMatOut3RefIdeal : Cert.MatOut3RefIdeal.Facts] : Prop :=
  ∀ (m : (ℓ : Loc Cert.MatOut3Ideal.nD Cert.MatOut3Ideal.τ Cert.MatOut3Ideal.sig) → Buf (Elt Ideal) ℓ) (g : Dev Cert.MatOut3Ideal.nD → PrngReg)
    (m' : (ℓ : Loc Cert.MatOut3RefIdeal.nD Cert.MatOut3RefIdeal.τ Cert.MatOut3RefIdeal.sig) → Buf (Elt Ideal) ℓ) (g' : Dev Cert.MatOut3RefIdeal.nD → PrngReg), Pre_MatOut3Ideal m →
    (∀ c : Dev Cert.MatOut3Ideal.nD,
      m' ((c.tc : Thread Cert.MatOut3RefIdeal.nD Cert.MatOut3RefIdeal.τ).loc Cert.MatOut3RefIdeal.main_arg0) = m ((c.tc : Thread Cert.MatOut3Ideal.nD Cert.MatOut3Ideal.τ).loc Cert.MatOut3Ideal.main_arg0)
      ∧ m' ((c.tc : Thread Cert.MatOut3RefIdeal.nD Cert.MatOut3RefIdeal.τ).loc Cert.MatOut3RefIdeal.main_arg1) = m ((c.tc : Thread Cert.MatOut3Ideal.nD Cert.MatOut3Ideal.τ).loc Cert.MatOut3Ideal.main_arg1)) →
    ∃ (v0 : (c : Dev Cert.MatOut3Ideal.nD) → Buf (Elt Ideal) ((c.tc : Thread Cert.MatOut3Ideal.nD Cert.MatOut3Ideal.τ).loc Cert.MatOut3Ideal.main_v0)),
      θ_run (Cert.MatOut3Ideal.defs (F := Ideal)) (onTc (τ := Cert.MatOut3Ideal.τ) (Cert.MatOut3Ideal.main (F := Ideal))) ⟨m, fun _ => 0, g⟩ (fun r => ∀ c : Dev Cert.MatOut3Ideal.nD,
          r.2.mem ((c.tc : Thread Cert.MatOut3Ideal.nD Cert.MatOut3Ideal.τ).loc Cert.MatOut3Ideal.main_v0) = v0 c
          ∧ r.2.mem ((c.tc : Thread Cert.MatOut3Ideal.nD Cert.MatOut3Ideal.τ).loc Cert.MatOut3Ideal.main_arg0) = m ((c.tc : Thread Cert.MatOut3Ideal.nD Cert.MatOut3Ideal.τ).loc Cert.MatOut3Ideal.main_arg0)
          ∧ r.2.mem ((c.tc : Thread Cert.MatOut3Ideal.nD Cert.MatOut3Ideal.τ).loc Cert.MatOut3Ideal.main_arg1) = m ((c.tc : Thread Cert.MatOut3Ideal.nD Cert.MatOut3Ideal.τ).loc Cert.MatOut3Ideal.main_arg1))
      ∧ θ_run (Cert.MatOut3RefIdeal.defs (F := Ideal)) (onTc (τ := Cert.MatOut3RefIdeal.τ) (Cert.MatOut3RefIdeal.main (F := Ideal))) ⟨m', fun _ => 0, g'⟩ (fun r => ∀ c : Dev Cert.MatOut3RefIdeal.nD,
          r.2.mem ((c.tc : Thread Cert.MatOut3RefIdeal.nD Cert.MatOut3RefIdeal.τ).loc Cert.MatOut3RefIdeal.main_v3) = v0 c
          ∧ r.2.mem ((c.tc : Thread Cert.MatOut3RefIdeal.nD Cert.MatOut3RefIdeal.τ).loc Cert.MatOut3RefIdeal.main_arg0) = m' ((c.tc : Thread Cert.MatOut3RefIdeal.nD Cert.MatOut3RefIdeal.τ).loc Cert.MatOut3RefIdeal.main_arg0)
          ∧ r.2.mem ((c.tc : Thread Cert.MatOut3RefIdeal.nD Cert.MatOut3RefIdeal.τ).loc Cert.MatOut3RefIdeal.main_arg1) = m' ((c.tc : Thread Cert.MatOut3RefIdeal.nD Cert.MatOut3RefIdeal.τ).loc Cert.MatOut3RefIdeal.main_arg1))

def preserves_Mix0_Mix0Ideal : Prop :=
  True

def algebraic_Mix0Ideal_Mix0RefIdeal [hMix0Ideal : Cert.Mix0Ideal.Facts] [hMix0RefIdeal : Cert.Mix0RefIdeal.Facts] : Prop :=
  ∀ (m : (ℓ : Loc Cert.Mix0Ideal.nD Cert.Mix0Ideal.τ Cert.Mix0Ideal.sig) → Buf (Elt Ideal) ℓ) (g : Dev Cert.Mix0Ideal.nD → PrngReg)
    (m' : (ℓ : Loc Cert.Mix0RefIdeal.nD Cert.Mix0RefIdeal.τ Cert.Mix0RefIdeal.sig) → Buf (Elt Ideal) ℓ) (g' : Dev Cert.Mix0RefIdeal.nD → PrngReg), Pre_Mix0Ideal m →
    (∀ c : Dev Cert.Mix0Ideal.nD,
      m' ((c.tc : Thread Cert.Mix0RefIdeal.nD Cert.Mix0RefIdeal.τ).loc Cert.Mix0RefIdeal.main_arg0) = m ((c.tc : Thread Cert.Mix0Ideal.nD Cert.Mix0Ideal.τ).loc Cert.Mix0Ideal.main_arg0)
      ∧ m' ((c.tc : Thread Cert.Mix0RefIdeal.nD Cert.Mix0RefIdeal.τ).loc Cert.Mix0RefIdeal.main_arg1) = m ((c.tc : Thread Cert.Mix0Ideal.nD Cert.Mix0Ideal.τ).loc Cert.Mix0Ideal.main_arg1)
      ∧ m' ((c.tc : Thread Cert.Mix0RefIdeal.nD Cert.Mix0RefIdeal.τ).loc Cert.Mix0RefIdeal.main_arg2) = m ((c.tc : Thread Cert.Mix0Ideal.nD Cert.Mix0Ideal.τ).loc Cert.Mix0Ideal.main_arg2)
      ∧ m' ((c.tc : Thread Cert.Mix0RefIdeal.nD Cert.Mix0RefIdeal.τ).loc Cert.Mix0RefIdeal.main_arg3) = m ((c.tc : Thread Cert.Mix0Ideal.nD Cert.Mix0Ideal.τ).loc Cert.Mix0Ideal.main_arg3)
      ∧ m' ((c.tc : Thread Cert.Mix0RefIdeal.nD Cert.Mix0RefIdeal.τ).loc Cert.Mix0RefIdeal.main_arg4) = m ((c.tc : Thread Cert.Mix0Ideal.nD Cert.Mix0Ideal.τ).loc Cert.Mix0Ideal.main_arg4)
      ∧ m' ((c.tc : Thread Cert.Mix0RefIdeal.nD Cert.Mix0RefIdeal.τ).loc Cert.Mix0RefIdeal.main_arg5) = m ((c.tc : Thread Cert.Mix0Ideal.nD Cert.Mix0Ideal.τ).loc Cert.Mix0Ideal.main_arg5)
      ∧ m' ((c.tc : Thread Cert.Mix0RefIdeal.nD Cert.Mix0RefIdeal.τ).loc Cert.Mix0RefIdeal.main_arg6) = m ((c.tc : Thread Cert.Mix0Ideal.nD Cert.Mix0Ideal.τ).loc Cert.Mix0Ideal.main_arg6)
      ∧ m' ((c.tc : Thread Cert.Mix0RefIdeal.nD Cert.Mix0RefIdeal.τ).loc Cert.Mix0RefIdeal.main_arg7) = m ((c.tc : Thread Cert.Mix0Ideal.nD Cert.Mix0Ideal.τ).loc Cert.Mix0Ideal.main_arg7)
      ∧ m' ((c.tc : Thread Cert.Mix0RefIdeal.nD Cert.Mix0RefIdeal.τ).loc Cert.Mix0RefIdeal.main_arg8) = m ((c.tc : Thread Cert.Mix0Ideal.nD Cert.Mix0Ideal.τ).loc Cert.Mix0Ideal.main_arg8)
      ∧ m' ((c.tc : Thread Cert.Mix0RefIdeal.nD Cert.Mix0RefIdeal.τ).loc Cert.Mix0RefIdeal.main_arg9) = m ((c.tc : Thread Cert.Mix0Ideal.nD Cert.Mix0Ideal.τ).loc Cert.Mix0Ideal.main_arg9)) →
    ∃ (v0 : (c : Dev Cert.Mix0Ideal.nD) → Buf (Elt Ideal) ((c.tc : Thread Cert.Mix0Ideal.nD Cert.Mix0Ideal.τ).loc Cert.Mix0Ideal.main_v0)),
      θ_run (Cert.Mix0Ideal.defs (F := Ideal)) (onTc (τ := Cert.Mix0Ideal.τ) (Cert.Mix0Ideal.main (F := Ideal))) ⟨m, fun _ => 0, g⟩ (fun r => ∀ c : Dev Cert.Mix0Ideal.nD,
          r.2.mem ((c.tc : Thread Cert.Mix0Ideal.nD Cert.Mix0Ideal.τ).loc Cert.Mix0Ideal.main_v0) = v0 c
          ∧ r.2.mem ((c.tc : Thread Cert.Mix0Ideal.nD Cert.Mix0Ideal.τ).loc Cert.Mix0Ideal.main_arg0) = m ((c.tc : Thread Cert.Mix0Ideal.nD Cert.Mix0Ideal.τ).loc Cert.Mix0Ideal.main_arg0)
          ∧ r.2.mem ((c.tc : Thread Cert.Mix0Ideal.nD Cert.Mix0Ideal.τ).loc Cert.Mix0Ideal.main_arg1) = m ((c.tc : Thread Cert.Mix0Ideal.nD Cert.Mix0Ideal.τ).loc Cert.Mix0Ideal.main_arg1)
          ∧ r.2.mem ((c.tc : Thread Cert.Mix0Ideal.nD Cert.Mix0Ideal.τ).loc Cert.Mix0Ideal.main_arg2) = m ((c.tc : Thread Cert.Mix0Ideal.nD Cert.Mix0Ideal.τ).loc Cert.Mix0Ideal.main_arg2)
          ∧ r.2.mem ((c.tc : Thread Cert.Mix0Ideal.nD Cert.Mix0Ideal.τ).loc Cert.Mix0Ideal.main_arg3) = m ((c.tc : Thread Cert.Mix0Ideal.nD Cert.Mix0Ideal.τ).loc Cert.Mix0Ideal.main_arg3)
          ∧ r.2.mem ((c.tc : Thread Cert.Mix0Ideal.nD Cert.Mix0Ideal.τ).loc Cert.Mix0Ideal.main_arg4) = m ((c.tc : Thread Cert.Mix0Ideal.nD Cert.Mix0Ideal.τ).loc Cert.Mix0Ideal.main_arg4)
          ∧ r.2.mem ((c.tc : Thread Cert.Mix0Ideal.nD Cert.Mix0Ideal.τ).loc Cert.Mix0Ideal.main_arg5) = m ((c.tc : Thread Cert.Mix0Ideal.nD Cert.Mix0Ideal.τ).loc Cert.Mix0Ideal.main_arg5)
          ∧ r.2.mem ((c.tc : Thread Cert.Mix0Ideal.nD Cert.Mix0Ideal.τ).loc Cert.Mix0Ideal.main_arg6) = m ((c.tc : Thread Cert.Mix0Ideal.nD Cert.Mix0Ideal.τ).loc Cert.Mix0Ideal.main_arg6)
          ∧ r.2.mem ((c.tc : Thread Cert.Mix0Ideal.nD Cert.Mix0Ideal.τ).loc Cert.Mix0Ideal.main_arg7) = m ((c.tc : Thread Cert.Mix0Ideal.nD Cert.Mix0Ideal.τ).loc Cert.Mix0Ideal.main_arg7)
          ∧ r.2.mem ((c.tc : Thread Cert.Mix0Ideal.nD Cert.Mix0Ideal.τ).loc Cert.Mix0Ideal.main_arg8) = m ((c.tc : Thread Cert.Mix0Ideal.nD Cert.Mix0Ideal.τ).loc Cert.Mix0Ideal.main_arg8)
          ∧ r.2.mem ((c.tc : Thread Cert.Mix0Ideal.nD Cert.Mix0Ideal.τ).loc Cert.Mix0Ideal.main_arg9) = m ((c.tc : Thread Cert.Mix0Ideal.nD Cert.Mix0Ideal.τ).loc Cert.Mix0Ideal.main_arg9))
      ∧ θ_run (Cert.Mix0RefIdeal.defs (F := Ideal)) (onTc (τ := Cert.Mix0RefIdeal.τ) (Cert.Mix0RefIdeal.main (F := Ideal))) ⟨m', fun _ => 0, g'⟩ (fun r => ∀ c : Dev Cert.Mix0RefIdeal.nD,
          r.2.mem ((c.tc : Thread Cert.Mix0RefIdeal.nD Cert.Mix0RefIdeal.τ).loc Cert.Mix0RefIdeal.main_v42) = v0 c
          ∧ r.2.mem ((c.tc : Thread Cert.Mix0RefIdeal.nD Cert.Mix0RefIdeal.τ).loc Cert.Mix0RefIdeal.main_arg0) = m' ((c.tc : Thread Cert.Mix0RefIdeal.nD Cert.Mix0RefIdeal.τ).loc Cert.Mix0RefIdeal.main_arg0)
          ∧ r.2.mem ((c.tc : Thread Cert.Mix0RefIdeal.nD Cert.Mix0RefIdeal.τ).loc Cert.Mix0RefIdeal.main_arg1) = m' ((c.tc : Thread Cert.Mix0RefIdeal.nD Cert.Mix0RefIdeal.τ).loc Cert.Mix0RefIdeal.main_arg1)
          ∧ r.2.mem ((c.tc : Thread Cert.Mix0RefIdeal.nD Cert.Mix0RefIdeal.τ).loc Cert.Mix0RefIdeal.main_arg2) = m' ((c.tc : Thread Cert.Mix0RefIdeal.nD Cert.Mix0RefIdeal.τ).loc Cert.Mix0RefIdeal.main_arg2)
          ∧ r.2.mem ((c.tc : Thread Cert.Mix0RefIdeal.nD Cert.Mix0RefIdeal.τ).loc Cert.Mix0RefIdeal.main_arg3) = m' ((c.tc : Thread Cert.Mix0RefIdeal.nD Cert.Mix0RefIdeal.τ).loc Cert.Mix0RefIdeal.main_arg3)
          ∧ r.2.mem ((c.tc : Thread Cert.Mix0RefIdeal.nD Cert.Mix0RefIdeal.τ).loc Cert.Mix0RefIdeal.main_arg4) = m' ((c.tc : Thread Cert.Mix0RefIdeal.nD Cert.Mix0RefIdeal.τ).loc Cert.Mix0RefIdeal.main_arg4)
          ∧ r.2.mem ((c.tc : Thread Cert.Mix0RefIdeal.nD Cert.Mix0RefIdeal.τ).loc Cert.Mix0RefIdeal.main_arg5) = m' ((c.tc : Thread Cert.Mix0RefIdeal.nD Cert.Mix0RefIdeal.τ).loc Cert.Mix0RefIdeal.main_arg5)
          ∧ r.2.mem ((c.tc : Thread Cert.Mix0RefIdeal.nD Cert.Mix0RefIdeal.τ).loc Cert.Mix0RefIdeal.main_arg6) = m' ((c.tc : Thread Cert.Mix0RefIdeal.nD Cert.Mix0RefIdeal.τ).loc Cert.Mix0RefIdeal.main_arg6)
          ∧ r.2.mem ((c.tc : Thread Cert.Mix0RefIdeal.nD Cert.Mix0RefIdeal.τ).loc Cert.Mix0RefIdeal.main_arg7) = m' ((c.tc : Thread Cert.Mix0RefIdeal.nD Cert.Mix0RefIdeal.τ).loc Cert.Mix0RefIdeal.main_arg7)
          ∧ r.2.mem ((c.tc : Thread Cert.Mix0RefIdeal.nD Cert.Mix0RefIdeal.τ).loc Cert.Mix0RefIdeal.main_arg8) = m' ((c.tc : Thread Cert.Mix0RefIdeal.nD Cert.Mix0RefIdeal.τ).loc Cert.Mix0RefIdeal.main_arg8)
          ∧ r.2.mem ((c.tc : Thread Cert.Mix0RefIdeal.nD Cert.Mix0RefIdeal.τ).loc Cert.Mix0RefIdeal.main_arg9) = m' ((c.tc : Thread Cert.Mix0RefIdeal.nD Cert.Mix0RefIdeal.τ).loc Cert.Mix0RefIdeal.main_arg9))

def preserves_Mix1_Mix1Ideal : Prop :=
  True

def algebraic_Mix1Ideal_Mix1RefIdeal [hMix1Ideal : Cert.Mix1Ideal.Facts] [hMix1RefIdeal : Cert.Mix1RefIdeal.Facts] : Prop :=
  ∀ (m : (ℓ : Loc Cert.Mix1Ideal.nD Cert.Mix1Ideal.τ Cert.Mix1Ideal.sig) → Buf (Elt Ideal) ℓ) (g : Dev Cert.Mix1Ideal.nD → PrngReg)
    (m' : (ℓ : Loc Cert.Mix1RefIdeal.nD Cert.Mix1RefIdeal.τ Cert.Mix1RefIdeal.sig) → Buf (Elt Ideal) ℓ) (g' : Dev Cert.Mix1RefIdeal.nD → PrngReg), Pre_Mix1Ideal m →
    (∀ c : Dev Cert.Mix1Ideal.nD,
      m' ((c.tc : Thread Cert.Mix1RefIdeal.nD Cert.Mix1RefIdeal.τ).loc Cert.Mix1RefIdeal.main_arg0) = m ((c.tc : Thread Cert.Mix1Ideal.nD Cert.Mix1Ideal.τ).loc Cert.Mix1Ideal.main_arg0)
      ∧ m' ((c.tc : Thread Cert.Mix1RefIdeal.nD Cert.Mix1RefIdeal.τ).loc Cert.Mix1RefIdeal.main_arg1) = m ((c.tc : Thread Cert.Mix1Ideal.nD Cert.Mix1Ideal.τ).loc Cert.Mix1Ideal.main_arg1)
      ∧ m' ((c.tc : Thread Cert.Mix1RefIdeal.nD Cert.Mix1RefIdeal.τ).loc Cert.Mix1RefIdeal.main_arg2) = m ((c.tc : Thread Cert.Mix1Ideal.nD Cert.Mix1Ideal.τ).loc Cert.Mix1Ideal.main_arg2)
      ∧ m' ((c.tc : Thread Cert.Mix1RefIdeal.nD Cert.Mix1RefIdeal.τ).loc Cert.Mix1RefIdeal.main_arg3) = m ((c.tc : Thread Cert.Mix1Ideal.nD Cert.Mix1Ideal.τ).loc Cert.Mix1Ideal.main_arg3)
      ∧ m' ((c.tc : Thread Cert.Mix1RefIdeal.nD Cert.Mix1RefIdeal.τ).loc Cert.Mix1RefIdeal.main_arg4) = m ((c.tc : Thread Cert.Mix1Ideal.nD Cert.Mix1Ideal.τ).loc Cert.Mix1Ideal.main_arg4)
      ∧ m' ((c.tc : Thread Cert.Mix1RefIdeal.nD Cert.Mix1RefIdeal.τ).loc Cert.Mix1RefIdeal.main_arg5) = m ((c.tc : Thread Cert.Mix1Ideal.nD Cert.Mix1Ideal.τ).loc Cert.Mix1Ideal.main_arg5)
      ∧ m' ((c.tc : Thread Cert.Mix1RefIdeal.nD Cert.Mix1RefIdeal.τ).loc Cert.Mix1RefIdeal.main_arg6) = m ((c.tc : Thread Cert.Mix1Ideal.nD Cert.Mix1Ideal.τ).loc Cert.Mix1Ideal.main_arg6)
      ∧ m' ((c.tc : Thread Cert.Mix1RefIdeal.nD Cert.Mix1RefIdeal.τ).loc Cert.Mix1RefIdeal.main_arg7) = m ((c.tc : Thread Cert.Mix1Ideal.nD Cert.Mix1Ideal.τ).loc Cert.Mix1Ideal.main_arg7)
      ∧ m' ((c.tc : Thread Cert.Mix1RefIdeal.nD Cert.Mix1RefIdeal.τ).loc Cert.Mix1RefIdeal.main_arg8) = m ((c.tc : Thread Cert.Mix1Ideal.nD Cert.Mix1Ideal.τ).loc Cert.Mix1Ideal.main_arg8)
      ∧ m' ((c.tc : Thread Cert.Mix1RefIdeal.nD Cert.Mix1RefIdeal.τ).loc Cert.Mix1RefIdeal.main_arg9) = m ((c.tc : Thread Cert.Mix1Ideal.nD Cert.Mix1Ideal.τ).loc Cert.Mix1Ideal.main_arg9)) →
    ∃ (v0 : (c : Dev Cert.Mix1Ideal.nD) → Buf (Elt Ideal) ((c.tc : Thread Cert.Mix1Ideal.nD Cert.Mix1Ideal.τ).loc Cert.Mix1Ideal.main_v0)),
      θ_run (Cert.Mix1Ideal.defs (F := Ideal)) (onTc (τ := Cert.Mix1Ideal.τ) (Cert.Mix1Ideal.main (F := Ideal))) ⟨m, fun _ => 0, g⟩ (fun r => ∀ c : Dev Cert.Mix1Ideal.nD,
          r.2.mem ((c.tc : Thread Cert.Mix1Ideal.nD Cert.Mix1Ideal.τ).loc Cert.Mix1Ideal.main_v0) = v0 c
          ∧ r.2.mem ((c.tc : Thread Cert.Mix1Ideal.nD Cert.Mix1Ideal.τ).loc Cert.Mix1Ideal.main_arg0) = m ((c.tc : Thread Cert.Mix1Ideal.nD Cert.Mix1Ideal.τ).loc Cert.Mix1Ideal.main_arg0)
          ∧ r.2.mem ((c.tc : Thread Cert.Mix1Ideal.nD Cert.Mix1Ideal.τ).loc Cert.Mix1Ideal.main_arg1) = m ((c.tc : Thread Cert.Mix1Ideal.nD Cert.Mix1Ideal.τ).loc Cert.Mix1Ideal.main_arg1)
          ∧ r.2.mem ((c.tc : Thread Cert.Mix1Ideal.nD Cert.Mix1Ideal.τ).loc Cert.Mix1Ideal.main_arg2) = m ((c.tc : Thread Cert.Mix1Ideal.nD Cert.Mix1Ideal.τ).loc Cert.Mix1Ideal.main_arg2)
          ∧ r.2.mem ((c.tc : Thread Cert.Mix1Ideal.nD Cert.Mix1Ideal.τ).loc Cert.Mix1Ideal.main_arg3) = m ((c.tc : Thread Cert.Mix1Ideal.nD Cert.Mix1Ideal.τ).loc Cert.Mix1Ideal.main_arg3)
          ∧ r.2.mem ((c.tc : Thread Cert.Mix1Ideal.nD Cert.Mix1Ideal.τ).loc Cert.Mix1Ideal.main_arg4) = m ((c.tc : Thread Cert.Mix1Ideal.nD Cert.Mix1Ideal.τ).loc Cert.Mix1Ideal.main_arg4)
          ∧ r.2.mem ((c.tc : Thread Cert.Mix1Ideal.nD Cert.Mix1Ideal.τ).loc Cert.Mix1Ideal.main_arg5) = m ((c.tc : Thread Cert.Mix1Ideal.nD Cert.Mix1Ideal.τ).loc Cert.Mix1Ideal.main_arg5)
          ∧ r.2.mem ((c.tc : Thread Cert.Mix1Ideal.nD Cert.Mix1Ideal.τ).loc Cert.Mix1Ideal.main_arg6) = m ((c.tc : Thread Cert.Mix1Ideal.nD Cert.Mix1Ideal.τ).loc Cert.Mix1Ideal.main_arg6)
          ∧ r.2.mem ((c.tc : Thread Cert.Mix1Ideal.nD Cert.Mix1Ideal.τ).loc Cert.Mix1Ideal.main_arg7) = m ((c.tc : Thread Cert.Mix1Ideal.nD Cert.Mix1Ideal.τ).loc Cert.Mix1Ideal.main_arg7)
          ∧ r.2.mem ((c.tc : Thread Cert.Mix1Ideal.nD Cert.Mix1Ideal.τ).loc Cert.Mix1Ideal.main_arg8) = m ((c.tc : Thread Cert.Mix1Ideal.nD Cert.Mix1Ideal.τ).loc Cert.Mix1Ideal.main_arg8)
          ∧ r.2.mem ((c.tc : Thread Cert.Mix1Ideal.nD Cert.Mix1Ideal.τ).loc Cert.Mix1Ideal.main_arg9) = m ((c.tc : Thread Cert.Mix1Ideal.nD Cert.Mix1Ideal.τ).loc Cert.Mix1Ideal.main_arg9))
      ∧ θ_run (Cert.Mix1RefIdeal.defs (F := Ideal)) (onTc (τ := Cert.Mix1RefIdeal.τ) (Cert.Mix1RefIdeal.main (F := Ideal))) ⟨m', fun _ => 0, g'⟩ (fun r => ∀ c : Dev Cert.Mix1RefIdeal.nD,
          r.2.mem ((c.tc : Thread Cert.Mix1RefIdeal.nD Cert.Mix1RefIdeal.τ).loc Cert.Mix1RefIdeal.main_v42) = v0 c
          ∧ r.2.mem ((c.tc : Thread Cert.Mix1RefIdeal.nD Cert.Mix1RefIdeal.τ).loc Cert.Mix1RefIdeal.main_arg0) = m' ((c.tc : Thread Cert.Mix1RefIdeal.nD Cert.Mix1RefIdeal.τ).loc Cert.Mix1RefIdeal.main_arg0)
          ∧ r.2.mem ((c.tc : Thread Cert.Mix1RefIdeal.nD Cert.Mix1RefIdeal.τ).loc Cert.Mix1RefIdeal.main_arg1) = m' ((c.tc : Thread Cert.Mix1RefIdeal.nD Cert.Mix1RefIdeal.τ).loc Cert.Mix1RefIdeal.main_arg1)
          ∧ r.2.mem ((c.tc : Thread Cert.Mix1RefIdeal.nD Cert.Mix1RefIdeal.τ).loc Cert.Mix1RefIdeal.main_arg2) = m' ((c.tc : Thread Cert.Mix1RefIdeal.nD Cert.Mix1RefIdeal.τ).loc Cert.Mix1RefIdeal.main_arg2)
          ∧ r.2.mem ((c.tc : Thread Cert.Mix1RefIdeal.nD Cert.Mix1RefIdeal.τ).loc Cert.Mix1RefIdeal.main_arg3) = m' ((c.tc : Thread Cert.Mix1RefIdeal.nD Cert.Mix1RefIdeal.τ).loc Cert.Mix1RefIdeal.main_arg3)
          ∧ r.2.mem ((c.tc : Thread Cert.Mix1RefIdeal.nD Cert.Mix1RefIdeal.τ).loc Cert.Mix1RefIdeal.main_arg4) = m' ((c.tc : Thread Cert.Mix1RefIdeal.nD Cert.Mix1RefIdeal.τ).loc Cert.Mix1RefIdeal.main_arg4)
          ∧ r.2.mem ((c.tc : Thread Cert.Mix1RefIdeal.nD Cert.Mix1RefIdeal.τ).loc Cert.Mix1RefIdeal.main_arg5) = m' ((c.tc : Thread Cert.Mix1RefIdeal.nD Cert.Mix1RefIdeal.τ).loc Cert.Mix1RefIdeal.main_arg5)
          ∧ r.2.mem ((c.tc : Thread Cert.Mix1RefIdeal.nD Cert.Mix1RefIdeal.τ).loc Cert.Mix1RefIdeal.main_arg6) = m' ((c.tc : Thread Cert.Mix1RefIdeal.nD Cert.Mix1RefIdeal.τ).loc Cert.Mix1RefIdeal.main_arg6)
          ∧ r.2.mem ((c.tc : Thread Cert.Mix1RefIdeal.nD Cert.Mix1RefIdeal.τ).loc Cert.Mix1RefIdeal.main_arg7) = m' ((c.tc : Thread Cert.Mix1RefIdeal.nD Cert.Mix1RefIdeal.τ).loc Cert.Mix1RefIdeal.main_arg7)
          ∧ r.2.mem ((c.tc : Thread Cert.Mix1RefIdeal.nD Cert.Mix1RefIdeal.τ).loc Cert.Mix1RefIdeal.main_arg8) = m' ((c.tc : Thread Cert.Mix1RefIdeal.nD Cert.Mix1RefIdeal.τ).loc Cert.Mix1RefIdeal.main_arg8)
          ∧ r.2.mem ((c.tc : Thread Cert.Mix1RefIdeal.nD Cert.Mix1RefIdeal.τ).loc Cert.Mix1RefIdeal.main_arg9) = m' ((c.tc : Thread Cert.Mix1RefIdeal.nD Cert.Mix1RefIdeal.τ).loc Cert.Mix1RefIdeal.main_arg9))

def preserves_Mix2_Mix2Ideal : Prop :=
  True

def algebraic_Mix2Ideal_Mix2RefIdeal [hMix2Ideal : Cert.Mix2Ideal.Facts] [hMix2RefIdeal : Cert.Mix2RefIdeal.Facts] : Prop :=
  ∀ (m : (ℓ : Loc Cert.Mix2Ideal.nD Cert.Mix2Ideal.τ Cert.Mix2Ideal.sig) → Buf (Elt Ideal) ℓ) (g : Dev Cert.Mix2Ideal.nD → PrngReg)
    (m' : (ℓ : Loc Cert.Mix2RefIdeal.nD Cert.Mix2RefIdeal.τ Cert.Mix2RefIdeal.sig) → Buf (Elt Ideal) ℓ) (g' : Dev Cert.Mix2RefIdeal.nD → PrngReg), Pre_Mix2Ideal m →
    (∀ c : Dev Cert.Mix2Ideal.nD,
      m' ((c.tc : Thread Cert.Mix2RefIdeal.nD Cert.Mix2RefIdeal.τ).loc Cert.Mix2RefIdeal.main_arg0) = m ((c.tc : Thread Cert.Mix2Ideal.nD Cert.Mix2Ideal.τ).loc Cert.Mix2Ideal.main_arg0)
      ∧ m' ((c.tc : Thread Cert.Mix2RefIdeal.nD Cert.Mix2RefIdeal.τ).loc Cert.Mix2RefIdeal.main_arg1) = m ((c.tc : Thread Cert.Mix2Ideal.nD Cert.Mix2Ideal.τ).loc Cert.Mix2Ideal.main_arg1)
      ∧ m' ((c.tc : Thread Cert.Mix2RefIdeal.nD Cert.Mix2RefIdeal.τ).loc Cert.Mix2RefIdeal.main_arg2) = m ((c.tc : Thread Cert.Mix2Ideal.nD Cert.Mix2Ideal.τ).loc Cert.Mix2Ideal.main_arg2)
      ∧ m' ((c.tc : Thread Cert.Mix2RefIdeal.nD Cert.Mix2RefIdeal.τ).loc Cert.Mix2RefIdeal.main_arg3) = m ((c.tc : Thread Cert.Mix2Ideal.nD Cert.Mix2Ideal.τ).loc Cert.Mix2Ideal.main_arg3)
      ∧ m' ((c.tc : Thread Cert.Mix2RefIdeal.nD Cert.Mix2RefIdeal.τ).loc Cert.Mix2RefIdeal.main_arg4) = m ((c.tc : Thread Cert.Mix2Ideal.nD Cert.Mix2Ideal.τ).loc Cert.Mix2Ideal.main_arg4)
      ∧ m' ((c.tc : Thread Cert.Mix2RefIdeal.nD Cert.Mix2RefIdeal.τ).loc Cert.Mix2RefIdeal.main_arg5) = m ((c.tc : Thread Cert.Mix2Ideal.nD Cert.Mix2Ideal.τ).loc Cert.Mix2Ideal.main_arg5)
      ∧ m' ((c.tc : Thread Cert.Mix2RefIdeal.nD Cert.Mix2RefIdeal.τ).loc Cert.Mix2RefIdeal.main_arg6) = m ((c.tc : Thread Cert.Mix2Ideal.nD Cert.Mix2Ideal.τ).loc Cert.Mix2Ideal.main_arg6)
      ∧ m' ((c.tc : Thread Cert.Mix2RefIdeal.nD Cert.Mix2RefIdeal.τ).loc Cert.Mix2RefIdeal.main_arg7) = m ((c.tc : Thread Cert.Mix2Ideal.nD Cert.Mix2Ideal.τ).loc Cert.Mix2Ideal.main_arg7)
      ∧ m' ((c.tc : Thread Cert.Mix2RefIdeal.nD Cert.Mix2RefIdeal.τ).loc Cert.Mix2RefIdeal.main_arg8) = m ((c.tc : Thread Cert.Mix2Ideal.nD Cert.Mix2Ideal.τ).loc Cert.Mix2Ideal.main_arg8)
      ∧ m' ((c.tc : Thread Cert.Mix2RefIdeal.nD Cert.Mix2RefIdeal.τ).loc Cert.Mix2RefIdeal.main_arg9) = m ((c.tc : Thread Cert.Mix2Ideal.nD Cert.Mix2Ideal.τ).loc Cert.Mix2Ideal.main_arg9)) →
    ∃ (v0 : (c : Dev Cert.Mix2Ideal.nD) → Buf (Elt Ideal) ((c.tc : Thread Cert.Mix2Ideal.nD Cert.Mix2Ideal.τ).loc Cert.Mix2Ideal.main_v0)),
      θ_run (Cert.Mix2Ideal.defs (F := Ideal)) (onTc (τ := Cert.Mix2Ideal.τ) (Cert.Mix2Ideal.main (F := Ideal))) ⟨m, fun _ => 0, g⟩ (fun r => ∀ c : Dev Cert.Mix2Ideal.nD,
          r.2.mem ((c.tc : Thread Cert.Mix2Ideal.nD Cert.Mix2Ideal.τ).loc Cert.Mix2Ideal.main_v0) = v0 c
          ∧ r.2.mem ((c.tc : Thread Cert.Mix2Ideal.nD Cert.Mix2Ideal.τ).loc Cert.Mix2Ideal.main_arg0) = m ((c.tc : Thread Cert.Mix2Ideal.nD Cert.Mix2Ideal.τ).loc Cert.Mix2Ideal.main_arg0)
          ∧ r.2.mem ((c.tc : Thread Cert.Mix2Ideal.nD Cert.Mix2Ideal.τ).loc Cert.Mix2Ideal.main_arg1) = m ((c.tc : Thread Cert.Mix2Ideal.nD Cert.Mix2Ideal.τ).loc Cert.Mix2Ideal.main_arg1)
          ∧ r.2.mem ((c.tc : Thread Cert.Mix2Ideal.nD Cert.Mix2Ideal.τ).loc Cert.Mix2Ideal.main_arg2) = m ((c.tc : Thread Cert.Mix2Ideal.nD Cert.Mix2Ideal.τ).loc Cert.Mix2Ideal.main_arg2)
          ∧ r.2.mem ((c.tc : Thread Cert.Mix2Ideal.nD Cert.Mix2Ideal.τ).loc Cert.Mix2Ideal.main_arg3) = m ((c.tc : Thread Cert.Mix2Ideal.nD Cert.Mix2Ideal.τ).loc Cert.Mix2Ideal.main_arg3)
          ∧ r.2.mem ((c.tc : Thread Cert.Mix2Ideal.nD Cert.Mix2Ideal.τ).loc Cert.Mix2Ideal.main_arg4) = m ((c.tc : Thread Cert.Mix2Ideal.nD Cert.Mix2Ideal.τ).loc Cert.Mix2Ideal.main_arg4)
          ∧ r.2.mem ((c.tc : Thread Cert.Mix2Ideal.nD Cert.Mix2Ideal.τ).loc Cert.Mix2Ideal.main_arg5) = m ((c.tc : Thread Cert.Mix2Ideal.nD Cert.Mix2Ideal.τ).loc Cert.Mix2Ideal.main_arg5)
          ∧ r.2.mem ((c.tc : Thread Cert.Mix2Ideal.nD Cert.Mix2Ideal.τ).loc Cert.Mix2Ideal.main_arg6) = m ((c.tc : Thread Cert.Mix2Ideal.nD Cert.Mix2Ideal.τ).loc Cert.Mix2Ideal.main_arg6)
          ∧ r.2.mem ((c.tc : Thread Cert.Mix2Ideal.nD Cert.Mix2Ideal.τ).loc Cert.Mix2Ideal.main_arg7) = m ((c.tc : Thread Cert.Mix2Ideal.nD Cert.Mix2Ideal.τ).loc Cert.Mix2Ideal.main_arg7)
          ∧ r.2.mem ((c.tc : Thread Cert.Mix2Ideal.nD Cert.Mix2Ideal.τ).loc Cert.Mix2Ideal.main_arg8) = m ((c.tc : Thread Cert.Mix2Ideal.nD Cert.Mix2Ideal.τ).loc Cert.Mix2Ideal.main_arg8)
          ∧ r.2.mem ((c.tc : Thread Cert.Mix2Ideal.nD Cert.Mix2Ideal.τ).loc Cert.Mix2Ideal.main_arg9) = m ((c.tc : Thread Cert.Mix2Ideal.nD Cert.Mix2Ideal.τ).loc Cert.Mix2Ideal.main_arg9))
      ∧ θ_run (Cert.Mix2RefIdeal.defs (F := Ideal)) (onTc (τ := Cert.Mix2RefIdeal.τ) (Cert.Mix2RefIdeal.main (F := Ideal))) ⟨m', fun _ => 0, g'⟩ (fun r => ∀ c : Dev Cert.Mix2RefIdeal.nD,
          r.2.mem ((c.tc : Thread Cert.Mix2RefIdeal.nD Cert.Mix2RefIdeal.τ).loc Cert.Mix2RefIdeal.main_v42) = v0 c
          ∧ r.2.mem ((c.tc : Thread Cert.Mix2RefIdeal.nD Cert.Mix2RefIdeal.τ).loc Cert.Mix2RefIdeal.main_arg0) = m' ((c.tc : Thread Cert.Mix2RefIdeal.nD Cert.Mix2RefIdeal.τ).loc Cert.Mix2RefIdeal.main_arg0)
          ∧ r.2.mem ((c.tc : Thread Cert.Mix2RefIdeal.nD Cert.Mix2RefIdeal.τ).loc Cert.Mix2RefIdeal.main_arg1) = m' ((c.tc : Thread Cert.Mix2RefIdeal.nD Cert.Mix2RefIdeal.τ).loc Cert.Mix2RefIdeal.main_arg1)
          ∧ r.2.mem ((c.tc : Thread Cert.Mix2RefIdeal.nD Cert.Mix2RefIdeal.τ).loc Cert.Mix2RefIdeal.main_arg2) = m' ((c.tc : Thread Cert.Mix2RefIdeal.nD Cert.Mix2RefIdeal.τ).loc Cert.Mix2RefIdeal.main_arg2)
          ∧ r.2.mem ((c.tc : Thread Cert.Mix2RefIdeal.nD Cert.Mix2RefIdeal.τ).loc Cert.Mix2RefIdeal.main_arg3) = m' ((c.tc : Thread Cert.Mix2RefIdeal.nD Cert.Mix2RefIdeal.τ).loc Cert.Mix2RefIdeal.main_arg3)
          ∧ r.2.mem ((c.tc : Thread Cert.Mix2RefIdeal.nD Cert.Mix2RefIdeal.τ).loc Cert.Mix2RefIdeal.main_arg4) = m' ((c.tc : Thread Cert.Mix2RefIdeal.nD Cert.Mix2RefIdeal.τ).loc Cert.Mix2RefIdeal.main_arg4)
          ∧ r.2.mem ((c.tc : Thread Cert.Mix2RefIdeal.nD Cert.Mix2RefIdeal.τ).loc Cert.Mix2RefIdeal.main_arg5) = m' ((c.tc : Thread Cert.Mix2RefIdeal.nD Cert.Mix2RefIdeal.τ).loc Cert.Mix2RefIdeal.main_arg5)
          ∧ r.2.mem ((c.tc : Thread Cert.Mix2RefIdeal.nD Cert.Mix2RefIdeal.τ).loc Cert.Mix2RefIdeal.main_arg6) = m' ((c.tc : Thread Cert.Mix2RefIdeal.nD Cert.Mix2RefIdeal.τ).loc Cert.Mix2RefIdeal.main_arg6)
          ∧ r.2.mem ((c.tc : Thread Cert.Mix2RefIdeal.nD Cert.Mix2RefIdeal.τ).loc Cert.Mix2RefIdeal.main_arg7) = m' ((c.tc : Thread Cert.Mix2RefIdeal.nD Cert.Mix2RefIdeal.τ).loc Cert.Mix2RefIdeal.main_arg7)
          ∧ r.2.mem ((c.tc : Thread Cert.Mix2RefIdeal.nD Cert.Mix2RefIdeal.τ).loc Cert.Mix2RefIdeal.main_arg8) = m' ((c.tc : Thread Cert.Mix2RefIdeal.nD Cert.Mix2RefIdeal.τ).loc Cert.Mix2RefIdeal.main_arg8)
          ∧ r.2.mem ((c.tc : Thread Cert.Mix2RefIdeal.nD Cert.Mix2RefIdeal.τ).loc Cert.Mix2RefIdeal.main_arg9) = m' ((c.tc : Thread Cert.Mix2RefIdeal.nD Cert.Mix2RefIdeal.τ).loc Cert.Mix2RefIdeal.main_arg9))

def preserves_Mix3_Mix3Ideal : Prop :=
  True

def algebraic_Mix3Ideal_Mix3RefIdeal [hMix3Ideal : Cert.Mix3Ideal.Facts] [hMix3RefIdeal : Cert.Mix3RefIdeal.Facts] : Prop :=
  ∀ (m : (ℓ : Loc Cert.Mix3Ideal.nD Cert.Mix3Ideal.τ Cert.Mix3Ideal.sig) → Buf (Elt Ideal) ℓ) (g : Dev Cert.Mix3Ideal.nD → PrngReg)
    (m' : (ℓ : Loc Cert.Mix3RefIdeal.nD Cert.Mix3RefIdeal.τ Cert.Mix3RefIdeal.sig) → Buf (Elt Ideal) ℓ) (g' : Dev Cert.Mix3RefIdeal.nD → PrngReg), Pre_Mix3Ideal m →
    (∀ c : Dev Cert.Mix3Ideal.nD,
      m' ((c.tc : Thread Cert.Mix3RefIdeal.nD Cert.Mix3RefIdeal.τ).loc Cert.Mix3RefIdeal.main_arg0) = m ((c.tc : Thread Cert.Mix3Ideal.nD Cert.Mix3Ideal.τ).loc Cert.Mix3Ideal.main_arg0)
      ∧ m' ((c.tc : Thread Cert.Mix3RefIdeal.nD Cert.Mix3RefIdeal.τ).loc Cert.Mix3RefIdeal.main_arg1) = m ((c.tc : Thread Cert.Mix3Ideal.nD Cert.Mix3Ideal.τ).loc Cert.Mix3Ideal.main_arg1)
      ∧ m' ((c.tc : Thread Cert.Mix3RefIdeal.nD Cert.Mix3RefIdeal.τ).loc Cert.Mix3RefIdeal.main_arg2) = m ((c.tc : Thread Cert.Mix3Ideal.nD Cert.Mix3Ideal.τ).loc Cert.Mix3Ideal.main_arg2)
      ∧ m' ((c.tc : Thread Cert.Mix3RefIdeal.nD Cert.Mix3RefIdeal.τ).loc Cert.Mix3RefIdeal.main_arg3) = m ((c.tc : Thread Cert.Mix3Ideal.nD Cert.Mix3Ideal.τ).loc Cert.Mix3Ideal.main_arg3)
      ∧ m' ((c.tc : Thread Cert.Mix3RefIdeal.nD Cert.Mix3RefIdeal.τ).loc Cert.Mix3RefIdeal.main_arg4) = m ((c.tc : Thread Cert.Mix3Ideal.nD Cert.Mix3Ideal.τ).loc Cert.Mix3Ideal.main_arg4)
      ∧ m' ((c.tc : Thread Cert.Mix3RefIdeal.nD Cert.Mix3RefIdeal.τ).loc Cert.Mix3RefIdeal.main_arg5) = m ((c.tc : Thread Cert.Mix3Ideal.nD Cert.Mix3Ideal.τ).loc Cert.Mix3Ideal.main_arg5)
      ∧ m' ((c.tc : Thread Cert.Mix3RefIdeal.nD Cert.Mix3RefIdeal.τ).loc Cert.Mix3RefIdeal.main_arg6) = m ((c.tc : Thread Cert.Mix3Ideal.nD Cert.Mix3Ideal.τ).loc Cert.Mix3Ideal.main_arg6)
      ∧ m' ((c.tc : Thread Cert.Mix3RefIdeal.nD Cert.Mix3RefIdeal.τ).loc Cert.Mix3RefIdeal.main_arg7) = m ((c.tc : Thread Cert.Mix3Ideal.nD Cert.Mix3Ideal.τ).loc Cert.Mix3Ideal.main_arg7)
      ∧ m' ((c.tc : Thread Cert.Mix3RefIdeal.nD Cert.Mix3RefIdeal.τ).loc Cert.Mix3RefIdeal.main_arg8) = m ((c.tc : Thread Cert.Mix3Ideal.nD Cert.Mix3Ideal.τ).loc Cert.Mix3Ideal.main_arg8)
      ∧ m' ((c.tc : Thread Cert.Mix3RefIdeal.nD Cert.Mix3RefIdeal.τ).loc Cert.Mix3RefIdeal.main_arg9) = m ((c.tc : Thread Cert.Mix3Ideal.nD Cert.Mix3Ideal.τ).loc Cert.Mix3Ideal.main_arg9)) →
    ∃ (v0 : (c : Dev Cert.Mix3Ideal.nD) → Buf (Elt Ideal) ((c.tc : Thread Cert.Mix3Ideal.nD Cert.Mix3Ideal.τ).loc Cert.Mix3Ideal.main_v0)),
      θ_run (Cert.Mix3Ideal.defs (F := Ideal)) (onTc (τ := Cert.Mix3Ideal.τ) (Cert.Mix3Ideal.main (F := Ideal))) ⟨m, fun _ => 0, g⟩ (fun r => ∀ c : Dev Cert.Mix3Ideal.nD,
          r.2.mem ((c.tc : Thread Cert.Mix3Ideal.nD Cert.Mix3Ideal.τ).loc Cert.Mix3Ideal.main_v0) = v0 c
          ∧ r.2.mem ((c.tc : Thread Cert.Mix3Ideal.nD Cert.Mix3Ideal.τ).loc Cert.Mix3Ideal.main_arg0) = m ((c.tc : Thread Cert.Mix3Ideal.nD Cert.Mix3Ideal.τ).loc Cert.Mix3Ideal.main_arg0)
          ∧ r.2.mem ((c.tc : Thread Cert.Mix3Ideal.nD Cert.Mix3Ideal.τ).loc Cert.Mix3Ideal.main_arg1) = m ((c.tc : Thread Cert.Mix3Ideal.nD Cert.Mix3Ideal.τ).loc Cert.Mix3Ideal.main_arg1)
          ∧ r.2.mem ((c.tc : Thread Cert.Mix3Ideal.nD Cert.Mix3Ideal.τ).loc Cert.Mix3Ideal.main_arg2) = m ((c.tc : Thread Cert.Mix3Ideal.nD Cert.Mix3Ideal.τ).loc Cert.Mix3Ideal.main_arg2)
          ∧ r.2.mem ((c.tc : Thread Cert.Mix3Ideal.nD Cert.Mix3Ideal.τ).loc Cert.Mix3Ideal.main_arg3) = m ((c.tc : Thread Cert.Mix3Ideal.nD Cert.Mix3Ideal.τ).loc Cert.Mix3Ideal.main_arg3)
          ∧ r.2.mem ((c.tc : Thread Cert.Mix3Ideal.nD Cert.Mix3Ideal.τ).loc Cert.Mix3Ideal.main_arg4) = m ((c.tc : Thread Cert.Mix3Ideal.nD Cert.Mix3Ideal.τ).loc Cert.Mix3Ideal.main_arg4)
          ∧ r.2.mem ((c.tc : Thread Cert.Mix3Ideal.nD Cert.Mix3Ideal.τ).loc Cert.Mix3Ideal.main_arg5) = m ((c.tc : Thread Cert.Mix3Ideal.nD Cert.Mix3Ideal.τ).loc Cert.Mix3Ideal.main_arg5)
          ∧ r.2.mem ((c.tc : Thread Cert.Mix3Ideal.nD Cert.Mix3Ideal.τ).loc Cert.Mix3Ideal.main_arg6) = m ((c.tc : Thread Cert.Mix3Ideal.nD Cert.Mix3Ideal.τ).loc Cert.Mix3Ideal.main_arg6)
          ∧ r.2.mem ((c.tc : Thread Cert.Mix3Ideal.nD Cert.Mix3Ideal.τ).loc Cert.Mix3Ideal.main_arg7) = m ((c.tc : Thread Cert.Mix3Ideal.nD Cert.Mix3Ideal.τ).loc Cert.Mix3Ideal.main_arg7)
          ∧ r.2.mem ((c.tc : Thread Cert.Mix3Ideal.nD Cert.Mix3Ideal.τ).loc Cert.Mix3Ideal.main_arg8) = m ((c.tc : Thread Cert.Mix3Ideal.nD Cert.Mix3Ideal.τ).loc Cert.Mix3Ideal.main_arg8)
          ∧ r.2.mem ((c.tc : Thread Cert.Mix3Ideal.nD Cert.Mix3Ideal.τ).loc Cert.Mix3Ideal.main_arg9) = m ((c.tc : Thread Cert.Mix3Ideal.nD Cert.Mix3Ideal.τ).loc Cert.Mix3Ideal.main_arg9))
      ∧ θ_run (Cert.Mix3RefIdeal.defs (F := Ideal)) (onTc (τ := Cert.Mix3RefIdeal.τ) (Cert.Mix3RefIdeal.main (F := Ideal))) ⟨m', fun _ => 0, g'⟩ (fun r => ∀ c : Dev Cert.Mix3RefIdeal.nD,
          r.2.mem ((c.tc : Thread Cert.Mix3RefIdeal.nD Cert.Mix3RefIdeal.τ).loc Cert.Mix3RefIdeal.main_v42) = v0 c
          ∧ r.2.mem ((c.tc : Thread Cert.Mix3RefIdeal.nD Cert.Mix3RefIdeal.τ).loc Cert.Mix3RefIdeal.main_arg0) = m' ((c.tc : Thread Cert.Mix3RefIdeal.nD Cert.Mix3RefIdeal.τ).loc Cert.Mix3RefIdeal.main_arg0)
          ∧ r.2.mem ((c.tc : Thread Cert.Mix3RefIdeal.nD Cert.Mix3RefIdeal.τ).loc Cert.Mix3RefIdeal.main_arg1) = m' ((c.tc : Thread Cert.Mix3RefIdeal.nD Cert.Mix3RefIdeal.τ).loc Cert.Mix3RefIdeal.main_arg1)
          ∧ r.2.mem ((c.tc : Thread Cert.Mix3RefIdeal.nD Cert.Mix3RefIdeal.τ).loc Cert.Mix3RefIdeal.main_arg2) = m' ((c.tc : Thread Cert.Mix3RefIdeal.nD Cert.Mix3RefIdeal.τ).loc Cert.Mix3RefIdeal.main_arg2)
          ∧ r.2.mem ((c.tc : Thread Cert.Mix3RefIdeal.nD Cert.Mix3RefIdeal.τ).loc Cert.Mix3RefIdeal.main_arg3) = m' ((c.tc : Thread Cert.Mix3RefIdeal.nD Cert.Mix3RefIdeal.τ).loc Cert.Mix3RefIdeal.main_arg3)
          ∧ r.2.mem ((c.tc : Thread Cert.Mix3RefIdeal.nD Cert.Mix3RefIdeal.τ).loc Cert.Mix3RefIdeal.main_arg4) = m' ((c.tc : Thread Cert.Mix3RefIdeal.nD Cert.Mix3RefIdeal.τ).loc Cert.Mix3RefIdeal.main_arg4)
          ∧ r.2.mem ((c.tc : Thread Cert.Mix3RefIdeal.nD Cert.Mix3RefIdeal.τ).loc Cert.Mix3RefIdeal.main_arg5) = m' ((c.tc : Thread Cert.Mix3RefIdeal.nD Cert.Mix3RefIdeal.τ).loc Cert.Mix3RefIdeal.main_arg5)
          ∧ r.2.mem ((c.tc : Thread Cert.Mix3RefIdeal.nD Cert.Mix3RefIdeal.τ).loc Cert.Mix3RefIdeal.main_arg6) = m' ((c.tc : Thread Cert.Mix3RefIdeal.nD Cert.Mix3RefIdeal.τ).loc Cert.Mix3RefIdeal.main_arg6)
          ∧ r.2.mem ((c.tc : Thread Cert.Mix3RefIdeal.nD Cert.Mix3RefIdeal.τ).loc Cert.Mix3RefIdeal.main_arg7) = m' ((c.tc : Thread Cert.Mix3RefIdeal.nD Cert.Mix3RefIdeal.τ).loc Cert.Mix3RefIdeal.main_arg7)
          ∧ r.2.mem ((c.tc : Thread Cert.Mix3RefIdeal.nD Cert.Mix3RefIdeal.τ).loc Cert.Mix3RefIdeal.main_arg8) = m' ((c.tc : Thread Cert.Mix3RefIdeal.nD Cert.Mix3RefIdeal.τ).loc Cert.Mix3RefIdeal.main_arg8)
          ∧ r.2.mem ((c.tc : Thread Cert.Mix3RefIdeal.nD Cert.Mix3RefIdeal.τ).loc Cert.Mix3RefIdeal.main_arg9) = m' ((c.tc : Thread Cert.Mix3RefIdeal.nD Cert.Mix3RefIdeal.τ).loc Cert.Mix3RefIdeal.main_arg9))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hDenseDown : Cert.DenseDown.Facts) (hDenseDownIdeal : Cert.DenseDownIdeal.Facts) (hDenseDownRefIdeal : Cert.DenseDownRefIdeal.Facts) (hDenseUp : Cert.DenseUp.Facts) (hDenseUpIdeal : Cert.DenseUpIdeal.Facts) (hDenseUpRefIdeal : Cert.DenseUpRefIdeal.Facts) (hMatIn0 : Cert.MatIn0.Facts) (hMatIn0Ideal : Cert.MatIn0Ideal.Facts) (hMatIn0RefIdeal : Cert.MatIn0RefIdeal.Facts) (hMatIn1 : Cert.MatIn1.Facts) (hMatIn1Ideal : Cert.MatIn1Ideal.Facts) (hMatIn1RefIdeal : Cert.MatIn1RefIdeal.Facts) (hMatIn2 : Cert.MatIn2.Facts) (hMatIn2Ideal : Cert.MatIn2Ideal.Facts) (hMatIn2RefIdeal : Cert.MatIn2RefIdeal.Facts) (hMatIn3 : Cert.MatIn3.Facts) (hMatIn3Ideal : Cert.MatIn3Ideal.Facts) (hMatIn3RefIdeal : Cert.MatIn3RefIdeal.Facts) (hMatOut0 : Cert.MatOut0.Facts) (hMatOut0Ideal : Cert.MatOut0Ideal.Facts) (hMatOut0RefIdeal : Cert.MatOut0RefIdeal.Facts) (hMatOut1 : Cert.MatOut1.Facts) (hMatOut1Ideal : Cert.MatOut1Ideal.Facts) (hMatOut1RefIdeal : Cert.MatOut1RefIdeal.Facts) (hMatOut2 : Cert.MatOut2.Facts) (hMatOut2Ideal : Cert.MatOut2Ideal.Facts) (hMatOut2RefIdeal : Cert.MatOut2RefIdeal.Facts) (hMatOut3 : Cert.MatOut3.Facts) (hMatOut3Ideal : Cert.MatOut3Ideal.Facts) (hMatOut3RefIdeal : Cert.MatOut3RefIdeal.Facts) (hMix0 : Cert.Mix0.Facts) (hMix0Ideal : Cert.Mix0Ideal.Facts) (hMix0RefIdeal : Cert.Mix0RefIdeal.Facts) (hMix1 : Cert.Mix1.Facts) (hMix1Ideal : Cert.Mix1Ideal.Facts) (hMix1RefIdeal : Cert.Mix1RefIdeal.Facts) (hMix2 : Cert.Mix2.Facts) (hMix2Ideal : Cert.Mix2Ideal.Facts) (hMix2RefIdeal : Cert.Mix2RefIdeal.Facts) (hMix3 : Cert.Mix3.Facts) (hMix3Ideal : Cert.Mix3Ideal.Facts) (hMix3RefIdeal : Cert.Mix3RefIdeal.Facts) (hPre_finite : Cert.Pre_finite.Facts) (hPre_down_tables : Cert.Pre_down_tables.Facts) (hPre_up_tables : Cert.Pre_up_tables.Facts) (hPre_dense_down_tables : Cert.Pre_dense_down_tables.Facts) (hPre_dense_up_tables : Cert.Pre_dense_up_tables.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown) (hPre_down_tables := hPre_down_tables)
    ∧ quiescent_DownIdeal (hDownIdeal := hDownIdeal) (hPre_down_tables := hPre_down_tables)
    ∧ quiescent_DownRefIdeal (hDownRefIdeal := hDownRefIdeal)
    ∧ quiescent_DownRefIdeal_pre_down_tables (hDownRefIdeal := hDownRefIdeal) (hPre_down_tables := hPre_down_tables)
    ∧ quiescent_Up (hUp := hUp) (hPre_up_tables := hPre_up_tables)
    ∧ quiescent_UpIdeal (hUpIdeal := hUpIdeal) (hPre_up_tables := hPre_up_tables)
    ∧ quiescent_UpRefIdeal (hUpRefIdeal := hUpRefIdeal)
    ∧ quiescent_UpRefIdeal_pre_up_tables (hUpRefIdeal := hUpRefIdeal) (hPre_up_tables := hPre_up_tables)
    ∧ quiescent_DenseDown (hDenseDown := hDenseDown) (hPre_dense_down_tables := hPre_dense_down_tables)
    ∧ quiescent_DenseDownIdeal (hDenseDownIdeal := hDenseDownIdeal) (hPre_dense_down_tables := hPre_dense_down_tables)
    ∧ quiescent_DenseDownRefIdeal (hDenseDownRefIdeal := hDenseDownRefIdeal)
    ∧ quiescent_DenseDownRefIdeal_pre_dense_down_tables (hDenseDownRefIdeal := hDenseDownRefIdeal) (hPre_dense_down_tables := hPre_dense_down_tables)
    ∧ quiescent_DenseUp (hDenseUp := hDenseUp) (hPre_dense_up_tables := hPre_dense_up_tables)
    ∧ quiescent_DenseUpIdeal (hDenseUpIdeal := hDenseUpIdeal) (hPre_dense_up_tables := hPre_dense_up_tables)
    ∧ quiescent_DenseUpRefIdeal (hDenseUpRefIdeal := hDenseUpRefIdeal)
    ∧ quiescent_DenseUpRefIdeal_pre_dense_up_tables (hDenseUpRefIdeal := hDenseUpRefIdeal) (hPre_dense_up_tables := hPre_dense_up_tables)
    ∧ quiescent_MatIn0 (hMatIn0 := hMatIn0)
    ∧ quiescent_MatIn0Ideal (hMatIn0Ideal := hMatIn0Ideal)
    ∧ quiescent_MatIn0RefIdeal (hMatIn0RefIdeal := hMatIn0RefIdeal)
    ∧ quiescent_MatIn1 (hMatIn1 := hMatIn1)
    ∧ quiescent_MatIn1Ideal (hMatIn1Ideal := hMatIn1Ideal)
    ∧ quiescent_MatIn1RefIdeal (hMatIn1RefIdeal := hMatIn1RefIdeal)
    ∧ quiescent_MatIn2 (hMatIn2 := hMatIn2)
    ∧ quiescent_MatIn2Ideal (hMatIn2Ideal := hMatIn2Ideal)
    ∧ quiescent_MatIn2RefIdeal (hMatIn2RefIdeal := hMatIn2RefIdeal)
    ∧ quiescent_MatIn3 (hMatIn3 := hMatIn3)
    ∧ quiescent_MatIn3Ideal (hMatIn3Ideal := hMatIn3Ideal)
    ∧ quiescent_MatIn3RefIdeal (hMatIn3RefIdeal := hMatIn3RefIdeal)
    ∧ quiescent_MatOut0 (hMatOut0 := hMatOut0)
    ∧ quiescent_MatOut0Ideal (hMatOut0Ideal := hMatOut0Ideal)
    ∧ quiescent_MatOut0RefIdeal (hMatOut0RefIdeal := hMatOut0RefIdeal)
    ∧ quiescent_MatOut1 (hMatOut1 := hMatOut1)
    ∧ quiescent_MatOut1Ideal (hMatOut1Ideal := hMatOut1Ideal)
    ∧ quiescent_MatOut1RefIdeal (hMatOut1RefIdeal := hMatOut1RefIdeal)
    ∧ quiescent_MatOut2 (hMatOut2 := hMatOut2)
    ∧ quiescent_MatOut2Ideal (hMatOut2Ideal := hMatOut2Ideal)
    ∧ quiescent_MatOut2RefIdeal (hMatOut2RefIdeal := hMatOut2RefIdeal)
    ∧ quiescent_MatOut3 (hMatOut3 := hMatOut3)
    ∧ quiescent_MatOut3Ideal (hMatOut3Ideal := hMatOut3Ideal)
    ∧ quiescent_MatOut3RefIdeal (hMatOut3RefIdeal := hMatOut3RefIdeal)
    ∧ quiescent_Mix0 (hMix0 := hMix0)
    ∧ quiescent_Mix0Ideal (hMix0Ideal := hMix0Ideal)
    ∧ quiescent_Mix0RefIdeal (hMix0RefIdeal := hMix0RefIdeal)
    ∧ quiescent_Mix1 (hMix1 := hMix1)
    ∧ quiescent_Mix1Ideal (hMix1Ideal := hMix1Ideal)
    ∧ quiescent_Mix1RefIdeal (hMix1RefIdeal := hMix1RefIdeal)
    ∧ quiescent_Mix2 (hMix2 := hMix2)
    ∧ quiescent_Mix2Ideal (hMix2Ideal := hMix2Ideal)
    ∧ quiescent_Mix2RefIdeal (hMix2RefIdeal := hMix2RefIdeal)
    ∧ quiescent_Mix3 (hMix3 := hMix3)
    ∧ quiescent_Mix3Ideal (hMix3Ideal := hMix3Ideal)
    ∧ quiescent_Mix3RefIdeal (hMix3RefIdeal := hMix3RefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownRefIdeal (hDownIdeal := hDownIdeal) (hDownRefIdeal := hDownRefIdeal) (hPre_down_tables := hPre_down_tables)
    ∧ preserves_Up_UpIdeal
    ∧ algebraic_UpIdeal_UpRefIdeal (hUpIdeal := hUpIdeal) (hUpRefIdeal := hUpRefIdeal) (hPre_up_tables := hPre_up_tables)
    ∧ preserves_DenseDown_DenseDownIdeal
    ∧ algebraic_DenseDownIdeal_DenseDownRefIdeal (hDenseDownIdeal := hDenseDownIdeal) (hDenseDownRefIdeal := hDenseDownRefIdeal) (hPre_dense_down_tables := hPre_dense_down_tables)
    ∧ preserves_DenseUp_DenseUpIdeal
    ∧ algebraic_DenseUpIdeal_DenseUpRefIdeal (hDenseUpIdeal := hDenseUpIdeal) (hDenseUpRefIdeal := hDenseUpRefIdeal) (hPre_dense_up_tables := hPre_dense_up_tables)
    ∧ preserves_MatIn0_MatIn0Ideal
    ∧ algebraic_MatIn0Ideal_MatIn0RefIdeal (hMatIn0Ideal := hMatIn0Ideal) (hMatIn0RefIdeal := hMatIn0RefIdeal)
    ∧ preserves_MatIn1_MatIn1Ideal
    ∧ algebraic_MatIn1Ideal_MatIn1RefIdeal (hMatIn1Ideal := hMatIn1Ideal) (hMatIn1RefIdeal := hMatIn1RefIdeal)
    ∧ preserves_MatIn2_MatIn2Ideal
    ∧ algebraic_MatIn2Ideal_MatIn2RefIdeal (hMatIn2Ideal := hMatIn2Ideal) (hMatIn2RefIdeal := hMatIn2RefIdeal)
    ∧ preserves_MatIn3_MatIn3Ideal
    ∧ algebraic_MatIn3Ideal_MatIn3RefIdeal (hMatIn3Ideal := hMatIn3Ideal) (hMatIn3RefIdeal := hMatIn3RefIdeal)
    ∧ preserves_MatOut0_MatOut0Ideal
    ∧ algebraic_MatOut0Ideal_MatOut0RefIdeal (hMatOut0Ideal := hMatOut0Ideal) (hMatOut0RefIdeal := hMatOut0RefIdeal)
    ∧ preserves_MatOut1_MatOut1Ideal
    ∧ algebraic_MatOut1Ideal_MatOut1RefIdeal (hMatOut1Ideal := hMatOut1Ideal) (hMatOut1RefIdeal := hMatOut1RefIdeal)
    ∧ preserves_MatOut2_MatOut2Ideal
    ∧ algebraic_MatOut2Ideal_MatOut2RefIdeal (hMatOut2Ideal := hMatOut2Ideal) (hMatOut2RefIdeal := hMatOut2RefIdeal)
    ∧ preserves_MatOut3_MatOut3Ideal
    ∧ algebraic_MatOut3Ideal_MatOut3RefIdeal (hMatOut3Ideal := hMatOut3Ideal) (hMatOut3RefIdeal := hMatOut3RefIdeal)
    ∧ preserves_Mix0_Mix0Ideal
    ∧ algebraic_Mix0Ideal_Mix0RefIdeal (hMix0Ideal := hMix0Ideal) (hMix0RefIdeal := hMix0RefIdeal)
    ∧ preserves_Mix1_Mix1Ideal
    ∧ algebraic_Mix1Ideal_Mix1RefIdeal (hMix1Ideal := hMix1Ideal) (hMix1RefIdeal := hMix1RefIdeal)
    ∧ preserves_Mix2_Mix2Ideal
    ∧ algebraic_Mix2Ideal_Mix2RefIdeal (hMix2Ideal := hMix2Ideal) (hMix2RefIdeal := hMix2RefIdeal)
    ∧ preserves_Mix3_Mix3Ideal
    ∧ algebraic_Mix3Ideal_Mix3RefIdeal (hMix3Ideal := hMix3Ideal) (hMix3RefIdeal := hMix3RefIdeal)
-- ==== Pre_dense_down_tables.lean ====
abbrev S16 : Shape := ⟨1, ![16]⟩
abbrev S1 : Shape := ⟨1, ![1]⟩
abbrev S8192x5632 : Shape := ⟨2, ![8192, 5632]⟩
abbrev S2x5632x2048 : Shape := ⟨3, ![2, 5632, 2048]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S16 32) (main_arg1 : IVec S1 32) (main_arg2 : FVec F S8192x5632 .bf16) (main_arg3 : FVec F S2x5632x2048 .f32) : IVec S_ 1 :=
  let main_c : IVec S_ 32 := constantI S_ 32 0#32
  let main_v0 : IVec S16 32 := broadcastInDim S16 ![] bcast_S_S16 main_c
  let main_v1 : IVec S16 1 := cmpi .sge main_arg0 main_v0
  let main_c_0 : IVec S_ 32 := constantI S_ 32 2#32
  let main_v2 : IVec S16 32 := broadcastInDim S16 ![] bcast_S_S16 main_c_0
  let main_v3 : IVec S16 1 := cmpi .slt main_arg0 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_dense_up_tables.lean ====
abbrev S8 : Shape := ⟨1, ![8]⟩
abbrev S1 : Shape := ⟨1, ![1]⟩
abbrev S8192x2048 : Shape := ⟨2, ![8192, 2048]⟩
abbrev S2x2048x5632 : Shape := ⟨3, ![2, 2048, 5632]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S8 32) (main_arg1 : IVec S1 32) (main_arg2 : FVec F S8192x2048 .bf16) (main_arg3 : FVec F S2x2048x5632 .f32) (main_arg4 : FVec F S2x2048x5632 .f32) : IVec S_ 1 :=
  let main_c : IVec S_ 32 := constantI S_ 32 0#32
  let main_v0 : IVec S8 32 := broadcastInDim S8 ![] bcast_S_S8 main_c
  let main_v1 : IVec S8 1 := cmpi .sge main_arg0 main_v0
  let main_c_0 : IVec S_ 32 := constantI S_ 32 2#32
  let main_v2 : IVec S8 32 := broadcastInDim S8 ![] bcast_S_S8 main_c_0
  let main_v3 : IVec S8 1 := cmpi .slt main_arg0 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_down_tables.lean ====
abbrev S41 : Shape := ⟨1, ![41]⟩
abbrev S1 : Shape := ⟨1, ![1]⟩
abbrev S20992x5632 : Shape := ⟨2, ![20992, 5632]⟩
abbrev S16x5632x2048 : Shape := ⟨3, ![16, 5632, 2048]⟩
abbrev S_ : Shape := ⟨0, ![]⟩

class Facts : Prop where
  bcast_S_S41 : S_.BroadcastsInDim S41 (![] : Fin 0 → Fin S41.rank)
  reducesTo_S41_S_d0 : S41.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S41 32) (main_arg1 : IVec S1 32) (main_arg2 : FVec F S20992x5632 .bf16) (main_arg3 : FVec F S16x5632x2048 .f32) : IVec S_ 1 :=
  let main_c : IVec S_ 32 := constantI S_ 32 0#32
  let main_v0 : IVec S41 32 := broadcastInDim S41 ![] bcast_S_S41 main_c
  let main_v1 : IVec S41 1 := cmpi .sge main_arg0 main_v0
  let main_c_0 : IVec S_ 32 := constantI S_ 32 16#32
  let main_v2 : IVec S41 32 := broadcastInDim S41 ![] bcast_S_S41 main_c_0
  let main_v3 : IVec S41 1 := cmpi .slt main_arg0 main_v2
  let main_v4 : IVec S41 1 := andi main_v1 main_v3
  let main_c_1 : IVec S_ 1 := constantI S_ 1 1#1
  let main_v5 : IVec S_ 1 := (fun x v => Host.reduce IntOp.andi x v reducesTo_S41_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_finite.lean ====
abbrev S2x4096x512 : Shape := ⟨3, ![2, 4096, 512]⟩
abbrev S2x4096x4608 : Shape := ⟨3, ![2, 4096, 4608]⟩
abbrev S2x16x1x512 : Shape := ⟨4, ![2, 16, 1, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S2x16x1x512 : S_.BroadcastsInDim S2x16x1x512 (![] : Fin 0 → Fin S2x16x1x512.rank)
  reducesTo_S2x16x1x512_S_d0_1_2_3 : S2x16x1x512.ReducesTo [0, 1, 2, 3] S_

variable [Facts]

def fn {F : FTy → Type} [FloatOps F] (main_arg0 : FVec F S2x4096x512 .f32) (main_arg1 : FVec F S2x4096x512 .f32) (main_arg2 : FVec F S2x4096x4608 .f32) (main_arg3 : FVec F S2x16x1x512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S2x4096x512 .f32 := Host.absf main_arg1
  let main_cst_0 : FVec F S_ .f32 := constant S_ .f32 0x7F800000#32
  let main_v5 : FVec F S2x4096x512 .f32 := broadcastInDim S2x4096x512 ![] bcast_S_S2x4096x512 main_cst_0
  let main_v6 : IVec S2x4096x512 1 := cmpf .olt main_v4 main_v5
  let main_c_1 : IVec S_ 1 := constantI S_ 1 1#1
  let main_v7 : IVec S_ 1 := (fun x v => Host.reduce IntOp.andi x v reducesTo_S2x4096x512_S_d0_1_2 h_S_) main_v6 main_c_1
  let main_v8 : IVec S_ 1 := andi main_v3 main_v7
  let main_v9 : FVec F S2x16x1x512 .f32 := Host.absf main_arg3
  let main_cst_2 : FVec F S_ .f32 := constant S_ .f32 0x7F800000#32
  let main_v10 : FVec F S2x16x1x512 .f32 := broadcastInDim S2x16x1x512 ![] bcast_S_S2x16x1x512 main_cst_2
  let main_v11 : IVec S2x16x1x512 1 := cmpf .olt main_v9 main_v10
  let main_c_3 : IVec S_ 1 := constantI S_ 1 1#1
  let main_v12 : IVec S_ 1 := (fun x v => Host.reduce IntOp.andi x v reducesTo_S2x16x1x512_S_d0_1_2_3 h_S_) main_v11 main_c_3
  let main_v13 : IVec S_ 1 := andi main_v8 main_v12
  main_v13
-- ==== Pre_up_tables.lean ====
abbrev S41 : Shape := ⟨1, ![41]⟩
abbrev S1 : Shape := ⟨1, ![1]⟩
abbrev S20992x1024 : Shape := ⟨2, ![20992, 1024]⟩
abbrev S16x2048x5632 : Shape := ⟨3, ![16, 2048, 5632]⟩
abbrev S_ : Shape := ⟨0, ![]⟩

class Facts : Prop where
  bcast_S_S41 : S_.BroadcastsInDim S41 (![] : Fin 0 → Fin S41.rank)
  reducesTo_S41_S_d0 : S41.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S41 32) (main_arg1 : IVec S1 32) (main_arg2 : FVec F S20992x1024 .bf16) (main_arg3 : FVec F S20992x1024 .bf16) (main_arg4 : FVec F S16x2048x5632 .f32) (main_arg5 : FVec F S16x2048x5632 .f32) : IVec S_ 1 :=
  let main_c : IVec S_ 32 := constantI S_ 32 0#32
  let main_v0 : IVec S41 32 := broadcastInDim S41 ![] bcast_S_S41 main_c
  let main_v1 : IVec S41 1 := cmpi .sge main_arg0 main_v0
  let main_c_0 : IVec S_ 32 := constantI S_ 32 16#32
  let main_v2 : IVec S41 32 := broadcastInDim S41 ![] bcast_S_S41 main_c_0
  let main_v3 : IVec S41 1 := cmpi .slt main_arg0 main_v2
  let main_v4 : IVec S41 1 := andi main_v1 main_v3
  let main_c_1 : IVec S_ 1 := constantI S_ 1 1#1
  let main_v5 : IVec S_ 1 := (fun x v => Host.reduce IntOp.andi x v reducesTo_S41_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S2x4096x512 : Shape := ⟨3, ![2, 4096, 512]⟩
abbrev S2x4096x4608 : Shape := ⟨3, ![2, 4096, 4608]⟩
abbrev S2x16x1x512 : Shape := ⟨4, ![2, 16, 1, 512]⟩
abbrev S2x16x512 : Shape := ⟨3, ![2, 16, 512]⟩
abbrev S1x256x128 : Shape := ⟨3, ![1, 256, 128]⟩
abbrev S1x4096x128 : Shape := ⟨3, ![1, 4096, 128]⟩
abbrev S1x16x128 : Shape := ⟨3, ![1, 16, 128]⟩
abbrev S256x128 : Shape := ⟨2, ![256, 128]⟩
abbrev S16x128 : Shape := ⟨2, ![16, 128]⟩
abbrev S16x256 : Shape := ⟨2, ![16, 256]⟩
abbrev S16x1 : Shape := ⟨2, ![16, 1]⟩
abbrev S1x256 : Shape := ⟨2, ![1, 256]⟩
abbrev S256x1 : Shape := ⟨2, ![256, 1]⟩
abbrev S1x1024 : Shape := ⟨2, ![1, 1024]⟩
abbrev S1x1024x128 : Shape := ⟨3, ![1, 1024, 128]⟩
abbrev S1024x128 : Shape := ⟨2, ![1024, 128]⟩
abbrev S16x1024 : Shape := ⟨2, ![16, 1024]⟩
abbrev S256x1024 : Shape := ⟨2, ![256, 1024]⟩
abbrev S256 : Shape := ⟨1, ![256]⟩

abbrev nBuf : Space → Nat
  | .hbm => 6
  | .vmem => 10
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S2x4096x4608, .f32⟩
  | .hbm, ⟨3, _⟩ => ⟨S2x16x1x512, .f32⟩
  | .hbm, ⟨4, _⟩ => ⟨S2x16x512, .f32⟩
  | .hbm, ⟨5, _⟩ => ⟨S2x4096x512, .bf16⟩
  | .local _ .vmem, ⟨0, _⟩ => ⟨S1x256x128, .f32⟩
  | .local _ .vmem, ⟨1, _⟩ => ⟨S1x256x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x16x128, .f32⟩
  | .local _ .vmem, ⟨7, _⟩ => ⟨S1x16x128, .f32⟩
  | .local _ .vmem, ⟨8, _⟩ => ⟨S1x256x128, .bf16⟩
  | .local _ .vmem, ⟨9, _⟩ => ⟨S1x256x128, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_70 : BitVec 32 := 0#32
  let arg2 : BitVec 32 := BitVec.ofNat 32 (i 2).val
  let c0_i32_64 : BitVec 32 := 0#32
  let v319 : BitVec 1 := Scalar.cmpi .sgt arg2 c0_i32_64
  let v320 : BitVec 32 := Scalar.extui v319
  let c0_i32_65 : BitVec 32 := 0#32
  let v321 : BitVec 1 := Scalar.cmpi .slt arg2 c0_i32_65
  let v322 : BitVec 32 := Scalar.extui v321
  let v323 : BitVec 32 := Scalar.subi v320 v322
  let c4_i32_63 : BitVec 32 := 4#32
  let c0_i32_66 : BitVec 32 := 0#32
  let v324 : BitVec 1 := Scalar.cmpi .sgt c4_i32_63 c0_i32_66
  let v325 : BitVec 32 := Scalar.extui v324
  let c0_i32_67 : BitVec 32 := 0#32
  let v326 : BitVec 1 := Scalar.cmpi .slt c4_i32_63 c0_i32_67
  let v327 : BitVec 32 := Scalar.extui v326
  let v328 : BitVec 32 := Scalar.subi v325 v327
  let v329 : BitVec 1 := Scalar.cmpi .ne v323 v328
  let v330 : BitVec 32 := Scalar.remsi arg2 c4_i32_63
  let c0_i32_68 : BitVec 32 := 0#32
  let v331 : BitVec 1 := Scalar.cmpi .ne v330 c0_i32_68
  let v332 : BitVec 1 := Scalar.andi v329 v331
  let v318 : BitVec 32 := Scalar.divsi arg2 c4_i32_63
  let c1_i32_69 : BitVec 32 := 1#32
  let v333 : BitVec 32 := Scalar.subi v318 c1_i32_69
  let v334 : BitVec 32 := Scalar.select v332 v333 v318
  let v335 : BitVec 32 := Scalar.subi v334 c0_i32_70
  let c1_i32_71 : BitVec 32 := 1#32
  let v337 : BitVec 32 := Scalar.divsi v335 c1_i32_71
  let v338 : BitVec 32 := Scalar.muli v337 c1_i32_71
  let v339 : BitVec 32 := Scalar.addi c0_i32_70 v338
  let c1_i32_72 : BitVec 32 := 1#32
  ⟨c0_i32_70, v339, c1_i32_72⟩
def k0_mult1 (i : grid0.Coords) (k0_t1 : Fin (k0_t1_loop i).trips) : BitVec 32 :=
  let c0_i32_70 : BitVec 32 := 0#32
  let c1_i32_72 : BitVec 32 := 1#32
  let arg8 : BitVec 32 := Scf.iv c0_i32_70 c1_i32_72 k0_t1
  let c1024_i32_98 : BitVec 32 := 1024#32
  let v421 : BitVec 32 := Scalar.muli arg8 c1024_i32_98
  v421
def k0_off1 (i : grid0.Coords) (k0_t1 : Fin (k0_t1_loop i).trips) : Fin 3 → Nat :=
  let c0_99 : Index := 0#32
  let c0_i32_70 : BitVec 32 := 0#32
  let c1_i32_72 : BitVec 32 := 1#32
  let arg8 : BitVec 32 := Scf.iv c0_i32_70 c1_i32_72 k0_t1
  let c1024_i32_98 : BitVec 32 := 1024#32
  let v421 : BitVec 32 := Scalar.muli arg8 c1024_i32_98
  let v422 : BitVec 32 := v421
  let v423 : Index := Scalar.indexCast v422
  let c0_100 : Index := 0#32
  ![0, v423.toNat, 0]
@[reducible] def k0_t2_loop (i : grid0.Coords) : Scf.Loop 32 :=
  let c0_i32_70 : BitVec 32 := 0#32
  let arg2 : BitVec 32 := BitVec.ofNat 32 (i 2).val
  let c0_i32_64 : BitVec 32 := 0#32
  let v319 : BitVec 1 := Scalar.cmpi .sgt arg2 c0_i32_64
  let v320 : BitVec 32 := Scalar.extui v319
  let c0_i32_65 : BitVec 32 := 0#32
  let v321 : BitVec 1 := Scalar.cmpi .slt arg2 c0_i32_65
  let v322 : BitVec 32 := Scalar.extui v321
  let v323 : BitVec 32 := Scalar.subi v320 v322
  let c4_i32_63 : BitVec 32 := 4#32
  let c0_i32_66 : BitVec 32 := 0#32
  let v324 : BitVec 1 := Scalar.cmpi .sgt c4_i32_63 c0_i32_66
  let v325 : BitVec 32 := Scalar.extui v324
  let c0_i32_67 : BitVec 32 := 0#32
  let v326 : BitVec 1 := Scalar.cmpi .slt c4_i32_63 c0_i32_67
  let v327 : BitVec 32 := Scalar.extui v326
  let v328 : BitVec 32 := Scalar.subi v325 v327
  let v329 : BitVec 1 := Scalar.cmpi .ne v323 v328
  let v330 : BitVec 32 := Scalar.remsi arg2 c4_i32_63
  let c0_i32_68 : BitVec 32 := 0#32
  let v331 : BitVec 1 := Scalar.cmpi .ne v330 c0_i32_68
  let v332 : BitVec 1 := Scalar.andi v329 v331
  let v318 : BitVec 32 := Scalar.divsi arg2 c4_i32_63
  let c1_i32_69 : BitVec 32 := 1#32
  let v333 : BitVec 32 := Scalar.subi v318 c1_i32_69
  let v334 : BitVec 32 := Scalar.select v332 v333 v318
  let v335 : BitVec 32 := Scalar.subi v334 c0_i32_70
  let c1_i32_71 : BitVec 32 := 1#32
  let v337 : BitVec 32 := Scalar.divsi v335 c1_i32_71
  let v338 : BitVec 32 := Scalar.muli v337 c1_i32_71
  let v339 : BitVec 32 := Scalar.addi c0_i32_70 v338
  let v336 : BitVec 32 := Scalar.addi c0_i32_70 v335
  let c1_i32_73 : BitVec 32 := 1#32
  ⟨v339, v336, c1_i32_73⟩
def k0_mult2 (i : grid0.Coords) (k0_t2 : Fin (k0_t2_loop i).trips) : BitVec 32 :=
  let c0_i32_70 : BitVec 32 := 0#32
  let arg2 : BitVec 32 := BitVec.ofNat 32 (i 2).val
  let c0_i32_64 : BitVec 32 := 0#32
  let v319 : BitVec 1 := Scalar.cmpi .sgt arg2 c0_i32_64
  let v320 : BitVec 32 := Scalar.extui v319
  let c0_i32_65 : BitVec 32 := 0#32
  let v321 : BitVec 1 := Scalar.cmpi .slt arg2 c0_i32_65
  let v322 : BitVec 32 := Scalar.extui v321
  let v323 : BitVec 32 := Scalar.subi v320 v322
  let c4_i32_63 : BitVec 32 := 4#32
  let c0_i32_66 : BitVec 32 := 0#32
  let v324 : BitVec 1 := Scalar.cmpi .sgt c4_i32_63 c0_i32_66
  let v325 : BitVec 32 := Scalar.extui v324
  let c0_i32_67 : BitVec 32 := 0#32
  let v326 : BitVec 1 := Scalar.cmpi .slt c4_i32_63 c0_i32_67
  let v327 : BitVec 32 := Scalar.extui v326
  let v328 : BitVec 32 := Scalar.subi v325 v327
  let v329 : BitVec 1 := Scalar.cmpi .ne v323 v328
  let v330 : BitVec 32 := Scalar.remsi arg2 c4_i32_63
  let c0_i32_68 : BitVec 32 := 0#32
  let v331 : BitVec 1 := Scalar.cmpi .ne v330 c0_i32_68
  let v332 : BitVec 1 := Scalar.andi v329 v331
  let v318 : BitVec 32 := Scalar.divsi arg2 c4_i32_63
  let c1_i32_69 : BitVec 32 := 1#32
  let v333 : BitVec 32 := Scalar.subi v318 c1_i32_69
  let v334 : BitVec 32 := Scalar.select v332 v333 v318
  let v335 : BitVec 32 := Scalar.subi v334 c0_i32_70
  let c1_i32_71 : BitVec 32 := 1#32
  let v337 : BitVec 32 := Scalar.divsi v335 c1_i32_71
  let v338 : BitVec 32 := Scalar.muli v337 c1_i32_71
  let v339 : BitVec 32 := Scalar.addi c0_i32_70 v338
  let c1_i32_73 : BitVec 32 := 1#32
  let arg8 : BitVec 32 := Scf.iv v339 c1_i32_73 k0_t2
  let c1024_i32_98 : BitVec 32 := 1024#32
  let v421 : BitVec 32 := Scalar.muli arg8 c1024_i32_98
  v421
def k0_off2 (i : grid0.Coords) (k0_t2 : Fin (k0_t2_loop i).trips) : Fin 3 → Nat :=
  let c0_99 : Index := 0#32
  let c0_i32_70 : BitVec 32 := 0#32
  let arg2 : BitVec 32 := BitVec.ofNat 32 (i 2).val
  let c0_i32_64 : BitVec 32 := 0#32
  let v319 : BitVec 1 := Scalar.cmpi .sgt arg2 c0_i32_64
  let v320 : BitVec 32 := Scalar.extui v319
  let c0_i32_65 : BitVec 32 := 0#32
  let v321 : BitVec 1 := Scalar.cmpi .slt arg2 c0_i32_65
  let v322 : BitVec 32 := Scalar.extui v321
  let v323 : BitVec 32 := Scalar.subi v320 v322
  let c4_i32_63 : BitVec 32 := 4#32
  let c0_i32_66 : BitVec 32 := 0#32
  let v324 : BitVec 1 := Scalar.cmpi .sgt c4_i32_63 c0_i32_66
  let v325 : BitVec 32 := Scalar.extui v324
  let c0_i32_67 : BitVec 32 := 0#32
  let v326 : BitVec 1 := Scalar.cmpi .slt c4_i32_63 c0_i32_67
  let v327 : BitVec 32 := Scalar.extui v326
  let v328 : BitVec 32 := Scalar.subi v325 v327
  let v329 : BitVec 1 := Scalar.cmpi .ne v323 v328
  let v330 : BitVec 32 := Scalar.remsi arg2 c4_i32_63
  let c0_i32_68 : BitVec 32 := 0#32
  let v331 : BitVec 1 := Scalar.cmpi .ne v330 c0_i32_68
  let v332 : BitVec 1 := Scalar.andi v329 v331
  let v318 : BitVec 32 := Scalar.divsi arg2 c4_i32_63
  let c1_i32_69 : BitVec 32 := 1#32
  let v333 : BitVec 32 := Scalar.subi v318 c1_i32_69
  let v334 : BitVec 32 := Scalar.select v332 v333 v318
  let v335 : BitVec 32 := Scalar.subi v334 c0_i32_70
  let c1_i32_71 : BitVec 32 := 1#32
  let v337 : BitVec 32 := Scalar.divsi v335 c1_i32_71
  let v338 : BitVec 32 := Scalar.muli v337 c1_i32_71
  let v339 : BitVec 32 := Scalar.addi c0_i32_70 v338
  let c1_i32_73 : BitVec 32 := 1#32
  let arg8 : BitVec 32 := Scf.iv v339 c1_i32_73 k0_t2
  let c1024_i32_98 : BitVec 32 := 1024#32
  let v421 : BitVec 32 := Scalar.muli arg8 c1024_i32_98
  let v422 : BitVec 32 := v421
  let v423 : Index := Scalar.indexCast v422
  let c0_100 : Index := 0#32
  ![0, v423.toNat, 0]
def k0_mult3 (i : grid0.Coords) : BitVec 32 :=
  let arg2 : BitVec 32 := BitVec.ofNat 32 (i 2).val
  let c0_i32_64 : BitVec 32 := 0#32
  let v319 : BitVec 1 := Scalar.cmpi .sgt arg2 c0_i32_64
  let v320 : BitVec 32 := Scalar.extui v319
  let c0_i32_65 : BitVec 32 := 0#32
  let v321 : BitVec 1 := Scalar.cmpi .slt arg2 c0_i32_65
  let v322 : BitVec 32 := Scalar.extui v321
  let v323 : BitVec 32 := Scalar.subi v320 v322
  let c4_i32_63 : BitVec 32 := 4#32
  let c0_i32_66 : BitVec 32 := 0#32
  let v324 : BitVec 1 := Scalar.cmpi .sgt c4_i32_63 c0_i32_66
  let v325 : BitVec 32 := Scalar.extui v324
  let c0_i32_67 : BitVec 32 := 0#32
  let v326 : BitVec 1 := Scalar.cmpi .slt c4_i32_63 c0_i32_67
  let v327 : BitVec 32 := Scalar.extui v326
  let v328 : BitVec 32 := Scalar.subi v325 v327
  let v329 : BitVec 1 := Scalar.cmpi .ne v323 v328
  let v330 : BitVec 32 := Scalar.remsi arg2 c4_i32_63
  let c0_i32_68 : BitVec 32 := 0#32
  let v331 : BitVec 1 := Scalar.cmpi .ne v330 c0_i32_68
  let v332 : BitVec 1 := Scalar.andi v329 v331
  let v318 : BitVec 32 := Scalar.divsi arg2 c4_i32_63
  let c1_i32_69 : BitVec 32 := 1#32
  let v333 : BitVec 32 := Scalar.subi v318 c1_i32_69
  let v334 : BitVec 32 := Scalar.select v332 v333 v318
  let c1024_i32 : BitVec 32 := 1024#32
  let v342 : BitVec 32 := Scalar.muli v334 c1024_i32
  v342
def k0_off3 (i : grid0.Coords) : Fin 3 → Nat :=
  let c0_74 : Index := 0#32
  let arg2 : BitVec 32 := BitVec.ofNat 32 (i 2).val
  let c0_i32_64 : BitVec 32 := 0#32
  let v319 : BitVec 1 := Scalar.cmpi .sgt arg2 c0_i32_64
  let v320 : BitVec 32 := Scalar.extui v319
  let c0_i32_65 : BitVec 32 := 0#32
  let v321 : BitVec 1 := Scalar.cmpi .slt arg2 c0_i32_65
  let v322 : BitVec 32 := Scalar.extui v321
  let v323 : BitVec 32 := Scalar.subi v320 v322
  let c4_i32_63 : BitVec 32 := 4#32
  let c0_i32_66 : BitVec 32 := 0#32
  let v324 : BitVec 1 := Scalar.cmpi .sgt c4_i32_63 c0_i32_66
  let v325 : BitVec 32 := Scalar.extui v324
  let c0_i32_67 : BitVec 32 := 0#32
  let v326 : BitVec 1 := Scalar.cmpi .slt c4_i32_63 c0_i32_67
  let v327 : BitVec 32 := Scalar.extui v326
  let v328 : BitVec 32 := Scalar.subi v325 v327
  let v329 : BitVec 1 := Scalar.cmpi .ne v323 v328
  let v330 : BitVec 32 := Scalar.remsi arg2 c4_i32_63
  let c0_i32_68 : BitVec 32 := 0#32
  let v331 : BitVec 1 := Scalar.cmpi .ne v330 c0_i32_68
  let v332 : BitVec 1 := Scalar.andi v329 v331
  let v318 : BitVec 32 := Scalar.divsi arg2 c4_i32_63
  let c1_i32_69 : BitVec 32 := 1#32
  let v333 : BitVec 32 := Scalar.subi v318 c1_i32_69
  let v334 : BitVec 32 := Scalar.select v332 v333 v318
  let c1024_i32 : BitVec 32 := 1024#32
  let v342 : BitVec 32 := Scalar.muli v334 c1024_i32
  let v343 : BitVec 32 := v342
  let v344 : Index := Scalar.indexCast v343
  let c0_75 : Index := 0#32
  ![0, v344.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x4096x512 : Shape := ⟨3, ![2, 4096, 512]⟩
abbrev S2x4096x4608 : Shape := ⟨3, ![2, 4096, 4608]⟩
abbrev S2x16x1x512 : Shape := ⟨4, ![2, 16, 1, 512]⟩
abbrev S2x4096x4x128 : Shape := ⟨4, ![2, 4096, 4, 128]⟩
abbrev S2x16x4x128 : Shape := ⟨4, ![2, 16, 4, 128]⟩
abbrev S4096 : Shape := ⟨1, ![4096]⟩
abbrev S16 : Shape := ⟨1, ![16]⟩
abbrev S_ : Shape := ⟨0, ![]⟩
abbrev S2x4x4096x16 : Shape := ⟨4, ![2, 4, 4096, 16]⟩
abbrev S1x16 : Shape := ⟨2, ![1, 16]⟩
abbrev S4096x1 : Shape := ⟨2, ![4096, 1]⟩
abbrev S4096x16 : Shape := ⟨2, ![4096, 16]⟩
abbrev S1x1x4096x16 : Shape := ⟨4, ![1, 1, 4096, 16]⟩
abbrev S2x4x4096x3 : Shape := ⟨4, ![2, 4, 4096, 3]⟩
abbrev S3 : Shape := ⟨1, ![3]⟩
abbrev S1x3 : Shape := ⟨2, ![1, 3]⟩
abbrev S4096x3 : Shape := ⟨2, ![4096, 3]⟩
abbrev S2x4x4096x3x1 : Shape := ⟨5, ![2, 4, 4096, 3, 1]⟩
abbrev S1x1x1x1x16 : Shape := ⟨5, ![1, 1, 1, 1, 16]⟩
abbrev S2x4x4096x3x16 : Shape := ⟨5, ![2, 4, 4096, 3, 16]⟩
abbrev S1x1x4096x3x1 : Shape := ⟨5, ![1, 1, 4096, 3, 1]⟩
abbrev S2x4x4096x16x256 : Shape := ⟨5, ![2, 4, 4096, 16, 256]⟩
abbrev S2x4x4096x4096 : Shape := ⟨4, ![2, 4, 4096, 4096]⟩
abbrev S1x4096 : Shape := ⟨2, ![1, 4096]⟩
abbrev S4096x4096 : Shape := ⟨2, ![4096, 4096]⟩
abbrev S1x1x4096x4096 : Shape := ⟨4, ![1, 1, 4096, 4096]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩

abbrev nBuf : Space → Nat
  | .hbm => 103
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S2x4096x4608, .f32⟩
  | .hbm, ⟨3, _⟩ => ⟨S2x16x1x512, .f32⟩
  | .hbm, ⟨4, _⟩ => ⟨S2x4096x4x128, .f32⟩
  | .hbm, ⟨5, _⟩ => ⟨S2x4096x4x128, .f32⟩
  | .hbm, ⟨6, _⟩ => ⟨S2x4096x512, .f32⟩
  | .hbm, ⟨7, _⟩ => ⟨S2x4096x4x128, .f32⟩
  | .hbm, ⟨8, _⟩ => ⟨S2x16x4x128, .f32⟩
  | .hbm, ⟨9, _⟩ => ⟨S4096, .i32⟩
  | .hbm, ⟨10, _⟩ => ⟨S16, .i32⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S2x4x4096x16, .f32⟩
  | .hbm, ⟨30, _⟩ => ⟨S1x16, .i32⟩
  | .hbm, ⟨31, _⟩ => ⟨S4096x1, .i32⟩
  | .hbm, ⟨32, _⟩ => ⟨S4096x16, .i32⟩
  | .hbm, ⟨33, _⟩ => ⟨S4096x16, .i32⟩
  | .hbm, ⟨34, _⟩ => ⟨S4096x16, .i1⟩
  | .hbm, ⟨35, _⟩ => ⟨S1x1x4096x16, .i1⟩
  | .hbm, ⟨36, _⟩ => ⟨S_, .f32⟩
  | .hbm, ⟨37, _⟩ => ⟨S_, .f32⟩
  | .hbm, ⟨38, _⟩ => ⟨S2x4x4096x16, .i1⟩
  | .hbm, ⟨39, _⟩ => ⟨S2x4x4096x16, .f32⟩
  | .hbm, ⟨40, _⟩ => ⟨S2x4x4096x16, .f32⟩
  | .hbm, ⟨41, _⟩ => ⟨S2x4x4096x3, .f32⟩
  | .hbm, ⟨42, _⟩ => ⟨S2x4x4096x3, .i32⟩
  | .hbm, ⟨43, _⟩ => ⟨S3, .i32⟩
  | .hbm, ⟨44, _⟩ => ⟨S1x3, .i32⟩
  | .hbm, ⟨45, _⟩ => ⟨S4096x1, .i32⟩
  | .hbm, ⟨46, _⟩ => ⟨S4096x3, .i32⟩
  | .hbm, ⟨47, _⟩ => ⟨S4096x3, .i32⟩
  | .hbm, ⟨48, _⟩ => ⟨S4096x3, .i1⟩
  | .hbm, ⟨49, _⟩ => ⟨S2x4x4096x3x1, .i32⟩
  | .hbm, ⟨50, _⟩ => ⟨S1x1x1x1x16, .i32⟩
  | .hbm, ⟨51, _⟩ => ⟨S2x4x4096x3x16, .i32⟩
  | .hbm, ⟨52, _⟩ => ⟨S2x4x4096x3x16, .i32⟩
  | .hbm, ⟨53, _⟩ => ⟨S2x4x4096x3x16, .i1⟩
  | .hbm, ⟨54, _⟩ => ⟨S1x1x4096x3x1, .i1⟩
  | .hbm, ⟨55, _⟩ => ⟨S2x4x4096x3x16, .i1⟩
  | .hbm, ⟨56, _⟩ => ⟨S2x4x4096x3x16, .i1⟩
  | .hbm, ⟨57, _⟩ => ⟨S_, .i1⟩
  | .hbm, ⟨58, _⟩ => ⟨S2x4x4096x16, .i1⟩
  | .hbm, ⟨59, _⟩ => ⟨S1x16, .i32⟩
  | .hbm, ⟨60, _⟩ => ⟨S4096x1, .i32⟩
  | .hbm, ⟨61, _⟩ => ⟨S4096x16, .i32⟩
  | .hbm, ⟨62, _⟩ => ⟨S4096x16, .i32⟩
  | .hbm, ⟨63, _⟩ => ⟨S4096x16, .i1⟩
  | .hbm, ⟨64, _⟩ => ⟨S1x1x4096x16, .i1⟩
  | .hbm, ⟨65, _⟩ => ⟨S2x4x4096x16, .i1⟩
  | .hbm, ⟨66, _⟩ => ⟨S2x4x4096x16, .i1⟩
  | .hbm, ⟨67, _⟩ => ⟨S2x4x4096x16x256, .i1⟩
  | .hbm, ⟨68, _⟩ => ⟨S2x4x4096x4096, .i1⟩
  | .hbm, ⟨69, _⟩ => ⟨S1x4096, .i32⟩
  | .hbm, ⟨70, _⟩ => ⟨S4096x1, .i32⟩
  | .hbm, ⟨71, _⟩ => ⟨S4096x4096, .i32⟩
  | .hbm, ⟨72, _⟩ => ⟨S4096x4096, .i32⟩
  | .hbm, ⟨73, _⟩ => ⟨S4096x4096, .i1⟩
  | .hbm, ⟨74, _⟩ => ⟨S1x1x4096x4096, .i1⟩
  | .hbm, ⟨75, _⟩ => ⟨S2x4x4096x4096, .i1⟩
  | .hbm, ⟨76, _⟩ => ⟨S2x4x4096x4096, .i1⟩
  | .hbm, ⟨77, _⟩ => ⟨S2x4x4096x4096, .f32⟩
  | .hbm, ⟨78, _⟩ => ⟨S_, .f32⟩
  | .hbm, ⟨79, _⟩ => ⟨S2x4x4096x4096, .f32⟩
  | .hbm, ⟨80, _⟩ => ⟨S2x4x4096x4096, .f32⟩
  | .hbm, ⟨81, _⟩ => ⟨S_, .f32⟩
  | .hbm, ⟨82, _⟩ => ⟨S_, .f32⟩
  | .hbm, ⟨83, _⟩ => ⟨S2x4x4096x4096, .f32⟩
  | .hbm, ⟨84, _⟩ => ⟨S2x4x4096x4096, .f32⟩
  | .hbm, ⟨85, _⟩ => ⟨S_, .f32⟩
  | .hbm, ⟨86, _⟩ => ⟨S2x4x4096, .f32⟩
  | .hbm, ⟨87, _⟩ => ⟨S_, .f32⟩
  | .hbm, ⟨88, _⟩ => ⟨S2x4x4096, .f32⟩
  | .hbm, ⟨89, _⟩ => ⟨S2x4x4096, .f32⟩
  | .hbm, ⟨90, _⟩ => ⟨S2x4x4096x1, .f32⟩
  | .hbm, ⟨91, _⟩ => ⟨S2x4x4096x4096, .f32⟩
  | .hbm, ⟨92, _⟩ => ⟨S2x4x4096x4096, .f32⟩
  | .hbm, ⟨93, _⟩ => ⟨S2x4x4096x4096, .f32⟩
  | .hbm, ⟨94, _⟩ => ⟨S_, .f32⟩
  | .hbm, ⟨95, _⟩ => ⟨S2x4x4096, .f32⟩
  | .hbm, ⟨96, _⟩ => ⟨S2x4x4096x1, .f32⟩
  | .hbm, ⟨97, _⟩ => ⟨S2x4x4096x4096, .f32⟩
  | .hbm, ⟨98, _⟩ => ⟨S2x4x4096x4096, .f32⟩
  | .hbm, ⟨99, _⟩ => ⟨S2x4x128x4096, .f32⟩
  | .hbm, ⟨100, _⟩ => ⟨S2x4096x4x128, .f32⟩
  | .hbm, ⟨101, _⟩ => ⟨S2x4096x512, .f32⟩
  | .hbm, ⟨102, _⟩ => ⟨S2x4096x512, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v15 : Ref sig .tc := ⟨.hbm, 40, rfl⟩
abbrev main_values : Ref sig .tc := ⟨.hbm, 41, rfl⟩
abbrev main_indices : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_1 : Ref sig .tc := ⟨.hbm, 78, rfl⟩
abbrev main_v50 : Ref sig .tc := ⟨.hbm, 79, rfl⟩
abbrev main_v51 : Ref sig .tc := ⟨.hbm, 80, rfl⟩
abbrev main_cst_2 : Ref sig .tc := ⟨.hbm, 81, rfl⟩
abbrev main_call2_v0 : Ref sig .tc := ⟨.hbm, 82, rfl⟩
abbrev main_call2_v1 : Ref sig .tc := ⟨.hbm, 83, rfl⟩
abbrev main_v52 : Ref sig .tc := ⟨.hbm, 84, rfl⟩
abbrev main_cst_3 : Ref sig .tc := ⟨.hbm, 85, rfl⟩
abbrev main_v53 : Ref sig .tc := ⟨.hbm, 86, rfl⟩
abbrev main_cst_4 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_5 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩

abbrev nD : Nat := 1
abbrev τ : Topo := Topo.v7x

variable {F : FTy → Type} [FloatOps F]
-- ==== Down.lean ====
abbrev S41 : Shape := ⟨1, ![41]⟩
abbrev S1 : Shape := ⟨1, ![1]⟩
abbrev S20992x5632 : Shape := ⟨2, ![20992, 5632]⟩
abbrev S16x5632x2048 : Shape := ⟨3, ![16, 5632, 2048]⟩
abbrev S20992x2048 : Shape := ⟨2, ![20992, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 3
  | .vmem => 7
  | .smem => 2
  | _ => 0

abbrev bufTy : (tb : Table) → Fin (tcTables nBuf tb) → BufTy
  | .hbm, ⟨0, _⟩ => ⟨S20992x5632, .bf16⟩
  | .hbm, ⟨1, _⟩ => ⟨S16x5632x2048, .f32⟩
  | .hbm, ⟨2, _⟩ => ⟨S20992x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S5632x512, .bf16⟩
  | .local _ .smem, ⟨0, _⟩ => ⟨S41, .i32⟩
  | .local _ .smem, ⟨1, _⟩ => ⟨S1, .i32⟩
  | _, _ => ⟨S20992x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 41], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S41.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S41) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownIdeal.lean ====
abbrev S41 : Shape := ⟨1, ![41]⟩
abbrev S1 : Shape := ⟨1, ![1]⟩
abbrev S20992x5632 : Shape := ⟨2, ![20992, 5632]⟩
abbrev S16x5632x2048 : Shape := ⟨3, ![16, 5632, 2048]⟩
abbrev S20992x2048 : Shape := ⟨2, ![20992, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 3
  | .vmem => 7
  | .smem => 2
  | _ => 0

abbrev bufTy : (tb : Table) → Fin (tcTables nBuf tb) → BufTy
  | .hbm, ⟨0, _⟩ => ⟨S20992x5632, .bf16⟩
  | .hbm, ⟨1, _⟩ => ⟨S16x5632x2048, .f32⟩
  | .hbm, ⟨2, _⟩ => ⟨S20992x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S5632x512, .bf16⟩
  | .local _ .smem, ⟨0, _⟩ => ⟨S41, .i32⟩
  | .local _ .smem, ⟨1, _⟩ => ⟨S1, .i32⟩
  | _, _ => ⟨S20992x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 41], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S41.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S41) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S41 : Shape := ⟨1, ![41]⟩
abbrev S1 : Shape := ⟨1, ![1]⟩
abbrev S20992x5632 : Shape := ⟨2, ![20992, 5632]⟩
abbrev S16x5632x2048 : Shape := ⟨3, ![16, 5632, 2048]⟩
abbrev S41x512x5632 : Shape := ⟨3, ![41, 512, 5632]⟩
abbrev S_ : Shape := ⟨0, ![]⟩
abbrev S41x1 : Shape := ⟨2, ![41, 1]⟩
abbrev S41x5632x2048 : Shape := ⟨3, ![41, 5632, 2048]⟩
abbrev S41x512x2048 : Shape := ⟨3, ![41, 512, 2048]⟩
abbrev S41x1x1 : Shape := ⟨3, ![41, 1, 1]⟩
abbrev S20992x2048 : Shape := ⟨2, ![20992, 2048]⟩

abbrev nBuf : Space → Nat
  | .hbm => 27
  | .vmem => 0
  | .smem => 0
  | _ => 0

abbrev bufTy : (tb : Table) → Fin (tcTables nBuf tb) → BufTy
  | .hbm, ⟨0, _⟩ => ⟨S41, .i32⟩
  | .hbm, ⟨1, _⟩ => ⟨S1, .i32⟩
  | .hbm, ⟨2, _⟩ => ⟨S20992x5632, .bf16⟩
  | .hbm, ⟨3, _⟩ => ⟨S16x5632x2048, .f32⟩
  | .hbm, ⟨4, _⟩ => ⟨S20992x5632, .f32⟩
  | .hbm, ⟨5, _⟩ => ⟨S41x512x5632, .f32⟩
  | .hbm, ⟨6, _⟩ => ⟨S_, .i32⟩
  | .hbm, ⟨7, _⟩ => ⟨S41, .i32⟩
  | .hbm, ⟨8, _⟩ => ⟨S41, .i1⟩
  | .hbm, ⟨9, _⟩ => ⟨S_, .i32⟩
  | .hbm, ⟨10, _⟩ => ⟨S41, .i32⟩
  | .hbm, ⟨11, _⟩ => ⟨S41, .i32⟩
  | .hbm, ⟨12, _⟩ => ⟨S41, .i32⟩
  | .hbm, ⟨13, _⟩ => ⟨S41x1, .i32⟩
  | .hbm, ⟨14, _⟩ => ⟨S41x5632x2048, .f32⟩
  | .hbm, ⟨15, _⟩ => ⟨S41x512x2048, .f32⟩
  | .hbm, ⟨16, _⟩ => ⟨S41, .i32⟩
  | .hbm, ⟨17, _⟩ => ⟨S_, .i32⟩
  | .hbm, ⟨18, _⟩ => ⟨S41, .i32⟩
  | .hbm, ⟨19, _⟩ => ⟨S41, .i1⟩
  | .hbm, ⟨20, _⟩ => ⟨S41x1x1, .i1⟩
  | .hbm, ⟨21, _⟩ => ⟨S_, .f32⟩
  | .hbm, ⟨22, _⟩ => ⟨S_, .f32⟩
  | .hbm, ⟨23, _⟩ => ⟨S41x512x2048, .i1⟩
  | .hbm, ⟨24, _⟩ => ⟨S41x512x2048, .f32⟩
  | .hbm, ⟨25, _⟩ => ⟨S41x512x2048, .f32⟩
  | .hbm, ⟨26, _⟩ => ⟨S20992x2048, .f32⟩
  | _, _ => ⟨S41, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Up.lean ====
abbrev S41 : Shape := ⟨1, ![41]⟩
abbrev S1 : Shape := ⟨1, ![1]⟩
abbrev S20992x1024 : Shape := ⟨2, ![20992, 1024]⟩
abbrev S16x2048x5632 : Shape := ⟨3, ![16, 2048, 5632]⟩
abbrev S20992x5632 : Shape := ⟨2, ![20992, 5632]⟩
abbrev S512x1024 : Shape := ⟨2, ![512, 1024]⟩
abbrev S1x2048x512 : Shape := ⟨3, ![1, 2048, 512]⟩
abbrev S512x512 : Shape := ⟨2, ![512, 512]⟩
abbrev S2048x512 : Shape := ⟨2, ![2048, 512]⟩
abbrev S1024x512 : Shape := ⟨2, ![1024, 512]⟩

abbrev nBuf : Space → Nat
  | .hbm => 5
  | .vmem => 12
  | .smem => 2
  | _ => 0

abbrev bufTy : (tb : Table) → Fin (tcTables nBuf tb) → BufTy
  | .hbm, ⟨0, _⟩ => ⟨S20992x1024, .bf16⟩
  | .hbm, ⟨1, _⟩ => ⟨S20992x1024, .bf16⟩
  | .hbm, ⟨2, _⟩ => ⟨S16x2048x5632, .f32⟩
  | .hbm, ⟨3, _⟩ => ⟨S16x2048x5632, .f32⟩
  | .hbm, ⟨4, _⟩ => ⟨S20992x5632, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S512x512, .bf16⟩
  | .local _ .vmem, ⟨9, _⟩ => ⟨S512x512, .bf16⟩
  | .local _ .vmem, ⟨10, _⟩ => ⟨S2048x512, .bf16⟩
  | .local _ .vmem, ⟨11, _⟩ => ⟨S2048x512, .bf16⟩
  | .local _ .smem, ⟨0, _⟩ => ⟨S41, .i32⟩
  | .local _ .smem, ⟨1, _⟩ => ⟨S1, .i32⟩
  | _, _ => ⟨S20992x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 41], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S41.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S41) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S41.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S41) ![v0.toNat] S1.size (k0_off1_inb i)) numel1_S1
  let c0_i32 : BitVec 32 := 0#32
  let c0_i32_0 : BitVec 32 := 0#32
  ![v1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpRefIdeal.lean ====
abbrev S41 : Shape := ⟨1, ![41]⟩
abbrev S1 : Shape := ⟨1, ![1]⟩
abbrev S20992x1024 : Shape := ⟨2, ![20992, 1024]⟩
abbrev S16x2048x5632 : Shape := ⟨3, ![16, 2048, 5632]⟩
abbrev S20992x2048 : Shape := ⟨2, ![20992, 2048]⟩
abbrev S41x512x2048 : Shape := ⟨3, ![41, 512, 2048]⟩
abbrev S_ : Shape := ⟨0, ![]⟩
abbrev S41x1 : Shape := ⟨2, ![41, 1]⟩
abbrev S41x2048x5632 : Shape := ⟨3, ![41, 2048, 5632]⟩
abbrev S41x512x5632 : Shape := ⟨3, ![41, 512, 5632]⟩
abbrev S41x1x1 : Shape := ⟨3, ![41, 1, 1]⟩
abbrev S20992x5632 : Shape := ⟨2, ![20992, 5632]⟩

abbrev nBuf : Space → Nat
  | .hbm => 51
  | .vmem => 0
  | .smem => 0
  | _ => 0

abbrev bufTy : (tb : Table) → Fin (tcTables nBuf tb) → BufTy
  | .hbm, ⟨0, _⟩ => ⟨S41, .i32⟩
  | .hbm, ⟨1, _⟩ => ⟨S1, .i32⟩
  | .hbm, ⟨2, _⟩ => ⟨S20992x1024, .bf16⟩
  | .hbm, ⟨3, _⟩ => ⟨S20992x1024, .bf16⟩
  | .hbm, ⟨4, _⟩ => ⟨S16x2048x5632, .f32⟩
  | .hbm, ⟨5, _⟩ => ⟨S16x2048x5632, .f32⟩
  | .hbm, ⟨6, _⟩ => ⟨S20992x2048, .bf16⟩
  | .hbm, ⟨7, _⟩ => ⟨S20992x2048, .f32⟩
  | .hbm, ⟨8, _⟩ => ⟨S41x512x2048, .f32⟩
  | .hbm, ⟨9, _⟩ => ⟨S_, .i32⟩
  | .hbm, ⟨10, _⟩ => ⟨S41, .i32⟩
  | .hbm, ⟨11, _⟩ => ⟨S41, .i1⟩
  | .hbm, ⟨12, _⟩ => ⟨S_, .i32⟩
  | .hbm, ⟨13, _⟩ => ⟨S41, .i32⟩
  | .hbm, ⟨14, _⟩ => ⟨S41, .i32⟩
  | .hbm, ⟨15, _⟩ => ⟨S41, .i32⟩
  | .hbm, ⟨16, _⟩ => ⟨S41x1, .i32⟩
  | .hbm, ⟨17, _⟩ => ⟨S41x2048x5632, .f32⟩
  | .hbm, ⟨18, _⟩ => ⟨S41x512x5632, .f32⟩
  | .hbm, ⟨19, _⟩ => ⟨S_, .i32⟩
  | .hbm, ⟨20, _⟩ => ⟨S41, .i32⟩
  | .hbm, ⟨21, _⟩ => ⟨S41, .i1⟩
  | .hbm, ⟨22, _⟩ => ⟨S_, .i32⟩
  | .hbm, ⟨23, _⟩ => ⟨S41, .i32⟩
  | .hbm, ⟨24, _⟩ => ⟨S41, .i32⟩
  | .hbm, ⟨25, _⟩ => ⟨S41, .i32⟩
  | .hbm, ⟨26, _⟩ => ⟨S41x1, .i32⟩
  | .hbm, ⟨27, _⟩ => ⟨S41x2048x5632, .f32⟩
  | .hbm, ⟨28, _⟩ => ⟨S41x512x5632, .f32⟩
  | .hbm, ⟨29, _⟩ => ⟨S41, .i32⟩
  | .hbm, ⟨30, _⟩ => ⟨S_, .i32⟩
  | .hbm, ⟨31, _⟩ => ⟨S41, .i32⟩
  | .hbm, ⟨32, _⟩ => ⟨S41, .i1⟩
  | .hbm, ⟨33, _⟩ => ⟨S41x1x1, .i1⟩
  | .hbm, ⟨34, _⟩ => ⟨S41x512x5632, .f32⟩
  | .hbm, ⟨35, _⟩ => ⟨S41x512x5632, .f32⟩
  | .hbm, ⟨36, _⟩ => ⟨S_, .f32⟩
  | .hbm, ⟨37, _⟩ => ⟨S41x512x5632, .f32⟩
  | .hbm, ⟨38, _⟩ => ⟨S41x512x5632, .f32⟩
  | .hbm, ⟨39, _⟩ => ⟨S_, .f32⟩
  | .hbm, ⟨40, _⟩ => ⟨S41x512x5632, .f32⟩
  | .hbm, ⟨41, _⟩ => ⟨S41x512x5632, .f32⟩
  | .hbm, ⟨42, _⟩ => ⟨S41x512x5632, .f32⟩
  | .hbm, ⟨43, _⟩ => ⟨S41x512x5632, .f32⟩
  | .hbm, ⟨44, _⟩ => ⟨S_, .f32⟩
  | .hbm, ⟨45, _⟩ => ⟨S_, .f32⟩
  | .hbm, ⟨46, _⟩ => ⟨S41x512x5632, .i1⟩
  | .hbm, ⟨47, _⟩ => ⟨S41x512x5632, .f32⟩
  | .hbm, ⟨48, _⟩ => ⟨S41x512x5632, .f32⟩
  | .hbm, ⟨49, _⟩ => ⟨S20992x5632, .f32⟩
  | .hbm, ⟨50, _⟩ => ⟨S20992x5632, .bf16⟩
  | _, _ => ⟨S41, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== DenseDown.lean ====
abbrev S16 : Shape := ⟨1, ![16]⟩
abbrev S1 : Shape := ⟨1, ![1]⟩
abbrev S8192x5632 : Shape := ⟨2, ![8192, 5632]⟩
abbrev S2x5632x2048 : Shape := ⟨3, ![2, 5632, 2048]⟩
abbrev S8192x2048 : Shape := ⟨2, ![8192, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 3
  | .vmem => 7
  | .smem => 2
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S5632x512, .bf16⟩
  | .local _ .smem, ⟨0, _⟩ => ⟨S16, .i32⟩
  | .local _ .smem, ⟨1, _⟩ => ⟨S1, .i32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S16) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DenseDownRefIdeal.lean ====
abbrev S16 : Shape := ⟨1, ![16]⟩
abbrev S1 : Shape := ⟨1, ![1]⟩
abbrev S8192x5632 : Shape := ⟨2, ![8192, 5632]⟩
abbrev S2x5632x2048 : Shape := ⟨3, ![2, 5632, 2048]⟩
abbrev S16x512x5632 : Shape := ⟨3, ![16, 512, 5632]⟩
abbrev S_ : Shape := ⟨0, ![]⟩
abbrev S16x1 : Shape := ⟨2, ![16, 1]⟩
abbrev S16x5632x2048 : Shape := ⟨3, ![16, 5632, 2048]⟩
abbrev S16x512x2048 : Shape := ⟨3, ![16, 512, 2048]⟩
abbrev S16x1x1 : Shape := ⟨3, ![16, 1, 1]⟩
abbrev S8192x2048 : Shape := ⟨2, ![8192, 2048]⟩

abbrev nBuf : Space → Nat
  | .hbm => 27
  | .vmem => 0
  | .smem => 0
  | _ => 0

abbrev bufTy : (tb : Table) → Fin (tcTables nBuf tb) → BufTy
  | .hbm, ⟨0, _⟩ => ⟨S16, .i32⟩
  | .hbm, ⟨1, _⟩ => ⟨S1, .i32⟩
  | .hbm, ⟨2, _⟩ => ⟨S8192x5632, .bf16⟩
  | .hbm, ⟨3, _⟩ => ⟨S2x5632x2048, .f32⟩
  | .hbm, ⟨4, _⟩ => ⟨S8192x5632, .f32⟩
  | .hbm, ⟨5, _⟩ => ⟨S16x512x5632, .f32⟩
  | .hbm, ⟨6, _⟩ => ⟨S_, .i32⟩
  | .hbm, ⟨7, _⟩ => ⟨S16, .i32⟩
  | .hbm, ⟨8, _⟩ => ⟨S16, .i1⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S16, .i32⟩
  | .hbm, ⟨13, _⟩ => ⟨S16x1, .i32⟩
  | .hbm, ⟨14, _⟩ => ⟨S16x5632x2048, .f32⟩
  | .hbm, ⟨15, _⟩ => ⟨S16x512x2048, .f32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S16x1x1, .i1⟩
  | .hbm, ⟨21, _⟩ => ⟨S_, .f32⟩
  | .hbm, ⟨22, _⟩ => ⟨S_, .f32⟩
  | .hbm, ⟨23, _⟩ => ⟨S16x512x2048, .i1⟩
  | .hbm, ⟨24, _⟩ => ⟨S16x512x2048, .f32⟩
  | .hbm, ⟨25, _⟩ => ⟨S16x512x2048, .f32⟩
  | .hbm, ⟨26, _⟩ => ⟨S8192x2048, .f32⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== DenseUp.lean ====
abbrev S8 : Shape := ⟨1, ![8]⟩
abbrev S1 : Shape := ⟨1, ![1]⟩
abbrev S8192x2048 : Shape := ⟨2, ![8192, 2048]⟩
abbrev S2x2048x5632 : Shape := ⟨3, ![2, 2048, 5632]⟩
abbrev S8192x5632 : Shape := ⟨2, ![8192, 5632]⟩
abbrev S1024x1024 : Shape := ⟨2, ![1024, 1024]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 12
  | .smem => 2
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1024x512, .bf16⟩
  | .local _ .vmem, ⟨9, _⟩ => ⟨S1024x512, .bf16⟩
  | .local _ .vmem, ⟨10, _⟩ => ⟨S2048x512, .bf16⟩
  | .local _ .vmem, ⟨11, _⟩ => ⟨S2048x512, .bf16⟩
  | .local _ .smem, ⟨0, _⟩ => ⟨S8, .i32⟩
  | .local _ .smem, ⟨1, _⟩ => ⟨S1, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 8], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c1_i32_0 : BitVec 32 := 1#32
  let c0_i32 : BitVec 32 := 0#32
  ![v2.toNat, c1_i32_0.toNat]

def cc0_transform_2 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S8) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S8) ![v0.toNat] S1.size (k0_off1_inb i)) numel1_S1
  let c0_i32 : BitVec 32 := 0#32
  let c0_i32_0 : BitVec 32 := 0#32
  ![v1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DenseUpRefIdeal.lean ====
abbrev S8 : Shape := ⟨1, ![8]⟩
abbrev S1 : Shape := ⟨1, ![1]⟩
abbrev S8192x2048 : Shape := ⟨2, ![8192, 2048]⟩
abbrev S2x2048x5632 : Shape := ⟨3, ![2, 2048, 5632]⟩
abbrev S8x1024x2048 : Shape := ⟨3, ![8, 1024, 2048]⟩
abbrev S_ : Shape := ⟨0, ![]⟩
abbrev S8x1 : Shape := ⟨2, ![8, 1]⟩
abbrev S8x2048x5632 : Shape := ⟨3, ![8, 2048, 5632]⟩
abbrev S8x1024x5632 : Shape := ⟨3, ![8, 1024, 5632]⟩
abbrev S8x1x1 : Shape := ⟨3, ![8, 1, 1]⟩
abbrev S8192x5632 : Shape := ⟨2, ![8192, 5632]⟩

abbrev nBuf : Space → Nat
  | .hbm => 49
  | .vmem => 0
  | .smem => 0
  | _ => 0

abbrev bufTy : (tb : Table) → Fin (tcTables nBuf tb) → BufTy
  | .hbm, ⟨0, _⟩ => ⟨S8, .i32⟩
  | .hbm, ⟨1, _⟩ => ⟨S1, .i32⟩
  | .hbm, ⟨2, _⟩ => ⟨S8192x2048, .bf16⟩
  | .hbm, ⟨3, _⟩ => ⟨S2x2048x5632, .f32⟩
  | .hbm, ⟨4, _⟩ => ⟨S2x2048x5632, .f32⟩
  | .hbm, ⟨5, _⟩ => ⟨S8192x2048, .f32⟩
  | .hbm, ⟨6, _⟩ => ⟨S8x1024x2048, .f32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S8, .i32⟩
  | .hbm, ⟨14, _⟩ => ⟨S8x1, .i32⟩
  | .hbm, ⟨15, _⟩ => ⟨S8x2048x5632, .f32⟩
  | .hbm, ⟨16, _⟩ => ⟨S8x1024x5632, .f32⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8, .i32⟩
  | .hbm, ⟨24, _⟩ => ⟨S8x1, .i32⟩
  | .hbm, ⟨25, _⟩ => ⟨S8x2048x5632, .f32⟩
  | .hbm, ⟨26, _⟩ => ⟨S8x1024x5632, .f32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i1⟩
  | .hbm, ⟨31, _⟩ => ⟨S8x1x1, .i1⟩
  | .hbm, ⟨32, _⟩ => ⟨S8x1024x5632, .f32⟩
  | .hbm, ⟨33, _⟩ => ⟨S8x1024x5632, .f32⟩
  | .hbm, ⟨34, _⟩ => ⟨S_, .f32⟩
  | .hbm, ⟨35, _⟩ => ⟨S8x1024x5632, .f32⟩
  | .hbm, ⟨36, _⟩ => ⟨S8x1024x5632, .f32⟩
  | .hbm, ⟨37, _⟩ => ⟨S_, .f32⟩
  | .hbm, ⟨38, _⟩ => ⟨S8x1024x5632, .f32⟩
  | .hbm, ⟨39, _⟩ => ⟨S8x1024x5632, .f32⟩
  | .hbm, ⟨40, _⟩ => ⟨S8x1024x5632, .f32⟩
  | .hbm, ⟨41, _⟩ => ⟨S8x1024x5632, .f32⟩
  | .hbm, ⟨42, _⟩ => ⟨S_, .f32⟩
  | .hbm, ⟨43, _⟩ => ⟨S_, .f32⟩
  | .hbm, ⟨44, _⟩ => ⟨S8x1024x5632, .i1⟩
  | .hbm, ⟨45, _⟩ => ⟨S8x1024x5632, .f32⟩
  | .hbm, ⟨46, _⟩ => ⟨S8x1024x5632, .f32⟩
  | .hbm, ⟨47, _⟩ => ⟨S8192x5632, .f32⟩
  | .hbm, ⟨48, _⟩ => ⟨S8192x5632, .bf16⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]
-- ==== MatIn0.lean ====
abbrev S8192x2048 : Shape := ⟨2, ![8192, 2048]⟩
abbrev S4x2048x12800 : Shape := ⟨3, ![4, 2048, 12800]⟩
abbrev S8192x4608 : Shape := ⟨2, ![8192, 4608]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x12800, .f32⟩
  | .hbm, ⟨2, _⟩ => ⟨S8192x4608, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .f32⟩
  | .local _ .vmem, ⟨3, _⟩ => ⟨S1x2048x768, .f32⟩
  | .local _ .vmem, ⟨4, _⟩ => ⟨S1024x768, .f32⟩
  | .local _ .vmem, ⟨5, _⟩ => ⟨S1024x768, .f32⟩
  | .local _ .vmem, ⟨6, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatIn0Ideal.lean ====
abbrev S8192x2048 : Shape := ⟨2, ![8192, 2048]⟩
abbrev S4x2048x12800 : Shape := ⟨3, ![4, 2048, 12800]⟩
abbrev S8192x4608 : Shape := ⟨2, ![8192, 4608]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x12800, .f32⟩
  | .hbm, ⟨2, _⟩ => ⟨S8192x4608, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .f32⟩
  | .local _ .vmem, ⟨3, _⟩ => ⟨S1x2048x768, .f32⟩
  | .local _ .vmem, ⟨4, _⟩ => ⟨S1024x768, .f32⟩
  | .local _ .vmem, ⟨5, _⟩ => ⟨S1024x768, .f32⟩
  | .local _ .vmem, ⟨6, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatIn0RefIdeal.lean ====
abbrev S8192x2048 : Shape := ⟨2, ![8192, 2048]⟩
abbrev S4x2048x12800 : Shape := ⟨3, ![4, 2048, 12800]⟩
abbrev S1x2048x4608 : Shape := ⟨3, ![1, 2048, 4608]⟩
abbrev S2048x4608 : Shape := ⟨2, ![2048, 4608]⟩
abbrev S8192x4608 : Shape := ⟨2, ![8192, 4608]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x12800, .f32⟩
  | .hbm, ⟨2, _⟩ => ⟨S8192x2048, .f32⟩
  | .hbm, ⟨3, _⟩ => ⟨S1x2048x4608, .f32⟩
  | .hbm, ⟨4, _⟩ => ⟨S2048x4608, .f32⟩
  | .hbm, ⟨5, _⟩ => ⟨S8192x4608, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MatIn1.lean ====
abbrev S8192x2048 : Shape := ⟨2, ![8192, 2048]⟩
abbrev S4x2048x12800 : Shape := ⟨3, ![4, 2048, 12800]⟩
abbrev S8192x4608 : Shape := ⟨2, ![8192, 4608]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x12800, .f32⟩
  | .hbm, ⟨2, _⟩ => ⟨S8192x4608, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .f32⟩
  | .local _ .vmem, ⟨3, _⟩ => ⟨S1x2048x768, .f32⟩
  | .local _ .vmem, ⟨4, _⟩ => ⟨S1024x768, .f32⟩
  | .local _ .vmem, ⟨5, _⟩ => ⟨S1024x768, .f32⟩
  | .local _ .vmem, ⟨6, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatIn1Ideal.lean ====
abbrev S8192x2048 : Shape := ⟨2, ![8192, 2048]⟩
abbrev S4x2048x12800 : Shape := ⟨3, ![4, 2048, 12800]⟩
abbrev S8192x4608 : Shape := ⟨2, ![8192, 4608]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x12800, .f32⟩
  | .hbm, ⟨2, _⟩ => ⟨S8192x4608, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .f32⟩
  | .local _ .vmem, ⟨3, _⟩ => ⟨S1x2048x768, .f32⟩
  | .local _ .vmem, ⟨4, _⟩ => ⟨S1024x768, .f32⟩
  | .local _ .vmem, ⟨5, _⟩ => ⟨S1024x768, .f32⟩
  | .local _ .vmem, ⟨6, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatIn1RefIdeal.lean ====
abbrev S8192x2048 : Shape := ⟨2, ![8192, 2048]⟩
abbrev S4x2048x12800 : Shape := ⟨3, ![4, 2048, 12800]⟩
abbrev S1x2048x4608 : Shape := ⟨3, ![1, 2048, 4608]⟩
abbrev S2048x4608 : Shape := ⟨2, ![2048, 4608]⟩
abbrev S8192x4608 : Shape := ⟨2, ![8192, 4608]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x12800, .f32⟩
  | .hbm, ⟨2, _⟩ => ⟨S8192x2048, .f32⟩
  | .hbm, ⟨3, _⟩ => ⟨S1x2048x4608, .f32⟩
  | .hbm, ⟨4, _⟩ => ⟨S2048x4608, .f32⟩
  | .hbm, ⟨5, _⟩ => ⟨S8192x4608, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MatIn2.lean ====
abbrev S8192x2048 : Shape := ⟨2, ![8192, 2048]⟩
abbrev S4x2048x12800 : Shape := ⟨3, ![4, 2048, 12800]⟩
abbrev S8192x4608 : Shape := ⟨2, ![8192, 4608]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x12800, .f32⟩
  | .hbm, ⟨2, _⟩ => ⟨S8192x4608, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .f32⟩
  | .local _ .vmem, ⟨3, _⟩ => ⟨S1x2048x768, .f32⟩
  | .local _ .vmem, ⟨4, _⟩ => ⟨S1024x768, .f32⟩
  | .local _ .vmem, ⟨5, _⟩ => ⟨S1024x768, .f32⟩
  | .local _ .vmem, ⟨6, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let c0_i32_0 : BitVec 32 := 0#32
  let c0_i32_1 : BitVec 32 := 0#32
  ![c2_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatIn2Ideal.lean ====
abbrev S8192x2048 : Shape := ⟨2, ![8192, 2048]⟩
abbrev S4x2048x12800 : Shape := ⟨3, ![4, 2048, 12800]⟩
abbrev S8192x4608 : Shape := ⟨2, ![8192, 4608]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x12800, .f32⟩
  | .hbm, ⟨2, _⟩ => ⟨S8192x4608, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .f32⟩
  | .local _ .vmem, ⟨3, _⟩ => ⟨S1x2048x768, .f32⟩
  | .local _ .vmem, ⟨4, _⟩ => ⟨S1024x768, .f32⟩
  | .local _ .vmem, ⟨5, _⟩ => ⟨S1024x768, .f32⟩
  | .local _ .vmem, ⟨6, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let c0_i32_0 : BitVec 32 := 0#32
  let c0_i32_1 : BitVec 32 := 0#32
  ![c2_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatIn2RefIdeal.lean ====
abbrev S8192x2048 : Shape := ⟨2, ![8192, 2048]⟩
abbrev S4x2048x12800 : Shape := ⟨3, ![4, 2048, 12800]⟩
abbrev S1x2048x4608 : Shape := ⟨3, ![1, 2048, 4608]⟩
abbrev S2048x4608 : Shape := ⟨2, ![2048, 4608]⟩
abbrev S8192x4608 : Shape := ⟨2, ![8192, 4608]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x12800, .f32⟩
  | .hbm, ⟨2, _⟩ => ⟨S8192x2048, .f32⟩
  | .hbm, ⟨3, _⟩ => ⟨S1x2048x4608, .f32⟩
  | .hbm, ⟨4, _⟩ => ⟨S2048x4608, .f32⟩
  | .hbm, ⟨5, _⟩ => ⟨S8192x4608, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MatIn3.lean ====
abbrev S8192x2048 : Shape := ⟨2, ![8192, 2048]⟩
abbrev S4x2048x12800 : Shape := ⟨3, ![4, 2048, 12800]⟩
abbrev S8192x4608 : Shape := ⟨2, ![8192, 4608]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x12800, .f32⟩
  | .hbm, ⟨2, _⟩ => ⟨S8192x4608, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .f32⟩
  | .local _ .vmem, ⟨3, _⟩ => ⟨S1x2048x768, .f32⟩
  | .local _ .vmem, ⟨4, _⟩ => ⟨S1024x768, .f32⟩
  | .local _ .vmem, ⟨5, _⟩ => ⟨S1024x768, .f32⟩
  | .local _ .vmem, ⟨6, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let c0_i32_0 : BitVec 32 := 0#32
  let c0_i32_1 : BitVec 32 := 0#32
  ![c3_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatIn3Ideal.lean ====
abbrev S8192x2048 : Shape := ⟨2, ![8192, 2048]⟩
abbrev S4x2048x12800 : Shape := ⟨3, ![4, 2048, 12800]⟩
abbrev S8192x4608 : Shape := ⟨2, ![8192, 4608]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x12800, .f32⟩
  | .hbm, ⟨2, _⟩ => ⟨S8192x4608, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .f32⟩
  | .local _ .vmem, ⟨3, _⟩ => ⟨S1x2048x768, .f32⟩
  | .local _ .vmem, ⟨4, _⟩ => ⟨S1024x768, .f32⟩
  | .local _ .vmem, ⟨5, _⟩ => ⟨S1024x768, .f32⟩
  | .local _ .vmem, ⟨6, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let c0_i32_0 : BitVec 32 := 0#32
  let c0_i32_1 : BitVec 32 := 0#32
  ![c3_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatIn3RefIdeal.lean ====
abbrev S8192x2048 : Shape := ⟨2, ![8192, 2048]⟩
abbrev S4x2048x12800 : Shape := ⟨3, ![4, 2048, 12800]⟩
abbrev S1x2048x4608 : Shape := ⟨3, ![1, 2048, 4608]⟩
abbrev S2048x4608 : Shape := ⟨2, ![2048, 4608]⟩
abbrev S8192x4608 : Shape := ⟨2, ![8192, 4608]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x12800, .f32⟩
  | .hbm, ⟨2, _⟩ => ⟨S8192x2048, .f32⟩
  | .hbm, ⟨3, _⟩ => ⟨S1x2048x4608, .f32⟩
  | .hbm, ⟨4, _⟩ => ⟨S2048x4608, .f32⟩
  | .hbm, ⟨5, _⟩ => ⟨S8192x4608, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MatOut0.lean ====
abbrev S8192x2048 : Shape := ⟨2, ![8192, 2048]⟩
abbrev S4x2048x2048 : Shape := ⟨3, ![4, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatOut0Ideal.lean ====
abbrev S8192x2048 : Shape := ⟨2, ![8192, 2048]⟩
abbrev S4x2048x2048 : Shape := ⟨3, ![4, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatOut0RefIdeal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S1x2048x2048, .f32⟩
  | .hbm, ⟨4, _⟩ => ⟨S2048x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MatOut1.lean ====
abbrev S8192x2048 : Shape := ⟨2, ![8192, 2048]⟩
abbrev S4x2048x2048 : Shape := ⟨3, ![4, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatOut1Ideal.lean ====
abbrev S8192x2048 : Shape := ⟨2, ![8192, 2048]⟩
abbrev S4x2048x2048 : Shape := ⟨3, ![4, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatOut1RefIdeal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S1x2048x2048, .f32⟩
  | .hbm, ⟨4, _⟩ => ⟨S2048x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MatOut2.lean ====
abbrev S8192x2048 : Shape := ⟨2, ![8192, 2048]⟩
abbrev S4x2048x2048 : Shape := ⟨3, ![4, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let c0_i32_0 : BitVec 32 := 0#32
  let c0_i32_1 : BitVec 32 := 0#32
  ![c2_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatOut2Ideal.lean ====
abbrev S8192x2048 : Shape := ⟨2, ![8192, 2048]⟩
abbrev S4x2048x2048 : Shape := ⟨3, ![4, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let c0_i32_0 : BitVec 32 := 0#32
  let c0_i32_1 : BitVec 32 := 0#32
  ![c2_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatOut2RefIdeal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S1x2048x2048, .f32⟩
  | .hbm, ⟨4, _⟩ => ⟨S2048x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MatOut3.lean ====
abbrev S8192x2048 : Shape := ⟨2, ![8192, 2048]⟩
abbrev S4x2048x2048 : Shape := ⟨3, ![4, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let c0_i32_0 : BitVec 32 := 0#32
  let c0_i32_1 : BitVec 32 := 0#32
  ![c3_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatOut3Ideal.lean ====
abbrev S8192x2048 : Shape := ⟨2, ![8192, 2048]⟩
abbrev S4x2048x2048 : Shape := ⟨3, ![4, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let c0_i32_0 : BitVec 32 := 0#32
  let c0_i32_1 : BitVec 32 := 0#32
  ![c3_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatOut3RefIdeal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S1x2048x2048, .f32⟩
  | .hbm, ⟨4, _⟩ => ⟨S2048x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mix0.lean ====
abbrev S8192x2048 : Shape := ⟨2, ![8192, 2048]⟩
abbrev S8192x512 : Shape := ⟨2, ![8192, 512]⟩
abbrev S4x2048x12800 : Shape := ⟨3, ![4, 2048, 12800]⟩
abbrev S4x512x2048 : Shape := ⟨3, ![4, 512, 2048]⟩
abbrev S1024x2048 : Shape := ⟨2, ![1024, 2048]⟩
abbrev S1024x512 : Shape := ⟨2, ![1024, 512]⟩
abbrev S1x2048x256 : Shape := ⟨3, ![1, 2048, 256]⟩
abbrev S1x512x256 : Shape := ⟨3, ![1, 512, 256]⟩
abbrev S1024x256 : Shape := ⟨2, ![1024, 256]⟩
abbrev S4x2048x256 : Shape := ⟨3, ![4, 2048, 256]⟩
abbrev S4x512x256 : Shape := ⟨3, ![4, 512, 256]⟩
abbrev S2048x256 : Shape := ⟨2, ![2048, 256]⟩
abbrev S512x256 : Shape := ⟨2, ![512, 256]⟩

abbrev nBuf : Space → Nat
  | .hbm => 11
  | .vmem => 30
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S4x2048x12800, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S4x512x2048, .f32⟩
  | .hbm, ⟨10, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | .local _ .vmem, ⟨26, _⟩ => ⟨S1024x256, .bf16⟩
  | .local _ .vmem, ⟨27, _⟩ => ⟨S1024x256, .bf16⟩
  | .local _ .vmem, ⟨28, _⟩ => ⟨S4x2048x256, .bf16⟩
  | .local _ .vmem, ⟨29, _⟩ => ⟨S4x512x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg0
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Mix0Ideal.lean ====
abbrev S8192x2048 : Shape := ⟨2, ![8192, 2048]⟩
abbrev S8192x512 : Shape := ⟨2, ![8192, 512]⟩
abbrev S4x2048x12800 : Shape := ⟨3, ![4, 2048, 12800]⟩
abbrev S4x512x2048 : Shape := ⟨3, ![4, 512, 2048]⟩
abbrev S1024x2048 : Shape := ⟨2, ![1024, 2048]⟩
abbrev S1024x512 : Shape := ⟨2, ![1024, 512]⟩
abbrev S1x2048x256 : Shape := ⟨3, ![1, 2048, 256]⟩
abbrev S1x512x256 : Shape := ⟨3, ![1, 512, 256]⟩
abbrev S1024x256 : Shape := ⟨2, ![1024, 256]⟩
abbrev S4x2048x256 : Shape := ⟨3, ![4, 2048, 256]⟩
abbrev S4x512x256 : Shape := ⟨3, ![4, 512, 256]⟩
abbrev S2048x256 : Shape := ⟨2, ![2048, 256]⟩
abbrev S512x256 : Shape := ⟨2, ![512, 256]⟩

abbrev nBuf : Space → Nat
  | .hbm => 11
  | .vmem => 30
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S4x2048x12800, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S4x512x2048, .f32⟩
  | .hbm, ⟨10, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | .local _ .vmem, ⟨26, _⟩ => ⟨S1024x256, .bf16⟩
  | .local _ .vmem, ⟨27, _⟩ => ⟨S1024x256, .bf16⟩
  | .local _ .vmem, ⟨28, _⟩ => ⟨S4x2048x256, .bf16⟩
  | .local _ .vmem, ⟨29, _⟩ => ⟨S4x512x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg0
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Mix0RefIdeal.lean ====
abbrev S8192x2048 : Shape := ⟨2, ![8192, 2048]⟩
abbrev S8192x512 : Shape := ⟨2, ![8192, 512]⟩
abbrev S4x2048x12800 : Shape := ⟨3, ![4, 2048, 12800]⟩
abbrev S4x512x2048 : Shape := ⟨3, ![4, 512, 2048]⟩
abbrev S1x2048x8192 : Shape := ⟨3, ![1, 2048, 8192]⟩
abbrev S2048x8192 : Shape := ⟨2, ![2048, 8192]⟩
abbrev S8192x8192 : Shape := ⟨2, ![8192, 8192]⟩
abbrev S8192x4x2048 : Shape := ⟨3, ![8192, 4, 2048]⟩
abbrev S_ : Shape := ⟨0, ![]⟩
abbrev S1x512x2048 : Shape := ⟨3, ![1, 512, 2048]⟩
abbrev S512x2048 : Shape := ⟨2, ![512, 2048]⟩
abbrev S8192x1x2048 : Shape := ⟨3, ![8192, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S4x2048x12800, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S4x512x2048, .f32⟩
  | .hbm, ⟨10, _⟩ => ⟨S8192x2048, .f32⟩
  | .hbm, ⟨11, _⟩ => ⟨S1x2048x8192, .f32⟩
  | .hbm, ⟨12, _⟩ => ⟨S2048x8192, .f32⟩
  | .hbm, ⟨13, _⟩ => ⟨S8192x8192, .f32⟩
  | .hbm, ⟨14, _⟩ => ⟨S8192x4x2048, .f32⟩
  | .hbm, ⟨15, _⟩ => ⟨S8192x4x2048, .f32⟩
  | .hbm, ⟨16, _⟩ => ⟨S8192x4x2048, .f32⟩
  | .hbm, ⟨17, _⟩ => ⟨S_, .f32⟩
  | .hbm, ⟨18, _⟩ => ⟨S8192x4x2048, .f32⟩
  | .hbm, ⟨19, _⟩ => ⟨S8192x4x2048, .f32⟩
  | .hbm, ⟨20, _⟩ => ⟨S_, .f32⟩
  | .hbm, ⟨21, _⟩ => ⟨S8192x4x2048, .f32⟩
  | .hbm, ⟨22, _⟩ => ⟨S8192x4x2048, .f32⟩
  | .hbm, ⟨23, _⟩ => ⟨S8192x512, .f32⟩
  | .hbm, ⟨24, _⟩ => ⟨S1x512x2048, .f32⟩
  | .hbm, ⟨25, _⟩ => ⟨S512x2048, .f32⟩
  | .hbm, ⟨26, _⟩ => ⟨S8192x2048, .f32⟩
  | .hbm, ⟨27, _⟩ => ⟨S8192x512, .f32⟩
  | .hbm, ⟨28, _⟩ => ⟨S1x512x2048, .f32⟩
  | .hbm, ⟨29, _⟩ => ⟨S512x2048, .f32⟩
  | .hbm, ⟨30, _⟩ => ⟨S8192x2048, .f32⟩
  | .hbm, ⟨31, _⟩ => ⟨S8192x512, .f32⟩
  | .hbm, ⟨32, _⟩ => ⟨S1x512x2048, .f32⟩
  | .hbm, ⟨33, _⟩ => ⟨S512x2048, .f32⟩
  | .hbm, ⟨34, _⟩ => ⟨S8192x2048, .f32⟩
  | .hbm, ⟨35, _⟩ => ⟨S8192x512, .f32⟩
  | .hbm, ⟨36, _⟩ => ⟨S1x512x2048, .f32⟩
  | .hbm, ⟨37, _⟩ => ⟨S512x2048, .f32⟩
  | .hbm, ⟨38, _⟩ => ⟨S8192x2048, .f32⟩
  | .hbm, ⟨39, _⟩ => ⟨S8192x1x2048, .f32⟩
  | .hbm, ⟨40, _⟩ => ⟨S8192x2048, .f32⟩
  | .hbm, ⟨41, _⟩ => ⟨S8192x2048, .f32⟩
  | .hbm, ⟨42, _⟩ => ⟨S8192x1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Mix1.lean ====
abbrev S8192x2048 : Shape := ⟨2, ![8192, 2048]⟩
abbrev S8192x512 : Shape := ⟨2, ![8192, 512]⟩
abbrev S4x2048x12800 : Shape := ⟨3, ![4, 2048, 12800]⟩
abbrev S4x512x2048 : Shape := ⟨3, ![4, 512, 2048]⟩
abbrev S1024x2048 : Shape := ⟨2, ![1024, 2048]⟩
abbrev S1024x512 : Shape := ⟨2, ![1024, 512]⟩
abbrev S1x2048x256 : Shape := ⟨3, ![1, 2048, 256]⟩
abbrev S1x512x256 : Shape := ⟨3, ![1, 512, 256]⟩
abbrev S1024x256 : Shape := ⟨2, ![1024, 256]⟩
abbrev S4x2048x256 : Shape := ⟨3, ![4, 2048, 256]⟩
abbrev S4x512x256 : Shape := ⟨3, ![4, 512, 256]⟩
abbrev S2048x256 : Shape := ⟨2, ![2048, 256]⟩
abbrev S512x256 : Shape := ⟨2, ![512, 256]⟩

abbrev nBuf : Space → Nat
  | .hbm => 11
  | .vmem => 30
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S4x2048x12800, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S4x512x2048, .f32⟩
  | .hbm, ⟨10, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | .local _ .vmem, ⟨26, _⟩ => ⟨S1024x256, .bf16⟩
  | .local _ .vmem, ⟨27, _⟩ => ⟨S1024x256, .bf16⟩
  | .local _ .vmem, ⟨28, _⟩ => ⟨S4x2048x256, .bf16⟩
  | .local _ .vmem, ⟨29, _⟩ => ⟨S4x512x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg0
  let c1_i32 : BitVec 32 := 1#32
  let c0_i32 : BitVec 32 := 0#32
  let c0_i32_0 : BitVec 32 := 0#32
  ![c1_i32.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c1_i32 : BitVec 32 := 1#32
  let c0_i32 : BitVec 32 := 0#32
  let c0_i32_0 : BitVec 32 := 0#32
  ![c1_i32.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Mix1Ideal.lean ====
abbrev S8192x2048 : Shape := ⟨2, ![8192, 2048]⟩
abbrev S8192x512 : Shape := ⟨2, ![8192, 512]⟩
abbrev S4x2048x12800 : Shape := ⟨3, ![4, 2048, 12800]⟩
abbrev S4x512x2048 : Shape := ⟨3, ![4, 512, 2048]⟩
abbrev S1024x2048 : Shape := ⟨2, ![1024, 2048]⟩
abbrev S1024x512 : Shape := ⟨2, ![1024, 512]⟩
abbrev S1x2048x256 : Shape := ⟨3, ![1, 2048, 256]⟩
abbrev S1x512x256 : Shape := ⟨3, ![1, 512, 256]⟩
abbrev S1024x256 : Shape := ⟨2, ![1024, 256]⟩
abbrev S4x2048x256 : Shape := ⟨3, ![4, 2048, 256]⟩
abbrev S4x512x256 : Shape := ⟨3, ![4, 512, 256]⟩
abbrev S2048x256 : Shape := ⟨2, ![2048, 256]⟩
abbrev S512x256 : Shape := ⟨2, ![512, 256]⟩

abbrev nBuf : Space → Nat
  | .hbm => 11
  | .vmem => 30
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S4x2048x12800, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S4x512x2048, .f32⟩
  | .hbm, ⟨10, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | .local _ .vmem, ⟨26, _⟩ => ⟨S1024x256, .bf16⟩
  | .local _ .vmem, ⟨27, _⟩ => ⟨S1024x256, .bf16⟩
  | .local _ .vmem, ⟨28, _⟩ => ⟨S4x2048x256, .bf16⟩
  | .local _ .vmem, ⟨29, _⟩ => ⟨S4x512x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg0
  let c1_i32 : BitVec 32 := 1#32
  let c0_i32 : BitVec 32 := 0#32
  let c0_i32_0 : BitVec 32 := 0#32
  ![c1_i32.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c1_i32 : BitVec 32 := 1#32
  let c0_i32 : BitVec 32 := 0#32
  let c0_i32_0 : BitVec 32 := 0#32
  ![c1_i32.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Mix1RefIdeal.lean ====
abbrev S8192x2048 : Shape := ⟨2, ![8192, 2048]⟩
abbrev S8192x512 : Shape := ⟨2, ![8192, 512]⟩
abbrev S4x2048x12800 : Shape := ⟨3, ![4, 2048, 12800]⟩
abbrev S4x512x2048 : Shape := ⟨3, ![4, 512, 2048]⟩
abbrev S1x2048x8192 : Shape := ⟨3, ![1, 2048, 8192]⟩
abbrev S2048x8192 : Shape := ⟨2, ![2048, 8192]⟩
abbrev S8192x8192 : Shape := ⟨2, ![8192, 8192]⟩
abbrev S8192x4x2048 : Shape := ⟨3, ![8192, 4, 2048]⟩
abbrev S_ : Shape := ⟨0, ![]⟩
abbrev S1x512x2048 : Shape := ⟨3, ![1, 512, 2048]⟩
abbrev S512x2048 : Shape := ⟨2, ![512, 2048]⟩
abbrev S8192x1x2048 : Shape := ⟨3, ![8192, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S4x2048x12800, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S4x512x2048, .f32⟩
  | .hbm, ⟨10, _⟩ => ⟨S8192x2048, .f32⟩
  | .hbm, ⟨11, _⟩ => ⟨S1x2048x8192, .f32⟩
  | .hbm, ⟨12, _⟩ => ⟨S2048x8192, .f32⟩
  | .hbm, ⟨13, _⟩ => ⟨S8192x8192, .f32⟩
  | .hbm, ⟨14, _⟩ => ⟨S8192x4x2048, .f32⟩
  | .hbm, ⟨15, _⟩ => ⟨S8192x4x2048, .f32⟩
  | .hbm, ⟨16, _⟩ => ⟨S8192x4x2048, .f32⟩
  | .hbm, ⟨17, _⟩ => ⟨S_, .f32⟩
  | .hbm, ⟨18, _⟩ => ⟨S8192x4x2048, .f32⟩
  | .hbm, ⟨19, _⟩ => ⟨S8192x4x2048, .f32⟩
  | .hbm, ⟨20, _⟩ => ⟨S_, .f32⟩
  | .hbm, ⟨21, _⟩ => ⟨S8192x4x2048, .f32⟩
  | .hbm, ⟨22, _⟩ => ⟨S8192x4x2048, .f32⟩
  | .hbm, ⟨23, _⟩ => ⟨S8192x512, .f32⟩
  | .hbm, ⟨24, _⟩ => ⟨S1x512x2048, .f32⟩
  | .hbm, ⟨25, _⟩ => ⟨S512x2048, .f32⟩
  | .hbm, ⟨26, _⟩ => ⟨S8192x2048, .f32⟩
  | .hbm, ⟨27, _⟩ => ⟨S8192x512, .f32⟩
  | .hbm, ⟨28, _⟩ => ⟨S1x512x2048, .f32⟩
  | .hbm, ⟨29, _⟩ => ⟨S512x2048, .f32⟩
  | .hbm, ⟨30, _⟩ => ⟨S8192x2048, .f32⟩
  | .hbm, ⟨31, _⟩ => ⟨S8192x512, .f32⟩
  | .hbm, ⟨32, _⟩ => ⟨S1x512x2048, .f32⟩
  | .hbm, ⟨33, _⟩ => ⟨S512x2048, .f32⟩
  | .hbm, ⟨34, _⟩ => ⟨S8192x2048, .f32⟩
  | .hbm, ⟨35, _⟩ => ⟨S8192x512, .f32⟩
  | .hbm, ⟨36, _⟩ => ⟨S1x512x2048, .f32⟩
  | .hbm, ⟨37, _⟩ => ⟨S512x2048, .f32⟩
  | .hbm, ⟨38, _⟩ => ⟨S8192x2048, .f32⟩
  | .hbm, ⟨39, _⟩ => ⟨S8192x1x2048, .f32⟩
  | .hbm, ⟨40, _⟩ => ⟨S8192x2048, .f32⟩
  | .hbm, ⟨41, _⟩ => ⟨S8192x2048, .f32⟩
  | .hbm, ⟨42, _⟩ => ⟨S8192x1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Mix2.lean ====
abbrev S8192x2048 : Shape := ⟨2, ![8192, 2048]⟩
abbrev S8192x512 : Shape := ⟨2, ![8192, 512]⟩
abbrev S4x2048x12800 : Shape := ⟨3, ![4, 2048, 12800]⟩
abbrev S4x512x2048 : Shape := ⟨3, ![4, 512, 2048]⟩
abbrev S1024x2048 : Shape := ⟨2, ![1024, 2048]⟩
abbrev S1024x512 : Shape := ⟨2, ![1024, 512]⟩
abbrev S1x2048x256 : Shape := ⟨3, ![1, 2048, 256]⟩
abbrev S1x512x256 : Shape := ⟨3, ![1, 512, 256]⟩
abbrev S1024x256 : Shape := ⟨2, ![1024, 256]⟩
abbrev S4x2048x256 : Shape := ⟨3, ![4, 2048, 256]⟩
abbrev S4x512x256 : Shape := ⟨3, ![4, 512, 256]⟩
abbrev S2048x256 : Shape := ⟨2, ![2048, 256]⟩
abbrev S512x256 : Shape := ⟨2, ![512, 256]⟩

abbrev nBuf : Space → Nat
  | .hbm => 11
  | .vmem => 30
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S4x2048x12800, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S4x512x2048, .f32⟩
  | .hbm, ⟨10, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | .local _ .vmem, ⟨26, _⟩ => ⟨S1024x256, .bf16⟩
  | .local _ .vmem, ⟨27, _⟩ => ⟨S1024x256, .bf16⟩
  | .local _ .vmem, ⟨28, _⟩ => ⟨S4x2048x256, .bf16⟩
  | .local _ .vmem, ⟨29, _⟩ => ⟨S4x512x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c2_i32 : BitVec 32 := 2#32
  let c0_i32 : BitVec 32 := 0#32
  let c0_i32_0 : BitVec 32 := 0#32
  ![c2_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c2_i32 : BitVec 32 := 2#32
  let c0_i32 : BitVec 32 := 0#32
  let c0_i32_0 : BitVec 32 := 0#32
  ![c2_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg0
  let c2_i32 : BitVec 32 := 2#32
  let c0_i32 : BitVec 32 := 0#32
  let c0_i32_0 : BitVec 32 := 0#32
  ![c2_i32.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c2_i32 : BitVec 32 := 2#32
  let c0_i32 : BitVec 32 := 0#32
  let c0_i32_0 : BitVec 32 := 0#32
  ![c2_i32.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Mix2Ideal.lean ====
abbrev S8192x2048 : Shape := ⟨2, ![8192, 2048]⟩
abbrev S8192x512 : Shape := ⟨2, ![8192, 512]⟩
abbrev S4x2048x12800 : Shape := ⟨3, ![4, 2048, 12800]⟩
abbrev S4x512x2048 : Shape := ⟨3, ![4, 512, 2048]⟩
abbrev S1024x2048 : Shape := ⟨2, ![1024, 2048]⟩
abbrev S1024x512 : Shape := ⟨2, ![1024, 512]⟩
abbrev S1x2048x256 : Shape := ⟨3, ![1, 2048, 256]⟩
abbrev S1x512x256 : Shape := ⟨3, ![1, 512, 256]⟩
abbrev S1024x256 : Shape := ⟨2, ![1024, 256]⟩
abbrev S4x2048x256 : Shape := ⟨3, ![4, 2048, 256]⟩
abbrev S4x512x256 : Shape := ⟨3, ![4, 512, 256]⟩
abbrev S2048x256 : Shape := ⟨2, ![2048, 256]⟩
abbrev S512x256 : Shape := ⟨2, ![512, 256]⟩

abbrev nBuf : Space → Nat
  | .hbm => 11
  | .vmem => 30
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S4x2048x12800, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S4x512x2048, .f32⟩
  | .hbm, ⟨10, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | .local _ .vmem, ⟨26, _⟩ => ⟨S1024x256, .bf16⟩
  | .local _ .vmem, ⟨27, _⟩ => ⟨S1024x256, .bf16⟩
  | .local _ .vmem, ⟨28, _⟩ => ⟨S4x2048x256, .bf16⟩
  | .local _ .vmem, ⟨29, _⟩ => ⟨S4x512x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c2_i32 : BitVec 32 := 2#32
  let c0_i32 : BitVec 32 := 0#32
  let c0_i32_0 : BitVec 32 := 0#32
  ![c2_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c2_i32 : BitVec 32 := 2#32
  let c0_i32 : BitVec 32 := 0#32
  let c0_i32_0 : BitVec 32 := 0#32
  ![c2_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg0
  let c2_i32 : BitVec 32 := 2#32
  let c0_i32 : BitVec 32 := 0#32
  let c0_i32_0 : BitVec 32 := 0#32
  ![c2_i32.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c2_i32 : BitVec 32 := 2#32
  let c0_i32 : BitVec 32 := 0#32
  let c0_i32_0 : BitVec 32 := 0#32
  ![c2_i32.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Mix2RefIdeal.lean ====
abbrev S8192x2048 : Shape := ⟨2, ![8192, 2048]⟩
abbrev S8192x512 : Shape := ⟨2, ![8192, 512]⟩
abbrev S4x2048x12800 : Shape := ⟨3, ![4, 2048, 12800]⟩
abbrev S4x512x2048 : Shape := ⟨3, ![4, 512, 2048]⟩
abbrev S1x2048x8192 : Shape := ⟨3, ![1, 2048, 8192]⟩
abbrev S2048x8192 : Shape := ⟨2, ![2048, 8192]⟩
abbrev S8192x8192 : Shape := ⟨2, ![8192, 8192]⟩
abbrev S8192x4x2048 : Shape := ⟨3, ![8192, 4, 2048]⟩
abbrev S_ : Shape := ⟨0, ![]⟩
abbrev S1x512x2048 : Shape := ⟨3, ![1, 512, 2048]⟩
abbrev S512x2048 : Shape := ⟨2, ![512, 2048]⟩
abbrev S8192x1x2048 : Shape := ⟨3, ![8192, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S4x2048x12800, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S4x512x2048, .f32⟩
  | .hbm, ⟨10, _⟩ => ⟨S8192x2048, .f32⟩
  | .hbm, ⟨11, _⟩ => ⟨S1x2048x8192, .f32⟩
  | .hbm, ⟨12, _⟩ => ⟨S2048x8192, .f32⟩
  | .hbm, ⟨13, _⟩ => ⟨S8192x8192, .f32⟩
  | .hbm, ⟨14, _⟩ => ⟨S8192x4x2048, .f32⟩
  | .hbm, ⟨15, _⟩ => ⟨S8192x4x2048, .f32⟩
  | .hbm, ⟨16, _⟩ => ⟨S8192x4x2048, .f32⟩
  | .hbm, ⟨17, _⟩ => ⟨S_, .f32⟩
  | .hbm, ⟨18, _⟩ => ⟨S8192x4x2048, .f32⟩
  | .hbm, ⟨19, _⟩ => ⟨S8192x4x2048, .f32⟩
  | .hbm, ⟨20, _⟩ => ⟨S_, .f32⟩
  | .hbm, ⟨21, _⟩ => ⟨S8192x4x2048, .f32⟩
  | .hbm, ⟨22, _⟩ => ⟨S8192x4x2048, .f32⟩
  | .hbm, ⟨23, _⟩ => ⟨S8192x512, .f32⟩
  | .hbm, ⟨24, _⟩ => ⟨S1x512x2048, .f32⟩
  | .hbm, ⟨25, _⟩ => ⟨S512x2048, .f32⟩
  | .hbm, ⟨26, _⟩ => ⟨S8192x2048, .f32⟩
  | .hbm, ⟨27, _⟩ => ⟨S8192x512, .f32⟩
  | .hbm, ⟨28, _⟩ => ⟨S1x512x2048, .f32⟩
  | .hbm, ⟨29, _⟩ => ⟨S512x2048, .f32⟩
  | .hbm, ⟨30, _⟩ => ⟨S8192x2048, .f32⟩
  | .hbm, ⟨31, _⟩ => ⟨S8192x512, .f32⟩
  | .hbm, ⟨32, _⟩ => ⟨S1x512x2048, .f32⟩
  | .hbm, ⟨33, _⟩ => ⟨S512x2048, .f32⟩
  | .hbm, ⟨34, _⟩ => ⟨S8192x2048, .f32⟩
  | .hbm, ⟨35, _⟩ => ⟨S8192x512, .f32⟩
  | .hbm, ⟨36, _⟩ => ⟨S1x512x2048, .f32⟩
  | .hbm, ⟨37, _⟩ => ⟨S512x2048, .f32⟩
  | .hbm, ⟨38, _⟩ => ⟨S8192x2048, .f32⟩
  | .hbm, ⟨39, _⟩ => ⟨S8192x1x2048, .f32⟩
  | .hbm, ⟨40, _⟩ => ⟨S8192x2048, .f32⟩
  | .hbm, ⟨41, _⟩ => ⟨S8192x2048, .f32⟩
  | .hbm, ⟨42, _⟩ => ⟨S8192x1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Mix3.lean ====
abbrev S8192x2048 : Shape := ⟨2, ![8192, 2048]⟩
abbrev S8192x512 : Shape := ⟨2, ![8192, 512]⟩
abbrev S4x2048x12800 : Shape := ⟨3, ![4, 2048, 12800]⟩
abbrev S4x512x2048 : Shape := ⟨3, ![4, 512, 2048]⟩
abbrev S1024x2048 : Shape := ⟨2, ![1024, 2048]⟩
abbrev S1024x512 : Shape := ⟨2, ![1024, 512]⟩
abbrev S1x2048x256 : Shape := ⟨3, ![1, 2048, 256]⟩
abbrev S1x512x256 : Shape := ⟨3, ![1, 512, 256]⟩
abbrev S1024x256 : Shape := ⟨2, ![1024, 256]⟩
abbrev S4x2048x256 : Shape := ⟨3, ![4, 2048, 256]⟩
abbrev S4x512x256 : Shape := ⟨3, ![4, 512, 256]⟩
abbrev S2048x256 : Shape := ⟨2, ![2048, 256]⟩
abbrev S512x256 : Shape := ⟨2, ![512, 256]⟩

abbrev nBuf : Space → Nat
  | .hbm => 11
  | .vmem => 30
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S4x2048x12800, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S4x512x2048, .f32⟩
  | .hbm, ⟨10, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | .local _ .vmem, ⟨26, _⟩ => ⟨S1024x256, .bf16⟩
  | .local _ .vmem, ⟨27, _⟩ => ⟨S1024x256, .bf16⟩
  | .local _ .vmem, ⟨28, _⟩ => ⟨S4x2048x256, .bf16⟩
  | .local _ .vmem, ⟨29, _⟩ => ⟨S4x512x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c3_i32 : BitVec 32 := 3#32
  let c0_i32 : BitVec 32 := 0#32
  let c0_i32_0 : BitVec 32 := 0#32
  ![c3_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c3_i32 : BitVec 32 := 3#32
  let c0_i32 : BitVec 32 := 0#32
  let c0_i32_0 : BitVec 32 := 0#32
  ![c3_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg0
  let c3_i32 : BitVec 32 := 3#32
  let c0_i32 : BitVec 32 := 0#32
  let c0_i32_0 : BitVec 32 := 0#32
  ![c3_i32.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c3_i32 : BitVec 32 := 3#32
  let c0_i32 : BitVec 32 := 0#32
  let c0_i32_0 : BitVec 32 := 0#32
  ![c3_i32.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_12 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Mix3RefIdeal.lean ====
abbrev S8192x2048 : Shape := ⟨2, ![8192, 2048]⟩
abbrev S8192x512 : Shape := ⟨2, ![8192, 512]⟩
abbrev S4x2048x12800 : Shape := ⟨3, ![4, 2048, 12800]⟩
abbrev S4x512x2048 : Shape := ⟨3, ![4, 512, 2048]⟩
abbrev S1x2048x8192 : Shape := ⟨3, ![1, 2048, 8192]⟩
abbrev S2048x8192 : Shape := ⟨2, ![2048, 8192]⟩
abbrev S8192x8192 : Shape := ⟨2, ![8192, 8192]⟩
abbrev S8192x4x2048 : Shape := ⟨3, ![8192, 4, 2048]⟩
abbrev S_ : Shape := ⟨0, ![]⟩
abbrev S1x512x2048 : Shape := ⟨3, ![1, 512, 2048]⟩
abbrev S512x2048 : Shape := ⟨2, ![512, 2048]⟩
abbrev S8192x1x2048 : Shape := ⟨3, ![8192, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S4x2048x12800, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S4x512x2048, .f32⟩
  | .hbm, ⟨10, _⟩ => ⟨S8192x2048, .f32⟩
  | .hbm, ⟨11, _⟩ => ⟨S1x2048x8192, .f32⟩
  | .hbm, ⟨12, _⟩ => ⟨S2048x8192, .f32⟩
  | .hbm, ⟨13, _⟩ => ⟨S8192x8192, .f32⟩
  | .hbm, ⟨14, _⟩ => ⟨S8192x4x2048, .f32⟩
  | .hbm, ⟨15, _⟩ => ⟨S8192x4x2048, .f32⟩
  | .hbm, ⟨16, _⟩ => ⟨S8192x4x2048, .f32⟩
  | .hbm, ⟨17, _⟩ => ⟨S_, .f32⟩
  | .hbm, ⟨18, _⟩ => ⟨S8192x4x2048, .f32⟩
  | .hbm, ⟨19, _⟩ => ⟨S8192x4x2048, .f32⟩
  | .hbm, ⟨20, _⟩ => ⟨S_, .f32⟩
  | .hbm, ⟨21, _⟩ => ⟨S8192x4x2048, .f32⟩
  | .hbm, ⟨22, _⟩ => ⟨S8192x4x2048, .f32⟩
  | .hbm, ⟨23, _⟩ => ⟨S8192x512, .f32⟩
  | .hbm, ⟨24, _⟩ => ⟨S1x512x2048, .f32⟩
  | .hbm, ⟨25, _⟩ => ⟨S512x2048, .f32⟩
  | .hbm, ⟨26, _⟩ => ⟨S8192x2048, .f32⟩
  | .hbm, ⟨27, _⟩ => ⟨S8192x512, .f32⟩
  | .hbm, ⟨28, _⟩ => ⟨S1x512x2048, .f32⟩
  | .hbm, ⟨29, _⟩ => ⟨S512x2048, .f32⟩
  | .hbm, ⟨30, _⟩ => ⟨S8192x2048, .f32⟩
  | .hbm, ⟨31, _⟩ => ⟨S8192x512, .f32⟩
  | .hbm, ⟨32, _⟩ => ⟨S1x512x2048, .f32⟩
  | .hbm, ⟨33, _⟩ => ⟨S512x2048, .f32⟩
  | .hbm, ⟨34, _⟩ => ⟨S8192x2048, .f32⟩
  | .hbm, ⟨35, _⟩ => ⟨S8192x512, .f32⟩
  | .hbm, ⟨36, _⟩ => ⟨S1x512x2048, .f32⟩
  | .hbm, ⟨37, _⟩ => ⟨S512x2048, .f32⟩
  | .hbm, ⟨38, _⟩ => ⟨S8192x2048, .f32⟩
  | .hbm, ⟨39, _⟩ => ⟨S8192x1x2048, .f32⟩
  | .hbm, ⟨40, _⟩ => ⟨S8192x2048, .f32⟩
  | .hbm, ⟨41, _⟩ => ⟨S8192x2048, .f32⟩
  | .hbm, ⟨42, _⟩ => ⟨S8192x1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Proof.Online.lean ====
/-
  A softmax that is taken one chunk of keys after another, over the extended reals.

  `Carried x v n m l a` says what a row carries after the first `n` keys: the largest logit, the sum of the
  exponentials below it, and the same sum weighted by the values.  `Carried.step` takes in one more chunk.  No logit
  needs to be finite for that.  `weighted_quotient` moves the division by the sum inside the weighted sum, which is
  where one real logit is needed.
-/
module

public import Idealize.ShloMosaic.PureOps.Ideal
public import Idealize.ShloMosaic.PureOps.Ideal.Laws

@[expose] public section

open Idealize.ShloMosaic

namespace Cert.Online

theorem exp_coe (r : ℝ) : Ideal.exp (r : EReal) = ((Real.exp r : ℝ) : EReal) := rfl

theorem exp_bot : Ideal.exp ⊥ = 0 := rfl

theorem exp_top : Ideal.exp ⊤ = ⊤ := rfl

theorem exp_nonneg (x : EReal) : 0 ≤ Ideal.exp x := by
  induction x using EReal.rec with
  | bot => rw [exp_bot]
  | top => rw [exp_top]; exact le_top
  | coe r => rw [exp_coe]; exact_mod_cast (Real.exp_pos r).le

theorem exp_ne_top {x : EReal} (h : x ≠ ⊤) : Ideal.exp x ≠ ⊤ := by
  induction x using EReal.rec with
  | bot => rw [exp_bot]; exact EReal.zero_ne_top
  | top => exact absurd rfl h
  | coe r => rw [exp_coe]; exact EReal.coe_ne_top _

theorem bot_sub (m : EReal) : (⊥ : EReal) - m = ⊥ := by rw [sub_eq_add_neg, EReal.bot_add]

theorem sub_ne_top {x m : EReal} (h : x ≤ m) : x - m ≠ ⊤ := by
  induction x using EReal.rec with
  | bot => rw [bot_sub]; exact bot_ne_top
  | top =>
    rw [top_le_iff] at h; subst h
    simp [sub_eq_add_neg]
  | coe r =>
    induction m using EReal.rec with
    | bot => simp at h
    | top => simp [sub_eq_add_neg]
    | coe s => rw [← EReal.coe_sub]; exact EReal.coe_ne_top _

/-- Taking an exponential below `m` down to a larger bound `m'`. -/
theorem exp_rescale {x m m' : EReal} (h : x ≤ m) (h' : m ≤ m') :
    Ideal.exp (m - m') * Ideal.exp (x - m) = Ideal.exp (x - m') := by
  induction x using EReal.rec with
  | bot => rw [bot_sub, bot_sub, exp_bot, mul_zero]
  | top =>
    rw [top_le_iff] at h; subst h
    rw [top_le_iff] at h'; subst h'
    simp [sub_eq_add_neg, exp_bot]
  | coe r =>
    induction m using EReal.rec with
    | bot => simp at h
    | top =>
      rw [top_le_iff] at h'; subst h'
      simp [sub_eq_add_neg, exp_bot]
    | coe s =>
      induction m' using EReal.rec with
      | bot => simp at h'
      | top => simp [sub_eq_add_neg, exp_bot]
      | coe u =>
        rw [← EReal.coe_sub, ← EReal.coe_sub, ← EReal.coe_sub, exp_coe, exp_coe, exp_coe, ← EReal.coe_mul,
          ← Real.exp_add]
        congr 2; ring

/-- A factor that is neither negative nor `⊤` goes inside a finite sum. -/
theorem mul_sum {ι : Type} (c : EReal) (h0 : 0 ≤ c) (ht : c ≠ ⊤) (s : Finset ι) (f : ι → EReal) :
    c * ∑ i ∈ s, f i = ∑ i ∈ s, c * f i := by
  classical
  induction s using Finset.induction_on with
  | empty => simp
  | insert i s hi ih => rw [Finset.sum_insert hi, Finset.sum_insert hi, EReal.left_distrib_of_nonneg_of_ne_top h0 ht, ih]

/-- What a row carries after the keys `0 … n - 1`. -/
structure Carried (x v : ℕ → EReal) (n : ℕ) (m l a : EReal) : Prop where
  top : m = (Finset.range n).sup x
  den : l = ∑ k ∈ Finset.range n, Ideal.exp (x k - m)
  num : a = ∑ k ∈ Finset.range n, Ideal.exp (x k - m) * v k

theorem Carried.zero (x v : ℕ → EReal) : Carried x v 0 ⊥ 0 0 := ⟨by simp, by simp, by simp⟩

theorem range_add_sup (x : ℕ → EReal) (n c : ℕ) :
    (Finset.range (n + c)).sup x = max ((Finset.range n).sup x) ((Finset.range c).sup fun j => x (n + j)) := by
  apply le_antisymm
  · refine Finset.sup_le fun k hk => ?_
    rw [Finset.mem_range] at hk
    rcases lt_or_ge k n with h | h
    · exact le_max_of_le_left (Finset.le_sup (f := x) (Finset.mem_range.mpr h))
    · obtain ⟨j, rfl⟩ := Nat.exists_eq_add_of_le h
      exact le_max_of_le_right (Finset.le_sup (f := fun j => x (n + j)) (Finset.mem_range.mpr (by omega)))
  · refine max_le (Finset.sup_le fun k hk => ?_) (Finset.sup_le fun k hk => ?_)
    · rw [Finset.mem_range] at hk; exact Finset.le_sup (f := x) (Finset.mem_range.mpr (by omega))
    · rw [Finset.mem_range] at hk; exact Finset.le_sup (f := x) (Finset.mem_range.mpr (by omega))

/-- One more chunk of `c` keys. -/
theorem Carried.step {x v : ℕ → EReal} {n : ℕ} {m l a : EReal} (h : Carried x v n m l a) (c : ℕ) (m' : EReal)
    (hm : m' = max m ((Finset.range c).sup fun j => x (n + j))) :
    Carried x v (n + c) m'
      (Ideal.exp (m - m') * l + ∑ j ∈ Finset.range c, Ideal.exp (x (n + j) - m'))
      (Ideal.exp (m - m') * a + ∑ j ∈ Finset.range c, Ideal.exp (x (n + j) - m') * v (n + j)) := by
  have hle : m ≤ m' := by rw [hm]; exact le_max_left _ _
  have hx : ∀ k ∈ Finset.range n, x k ≤ m := fun k hk => by rw [h.top]; exact Finset.le_sup hk
  have hs := mul_sum (ι := ℕ) (Ideal.exp (m - m')) (exp_nonneg _) (exp_ne_top (sub_ne_top hle)) (Finset.range n)
  refine ⟨by rw [range_add_sup, ← h.top, hm], ?_, ?_⟩
  · rw [Finset.sum_range_add, h.den, hs]
    congr 1
    exact Finset.sum_congr rfl fun k hk => exp_rescale (hx k hk) hle
  · rw [Finset.sum_range_add, h.num, hs]
    congr 1
    exact Finset.sum_congr rfl fun k hk => by rw [← mul_assoc, exp_rescale (hx k hk) hle]

/-- Keys whose logit is `⊥` add nothing: the row of `n` keys is the row of all `N`. -/
theorem Carried.extend {x v : ℕ → EReal} {n N : ℕ} {m l a : EReal} (h : Carried x v n m l a) (hn : n ≤ N)
    (hb : ∀ k, n ≤ k → x k = ⊥) : Carried x v N m l a := by
  obtain ⟨d, rfl⟩ := Nat.exists_eq_add_of_le hn
  have hbd : ∀ j, x (n + j) = ⊥ := fun j => hb _ (by omega)
  refine ⟨?_, ?_, ?_⟩
  · rw [range_add_sup, ← h.top]
    simp [hbd]
  · rw [Finset.sum_range_add, ← h.den]
    simp [hbd, bot_sub, exp_bot]
  · rw [Finset.sum_range_add, ← h.num]
    simp [hbd, bot_sub, exp_bot]

theorem sum_ne_top {ι : Type} (s : Finset ι) (f : ι → EReal) (h : ∀ i ∈ s, f i ≠ ⊤) : ∑ i ∈ s, f i ≠ ⊤ := by
  classical
  induction s using Finset.induction_on with
  | empty => simp
  | insert i s hi ih =>
    rw [Finset.sum_insert hi]
    exact (EReal.add_lt_top (h i (Finset.mem_insert_self i s))
      (ih fun j hj => h j (Finset.mem_insert_of_mem hj))).ne

/-- Where no logit is `⊤` and one is real, the sum of exponentials is a positive real. -/
theorem Carried.den_pos {x v : ℕ → EReal} {n : ℕ} {m l a : EReal} (h : Carried x v n m l a)
    (ht : ∀ k, k < n → x k ≠ ⊤) (k₀ : ℕ) (hk : k₀ < n) (h₀ : x k₀ ≠ ⊥) : ∃ r : ℝ, 0 < r ∧ l = (r : EReal) := by
  have hle : ∀ k ∈ Finset.range n, x k ≤ m := fun k hk => by rw [h.top]; exact Finset.le_sup hk
  have hmt : m ≠ ⊤ := by
    rw [h.top]
    refine ne_of_lt ((Finset.sup_lt_iff (by simp)).mpr fun k hk => lt_top_iff_ne_top.mpr (ht k (Finset.mem_range.mp hk)))
  have hl0 : 0 < l := by
    have hk' := Finset.mem_range.mpr hk
    rw [h.den]
    refine lt_of_lt_of_le ?_ (Finset.single_le_sum (f := fun k => Ideal.exp (x k - m)) (fun k _ => exp_nonneg _) hk')
    have hx := hle k₀ hk'
    have hxt := ht k₀ hk
    show 0 < Ideal.exp (x k₀ - m)
    generalize x k₀ = y at hx h₀ hxt
    induction y using EReal.rec with
    | bot => exact absurd rfl h₀
    | top => exact absurd rfl hxt
    | coe r =>
      induction m using EReal.rec with
      | bot => simp at hx
      | top => exact absurd rfl hmt
      | coe s => rw [← EReal.coe_sub, exp_coe]; exact_mod_cast Real.exp_pos _
  have hlt : l ≠ ⊤ := by
    rw [h.den]
    exact sum_ne_top _ _ fun k hk => exp_ne_top (sub_ne_top (hle k hk))
  induction l using EReal.rec with
  | bot => exact absurd hl0 (by simp)
  | top => exact absurd rfl hlt
  | coe r => exact ⟨r, by exact_mod_cast hl0, rfl⟩

theorem div_of_pos {r : ℝ} (hr : 0 < r) (x : EReal) : Ideal.div x (r : EReal) = ((r⁻¹ : ℝ) : EReal) * x := by
  unfold Ideal.div
  rw [if_neg (by exact_mod_cast hr.ne'), ← EReal.coe_inv, mul_comm]

/-- Dividing the weighted sum is dividing each weight. -/
theorem weighted_quotient {ι : Type} {r : ℝ} (hr : 0 < r) (s : Finset ι) (p v : ι → EReal) :
    Ideal.div (∑ k ∈ s, p k * v k) (r : EReal) = ∑ k ∈ s, v k * Ideal.div (p k) (r : EReal) := by
  rw [div_of_pos hr, mul_sum _ (by exact_mod_cast (inv_pos.mpr hr).le) (EReal.coe_ne_top _)]
  refine Finset.sum_congr rfl fun k _ => ?_
  rw [div_of_pos hr, mul_comm (v k), mul_assoc]

end Cert.Online

end
-- ==== Proof.Top3.lean ====
/-
  The three best-scored blocks, by a stable sort and by counting.

  The scores of the blocks before a row's own block are ordered by score, and by position where two tie; every other
  block has the score `⊥`.  `picked_iff` says which blocks the first three places of the sorted list name, once the places
  that are not below the number of earlier blocks are left out: the earlier blocks that fewer than three earlier blocks
  beat.
-/
module

public import Idealize.ShloMosaic.Lib.SortPrefix
public import Mathlib.Data.EReal.Basic

@[expose] public section

open Idealize.ShloMosaic

namespace Cert.Top3

variable {n : Nat}

/-- Position `i` beats position `j`: a higher score, or the same score earlier in the list. -/
def Beats (s : Fin n → EReal) (i j : Fin n) : Prop := s j < s i ∨ (s i = s j ∧ i < j)

/-- The same relation as the sort's comparator takes it. -/
noncomputable def beats (s : Fin n → EReal) (i j : Fin n) : Bool :=
  decide (s j < s i) || (decide (s i = s j) && decide (i < j))

theorem beats_iff (s : Fin n → EReal) (i j : Fin n) : beats s i j = true ↔ Beats s i j := by
  simp [beats, Beats]

theorem strict (s : Fin n → EReal) : StrictTotalBefore (beats s) :=
  StrictTotalBefore.of_key_then_position (fun a b => decide (b < a)) s (fun a => by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

/-- A stable sort by score alone already breaks ties by position: in the sorted list a later position never comes
    before an earlier one of the same score. -/
theorem insert_ties (s : Fin n → EReal) (l : List (Fin n)) (hl : l.Pairwise (· < ·)) :
    stableSort (fun i j => decide (s j < s i)) l = stableSort (beats s) l := by
  induction l with
  | nil => rfl
  | cons a l ih =>
    rw [List.pairwise_cons] at hl
    unfold stableSort
    rw [ih hl.2]
    refine insertBefore_congr _ _ a _ fun b hb => ?_
    have hab : a < b := hl.1 b ((perm_stableSort (beats s) l).mem_iff.mp hb)
    simp [beats, not_lt_of_gt hab]

theorem sorted_ties (s : Fin n → EReal) :
    sortedFrom (fun i j => decide (s j < s i)) = sortedFrom (beats s) := by
  funext k
  unfold sortedFrom
  have h : sortPositions n (fun i j => decide (s j < s i)) = sortPositions n (beats s) :=
    insert_ties s _ (List.pairwise_lt_finRange n)
  rw [List.get_of_eq h]
  rfl

open Classical in
/-- The place of a block in the sorted list is the number of blocks that beat it. -/
theorem place (s : Fin n → EReal) (k : Fin n) :
    (Finset.univ.filter fun j => Beats s j (sortedFrom (beats s) k)).card = k.val := by
  have hB := strict s
  have hno := sortedFrom_noInversion (beats s) (beats s) (fun a b h => hB.asymm a b h) (fun _ _ h => h) hB.negTrans
  have himg : (Finset.univ.filter fun j => Beats s j (sortedFrom (beats s) k))
      = (Finset.Iio k).map ⟨sortedFrom (beats s), sortedFrom_injective (beats s)⟩ := by
    ext j
    simp only [Finset.mem_filter, Finset.mem_univ, true_and, Finset.mem_map, Finset.mem_Iio,
      Function.Embedding.coeFn_mk]
    constructor
    · intro h
      obtain ⟨i, rfl⟩ := sortedFrom_surjective (beats s) j
      refine ⟨i, ?_, rfl⟩
      rw [← beats_iff] at h
      rcases lt_trichotomy i k with hik | hik | hik
      · exact hik
      · subst hik; rw [hB.irrefl] at h; exact absurd h (by decide)
      · rw [hno k i hik] at h; exact absurd h (by decide)
    · rintro ⟨i, hik, rfl⟩
      rw [← beats_iff]
      rcases hB.total (sortedFrom (beats s) i) (sortedFrom (beats s) k)
          (fun e => hik.ne (sortedFrom_injective (beats s) e)) with h | h
      · exact h
      · rw [hno i k hik] at h; exact absurd h (by decide)
  rw [himg, Finset.card_map, Fin.card_Iio]

theorem card_below {own : ℕ} (hown : own < n) :
    (Finset.univ.filter fun i : Fin n => i < (⟨own, hown⟩ : Fin n)).card = own := by
  have : (Finset.univ.filter fun i : Fin n => i < (⟨own, hown⟩ : Fin n)) = Finset.Iio ⟨own, hown⟩ := by ext i; simp
  rw [this, Fin.card_Iio]

/-- The scores of the blocks before `own`; the other blocks have none. -/
noncomputable def masked (own : ℕ) (f : Fin n → EReal) (i : Fin n) : EReal := if i.val < own then f i else ⊥

theorem beats_early {own : ℕ} {f : Fin n → EReal} {i j : Fin n} (hj : j.val < own) (h : Beats (masked own f) i j) :
    i.val < own := by
  by_contra hi
  simp only [Beats, masked, if_neg hi, if_pos hj] at h
  rcases h with h | ⟨_, h⟩
  · exact not_lt_bot h
  · rw [Fin.lt_def] at h; omega

open Classical in
/-- The blocks the first three places name, of the places below the number of earlier blocks. -/
theorem picked_iff (own : ℕ) (hown : own < n) (f : Fin n → EReal) (j : Fin n) :
    (∃ k : Fin n, k.val < 3 ∧ k.val < own ∧ sortedFrom (fun i i' => decide (masked own f i' < masked own f i)) k = j)
      ↔ j.val < own ∧ (Finset.univ.filter fun i => Beats (masked own f) i j ∧ i.val < own).card < 3 := by
  rw [sorted_ties]
  obtain ⟨k, rfl⟩ := sortedFrom_surjective (beats (masked own f)) j
  have hp := place (masked own f) k
  set j := sortedFrom (beats (masked own f)) k with hjdef
  have hcount : j.val < own →
      (Finset.univ.filter fun i => Beats (masked own f) i j ∧ i.val < own).card = k.val := by
    intro hj
    rw [← hp]
    congr 1
    exact Finset.filter_congr fun i _ => ⟨fun h => h.1, fun h => ⟨h, beats_early hj h⟩⟩
  have hlow : j.val < own → k.val < own := by
    intro hj
    have hsub : (Finset.univ.filter fun i => Beats (masked own f) i j)
        ⊆ (Finset.univ.filter fun i : Fin n => i < (⟨own, hown⟩ : Fin n)).erase j := by
      intro i hi
      rw [Finset.mem_filter] at hi
      rw [Finset.mem_erase, Finset.mem_filter]
      refine ⟨?_, Finset.mem_univ _, beats_early hj hi.2⟩
      rintro rfl
      rcases hi.2 with h | ⟨_, h⟩
      · exact lt_irrefl _ h
      · exact lt_irrefl _ h
    have hc := Finset.card_le_card hsub
    rw [hp, Finset.card_erase_of_mem (by simpa [Fin.lt_def] using hj)] at hc
    have := card_below hown
    omega
  have hhigh : ¬ j.val < own → own ≤ k.val := by
    intro hj
    rw [← hp]
    have hsub : (Finset.univ.filter fun i : Fin n => i < (⟨own, hown⟩ : Fin n))
        ⊆ (Finset.univ.filter fun i => Beats (masked own f) i j) := by
      intro i hi
      simp only [Finset.mem_filter, Finset.mem_univ, true_and, Fin.lt_def] at hi ⊢
      simp only [Beats, masked, if_neg hj, if_pos hi, Fin.lt_def]
      rcases eq_or_lt_of_le (bot_le (a := f i)) with h | h
      · exact Or.inr ⟨h.symm, by omega⟩
      · exact Or.inl h
    have hc := Finset.card_le_card hsub
    rwa [card_below hown] at hc
  constructor
  · rintro ⟨k', h3, ho, e⟩
    have : k' = k := sortedFrom_injective _ e
    subst this
    have hj : j.val < own := by by_contra h; have := hhigh h; omega
    exact ⟨hj, by rw [hcount hj]; exact h3⟩
  · rintro ⟨hj, hc⟩
    rw [hcount hj] at hc
    exact ⟨k, hc, hlow hj, rfl⟩

end Cert.Top3

end
-- ==== Proof.KPay.lean ====
/- The values that one visit of a chunk computes, and how the kernel's carries and logits read at an index. -/
module

public import proofs.«01_k».proof.Proof.Gen.KernelIdeal.Value
public import proofs.«01_k».proof.Proof.Online
public import proofs.«01_k».proof.Proof.Top3
public import Idealize.ShloMosaic.Lib.Pointwise

@[expose] public section

set_option maxRecDepth 16384

noncomputable section

open Idealize.ShloMosaic Idealize.ShloMosaic.TcCoe Idealize.SL.Sem

namespace Cert.KernelIdeal.Pay

open Cert.KernelIdeal Cert.KernelIdeal.Gen

/-- The scale of the logits. -/
def scale : EReal := Ideal.ofBits .f32 0x3DB504F3#32

theorem ofBits_neg_inf : Ideal.ofBits .f32 0xFF800000#32 = ⊥ := by simp [Ideal.ofBits, Ideal.ieee]

theorem fold_max {n : Nat} (f : Fin n → EReal) :
    Finset.fold max (Ideal.ofBits .f32 0xFF800000#32) f Finset.univ = Finset.univ.sup f := by
  rw [ofBits_neg_inf]; rfl

theorem pay34_at (B : FVec Ideal S16x256 .bf16) (Q : FVec Ideal S256x128 .bf16) (Kb : FVec Ideal S1024x128 .bf16)
    (W : FVec Ideal S16x1024 .bf16) (r : Fin 256) (j : Fin 1024) :
    k0_pay34 B Q Kb W (ix2 r j)
      = (∑ d : Fin 128, Q (ix2 r d) * Kb (ix2 j d)) * scale + ∑ n : Fin 16, B (ix2 n r) * W (ix2 n j) := by
  pointwise [k0_pay34]
  rfl

theorem pay35_at (B : FVec Ideal S16x256 .bf16) (Q : FVec Ideal S256x128 .bf16) (M : FVec Ideal S256x1 .f32)
    (Kb : FVec Ideal S1024x128 .bf16) (W : FVec Ideal S16x1024 .bf16) (r : Fin 256) (z : Fin 1) :
    k0_pay35 B Q M Kb W (ix2 r z)
      = max (M (ix2 r 0)) (Finset.univ.sup fun j => k0_pay34 B Q Kb W (ix2 r j)) := by
  obtain rfl : z = 0 := Subsingleton.elim _ _
  pointwise [k0_pay35]
  rw [fold_max]

theorem pay37_at (B : FVec Ideal S16x256 .bf16) (Q : FVec Ideal S256x128 .bf16) (M : FVec Ideal S256x1 .f32)
    (Kb : FVec Ideal S1024x128 .bf16) (W : FVec Ideal S16x1024 .bf16) (r : Fin 256) (j : Fin 1024) :
    k0_pay37 B Q M Kb W (ix2 r j)
      = Ideal.exp (k0_pay34 B Q Kb W (ix2 r j) - k0_pay35 B Q M Kb W (ix2 r 0)) := by
  pointwise [k0_pay37]

theorem pay38_at (B : FVec Ideal S16x256 .bf16) (Q : FVec Ideal S256x128 .bf16) (M L : FVec Ideal S256x1 .f32)
    (Kb : FVec Ideal S1024x128 .bf16) (W : FVec Ideal S16x1024 .bf16) (r : Fin 256) (z : Fin 1) :
    k0_pay38 B Q M L Kb W (ix2 r z)
      = Ideal.exp (M (ix2 r 0) - k0_pay35 B Q M Kb W (ix2 r 0)) * L (ix2 r 0)
        + ∑ j : Fin 1024, Ideal.exp (k0_pay34 B Q Kb W (ix2 r j) - k0_pay35 B Q M Kb W (ix2 r 0)) := by
  obtain rfl : z = 0 := Subsingleton.elim _ _
  pointwise [k0_pay38, k0_pay36]
  simp only [pay37_at]

theorem pay39_at (B : FVec Ideal S16x256 .bf16) (Q : FVec Ideal S256x128 .bf16) (M : FVec Ideal S256x1 .f32) (A : FVec Ideal S256x128 .f32)
    (Kb Vb : FVec Ideal S1024x128 .bf16) (W : FVec Ideal S16x1024 .bf16) (r : Fin 256) (d : Fin 128) :
    k0_pay39 B Q M A Kb Vb W (ix2 r d)
      = Ideal.exp (M (ix2 r 0) - k0_pay35 B Q M Kb W (ix2 r 0)) * A (ix2 r d)
        + ∑ j : Fin 1024, Ideal.exp (k0_pay34 B Q Kb W (ix2 r j) - k0_pay35 B Q M Kb W (ix2 r 0)) * Vb (ix2 j d) := by
  pointwise [k0_pay39, k0_pay36]
  simp only [pay37_at]

theorem named_mask : (Named.named (F := Ideal) κ "mask" 0xF149F2CA#32 : Ideal .f32) = (⊥ : EReal) := by
  rfl

/-- The score of block `n` for row `r`. -/
def score (x0 : Vec Ideal S1x256x128 .f32) (x3 : Vec Ideal S1x16x128 .f32) (n : Fin 16) (r : Fin 256) : EReal :=
  ∑ d : Fin 128, x3 (ix3 0 n d) * x0 (ix3 0 r d)

theorem slt_coord (n qi : Fin 16) :
    IntOp.cmpi .slt (BitVec.ofNat 32 n.val) (BitVec.ofNat 32 qi.val) = BitVec.ofBool (decide (n.val < qi.val)) := by
  revert n qi; decide +kernel

theorem pay10_at (i : grid0.Coords) (x0 : Vec Ideal S1x256x128 .f32) (x3 : Vec Ideal S1x16x128 .f32)
    (h0 : ∀ r d, ∃ u : ℝ, x0 (ix3 0 r d) = (u : EReal)) (h3 : ∀ n d, ∃ u : ℝ, x3 (ix3 0 n d) = (u : EReal))
    (n : Fin 16) (r : Fin 256) :
    k0_pay10 i x0 x3 (ix2 n r) = Top3.masked (i 2).val (fun n => score x0 x3 n r) n := by
  pointwise [k0_pay10, k0_pay9, k0_pay8]
  have e := slt_coord n (i 2)
  have hq : ∀ d, x0 (ix3 0 r d) - x0 (ix3 0 r d) = 0 := fun d => by
    obtain ⟨u, hu⟩ := h0 r d; rw [hu, ← EReal.coe_sub, sub_self]; rfl
  have hm : ∀ d, x3 (ix3 0 n d) - x3 (ix3 0 n d) = 0 := fun d => by
    obtain ⟨u, hu⟩ := h3 n d; rw [hu, ← EReal.coe_sub, sub_self]; rfl
  simp only [hq, hm, mul_zero, zero_mul, Finset.sum_const_zero, add_zero, ofBits_neg_inf]
  rw [show IntOp.cmpi CmpIPredicate.slt (BitVec.ofNat 32 n.val) (BitVec.ofNat 32 (i 2).val) = _ from e]
  unfold Top3.masked score
  by_cases h : n.val < (i 2).val <;> simp [h, Scalar.select]

end Cert.KernelIdeal.Pay

end
-- ==== Proof.KBias.lean ====
/- The block mask: the bias that a query row gets for a block, from the ranks of the block scores. -/
module

public import proofs.«01_k».proof.Proof.KPay

@[expose] public section

set_option maxRecDepth 16384

noncomputable section

open Idealize.ShloMosaic Idealize.ShloMosaic.TcCoe Idealize.SL.Sem

namespace Cert.KernelIdeal.Bias

open Cert.KernelIdeal Cert.KernelIdeal.Gen Cert.KernelIdeal.Pay

/-- The block's number, as a word. -/
abbrev qword (i : grid0.Coords) : BitVec 32 := BitVec.ofNat 32 (i 2).val

/-- The numbers of the key blocks. -/
abbrev blockIx : IVec S16x1 32 := iota Kind.tc S16x1 32 [0] iota_S16x1_d0_w32

/-- The tile that says, of each block and row, whether the row reads that block. -/
def biasTile (i : grid0.Coords) (x0 : Vec Ideal S1x256x128 .f32) (x3 : Vec Ideal S1x16x128 .f32) : FVec Ideal S16x256 .bf16 :=
  have S : FVec Ideal S16x256 .f32 := k0_pay10 i x0 x3
  k0_pay28 (F := Ideal) (qword i) (blockIx) (k0_pay9 i) (k0_pay24 (qword i) (blockIx) S (k0_pay19 (qword i) (blockIx) S (k0_pay17 (qword i) (blockIx) S (k0_pay15 (qword i) (blockIx) S (k0_pay12 (qword i) (blockIx) S (k0_pay11 i x0 x3)) (k0_pay13 (qword i) (blockIx) S) 0#32 k0_pay14) (k0_pay16 (qword i) (blockIx) S)) (k0_pay18 (blockIx) S) 9#32) (k0_pay21 S) (k0_pay22 S) (k0_pay23 (blockIx))) (k0_pay26 S) (k0_pay27 S) 15#32

/-- One of the sixteen terms a rank is summed from: `1` where block `m` has its turn and beats block `n`. -/
def turn (q : Fin 16) (S : FVec Ideal S16x256 .f32) (r : Fin 256) (n m : Fin 16) : BitVec 32 :=
  Scalar.select
    (IntOp.andi
      (IntOp.ori (BitVec.ofBool (decide (S (ix2 n r) < S (ix2 m r))))
        (IntOp.andi (BitVec.ofBool (decide (S (ix2 m r) = S (ix2 n r))))
          (IntOp.cmpi CmpIPredicate.sgt (BitVec.ofNat 32 n.val) (BitVec.ofNat 32 m.val))))
      (Scalar.cmpi CmpIPredicate.sgt (BitVec.ofNat 32 q.val) (BitVec.ofNat 32 m.val)))
    1#32 0#32

/-- The terms of the first `k` blocks, added up. -/
def turns (q : Fin 16) (S : FVec Ideal S16x256 .f32) (r : Fin 256) (n : Fin 16) : ℕ → BitVec 32
  | 0 => 0#32
  | k + 1 => IntOp.addi (turns q S r n k) (turn q S r n (Fin.ofNat 16 k))

theorem sgt_coord (n m : Fin 16) :
    IntOp.cmpi .sgt (BitVec.ofNat 32 n.val) (BitVec.ofNat 32 m.val) = BitVec.ofBool (decide (m.val < n.val)) := by
  revert n m; decide +kernel

theorem eq_coord (n m : Fin 16) :
    IntOp.cmpi .eq (BitVec.ofNat 32 n.val) (BitVec.ofNat 32 m.val) = BitVec.ofBool (decide (n = m)) := by
  revert n m; decide +kernel

theorem slt_three (k : Fin 17) :
    IntOp.cmpi .slt (BitVec.ofNat 32 k.val) 3#32 = BitVec.ofBool (decide (k.val < 3)) := by
  revert k; decide +kernel

theorem and_bits (p q : Bool) : IntOp.andi (BitVec.ofBool p) (BitVec.ofBool q) = BitVec.ofBool (p && q) := by
  cases p <;> cases q <;> rfl

theorem select_bit {α : Type} (b : Bool) (p : Prop) [Decidable p] (h : b = true ↔ p) (x y : α) :
    Scalar.select (BitVec.ofBool b) x y = if p then x else y := by
  cases b with
  | false => rw [if_neg (fun hp => by simpa using h.mpr hp)]; rfl
  | true => rw [if_pos (h.mp rfl)]; rfl

theorem or_bits (p q : Bool) : IntOp.ori (BitVec.ofBool p) (BitVec.ofBool q) = BitVec.ofBool (p || q) := by
  cases p <;> cases q <;> rfl

/-- Block `m` is one of the row's earlier blocks and beats block `n`. -/
def Counts (own : ℕ) (f : Fin 16 → EReal) (n m : Fin 16) : Prop :=
  Top3.Beats (Top3.masked own f) m n ∧ m.val < own

open Classical in
theorem turn_eq (q : Fin 16) (S : FVec Ideal S16x256 .f32) (r : Fin 256) (f : Fin 16 → EReal)
    (hS : ∀ m, S (ix2 m r) = Top3.masked q.val f m) (n m : Fin 16) :
    turn q S r n m = BitVec.ofNat 32 (if Counts q.val f n m then 1 else 0) := by
  have e2 : Scalar.cmpi .sgt (BitVec.ofNat 32 q.val) (BitVec.ofNat 32 m.val) = BitVec.ofBool (decide (m.val < q.val)) :=
    sgt_coord q m
  unfold turn
  rw [e2, sgt_coord, hS, hS, and_bits, or_bits, and_bits, select_bit _ (Counts q.val f n m)]
  · split <;> rfl
  · unfold Counts Top3.Beats
    simp only [Bool.and_eq_true, Bool.or_eq_true, decide_eq_true_eq, Fin.lt_def]

open Classical in
theorem turns_eq (q : Fin 16) (S : FVec Ideal S16x256 .f32) (r : Fin 256) (f : Fin 16 → EReal)
    (hS : ∀ m, S (ix2 m r) = Top3.masked q.val f m) (n : Fin 16) (k : ℕ) :
    turns q S r n k
      = BitVec.ofNat 32 (∑ j ∈ Finset.range k, if Counts q.val f n (Fin.ofNat 16 j) then 1 else 0) := by
  induction k with
  | zero => rfl
  | succ k ih =>
    rw [Finset.sum_range_succ, turns, ih, turn_eq q S r f hS, BitVec.ofNat_add]
    rfl

open Classical in
theorem turns_all (q : Fin 16) (S : FVec Ideal S16x256 .f32) (r : Fin 256) (f : Fin 16 → EReal)
    (hS : ∀ m, S (ix2 m r) = Top3.masked q.val f m) (n : Fin 16) :
    turns q S r n 16 = BitVec.ofNat 32 (Finset.univ.filter (Counts q.val f n)).card := by
  have e : ∀ j : Fin 16, Fin.ofNat 16 j.val = j := fun j => Fin.ext (Nat.mod_eq_of_lt j.isLt)
  rw [turns_eq q S r f hS, Finset.card_filter, Finset.sum_range]
  simp only [e]

open Classical in
/-- Row reads block: one of the three best-scored earlier blocks, or the row's own. -/
def Reads (own : ℕ) (f : Fin 16 → EReal) (n : Fin 16) : Prop :=
  (n.val < own ∧ (Finset.univ.filter (Counts own f n)).card < 3) ∨ n.val = own

open Classical in
theorem bias_at (i : grid0.Coords) (q : Fin 16) (hq : (i 2).val = q.val)
    (x0 : Vec Ideal S1x256x128 .f32) (x3 : Vec Ideal S1x16x128 .f32)
    (h0 : ∀ r d, ∃ u : ℝ, x0 (ix3 0 r d) = (u : EReal)) (h3 : ∀ n d, ∃ u : ℝ, x3 (ix3 0 n d) = (u : EReal))
    (n : Fin 16) (r : Fin 256) :
    biasTile i x0 x3 (ix2 n r) = if Reads q.val (fun n => score x0 x3 n r) n then (0 : EReal) else ⊥ := by
  have hS : ∀ m, k0_pay10 i x0 x3 (ix2 m r) = Top3.masked q.val (fun n => score x0 x3 n r) m := fun m => by
    rw [pay10_at i x0 x3 h0 h3 m r, hq]
  unfold biasTile
  pointwise [k0_pay28, k0_pay27, k0_pay26, k0_pay25, k0_pay24, k0_pay23, k0_pay22, k0_pay21, k0_pay20, k0_pay19,
    k0_pay18, k0_pay17, k0_pay16, k0_pay15, k0_pay14, k0_pay13, k0_pay12, k0_pay11, k0_pay9]
  simp only [qword, hq]
  show Scalar.select (IntOp.ori (IntOp.andi (IntOp.cmpi .slt (BitVec.ofNat 32 n.val) (BitVec.ofNat 32 q.val))
    (IntOp.cmpi .slt (turns q (k0_pay10 i x0 x3) r n 16) 3#32))
    (IntOp.cmpi .eq (BitVec.ofNat 32 n.val) (BitVec.ofNat 32 q.val))) (0 : EReal)
    (Named.named (F := Ideal) κ "mask" 0xF149F2CA#32 : Ideal .f32) = _
  have hc : (Finset.univ.filter (Counts q.val (fun n => score x0 x3 n r) n)).card < 17 :=
    lt_of_le_of_lt (Finset.card_le_univ _) (by simp)
  have e3 : IntOp.cmpi .slt (BitVec.ofNat 32 (Finset.univ.filter (Counts q.val (fun n => score x0 x3 n r) n)).card) 3#32
      = BitVec.ofBool (decide ((Finset.univ.filter (Counts q.val (fun n => score x0 x3 n r) n)).card < 3)) :=
    slt_three ⟨_, hc⟩
  rw [turns_all q _ r _ hS n, slt_coord, eq_coord, e3, and_bits, or_bits, named_mask,
    select_bit _ (Reads q.val (fun n => score x0 x3 n r) n)]
  unfold Reads
  simp only [Bool.and_eq_true, Bool.or_eq_true, decide_eq_true_eq, Fin.ext_iff]

end Cert.KernelIdeal.Bias

end
-- ==== Proof.KBlock.lean ====
/- One grid point: the blocks it reads, and the logits of a chunk of keys as a function of the arrays. -/
module

public import proofs.«01_k».proof.Proof.KBias
public import Idealize.ShloMosaic.Lib.Pipeline.ValueKit
public import Idealize.ShloMosaic.Lib.Tactic
public import Idealize.ShloMosaic.Lib.WordCmp

@[expose] public section

set_option maxRecDepth 16384

noncomputable section

open Idealize.ShloMosaic Idealize.ShloMosaic.TcCoe Idealize.SL.Sem

namespace Cert.KernelIdeal.Blk

open Cert.KernelIdeal Cert.KernelIdeal.Gen Cert.KernelIdeal.Pay Cert.KernelIdeal.Bias

theorem hz : (![0, 0, 0] : Fin 3 → Nat) = fun _ => 0 := funext fun a => by fin_cases a <;> rfl

/-! ## Words -/

/-- The number of the 256-key block that key `x` of a chunk lies in. -/
theorem key_block (x : Fin 1024) :
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          1#32)
        (IntOp.cmpi CmpIPredicate.ne (IntOp.remsi ArithUnit.vector (BitVec.ofNat 32 x.val) 256#32) 0#32))
      (IntOp.subi (IntOp.divsi ArithUnit.vector (BitVec.ofNat 32 x.val) 256#32) 1#32)
      (IntOp.divsi ArithUnit.vector (BitVec.ofNat 32 x.val) 256#32) = BitVec.ofNat 32 (x.val / 256) := by
  revert x; decide +kernel

theorem sign_word : Scalar.subi (Scalar.extui (Scalar.cmpi CmpIPredicate.sgt 256#32 0#32))
    (Scalar.extui (Scalar.cmpi CmpIPredicate.slt 256#32 0#32)) = (1#32 : BitVec 32) := by decide

theorem block_word {α : Type} (c : Fin 4) (n : Fin 16) (x : Fin 1024) (u v : α) :
    Scalar.select (IntOp.cmpi CmpIPredicate.eq (BitVec.ofNat 32 n.val)
        (IntOp.addi (BitVec.ofNat 32 (4 * c.val)) (BitVec.ofNat 32 (x.val / 256)))) u v
      = if n.val = 4 * c.val + x.val / 256 then u else v := by
  rw [show IntOp.addi (BitVec.ofNat 32 (4 * c.val)) (BitVec.ofNat 32 (x.val / 256))
    = BitVec.ofNat 32 (4 * c.val + x.val / 256) from (BitVec.ofNat_add _ _).symm,
    WordCmp.cmpi_eq_ofNat (by omega) (by omega)]
  exact select_bit _ _ (by simp) _ _

theorem causal_word {α : Type} (c : Fin 4) (q : Fin 16) (r : Fin 256) (x : Fin 1024) (u v : α) :
    Scalar.select (IntOp.cmpi CmpIPredicate.sle (IntOp.addi (BitVec.ofNat 32 (1024 * c.val)) (BitVec.ofNat 32 x.val))
        (BitVec.ofNat 32 (256 * q.val + r.val))) u v
      = if 1024 * c.val + x.val ≤ 256 * q.val + r.val then u else v := by
  rw [show IntOp.addi (BitVec.ofNat 32 (1024 * c.val)) (BitVec.ofNat 32 x.val)
    = BitVec.ofNat 32 (1024 * c.val + x.val) from (BitVec.ofNat_add _ _).symm,
    WordCmp.cmpi_sle_ofNat (by omega) (by omega)]
  exact select_bit _ _ (by simp) _ _

/-- Of sixteen terms, all but one zero. -/
theorem one_block (f : Fin 16 → EReal) (b : ℕ) (hb : b < 16) :
    (∑ n : Fin 16, if n.val = b then f n else 0) = f ⟨b, hb⟩ := by
  rw [Finset.sum_eq_single (⟨b, hb⟩ : Fin 16)]
  · rw [if_pos rfl]
  · intro n _ hn
    exact if_neg fun e => hn (Fin.ext e)
  · intro h; exact absurd (Finset.mem_univ _) h

/-! ## Tiles -/

/-- Where chunk `k` of the keys begins. -/
def chunkOff (k : ℕ) : Fin 3 → ℕ := ![0, BitVec.toNat (Scalar.indexCast (Scalar.muli (Scf.iv 0#32 1#32 k) 1024#32)), 0]

/-- The keys (or values) of one chunk. -/
def keys (X : Vec Ideal S1x4096x128 .f32) (o : Fin 3 → ℕ) (inb : ∀ a, o a + (![1, 1024, 128] : Fin 3 → ℕ) a ≤ S1x4096x128.size a) :
    FVec Ideal S1024x128 .bf16 :=
  truncf .bf16 (shapeCast S1024x128 (View.ld (S := S1x4096x128) X (Rect.unit o ![1, 1024, 128] inb)) shapeCasts_S1x1024x128_S1024x128)
    bitsLt_bf16_f32

theorem flat_at (Y : Vec Ideal S1x1024x128 .f32) (j : Fin 1024) (d : Fin 128) :
    truncf (F := Ideal) .bf16 (shapeCast S1024x128 Y shapeCasts_S1x1024x128_S1024x128) bitsLt_bf16_f32 (ix2 j d)
      = Y (ix3 0 j d) := by
  pointwise

theorem keys_at (X : Vec Ideal S1x4096x128 .f32) (o : Fin 3 → ℕ)
    (inb : ∀ a, o a + (![1, 1024, 128] : Fin 3 → ℕ) a ≤ S1x4096x128.size a) (k : ℕ) (hk : k < 4)
    (ho : o = ![0, 1024 * k, 0]) (j : Fin 1024) (d : Fin 128) (hj : 1024 * k + j.val < 4096) :
    keys X o inb (ix2 j d) = X (ix3 0 ⟨1024 * k + j.val, hj⟩ d) := by
  refine (flat_at (View.ld (S := S1x4096x128) X (Rect.unit o ![1, 1024, 128] inb)) j d).trans ?_
  refine View.ld_unit_apply_of (S := S1x4096x128) X o _ inb (ix3 (n0 := 1) (n1 := 1024) (n2 := 128) 0 j d)
    (ix3 0 ⟨1024 * k + j.val, hj⟩ d) fun a => ?_
  subst ho
  match a with
  | 0 => rfl
  | 1 => rfl
  | 2 => exact (Nat.zero_add _).symm

/-- Which keys of a chunk lie in which block: `1` where they do. -/
def widen (cw : BitVec 32) : FVec Ideal S16x1024 .bf16 :=
  have v314 : IVec S1x1024 32 := iota Kind.tc S1x1024 32 [1] iota_S1x1024_d1_w32
  truncf FTy.bf16 (select (cmpi CmpIPredicate.eq (broadcastTo S16x1024 blockIx broadcasts_S16x1_S16x1024) (broadcastTo S16x1024 (addi (broadcast S1x1024 cw) (select (andi (cmpi CmpIPredicate.ne (subi (extui 32 (cmpi CmpIPredicate.sgt v314 (broadcast S1x1024 0#32)) natLt_1_32) (extui 32 (cmpi CmpIPredicate.slt v314 (broadcast S1x1024 0#32)) natLt_1_32)) (broadcast S1x1024 1#32)) (cmpi CmpIPredicate.ne (remsi v314 (broadcast S1x1024 256#32)) (broadcast S1x1024 0#32))) (subi (divsi v314 (broadcast S1x1024 256#32)) (broadcast S1x1024 1#32)) (divsi v314 (broadcast S1x1024 256#32)))) broadcasts_S1x1024_S16x1024)) (broadcast S16x1024 (FloatOps.ofBits FTy.f32 1065353216#32)) (broadcast S16x1024 (FloatOps.ofBits FTy.f32 0#32))) bitsLt_bf16_f32

theorem widen_at (c : Fin 4) (n : Fin 16) (x : Fin 1024) :
    widen (BitVec.ofNat 32 (4 * c.val)) (ix2 n x) = if n.val = 4 * c.val + x.val / 256 then (1 : EReal) else 0 := by
  unfold widen
  pointwise
  rw [key_block, block_word]

theorem pay52_at (B : FVec Ideal S16x256 .bf16) (Q : FVec Ideal S256x128 .bf16) (qw : IVec S256x1 32)
    (M L : FVec Ideal S256x1 .f32) (A : FVec Ideal S256x128 .f32)
    (c : Fin 4) (q : Fin 16) (Kb Vb : FVec Ideal S1024x128 .bf16) (r : Fin 256) (d : Fin 128)
    (hqw : qw (ix2 r 0) = BitVec.ofNat 32 (256 * q.val + r.val)) (lg : Fin 1024 → EReal)
    (hlg : ∀ x : Fin 1024, lg x = if 1024 * c.val + x.val ≤ 256 * q.val + r.val then
      (∑ d : Fin 128, Q (ix2 r d) * Kb (ix2 x d)) * scale + B (ix2 ⟨4 * c.val + x.val / 256, by omega⟩ r) else ⊥)
    (m : EReal) (hm : m = max (M (ix2 r 0)) (Finset.univ.sup lg)) :
    k0_pay52 blockIx B Q qw (iota Kind.tc S1x1024 32 [1] iota_S1x1024_d1_w32) M L A (BitVec.ofNat 32 (1024 * c.val)) Kb Vb
      (BitVec.ofNat 32 (4 * c.val)) (k0_pay48 (iota Kind.tc S1x1024 32 [1] iota_S1x1024_d1_w32))
      (k0_pay49 (iota Kind.tc S1x1024 32 [1] iota_S1x1024_d1_w32))
      (k0_pay50 (iota Kind.tc S1x1024 32 [1] iota_S1x1024_d1_w32)) k0_pay51 (ix2 r d)
      = Ideal.div (Ideal.exp (M (ix2 r 0) - m) * A (ix2 r d) + ∑ x, Ideal.exp (lg x - m) * Vb (ix2 x d))
          (Ideal.exp (M (ix2 r 0) - m) * L (ix2 r 0) + ∑ x, Ideal.exp (lg x - m)) := by
  pointwise [k0_pay52, k0_pay48, k0_pay49, k0_pay50, k0_pay51]
  simp only [sign_word, key_block, hqw, named_mask]
  have e : ∀ x : Fin 1024, Scalar.select
      (IntOp.cmpi CmpIPredicate.sle (IntOp.addi (BitVec.ofNat 32 (1024 * c.val)) (BitVec.ofNat 32 x.val))
        (BitVec.ofNat 32 (256 * q.val + r.val)))
      ((∑ d : Fin 128, Q (ix2 r d) * Kb (ix2 x d)) * Ideal.ofBits FTy.f32 0x3DB504F3#32
        + ∑ n : Fin 16, Scalar.select (IntOp.cmpi CmpIPredicate.eq (BitVec.ofNat 32 n.val)
            (IntOp.addi (BitVec.ofNat 32 (4 * c.val)) (BitVec.ofNat 32 (x.val / 256)))) (B (ix2 n r)) 0)
      ⊥ = lg x := by
    intro x
    rw [causal_word, hlg]
    simp only [block_word, one_block _ _ (show 4 * c.val + x.val / 256 < 16 by omega)]
    rfl
  simp only [e, fold_max, ← hm]

theorem trip_eq (𝒱 : Variants) (c : Dev nD) (bd : Option 𝒱.V) (i : grid0.Coords) (arg3 : Memref sig .tc .vmem S1x256x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x16x128 .f32) (harg6 : arg6.IsWhole) (arg7 : Memref sig .tc .vmem S1x256x128 .bf16) (harg7 : arg7.IsWhole) (arg2 : BitVec 32) (v308 : FVec Ideal S16x256 .bf16) (v309 : FVec Ideal S256x128 .bf16) (v315 : FVec Ideal S256x1 .f32) (v316 : FVec Ideal S256x1 .f32) (v317 : FVec Ideal S256x128 .f32) (c4_i32_63 : BitVec 32) (v318 : BitVec 32) (v329 : BitVec 1) (X4 : Vec Ideal S1x4096x128 .f32) (X5 : Vec Ideal S1x4096x128 .f32) (k : Fin (k0_t1_loop i).trips) (acc : FVec Ideal S256x1 .f32 × FVec Ideal S256x1 .f32 × FVec Ideal S256x128 .f32) :
    ∀ inb inb', tripR_k0_t1 (F := Ideal) 𝒱 c bd i arg3 harg3 arg4 harg4 arg5 harg5 arg6 harg6 arg7 harg7 arg2 blockIx v308 v309
        (iota Kind.tc S1x1024 32 [1] iota_S1x1024_d1_w32) v315 v316 v317 c4_i32_63 v318 v329 (harg4.unread X4) (harg5.unread X5) k acc
      = (k0_pay35 v308 v309 acc.1 (keys X4 (chunkOff k.val) inb) (widen (Scalar.muli (Scf.iv 0#32 1#32 k.val) 4#32)),
         k0_pay38 v308 v309 acc.1 acc.2.1 (keys X4 (chunkOff k.val) inb) (widen (Scalar.muli (Scf.iv 0#32 1#32 k.val) 4#32)),
         k0_pay39 v308 v309 acc.1 acc.2.2 (keys X4 (chunkOff k.val) inb) (keys X5 (chunkOff k.val) inb') (widen (Scalar.muli (Scf.iv 0#32 1#32 k.val) 4#32))) := by
  intro inb inb'
  unfold tripR_k0_t1 trip_k0_t1
  dsimp only
  sl_unfold_words
  simp only [View.readAt_eq_ld, harg4.read_unread, harg5.read_unread]
  rfl

end Cert.KernelIdeal.Blk

end
-- ==== Proof.KOut.lean ====
/- The output block of one grid point, from what its loop carries. -/
module

public import proofs.«01_k».proof.Proof.KBlock

@[expose] public section

set_option maxRecDepth 16384

noncomputable section

open Idealize.ShloMosaic Idealize.ShloMosaic.TcCoe Idealize.SL.Sem

namespace Cert.KernelIdeal.Blk

open Cert.KernelIdeal Cert.KernelIdeal.Gen Cert.KernelIdeal.Pay Cert.KernelIdeal.Bias Cert.Online

/-! ## The row's logits and values -/

/-- Logit of key `k` for row `r` of query block `q`: `⊥` where the row does not read the key. -/
def rowX (x0 : Vec Ideal S1x256x128 .f32) (x1 : Vec Ideal S1x4096x128 .f32) (x3 : Vec Ideal S1x16x128 .f32)
    (q : Fin 16) (r : Fin 256) (k : ℕ) : EReal :=
  open Classical in
  if h : k < 4096 then
    if Reads q.val (fun n => score x0 x3 n r) ⟨k / 256, by omega⟩ ∧ k ≤ 256 * q.val + r.val then
      (∑ d : Fin 128, x0 (ix3 0 r d) * x1 (ix3 0 ⟨k, h⟩ d)) * scale
    else ⊥
  else ⊥

/-- Entry `d` of the value of key `k`. -/
def rowV (x2 : Vec Ideal S1x4096x128 .f32) (d : Fin 128) (k : ℕ) : EReal :=
  if h : k < 4096 then x2 (ix3 0 ⟨k, h⟩ d) else 0

theorem trips_eq (i : grid0.Coords) (q : Fin 16) (hq : (i 2).val = q.val) : (k0_t1_loop i).trips = q.val / 4 := by
  unfold k0_t1_loop
  simp only [hq]
  clear hq i
  revert q; decide +kernel

theorem trips2_eq (i : grid0.Coords) (q : Fin 16) (hq : (i 2).val = q.val) : (k0_t2_loop i).trips = 0 := by
  unfold k0_t2_loop
  simp only [hq]
  clear hq i
  revert q; decide +kernel

theorem range_sup (c : ℕ) (f : ℕ → EReal) : (Finset.range c).sup f = Finset.univ.sup fun j : Fin c => f j.val := by
  apply le_antisymm
  · exact Finset.sup_le fun k hk =>
      Finset.le_sup (f := fun j : Fin c => f j.val) (Finset.mem_univ (⟨k, Finset.mem_range.mp hk⟩ : Fin c))
  · exact Finset.sup_le fun k _ => Finset.le_sup (f := f) (Finset.mem_range.mpr k.isLt)

theorem pay29_at (x0 : Vec Ideal S1x256x128 .f32) (r : Fin 256) (d : Fin 128) :
    k0_pay29 (k0_pay8 x0) (ix2 r d) = x0 (ix3 0 r d) := by
  pointwise [k0_pay29, k0_pay8]

theorem pay30_at (q : Fin 16) (r : Fin 256) :
    k0_pay30 (BitVec.ofNat 32 q.val) (ix2 r 0) = BitVec.ofNat 32 (256 * q.val + r.val) := by
  pointwise [k0_pay30]
  revert q r; decide +kernel

theorem pay1_at (Y : FVec Ideal S256x128 .bf16) (r : Fin 256) (d : Fin 128) : k0_pay1 Y (ix3 0 r d) = Y (ix2 r d) := by
  pointwise [k0_pay1]

/-- The logit of a chunk's key, before the causal mask. -/
theorem logit_at (i : grid0.Coords) (q : Fin 16) (hq : (i 2).val = q.val) (x0 : Vec Ideal S1x256x128 .f32)
    (x1 : Vec Ideal S1x4096x128 .f32) (x3 : Vec Ideal S1x16x128 .f32)
    (h0 : ∀ r d, ∃ u : ℝ, x0 (ix3 0 r d) = (u : EReal)) (h3 : ∀ n d, ∃ u : ℝ, x3 (ix3 0 n d) = (u : EReal))
    (c : Fin 4) (o : Fin 3 → ℕ) (ho : o = ![0, 1024 * c.val, 0]) (inb) (r : Fin 256) (x : Fin 1024)
    (hc : 1024 * c.val + x.val ≤ 256 * q.val + r.val) :
    (∑ d : Fin 128, k0_pay29 (k0_pay8 x0) (ix2 r d) * keys x1 o inb (ix2 x d)) * scale
        + biasTile i x0 x3 (ix2 ⟨4 * c.val + x.val / 256, by omega⟩ r)
      = rowX x0 x1 x3 q r (1024 * c.val + x.val) := by
  have hk : 1024 * c.val + x.val < 4096 := by omega
  have hb : (1024 * c.val + x.val) / 256 = 4 * c.val + x.val / 256 := by omega
  rw [bias_at i q hq x0 x3 h0 h3]
  unfold rowX
  rw [dif_pos hk]
  have hb' : (⟨(1024 * c.val + x.val) / 256, by omega⟩ : Fin 16) = ⟨4 * c.val + x.val / 256, by omega⟩ := Fin.ext hb
  simp only [pay29_at, keys_at x1 o inb c.val c.isLt ho x _ hk]
  rw [hb']
  split
  · rename_i h
    rw [add_zero, if_pos ⟨h, hc⟩]
  · rename_i h
    rw [EReal.add_bot, if_neg fun h' => h h'.1]

theorem init_m (r : Fin 256) : k0_pay31 (F := Ideal) (ix2 r 0) = (⊥ : EReal) := by
  pointwise [k0_pay31]
  rfl

theorem init_l (r : Fin 256) : k0_pay32 (F := Ideal) (ix2 r 0) = (0 : EReal) := by
  pointwise [k0_pay32]

theorem init_a (r : Fin 256) (d : Fin 128) : k0_pay33 (F := Ideal) (ix2 r d) = (0 : EReal) := by
  pointwise [k0_pay33]

theorem chunkOff_eq (k : Fin 4) : chunkOff k.val = ![0, 1024 * k.val, 0] := by
  revert k; decide +kernel

theorem chunkWord_eq (k : Fin 4) : Scalar.muli (Scf.iv 0#32 1#32 k.val) 4#32 = BitVec.ofNat 32 (4 * k.val) := by
  revert k; decide +kernel

theorem inb_of (o : Fin 3 → ℕ) (c : Fin 4) (ho : o = ![0, 1024 * c.val, 0]) (a : Fin 3) :
    o a + (![1, 1024, 128] : Fin 3 → ℕ) a ≤ S1x4096x128.size a := by
  subst ho; revert c a; decide

/-- One trip takes in one more chunk of keys. -/
theorem trip_carried (𝒱 : Variants) (c : Dev nD) (bd : Option 𝒱.V) (i : grid0.Coords) (q : Fin 16) (hq : (i 2).val = q.val) (arg3 : Memref sig .tc .vmem S1x256x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x16x128 .f32) (harg6 : arg6.IsWhole) (arg7 : Memref sig .tc .vmem S1x256x128 .bf16) (harg7 : arg7.IsWhole) (arg2 : BitVec 32) (v315 : FVec Ideal S256x1 .f32) (v316 : FVec Ideal S256x1 .f32) (v317 : FVec Ideal S256x128 .f32) (c4_i32_63 : BitVec 32) (v318 : BitVec 32) (v329 : BitVec 1)
    (x0 : Vec Ideal S1x256x128 .f32) (x1 x2 : Vec Ideal S1x4096x128 .f32) (x3 : Vec Ideal S1x16x128 .f32)
    (h0 : ∀ r d, ∃ u : ℝ, x0 (ix3 0 r d) = (u : EReal)) (h3 : ∀ n d, ∃ u : ℝ, x3 (ix3 0 n d) = (u : EReal))
    (k : Fin (k0_t1_loop i).trips) (acc acc' : FVec Ideal S256x1 .f32 × FVec Ideal S256x1 .f32 × FVec Ideal S256x128 .f32)
    (hacc : acc' = tripR_k0_t1 (F := Ideal) 𝒱 c bd i arg3 harg3 arg4 harg4 arg5 harg5 arg6 harg6 arg7 harg7 arg2 blockIx (biasTile i x0 x3) (k0_pay29 (k0_pay8 x0))
        (iota Kind.tc S1x1024 32 [1] iota_S1x1024_d1_w32) v315 v316 v317 c4_i32_63 v318 v329 (harg4.unread x1) (harg5.unread x2) k acc)
    (r : Fin 256) (d : Fin 128)
    (h : Carried (rowX x0 x1 x3 q r) (rowV x2 d) (1024 * k.val) (acc.1 (ix2 r 0)) (acc.2.1 (ix2 r 0)) (acc.2.2 (ix2 r d))) :
    Carried (rowX x0 x1 x3 q r) (rowV x2 d) (1024 * (k.val + 1)) (acc'.1 (ix2 r 0)) (acc'.2.1 (ix2 r 0)) (acc'.2.2 (ix2 r d)) := by
  have hk := k.isLt.trans_eq (trips_eq i q hq)
  have hk4 : k.val < 4 := by omega
  have ho := chunkOff_eq ⟨k.val, hk4⟩
  have hw := chunkWord_eq ⟨k.val, hk4⟩
  simp only at ho hw
  rw [trip_eq 𝒱 c bd i arg3 harg3 arg4 harg4 arg5 harg5 arg6 harg6 arg7 harg7 arg2 _ _ v315 v316 v317 c4_i32_63 v318 v329 x1 x2 k acc
    (inb_of _ ⟨k.val, hk4⟩ ho) (inb_of _ ⟨k.val, hk4⟩ ho), hw] at hacc
  have hlg : ∀ x : Fin 1024, k0_pay34 (biasTile i x0 x3) (k0_pay29 (k0_pay8 x0))
      (keys x1 (chunkOff k.val) (inb_of _ ⟨k.val, hk4⟩ ho)) (widen (BitVec.ofNat 32 (4 * k.val))) (ix2 r x)
        = rowX x0 x1 x3 q r (1024 * k.val + x.val) := by
    intro x
    rw [pay34_at]
    have hwd : ∀ n : Fin 16, widen (BitVec.ofNat 32 (4 * k.val)) (ix2 n x) = if n.val = 4 * k.val + x.val / 256 then (1 : EReal) else 0 :=
      fun n => widen_at ⟨k.val, hk4⟩ n x
    simp only [hwd, mul_ite, mul_one, mul_zero]
    rw [one_block (fun n => biasTile i x0 x3 (ix2 n r)) _ (show 4 * k.val + x.val / 256 < 16 by omega)]
    exact logit_at i q hq x0 x1 x3 h0 h3 ⟨k.val, hk4⟩ _ ho _ r x (by show 1024 * k.val + x.val ≤ _; omega)
  have hv : ∀ x : Fin 1024, keys x2 (chunkOff k.val) (inb_of _ ⟨k.val, hk4⟩ ho) (ix2 x d) = rowV x2 d (1024 * k.val + x.val) := by
    intro x
    have hx : 1024 * k.val + x.val < 4096 := by omega
    rw [keys_at x2 _ _ k.val hk4 ho x d hx]
    unfold rowV
    rw [dif_pos hx]
  have hs := h.step 1024 _ rfl
  rw [range_sup, Finset.sum_range, Finset.sum_range] at hs
  subst hacc
  rw [show 1024 * (k.val + 1) = 1024 * k.val + 1024 by ring]
  simp only [pay38_at, pay39_at, pay35_at, hlg, hv]
  exact hs

end Cert.KernelIdeal.Blk

end
-- ==== Proof.KFinal.lean ====
/- The loop over chunks put together: the output block is the attention over all the keys read. -/
module

public import proofs.«01_k».proof.Proof.KOut

@[expose] public section

set_option maxRecDepth 16384

noncomputable section

open Idealize.ShloMosaic Idealize.ShloMosaic.TcCoe Idealize.SL.Sem

namespace Cert.KernelIdeal.Blk

open Cert.KernelIdeal Cert.KernelIdeal.Gen Cert.KernelIdeal.Pay Cert.KernelIdeal.Bias Cert.Online

theorem loop_carried (𝒱 : Variants) (c : Dev nD) (bd : Option 𝒱.V) (i : grid0.Coords) (q : Fin 16) (hq : (i 2).val = q.val) (arg3 : Memref sig .tc .vmem S1x256x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x16x128 .f32) (harg6 : arg6.IsWhole) (arg7 : Memref sig .tc .vmem S1x256x128 .bf16) (harg7 : arg7.IsWhole) (arg2 : BitVec 32) (v315 : FVec Ideal S256x1 .f32) (v316 : FVec Ideal S256x1 .f32) (v317 : FVec Ideal S256x128 .f32) (c4_i32_63 : BitVec 32) (v318 : BitVec 32) (v329 : BitVec 1)
    (x0 : Vec Ideal S1x256x128 .f32) (x1 x2 : Vec Ideal S1x4096x128 .f32) (x3 : Vec Ideal S1x16x128 .f32)
    (h0 : ∀ r d, ∃ u : ℝ, x0 (ix3 0 r d) = (u : EReal)) (h3 : ∀ n d, ∃ u : ℝ, x3 (ix3 0 n d) = (u : EReal))
    (r : Fin 256) (d : Fin 128) (st : ℕ → FVec Ideal S256x1 .f32 × FVec Ideal S256x1 .f32 × FVec Ideal S256x128 .f32)
    (hst : st = st_k0_t1 (F := Ideal) 𝒱 c bd i arg3 harg3 arg4 harg4 arg5 harg5 arg6 harg6 arg7 harg7 arg2 blockIx (biasTile i x0 x3) (k0_pay29 (k0_pay8 x0))
        (iota Kind.tc S1x1024 32 [1] iota_S1x1024_d1_w32) v315 v316 v317 c4_i32_63 v318 v329 (harg4.unread x1) (harg5.unread x2) (k0_pay31, k0_pay32, k0_pay33))
    (k : ℕ) (hk : k ≤ q.val / 4) :
    Carried (rowX x0 x1 x3 q r) (rowV x2 d) (1024 * k) ((st k).1 (ix2 r 0)) ((st k).2.1 (ix2 r 0)) ((st k).2.2 (ix2 r d)) := by
  induction k with
  | zero =>
    rw [hst, st_k0_t1_zero]
    simp only [init_m, init_l, init_a]
    exact Carried.zero _ _
  | succ k ih =>
    have hkt : k < (k0_t1_loop i).trips := by rw [trips_eq i q hq]; omega
    refine trip_carried 𝒱 c bd i q hq arg3 harg3 arg4 harg4 arg5 harg5 arg6 harg6 arg7 harg7 arg2 v315 v316 v317 c4_i32_63 v318 v329
      x0 x1 x2 x3 h0 h3 ⟨k, hkt⟩ (st k) (st (k + 1)) ?_ r d (ih (by omega))
    rw [hst]
    exact st_k0_t1_succ 𝒱 c bd i arg3 harg3 arg4 harg4 arg5 harg5 arg6 harg6 arg7 harg7 arg2 blockIx _ _ _ v315 v316 v317 c4_i32_63 v318 v329 _ _ _ ⟨k, hkt⟩

/-- The number of the chunk the row's own block lies in. -/
theorem own_chunk (q : Fin 16) :
    Scalar.select (Scalar.andi (Scalar.cmpi CmpIPredicate.ne (Scalar.subi (Scalar.extui (Scalar.cmpi CmpIPredicate.sgt (BitVec.ofNat 32 q.val) 0#32)) (Scalar.extui (Scalar.cmpi CmpIPredicate.slt (BitVec.ofNat 32 q.val) 0#32))) 1#32) (Scalar.cmpi CmpIPredicate.ne (Scalar.remsi (BitVec.ofNat 32 q.val) 4#32) 0#32)) (Scalar.subi (Scalar.divsi (BitVec.ofNat 32 q.val) 4#32) 1#32) (Scalar.divsi (BitVec.ofNat 32 q.val) 4#32)
      = BitVec.ofNat 32 (q.val / 4) := by
  revert q; decide +kernel

/-- The own chunk's first key, as an offset. -/
theorem own_offset (q : Fin 16) (w : BitVec 32) (hw : w = BitVec.ofNat 32 (q.val / 4)) :
    (Scalar.indexCast (Scalar.muli w 1024#32)).toNat = 1024 * (q.val / 4) := by
  subst hw; revert q; decide +kernel

theorem own_key (q : Fin 16) (w : BitVec 32) (hw : w = BitVec.ofNat 32 (q.val / 4)) :
    Scalar.muli w 1024#32 = BitVec.ofNat 32 (1024 * (q.val / 4)) := by
  subst hw; revert q; decide +kernel

theorem own_block (q : Fin 16) (w : BitVec 32) (hw : w = BitVec.ofNat 32 (q.val / 4)) :
    Scalar.muli w 4#32 = BitVec.ofNat 32 (4 * (q.val / 4)) := by
  subst hw; revert q; decide +kernel

/-- The last visit: the own chunk, under the causal mask, and the division. -/
theorem last_visit (i : grid0.Coords) (q : Fin 16) (hq : (i 2).val = q.val)
    (x0 : Vec Ideal S1x256x128 .f32) (x1 x2 : Vec Ideal S1x4096x128 .f32) (x3 : Vec Ideal S1x16x128 .f32)
    (h0 : ∀ r d, ∃ u : ℝ, x0 (ix3 0 r d) = (u : EReal)) (h3 : ∀ n d, ∃ u : ℝ, x3 (ix3 0 n d) = (u : EReal))
    (r : Fin 256) (d : Fin 128) (M L : FVec Ideal S256x1 .f32) (A : FVec Ideal S256x128 .f32)
    (h : Carried (rowX x0 x1 x3 q r) (rowV x2 d) (1024 * (q.val / 4)) (M (ix2 r 0)) (L (ix2 r 0)) (A (ix2 r d)))
    (o : Fin 3 → ℕ) (ho : o = ![0, 1024 * (q.val / 4), 0]) (inb inb') (kw cw : BitVec 32)
    (hkw : kw = BitVec.ofNat 32 (1024 * (q.val / 4))) (hcw : cw = BitVec.ofNat 32 (4 * (q.val / 4))) :
    ∃ m l a, Carried (rowX x0 x1 x3 q r) (rowV x2 d) 4096 m l a ∧
      k0_pay1 (k0_pay52 blockIx (biasTile i x0 x3) (k0_pay29 (k0_pay8 x0)) (k0_pay30 (BitVec.ofNat 32 (i 2).val))
        (iota Kind.tc S1x1024 32 [1] iota_S1x1024_d1_w32) M L A kw (keys x1 o inb) (keys x2 o inb') cw
        (k0_pay48 (iota Kind.tc S1x1024 32 [1] iota_S1x1024_d1_w32))
        (k0_pay49 (iota Kind.tc S1x1024 32 [1] iota_S1x1024_d1_w32))
        (k0_pay50 (iota Kind.tc S1x1024 32 [1] iota_S1x1024_d1_w32)) k0_pay51) (ix3 0 r d) = Ideal.div a l := by
  have hc4 : q.val / 4 < 4 := by omega
  have hs := h.step 1024 _ rfl
  rw [range_sup, Finset.sum_range, Finset.sum_range] at hs
  refine ⟨_, _, _, hs.extend (by omega) fun k hk => ?_, ?_⟩
  · unfold rowX
    split
    · exact if_neg fun h' => by have := h'.2; omega
    · rfl
  · rw [pay1_at, hq, hkw, hcw]
    have hv : ∀ x : Fin 1024, keys x2 o inb' (ix2 x d) = rowV x2 d (1024 * (q.val / 4) + x.val) := by
      intro x
      have hx : 1024 * (q.val / 4) + x.val < 4096 := by omega
      rw [keys_at x2 _ _ (q.val / 4) hc4 ho x d hx]
      unfold rowV
      rw [dif_pos hx]
    have e := pay52_at (biasTile i x0 x3) (k0_pay29 (k0_pay8 x0)) (k0_pay30 (BitVec.ofNat 32 q.val)) M L A ⟨q.val / 4, hc4⟩ q
      (keys x1 o inb) (keys x2 o inb') r d (pay30_at q r) (fun x => rowX x0 x1 x3 q r (1024 * (q.val / 4) + x.val)) (fun x => by
        split
        · rename_i hx
          exact (logit_at i q hq x0 x1 x3 h0 h3 ⟨q.val / 4, hc4⟩ o ho inb r x hx).symm
        · rename_i hx
          simp only at hx
          show rowX x0 x1 x3 q r (1024 * (q.val / 4) + x.val) = ⊥
          unfold rowX
          split
          · exact if_neg fun h' => hx h'.2
          · rfl) _ rfl
    simp only [hv] at e
    exact e

theorem out_at (c : Dev nD) (i : grid0.Coords) (q : Fin 16) (hq : (i 2).val = q.val)
    (a3 : Memref sig .tc .vmem S1x256x128 .f32) (h3 : a3.IsWhole)
    (a4 : Memref sig .tc .vmem S1x4096x128 .f32) (h4 : a4.IsWhole) (a5 : Memref sig .tc .vmem S1x4096x128 .f32) (h5 : a5.IsWhole)
    (a6 : Memref sig .tc .vmem S1x16x128 .f32) (h6 : a6.IsWhole) (a7 : Memref sig .tc .vmem S1x256x128 .bf16) (h7 : a7.IsWhole)
    (x0 : Vec Ideal S1x256x128 .f32) (x1 : Vec Ideal S1x4096x128 .f32) (x2 : Vec Ideal S1x4096x128 .f32) (x3 : Vec Ideal S1x16x128 .f32)
    (hx0 : ∀ r d, ∃ u : ℝ, x0 (ix3 0 r d) = (u : EReal)) (hx3 : ∀ n d, ∃ u : ℝ, x3 (ix3 0 n d) = (u : EReal))
    (r : Fin 256) (d : Fin 128) :
    ∃ m l a, Carried (rowX x0 x1 x3 q r) (rowV x2 d) 4096 m l a ∧
      out0_A_4 c i a3 h3 a4 h4 a5 h5 a6 h6 a7 h7 x0 x1 x2 x3 (ix3 0 r d) = Ideal.div a l := by
  unfold out0_A_4
  rw [View.read_writes_eq_canon _ _ _ (cover0_A_4 c i a3 h3 a4 h4 a5 h5 a6 h6 a7 h7 x0 x1 x2 x3)]
  unfold kernelRun0_A
  dsimp only
  sl_unfold_words
  rw [View.canon_unit_zero hz]
  simp only [View.readAt_eq_ld, h3.read_unread, h4.read_unread, h5.read_unread, h6.read_unread,
    View.ld_unit_zero (S := S1x256x128) hz, View.ld_unit_zero (S := S1x16x128) hz]
  have hT2 := trips2_eq i q hq
  have hT1 := trips_eq i q hq
  simp only [k0_t2_loop, k0_t1_loop, Scf.Loop.trips] at hT2 hT1
  have ho := own_chunk q
  rw [← hq] at ho
  rw [hT2, hT1, st_k0_t2_zero]
  refine last_visit i q hq x0 x1 x2 x3 hx0 hx3 r d _ _ _ ?_ _ ?_ _ _ _ _ ?_ ?_
  · refine loop_carried Variants.none c none i q hq a3 h3 a4 h4 a5 h5 a6 h6 a7 h7 _ _ _ _ _ _ _ x0 x1 x2 x3 hx0 hx3 r d _ rfl (q.val / 4) le_rfl
  · rw [own_offset q _ (by rw [← hq]; exact ho)]
  · exact own_key q _ (by rw [← hq]; exact ho)
  · exact own_block q _ (by rw [← hq]; exact ho)

/-- Attention over all keys at once: the values weighted by the normalised exponentials. -/
def attend (X V : Fin 4096 → EReal) : EReal :=
  ∑ k, V k * Ideal.div (Ideal.exp (X k - Finset.univ.sup X)) (∑ k', Ideal.exp (X k' - Finset.univ.sup X))

/-- What the carried triple ends in is attention over all keys at once, when every logit is
below `⊤` and one is above `⊥`. -/
theorem carried_attend (x v : ℕ → EReal) (m l a : EReal) (h : Carried x v 4096 m l a)
    (ht : ∀ k < 4096, x k ≠ ⊤) (k₀ : ℕ) (hk : k₀ < 4096) (h₀ : x k₀ ≠ ⊥) :
    Ideal.div a l = attend (fun k => x k.val) (fun k => v k.val) := by
  obtain ⟨s, hs, hl⟩ := h.den_pos ht k₀ hk h₀
  have hm : m = (Finset.univ : Finset (Fin 4096)).sup fun k => x k.val := by
    rw [h.top, range_sup]
  have hd := h.den
  have hn := h.num
  rw [Finset.sum_range] at hd hn
  unfold attend
  rw [← hm, ← hd, hl, hn]
  exact weighted_quotient hs Finset.univ (fun k : Fin 4096 => Ideal.exp (x k.val - m)) fun k => v k.val

end Cert.KernelIdeal.Blk

end
-- ==== Proof.KArray.lean ====
/- From blocks to the whole result array: every entry is the attention of its token and head. -/
module

public import proofs.«01_k».proof.Proof.KFinal
public import proofs.«01_k».proof.Proof.Gen.KernelIdeal.Value
public import Idealize.ShloMosaic.Lib.Pipeline.ValueKit

/-! The attention of one query row over the arrays, and the kernel's result array as that. -/

@[expose] public section

set_option maxRecDepth 16384

noncomputable section

open Idealize.ShloMosaic Idealize.ShloMosaic.TcCoe Idealize.SL.Sem

namespace Cert.Moba

open Cert.KernelIdeal Cert.KernelIdeal.Pay Cert.KernelIdeal.Bias Cert.KernelIdeal.Blk

/-- Column `d` of head `h`. -/
def col (h : Fin 4) (d : Fin 128) : Fin 512 := ⟨128 * h.val + d.val, by omega⟩

/-- Column `d` of head `h`, among the values in the wide array. -/
def vcol (h : Fin 4) (d : Fin 128) : Fin 4608 := ⟨1536 + (128 * h.val + d.val), by omega⟩

variable (Q K : Vec Ideal S2x4096x512 .f32) (W : Vec Ideal S2x4096x4608 .f32) (M : Vec Ideal S2x16x1x512 .f32)

/-- A query's score against the mean key of block `n`. -/
def blockScore (b : Fin 2) (h : Fin 4) (l : Fin 4096) (n : Fin 16) : EReal :=
  ∑ d, M (ix4 b n 0 (col h d)) * Q (ix3 b l (col h d))

/-- A query's scaled logit at key `k`, or `⊥` where the query does not read the key. -/
def logit (b : Fin 2) (h : Fin 4) (l k : Fin 4096) : EReal :=
  open Classical in
  if Reads (l.val / 256) (blockScore Q M b h l) ⟨k.val / 256, by omega⟩ ∧ k.val ≤ l.val then
    (∑ d, Q (ix3 b l (col h d)) * K (ix3 b k (col h d))) * scale
  else ⊥

/-- The head an output column belongs to. -/
def headOf (f : Fin 512) : Fin 4 := ⟨f.val / 128, by omega⟩

/-- The place of an output column in its head. -/
def placeOf (f : Fin 512) : Fin 128 := ⟨f.val % 128, by omega⟩

/-- The attention at batch `b`, row `l`, column `f`. -/
def out (b : Fin 2) (l : Fin 4096) (f : Fin 512) : EReal :=
  attend (logit Q K M b (headOf f) l) fun k => W (ix3 b k (vcol (headOf f) (placeOf f)))

end Cert.Moba

namespace Cert.KernelIdeal.Arr

open Cert.KernelIdeal Cert.KernelIdeal.Gen Cert.KernelIdeal.Pay Cert.KernelIdeal.Bias Cert.KernelIdeal.Blk Cert.Moba

variable (m : (ℓ : Loc nD τ sig) → Buf (Elt Ideal) ℓ)

theorem index (t : Fin grid0.N) :
    win0_0.index t = ![(grid0.coords t 0).val, (grid0.coords t 2).val, (grid0.coords t 1).val] ∧
    win0_1.index t = ![(grid0.coords t 0).val, 0, (grid0.coords t 1).val] ∧
    win0_2.index t = ![(grid0.coords t 0).val, 0, 12 + (grid0.coords t 1).val] ∧
    win0_3.index t = ![(grid0.coords t 0).val, 0, (grid0.coords t 1).val] ∧
    win0_4.index t = ![(grid0.coords t 0).val, (grid0.coords t 2).val, (grid0.coords t 1).val] := by
  revert t; decide +kernel

theorem coords_lt (t : Fin grid0.N) :
    (grid0.coords t 0).val < 2 ∧ (grid0.coords t 1).val < 4 ∧ (grid0.coords t 2).val < 16 := by
  revert t; decide +kernel

def argQ (c : Dev nD) : Vec Ideal S2x4096x512 .f32 := m ((c : Thread nD τ).loc main_arg0)
def argK (c : Dev nD) : Vec Ideal S2x4096x512 .f32 := m ((c : Thread nD τ).loc main_arg1)
def argW (c : Dev nD) : Vec Ideal S2x4096x4608 .f32 := m ((c : Thread nD τ).loc main_arg2)
def argM (c : Dev nD) : Vec Ideal S2x16x1x512 .f32 := m ((c : Thread nD τ).loc main_arg3)

theorem read_q (c : Dev nD) (t : Fin cfg0.N) (b : Fin 2) (h : Fin 4) (q : Fin 16)
    (hb : (grid0.coords t 0).val = b.val) (hh : (grid0.coords t 1).val = h.val) (hq : (grid0.coords t 2).val = q.val)
    (r : Fin 256) (d : Fin 128) :
    iblk m c 0 t (ix3 0 r d) = argQ m c (ix3 b ⟨256 * q.val + r.val, by omega⟩ (col h d)) := by
  unfold argQ col
  blk_ext [iblk, V, (index t).1]

theorem read_k (c : Dev nD) (t : Fin cfg0.N) (b : Fin 2) (h : Fin 4)
    (hb : (grid0.coords t 0).val = b.val) (hh : (grid0.coords t 1).val = h.val)
    (k : Fin 4096) (d : Fin 128) :
    iblk m c 1 t (ix3 0 k d) = argK m c (ix3 b k (col h d)) := by
  unfold argK col
  blk_ext [iblk, V, (index t).2.1]

theorem read_w (c : Dev nD) (t : Fin cfg0.N) (b : Fin 2) (h : Fin 4)
    (hb : (grid0.coords t 0).val = b.val) (hh : (grid0.coords t 1).val = h.val)
    (k : Fin 4096) (d : Fin 128) :
    iblk m c 2 t (ix3 0 k d) = argW m c (ix3 b k (vcol h d)) := by
  unfold argW vcol
  blk_ext [iblk, V, (index t).2.2.1]

theorem read_m (c : Dev nD) (t : Fin cfg0.N) (b : Fin 2) (h : Fin 4)
    (hb : (grid0.coords t 0).val = b.val) (hh : (grid0.coords t 1).val = h.val)
    (n : Fin 16) (d : Fin 128) :
    iblk m c 3 t (ix3 0 n d) = argM m c (ix4 b n 0 (col h d)) := by
  unfold argM col
  unfold iblk
  blk_simp [V, (index t).2.2.2.1]
  entry_read
  pointwise
  show m ((c : Thread nD τ).loc main_arg3) _ = m ((c : Thread nD τ).loc main_arg3) _
  blk_ext [(index t).2.2.2.1]

/-- A row's block of queries, and its place in the block. -/
theorem row_logit (c : Dev nD) (t : Fin cfg0.N) (b : Fin 2) (h : Fin 4) (q : Fin 16)
    (hb : (grid0.coords t 0).val = b.val) (hh : (grid0.coords t 1).val = h.val) (hq : (grid0.coords t 2).val = q.val)
    (r : Fin 256) (k : Fin 4096) :
    rowX (iblk m c 0 t) (iblk m c 1 t) (iblk m c 3 t) q r k.val
      = logit (argQ m c) (argK m c) (argM m c) b h ⟨256 * q.val + r.val, by omega⟩ k := by
  have hs : (fun n => score (iblk m c 0 t) (iblk m c 3 t) n r) = blockScore (argQ m c) (argM m c) b h ⟨256 * q.val + r.val, by omega⟩ := by
    funext n
    unfold score blockScore
    exact Finset.sum_congr rfl fun d _ => by rw [read_q m c t b h q hb hh hq r d, read_m m c t b h hb hh n d]
  have hd : (256 * q.val + r.val) / 256 = q.val := by omega
  unfold rowX logit
  rw [dif_pos k.isLt, hs]
  have hP : (Reads q.val (blockScore (argQ m c) (argM m c) b h ⟨256 * q.val + r.val, by omega⟩) ⟨k.val / 256, by omega⟩ ∧ k.val ≤ 256 * q.val + r.val)
      ↔ (Reads ((256 * q.val + r.val) / 256) (blockScore (argQ m c) (argM m c) b h ⟨256 * q.val + r.val, by omega⟩) ⟨k.val / 256, by omega⟩ ∧ k.val ≤ 256 * q.val + r.val) := by
    rw [hd]
  by_cases h' : Reads q.val (blockScore (argQ m c) (argM m c) b h ⟨256 * q.val + r.val, by omega⟩) ⟨k.val / 256, by omega⟩ ∧ k.val ≤ 256 * q.val + r.val
  · rw [if_pos h', if_pos (hP.mp h')]
    refine congrArg (· * scale) (Finset.sum_congr rfl fun d _ => ?_)
    rw [read_q m c t b h q hb hh hq r d, read_k m c t b h hb hh ⟨k.val, k.isLt⟩ d]
  · rw [if_neg h', if_neg fun h'' => h' (hP.mpr h'')]

theorem row_value (c : Dev nD) (t : Fin cfg0.N) (b : Fin 2) (h : Fin 4)
    (hb : (grid0.coords t 0).val = b.val) (hh : (grid0.coords t 1).val = h.val) (d : Fin 128) (k : Fin 4096) :
    rowV (iblk m c 2 t) d k.val = argW m c (ix3 b k (vcol h d)) := by
  unfold rowV
  rw [dif_pos k.isLt, read_w m c t b h hb hh ⟨k.val, k.isLt⟩ d]

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem scale_real : ∃ u : ℝ, scale = (u : EReal) := by
  unfold scale
  simp [Ideal.ofBits, Ideal.ieee, -EReal.coe_mul]

/-- A sum of products of real numbers, scaled by a real number, is real. -/
theorem real_logit (Q K : Fin 128 → EReal) (hQ : ∀ d, ∃ u : ℝ, Q d = (u : EReal)) (hK : ∀ d, ∃ u : ℝ, K d = (u : EReal)) :
    ∃ u : ℝ, (∑ d, Q d * K d) * scale = (u : EReal) := by
  obtain ⟨s, hs⟩ := scale_real
  choose f hf using hQ
  choose g hg using hK
  refine ⟨(∑ d, f d * g d) * s, ?_⟩
  rw [EReal.coe_mul, hs, coe_sum]
  exact congrArg (· * (s : EReal)) (Finset.sum_congr rfl fun d _ => by rw [hf, hg, EReal.coe_mul])

/-- What one grid point computes for one row and one column of its block. -/
theorem point (c : Dev nD) (hQ : ∀ j, ∃ u : ℝ, argQ m c j = (u : EReal)) (hK : ∀ j, ∃ u : ℝ, argK m c j = (u : EReal))
    (hM : ∀ j, ∃ u : ℝ, argM m c j = (u : EReal)) (t : Fin cfg0.N) (b : Fin 2) (h : Fin 4) (q : Fin 16)
    (hb : (grid0.coords t 0).val = b.val) (hh : (grid0.coords t 1).val = h.val) (hq : (grid0.coords t 2).val = q.val)
    (r : Fin 256) (d : Fin 128) :
    out0_A_4 c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t) (ix3 0 r d)
      = attend (logit (argQ m c) (argK m c) (argM m c) b h ⟨256 * q.val + r.val, by omega⟩) fun k => argW m c (ix3 b k (vcol h d)) := by
  obtain ⟨M, L, A, hC, ho⟩ := out_at c (grid0.coords t) q hq (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t)
    (fun r d => by rw [read_q m c t b h q hb hh hq r d]; exact hQ _)
    (fun n d => by rw [read_m m c t b h hb hh n d]; exact hM _) r d
  have hr := row_logit m c t b h q hb hh hq r
  have hreal := fun (l k : Fin 4096) => real_logit (fun d => argQ m c (ix3 b l (col h d)))
    (fun d => argK m c (ix3 b k (col h d))) (fun d => hQ _) (fun d => hK _)
  have ht : ∀ k < 4096, rowX (iblk m c 0 t) (iblk m c 1 t) (iblk m c 3 t) q r k ≠ ⊤ := by
    intro k hk
    rw [show k = (⟨k, hk⟩ : Fin 4096).val from rfl, hr]
    unfold logit
    split
    · obtain ⟨u, hu⟩ := hreal ⟨256 * q.val + r.val, by omega⟩ ⟨k, hk⟩
      rw [hu]; exact EReal.coe_ne_top u
    · exact bot_ne_top
  have hl : 256 * q.val + r.val < 4096 := by omega
  have h₀ : rowX (iblk m c 0 t) (iblk m c 1 t) (iblk m c 3 t) q r (256 * q.val + r.val) ≠ ⊥ := by
    rw [show 256 * q.val + r.val = (⟨256 * q.val + r.val, hl⟩ : Fin 4096).val from rfl, hr]
    unfold logit
    rw [if_pos ⟨Or.inr (by rfl), le_rfl⟩]
    obtain ⟨u, hu⟩ := hreal ⟨256 * q.val + r.val, hl⟩ ⟨256 * q.val + r.val, hl⟩
    rw [hu]; exact EReal.coe_ne_bot u
  rw [ho, carried_attend _ _ M L A hC ht (256 * q.val + r.val) hl h₀]
  exact congrArg₂ attend (funext hr) (funext fun k => row_value m c t b h hb hh d k)

theorem out_split (Q K : Vec Ideal S2x4096x512 .f32) (W : Vec Ideal S2x4096x4608 .f32) (M : Vec Ideal S2x16x1x512 .f32)
    (b : Fin 2) (l : Fin 4096) (f : Fin 512) (h : Fin 4) (d : Fin 128) (hf : f.val = 128 * h.val + d.val) :
    Moba.out Q K W M b l f = attend (logit Q K M b h l) fun k => W (ix3 b k (vcol h d)) := by
  have e1 : headOf f = h := Fin.ext (by show f.val / 128 = h.val; omega)
  have e2 : placeOf f = d := Fin.ext (by show f.val % 128 = d.val; omega)
  unfold Moba.out
  rw [e1, e2]

/-- The result array, from real queries, keys and mean keys. -/
theorem result (c : Dev nD) (hQ : ∀ j, ∃ u : ℝ, argQ m c j = (u : EReal)) (hK : ∀ j, ∃ u : ℝ, argK m c j = (u : EReal))
    (hM : ∀ j, ∃ u : ℝ, argM m c j = (u : EReal)) :
    (dats m 0 c).arrAt 4 cfg0.N = fun j : S2x4096x512.Idx => Moba.out (argQ m c) (argK m c) (argW m c) (argM m c) (j 0) (j 1) (j 2) := by
  refine (dats m 0 c).arrAt_eq_of_covers 4 _ (by decide +kernel) fun t hf y => ?_
  obtain ⟨lb, lh, lq⟩ := coords_lt t
  generalize hb : (grid0.coords t 0).val = b at lb
  generalize hh : (grid0.coords t 1).val = h at lh
  generalize hq : (grid0.coords t 2).val = q at lq
  have ly1 : (y 1).val < 256 := (y 1).isLt
  have ly2 : (y 2).val < 128 := (y 2).isLt
  have e : ((cfg0.win 4).blk t).view.emb y = (ix3 (⟨b, lb⟩ : Fin 2) (⟨256 * q + (y 1).val, by omega⟩ : Fin 4096) (⟨128 * h + (y 2).val, by omega⟩ : Fin 512) : S2x4096x512.Idx) := by
    blk_ext [(index t).2.2.2.2]
  have ey : (cfg0.win 4).xinj (cfg0.grid.coords t) y = (ix3 0 ⟨(y 1).val, ly1⟩ ⟨(y 2).val, ly2⟩ : S1x256x128.Idx) := by
    blk_ext
  rw [e, ey, after0_4]
  have hp := point m c hQ hK hM t ⟨b, lb⟩ ⟨h, lh⟩ ⟨q, lq⟩ hb hh hq ⟨(y 1).val, ly1⟩ ⟨(y 2).val, ly2⟩
  have ho := out_split (argQ m c) (argK m c) (argW m c) (argM m c) ⟨b, lb⟩ ⟨256 * q + (y 1).val, by omega⟩ ⟨128 * h + (y 2).val, by omega⟩ ⟨h, lh⟩ ⟨(y 2).val, ly2⟩ rfl
  rw [cast_eq]
  unfold outsAt0
  rw [hp]
  exact ho.symm

end Cert.KernelIdeal.Arr

end
-- ==== Proof.RefVal.lean ====
/- The reference, read at an index: top three blocks, mask, softmax and the weighted sum are the same attention. -/
module

public import proofs.«01_k».proof.Proof.KArray
public import proofs.«01_k».proof.Proof.Gen.ReferenceIdeal.Run
public import Idealize.ShloMosaic.Lib.Routing.OpsOrder

/-! What the reference computes, layer by layer, read at an index. -/

@[expose] public section

set_option maxRecDepth 16384

noncomputable section

open Idealize.ShloMosaic Idealize.ShloMosaic.TcCoe Idealize.SL.Sem

namespace Cert.ReferenceIdeal.Layers

open Cert.ReferenceIdeal Cert.ReferenceIdeal.Gen Cert.ReferenceIdeal.Value

variable (Q K : Vec Ideal S2x4096x512 .f32) (W : Vec Ideal S2x4096x4608 .f32) (M : Vec Ideal S2x16x1x512 .f32)

/-- The number of the block each row lies in. -/
def own : IVec S4096 32 :=
  select (andi (cmpi .ne (signi (iotaInDim S4096 32 0)) (broadcastInDim S4096 ![] bcast_S_S4096 (signi (id (constantI S_ 32 256#32))))) (cmpi .ne (Host.remsi (iotaInDim S4096 32 0) (broadcastInDim S4096 ![] bcast_S_S4096 (id (constantI S_ 32 256#32)))) (broadcastInDim S4096 ![] bcast_S_S4096 (constantI S_ 32 0#32)))) (subi (Host.divsi (iotaInDim S4096 32 0) (broadcastInDim S4096 ![] bcast_S_S4096 (id (constantI S_ 32 256#32)))) (broadcastInDim S4096 ![] bcast_S_S4096 (constantI S_ 32 1#32))) (Host.divsi (iotaInDim S4096 32 0) (broadcastInDim S4096 ![] bcast_S_S4096 (id (constantI S_ 32 256#32))))

/-- The scores of the blocks before a row's own, and `⊥` for the others. -/
def scores : FVec Ideal S2x4x4096x16 .f32 :=
  select (broadcastInDim S2x4x4096x16 ![0, 1, 2, 3] bcast_S1x1x4096x16_S2x4x4096x16_0_1_2_3 (broadcastInDim S1x1x4096x16 ![2, 3] bcast_S4096x16_S1x1x4096x16_2_3 (cmpi .slt (broadcastInDim S4096x16 ![0, 1] bcast_S1x16_S4096x16_0_1 (broadcastInDim S1x16 ![1] bcast_S16_S1x16_1 (iotaInDim S16 32 0))) (broadcastInDim S4096x16 ![0, 1] bcast_S4096x1_S4096x16_0_1 (broadcastInDim S4096x1 ![0] bcast_S4096_S4096x1_0 own))))) (Host.dotGeneral (F := Ideal) (φ₁ := .f32) (φ₂ := .f32) dot_S2x4096x4x128_S2x16x4x128_S2x4x4096x16_3_3_1_1_02_02 none (shapeCast _ Q shapeCasts_S2x4096x512_S2x4096x4x128) (shapeCast _ M shapeCasts_S2x16x1x512_S2x16x4x128)) (broadcastInDim S2x4x4096x16 ![] bcast_S_S2x4x4096x16 (id (constant S_ .f32 0xFF800000#32)))

/-- The three greatest scores' blocks. -/
def top (S : FVec Ideal S2x4x4096x16 .f32) : IVec S2x4x4096x3 32 :=
  (Host.topK S2x4x4096x3 3 (FloatOps.cmpfTotal (F := Ideal) (φ := .f32) .gt) S sliceFits_S2x4x4096x16_S2x4x4096x3).2

/-- Which block each of the three slots picks, slots past the row's own block count left out. -/
def slots (T : IVec S2x4x4096x3 32) : IVec S2x4x4096x3x16 1 :=
  andi (cmpi .eq (broadcastInDim S2x4x4096x3x16 ![0, 1, 2, 3, 4] bcast_S2x4x4096x3x1_S2x4x4096x3x16_0_1_2_3_4 (broadcastInDim S2x4x4096x3x1 ![0, 1, 2, 3] bcast_S2x4x4096x3_S2x4x4096x3x1_0_1_2_3 T)) (broadcastInDim S2x4x4096x3x16 ![0, 1, 2, 3, 4] bcast_S1x1x1x1x16_S2x4x4096x3x16_0_1_2_3_4 (broadcastInDim S1x1x1x1x16 ![4] bcast_S16_S1x1x1x1x16_4 (iotaInDim S16 32 0)))) (broadcastInDim S2x4x4096x3x16 ![0, 1, 2, 3, 4] bcast_S1x1x4096x3x1_S2x4x4096x3x16_0_1_2_3_4 (broadcastInDim S1x1x4096x3x1 ![2, 3] bcast_S4096x3_S1x1x4096x3x1_2_3 (cmpi .slt (broadcastInDim S4096x3 ![0, 1] bcast_S1x3_S4096x3_0_1 (broadcastInDim S1x3 ![1] bcast_S3_S1x3_1 (iotaInDim S3 32 0))) (broadcastInDim S4096x3 ![0, 1] bcast_S4096x1_S4096x3_0_1 (broadcastInDim S4096x1 ![0] bcast_S4096_S4096x1_0 own)))))

/-- The blocks a row reads. -/
def chosen (P : IVec S2x4x4096x3x16 1) : IVec S2x4x4096x16 1 :=
  ori (Host.reduce IntOp.ori P (constantI S_ 1 0#1) reducesTo_S2x4x4096x3x16_S2x4x4096x16_d3 h_S_) (broadcastInDim S2x4x4096x16 ![0, 1, 2, 3] bcast_S1x1x4096x16_S2x4x4096x16_0_1_2_3 (broadcastInDim S1x1x4096x16 ![2, 3] bcast_S4096x16_S1x1x4096x16_2_3 (cmpi .eq (broadcastInDim S4096x16 ![0, 1] bcast_S1x16_S4096x16_0_1 (broadcastInDim S1x16 ![1] bcast_S16_S1x16_1 (iotaInDim S16 32 0))) (broadcastInDim S4096x16 ![0, 1] bcast_S4096x1_S4096x16_0_1 (broadcastInDim S4096x1 ![0] bcast_S4096_S4096x1_0 own)))))

/-- The keys a row reads: those of its blocks, not past the row. -/
def mask (C : IVec S2x4x4096x16 1) : IVec S2x4x4096x4096 1 :=
  andi (shapeCast _ (broadcastInDim S2x4x4096x16x256 ![0, 1, 2, 3] bcast_S2x4x4096x16_S2x4x4096x16x256_0_1_2_3 C) shapeCasts_S2x4x4096x16x256_S2x4x4096x4096) (broadcastInDim S2x4x4096x4096 ![0, 1, 2, 3] bcast_S1x1x4096x4096_S2x4x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))))

/-- The scaled logits under a mask. -/
def logits (B : IVec S2x4x4096x4096 1) : FVec Ideal S2x4x4096x4096 .f32 :=
  select B (mulf (Host.dotGeneral (F := Ideal) (φ₁ := .f32) (φ₂ := .f32) dot_S2x4096x4x128_S2x4096x4x128_S2x4x4096x4096_3_3_1_1_02_02 none (shapeCast _ Q shapeCasts_S2x4096x512_S2x4096x4x128) (shapeCast _ K shapeCasts_S2x4096x512_S2x4096x4x128)) (broadcastInDim S2x4x4096x4096 ![] bcast_S_S2x4x4096x4096 (constant S_ .f32 0x3DB504F3#32))) (broadcastInDim S2x4x4096x4096 ![] bcast_S_S2x4x4096x4096 (id (constant S_ .f32 0xFF800000#32)))

/-- Each row's greatest logit. -/
def greatest (L : FVec Ideal S2x4x4096x4096 .f32) : FVec Ideal S2x4x4096 .f32 :=
  Host.reduce FloatOps.maximumf L (constant S_ .f32 0xFF800000#32) reducesTo_S2x4x4096x4096_S2x4x4096_d3 h_S_

/-- The same, and at least `⊥`. -/
def peak (G : FVec Ideal S2x4x4096 .f32) : FVec Ideal S2x4x4096 .f32 :=
  maximumf (broadcastInDim S2x4x4096 ![] bcast_S_S2x4x4096 (constant S_ .f32 0xFF800000#32)) G

/-- The exponentials, from the greatest logit down. -/
def expo (L : FVec Ideal S2x4x4096x4096 .f32) (X : FVec Ideal S2x4x4096 .f32) : FVec Ideal S2x4x4096x4096 .f32 :=
  Host.exp (subf L (broadcastInDim S2x4x4096x4096 ![0, 1, 2, 3] bcast_S2x4x4096x1_S2x4x4096x4096_0_1_2_3 (broadcastInDim S2x4x4096x1 ![0, 1, 2] bcast_S2x4x4096_S2x4x4096x1_0_1_2 X)))

/-- The weights. -/
def weights (E : FVec Ideal S2x4x4096x4096 .f32) : FVec Ideal S2x4x4096x4096 .f32 :=
  Host.divf E (broadcastInDim S2x4x4096x4096 ![0, 1, 2, 3] bcast_S2x4x4096x1_S2x4x4096x4096_0_1_2_3 (broadcastInDim S2x4x4096x1 ![0, 1, 2] bcast_S2x4x4096_S2x4x4096x1_0_1_2 (Host.reduceAdd E (constant S_ .f32 0x00000000#32) reducesTo_S2x4x4096x4096_S2x4x4096_d3 h_S_)))

/-- The weighted values. -/
def result (A : FVec Ideal S2x4x4096x4096 .f32) : FVec Ideal S2x4096x512 .bf16 :=
  truncf .bf16 (shapeCast _ (transpose S2x4096x4x128 [0, 3, 1, 2] (Host.dotGeneral (F := Ideal) (φ₁ := .f32) (φ₂ := .f32) dot_S2x4096x4x128_S2x4x4096x4096_S2x4x128x4096_1_3_3_2_02_01 none (shapeCast _ (extractStridedSlice S2x4096x512 ![0, 0, 1536] W slices_S2x4096x4608_S2x4096x512_0_0_1536) shapeCasts_S2x4096x512_S2x4096x4x128) A) transposes_S2x4x128x4096_S2x4096x4x128_0_3_1_2) shapeCasts_S2x4096x4x128_S2x4096x512) bitsLt_bf16_f32

/-- The reference's logits. -/
def refLogits : FVec Ideal S2x4x4096x4096 .f32 := logits Q K (mask (chosen (slots (top (scores Q M)))))

theorem res_layers (m : (ℓ : Loc nD τ sig) → Buf (Elt Ideal) ℓ) (c : Dev nD) :
    res_main_v67 (F := Ideal) m c
      = result (m ((c.tc : Thread nD τ).loc main_arg2))
          (weights (expo (refLogits (m ((c.tc : Thread nD τ).loc main_arg0)) (m ((c.tc : Thread nD τ).loc main_arg1)) (m ((c.tc : Thread nD τ).loc main_arg3)))
            (peak (greatest (refLogits (m ((c.tc : Thread nD τ).loc main_arg0)) (m ((c.tc : Thread nD τ).loc main_arg1)) (m ((c.tc : Thread nD τ).loc main_arg3))))))) := by
  unfold res_main_v67 result weights expo peak greatest refLogits logits mask chosen slots top scores own
  rfl

theorem own_at (l : Fin 4096) : own (ix1 l) = BitVec.ofNat 32 (l.val / 256) := by
  unfold own; pointwise
  revert l; decide +kernel

theorem greatest_at (L : FVec Ideal S2x4x4096x4096 .f32) (b : Fin 2) (h : Fin 4) (l : Fin 4096) :
    greatest L (ix3 b h l) = Finset.univ.sup fun k => L (ix4 b h l k) := by
  have hR : S2x4x4096x4096.Reduces [3] S2x4x4096 := by decide
  refine (Host.reduce_eq_fold_single _ L _ reducesTo_S2x4x4096x4096_S2x4x4096_d3 hR _ _).trans ?_
  have hl : ∀ k : Fin 4096, hR.lift (ix3 b h l) k = ix4 b h l k := by
    intro k
    funext a
    apply Fin.ext
    refine (Shape.Reduces.lift_val hR (ix3 b h l) k a).trans ?_
    match a with
    | 0 => rfl
    | 1 => rfl
    | 2 => rfl
    | 3 => rfl
  refine Eq.trans ?_ (KernelIdeal.Pay.fold_max (fun k : Fin 4096 => L (ix4 b h l k)))
  exact congrArg (fun f : Fin 4096 → EReal => Finset.fold max (Ideal.ofBits .f32 0xFF800000#32) f Finset.univ) (funext fun k => congrArg L (hl k))

theorem peak_at (G : FVec Ideal S2x4x4096 .f32) (b : Fin 2) (h : Fin 4) (l : Fin 4096) :
    peak G (ix3 b h l) = G (ix3 b h l) := by
  show max (constant (F := Ideal) S_ .f32 0xFF800000#32 _) (G (ix3 b h l)) = _
  rw [show ∀ u, constant (F := Ideal) S_ .f32 0xFF800000#32 u = ⊥ from fun _ => KernelIdeal.Pay.ofBits_neg_inf]
  exact max_eq_right bot_le

theorem along_at (b : Fin 2) (h : Fin 4) (l : Fin 4096) (n k : Fin 16) :
    Shape.Idx.along (s := S2x4x4096x16) (ix4 b h l n) 3 k = ix4 b h l k := by
  funext a
  match a with
  | 0 => rfl
  | 1 => rfl
  | 2 => rfl
  | 3 => rfl

theorem first_at (X : IVec S2x4x4096x16 32) (b : Fin 2) (h : Fin 4) (l : Fin 4096) (s : Fin 3) :
    extractStridedSlice S2x4x4096x3 (fun _ => 0) X sliceFits_S2x4x4096x16_S2x4x4096x3 (ix4 b h l s) = X (ix4 b h l ⟨s.val, by omega⟩) := by
  refine congrArg X (funext fun a => Fin.ext ?_)
  match a with
  | 0 => exact Nat.zero_add _
  | 1 => exact Nat.zero_add _
  | 2 => exact Nat.zero_add _
  | 3 => exact Nat.zero_add _

theorem greater (x y : EReal) : (FloatOps.cmpfTotal (F := Ideal) (φ := .f32) CmpDirection.gt x y == 1#1) = decide (y < x) := by
  show (BitVec.ofBool (decide (y < x)) == 1#1) = _
  cases decide (y < x) <;> rfl

theorem sorted_at (S : FVec Ideal S2x4x4096x16 .f32) (J : IVec S2x4x4096x16 32) (b : Fin 2) (h : Fin 4) (l : Fin 4096) (s : Fin 16) :
    (Host.sort2 S2x4x4096x16 3 (fun l r => FloatOps.cmpfTotal (F := Ideal) (φ := .f32) .gt l.1 r.1) S J).2 (ix4 b h l s)
      = J (ix4 b h l (sortedFrom (fun n n' => decide (S (ix4 b h l n') < S (ix4 b h l n))) s)) := by
  unfold Host.sort2
  rw [dif_pos (show 3 < S2x4x4096x16.rank by decide)]
  refine (congrArg J (along_at b h l s _)).trans ?_
  refine congrArg (fun f : Fin 16 → Fin 16 → Bool => J (ix4 b h l (sortedFrom f s))) (funext fun k => funext fun k' => ?_)
  refine (greater _ _).trans ?_
  exact congrArg₂ (fun x y : EReal => decide (y < x)) (congrArg S (along_at b h l s k)) (congrArg S (along_at b h l s k'))

theorem top_at (S : FVec Ideal S2x4x4096x16 .f32) (b : Fin 2) (h : Fin 4) (l : Fin 4096) (s : Fin 3) :
    top S (ix4 b h l s) = BitVec.ofNat 32 (sortedFrom (fun n n' => decide (S (ix4 b h l n') < S (ix4 b h l n))) (⟨s.val, by omega⟩ : Fin 16)).val := by
  unfold top Host.topK
  refine (first_at _ b h l s).trans ((sorted_at S (fun i => if hd : 3 < S2x4x4096x16.rank then iotaInDim S2x4x4096x16 32 ⟨3, hd⟩ i else 0#32) b h l _).trans ?_)
  exact dif_pos (show 3 < S2x4x4096x16.rank by decide)

theorem scores_at (b : Fin 2) (h : Fin 4) (l : Fin 4096) (n : Fin 16) :
    scores Q M (ix4 b h l n) = Top3.masked (l.val / 256) (Moba.blockScore Q M b h l) n := by
  unfold scores
  pointwise
  rw [own_at, WordCmp.cmpi_slt_ofNat (by omega) (by omega)]
  unfold Top3.masked
  rw [KernelIdeal.Bias.select_bit _ (n.val < l.val / 256) (by simp)]
  refine if_congr Iff.rfl ?_ KernelIdeal.Pay.ofBits_neg_inf
  unfold Moba.blockScore
  refine Finset.sum_congr rfl fun d _ => ?_
  rw [mul_comm, show (⟨h.val * 128 + d.val, by omega⟩ : Fin 512) = Moba.col h d from Fin.ext (by show h.val * 128 + d.val = 128 * h.val + d.val; omega)]

theorem bit_of (x : BitVec 1) (p : Prop) [Decidable p] (h : x = 1#1 ↔ p) : x = BitVec.ofBool (decide p) := by
  rcases BitVec.eq_zero_or_eq_one x with e | e
  · rw [e, decide_eq_false fun hp => by rw [h.mpr hp] at e; exact absurd e (by decide)]; rfl
  · rw [e, decide_eq_true (h.mp e)]; rfl

theorem slots_at (T : IVec S2x4x4096x3 32) (b : Fin 2) (h : Fin 4) (l : Fin 4096) (s : Fin 3) (n : Fin 16) (u : Fin 16)
    (hT : T (ix4 b h l s) = BitVec.ofNat 32 u.val) :
    slots T (ix5 b h l s n) = 1#1 ↔ u = n ∧ s.val < l.val / 256 := by
  unfold slots
  pointwise
  rw [hT, own_at, WordCmp.cmpi_eq_ofNat (by omega) (by omega), WordCmp.cmpi_slt_ofNat (by omega) (by omega), KernelIdeal.Bias.and_bits]
  rw [Fin.ext_iff]
  by_cases h1 : u.val = n.val <;> by_cases h2 : s.val < l.val / 256 <;> simp [h1, h2]

open Classical in
/-- The reference's chosen blocks are the blocks a row reads. -/
theorem chosen_at (b : Fin 2) (h : Fin 4) (l : Fin 4096) (n : Fin 16) :
    chosen (slots (top (scores Q M))) (ix4 b h l n)
      = BitVec.ofBool (decide (KernelIdeal.Bias.Reads (l.val / 256) (Moba.blockScore Q M b h l) n)) := by
  generalize hT : top (scores Q M) = T
  generalize hP : slots T = P
  unfold chosen
  pointwise
  have hown : l.val / 256 < 16 := by omega
  have hp := Top3.picked_iff (l.val / 256) hown (Moba.blockScore Q M b h l) n
  rw [bit_of _ _ (Routing.fold_ori Finset.univ fun x => P (ix5 b h l x n)), own_at, WordCmp.cmpi_eq_ofNat (by omega) (by omega), KernelIdeal.Bias.or_bits]
  congr 1
  rw [← Bool.decide_or]
  refine decide_eq_decide.mpr (or_congr ?_ Iff.rfl)
  refine Iff.trans ?_ (hp.trans (and_congr Iff.rfl (by
    unfold KernelIdeal.Bias.Counts
    exact iff_of_eq (congrArg (fun s : Finset (Fin 16) => s.card < 3) (by ext; simp only [Finset.mem_filter])))))
  have hS : ∀ i, scores Q M (ix4 b h l i) = Top3.masked (l.val / 256) (Moba.blockScore Q M b h l) i := scores_at Q M b h l
  have hs : ∀ s : Fin 3, P (ix5 b h l s n) = 1#1 ↔ sortedFrom (fun i i' => decide (Top3.masked (l.val / 256) (Moba.blockScore Q M b h l) i' < Top3.masked (l.val / 256) (Moba.blockScore Q M b h l) i)) (⟨s.val, by omega⟩ : Fin 16) = n ∧ s.val < l.val / 256 := by
    intro s
    rw [← hP]
    refine slots_at T b h l s n _ ?_
    rw [← hT, top_at]
    simp only [hS]
  constructor
  · rintro ⟨s, _, e⟩
    obtain ⟨e1, e2⟩ := (hs s).mp e
    exact ⟨⟨s.val, by omega⟩, s.isLt, e2, e1⟩
  · rintro ⟨k, h3, ho, e⟩
    exact ⟨⟨k.val, h3⟩, Finset.mem_univ _, (hs ⟨k.val, h3⟩).mpr ⟨e, ho⟩⟩

open Classical in
theorem logits_at (b : Fin 2) (h : Fin 4) (l k : Fin 4096) :
    refLogits Q K M (ix4 b h l k) = Moba.logit Q K M b h l k := by
  have hC := chosen_at Q M b h l ⟨k.val / 256, by omega⟩
  unfold refLogits
  generalize chosen (slots (top (scores Q M))) = C at hC
  unfold logits mask
  pointwise
  rw [hC, WordCmp.cmpi_sle_ofNat (by omega) (by omega), KernelIdeal.Bias.and_bits]
  unfold Moba.logit
  rw [KernelIdeal.Bias.select_bit _ (KernelIdeal.Bias.Reads (l.val / 256) (Moba.blockScore Q M b h l) ⟨k.val / 256, by omega⟩ ∧ k.val ≤ l.val) (by simp)]
  refine if_congr Iff.rfl ?_ KernelIdeal.Pay.ofBits_neg_inf
  refine congrArg (· * KernelIdeal.Pay.scale) (Finset.sum_congr rfl fun d _ => ?_)
  rw [show (⟨h.val * 128 + d.val, by omega⟩ : Fin 512) = Moba.col h d from Fin.ext (by show h.val * 128 + d.val = 128 * h.val + d.val; omega)]

theorem expo_at (L : FVec Ideal S2x4x4096x4096 .f32) (X : FVec Ideal S2x4x4096 .f32) (b : Fin 2) (h : Fin 4) (l k : Fin 4096) :
    expo L X (ix4 b h l k) = Ideal.exp (L (ix4 b h l k) - X (ix3 b h l)) := by
  unfold expo
  pointwise

theorem weights_at (E : FVec Ideal S2x4x4096x4096 .f32) (b : Fin 2) (h : Fin 4) (l k : Fin 4096) :
    weights E (ix4 b h l k) = Ideal.div (E (ix4 b h l k)) (∑ x : Fin 4096, E (ix4 b h l x)) := by
  unfold weights
  pointwise

theorem result_at (A : FVec Ideal S2x4x4096x4096 .f32) (b : Fin 2) (l : Fin 4096) (f : Fin 512) :
    result W A (ix3 b l f) = ∑ k : Fin 4096, W (ix3 b k ⟨1536 + f.val, by omega⟩) * A (ix4 b ⟨f.val / 128, by omega⟩ l k) := by
  unfold result
  pointwise

/-- The reference's result is the attention over all keys at once. -/
theorem value (m : (ℓ : Loc nD τ sig) → Buf (Elt Ideal) ℓ) (c : Dev nD) :
    res_main_v67 (F := Ideal) m c = fun j : S2x4096x512.Idx =>
      Moba.out (m ((c.tc : Thread nD τ).loc main_arg0)) (m ((c.tc : Thread nD τ).loc main_arg1)) (m ((c.tc : Thread nD τ).loc main_arg2))
        (m ((c.tc : Thread nD τ).loc main_arg3)) (j 0) (j 1) (j 2) := by
  rw [res_layers]
  funext j
  obtain ⟨b, l, f, rfl⟩ : ∃ b l f, j = (ix3 b l f : S2x4096x512.Idx) := ⟨j 0, j 1, j 2, by
    funext a
    match a with
    | 0 => rfl
    | 1 => rfl
    | 2 => rfl⟩
  generalize (m ((c.tc : Thread nD τ).loc main_arg0)) = Q
  generalize (m ((c.tc : Thread nD τ).loc main_arg1)) = K
  generalize (m ((c.tc : Thread nD τ).loc main_arg2)) = W
  generalize (m ((c.tc : Thread nD τ).loc main_arg3)) = M
  refine (result_at W _ b l f).trans ?_
  show _ = Moba.out Q K W M b l f
  unfold Moba.out KernelIdeal.Blk.attend
  refine Finset.sum_congr rfl fun k _ => ?_
  rw [weights_at]
  simp only [expo_at, peak_at, greatest_at, logits_at]
  have e : (⟨1536 + f.val, by omega⟩ : Fin 4608) = Moba.vcol (Moba.headOf f) (Moba.placeOf f) :=
    Fin.ext (by show 1536 + f.val = 1536 + (128 * (f.val / 128) + f.val % 128); omega)
  rw [e]
  rfl

end Cert.ReferenceIdeal.Layers

end
-- ==== Proof.Moba.lean ====
/- The claims about the attention call: the three frames, the constant's name, and the equality with the reference. -/
module

public import proofs.«01_k».proof.Defs
public import proofs.«01_k».proof.Proof.RefVal
public import proofs.«01_k».proof.Proof.Gen.Kernel.Frame
public import proofs.«01_k».proof.Proof.Gen.KernelIdeal.Frame
public import proofs.«01_k».proof.Proof.Gen.Pre_finite
public import Idealize.ShloMosaic.Lib.ReduceAll
public import Idealize.ShloMosaic.Lib.Quiescent

@[expose] public section

noncomputable section

open Idealize.ShloMosaic Idealize.ShloMosaic.TcCoe Idealize.SL.Sem

namespace Cert.Proof.MobaClaims

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_finite : Cert.quiescent_ReferenceIdeal_pre_finite := fun m ρ _ => frame_ri m ρ trivial

/-- The name `mask` denotes −∞. -/
theorem preserves : Cert.preserves_Kernel_KernelIdeal := IdealRules.named_const.statement _ _ _ _ _ rfl

/-- An extended real whose absolute value is below +∞ is a real. -/
theorem real_of_abs_lt (x : Ideal .f32)
    (h : FloatOps.cmpf .olt (FloatOps.hostAbsf x) (FloatOps.ofBits (F := Ideal) .f32 0x7F800000#32) = 1#1) :
    ∃ u : ℝ, x = (u : EReal) := by
  have top : Ideal.ofBits .f32 0x7F800000#32 = ⊤ := by simp [Ideal.ofBits, Ideal.ieee]
  have h' : BitVec.ofBool (decide (max (x : EReal) (-(x : EReal)) < Ideal.ofBits .f32 0x7F800000#32)) = 1#1 := h
  rw [top] at h'
  have lt : max (x : EReal) (-(x : EReal)) < ⊤ := by
    by_contra n
    rw [decide_eq_false n] at h'
    exact absurd h' (by decide)
  have x_top : (x : EReal) ≠ ⊤ := fun e => by rw [e] at lt; simp at lt
  have x_bot : (x : EReal) ≠ ⊥ := fun e => by rw [e] at lt; simp at lt
  exact ⟨EReal.toReal x, (EReal.coe_toReal x_top x_bot).symm⟩

instance : Subsingleton Cert.Pre_finite.S_.Idx := ⟨fun a b => funext fun i => i.elim0⟩

/-- The precondition makes the queries, the keys and the mean keys real. -/
theorem real_of_finite (m : (ℓ : Loc KernelIdeal.nD KernelIdeal.τ KernelIdeal.sig) → Buf (Elt Ideal) ℓ)
    (h : Cert.Pre_KernelIdeal_finite m) (c : Dev KernelIdeal.nD) :
    (∀ j, ∃ u : ℝ, KernelIdeal.Arr.argQ m c j = (u : EReal)) ∧ (∀ j, ∃ u : ℝ, KernelIdeal.Arr.argK m c j = (u : EReal))
      ∧ ∀ j, ∃ u : ℝ, KernelIdeal.Arr.argM m c j = (u : EReal) := by
  have e := congrFun (h c) (fun i => i.elim0)
  dsimp only [Cert.Pre_finite.fn] at e
  obtain ⟨e, eM⟩ := IntOp.andi_eq_one.1 e
  obtain ⟨eQ, eK⟩ := IntOp.andi_eq_one.1 e
  exact ⟨fun j => real_of_abs_lt _ (Host.reduce_andi_all _ _ _ _ _ eQ j),
    fun j => real_of_abs_lt _ (Host.reduce_andi_all _ _ _ _ _ eK j),
    fun j => real_of_abs_lt _ (Host.reduce_andi_all _ _ _ _ _ eM j)⟩

/-- From real queries, keys and mean keys the kernel and the reference end with the same attention. -/
theorem algebraic : Cert.algebraic_KernelIdeal_ReferenceIdeal_pre_finite := by
  intro m g m' g' pre same
  refine ⟨fun c => (KernelIdeal.Gen.dats m 0 c).arrAt 4 KernelIdeal.cfg0.N, KernelIdeal.Value.run_blocks m g, ?_⟩
  refine (θ_run ReferenceIdeal.defs _ _).mono (fun r h c => ⟨(h c).1.trans ?_, (h c).2⟩) (ReferenceIdeal.Value.run (F := Ideal) m' g')
  obtain ⟨hQ, hK, hM⟩ := real_of_finite m pre c
  obtain ⟨a0, a1, a2, a3⟩ := same c
  rw [ReferenceIdeal.Layers.value, a0, a1, a2, a3]
  exact (KernelIdeal.Arr.result m c hQ hK hM).symm

end Cert.Proof.MobaClaims

end
-- ==== Proof.DownRuns.lean ====
/- One grid point of the down projection of the experts' feed-forward layer: what the body leaves in the block of the
   result and in its scratch copy of the weights, on each of the four ways through it. -/
module

public import proofs.«01_k».proof.Proof.Gen.Down.Skeleton
public import proofs.«01_k».proof.Proof.Gen.Down.Launch
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.PureOps.BitExact

@[expose] public section

set_option maxRecDepth 16384
set_option Elab.async false

noncomputable section

namespace Cert.Down.Ffn

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the tiles' experts, the number of tiles in use, and the scratch copy of a block of weights. -/
abbrev teM : Memref sig .tc .smem S41 .i32 := Memref.whole main_arg0
abbrev nvM : Memref sig .tc .smem S1 .i32 := Memref.whole main_arg1
abbrev scM : Memref sig .tc .vmem S5632x512 .bf16 := Memref.whole cc0_scratch0

variable (F)

/-- The expert of the point's tile, the expert of the tile before it, and the number of tiles in use. -/
abbrev wordHere (i : grid0.Coords) (T0 : S41.Idx → Elt F .i32) : Elt F .i32 :=
  View.readAt (Elt F) teM.view (Rect.unit (s := S41) (k0_off1 i) S1.size (k0_off1_inb i)).toLoadRect T0 (Shape.Idx.first (numel1_S1.symm ▸ Nat.one_pos))
abbrev wordBefore (i : grid0.Coords) (T0 : S41.Idx → Elt F .i32) : Elt F .i32 :=
  View.readAt (Elt F) teM.view (Rect.unit (s := S41) (k0_off2 i) S1.size (k0_off2_inb i)).toLoadRect T0 (Shape.Idx.first (numel1_S1.symm ▸ Nat.one_pos))
abbrev wordUsed (T1 : S1.Idx → Elt F .i32) : Elt F .i32 :=
  View.readAt (Elt F) nvM.view (Rect.unit (s := S1) ![0] S1.size inb_S1_S1_0).toLoadRect T1 (Shape.Idx.first (numel1_S1.symm ▸ Nat.one_pos))

/-- The body copies the weights at this point. -/
abbrev Copies (i : grid0.Coords) (T0 : S41.Idx → Elt F .i32) : Prop :=
  Scalar.cmpi .ne (Scalar.extui (Scalar.ori (Scalar.cmpi .eq (BitVec.ofNat 32 (i 1).val) 0#32) (Scalar.cmpi .ne (wordHere F i T0) (wordBefore F i T0)))) 0#32 = 1#1
/-- The point's tile is in use; -/
abbrev Used (i : grid0.Coords) (T1 : S1.Idx → Elt F .i32) : Prop := k0_cond2 i (wordUsed F T1) = 1#1
/-- it is not. -/
abbrev Unused (i : grid0.Coords) (T1 : S1.Idx → Elt F .i32) : Prop := k0_cond3 i (wordUsed F T1) = 1#1

variable {F}

variable (c : Dev nD) (i : grid0.Coords) (a4 : Memref sig .tc .vmem S512x5632 .bf16) (h4 : a4.IsWhole)
  (a5 : Memref sig .tc .vmem S1x5632x512 .f32) (h5 : a5.IsWhole) (a6 : Memref sig .tc .vmem S512x512 .f32) (h6 : a6.IsWhole)
  (T0 : S41.Idx → Elt F .i32) (T1 : S1.Idx → Elt F .i32)
  (x0 : S512x5632.Idx → Elt F .bf16) (x1 : S1x5632x512.Idx → Elt F .f32)

/-- What the body needs beside its result block and its scratch, and gives back. -/
abbrev kept : sProp 𝕄 :=
  iprop((a4.view.loc (c : Thread nD τ) ↦[a4.view.set]{fullShare} a4.view.rep x0)
    ∗ (a5.view.loc (c : Thread nD τ) ↦[a5.view.set]{fullShare} a5.view.rep x1)
    ∗ (teM.view.loc (c : Thread nD τ) ↦{fullShare.right} T0)
    ∗ (nvM.view.loc (c : Thread nD τ) ↦{fullShare.right} T1))

/-- The body at a point, on the point's staging buffers. -/
abbrev body : Prog (TpuEff nD τ sig (Elt F) Λ₀ .tc) PUnit :=
  cc0_ffn_down i teM (Memref.isWhole_whole _) nvM (Memref.isWhole_whole _) a4 h4 a5 h5 a6 h6 scM (Memref.isWhole_whole _)

set_option backward.proofsInPublic true in
set_option maxHeartbeats 8000000 in
/-- A point that copies the weights, its tile in use: the pieces of its result block and its scratch, as the run finds them. -/
noncomputable def runA (hc : Copies F i T0) (hu : Used F i T1) (hd : ¬Unused F i T1) :
    Σ' (out : List (View.Piece (Elt F) S512x512 .f32)), { sc : Buf (Elt F) ((c : Thread nD τ).loc cc0_scratch0) //
      ∀ (xa : Buf (Elt F) ((c : Thread nD τ).loc cc0_scratch0)) (K : PUnit → sProp 𝕄),
        iprop(kept c a4 a5 T0 T1 x0 x1
          ∗ (∃ d, owns (c : Thread nD τ) a6 fullShare d)
          ∗ (scM.view.loc (c : Thread nD τ) ↦{fullShare} xa)
          ∗ (iprop(kept c a4 a5 T0 T1 x0 x1
              ∗ (∃ f, a6.view.loc (c : Thread nD τ) ↦[a6.view.set]{fullShare} a6.view.writes (Elt F) f out)
              ∗ (scM.view.loc (c : Thread nD τ) ↦{fullShare} sc)) -∗ K ⟨⟩))
          ⊢ wp frame (wpE (defs₀ (F := F)) Variants.none c none) Set.univ (body i a4 h4 a5 h5 a6 h6) K } :=
  ⟨_, _, fun (xa : Buf (Elt F) ((c : Thread nD τ).loc cc0_scratch0)) K => by
    unfold owns kept body
    rw [cc0_ffn_down_eq_skeleton]; unfold cc0_ffn_down_skel
    iintro ⟨⟨H0, H1, HT0, HT1⟩, ⟨%d2, %f2, -, HO2⟩, HS0, Hk⟩
    have hS0 : scM.IsWhole := Memref.isWhole_whole _
    have hT0 : teM.IsWhole := Memref.isWhole_whole _
    have hT1 : nvM.IsWhole := Memref.isWhole_whole _
    sl_exec! (disch := first | (guard_target = Scalar.cmpi = _; exact hc) | (guard_target = k0_cond2 _ _ = _; exact hu) | (guard_target = ¬(k0_cond3 _ _ = _); exact hd))
    sl_step
    iapply Hk
    isplitl [H0 H1 HT0 HT1]
    · isplitl [H0]; · iexact H0
      isplitl [H1]; · iexact H1
      isplitl [HT0]; · iexact HT0
      iexact HT1
    isplitl [HO2]; · iexists _; iexact HO2
    iexact HS0⟩

set_option backward.proofsInPublic true in
set_option maxHeartbeats 8000000 in
/-- A point that keeps the copy, its tile in use. -/
noncomputable def runB (xa : Buf (Elt F) ((c : Thread nD τ).loc cc0_scratch0)) (hc : ¬Copies F i T0) (hu : Used F i T1) (hd : ¬Unused F i T1) :
    Σ' (out : List (View.Piece (Elt F) S512x512 .f32)), { sc : Buf (Elt F) ((c : Thread nD τ).loc cc0_scratch0) //
      ∀ (K : PUnit → sProp 𝕄),
        iprop(kept c a4 a5 T0 T1 x0 x1
          ∗ (∃ d, owns (c : Thread nD τ) a6 fullShare d)
          ∗ (scM.view.loc (c : Thread nD τ) ↦{fullShare} xa)
          ∗ (iprop(kept c a4 a5 T0 T1 x0 x1
              ∗ (∃ f, a6.view.loc (c : Thread nD τ) ↦[a6.view.set]{fullShare} a6.view.writes (Elt F) f out)
              ∗ (scM.view.loc (c : Thread nD τ) ↦{fullShare} sc)) -∗ K ⟨⟩))
          ⊢ wp frame (wpE (defs₀ (F := F)) Variants.none c none) Set.univ (body i a4 h4 a5 h5 a6 h6) K } :=
  ⟨_, _, fun K => by
    unfold owns kept body
    rw [cc0_ffn_down_eq_skeleton]; unfold cc0_ffn_down_skel
    iintro ⟨⟨H0, H1, HT0, HT1⟩, ⟨%d2, %f2, -, HO2⟩, HS0, Hk⟩
    have hS0 : scM.IsWhole := Memref.isWhole_whole _
    have hT0 : teM.IsWhole := Memref.isWhole_whole _
    have hT1 : nvM.IsWhole := Memref.isWhole_whole _
    sl_exec! (disch := first | (guard_target = ¬(Scalar.cmpi = _); exact hc) | (guard_target = k0_cond2 _ _ = _; exact hu) | (guard_target = ¬(k0_cond3 _ _ = _); exact hd))
    sl_step
    iapply Hk
    isplitl [H0 H1 HT0 HT1]
    · isplitl [H0]; · iexact H0
      isplitl [H1]; · iexact H1
      isplitl [HT0]; · iexact HT0
      iexact HT1
    isplitl [HO2]; · iexists _; iexact HO2
    iexact HS0⟩

set_option backward.proofsInPublic true in
set_option maxHeartbeats 8000000 in
/-- A point that copies the weights, its tile not in use. -/
noncomputable def runC (hc : Copies F i T0) (hu : ¬Used F i T1) (hd : Unused F i T1) :
    Σ' (out : List (View.Piece (Elt F) S512x512 .f32)), { sc : Buf (Elt F) ((c : Thread nD τ).loc cc0_scratch0) //
      ∀ (xa : Buf (Elt F) ((c : Thread nD τ).loc cc0_scratch0)) (K : PUnit → sProp 𝕄),
        iprop(kept c a4 a5 T0 T1 x0 x1
          ∗ (∃ d, owns (c : Thread nD τ) a6 fullShare d)
          ∗ (scM.view.loc (c : Thread nD τ) ↦{fullShare} xa)
          ∗ (iprop(kept c a4 a5 T0 T1 x0 x1
              ∗ (∃ f, a6.view.loc (c : Thread nD τ) ↦[a6.view.set]{fullShare} a6.view.writes (Elt F) f out)
              ∗ (scM.view.loc (c : Thread nD τ) ↦{fullShare} sc)) -∗ K ⟨⟩))
          ⊢ wp frame (wpE (defs₀ (F := F)) Variants.none c none) Set.univ (body i a4 h4 a5 h5 a6 h6) K } :=
  ⟨_, _, fun (xa : Buf (Elt F) ((c : Thread nD τ).loc cc0_scratch0)) K => by
    unfold owns kept body
    rw [cc0_ffn_down_eq_skeleton]; unfold cc0_ffn_down_skel
    iintro ⟨⟨H0, H1, HT0, HT1⟩, ⟨%d2, %f2, -, HO2⟩, HS0, Hk⟩
    have hS0 : scM.IsWhole := Memref.isWhole_whole _
    have hT0 : teM.IsWhole := Memref.isWhole_whole _
    have hT1 : nvM.IsWhole := Memref.isWhole_whole _
    sl_exec! (disch := first | (guard_target = Scalar.cmpi = _; exact hc) | (guard_target = ¬(k0_cond2 _ _ = _); exact hu) | (guard_target = k0_cond3 _ _ = _; exact hd))
    sl_step
    iapply Hk
    isplitl [H0 H1 HT0 HT1]
    · isplitl [H0]; · iexact H0
      isplitl [H1]; · iexact H1
      isplitl [HT0]; · iexact HT0
      iexact HT1
    isplitl [HO2]; · iexists _; iexact HO2
    iexact HS0⟩

set_option backward.proofsInPublic true in
set_option maxHeartbeats 8000000 in
/-- A point that keeps the copy, its tile not in use. -/
noncomputable def runD (xa : Buf (Elt F) ((c : Thread nD τ).loc cc0_scratch0)) (hc : ¬Copies F i T0) (hu : ¬Used F i T1) (hd : Unused F i T1) :
    Σ' (out : List (View.Piece (Elt F) S512x512 .f32)), { sc : Buf (Elt F) ((c : Thread nD τ).loc cc0_scratch0) //
      ∀ (K : PUnit → sProp 𝕄),
        iprop(kept c a4 a5 T0 T1 x0 x1
          ∗ (∃ d, owns (c : Thread nD τ) a6 fullShare d)
          ∗ (scM.view.loc (c : Thread nD τ) ↦{fullShare} xa)
          ∗ (iprop(kept c a4 a5 T0 T1 x0 x1
              ∗ (∃ f, a6.view.loc (c : Thread nD τ) ↦[a6.view.set]{fullShare} a6.view.writes (Elt F) f out)
              ∗ (scM.view.loc (c : Thread nD τ) ↦{fullShare} sc)) -∗ K ⟨⟩))
          ⊢ wp frame (wpE (defs₀ (F := F)) Variants.none c none) Set.univ (body i a4 h4 a5 h5 a6 h6) K } :=
  ⟨_, _, fun K => by
    unfold owns kept body
    rw [cc0_ffn_down_eq_skeleton]; unfold cc0_ffn_down_skel
    iintro ⟨⟨H0, H1, HT0, HT1⟩, ⟨%d2, %f2, -, HO2⟩, HS0, Hk⟩
    have hS0 : scM.IsWhole := Memref.isWhole_whole _
    have hT0 : teM.IsWhole := Memref.isWhole_whole _
    have hT1 : nvM.IsWhole := Memref.isWhole_whole _
    sl_exec! (disch := first | (guard_target = ¬(Scalar.cmpi = _); exact hc) | (guard_target = ¬(k0_cond2 _ _ = _); exact hu) | (guard_target = k0_cond3 _ _ = _; exact hd))
    sl_step
    iapply Hk
    isplitl [H0 H1 HT0 HT1]
    · isplitl [H0]; · iexact H0
      isplitl [H1]; · iexact H1
      isplitl [HT0]; · iexact HT0
      iexact HT1
    isplitl [HO2]; · iexists _; iexact HO2
    iexact HS0⟩

end Cert.Down.Ffn

end
-- ==== Proof.DownStep.lean ====
/- The down projection's body at a point as one statement: with the copy of the point's weights in place where the body
   keeps it, the body leaves the product of the tile and those weights, or zeros, and the copy of the point's weights. -/
module

public import proofs.«01_k».proof.Proof.DownRuns
public import Idealize.ShloMosaic.Lib.Pipeline.Value

@[expose] public section

set_option maxRecDepth 16384
set_option Elab.async false

noncomputable section

namespace Cert.Down.Ffn

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (a4 : Memref sig .tc .vmem S512x5632 .bf16) (h4 : a4.IsWhole)
  (a5 : Memref sig .tc .vmem S1x5632x512 .f32) (h5 : a5.IsWhole) (a6 : Memref sig .tc .vmem S512x512 .f32) (h6 : a6.IsWhole)
  (T0 : S41.Idx → Elt F .i32) (T1 : S1.Idx → Elt F .i32)
  (x0 : S512x5632.Idx → Elt F .bf16) (x1 : S1x5632x512.Idx → Elt F .f32)

/-- The scratch copy of a block of weights. -/
abbrev copyOf (x1 : S1x5632x512.Idx → Elt F .f32) : Buf (Elt F) ((c : Thread nD τ).loc cc0_scratch0) := k0_pay1 (F := F) x1

/-- What the body leaves in the result block. -/
def outOf (i : grid0.Coords) (T1 : S1.Idx → Elt F .i32) (x0 : S512x5632.Idx → Elt F .bf16) (x1 : S1x5632x512.Idx → Elt F .f32) :
    S512x512.Idx → Elt F .f32 :=
  if Used F i T1 then k0_pay2 (F := F) x0 (k0_pay1 (F := F) x1) else k0_pay3 (F := F)

theorem off2 : (![0, 0] : Fin 2 → Nat) = fun _ => 0 := funext fun a => by fin_cases a <;> rfl
theorem off3 : (![0, 0, 0] : Fin 3 → Nat) = fun _ => 0 := funext fun a => by fin_cases a <;> rfl

/-- One store over a whole buffer leaves what it stores. -/
theorem whole_write (b : Ref sig .tc) {off : Fin b.ty.shape.rank → Nat} (h : off = fun _ => 0) (inb : ∀ a, off a + b.ty.shape.size a ≤ b.ty.shape.size a)
    (f : b.ty.Contents (Elt F)) (w : b.ty.shape.Idx → Elt F b.ty.elt) :
    (View.whole b).writes (Elt F) f [⟨Rect.unit off b.ty.shape.size inb, w⟩] = w := by
  subst h
  exact View.read_writes_whole (View.whole b) f w

theorem scratchA (hc : Copies F i T0) (hu : Used F i T1) (hd : ¬Unused F i T1) :
    (runA c i a4 h4 a5 h5 a6 h6 T0 T1 x0 x1 hc hu hd).2.1 = copyOf c x1 := by
  unfold runA
  dsimp only
  sl_unfold_words
  refine (whole_write cc0_scratch0 off2 _ _ _).trans ?_
  rw [View.readAt_eq_ld, View.read_rep, View.ld_unit_zero (S := S1x5632x512) off3]

theorem outA (hc : Copies F i T0) (hu : Used F i T1) (hd : ¬Unused F i T1) (f) :
    a6.view.read (Elt F) (a6.view.writes (Elt F) f (runA c i a4 h4 a5 h5 a6 h6 T0 T1 x0 x1 hc hu hd).1) = k0_pay2 (F := F) x0 (k0_pay1 (F := F) x1) := by
  rw [View.read_writes_eq_canon _ _ _ (View.cover_of_tiledL (runA c i a4 h4 a5 h5 a6 h6 T0 T1 x0 x1 hc hu hd).1 S512x512.size (by sl_kernel_rfl))]
  unfold runA
  dsimp only
  sl_unfold_words
  rw [View.canon_unit_zero (S := S512x512) off2]
  rw [View.readCov_unit_zero (S := S5632x512) _ off2, View.readAt_eq_ld, View.readAt_eq_ld, View.read_rep, View.read_rep,
    View.ld_unit_zero (S := S512x5632) off2, View.ld_unit_zero (S := S1x5632x512) off3]

theorem scratchB (xa : Buf (Elt F) ((c : Thread nD τ).loc cc0_scratch0)) (hc : ¬Copies F i T0) (hu : Used F i T1) (hd : ¬Unused F i T1) :
    (runB c i a4 h4 a5 h5 a6 h6 T0 T1 x0 x1 xa hc hu hd).2.1 = xa := by
  unfold runB
  rfl

theorem outB (xa : Buf (Elt F) ((c : Thread nD τ).loc cc0_scratch0)) (hc : ¬Copies F i T0) (hu : Used F i T1) (hd : ¬Unused F i T1) (f) :
    a6.view.read (Elt F) (a6.view.writes (Elt F) f (runB c i a4 h4 a5 h5 a6 h6 T0 T1 x0 x1 xa hc hu hd).1) = k0_pay2 (F := F) x0 xa := by
  rw [View.read_writes_eq_canon _ _ _ (View.cover_of_tiledL (runB c i a4 h4 a5 h5 a6 h6 T0 T1 x0 x1 xa hc hu hd).1 S512x512.size (by sl_kernel_rfl))]
  unfold runB
  dsimp only
  sl_unfold_words
  rw [View.canon_unit_zero (S := S512x512) off2]
  rw [View.readAt_eq_ld, View.readAt_eq_ld, View.read_rep, View.ld_unit_zero (S := S512x5632) off2, View.ld_unit_zero (S := S5632x512) off2]
  rfl

theorem scratchC (hc : Copies F i T0) (hu : ¬Used F i T1) (hd : Unused F i T1) :
    (runC c i a4 h4 a5 h5 a6 h6 T0 T1 x0 x1 hc hu hd).2.1 = copyOf c x1 := by
  unfold runC
  dsimp only
  sl_unfold_words
  refine (whole_write cc0_scratch0 off2 _ _ _).trans ?_
  rw [View.readAt_eq_ld, View.read_rep, View.ld_unit_zero (S := S1x5632x512) off3]

theorem outC (hc : Copies F i T0) (hu : ¬Used F i T1) (hd : Unused F i T1) (f) :
    a6.view.read (Elt F) (a6.view.writes (Elt F) f (runC c i a4 h4 a5 h5 a6 h6 T0 T1 x0 x1 hc hu hd).1) = k0_pay3 (F := F) := by
  rw [View.read_writes_eq_canon _ _ _ (View.cover_of_tiledL (runC c i a4 h4 a5 h5 a6 h6 T0 T1 x0 x1 hc hu hd).1 S512x512.size (by sl_kernel_rfl))]
  unfold runC
  dsimp only
  sl_unfold_words
  rw [View.canon_unit_zero (S := S512x512) off2]

theorem scratchD (xa : Buf (Elt F) ((c : Thread nD τ).loc cc0_scratch0)) (hc : ¬Copies F i T0) (hu : ¬Used F i T1) (hd : Unused F i T1) :
    (runD c i a4 h4 a5 h5 a6 h6 T0 T1 x0 x1 xa hc hu hd).2.1 = xa := by
  unfold runD
  rfl

theorem outD (xa : Buf (Elt F) ((c : Thread nD τ).loc cc0_scratch0)) (hc : ¬Copies F i T0) (hu : ¬Used F i T1) (hd : Unused F i T1) (f) :
    a6.view.read (Elt F) (a6.view.writes (Elt F) f (runD c i a4 h4 a5 h5 a6 h6 T0 T1 x0 x1 xa hc hu hd).1) = k0_pay3 (F := F) := by
  rw [View.read_writes_eq_canon _ _ _ (View.cover_of_tiledL (runD c i a4 h4 a5 h5 a6 h6 T0 T1 x0 x1 xa hc hu hd).1 S512x512.size (by sl_kernel_rfl))]
  unfold runD
  dsimp only
  sl_unfold_words
  rw [View.canon_unit_zero (S := S512x512) off2]

/-- The body at a point, whichever way it takes. -/
theorem step (xa : Buf (Elt F) ((c : Thread nD τ).loc cc0_scratch0)) (hk : ¬Copies F i T0 → xa = copyOf c x1)
    (hx : Unused F i T1 ↔ ¬Used F i T1) (K : PUnit → sProp 𝕄) :
    iprop(kept c a4 a5 T0 T1 x0 x1
        ∗ (∃ d, owns (c : Thread nD τ) a6 fullShare d)
        ∗ (scM.view.loc (c : Thread nD τ) ↦{fullShare} xa)
        ∗ (iprop(kept c a4 a5 T0 T1 x0 x1
            ∗ owns (c : Thread nD τ) a6 fullShare (outOf i T1 x0 x1)
            ∗ (scM.view.loc (c : Thread nD τ) ↦{fullShare} copyOf c x1)) -∗ K ⟨⟩))
      ⊢ wp frame (wpE (defs₀ (F := F)) Variants.none c none) Set.univ (body i a4 h4 a5 h5 a6 h6) K := by
  by_cases hc : Copies F i T0 <;> by_cases hu : Used F i T1
  · have hd : ¬Unused F i T1 := fun h => hx.1 h hu
    iintro ⟨Hk, HO, HS, HK⟩
    iapply ((runA c i a4 h4 a5 h5 a6 h6 T0 T1 x0 x1 hc hu hd).2.2 xa _)
    isplitl [Hk]; · iexact Hk
    isplitl [HO]; · iexact HO
    isplitl [HS]; · iexact HS
    iintro ⟨Hk, ⟨%f, HO⟩, HS⟩
    iapply HK
    isplitl [Hk]; · iexact Hk
    isplitl [HO]
    · unfold owns; iexists _; isplitr; swap
      · iexact HO
      · ipureintro
        rw [outA c i a4 h4 a5 h5 a6 h6 T0 T1 x0 x1 hc hu hd]
        unfold outOf
        rw [if_pos hu]
    rw [scratchA c i a4 h4 a5 h5 a6 h6 T0 T1 x0 x1 hc hu hd]
    iexact HS
  · have hd : Unused F i T1 := hx.2 hu
    iintro ⟨Hk, HO, HS, HK⟩
    iapply ((runC c i a4 h4 a5 h5 a6 h6 T0 T1 x0 x1 hc hu hd).2.2 xa _)
    isplitl [Hk]; · iexact Hk
    isplitl [HO]; · iexact HO
    isplitl [HS]; · iexact HS
    iintro ⟨Hk, ⟨%f, HO⟩, HS⟩
    iapply HK
    isplitl [Hk]; · iexact Hk
    isplitl [HO]
    · unfold owns; iexists _; isplitr; swap
      · iexact HO
      · ipureintro
        rw [outC c i a4 h4 a5 h5 a6 h6 T0 T1 x0 x1 hc hu hd]
        unfold outOf
        rw [if_neg hu]
    rw [scratchC c i a4 h4 a5 h5 a6 h6 T0 T1 x0 x1 hc hu hd]
    iexact HS
  · have hd : ¬Unused F i T1 := fun h => hx.1 h hu
    iintro ⟨Hk, HO, HS, HK⟩
    iapply ((runB c i a4 h4 a5 h5 a6 h6 T0 T1 x0 x1 xa hc hu hd).2.2 _)
    isplitl [Hk]; · iexact Hk
    isplitl [HO]; · iexact HO
    isplitl [HS]; · iexact HS
    iintro ⟨Hk, ⟨%f, HO⟩, HS⟩
    iapply HK
    isplitl [Hk]; · iexact Hk
    isplitl [HO]
    · unfold owns; iexists _; isplitr; swap
      · iexact HO
      · ipureintro
        rw [outB c i a4 h4 a5 h5 a6 h6 T0 T1 x0 x1 xa hc hu hd]
        unfold outOf
        rw [if_pos hu]
        exact congrArg (k0_pay2 (F := F) x0) (hk hc)
    rw [scratchB c i a4 h4 a5 h5 a6 h6 T0 T1 x0 x1 xa hc hu hd, hk hc]
    iexact HS
  · have hd : Unused F i T1 := hx.2 hu
    iintro ⟨Hk, HO, HS, HK⟩
    iapply ((runD c i a4 h4 a5 h5 a6 h6 T0 T1 x0 x1 xa hc hu hd).2.2 _)
    isplitl [Hk]; · iexact Hk
    isplitl [HO]; · iexact HO
    isplitl [HS]; · iexact HS
    iintro ⟨Hk, ⟨%f, HO⟩, HS⟩
    iapply HK
    isplitl [Hk]; · iexact Hk
    isplitl [HO]
    · unfold owns; iexists _; isplitr; swap
      · iexact HO
      · ipureintro
        rw [outD c i a4 h4 a5 h5 a6 h6 T0 T1 x0 x1 xa hc hu hd]
        unfold outOf
        rw [if_neg hu]
    rw [scratchD c i a4 h4 a5 h5 a6 h6 T0 T1 x0 x1 xa hc hu hd, hk hc]
    iexact HS

end Cert.Down.Ffn

end
-- ==== Proof.DownTables.lean ====
/- The tables the down projection is steered by: what they must satisfy, the pipeline at them, and which way its body
   goes at a point. -/
module

public import proofs.«01_k».proof.Proof.DownStep
public import Idealize.ShloMosaic.Lib.Pipeline.Kit
public import Idealize.ShloMosaic.Lib.Pipeline.TableIdle
public import Idealize.ShloMosaic.Lib.Affine
public import Idealize.ShloMosaic.Lib.WordCmp

@[expose] public section

set_option maxRecDepth 16384
set_option Elab.async false

noncomputable section

namespace Cert.Down.Ffn

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (F) in
/-- The two tables as the pipeline's prefetched contents. -/
def tables (T0 : S41.Idx → BitVec 32) (T1 : S1.Idx → BitVec 32) : pre0.Contents (Elt F) := fun j => match j with
  | ⟨0, _⟩ => T0
  | ⟨1, _⟩ => T1
  | ⟨_ + 2, h⟩ => absurd h (Nat.not_lt.2 (Nat.le_add_left _ _))

/-- Every tile's expert is one of the sixteen, and at least one tile is in use. -/
structure InRange (T0 : S41.Idx → BitVec 32) (T1 : S1.Idx → BitVec 32) : Prop where
  expert : ∀ x, (T0 x).toNat < 16
  used : ∀ x, 1 ≤ (T1 x).toInt

/-- The smaller of a tile's number and the last tile in use is a tile's number, and it is the tile's own if that is in use. -/
theorem minsi_last (n : ℕ) (hn : n < 41) (v : BitVec 32) (hv : 1 ≤ v.toInt) :
    (Scalar.minsi (BitVec.ofNat 32 n) (Scalar.subi v 1#32)).toNat ≤ n := by
  have e0 : (BitVec.ofNat 32 n).toNat = n := by rw [BitVec.toNat_ofNat]; omega
  have e1 : (BitVec.ofNat 32 n).toInt = n := by rw [BitVec.toInt_eq_toNat_of_lt (by omega), e0]
  unfold Scalar.minsi Scalar.subi IntOp.minsi IntOp.subi
  split
  · omega
  · rename_i h
    have hb : v.toNat < 2 ^ 32 := v.isLt
    have h2 : (v - 1#32).toInt = v.toInt - 1 := by
      have := BitVec.toInt_eq_toNat_cond v
      have := BitVec.toInt_eq_toNat_cond (v - 1#32)
      have := BitVec.toNat_sub v 1#32
      have : (1#32).toNat = 1 := rfl
      split at * <;> split at * <;> omega
    have h3 : (v - 1#32).toInt ≤ (BitVec.ofNat 32 n).toInt := by
      have : ¬ (BitVec.ofNat 32 n).toInt < (v - 1#32).toInt := by
        simpa [BitVec.slt] using h
      omega
    have h4 := BitVec.toInt_eq_toNat_cond (v - 1#32)
    split at h4 <;> omega

/-- A row block's number, and a weight block's, at given tables. -/
theorem row_le {T0 : S41.Idx → BitVec 32} {T1 : S1.Idx → BitVec 32} (h : InRange T0 T1) (i : grid0.Coords) :
    cc0_transform_0 (F := F) inb_S1_S1_0 numel1_S1 (tables F T0 T1) i 0 ≤ (i 1).val :=
  minsi_last (i 1).val (i 1).isLt _ (h.used _)

theorem expert_lt {T0 : S41.Idx → BitVec 32} {T1 : S1.Idx → BitVec 32} (h : InRange T0 T1) (i : grid0.Coords) :
    cc0_transform_1 (F := F) k0_off1_inb numel1_S1 (tables F T0 T1) i 0 < 16 := h.expert _

theorem column_lt {T0 : S41.Idx → BitVec 32} {T1 : S1.Idx → BitVec 32} (i : grid0.Coords) :
    cc0_transform_1 (F := F) k0_off1_inb numel1_S1 (tables F T0 T1) i 2 < 4 := by
  have hi : (i 0).val < 4 := (i 0).isLt
  show (BitVec.ofNat 32 (i 0).val).toNat < 4
  rw [BitVec.toNat_ofNat]
  omega

theorem ok_tables {T0 : S41.Idx → BitVec 32} {T1 : S1.Idx → BitVec 32} (h : InRange T0 T1) : ok0 (F := F) (tables F T0 T1) := by
  constructor
  · intro i
    refine ⟨?_, .inr (Affine.block_words_dvd (s := S20992x5632) (p := EltTy.packing .bf16) (by decide) (by decide))⟩
    have hi : (i 1).val < 41 := (i 1).isLt
    have key := row_le (F := F) h i
    intro a
    match a with
    | ⟨0, _⟩ =>
      show (cc0_transform_0 (F := F) inb_S1_S1_0 numel1_S1 (tables F T0 T1) i 0 + 1) * 512 ≤ 20992
      generalize cc0_transform_0 (F := F) inb_S1_S1_0 numel1_S1 (tables F T0 T1) i 0 = k at key ⊢
      omega
    | ⟨1, _⟩ => show (0 + 1) * 5632 ≤ 5632; omega
  · intro i
    refine ⟨?_, .inl rfl⟩
    have key := expert_lt (F := F) h i
    have key2 := column_lt (F := F) (T0 := T0) (T1 := T1) i
    intro a
    match a with
    | ⟨0, _⟩ =>
      show (cc0_transform_1 (F := F) k0_off1_inb numel1_S1 (tables F T0 T1) i 0 + 1) * 1 ≤ 16
      generalize cc0_transform_1 (F := F) k0_off1_inb numel1_S1 (tables F T0 T1) i 0 = k at key ⊢
      omega
    | ⟨1, _⟩ => show (0 + 1) * 5632 ≤ 5632; omega
    | ⟨2, _⟩ =>
      show (cc0_transform_1 (F := F) k0_off1_inb numel1_S1 (tables F T0 T1) i 2 + 1) * 512 ≤ 2048
      generalize cc0_transform_1 (F := F) k0_off1_inb numel1_S1 (tables F T0 T1) i 2 = k at key2 ⊢
      omega

/-! ## The pipeline at given tables -/

variable {T0 : S41.Idx → BitVec 32} {T1 : S1.Idx → BitVec 32} (hr : InRange T0 T1)

variable (F)

def adm : (pcfg0 (F := F)).Adm := ⟨tables F T0 T1, ok_tables hr⟩
abbrev cfgA : Pipeline.Cfg sig Λ₀ := cfg0 (F := F) (adm F hr)
abbrev pcs : Fin 1 → Pipeline.Cfg sig Λ₀ := Pipeline.pin (pcfgs (F := F)) fun _ => adm F hr

variable {F}

variable (m : (ℓ : Loc nD τ sig) → Buf (Elt F) ℓ) (ρ : Dev nD → PrngReg)

/-- A point's coordinates and its staging buffers. -/
abbrev crd (t : Fin (cfgA F hr).N) : (cfgA F hr).grid.Coords := (cfgA F hr).grid.coords t
abbrev stg0 (t : Fin (cfgA F hr).N) : Memref sig .tc .vmem S512x5632 .bf16 := spec0_0.stage ((cfgA F hr).slots t (0 : Fin 3))
abbrev whole0 (t : Fin (cfgA F hr).N) : (stg0 hr t).IsWhole := hstage0_0 (((cfgA F hr).slots t (0 : Fin 3)).cast nbuf0_0)
abbrev stg1 (t : Fin (cfgA F hr).N) : Memref sig .tc .vmem S1x5632x512 .f32 := spec0_1.stage ((cfgA F hr).slots t (1 : Fin 3))
abbrev whole1 (t : Fin (cfgA F hr).N) : (stg1 hr t).IsWhole := hstage0_1 (((cfgA F hr).slots t (1 : Fin 3)).cast nbuf0_1)
abbrev stg2 (t : Fin (cfgA F hr).N) : Memref sig .tc .vmem S512x512 .f32 := spec0_2.stage ((cfgA F hr).slots t (2 : Fin 3))
abbrev whole2 (t : Fin (cfgA F hr).N) : (stg2 hr t).IsWhole := hstage0_2 (((cfgA F hr).slots t (2 : Fin 3)).cast nbuf0_2)

/-- A window's block at a point, read off its array at the start. -/
def iblk (c : Dev nD) (w : Fin (cfgA F hr).W) (t : Fin (cfgA F hr).N) : (((cfgA F hr).win w).xblock (crd hr t)).Idx → Elt F ((cfgA F hr).win w).elt :=
  (((cfgA F hr).win w).blk t).view.read (Elt F) ((s₀ m ρ).mem (((cfgA F hr).win w).arr.view.loc (c : Thread nD τ)))

/-! ## Which way the body goes -/

theorem unused_iff (i : grid0.Coords) (T1 : S1.Idx → Elt F .i32) : Unused F i T1 ↔ ¬Used F i T1 := by
  unfold Unused Used k0_cond2 k0_cond3
  generalize wordUsed F T1 = v
  dsimp only
  unfold Scalar.cmpi
  rw [WordCmp.cmpi_slt_eq, WordCmp.cmpi_sge_eq]
  by_cases h : (BitVec.ofNat 32 (i 1).val).toInt < BitVec.toInt v
  · rw [decide_eq_true h, decide_eq_false (by omega)]; decide
  · rw [decide_eq_false h, decide_eq_true (by omega)]; decide

theorem idle2 (t : Fin (cfgA F hr).N) : (cfgA F hr).idle (2 : Fin 3) (crd hr t) = false := by
  show (!(k0_cond2 (crd hr t) ((tables F T0 T1).atD 1 ![0]) == 1#1) && !(k0_cond3 (crd hr t) ((tables F T0 T1).atD 1 ![0]) == 1#1)) = false
  have := unused_iff (crd hr t) (fun _ => (tables F T0 T1).atD 1 ![0])
  change (k0_cond3 (crd hr t) ((tables F T0 T1).atD 1 ![0]) = 1#1 ↔ ¬ k0_cond2 (crd hr t) ((tables F T0 T1).atD 1 ![0]) = 1#1) at this
  by_cases h : k0_cond2 (crd hr t) ((tables F T0 T1).atD 1 ![0]) = 1#1
  · rw [h]; rfl
  · rw [this.2 h]; simp

/-- Beyond the first tile of a column the point before is the column's tile before. -/
theorem tile_before : ∀ t : Fin grid0.N, ((grid0.coords t) 1).val ≠ 0 →
    ∃ h : 0 < t.val, ((grid0.coords (⟨t.val - 1, by omega⟩ : Fin grid0.N)) 0).val = ((grid0.coords t) 0).val
      ∧ k0_off2 (grid0.coords t) 0 = k0_off1 (grid0.coords (⟨t.val - 1, by omega⟩ : Fin grid0.N)) 0 := by
  decide +kernel

theorem flush2 (t : Fin (cfgA F hr).N) : ((cfgA F hr).win (2 : Fin 3)).flush t = true := by
  rw [Window.flush_eq_flushOf]
  have : ∀ t : Fin grid0.N, Window.flushOf grid0 true cc0_transform_2 t = true := by decide +kernel
  exact this t

/-- The point before. -/
abbrev prior (t : Fin (cfgA F hr).N) : Fin (cfgA F hr).N := ⟨t.val - 1, lt_of_le_of_lt (Nat.sub_le _ _) t.isLt⟩

/-- At a point that does not copy the weights the block of weights is the point before's. -/
theorem same_block (c : Dev nD) (t : Fin (cfgA F hr).N) (h : ¬Copies F (crd hr t) T0) :
    0 < t.val ∧ iblk hr m ρ c (1 : Fin 3) t = iblk hr m ρ c (1 : Fin 3) (prior hr t) := by
  have h1 : ((crd hr t) 1).val ≠ 0 := by
    intro e
    apply h
    unfold Copies
    rw [e]
    unfold Scalar.cmpi Scalar.ori
    rw [show IntOp.cmpi .eq (BitVec.ofNat 32 0) 0#32 = 1#1 from rfl]
    generalize IntOp.cmpi .ne (wordHere F (crd hr t) T0) (wordBefore F (crd hr t) T0) = b
    revert b; decide
  have h2 : wordHere F (crd hr t) T0 = wordBefore F (crd hr t) T0 := by
    by_contra e
    apply h
    unfold Copies Scalar.cmpi Scalar.ori
    rw [show IntOp.cmpi .ne (wordHere F (crd hr t) T0) (wordBefore F (crd hr t) T0) = 1#1 from by
      rw [WordCmp.cmpi_ne_eq, decide_eq_true e]; rfl]
    generalize IntOp.cmpi .eq (BitVec.ofNat 32 ((crd hr t) 1).val) 0#32 = b
    revert b; decide
  obtain ⟨h0, hj, ho⟩ := tile_before t h1
  refine ⟨h0, ?_⟩
  have hw : wordHere F (crd hr (prior hr t)) T0 = wordHere F (crd hr t) T0 := by
    rw [h2]
    refine congrArg T0 (funext fun a => Fin.ext ?_)
    fin_cases a
    show k0_off1 _ 0 + 1 * _ = k0_off2 _ 0 + 1 * _
    exact congrArg (· + _) ho.symm
  have hidx : ((cfgA F hr).win (1 : Fin 3)).index t = ((cfgA F hr).win (1 : Fin 3)).index (prior hr t) := by
    show ![(wordHere F (crd hr t) T0).toNat, 0, (BitVec.ofNat 32 ((crd hr t) 0).val).toNat]
      = ![(wordHere F (crd hr (prior hr t)) T0).toNat, 0, (BitVec.ofNat 32 ((crd hr (prior hr t)) 0).val).toNat]
    rw [hw, show ((crd hr (prior hr t)) 0).val = ((crd hr t) 0).val from hj]
  funext x
  unfold iblk
  rw [View.read_apply, View.read_apply]
  refine congrArg (α := S16x5632x2048.Idx) (β := Elt F .f32) (fun u => m ((c : Thread nD τ).loc main_arg3) u) (funext fun a => Fin.ext ?_)
  show ((cfgA F hr).win (1 : Fin 3)).index t a * _ + 1 * _ = ((cfgA F hr).win (1 : Fin 3)).index (prior hr t) a * _ + 1 * _
  rw [hidx]

end Cert.Down.Ffn

end
-- ==== Proof.DownFrame.lean ====
/- The down projection, run from a memory whose tables are in range: it ends, its arguments unchanged, its result as the
   pipeline computes it. Between two points the scratch holds the copy of the earlier point's weights. -/
module

public import proofs.«01_k».proof.Proof.DownTables
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Adequacy
public import Idealize.ShloMosaic.Init

@[expose] public section

set_option maxRecDepth 16384
set_option Elab.async false

noncomputable section

namespace Cert.Down.Ffn

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The resource algebra of the pipeline's staging cells. -/
abbrev EP : Emb (UR sig nD τ) 𝕄 := emb₁

variable {T0 : S41.Idx → BitVec 32} {T1 : S1.Idx → BitVec 32} (hr : InRange T0 T1)
variable (m : (ℓ : Loc nD τ sig) → Buf (Elt F) ℓ) (ρ : Dev nD → PrngReg)

/-- The memory holds the two tables. -/
structure Placed (T0 : S41.Idx → BitVec 32) (T1 : S1.Idx → BitVec 32) (m : (ℓ : Loc nD τ sig) → Buf (Elt F) ℓ) : Prop where
  expert : ∀ c : Dev nD, m ((c : Thread nD τ).loc main_arg0) = T0
  used : ∀ c : Dev nD, m ((c : Thread nD τ).loc main_arg1) = T1

/-- What the scratch holds before point `n`: after the first point, the copy of the point before's weights. -/
def Held (c : Dev nD) (n : ℕ) (a : Buf (Elt F) ((c : Thread nD τ).loc cc0_scratch0)) : Prop :=
  ∀ k (e : n = k + 1) (h : k < (cfgA F hr).N), a = copyOf c (iblk hr m ρ c (1 : Fin 3) ⟨k, h⟩)

/-- The invariant before a point: the scratch, and the body's share of the tables. -/
def Phi (c : Dev nD) (t : Fin ((cfgA F hr).N + 1)) : sProp 𝕄 :=
  iprop((∃ a, ⌜Held hr m ρ c t.val a⌝ ∗ (scM.view.loc (c : Thread nD τ) ↦{fullShare} a))
    ∗ (teM.view.loc (c : Thread nD τ) ↦{fullShare.right} T0) ∗ (nvM.view.loc (c : Thread nD τ) ↦{fullShare.right} T1))

/-- The pipeline's proof data: each input buffer keeps its block, the result's gets what the body leaves. -/
def dats (_ : Fin 1) (c : Dev nD) : Dat τ (Elt F) Unit ℕ (UR sig nD τ) ℕ (cfgA F hr) c where
  A w := (s₀ m ρ).mem (((cfgA F hr).win w).arr.view.loc (c : Thread nD τ))
  after w t := match w with
    | ⟨0, _⟩ => iblk hr m ρ c (0 : Fin 3) t
    | ⟨1, _⟩ => iblk hr m ρ c (1 : Fin 3) t
    | ⟨2, _⟩ => outOf (crd hr t) T1 (iblk hr m ρ c (0 : Fin 3) t) (iblk hr m ρ c (1 : Fin 3) t)
  Φ t := Phi hr m ρ c t
  q _ := fullShare
  owed _ := 0

theorem after0 (c : Dev nD) (t : Fin (cfgA F hr).N) : (dats hr m ρ 0 c).after (0 : Fin 3) t = iblk hr m ρ c (0 : Fin 3) t := rfl
theorem after1 (c : Dev nD) (t : Fin (cfgA F hr).N) : (dats hr m ρ 0 c).after (1 : Fin 3) t = iblk hr m ρ c (1 : Fin 3) t := rfl
theorem after2 (c : Dev nD) (t : Fin (cfgA F hr).N) : (dats hr m ρ 0 c).after (2 : Fin 3) t
    = outOf (crd hr t) T1 (iblk hr m ρ c (0 : Fin 3) t) (iblk hr m ρ c (1 : Fin 3) t) := rfl

/-- An input's buffer holds its block when the body runs, fetched at the point or kept from before. -/
theorem before0 (c : Dev nD) (t : Fin (cfgA F hr).N) (d) : (dats hr m ρ 0 c).before (0 : Fin 3) t d = iblk hr m ρ c (0 : Fin 3) t :=
  ((dats hr m ρ 0 c).before_in_eq_fetched (0 : Fin 3) rfl (fun _ => rfl) (fun _ _ _ => rfl) (fun t => by rw [after0]; unfold Dat.blockOf iblk; rfl) t d).trans
    (by unfold Dat.fetched Dat.blockOf iblk; rfl)
theorem before1 (c : Dev nD) (t : Fin (cfgA F hr).N) (d) : (dats hr m ρ 0 c).before (1 : Fin 3) t d = iblk hr m ρ c (1 : Fin 3) t :=
  ((dats hr m ρ 0 c).before_in_eq_fetched (1 : Fin 3) rfl (fun _ => rfl) (fun _ _ _ => rfl) (fun t => by rw [after1]; unfold Dat.blockOf iblk; rfl) t d).trans
    (by unfold Dat.fetched Dat.blockOf iblk; rfl)

/-- What the scratch holds at a point that keeps it is the copy of the point's own weights. -/
theorem held_here (c : Dev nD) (t : Fin (cfgA F hr).N) (a) (ha : Held hr m ρ c t.val a) (h : ¬Copies F (crd hr t) T0) :
    a = copyOf c (iblk hr m ρ c (1 : Fin 3) t) := by
  obtain ⟨h0, e⟩ := same_block hr m ρ c t h
  rw [e]
  exact ha (t.val - 1) (by omega) (lt_of_le_of_lt (Nat.sub_le _ _) t.isLt)

theorem held_next (c : Dev nD) (t : Fin (cfgA F hr).N) : Held hr m ρ c (t.val + 1) (copyOf c (iblk hr m ρ c (1 : Fin 3) t)) := by
  intro k e h
  obtain rfl : t = ⟨k, h⟩ := Fin.ext (by simpa using e)
  rfl

set_option maxHeartbeats 4000000 in
/-- The body at a point, from the invariant to the invariant. -/
theorem sound_body (c : Dev nD) (t : Fin (cfgA F hr).N) :
    iprop((dats hr m ρ 0 c).Φ t.castSucc ∗ (dats hr m ρ 0 c).owesAt () t.castSucc
        ∗ (∃ d, owns (c : Thread nD τ) (stg0 hr t) fullShare ((dats hr m ρ 0 c).before (0 : Fin 3) t d))
        ∗ (∃ d, owns (c : Thread nD τ) (stg1 hr t) fullShare ((dats hr m ρ 0 c).before (1 : Fin 3) t d))
        ∗ (∃ d, owns (c : Thread nD τ) (stg2 hr t) fullShare ((dats hr m ρ 0 c).before (2 : Fin 3) t d)))
      ⊢ wp frame (wpE (defs₀ (F := F)) Variants.none c none) Set.univ
          (body (crd hr t) (stg0 hr t) (whole0 hr t) (stg1 hr t) (whole1 hr t) (stg2 hr t) (whole2 hr t)) fun _ =>
          iprop((dats hr m ρ 0 c).Φ t.succ ∗ (dats hr m ρ 0 c).owesAt () t.succ
            ∗ bigSep Finset.univ fun w : Fin (cfgA F hr).W =>
                match (cfgA F hr).idle w ((cfgA F hr).grid.coords t) with
                | true =>
                  match ((cfgA F hr).win w).flush t with
                  | false => iprop(∃ d, owns (c : Thread nD τ) (((cfgA F hr).win w).stage ((cfgA F hr).slots t w)) fullShare ((dats hr m ρ 0 c).before w t d))
                  | true => owns (c : Thread nD τ) (((cfgA F hr).win w).stage ((cfgA F hr).slots t w)) fullShare ((dats hr m ρ 0 c).after w t)
                | false => owns (c : Thread nD τ) (((cfgA F hr).win w).stage ((cfgA F hr).slots t w)) fullShare ((dats hr m ρ 0 c).after w t)) := by
  rw [bigSep_W0]
  rewrite [idle2 hr t]
  simp only [before0, before1, after0, after1, after2]
  rewrite [show (dats hr m ρ 0 c).Φ t.succ = Phi hr m ρ c t.succ from rfl, show (dats hr m ρ 0 c).Φ t.castSucc = Phi hr m ρ c t.castSucc from rfl,
    show (dats hr m ρ 0 c).owesAt () t.succ = (dats hr m ρ 0 c).owesAt () t.castSucc from rfl]
  unfold Phi; simp only [Fin.val_castSucc, Fin.val_succ]
  iintro ⟨⟨⟨%a0, %ha0, HS0⟩, HT0, HT1⟩, Ho, ⟨%d0, H0⟩, ⟨%d1, H1⟩, ⟨%d2, H2⟩⟩
  iapply (step c (crd hr t) (stg0 hr t) (whole0 hr t) (stg1 hr t) (whole1 hr t) (stg2 hr t) (whole2 hr t) T0 T1
    (iblk hr m ρ c (0 : Fin 3) t) (iblk hr m ρ c (1 : Fin 3) t) a0 (held_here hr m ρ c t a0 ha0) (unused_iff _ _) _)
  unfold kept
  isplitl [H0 H1 HT0 HT1]
  · isplitl [H0]; · iapply rep_of_owns; iexact H0
    isplitl [H1]; · iapply rep_of_owns; iexact H1
    isplitl [HT0]; · iexact HT0
    iexact HT1
  isplitl [H2]; · iexists _; iexact H2
  isplitl [HS0]; · iexact HS0
  iintro ⟨⟨H0, H1, HT0, HT1⟩, H2, HS0⟩
  isplitl [HS0 HT0 HT1]
  · isplitl [HS0]
    · iexists _; isplitr; swap
      · iexact HS0
      · ipureintro; exact held_next hr m ρ c t
    isplitl [HT0]
    · iexact HT0
    iexact HT1
  isplitl [Ho]; · iexact Ho
  isplitl [H0]
  · iapply owns_of_rep; iexact H0
  isplitl [H1]
  · iapply owns_of_rep; iexact H1
  iexact H2

theorem body_obligation (c : Dev nD) : BodyObligation (dats hr m ρ 0 c) (defs₀ (F := F)) Variants.none () Set.univ := fun t => by
  rw [bigSep_W0]
  exact sound_body hr m ρ c t

/-! ## The launch -/

variable (F) in
/-- The launch's element of the staging cells' algebra. -/
def u₀ : UR sig nD τ :=
  initOf (Pipeline.cells (pcs F hr) ((launch0 (F := F)).cellOf_inj fun _ => adm F hr))
    (Pipeline.launchToks (pcs F hr) ((launch0 (F := F)).cellOf_inj fun _ => adm F hr))

theorem share_eq (c : Dev nD) (w : Fin (cfgA F hr).W) : (dats hr m ρ 0 c).share w = fullShare := by unfold Dat.share; split <;> rfl

/-- The two tables, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant holds at the start, -/
theorem phi0_intro (c : Dev nD) :
    iprop(BI.emp ∗ Pipeline.prefHeld pre0 c (fun _ => fullShare.right) (adm F hr).1 ∗ Pipeline.scopedRest spec0 c) ⊢ (dats hr m ρ 0 c).Φ 0 := by
  rw [prefHeld_eq, scopedRest0_eq, show (dats hr m ρ 0 c).Φ 0 = Phi hr m ρ c 0 from rfl]
  unfold Phi
  iintro ⟨-, ⟨HT0, HT1⟩, ⟨%a0, HS0⟩⟩
  isplitl [HS0]
  · iexists a0; isplitr; swap
    · iexact HS0
    · ipureintro; exact fun n hn => absurd hn (Nat.succ_ne_zero n).symm
  isplitl [HT0]
  · iexact HT0
  iexact HT1

/-- and at the end it gives the scratch back. -/
theorem phiN_exit (c : Dev nD) : (dats hr m ρ 0 c).Φ (Fin.last (cfgA F hr).N) ⊢ iprop(BI.emp ∗ Pipeline.scopedRest spec0 c) := by
  rw [scopedRest0_eq, show (dats hr m ρ 0 c).Φ (Fin.last (cfgA F hr).N) = Phi hr m ρ c (Fin.last _) from rfl]
  unfold Phi
  iintro ⟨⟨%a0, -, HS0⟩, -, -⟩
  isplitr; · iempintro
  iexists a0; iexact HS0

/-- The final state: each array as computed, each table as it was. -/
def QC : PUnit × MemSt nD τ sig (Elt F) → Prop := fun r =>
  ∀ c : Dev nD, (∀ w : Fin (cfgA F hr).W, r.2.mem (((cfgA F hr).win w).arr.view.loc (c : Thread nD τ)) = (dats hr m ρ 0 c).arrAt w (cfgA F hr).N)
    ∧ ∀ j, r.2.mem ((c : Thread nD τ).loc (pre0.ref j)) = (adm F hr).1 j

theorem V_pre (hp : Placed T0 T1 m) (c : Dev nD) (j : Fin 2) : m ((c : Thread nD τ).loc (pre0.ref j)) = (adm F hr).1 j := by
  fin_cases j
  · exact hp.expert c
  · exact hp.used c

set_option backward.isDefEq.respectTransparency.types false in
set_option maxHeartbeats 4000000 in
/-- Every run ends, with each array as computed and every semaphore at zero. -/
theorem run_main_quiescent (hp : Placed T0 T1 m) : θ_run (defs (F := F)) (onTc (τ := τ) (main (F := F))) (s₀ m ρ) (fun r => QC hr m ρ r ∧ r.2.sem = fun _ => 0) :=
  Pipeline.θ_run_region_noSem_pf_quiescent pcfgs (fun _ => adm F hr) (dats hr m ρ) () ((launch0 (F := F)).cellOf_inj fun _ => adm F hr) (0 : Fin 1)
    (launch0 (F := F)).win.to₀ (launch0 (F := F)).pre EP defs₀ Variants.none m ρ main
    (hbody := fun c => (body_obligation hr m ρ c).loose) (hne := (launch0 (F := F)).block_pos)
    (harr := (launch0 (F := F)).arr_whole) (hstage := (launch0 (F := F)).stage_whole) (howed := fun _ _ => rfl)
    (u₀ := u₀ F hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs F hr) (dats hr m ρ) 0 (launch0 (F := F)).win.arr_inj c (launch0 (F := F)).arr_whole
      (share_eq hr m ρ c) _ _ fun _ => rfl)
    (hpf := V_pre hr m hp)
    (X := fun _ => iprop(emp)) (Y := fun _ => iprop(emp)) (Z := fun _ => iprop(emp))
    (hX := fun c => by rw [unscopedRestP0_eq]; iintro -; isplitr <;> iempintro)
    (hin := phi0_intro hr m ρ)
    (hout := phiN_exit hr m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the semaphores. -/
theorem run_main (hp : Placed T0 T1 m) : θ_run (defs (F := F)) (onTc (τ := τ) (main (F := F))) (s₀ m ρ) (QC hr m ρ) :=
  (θ_run defs _ _).mono (fun _ h => h.1) (run_main_quiescent hr m ρ hp)

include hr in
/-- The argument arrays end unchanged, -/
theorem unchanged (hp : Placed T0 T1 m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 0).trans (hp.expert c).symm, ((h c).2 1).trans (hp.used c).symm, ((h c).1 (0 : Fin 3)).trans ((dats hr m ρ 0 c).arrAt_in (0 : Fin 3) rfl _), ((h c).1 (1 : Fin 3)).trans ((dats hr m ρ 0 c).arrAt_in (1 : Fin 3) rfl _)⟩) (run_main hr m ρ hp)

include hr in
/-- and every semaphore ends at zero. -/
theorem frame (hp : Placed T0 T1 m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged hr m ρ hp) ((θ_run defs _ _).mono (fun _ h => h.2) (run_main_quiescent hr m ρ hp))

end Cert.Down.Ffn

end
-- ==== Proof.DownVal.lean ====
/- The down projection's result array, entry by entry. -/
module

public import proofs.«01_k».proof.Proof.DownFrame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Down.Ffn

open Cert.Down Cert.Down.Gen
open Idealize.ShloMosaic.Pipeline (Dat Cfg Window)

/-- The tile a row lies in. -/
def tileOf (r : Fin 20992) : Fin 41 := ⟨r.val / 512, by omega⟩

/-- Row `r`, column `d` of the projection by the experts: the row times its tile's expert's matrix where the tile is
    in use, and zero beyond. -/
def project (T0 : S41.Idx → BitVec 32) (T1 : S1.Idx → BitVec 32) (h0 : ∀ x, (T0 x).toNat < 16) (H : S20992x5632.Idx → EReal)
    (W : S16x5632x2048.Idx → EReal) (r : Fin 20992) (d : Fin 2048) : EReal :=
  if ((tileOf r).val : ℤ) < (T1 (ix1 0)).toInt then
    ∑ k : Fin 5632, H (ix2 r k) * W (ix3 ⟨(T0 (ix1 (tileOf r))).toNat, h0 _⟩ k d)
  else 0

theorem copied_at (x1 : Vec Ideal S1x5632x512 .f32) (k : Fin 5632) (d : Fin 512) :
    k0_pay1 (F := Ideal) x1 (ix2 k d) = x1 (ix3 0 k d) := by
  pointwise [k0_pay1]

theorem product_at (x0 : Vec Ideal S512x5632 .bf16) (w : Vec Ideal S5632x512 .bf16) (r d : Fin 512) :
    k0_pay2 (F := Ideal) x0 w (ix2 r d) = ∑ k : Fin 5632, x0 (ix2 r k) * w (ix2 k d) := by
  pointwise [k0_pay2]

theorem zero_at (r d : Fin 512) : k0_pay3 (F := Ideal) (ix2 r d) = 0 := by
  pointwise [k0_pay3]

theorem used_iff (i : grid0.Coords) (T1 : S1.Idx → BitVec 32) : Used Ideal i T1 ↔ ((i 1).val : ℤ) < (T1 (ix1 0)).toInt := by
  have hw : wordUsed Ideal T1 = T1 (ix1 0) := congrArg T1 (funext fun a => Fin.ext (by match a with | ⟨0, _⟩ => rfl))
  have h1 : (BitVec.ofNat 32 (i 1).val).toInt = (i 1).val := by
    have hi : (i 1).val < 41 := (i 1).isLt
    rw [BitVec.toInt_eq_toNat_of_lt (by rw [BitVec.toNat_ofNat]; omega), BitVec.toNat_ofNat]; omega
  unfold Used k0_cond2
  rw [hw]
  generalize T1 (ix1 0) = v
  dsimp only
  unfold Scalar.cmpi
  rw [WordCmp.cmpi_slt_eq, h1]
  by_cases h : ((i 1).val : ℤ) < v.toInt
  · rw [decide_eq_true h]; exact ⟨fun _ => h, fun _ => rfl⟩
  · rw [decide_eq_false h]; exact ⟨fun e => absurd e (by decide), fun e => absurd e h⟩

/-- In a tile in use the smaller of the tile's number and the last tile in use is the tile's own. -/
theorem minsi_own (n : ℕ) (hn : n < 41) (v : BitVec 32) (hv : (n : ℤ) < v.toInt) :
    (Scalar.minsi (BitVec.ofNat 32 n) (Scalar.subi v 1#32)).toNat = n := by
  have e0 : (BitVec.ofNat 32 n).toNat = n := by rw [BitVec.toNat_ofNat]; omega
  have e1 : (BitVec.ofNat 32 n).toInt = n := by rw [BitVec.toInt_eq_toNat_of_lt (by omega), e0]
  have hb : v.toNat < 2 ^ 32 := v.isLt
  have h2 : (v - 1#32).toInt = v.toInt - 1 := by
    have := BitVec.toInt_eq_toNat_cond v
    have := BitVec.toInt_eq_toNat_cond (v - 1#32)
    have := BitVec.toNat_sub v 1#32
    have : (1#32).toNat = 1 := rfl
    split at * <;> split at * <;> omega
  have h4 := BitVec.toInt_eq_toNat_cond (v - 1#32)
  unfold Scalar.minsi Scalar.subi IntOp.minsi IntOp.subi
  split
  · exact e0
  · rename_i h
    have : ¬ (BitVec.ofNat 32 n).toInt < (v - 1#32).toInt := by
      simpa [BitVec.slt] using h
    split at h4 <;> omega

variable {T0 : S41.Idx → BitVec 32} {T1 : S1.Idx → BitVec 32} (hr : InRange T0 T1)
variable (m : (ℓ : Loc nD τ sig) → Buf (Elt Ideal) ℓ) (ρ : Dev nD → PrngReg)

/-- The rows and the experts' matrices. -/
def argH (c : Dev nD) : S20992x5632.Idx → EReal := m ((c : Thread nD τ).loc main_arg2)
def argW (c : Dev nD) : S16x5632x2048.Idx → EReal := m ((c : Thread nD τ).loc main_arg3)

/-- At a tile in use the block of rows is the tile's own. -/
theorem rows_at (c : Dev nD) (t : Fin (cfgA Ideal hr).N) (hu : ((crd hr t 1).val : ℤ) < (T1 (ix1 0)).toInt) (r : Fin 512) (k : Fin 5632) (e : Fin 20992)
    (he : e.val = 512 * (crd hr t 1).val + r.val) :
    iblk hr m ρ c (0 : Fin 3) t (ix2 r k : S512x5632.Idx) = argH m c (ix2 e k) := by
  unfold iblk
  rw [View.read_apply]
  refine congrArg (α := S20992x5632.Idx) (β := EReal) (fun u => m ((c : Thread nD τ).loc main_arg2) u) (funext fun a => Fin.ext ?_)
  have hw : wordUsed Ideal T1 = T1 (ix1 0) := congrArg T1 (funext fun a => Fin.ext (by match a with | ⟨0, _⟩ => rfl))
  have key : ((cfgA Ideal hr).win (0 : Fin 3)).index t 0 = (crd hr t 1).val := by
    show (Scalar.minsi (BitVec.ofNat 32 (crd hr t 1).val) (Scalar.subi (wordUsed Ideal T1) 1#32)).toNat = _
    rw [hw]
    exact minsi_own _ (crd hr t 1).isLt _ hu
  match a with
  | ⟨0, _⟩ =>
    show ((cfgA Ideal hr).win (0 : Fin 3)).index t 0 * 512 + 1 * r.val = e.val
    rw [key]; omega
  | ⟨1, _⟩ =>
    show 0 * 5632 + 1 * k.val = k.val
    omega

/-- The block of weights is a column block of the tile's expert. -/
theorem weights_at (c : Dev nD) (t : Fin (cfgA Ideal hr).N) (k : Fin 5632) (d : Fin 512) (x : Fin 16) (e : Fin 2048)
    (hx : x.val = (T0 (ix1 (crd hr t 1))).toNat) (he : e.val = 512 * (crd hr t 0).val + d.val) :
    iblk hr m ρ c (1 : Fin 3) t (ix3 0 k d : S1x5632x512.Idx) = argW m c (ix3 x k e) := by
  unfold iblk
  rw [View.read_apply]
  refine congrArg (α := S16x5632x2048.Idx) (β := EReal) (fun u => m ((c : Thread nD τ).loc main_arg3) u) (funext fun a => Fin.ext ?_)
  have h0 : (crd hr t 0).val < 4 := (crd hr t 0).isLt
  have h1 : (crd hr t 1).val < 41 := (crd hr t 1).isLt
  have hw : wordHere Ideal (crd hr t) T0 = T0 (ix1 (crd hr t 1)) := by
    refine congrArg T0 (funext fun a => Fin.ext ?_)
    match a with
    | ⟨0, _⟩ =>
      show (BitVec.ofNat 32 (crd hr t 1).val).toNat + 1 * 0 = (crd hr t 1).val
      rw [BitVec.toNat_ofNat]; omega
  match a with
  | ⟨0, _⟩ =>
    show (wordHere Ideal (crd hr t) T0).toNat * 1 + 1 * 0 = x.val
    rw [hw]; omega
  | ⟨1, _⟩ =>
    show 0 * 5632 + 1 * k.val = k.val
    omega
  | ⟨2, _⟩ =>
    show (BitVec.ofNat 32 (crd hr t 0).val).toNat * 512 + 1 * d.val = e.val
    rw [BitVec.toNat_ofNat]; omega

/-- What one point leaves at row `r` and column `d` of its block. -/
theorem point (c : Dev nD) (t : Fin (cfgA Ideal hr).N) (r d : Fin 512) (e : Fin 20992) (f : Fin 2048)
    (he : e.val = 512 * (crd hr t 1).val + r.val) (hf : f.val = 512 * (crd hr t 0).val + d.val) :
    outOf (crd hr t) T1 (iblk hr m ρ c (0 : Fin 3) t) (iblk hr m ρ c (1 : Fin 3) t) (ix2 r d)
      = project T0 T1 hr.expert (argH m c) (argW m c) e f := by
  have h1 : (crd hr t 1).val < 41 := (crd hr t 1).isLt
  have ht : crd hr t 1 = tileOf e := Fin.ext (by show (crd hr t 1).val = e.val / 512; omega)
  unfold outOf project
  by_cases hu : ((crd hr t 1).val : ℤ) < (T1 (ix1 0)).toInt
  · have hu' : ((tileOf e).val : ℤ) < (T1 (ix1 0)).toInt := ht ▸ hu
    rw [if_pos ((used_iff _ _).2 hu), if_pos hu', product_at]
    refine Finset.sum_congr rfl fun k _ => ?_
    rw [copied_at, weights_at hr m ρ c t k d ⟨_, hr.expert (ix1 (tileOf e))⟩ f (by rw [ht]) hf, rows_at hr m ρ c t hu r k e he]
  · have hu' : ¬((tileOf e).val : ℤ) < (T1 (ix1 0)).toInt := ht ▸ hu
    rw [if_neg (fun h => hu ((used_iff _ _).1 h)), if_neg hu', zero_at]

/-- The point of tile `i` and column block `j`. -/
theorem point_of : ∀ (i : Fin 41) (j : Fin 4), ∃ t : Fin grid0.N, (grid0.coords t 1).val = i.val ∧ (grid0.coords t 0).val = j.val := by
  decide +kernel

/-- The result array. -/
theorem result (c : Dev nD) :
    (dats hr m ρ 0 c).arrAt (2 : Fin 3) (cfgA Ideal hr).N
      = fun u : S20992x2048.Idx => project T0 T1 hr.expert (argH m c) (argW m c) (u 0) (u 1) := by
  refine (dats hr m ρ 0 c).arrAt_eq_of_emb (2 : Fin 3) _ (fun t hf y => ?_) ?_
  · have h0 : (crd hr t 0).val < 4 := (crd hr t 0).isLt
    have h1 : (crd hr t 1).val < 41 := (crd hr t 1).isLt
    have ly0 : (y 0).val < 512 := (y 0).isLt
    have ly1 : (y 1).val < 512 := (y 1).isLt
    have e : (((cfgA Ideal hr).win (2 : Fin 3)).blk t).view.emb y
        = (ix2 (⟨512 * (crd hr t 1).val + (y 0).val, by omega⟩ : Fin 20992) (⟨512 * (crd hr t 0).val + (y 1).val, by omega⟩ : Fin 2048) : S20992x2048.Idx) := by
      funext a
      refine Fin.ext ?_
      match a with
      | ⟨0, _⟩ =>
        show (BitVec.ofNat 32 (crd hr t 1).val).toNat * 512 + 1 * (y 0).val = 512 * (crd hr t 1).val + (y 0).val
        rw [BitVec.toNat_ofNat]; omega
      | ⟨1, _⟩ =>
        show (BitVec.ofNat 32 (crd hr t 0).val).toNat * 512 + 1 * (y 1).val = 512 * (crd hr t 0).val + (y 1).val
        rw [BitVec.toNat_ofNat]; omega
    have ey : ((cfgA Ideal hr).win (2 : Fin 3)).xinj ((cfgA Ideal hr).grid.coords t) y = (ix2 ⟨(y 0).val, ly0⟩ ⟨(y 1).val, ly1⟩ : S512x512.Idx) := by
      funext a
      refine Fin.ext ?_
      match a with
      | ⟨0, _⟩ => rfl
      | ⟨1, _⟩ => rfl
    rw [e, ey, after2, cast_eq]
    exact point hr m ρ c t _ _ _ _ rfl rfl
  · intro u
    have l0 : (u 0).val < 20992 := (u 0).isLt
    have l1 : (u 1).val < 2048 := (u 1).isLt
    obtain ⟨t, ht1, ht0⟩ := point_of ⟨(u 0).val / 512, by omega⟩ ⟨(u 1).val / 512, by omega⟩
    refine ⟨t, flush2 hr t, ?_⟩
    have e : (((cfgA Ideal hr).win (2 : Fin 3)).blk t).view.emb (ix2 ⟨(u 0).val % 512, by omega⟩ ⟨(u 1).val % 512, by omega⟩ : S512x512.Idx) = u := by
      funext a
      refine Fin.ext ?_
      match a with
      | ⟨0, _⟩ =>
        show (BitVec.ofNat 32 (grid0.coords t 1).val).toNat * 512 + 1 * ((u 0).val % 512) = (u 0).val
        rw [ht1, BitVec.toNat_ofNat]
        show (u 0).val / 512 % 2 ^ 32 * 512 + 1 * ((u 0).val % 512) = (u 0).val
        omega
      | ⟨1, _⟩ =>
        show (BitVec.ofNat 32 (grid0.coords t 0).val).toNat * 512 + 1 * ((u 1).val % 512) = (u 1).val
        rw [ht0, BitVec.toNat_ofNat]
        show (u 1).val / 512 % 2 ^ 32 * 512 + 1 * ((u 1).val % 512) = (u 1).val
        omega
    rw [← e]
    exact View.emb_mem_set _ _

end Cert.Down.Ffn

end
-- ==== Proof.DownRef.lean ====
/- The down projection's reference, read at an index. -/
module

public import proofs.«01_k».proof.Proof.DownVal
public import proofs.«01_k».proof.Proof.Gen.DownRefIdeal.Run
public import Idealize.ShloMosaic.Lib.Pointwise
public import Idealize.ShloMosaic.Lib.ValueIdxCore

@[expose] public section

set_option maxRecDepth 16384

noncomputable section

open Idealize.ShloMosaic Idealize.ShloMosaic.TcCoe Idealize.SL.Sem

namespace Cert.DownRefIdeal.Layers

open Cert.DownRefIdeal Cert.DownRefIdeal.Gen Cert.DownRefIdeal.Value
open Cert.Down.Ffn (tileOf project)

variable (T0 : IVec S41 32) (T1 : IVec S1 32) (H : FVec Ideal S20992x5632 .bf16) (W : FVec Ideal S16x5632x2048 .f32)

/-- The experts' numbers as the gather reads them, one to a tile. -/
def starts : IVec S41x1 32 :=
  broadcastInDim S41x1 ![0] bcast_S41_S41x1_0 (select (cmpi .slt T0 (broadcastInDim S41 ![] bcast_S_S41 (constantI S_ 32 0#32))) (addi T0 (broadcastInDim S41 ![] bcast_S_S41 (constantI S_ 32 16#32))) T0)

/-- Each tile's expert's matrix. -/
def chosen : FVec Ideal S41x5632x2048 .f32 :=
  Host.gather gather_S16x5632x2048_S41x1_S41x5632x2048_12_0_n_n_0_1_156322048 W (starts T0)

/-- The tiles' products. -/
def products : FVec Ideal S41x512x2048 .f32 :=
  Host.dotGeneral (F := Ideal) (φ₁ := .f32) (φ₂ := .f32) dot_S41x512x5632_S41x5632x2048_S41x512x2048_2_1_1_2_0_0 none (shapeCast _ (extf (F := Ideal) .f32 H bitsLt_bf16_f32) shapeCasts_S20992x5632_S41x512x5632) (chosen T0 W)

/-- Which tiles are in use. -/
def inUse : IVec S41 1 :=
  cmpi .slt (iotaInDim S41 32 0) (broadcastInDim S41 ![] bcast_S_S41 (shapeCast _ T1 shapeCasts_S1_S_))

def masked : FVec Ideal S41x512x2048 .f32 :=
  select (broadcastInDim S41x512x2048 ![0, 1, 2] bcast_S41x1x1_S41x512x2048_0_1_2 (broadcastInDim S41x1x1 ![0] bcast_S41_S41x1x1_0 (inUse T1))) (products T0 H W) (broadcastInDim S41x512x2048 ![] bcast_S_S41x512x2048 (id (constant S_ .f32 0x00000000#32)))

def value : FVec Ideal S20992x2048 .f32 := shapeCast _ (masked T0 T1 H W) shapeCasts_S41x512x2048_S20992x2048

variable {T0} (h0 : ∀ x, (T0 x).toNat < 16)

include h0 in
theorem starts_at (t : Fin 41) : starts T0 (ix2 t 0) = T0 (ix1 t) := by
  have h1 : ∀ v : BitVec 32, v.toNat < 16 → IntOp.cmpi .slt v 0#32 = 0#1 := by
    intro v hv
    have : v.toInt = v.toNat := BitVec.toInt_eq_toNat_of_lt (by omega)
    rw [WordCmp.cmpi_slt_eq, decide_eq_false (by rw [this]; simp)]
    rfl
  have h2 := h1 _ (h0 (ix1 t))
  pointwise [starts]
  rw [h2]
  rfl

theorem gathered_at (x : S16x5632x2048.Idx → EReal) (idx : IVec S41x1 32) (t : Fin 41) (k : Fin 5632) (d : Fin 2048) (e : Fin 16)
    (he : (idx (ix2 t 0)).toNat = e.val) :
    Host.gather gather_S16x5632x2048_S41x1_S41x5632x2048_12_0_n_n_0_1_156322048 x idx (ix3 t k d) = x (ix3 e k d) := by
  unfold Host.gather
  refine congrArg x (funext fun a => Fin.ext ?_)
  match a with
  | ⟨0, _⟩ =>
    show min (idx _).toInt.toNat (16 - 1) + 0 + 0 = e.val
    have hi : ∀ u : S41x1.Idx, u = ix2 t 0 → min (idx u).toInt.toNat (16 - 1) + 0 + 0 = e.val := by
      rintro u rfl
      have hv := e.isLt
      rw [BitVec.toInt_eq_toNat_of_lt (by omega), he]
      show min ((e.val : ℤ)).toNat 15 + 0 + 0 = e.val
      omega
    refine hi _ (funext fun b => Fin.ext ?_)
    match b with
    | ⟨0, _⟩ => rfl
    | ⟨1, _⟩ => rfl
  | ⟨1, _⟩ => show 0 + 0 + k.val = k.val; omega
  | ⟨2, _⟩ => show 0 + 0 + d.val = d.val; omega

include h0 in
theorem products_at (t : Fin 41) (r : Fin 512) (d : Fin 2048) :
    products T0 H W (ix3 t r d) = ∑ k : Fin 5632, H (ix2 ⟨t.val * 512 + r.val, by omega⟩ k) * W (ix3 ⟨(T0 (ix1 t)).toNat, h0 _⟩ k d) := by
  pointwise [products]
  refine Finset.sum_congr rfl fun k _ => ?_
  unfold chosen
  rw [gathered_at W _ t k d ⟨(T0 (ix1 t)).toNat, h0 _⟩ (congrArg BitVec.toNat (starts_at h0 t))]

theorem inUse_at (t : Fin 41) : inUse T1 (ix1 t) = if (t.val : ℤ) < (T1 (ix1 0)).toInt then 1#1 else 0#1 := by
  have h1 : (BitVec.ofNat 32 t.val).toInt = t.val := by
    rw [BitVec.toInt_eq_toNat_of_lt (by rw [BitVec.toNat_ofNat]; omega), BitVec.toNat_ofNat]; omega
  pointwise [inUse]
  rw [WordCmp.cmpi_slt_eq, h1]
  by_cases h : (t.val : ℤ) < (T1 (ix1 0)).toInt
  · rw [decide_eq_true h, if_pos h]; rfl
  · rw [decide_eq_false h, if_neg h]; rfl

include h0 in
theorem masked_at (t : Fin 41) (r : Fin 512) (d : Fin 2048) :
    masked T0 T1 H W (ix3 t r d) = project T0 T1 h0 H W ⟨t.val * 512 + r.val, by omega⟩ d := by
  have ht : tileOf ⟨t.val * 512 + r.val, by omega⟩ = t := Fin.ext (by show (t.val * 512 + r.val) / 512 = t.val; omega)
  pointwise [masked]
  rw [inUse_at T1 t, products_at H W h0 t r d]
  unfold project
  simp only [ht]
  by_cases h : (t.val : ℤ) < (T1 (ix1 0)).toInt
  · rw [if_pos h, if_pos h]; rfl
  · rw [if_neg h, if_neg h]
    show constant (F := Ideal) S_ .f32 0x00000000#32 ix0 = (0 : EReal)
    pointwise

include h0 in
/-- The reference's result. -/
theorem value_eq : value T0 T1 H W = fun u : S20992x2048.Idx => project T0 T1 h0 H W (u 0) (u 1) := by
  funext u
  have l0 : (u 0).val < 20992 := (u 0).isLt
  have l1 : (u 1).val < 2048 := (u 1).isLt
  have eu : u = ix2 ⟨(u 0).val, l0⟩ ⟨(u 1).val, l1⟩ := funext fun a => Fin.ext (by match a with | ⟨0, _⟩ => rfl | ⟨1, _⟩ => rfl)
  have e : value T0 T1 H W (ix2 ⟨(u 0).val, l0⟩ ⟨(u 1).val, l1⟩)
      = masked T0 T1 H W (ix3 ⟨(u 0).val / 512, by omega⟩ ⟨(u 0).val % 512, by omega⟩ ⟨(u 1).val, l1⟩) := by
    pointwise [value]
  have hm := masked_at T1 H W h0 ⟨(u 0).val / 512, by omega⟩ ⟨(u 0).val % 512, by omega⟩ ⟨(u 1).val, l1⟩
  have hi : (⟨(u 0).val / 512 * 512 + (u 0).val % 512, by omega⟩ : Fin 20992) = u 0 := Fin.ext (by show (u 0).val / 512 * 512 + (u 0).val % 512 = (u 0).val; omega)
  refine (congrArg (value T0 T1 H W) eu).trans (e.trans (hm.trans ?_))
  exact congrArg₂ (project T0 T1 h0 H W) hi rfl

end Cert.DownRefIdeal.Layers

end
-- ==== Proof.DownClaims.lean ====
/- The claims about the experts' down projection. -/
module

public import proofs.«01_k».proof.Defs
public import proofs.«01_k».proof.Proof.DownFrame
public import proofs.«01_k».proof.Proof.DownRef
public import proofs.«01_k».proof.Proof.Gen.DownIdeal
public import proofs.«01_k».proof.Proof.Gen.Pre_down_tables
public import Idealize.ShloMosaic.Lib.WordCmp
public import Idealize.ShloMosaic.Lib.ReduceAll
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Proof.DownClaims

instance : Subsingleton Cert.Pre_down_tables.S_.Idx := ⟨fun a b => funext fun i => i.elim0⟩

/-- A word between 0 and 16, read signed, is below 16, read unsigned. -/
theorem small (v : BitVec 32) (h : IntOp.andi (IntOp.cmpi .sge v 0#32) (IntOp.cmpi .slt v 16#32) = 1#1) : v.toNat < 16 := by
  obtain ⟨h1, h2⟩ := IntOp.andi_eq_one.1 h
  rw [WordCmp.cmpi_sge_eq] at h1
  rw [WordCmp.cmpi_slt_eq] at h2
  have h1' : (0 : ℤ) ≤ v.toInt := by
    by_contra n
    rw [decide_eq_false (by simpa using n)] at h1
    exact absurd h1 (by decide)
  have h2' : v.toInt < 16 := by
    by_contra n
    rw [decide_eq_false (by simpa using n)] at h2
    exact absurd h2 (by decide)
  have hb : v.toNat < 2 ^ 32 := v.isLt
  have e := BitVec.toInt_eq_toNat_cond v
  split at e <;> omega

theorem positive (v : BitVec 32) (h : IntOp.cmpi .sge v 1#32 = 1#1) : 1 ≤ v.toInt := by
  rw [WordCmp.cmpi_sge_eq] at h
  by_contra n
  rw [decide_eq_false (by simpa using n)] at h
  exact absurd h (by decide)

/-- The precondition puts the experts' numbers in range and at least one tile in use. -/
theorem in_range {F : FTy → Type} [FloatOps F] (a0 : IVec Cert.Pre_down_tables.S41 32) (a1 : IVec Cert.Pre_down_tables.S1 32)
    (a2 : FVec F Cert.Pre_down_tables.S20992x5632 .bf16) (a3 : FVec F Cert.Pre_down_tables.S16x5632x2048 .f32)
    (h : Cert.Pre_down_tables.fn (F := F) a0 a1 a2 a3 = fun _ => 1#1) :
    (∀ x, (a0 x).toNat < 16) ∧ ∀ x, 1 ≤ (a1 x).toInt := by
  have e := congrFun h (fun i => i.elim0)
  dsimp only [Cert.Pre_down_tables.fn] at e
  obtain ⟨e0, e1⟩ := IntOp.andi_eq_one.1 e
  exact ⟨fun x => small _ (Host.reduce_andi_all _ _ _ _ _ e0 x), fun x => positive _ (Host.reduce_andi_all _ _ _ _ _ e1 x)⟩

theorem placed {F : FTy → Type} [FloatOps F] (m : (ℓ : Loc Down.nD Down.τ Down.sig) → Buf (Elt F) ℓ) :
    Down.Ffn.Placed (m ((((0 : Dev Down.nD).tc : Thread Down.nD Down.τ)).loc Down.main_arg0)) (m ((((0 : Dev Down.nD).tc : Thread Down.nD Down.τ)).loc Down.main_arg1)) m :=
  ⟨fun c => by obtain rfl : c = 0 := Subsingleton.elim _ _; rfl, fun c => by obtain rfl : c = 0 := Subsingleton.elim _ _; rfl⟩

theorem range_p (m : (ℓ : Loc Down.nD Down.τ Down.sig) → Buf (Elt Bits) ℓ) (h : Cert.Pre_Down m) :
    Down.Ffn.InRange (m ((((0 : Dev Down.nD).tc : Thread Down.nD Down.τ)).loc Down.main_arg0)) (m ((((0 : Dev Down.nD).tc : Thread Down.nD Down.τ)).loc Down.main_arg1)) :=
  ⟨(in_range _ _ _ _ (h 0)).1, (in_range _ _ _ _ (h 0)).2⟩

theorem range_pi (m : (ℓ : Loc Down.nD Down.τ Down.sig) → Buf (Elt Ideal) ℓ) (h : Cert.Pre_DownIdeal m) :
    Down.Ffn.InRange (m ((((0 : Dev Down.nD).tc : Thread Down.nD Down.τ)).loc Down.main_arg0)) (m ((((0 : Dev Down.nD).tc : Thread Down.nD Down.τ)).loc Down.main_arg1)) :=
  ⟨(in_range _ _ _ _ (h 0)).1, (in_range _ _ _ _ (h 0)).2⟩

/-- Idealizing changes no operation of the kernel: over the extended reals the two programs have the same bodies, -/
theorem same_bodies : DownIdeal.defs₀ (F := Ideal) = Down.defs₀ (F := Ideal) := by
  unfold DownIdeal.defs₀ Down.defs₀
  congr 1
  funext l a
  match l, a with
  | 0, (t, s) => rfl

/-- and the same pipelines, so what is proved of the kernel over any numbers holds of its idealization. -/
theorem same_program : DownIdeal.defs (F := Ideal) = Down.defs (F := Ideal) := by
  unfold DownIdeal.defs Down.defs
  rw [same_bodies]
  rfl

theorem frame_p : Cert.quiescent_Down := fun m ρ h => Down.Ffn.frame (range_p m h) m ρ (placed m)
theorem frame_pi : Cert.quiescent_DownIdeal := fun m ρ h => by
  rw [same_program]
  exact Down.Ffn.frame (F := Ideal) (range_pi m h) m ρ (placed m)
theorem frame_ri : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)
theorem frame_ri_tables : Cert.quiescent_DownRefIdeal_pre_down_tables := fun m ρ _ => frame_ri m ρ trivial

theorem preserves : Cert.preserves_Down_DownIdeal := trivial

/-- From tables in range the kernel and the reference end with the same projection. -/
theorem algebraic : Cert.algebraic_DownIdeal_DownRefIdeal := by
  intro m g m' g' pre same
  have hr := range_pi m pre
  have hp := placed (F := Ideal) m
  refine ⟨fun c => (Down.Ffn.dats hr m g 0 c).arrAt (2 : Fin 3) (Down.Ffn.cfgA Ideal hr).N, ?_, ?_⟩
  · rw [same_program]
    exact (θ_run Down.defs _ _).mono (fun r h c => ⟨(h.1 c).1 (2 : Fin 3), h.2 c⟩)
      (θ_run_and (Down.Ffn.run_main hr m g hp) (Down.Ffn.unchanged hr m g hp))
  · refine (θ_run DownRefIdeal.defs _ _).mono (fun r h c => ⟨(h c).1.trans ?_, (h c).2⟩) (DownRefIdeal.Value.run (F := Ideal) m' g')
    obtain ⟨a0, a1, a2, a3⟩ := same c
    obtain rfl : c = 0 := Subsingleton.elim _ _
    rw [a0, a1, a2, a3]
    exact (DownRefIdeal.Layers.value_eq _ _ _ hr.expert).trans (Down.Ffn.result hr m g 0).symm

end Cert.Proof.DownClaims

end
-- ==== Proof.UpRuns.lean ====
/- One grid point of the up projection of the experts' feed-forward layer: what the body leaves in the block of the
   result and in its scratch copies of the weights, on each of the four ways through it. -/
module

public import proofs.«01_k».proof.Proof.Gen.Up.Skeleton
public import proofs.«01_k».proof.Proof.Gen.Up.Launch
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.PureOps.BitExact

@[expose] public section

set_option maxRecDepth 16384
set_option Elab.async false

noncomputable section

namespace Cert.Up.Ffn

open Cert.Up Cert.Up.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the tiles' experts, the number of tiles in use, and the scratch copies of a block of each of the two weights. -/
abbrev teM : Memref sig .tc .smem S41 .i32 := Memref.whole main_arg0
abbrev nvM : Memref sig .tc .smem S1 .i32 := Memref.whole main_arg1
abbrev scM : Memref sig .tc .vmem S2048x512 .bf16 := Memref.whole cc0_scratch0
abbrev sgM : Memref sig .tc .vmem S2048x512 .bf16 := Memref.whole cc0_scratch1

variable (F)

/-- The expert of the point's tile, the expert of the tile before it, and the number of tiles in use. -/
abbrev wordHere (i : grid0.Coords) (T0 : S41.Idx → Elt F .i32) : Elt F .i32 :=
  View.readAt (Elt F) teM.view (Rect.unit (s := S41) (k0_off1 i) S1.size (k0_off1_inb i)).toLoadRect T0 (Shape.Idx.first (numel1_S1.symm ▸ Nat.one_pos))
abbrev wordBefore (i : grid0.Coords) (T0 : S41.Idx → Elt F .i32) : Elt F .i32 :=
  View.readAt (Elt F) teM.view (Rect.unit (s := S41) (k0_off2 i) S1.size (k0_off2_inb i)).toLoadRect T0 (Shape.Idx.first (numel1_S1.symm ▸ Nat.one_pos))
abbrev wordUsed (T1 : S1.Idx → Elt F .i32) : Elt F .i32 :=
  View.readAt (Elt F) nvM.view (Rect.unit (s := S1) ![0] S1.size inb_S1_S1_0).toLoadRect T1 (Shape.Idx.first (numel1_S1.symm ▸ Nat.one_pos))

/-- The body copies the weights at this point. -/
abbrev Copies (i : grid0.Coords) (T0 : S41.Idx → Elt F .i32) : Prop :=
  Scalar.cmpi .ne (Scalar.extui (Scalar.ori (Scalar.cmpi .eq (BitVec.ofNat 32 (i 1).val) 0#32) (Scalar.cmpi .ne (wordHere F i T0) (wordBefore F i T0)))) 0#32 = 1#1
/-- The point's tile is in use; -/
abbrev Used (i : grid0.Coords) (T1 : S1.Idx → Elt F .i32) : Prop := k0_cond2 i (wordUsed F T1) = 1#1
/-- it is not. -/
abbrev Unused (i : grid0.Coords) (T1 : S1.Idx → Elt F .i32) : Prop := k0_cond3 i (wordUsed F T1) = 1#1

variable {F}

variable (c : Dev nD) (i : grid0.Coords) (a4 : Memref sig .tc .vmem S512x1024 .bf16) (h4 : a4.IsWhole) (a5 : Memref sig .tc .vmem S512x1024 .bf16) (h5 : a5.IsWhole)
  (a6 : Memref sig .tc .vmem S1x2048x512 .f32) (h6 : a6.IsWhole) (a7 : Memref sig .tc .vmem S1x2048x512 .f32) (h7 : a7.IsWhole) (a8 : Memref sig .tc .vmem S512x512 .bf16) (h8 : a8.IsWhole)
  (T0 : S41.Idx → Elt F .i32) (T1 : S1.Idx → Elt F .i32)
  (x0 : S512x1024.Idx → Elt F .bf16) (x1 : S512x1024.Idx → Elt F .bf16) (x2 : S1x2048x512.Idx → Elt F .f32) (x3 : S1x2048x512.Idx → Elt F .f32)

/-- What the body needs beside its result block and its scratches, and gives back. -/
abbrev kept : sProp 𝕄 :=
  iprop((a4.view.loc (c : Thread nD τ) ↦[a4.view.set]{fullShare} a4.view.rep x0)
    ∗ (a5.view.loc (c : Thread nD τ) ↦[a5.view.set]{fullShare} a5.view.rep x1)
    ∗ (a6.view.loc (c : Thread nD τ) ↦[a6.view.set]{fullShare} a6.view.rep x2)
    ∗ (a7.view.loc (c : Thread nD τ) ↦[a7.view.set]{fullShare} a7.view.rep x3)
    ∗ (teM.view.loc (c : Thread nD τ) ↦{fullShare.right} T0)
    ∗ (nvM.view.loc (c : Thread nD τ) ↦{fullShare.right} T1))

/-- The body at a point, on the point's staging buffers. -/
abbrev body : Prog (TpuEff nD τ sig (Elt F) Λ₀ .tc) PUnit :=
  cc0_ffn_up i teM (Memref.isWhole_whole _) nvM (Memref.isWhole_whole _) a4 h4 a5 h5 a6 h6 a7 h7 a8 h8 scM (Memref.isWhole_whole _) sgM (Memref.isWhole_whole _)

set_option backward.proofsInPublic true in
set_option maxHeartbeats 16000000 in
/-- A point that copies the weights, its tile in use: the pieces of its result block and its scratches, as the run finds them. -/
noncomputable def runA (hc : Copies F i T0) (hu : Used F i T1) (hd : ¬Unused F i T1) :
    Σ' (out : List (View.Piece (Elt F) S512x512 .bf16)) (sc : Buf (Elt F) ((c : Thread nD τ).loc cc0_scratch0)), { sg : Buf (Elt F) ((c : Thread nD τ).loc cc0_scratch1) //
      ∀ (xa : Buf (Elt F) ((c : Thread nD τ).loc cc0_scratch0)) (xb : Buf (Elt F) ((c : Thread nD τ).loc cc0_scratch1)) (K : PUnit → sProp 𝕄),
        iprop(kept c a4 a5 a6 a7 T0 T1 x0 x1 x2 x3
          ∗ (∃ d, owns (c : Thread nD τ) a8 fullShare d)
          ∗ (scM.view.loc (c : Thread nD τ) ↦{fullShare} xa)
          ∗ (sgM.view.loc (c : Thread nD τ) ↦{fullShare} xb)
          ∗ (iprop(kept c a4 a5 a6 a7 T0 T1 x0 x1 x2 x3
              ∗ (∃ f, a8.view.loc (c : Thread nD τ) ↦[a8.view.set]{fullShare} a8.view.writes (Elt F) f out)
              ∗ (scM.view.loc (c : Thread nD τ) ↦{fullShare} sc)
              ∗ (sgM.view.loc (c : Thread nD τ) ↦{fullShare} sg)) -∗ K ⟨⟩))
          ⊢ wp frame (wpE (defs₀ (F := F)) Variants.none c none) Set.univ (body i a4 h4 a5 h5 a6 h6 a7 h7 a8 h8) K } :=
  ⟨_, _, _, fun (xa : Buf (Elt F) ((c : Thread nD τ).loc cc0_scratch0)) (xb : Buf (Elt F) ((c : Thread nD τ).loc cc0_scratch1)) K => by
    unfold owns kept body
    rw [cc0_ffn_up_eq_skeleton]; unfold cc0_ffn_up_skel
    iintro ⟨⟨H0, H1, H2, H3, HT0, HT1⟩, ⟨%d4, %f4, -, HO4⟩, HS0, HS1, Hk⟩
    have hS0 : scM.IsWhole := Memref.isWhole_whole _
    have hS1 : sgM.IsWhole := Memref.isWhole_whole _
    have hT0 : teM.IsWhole := Memref.isWhole_whole _
    have hT1 : nvM.IsWhole := Memref.isWhole_whole _
    sl_exec! (disch := first | (guard_target = Scalar.cmpi = _; exact hc) | (guard_target = k0_cond2 _ _ = _; exact hu) | (guard_target = ¬(k0_cond3 _ _ = _); exact hd))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    iexact HS1⟩

set_option backward.proofsInPublic true in
set_option maxHeartbeats 16000000 in
/-- A point that keeps the copies, its tile in use. -/
noncomputable def runB (xa : Buf (Elt F) ((c : Thread nD τ).loc cc0_scratch0)) (xb : Buf (Elt F) ((c : Thread nD τ).loc cc0_scratch1)) (hc : ¬Copies F i T0) (hu : Used F i T1) (hd : ¬Unused F i T1) :
    Σ' (out : List (View.Piece (Elt F) S512x512 .bf16)) (sc : Buf (Elt F) ((c : Thread nD τ).loc cc0_scratch0)), { sg : Buf (Elt F) ((c : Thread nD τ).loc cc0_scratch1) //
      ∀ (K : PUnit → sProp 𝕄),
        iprop(kept c a4 a5 a6 a7 T0 T1 x0 x1 x2 x3
          ∗ (∃ d, owns (c : Thread nD τ) a8 fullShare d)
          ∗ (scM.view.loc (c : Thread nD τ) ↦{fullShare} xa)
          ∗ (sgM.view.loc (c : Thread nD τ) ↦{fullShare} xb)
          ∗ (iprop(kept c a4 a5 a6 a7 T0 T1 x0 x1 x2 x3
              ∗ (∃ f, a8.view.loc (c : Thread nD τ) ↦[a8.view.set]{fullShare} a8.view.writes (Elt F) f out)
              ∗ (scM.view.loc (c : Thread nD τ) ↦{fullShare} sc)
              ∗ (sgM.view.loc (c : Thread nD τ) ↦{fullShare} sg)) -∗ K ⟨⟩))
          ⊢ wp frame (wpE (defs₀ (F := F)) Variants.none c none) Set.univ (body i a4 h4 a5 h5 a6 h6 a7 h7 a8 h8) K } :=
  ⟨_, _, _, fun K => by
    unfold owns kept body
    rw [cc0_ffn_up_eq_skeleton]; unfold cc0_ffn_up_skel
    iintro ⟨⟨H0, H1, H2, H3, HT0, HT1⟩, ⟨%d4, %f4, -, HO4⟩, HS0, HS1, Hk⟩
    have hS0 : scM.IsWhole := Memref.isWhole_whole _
    have hS1 : sgM.IsWhole := Memref.isWhole_whole _
    have hT0 : teM.IsWhole := Memref.isWhole_whole _
    have hT1 : nvM.IsWhole := Memref.isWhole_whole _
    sl_exec! (disch := first | (guard_target = ¬(Scalar.cmpi = _); exact hc) | (guard_target = k0_cond2 _ _ = _; exact hu) | (guard_target = ¬(k0_cond3 _ _ = _); exact hd))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    iexact HS1⟩

set_option backward.proofsInPublic true in
set_option maxHeartbeats 16000000 in
/-- A point that copies the weights, its tile not in use. -/
noncomputable def runC (hc : Copies F i T0) (hu : ¬Used F i T1) (hd : Unused F i T1) :
    Σ' (out : List (View.Piece (Elt F) S512x512 .bf16)) (sc : Buf (Elt F) ((c : Thread nD τ).loc cc0_scratch0)), { sg : Buf (Elt F) ((c : Thread nD τ).loc cc0_scratch1) //
      ∀ (xa : Buf (Elt F) ((c : Thread nD τ).loc cc0_scratch0)) (xb : Buf (Elt F) ((c : Thread nD τ).loc cc0_scratch1)) (K : PUnit → sProp 𝕄),
        iprop(kept c a4 a5 a6 a7 T0 T1 x0 x1 x2 x3
          ∗ (∃ d, owns (c : Thread nD τ) a8 fullShare d)
          ∗ (scM.view.loc (c : Thread nD τ) ↦{fullShare} xa)
          ∗ (sgM.view.loc (c : Thread nD τ) ↦{fullShare} xb)
          ∗ (iprop(kept c a4 a5 a6 a7 T0 T1 x0 x1 x2 x3
              ∗ (∃ f, a8.view.loc (c : Thread nD τ) ↦[a8.view.set]{fullShare} a8.view.writes (Elt F) f out)
              ∗ (scM.view.loc (c : Thread nD τ) ↦{fullShare} sc)
              ∗ (sgM.view.loc (c : Thread nD τ) ↦{fullShare} sg)) -∗ K ⟨⟩))
          ⊢ wp frame (wpE (defs₀ (F := F)) Variants.none c none) Set.univ (body i a4 h4 a5 h5 a6 h6 a7 h7 a8 h8) K } :=
  ⟨_, _, _, fun (xa : Buf (Elt F) ((c : Thread nD τ).loc cc0_scratch0)) (xb : Buf (Elt F) ((c : Thread nD τ).loc cc0_scratch1)) K => by
    unfold owns kept body
    rw [cc0_ffn_up_eq_skeleton]; unfold cc0_ffn_up_skel
    iintro ⟨⟨H0, H1, H2, H3, HT0, HT1⟩, ⟨%d4, %f4, -, HO4⟩, HS0, HS1, Hk⟩
    have hS0 : scM.IsWhole := Memref.isWhole_whole _
    have hS1 : sgM.IsWhole := Memref.isWhole_whole _
    have hT0 : teM.IsWhole := Memref.isWhole_whole _
    have hT1 : nvM.IsWhole := Memref.isWhole_whole _
    sl_exec! (disch := first | (guard_target = Scalar.cmpi = _; exact hc) | (guard_target = ¬(k0_cond2 _ _ = _); exact hu) | (guard_target = k0_cond3 _ _ = _; exact hd))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    iexact HS1⟩

set_option backward.proofsInPublic true in
set_option maxHeartbeats 16000000 in
/-- A point that keeps the copies, its tile not in use. -/
noncomputable def runD (xa : Buf (Elt F) ((c : Thread nD τ).loc cc0_scratch0)) (xb : Buf (Elt F) ((c : Thread nD τ).loc cc0_scratch1)) (hc : ¬Copies F i T0) (hu : ¬Used F i T1) (hd : Unused F i T1) :
    Σ' (out : List (View.Piece (Elt F) S512x512 .bf16)) (sc : Buf (Elt F) ((c : Thread nD τ).loc cc0_scratch0)), { sg : Buf (Elt F) ((c : Thread nD τ).loc cc0_scratch1) //
      ∀ (K : PUnit → sProp 𝕄),
        iprop(kept c a4 a5 a6 a7 T0 T1 x0 x1 x2 x3
          ∗ (∃ d, owns (c : Thread nD τ) a8 fullShare d)
          ∗ (scM.view.loc (c : Thread nD τ) ↦{fullShare} xa)
          ∗ (sgM.view.loc (c : Thread nD τ) ↦{fullShare} xb)
          ∗ (iprop(kept c a4 a5 a6 a7 T0 T1 x0 x1 x2 x3
              ∗ (∃ f, a8.view.loc (c : Thread nD τ) ↦[a8.view.set]{fullShare} a8.view.writes (Elt F) f out)
              ∗ (scM.view.loc (c : Thread nD τ) ↦{fullShare} sc)
              ∗ (sgM.view.loc (c : Thread nD τ) ↦{fullShare} sg)) -∗ K ⟨⟩))
          ⊢ wp frame (wpE (defs₀ (F := F)) Variants.none c none) Set.univ (body i a4 h4 a5 h5 a6 h6 a7 h7 a8 h8) K } :=
  ⟨_, _, _, fun K => by
    unfold owns kept body
    rw [cc0_ffn_up_eq_skeleton]; unfold cc0_ffn_up_skel
    iintro ⟨⟨H0, H1, H2, H3, HT0, HT1⟩, ⟨%d4, %f4, -, HO4⟩, HS0, HS1, Hk⟩
    have hS0 : scM.IsWhole := Memref.isWhole_whole _
    have hS1 : sgM.IsWhole := Memref.isWhole_whole _
    have hT0 : teM.IsWhole := Memref.isWhole_whole _
    have hT1 : nvM.IsWhole := Memref.isWhole_whole _
    sl_exec! (disch := first | (guard_target = ¬(Scalar.cmpi = _); exact hc) | (guard_target = ¬(k0_cond2 _ _ = _); exact hu) | (guard_target = k0_cond3 _ _ = _; exact hd))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    iexact HS1⟩

end Cert.Up.Ffn

end
-- ==== Proof.UpStep.lean ====
/- The up projection's body at a point as one statement: with the copy of the point's weights in place where the body
   keeps it, the body leaves the product of the tile and those weights, or zeros, and the copy of the point's weights. -/
module

public import proofs.«01_k».proof.Proof.UpRuns
public import Idealize.ShloMosaic.Lib.Pipeline.Value

@[expose] public section

set_option maxRecDepth 16384
set_option Elab.async false

noncomputable section

namespace Cert.Up.Ffn

open Cert.Up Cert.Up.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (a4 : Memref sig .tc .vmem S512x1024 .bf16) (h4 : a4.IsWhole) (a5 : Memref sig .tc .vmem S512x1024 .bf16) (h5 : a5.IsWhole)
  (a6 : Memref sig .tc .vmem S1x2048x512 .f32) (h6 : a6.IsWhole) (a7 : Memref sig .tc .vmem S1x2048x512 .f32) (h7 : a7.IsWhole) (a8 : Memref sig .tc .vmem S512x512 .bf16) (h8 : a8.IsWhole)
  (T0 : S41.Idx → Elt F .i32) (T1 : S1.Idx → Elt F .i32)
  (x0 : S512x1024.Idx → Elt F .bf16) (x1 : S512x1024.Idx → Elt F .bf16) (x2 : S1x2048x512.Idx → Elt F .f32) (x3 : S1x2048x512.Idx → Elt F .f32)

/-- The scratch copies of a block of each of the two weights. -/
abbrev copyOf (x2 : S1x2048x512.Idx → Elt F .f32) : Buf (Elt F) ((c : Thread nD τ).loc cc0_scratch0) := k0_pay1 (F := F) x2
abbrev copyOf' (x3 : S1x2048x512.Idx → Elt F .f32) : Buf (Elt F) ((c : Thread nD τ).loc cc0_scratch1) := k0_pay2 (F := F) x3

/-- The upper and the lower half of a copy. -/
abbrev upper (w : S2048x512.Idx → Elt F .bf16) : S1024x512.Idx → Elt F .bf16 :=
  View.ld w (Rect.unit (s := S2048x512) ![0, 0] S1024x512.size inb_S2048x512_S1024x512_0_0)
abbrev lower (w : S2048x512.Idx → Elt F .bf16) : S1024x512.Idx → Elt F .bf16 :=
  View.ld w (Rect.unit (s := S2048x512) ![1024, 0] S1024x512.size inb_S2048x512_S1024x512_1024_0)

/-- What the body makes of its rows and its copies of the weights. -/
def gated (x0 x1 : S512x1024.Idx → Elt F .bf16) (w w' : S2048x512.Idx → Elt F .bf16) : S512x512.Idx → Elt F .bf16 :=
  k0_pay3 (F := F) x0 x1 (upper w) (lower w) (upper w') (lower w')

/-- What the body leaves in the result block. -/
def outOf (i : grid0.Coords) (T1 : S1.Idx → Elt F .i32) (x0 x1 : S512x1024.Idx → Elt F .bf16) (x2 x3 : S1x2048x512.Idx → Elt F .f32) :
    S512x512.Idx → Elt F .bf16 :=
  if Used F i T1 then gated x0 x1 (k0_pay1 (F := F) x2) (k0_pay2 (F := F) x3) else k0_pay4 (F := F)

theorem off2 : (![0, 0] : Fin 2 → Nat) = fun _ => 0 := funext fun a => by fin_cases a <;> rfl
theorem off3 : (![0, 0, 0] : Fin 3 → Nat) = fun _ => 0 := funext fun a => by fin_cases a <;> rfl

/-- One store over a whole buffer leaves what it stores. -/
theorem whole_write (b : Ref sig .tc) {off : Fin b.ty.shape.rank → Nat} (h : off = fun _ => 0) (inb : ∀ a, off a + b.ty.shape.size a ≤ b.ty.shape.size a)
    (f : b.ty.Contents (Elt F)) (w : b.ty.shape.Idx → Elt F b.ty.elt) :
    (View.whole b).writes (Elt F) f [⟨Rect.unit off b.ty.shape.size inb, w⟩] = w := by
  subst h
  exact View.read_writes_whole (View.whole b) f w

/-- A part of what one store over a whole buffer left is a part of what it stored. -/
theorem part_of_whole {sp : Space} (v : View sig .tc sp S2048x512 .bf16) {off : Fin S2048x512.rank → Nat} (h : off = fun _ => 0)
    (inb : ∀ a, off a + S2048x512.size a ≤ S2048x512.size a) (w : S2048x512.Idx → Elt F .bf16) (r : Rect S2048x512) :
    v.readCov [(⟨Rect.unit off S2048x512.size inb, w⟩ : View.Piece (Elt F) S2048x512 .bf16)] r = View.ld w r := by
  subst h
  rw [View.readCov_eq_canon_ld _ _ _ (fun y => ⟨_, List.mem_singleton.2 rfl, by
    show y ∈ (Rect.whole S2048x512).set; rw [Rect.set_whole]; exact Finset.mem_univ y⟩), View.canon_unit_zero (S := S2048x512) rfl]

theorem scratchA0 (hc : Copies F i T0) (hu : Used F i T1) (hd : ¬Unused F i T1) :
    (runA c i a4 h4 a5 h5 a6 h6 a7 h7 a8 h8 T0 T1 x0 x1 x2 x3 hc hu hd).2.1 = copyOf c x2 := by
  unfold runA
  dsimp only
  sl_unfold_words
  refine (whole_write cc0_scratch0 off2 _ _ _).trans ?_
  rw [View.readAt_eq_ld, View.read_rep, View.ld_unit_zero (S := S1x2048x512) off3]

theorem scratchA1 (hc : Copies F i T0) (hu : Used F i T1) (hd : ¬Unused F i T1) :
    (runA c i a4 h4 a5 h5 a6 h6 a7 h7 a8 h8 T0 T1 x0 x1 x2 x3 hc hu hd).2.2.1 = copyOf' c x3 := by
  unfold runA
  dsimp only
  sl_unfold_words
  refine (whole_write cc0_scratch1 off2 _ _ _).trans ?_
  rw [View.readAt_eq_ld, View.read_rep, View.ld_unit_zero (S := S1x2048x512) off3]

theorem outA (hc : Copies F i T0) (hu : Used F i T1) (hd : ¬Unused F i T1) (f) :
    a8.view.read (Elt F) (a8.view.writes (Elt F) f (runA c i a4 h4 a5 h5 a6 h6 a7 h7 a8 h8 T0 T1 x0 x1 x2 x3 hc hu hd).1) = gated x0 x1 (k0_pay1 (F := F) x2) (k0_pay2 (F := F) x3) := by
  rw [View.read_writes_eq_canon _ _ _ (View.cover_of_tiledL (runA c i a4 h4 a5 h5 a6 h6 a7 h7 a8 h8 T0 T1 x0 x1 x2 x3 hc hu hd).1 S512x512.size (by sl_kernel_rfl))]
  unfold runA
  dsimp only
  sl_unfold_words
  rw [View.canon_unit_zero (S := S512x512) off2]
  unfold gated
  rw [part_of_whole _ off2, part_of_whole _ off2, part_of_whole _ off2, part_of_whole _ off2]
  simp only [View.readAt_eq_ld, View.read_rep, View.ld_unit_zero (S := S512x1024) off2, View.ld_unit_zero (S := S1x2048x512) off3]

theorem scratchB0 (xa : Buf (Elt F) ((c : Thread nD τ).loc cc0_scratch0)) (xb : Buf (Elt F) ((c : Thread nD τ).loc cc0_scratch1)) (hc : ¬Copies F i T0) (hu : Used F i T1) (hd : ¬Unused F i T1) :
    (runB c i a4 h4 a5 h5 a6 h6 a7 h7 a8 h8 T0 T1 x0 x1 x2 x3 xa xb hc hu hd).2.1 = xa := by
  unfold runB
  rfl

theorem scratchB1 (xa : Buf (Elt F) ((c : Thread nD τ).loc cc0_scratch0)) (xb : Buf (Elt F) ((c : Thread nD τ).loc cc0_scratch1)) (hc : ¬Copies F i T0) (hu : Used F i T1) (hd : ¬Unused F i T1) :
    (runB c i a4 h4 a5 h5 a6 h6 a7 h7 a8 h8 T0 T1 x0 x1 x2 x3 xa xb hc hu hd).2.2.1 = xb := by
  unfold runB
  rfl

theorem outB (xa : Buf (Elt F) ((c : Thread nD τ).loc cc0_scratch0)) (xb : Buf (Elt F) ((c : Thread nD τ).loc cc0_scratch1)) (hc : ¬Copies F i T0) (hu : Used F i T1) (hd : ¬Unused F i T1) (f) :
    a8.view.read (Elt F) (a8.view.writes (Elt F) f (runB c i a4 h4 a5 h5 a6 h6 a7 h7 a8 h8 T0 T1 x0 x1 x2 x3 xa xb hc hu hd).1) = gated x0 x1 xa xb := by
  rw [View.read_writes_eq_canon _ _ _ (View.cover_of_tiledL (runB c i a4 h4 a5 h5 a6 h6 a7 h7 a8 h8 T0 T1 x0 x1 x2 x3 xa xb hc hu hd).1 S512x512.size (by sl_kernel_rfl))]
  unfold runB
  dsimp only
  sl_unfold_words
  rw [View.canon_unit_zero (S := S512x512) off2]
  unfold gated
  simp only [View.readAt_eq_ld, View.read_rep, View.ld_unit_zero (S := S512x1024) off2]
  rfl

theorem scratchC0 (hc : Copies F i T0) (hu : ¬Used F i T1) (hd : Unused F i T1) :
    (runC c i a4 h4 a5 h5 a6 h6 a7 h7 a8 h8 T0 T1 x0 x1 x2 x3 hc hu hd).2.1 = copyOf c x2 := by
  unfold runC
  dsimp only
  sl_unfold_words
  refine (whole_write cc0_scratch0 off2 _ _ _).trans ?_
  rw [View.readAt_eq_ld, View.read_rep, View.ld_unit_zero (S := S1x2048x512) off3]

theorem scratchC1 (hc : Copies F i T0) (hu : ¬Used F i T1) (hd : Unused F i T1) :
    (runC c i a4 h4 a5 h5 a6 h6 a7 h7 a8 h8 T0 T1 x0 x1 x2 x3 hc hu hd).2.2.1 = copyOf' c x3 := by
  unfold runC
  dsimp only
  sl_unfold_words
  refine (whole_write cc0_scratch1 off2 _ _ _).trans ?_
  rw [View.readAt_eq_ld, View.read_rep, View.ld_unit_zero (S := S1x2048x512) off3]

theorem outC (hc : Copies F i T0) (hu : ¬Used F i T1) (hd : Unused F i T1) (f) :
    a8.view.read (Elt F) (a8.view.writes (Elt F) f (runC c i a4 h4 a5 h5 a6 h6 a7 h7 a8 h8 T0 T1 x0 x1 x2 x3 hc hu hd).1) = k0_pay4 (F := F) := by
  rw [View.read_writes_eq_canon _ _ _ (View.cover_of_tiledL (runC c i a4 h4 a5 h5 a6 h6 a7 h7 a8 h8 T0 T1 x0 x1 x2 x3 hc hu hd).1 S512x512.size (by sl_kernel_rfl))]
  unfold runC
  dsimp only
  sl_unfold_words
  rw [View.canon_unit_zero (S := S512x512) off2]

theorem scratchD0 (xa : Buf (Elt F) ((c : Thread nD τ).loc cc0_scratch0)) (xb : Buf (Elt F) ((c : Thread nD τ).loc cc0_scratch1)) (hc : ¬Copies F i T0) (hu : ¬Used F i T1) (hd : Unused F i T1) :
    (runD c i a4 h4 a5 h5 a6 h6 a7 h7 a8 h8 T0 T1 x0 x1 x2 x3 xa xb hc hu hd).2.1 = xa := by
  unfold runD
  rfl

theorem scratchD1 (xa : Buf (Elt F) ((c : Thread nD τ).loc cc0_scratch0)) (xb : Buf (Elt F) ((c : Thread nD τ).loc cc0_scratch1)) (hc : ¬Copies F i T0) (hu : ¬Used F i T1) (hd : Unused F i T1) :
    (runD c i a4 h4 a5 h5 a6 h6 a7 h7 a8 h8 T0 T1 x0 x1 x2 x3 xa xb hc hu hd).2.2.1 = xb := by
  unfold runD
  rfl

theorem outD (xa : Buf (Elt F) ((c : Thread nD τ).loc cc0_scratch0)) (xb : Buf (Elt F) ((c : Thread nD τ).loc cc0_scratch1)) (hc : ¬Copies F i T0) (hu : ¬Used F i T1) (hd : Unused F i T1) (f) :
    a8.view.read (Elt F) (a8.view.writes (Elt F) f (runD c i a4 h4 a5 h5 a6 h6 a7 h7 a8 h8 T0 T1 x0 x1 x2 x3 xa xb hc hu hd).1) = k0_pay4 (F := F) := by
  rw [View.read_writes_eq_canon _ _ _ (View.cover_of_tiledL (runD c i a4 h4 a5 h5 a6 h6 a7 h7 a8 h8 T0 T1 x0 x1 x2 x3 xa xb hc hu hd).1 S512x512.size (by sl_kernel_rfl))]
  unfold runD
  dsimp only
  sl_unfold_words
  rw [View.canon_unit_zero (S := S512x512) off2]

/-- The body at a point, whichever way it takes. -/
theorem step (xa : Buf (Elt F) ((c : Thread nD τ).loc cc0_scratch0)) (xb : Buf (Elt F) ((c : Thread nD τ).loc cc0_scratch1)) (hk : ¬Copies F i T0 → xa = copyOf c x2 ∧ xb = copyOf' c x3)
    (hx : Unused F i T1 ↔ ¬Used F i T1) (K : PUnit → sProp 𝕄) :
    iprop(kept c a4 a5 a6 a7 T0 T1 x0 x1 x2 x3
        ∗ (∃ d, owns (c : Thread nD τ) a8 fullShare d)
        ∗ (scM.view.loc (c : Thread nD τ) ↦{fullShare} xa)
        ∗ (sgM.view.loc (c : Thread nD τ) ↦{fullShare} xb)
        ∗ (iprop(kept c a4 a5 a6 a7 T0 T1 x0 x1 x2 x3
            ∗ owns (c : Thread nD τ) a8 fullShare (outOf i T1 x0 x1 x2 x3)
            ∗ (scM.view.loc (c : Thread nD τ) ↦{fullShare} copyOf c x2)
            ∗ (sgM.view.loc (c : Thread nD τ) ↦{fullShare} copyOf' c x3)) -∗ K ⟨⟩))
      ⊢ wp frame (wpE (defs₀ (F := F)) Variants.none c none) Set.univ (body i a4 h4 a5 h5 a6 h6 a7 h7 a8 h8) K := by
  by_cases hc : Copies F i T0 <;> by_cases hu : Used F i T1
  · have hd : ¬Unused F i T1 := fun h => hx.1 h hu
    iintro ⟨Hk, HO, HS0, HS1, HK⟩
    iapply ((runA c i a4 h4 a5 h5 a6 h6 a7 h7 a8 h8 T0 T1 x0 x1 x2 x3 hc hu hd).2.2.2 xa xb _)
    isplitl [Hk]; · iexact Hk
    isplitl [HO]; · iexact HO
    isplitl [HS0]; · iexact HS0
    isplitl [HS1]; · iexact HS1
    iintro ⟨Hk, ⟨%f, HO⟩, HS0, HS1⟩
    iapply HK
    isplitl [Hk]; · iexact Hk
    isplitl [HO]
    · unfold owns; iexists _; isplitr; swap
      · iexact HO
      · ipureintro
        rw [outA c i a4 h4 a5 h5 a6 h6 a7 h7 a8 h8 T0 T1 x0 x1 x2 x3 hc hu hd]
        unfold outOf
        rw [if_pos hu]
    isplitl [HS0]
    · rw [scratchA0 c i a4 h4 a5 h5 a6 h6 a7 h7 a8 h8 T0 T1 x0 x1 x2 x3 hc hu hd]
      iexact HS0
    rw [scratchA1 c i a4 h4 a5 h5 a6 h6 a7 h7 a8 h8 T0 T1 x0 x1 x2 x3 hc hu hd]
    iexact HS1
  · have hd : Unused F i T1 := hx.2 hu
    iintro ⟨Hk, HO, HS0, HS1, HK⟩
    iapply ((runC c i a4 h4 a5 h5 a6 h6 a7 h7 a8 h8 T0 T1 x0 x1 x2 x3 hc hu hd).2.2.2 xa xb _)
    isplitl [Hk]; · iexact Hk
    isplitl [HO]; · iexact HO
    isplitl [HS0]; · iexact HS0
    isplitl [HS1]; · iexact HS1
    iintro ⟨Hk, ⟨%f, HO⟩, HS0, HS1⟩
    iapply HK
    isplitl [Hk]; · iexact Hk
    isplitl [HO]
    · unfold owns; iexists _; isplitr; swap
      · iexact HO
      · ipureintro
        rw [outC c i a4 h4 a5 h5 a6 h6 a7 h7 a8 h8 T0 T1 x0 x1 x2 x3 hc hu hd]
        unfold outOf
        rw [if_neg hu]
    isplitl [HS0]
    · rw [scratchC0 c i a4 h4 a5 h5 a6 h6 a7 h7 a8 h8 T0 T1 x0 x1 x2 x3 hc hu hd]
      iexact HS0
    rw [scratchC1 c i a4 h4 a5 h5 a6 h6 a7 h7 a8 h8 T0 T1 x0 x1 x2 x3 hc hu hd]
    iexact HS1
  · have hd : ¬Unused F i T1 := fun h => hx.1 h hu
    obtain ⟨ea, eb⟩ := hk hc
    iintro ⟨Hk, HO, HS0, HS1, HK⟩
    iapply ((runB c i a4 h4 a5 h5 a6 h6 a7 h7 a8 h8 T0 T1 x0 x1 x2 x3 xa xb hc hu hd).2.2.2 _)
    isplitl [Hk]; · iexact Hk
    isplitl [HO]; · iexact HO
    isplitl [HS0]; · iexact HS0
    isplitl [HS1]; · iexact HS1
    iintro ⟨Hk, ⟨%f, HO⟩, HS0, HS1⟩
    iapply HK
    isplitl [Hk]; · iexact Hk
    isplitl [HO]
    · unfold owns; iexists _; isplitr; swap
      · iexact HO
      · ipureintro
        rw [outB c i a4 h4 a5 h5 a6 h6 a7 h7 a8 h8 T0 T1 x0 x1 x2 x3 xa xb hc hu hd]
        unfold outOf
        rw [if_pos hu]
        rw [ea, eb]
    isplitl [HS0]
    · rw [scratchB0 c i a4 h4 a5 h5 a6 h6 a7 h7 a8 h8 T0 T1 x0 x1 x2 x3 xa xb hc hu hd, ea]
      iexact HS0
    rw [scratchB1 c i a4 h4 a5 h5 a6 h6 a7 h7 a8 h8 T0 T1 x0 x1 x2 x3 xa xb hc hu hd, eb]
    iexact HS1
  · have hd : Unused F i T1 := hx.2 hu
    obtain ⟨ea, eb⟩ := hk hc
    iintro ⟨Hk, HO, HS0, HS1, HK⟩
    iapply ((runD c i a4 h4 a5 h5 a6 h6 a7 h7 a8 h8 T0 T1 x0 x1 x2 x3 xa xb hc hu hd).2.2.2 _)
    isplitl [Hk]; · iexact Hk
    isplitl [HO]; · iexact HO
    isplitl [HS0]; · iexact HS0
    isplitl [HS1]; · iexact HS1
    iintro ⟨Hk, ⟨%f, HO⟩, HS0, HS1⟩
    iapply HK
    isplitl [Hk]; · iexact Hk
    isplitl [HO]
    · unfold owns; iexists _; isplitr; swap
      · iexact HO
      · ipureintro
        rw [outD c i a4 h4 a5 h5 a6 h6 a7 h7 a8 h8 T0 T1 x0 x1 x2 x3 xa xb hc hu hd]
        unfold outOf
        rw [if_neg hu]
    isplitl [HS0]
    · rw [scratchD0 c i a4 h4 a5 h5 a6 h6 a7 h7 a8 h8 T0 T1 x0 x1 x2 x3 xa xb hc hu hd, ea]
      iexact HS0
    rw [scratchD1 c i a4 h4 a5 h5 a6 h6 a7 h7 a8 h8 T0 T1 x0 x1 x2 x3 xa xb hc hu hd, eb]
    iexact HS1

end Cert.Up.Ffn

end
-- ==== Proof.UpTables.lean ====
/- The tables the up projection is steered by: what they must satisfy, the pipeline at them, and which way its body
   goes at a point. -/
module

public import proofs.«01_k».proof.Proof.UpStep
public import Idealize.ShloMosaic.Lib.Pipeline.Kit
public import Idealize.ShloMosaic.Lib.Pipeline.TableIdle
public import Idealize.ShloMosaic.Lib.Affine
public import Idealize.ShloMosaic.Lib.WordCmp

@[expose] public section

set_option maxRecDepth 16384
set_option Elab.async false

noncomputable section

namespace Cert.Up.Ffn

open Cert.Up Cert.Up.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (F) in
/-- The two tables as the pipeline's prefetched contents. -/
def tables (T0 : S41.Idx → BitVec 32) (T1 : S1.Idx → BitVec 32) : pre0.Contents (Elt F) := fun j => match j with
  | ⟨0, _⟩ => T0
  | ⟨1, _⟩ => T1
  | ⟨_ + 2, h⟩ => absurd h (Nat.not_lt.2 (Nat.le_add_left _ _))

/-- Every tile's expert is one of the sixteen, and at least one tile is in use. -/
structure InRange (T0 : S41.Idx → BitVec 32) (T1 : S1.Idx → BitVec 32) : Prop where
  expert : ∀ x, (T0 x).toNat < 16
  used : ∀ x, 1 ≤ (T1 x).toInt

/-- The smaller of a tile's number and the last tile in use is a tile's number, and it is the tile's own if that is in use. -/
theorem minsi_last (n : ℕ) (hn : n < 41) (v : BitVec 32) (hv : 1 ≤ v.toInt) :
    (Scalar.minsi (BitVec.ofNat 32 n) (Scalar.subi v 1#32)).toNat ≤ n := by
  have e0 : (BitVec.ofNat 32 n).toNat = n := by rw [BitVec.toNat_ofNat]; omega
  have e1 : (BitVec.ofNat 32 n).toInt = n := by rw [BitVec.toInt_eq_toNat_of_lt (by omega), e0]
  unfold Scalar.minsi Scalar.subi IntOp.minsi IntOp.subi
  split
  · omega
  · rename_i h
    have hb : v.toNat < 2 ^ 32 := v.isLt
    have h2 : (v - 1#32).toInt = v.toInt - 1 := by
      have := BitVec.toInt_eq_toNat_cond v
      have := BitVec.toInt_eq_toNat_cond (v - 1#32)
      have := BitVec.toNat_sub v 1#32
      have : (1#32).toNat = 1 := rfl
      split at * <;> split at * <;> omega
    have h3 : (v - 1#32).toInt ≤ (BitVec.ofNat 32 n).toInt := by
      have : ¬ (BitVec.ofNat 32 n).toInt < (v - 1#32).toInt := by
        simpa [BitVec.slt] using h
      omega
    have h4 := BitVec.toInt_eq_toNat_cond (v - 1#32)
    split at h4 <;> omega

/-- A row block's number, and a weight block's, at given tables. -/
theorem row0_le {T0 : S41.Idx → BitVec 32} {T1 : S1.Idx → BitVec 32} (h : InRange T0 T1) (i : grid0.Coords) :
    cc0_transform_0 (F := F) inb_S1_S1_0 numel1_S1 (tables F T0 T1) i 0 ≤ (i 1).val :=
  minsi_last (i 1).val (i 1).isLt _ (h.used _)

theorem row1_le {T0 : S41.Idx → BitVec 32} {T1 : S1.Idx → BitVec 32} (h : InRange T0 T1) (i : grid0.Coords) :
    cc0_transform_1 (F := F) inb_S1_S1_0 numel1_S1 (tables F T0 T1) i 0 ≤ (i 1).val :=
  minsi_last (i 1).val (i 1).isLt _ (h.used _)

theorem expert2_lt {T0 : S41.Idx → BitVec 32} {T1 : S1.Idx → BitVec 32} (h : InRange T0 T1) (i : grid0.Coords) :
    cc0_transform_2 (F := F) k0_off1_inb numel1_S1 (tables F T0 T1) i 0 < 16 := h.expert _

theorem column2_lt {T0 : S41.Idx → BitVec 32} {T1 : S1.Idx → BitVec 32} (i : grid0.Coords) :
    cc0_transform_2 (F := F) k0_off1_inb numel1_S1 (tables F T0 T1) i 2 < 11 := by
  have hi : (i 0).val < 11 := (i 0).isLt
  show (BitVec.ofNat 32 (i 0).val).toNat < 11
  rw [BitVec.toNat_ofNat]
  omega

theorem expert3_lt {T0 : S41.Idx → BitVec 32} {T1 : S1.Idx → BitVec 32} (h : InRange T0 T1) (i : grid0.Coords) :
    cc0_transform_3 (F := F) k0_off1_inb numel1_S1 (tables F T0 T1) i 0 < 16 := h.expert _

theorem column3_lt {T0 : S41.Idx → BitVec 32} {T1 : S1.Idx → BitVec 32} (i : grid0.Coords) :
    cc0_transform_3 (F := F) k0_off1_inb numel1_S1 (tables F T0 T1) i 2 < 11 := by
  have hi : (i 0).val < 11 := (i 0).isLt
  show (BitVec.ofNat 32 (i 0).val).toNat < 11
  rw [BitVec.toNat_ofNat]
  omega

theorem ok_tables {T0 : S41.Idx → BitVec 32} {T1 : S1.Idx → BitVec 32} (h : InRange T0 T1) : ok0 (F := F) (tables F T0 T1) := by
  refine ⟨?_, ?_, ?_, ?_⟩
  · intro i
    refine ⟨?_, .inr (Affine.block_words_dvd (s := S20992x1024) (p := EltTy.packing .bf16) (by decide) (by decide))⟩
    have hi : (i 1).val < 41 := (i 1).isLt
    have key := row0_le (F := F) h i
    intro a
    match a with
    | ⟨0, _⟩ =>
      show (cc0_transform_0 (F := F) inb_S1_S1_0 numel1_S1 (tables F T0 T1) i 0 + 1) * 512 ≤ 20992
      generalize cc0_transform_0 (F := F) inb_S1_S1_0 numel1_S1 (tables F T0 T1) i 0 = k at key ⊢
      omega
    | ⟨1, _⟩ => show (0 + 1) * 1024 ≤ 1024; omega
  · intro i
    refine ⟨?_, .inr (Affine.block_words_dvd (s := S20992x1024) (p := EltTy.packing .bf16) (by decide) (by decide))⟩
    have hi : (i 1).val < 41 := (i 1).isLt
    have key := row1_le (F := F) h i
    intro a
    match a with
    | ⟨0, _⟩ =>
      show (cc0_transform_1 (F := F) inb_S1_S1_0 numel1_S1 (tables F T0 T1) i 0 + 1) * 512 ≤ 20992
      generalize cc0_transform_1 (F := F) inb_S1_S1_0 numel1_S1 (tables F T0 T1) i 0 = k at key ⊢
      omega
    | ⟨1, _⟩ => show (0 + 1) * 1024 ≤ 1024; omega
  · intro i
    refine ⟨?_, .inl rfl⟩
    have key := expert2_lt (F := F) h i
    have key2 := column2_lt (F := F) (T0 := T0) (T1 := T1) i
    intro a
    match a with
    | ⟨0, _⟩ =>
      show (cc0_transform_2 (F := F) k0_off1_inb numel1_S1 (tables F T0 T1) i 0 + 1) * 1 ≤ 16
      generalize cc0_transform_2 (F := F) k0_off1_inb numel1_S1 (tables F T0 T1) i 0 = k at key ⊢
      omega
    | ⟨1, _⟩ => show (0 + 1) * 2048 ≤ 2048; omega
    | ⟨2, _⟩ =>
      show (cc0_transform_2 (F := F) k0_off1_inb numel1_S1 (tables F T0 T1) i 2 + 1) * 512 ≤ 5632
      generalize cc0_transform_2 (F := F) k0_off1_inb numel1_S1 (tables F T0 T1) i 2 = k at key2 ⊢
      omega
  · intro i
    refine ⟨?_, .inl rfl⟩
    have key := expert3_lt (F := F) h i
    have key2 := column3_lt (F := F) (T0 := T0) (T1 := T1) i
    intro a
    match a with
    | ⟨0, _⟩ =>
      show (cc0_transform_3 (F := F) k0_off1_inb numel1_S1 (tables F T0 T1) i 0 + 1) * 1 ≤ 16
      generalize cc0_transform_3 (F := F) k0_off1_inb numel1_S1 (tables F T0 T1) i 0 = k at key ⊢
      omega
    | ⟨1, _⟩ => show (0 + 1) * 2048 ≤ 2048; omega
    | ⟨2, _⟩ =>
      show (cc0_transform_3 (F := F) k0_off1_inb numel1_S1 (tables F T0 T1) i 2 + 1) * 512 ≤ 5632
      generalize cc0_transform_3 (F := F) k0_off1_inb numel1_S1 (tables F T0 T1) i 2 = k at key2 ⊢
      omega

/-! ## The pipeline at given tables -/

variable {T0 : S41.Idx → BitVec 32} {T1 : S1.Idx → BitVec 32} (hr : InRange T0 T1)

variable (F)

def adm : (pcfg0 (F := F)).Adm := ⟨tables F T0 T1, ok_tables hr⟩
abbrev cfgA : Pipeline.Cfg sig Λ₀ := cfg0 (F := F) (adm F hr)
abbrev pcs : Fin 1 → Pipeline.Cfg sig Λ₀ := Pipeline.pin (pcfgs (F := F)) fun _ => adm F hr

variable {F}

variable (m : (ℓ : Loc nD τ sig) → Buf (Elt F) ℓ) (ρ : Dev nD → PrngReg)

/-- A point's coordinates and its staging buffers. -/
abbrev crd (t : Fin (cfgA F hr).N) : (cfgA F hr).grid.Coords := (cfgA F hr).grid.coords t
abbrev stg0 (t : Fin (cfgA F hr).N) : Memref sig .tc .vmem S512x1024 .bf16 := spec0_0.stage ((cfgA F hr).slots t (0 : Fin 5))
abbrev whole0 (t : Fin (cfgA F hr).N) : (stg0 hr t).IsWhole := hstage0_0 (((cfgA F hr).slots t (0 : Fin 5)).cast nbuf0_0)
abbrev stg1 (t : Fin (cfgA F hr).N) : Memref sig .tc .vmem S512x1024 .bf16 := spec0_1.stage ((cfgA F hr).slots t (1 : Fin 5))
abbrev whole1 (t : Fin (cfgA F hr).N) : (stg1 hr t).IsWhole := hstage0_1 (((cfgA F hr).slots t (1 : Fin 5)).cast nbuf0_1)
abbrev stg2 (t : Fin (cfgA F hr).N) : Memref sig .tc .vmem S1x2048x512 .f32 := spec0_2.stage ((cfgA F hr).slots t (2 : Fin 5))
abbrev whole2 (t : Fin (cfgA F hr).N) : (stg2 hr t).IsWhole := hstage0_2 (((cfgA F hr).slots t (2 : Fin 5)).cast nbuf0_2)
abbrev stg3 (t : Fin (cfgA F hr).N) : Memref sig .tc .vmem S1x2048x512 .f32 := spec0_3.stage ((cfgA F hr).slots t (3 : Fin 5))
abbrev whole3 (t : Fin (cfgA F hr).N) : (stg3 hr t).IsWhole := hstage0_3 (((cfgA F hr).slots t (3 : Fin 5)).cast nbuf0_3)
abbrev stg4 (t : Fin (cfgA F hr).N) : Memref sig .tc .vmem S512x512 .bf16 := spec0_4.stage ((cfgA F hr).slots t (4 : Fin 5))
abbrev whole4 (t : Fin (cfgA F hr).N) : (stg4 hr t).IsWhole := hstage0_4 (((cfgA F hr).slots t (4 : Fin 5)).cast nbuf0_4)

/-- A window's block at a point, read off its array at the start. -/
def iblk (c : Dev nD) (w : Fin (cfgA F hr).W) (t : Fin (cfgA F hr).N) : (((cfgA F hr).win w).xblock (crd hr t)).Idx → Elt F ((cfgA F hr).win w).elt :=
  (((cfgA F hr).win w).blk t).view.read (Elt F) ((s₀ m ρ).mem (((cfgA F hr).win w).arr.view.loc (c : Thread nD τ)))

/-! ## Which way the body goes -/

theorem unused_iff (i : grid0.Coords) (T1 : S1.Idx → Elt F .i32) : Unused F i T1 ↔ ¬Used F i T1 := by
  unfold Unused Used k0_cond2 k0_cond3
  generalize wordUsed F T1 = v
  dsimp only
  unfold Scalar.cmpi
  rw [WordCmp.cmpi_slt_eq, WordCmp.cmpi_sge_eq]
  by_cases h : (BitVec.ofNat 32 (i 1).val).toInt < BitVec.toInt v
  · rw [decide_eq_true h, decide_eq_false (by omega)]; decide
  · rw [decide_eq_false h, decide_eq_true (by omega)]; decide

theorem idle4 (t : Fin (cfgA F hr).N) : (cfgA F hr).idle (4 : Fin 5) (crd hr t) = false := by
  show (!(k0_cond2 (crd hr t) ((tables F T0 T1).atD 1 ![0]) == 1#1) && !(k0_cond3 (crd hr t) ((tables F T0 T1).atD 1 ![0]) == 1#1)) = false
  have := unused_iff (crd hr t) (fun _ => (tables F T0 T1).atD 1 ![0])
  change (k0_cond3 (crd hr t) ((tables F T0 T1).atD 1 ![0]) = 1#1 ↔ ¬ k0_cond2 (crd hr t) ((tables F T0 T1).atD 1 ![0]) = 1#1) at this
  by_cases h : k0_cond2 (crd hr t) ((tables F T0 T1).atD 1 ![0]) = 1#1
  · rw [h]; rfl
  · rw [this.2 h]; simp

/-- Beyond the first tile of a column the point before is the column's tile before. -/
theorem tile_before : ∀ t : Fin grid0.N, ((grid0.coords t) 1).val ≠ 0 →
    ∃ h : 0 < t.val, ((grid0.coords (⟨t.val - 1, by omega⟩ : Fin grid0.N)) 0).val = ((grid0.coords t) 0).val
      ∧ k0_off2 (grid0.coords t) 0 = k0_off1 (grid0.coords (⟨t.val - 1, by omega⟩ : Fin grid0.N)) 0 := by
  decide +kernel

theorem flush4 (t : Fin (cfgA F hr).N) : ((cfgA F hr).win (4 : Fin 5)).flush t = true := by
  rw [Window.flush_eq_flushOf]
  have : ∀ t : Fin grid0.N, Window.flushOf grid0 true cc0_transform_4 t = true := by decide +kernel
  exact this t

/-- The point before. -/
abbrev prior (t : Fin (cfgA F hr).N) : Fin (cfgA F hr).N := ⟨t.val - 1, lt_of_le_of_lt (Nat.sub_le _ _) t.isLt⟩

/-- At a point that does not copy the weights the blocks of weights are the point before's. -/
theorem same_block (c : Dev nD) (t : Fin (cfgA F hr).N) (h : ¬Copies F (crd hr t) T0) :
    0 < t.val ∧ iblk hr m ρ c (2 : Fin 5) t = iblk hr m ρ c (2 : Fin 5) (prior hr t)
      ∧ iblk hr m ρ c (3 : Fin 5) t = iblk hr m ρ c (3 : Fin 5) (prior hr t) := by
  have h1 : ((crd hr t) 1).val ≠ 0 := by
    intro e
    apply h
    unfold Copies
    rw [e]
    unfold Scalar.cmpi Scalar.ori
    rw [show IntOp.cmpi .eq (BitVec.ofNat 32 0) 0#32 = 1#1 from rfl]
    generalize IntOp.cmpi .ne (wordHere F (crd hr t) T0) (wordBefore F (crd hr t) T0) = b
    revert b; decide
  have h2 : wordHere F (crd hr t) T0 = wordBefore F (crd hr t) T0 := by
    by_contra e
    apply h
    unfold Copies Scalar.cmpi Scalar.ori
    rw [show IntOp.cmpi .ne (wordHere F (crd hr t) T0) (wordBefore F (crd hr t) T0) = 1#1 from by
      rw [WordCmp.cmpi_ne_eq, decide_eq_true e]; rfl]
    generalize IntOp.cmpi .eq (BitVec.ofNat 32 ((crd hr t) 1).val) 0#32 = b
    revert b; decide
  obtain ⟨h0, hj, ho⟩ := tile_before t h1
  refine ⟨h0, ?_⟩
  have hw : wordHere F (crd hr (prior hr t)) T0 = wordHere F (crd hr t) T0 := by
    rw [h2]
    refine congrArg T0 (funext fun a => Fin.ext ?_)
    fin_cases a
    show k0_off1 _ 0 + 1 * _ = k0_off2 _ 0 + 1 * _
    exact congrArg (· + _) ho.symm
  constructor
  · have hidx : ((cfgA F hr).win (2 : Fin 5)).index t = ((cfgA F hr).win (2 : Fin 5)).index (prior hr t) := by
      show ![(wordHere F (crd hr t) T0).toNat, 0, (BitVec.ofNat 32 ((crd hr t) 0).val).toNat]
        = ![(wordHere F (crd hr (prior hr t)) T0).toNat, 0, (BitVec.ofNat 32 ((crd hr (prior hr t)) 0).val).toNat]
      rw [hw, show ((crd hr (prior hr t)) 0).val = ((crd hr t) 0).val from hj]
    funext x
    unfold iblk
    rw [View.read_apply, View.read_apply]
    refine congrArg (α := S16x2048x5632.Idx) (β := Elt F .f32) (fun u => m ((c : Thread nD τ).loc main_arg4) u) (funext fun a => Fin.ext ?_)
    show ((cfgA F hr).win (2 : Fin 5)).index t a * _ + 1 * _ = ((cfgA F hr).win (2 : Fin 5)).index (prior hr t) a * _ + 1 * _
    rw [hidx]
  · have hidx : ((cfgA F hr).win (3 : Fin 5)).index t = ((cfgA F hr).win (3 : Fin 5)).index (prior hr t) := by
      show ![(wordHere F (crd hr t) T0).toNat, 0, (BitVec.ofNat 32 ((crd hr t) 0).val).toNat]
        = ![(wordHere F (crd hr (prior hr t)) T0).toNat, 0, (BitVec.ofNat 32 ((crd hr (prior hr t)) 0).val).toNat]
      rw [hw, show ((crd hr (prior hr t)) 0).val = ((crd hr t) 0).val from hj]
    funext x
    unfold iblk
    rw [View.read_apply, View.read_apply]
    refine congrArg (α := S16x2048x5632.Idx) (β := Elt F .f32) (fun u => m ((c : Thread nD τ).loc main_arg5) u) (funext fun a => Fin.ext ?_)
    show ((cfgA F hr).win (3 : Fin 5)).index t a * _ + 1 * _ = ((cfgA F hr).win (3 : Fin 5)).index (prior hr t) a * _ + 1 * _
    rw [hidx]

end Cert.Up.Ffn

end
-- ==== Proof.UpFrame.lean ====
/- The up projection, run from a memory whose tables are in range: it ends, its arguments unchanged, its result as the
   pipeline computes it. Between two points the scratch holds the copy of the earlier point's weights. -/
module

public import proofs.«01_k».proof.Proof.UpTables
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Adequacy
public import Idealize.ShloMosaic.Init

@[expose] public section

set_option maxRecDepth 16384
set_option Elab.async false

noncomputable section

namespace Cert.Up.Ffn

open Cert.Up Cert.Up.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The resource algebra of the pipeline's staging cells. -/
abbrev EP : Emb (UR sig nD τ) 𝕄 := emb₁

variable {T0 : S41.Idx → BitVec 32} {T1 : S1.Idx → BitVec 32} (hr : InRange T0 T1)
variable (m : (ℓ : Loc nD τ sig) → Buf (Elt F) ℓ) (ρ : Dev nD → PrngReg)

/-- The memory holds the two tables. -/
structure Placed (T0 : S41.Idx → BitVec 32) (T1 : S1.Idx → BitVec 32) (m : (ℓ : Loc nD τ sig) → Buf (Elt F) ℓ) : Prop where
  expert : ∀ c : Dev nD, m ((c : Thread nD τ).loc main_arg0) = T0
  used : ∀ c : Dev nD, m ((c : Thread nD τ).loc main_arg1) = T1

/-- What the scratches hold before point `n`: after the first point, the copies of the point before's weights. -/
def Held (c : Dev nD) (n : ℕ) (a : Buf (Elt F) ((c : Thread nD τ).loc cc0_scratch0)) (b : Buf (Elt F) ((c : Thread nD τ).loc cc0_scratch1)) : Prop :=
  ∀ k (e : n = k + 1) (h : k < (cfgA F hr).N), a = copyOf c (iblk hr m ρ c (2 : Fin 5) ⟨k, h⟩) ∧ b = copyOf' c (iblk hr m ρ c (3 : Fin 5) ⟨k, h⟩)

/-- The invariant before a point: the scratches, and the body's share of the tables. -/
def Phi (c : Dev nD) (t : Fin ((cfgA F hr).N + 1)) : sProp 𝕄 :=
  iprop((∃ a b, ⌜Held hr m ρ c t.val a b⌝ ∗ (scM.view.loc (c : Thread nD τ) ↦{fullShare} a) ∗ (sgM.view.loc (c : Thread nD τ) ↦{fullShare} b))
    ∗ (teM.view.loc (c : Thread nD τ) ↦{fullShare.right} T0) ∗ (nvM.view.loc (c : Thread nD τ) ↦{fullShare.right} T1))

/-- The pipeline's proof data: each input buffer keeps its block, the result's gets what the body leaves. -/
def dats (_ : Fin 1) (c : Dev nD) : Dat τ (Elt F) Unit ℕ (UR sig nD τ) ℕ (cfgA F hr) c where
  A w := (s₀ m ρ).mem (((cfgA F hr).win w).arr.view.loc (c : Thread nD τ))
  after w t := match w with
    | ⟨0, _⟩ => iblk hr m ρ c (0 : Fin 5) t
    | ⟨1, _⟩ => iblk hr m ρ c (1 : Fin 5) t
    | ⟨2, _⟩ => iblk hr m ρ c (2 : Fin 5) t
    | ⟨3, _⟩ => iblk hr m ρ c (3 : Fin 5) t
    | ⟨4, _⟩ => outOf (crd hr t) T1 (iblk hr m ρ c (0 : Fin 5) t) (iblk hr m ρ c (1 : Fin 5) t) (iblk hr m ρ c (2 : Fin 5) t) (iblk hr m ρ c (3 : Fin 5) t)
  Φ t := Phi hr m ρ c t
  q _ := fullShare
  owed _ := 0

theorem after0 (c : Dev nD) (t : Fin (cfgA F hr).N) : (dats hr m ρ 0 c).after (0 : Fin 5) t = iblk hr m ρ c (0 : Fin 5) t := rfl
theorem after1 (c : Dev nD) (t : Fin (cfgA F hr).N) : (dats hr m ρ 0 c).after (1 : Fin 5) t = iblk hr m ρ c (1 : Fin 5) t := rfl
theorem after2 (c : Dev nD) (t : Fin (cfgA F hr).N) : (dats hr m ρ 0 c).after (2 : Fin 5) t = iblk hr m ρ c (2 : Fin 5) t := rfl
theorem after3 (c : Dev nD) (t : Fin (cfgA F hr).N) : (dats hr m ρ 0 c).after (3 : Fin 5) t = iblk hr m ρ c (3 : Fin 5) t := rfl
theorem after4 (c : Dev nD) (t : Fin (cfgA F hr).N) : (dats hr m ρ 0 c).after (4 : Fin 5) t
    = outOf (crd hr t) T1 (iblk hr m ρ c (0 : Fin 5) t) (iblk hr m ρ c (1 : Fin 5) t) (iblk hr m ρ c (2 : Fin 5) t) (iblk hr m ρ c (3 : Fin 5) t) := rfl

/-- An input's buffer holds its block when the body runs, fetched at the point or kept from before. -/
theorem before0 (c : Dev nD) (t : Fin (cfgA F hr).N) (d) : (dats hr m ρ 0 c).before (0 : Fin 5) t d = iblk hr m ρ c (0 : Fin 5) t :=
  ((dats hr m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA F hr).N) (d) : (dats hr m ρ 0 c).before (1 : Fin 5) t d = iblk hr m ρ c (1 : Fin 5) t :=
  ((dats hr m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA F hr).N) (d) : (dats hr m ρ 0 c).before (2 : Fin 5) t d = iblk hr m ρ c (2 : Fin 5) t :=
  ((dats hr m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA F hr).N) (d) : (dats hr m ρ 0 c).before (3 : Fin 5) t d = iblk hr m ρ c (3 : Fin 5) t :=
  ((dats hr m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- What the scratches hold at a point that keeps them are the copies of the point's own weights. -/
theorem held_here (c : Dev nD) (t : Fin (cfgA F hr).N) (a b) (ha : Held hr m ρ c t.val a b) (h : ¬Copies F (crd hr t) T0) :
    a = copyOf c (iblk hr m ρ c (2 : Fin 5) t) ∧ b = copyOf' c (iblk hr m ρ c (3 : Fin 5) t) := by
  obtain ⟨h0, e2, e3⟩ := same_block hr m ρ c t h
  rw [e2, e3]
  exact ha (t.val - 1) (by omega) (lt_of_le_of_lt (Nat.sub_le _ _) t.isLt)

theorem held_next (c : Dev nD) (t : Fin (cfgA F hr).N) : Held hr m ρ c (t.val + 1) (copyOf c (iblk hr m ρ c (2 : Fin 5) t)) (copyOf' c (iblk hr m ρ c (3 : Fin 5) t)) := by
  intro k e h
  obtain rfl : t = ⟨k, h⟩ := Fin.ext (by simpa using e)
  exact ⟨rfl, rfl⟩

set_option maxHeartbeats 4000000 in
/-- The body at a point, from the invariant to the invariant. -/
theorem sound_body (c : Dev nD) (t : Fin (cfgA F hr).N) :
    iprop((dats hr m ρ 0 c).Φ t.castSucc ∗ (dats hr m ρ 0 c).owesAt () t.castSucc
        ∗ (∃ d, owns (c : Thread nD τ) (stg0 hr t) fullShare ((dats hr m ρ 0 c).before (0 : Fin 5) t d))
        ∗ (∃ d, owns (c : Thread nD τ) (stg1 hr t) fullShare ((dats hr m ρ 0 c).before (1 : Fin 5) t d))
        ∗ (∃ d, owns (c : Thread nD τ) (stg2 hr t) fullShare ((dats hr m ρ 0 c).before (2 : Fin 5) t d))
        ∗ (∃ d, owns (c : Thread nD τ) (stg3 hr t) fullShare ((dats hr m ρ 0 c).before (3 : Fin 5) t d))
        ∗ (∃ d, owns (c : Thread nD τ) (stg4 hr t) fullShare ((dats hr m ρ 0 c).before (4 : Fin 5) t d)))
      ⊢ wp frame (wpE (defs₀ (F := F)) Variants.none c none) Set.univ
          (body (crd hr t) (stg0 hr t) (whole0 hr t) (stg1 hr t) (whole1 hr t) (stg2 hr t) (whole2 hr t) (stg3 hr t) (whole3 hr t) (stg4 hr t) (whole4 hr t)) fun _ =>
          iprop((dats hr m ρ 0 c).Φ t.succ ∗ (dats hr m ρ 0 c).owesAt () t.succ
            ∗ bigSep Finset.univ fun w : Fin (cfgA F hr).W =>
                match (cfgA F hr).idle w ((cfgA F hr).grid.coords t) with
                | true =>
                  match ((cfgA F hr).win w).flush t with
                  | false => iprop(∃ d, owns (c : Thread nD τ) (((cfgA F hr).win w).stage ((cfgA F hr).slots t w)) fullShare ((dats hr m ρ 0 c).before w t d))
                  | true => owns (c : Thread nD τ) (((cfgA F hr).win w).stage ((cfgA F hr).slots t w)) fullShare ((dats hr m ρ 0 c).after w t)
                | false => owns (c : Thread nD τ) (((cfgA F hr).win w).stage ((cfgA F hr).slots t w)) fullShare ((dats hr m ρ 0 c).after w t)) := by
  rw [bigSep_W0]
  rewrite [idle4 hr t]
  simp only [before0, before1, before2, before3, after0, after1, after2, after3, after4]
  rewrite [show (dats hr m ρ 0 c).Φ t.succ = Phi hr m ρ c t.succ from rfl, show (dats hr m ρ 0 c).Φ t.castSucc = Phi hr m ρ c t.castSucc from rfl,
    show (dats hr m ρ 0 c).owesAt () t.succ = (dats hr m ρ 0 c).owesAt () t.castSucc from rfl]
  unfold Phi; simp only [Fin.val_castSucc, Fin.val_succ]
  iintro ⟨⟨⟨%a0, %b0, %ha0, HS0, HS1⟩, HT0, HT1⟩, Ho, ⟨%d0, H0⟩, ⟨%d1, H1⟩, ⟨%d2, H2⟩, ⟨%d3, H3⟩, ⟨%d4, H4⟩⟩
  iapply (step c (crd hr t) (stg0 hr t) (whole0 hr t) (stg1 hr t) (whole1 hr t) (stg2 hr t) (whole2 hr t) (stg3 hr t) (whole3 hr t) (stg4 hr t) (whole4 hr t) T0 T1
    (iblk hr m ρ c (0 : Fin 5) t) (iblk hr m ρ c (1 : Fin 5) t) (iblk hr m ρ c (2 : Fin 5) t) (iblk hr m ρ c (3 : Fin 5) t) a0 b0 (held_here hr m ρ c t a0 b0 ha0) (unused_iff _ _) _)
  unfold kept
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists _; iexact H4
  isplitl [HS0]; · iexact HS0
  isplitl [HS1]; · iexact HS1
  iintro ⟨⟨H0, H1, H2, H3, HT0, HT1⟩, H4, HS0, HS1⟩
  isplitl [HS0 HS1 HT0 HT1]
  · isplitl [HS0 HS1]
    · iexists _; iexists _; isplitr; swap
      · isplitl [HS0]; · iexact HS0
        iexact HS1
      · ipureintro; exact held_next hr m ρ c t
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexact H4

theorem body_obligation (c : Dev nD) : BodyObligation (dats hr m ρ 0 c) (defs₀ (F := F)) Variants.none () Set.univ := fun t => by
  rw [bigSep_W0]
  exact sound_body hr m ρ c t

/-! ## The launch -/

variable (F) in
/-- The launch's element of the staging cells' algebra. -/
def u₀ : UR sig nD τ :=
  initOf (Pipeline.cells (pcs F hr) ((launch0 (F := F)).cellOf_inj fun _ => adm F hr))
    (Pipeline.launchToks (pcs F hr) ((launch0 (F := F)).cellOf_inj fun _ => adm F hr))

theorem share_eq (c : Dev nD) (w : Fin (cfgA F hr).W) : (dats hr m ρ 0 c).share w = fullShare := by unfold Dat.share; split <;> rfl

/-- The two tables, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant holds at the start, -/
theorem phi0_intro (c : Dev nD) :
    iprop(BI.emp ∗ Pipeline.prefHeld pre0 c (fun _ => fullShare.right) (adm F hr).1 ∗ Pipeline.scopedRest spec0 c) ⊢ (dats hr m ρ 0 c).Φ 0 := by
  rw [prefHeld_eq, scopedRest0_eq, show (dats hr m ρ 0 c).Φ 0 = Phi hr m ρ c 0 from rfl]
  unfold Phi
  iintro ⟨-, ⟨HT0, HT1⟩, ⟨%a0, HS0⟩, ⟨%b0, HS1⟩⟩
  isplitl [HS0 HS1]
  · iexists a0; iexists b0; isplitr; swap
    · isplitl [HS0]; · iexact HS0
      iexact HS1
    · ipureintro; exact fun n hn => absurd hn (Nat.succ_ne_zero n).symm
  isplitl [HT0]
  · iexact HT0
  iexact HT1

/-- and at the end it gives the scratches back. -/
theorem phiN_exit (c : Dev nD) : (dats hr m ρ 0 c).Φ (Fin.last (cfgA F hr).N) ⊢ iprop(BI.emp ∗ Pipeline.scopedRest spec0 c) := by
  rw [scopedRest0_eq, show (dats hr m ρ 0 c).Φ (Fin.last (cfgA F hr).N) = Phi hr m ρ c (Fin.last _) from rfl]
  unfold Phi
  iintro ⟨⟨%a0, %b0, -, HS0, HS1⟩, -, -⟩
  isplitr; · iempintro
  isplitl [HS0]
  · iexists a0; iexact HS0
  iexists b0; iexact HS1

/-- The final state: each array as computed, each table as it was. -/
def QC : PUnit × MemSt nD τ sig (Elt F) → Prop := fun r =>
  ∀ c : Dev nD, (∀ w : Fin (cfgA F hr).W, r.2.mem (((cfgA F hr).win w).arr.view.loc (c : Thread nD τ)) = (dats hr m ρ 0 c).arrAt w (cfgA F hr).N)
    ∧ ∀ j, r.2.mem ((c : Thread nD τ).loc (pre0.ref j)) = (adm F hr).1 j

theorem V_pre (hp : Placed T0 T1 m) (c : Dev nD) (j : Fin 2) : m ((c : Thread nD τ).loc (pre0.ref j)) = (adm F hr).1 j := by
  fin_cases j
  · exact hp.expert c
  · exact hp.used c

set_option backward.isDefEq.respectTransparency.types false in
set_option maxHeartbeats 4000000 in
/-- Every run ends, with each array as computed and every semaphore at zero. -/
theorem run_main_quiescent (hp : Placed T0 T1 m) : θ_run (defs (F := F)) (onTc (τ := τ) (main (F := F))) (s₀ m ρ) (fun r => QC hr m ρ r ∧ r.2.sem = fun _ => 0) :=
  Pipeline.θ_run_region_noSem_pf_quiescent pcfgs (fun _ => adm F hr) (dats hr m ρ) () ((launch0 (F := F)).cellOf_inj fun _ => adm F hr) (0 : Fin 1)
    (launch0 (F := F)).win.to₀ (launch0 (F := F)).pre EP defs₀ Variants.none m ρ main
    (hbody := fun c => (body_obligation hr m ρ c).loose) (hne := (launch0 (F := F)).block_pos)
    (harr := (launch0 (F := F)).arr_whole) (hstage := (launch0 (F := F)).stage_whole) (howed := fun _ _ => rfl)
    (u₀ := u₀ F hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs F hr) (dats hr m ρ) 0 (launch0 (F := F)).win.arr_inj c (launch0 (F := F)).arr_whole
      (share_eq hr m ρ c) _ _ fun _ => rfl)
    (hpf := V_pre hr m hp)
    (X := fun _ => iprop(emp)) (Y := fun _ => iprop(emp)) (Z := fun _ => iprop(emp))
    (hX := fun c => by rw [unscopedRestP0_eq]; iintro -; isplitr <;> iempintro)
    (hin := phi0_intro hr m ρ)
    (hout := phiN_exit hr m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the semaphores. -/
theorem run_main (hp : Placed T0 T1 m) : θ_run (defs (F := F)) (onTc (τ := τ) (main (F := F))) (s₀ m ρ) (QC hr m ρ) :=
  (θ_run defs _ _).mono (fun _ h => h.1) (run_main_quiescent hr m ρ hp)

include hr in
/-- The argument arrays end unchanged, -/
theorem unchanged (hp : Placed T0 T1 m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.expert c).symm, ((h c).2 1).trans (hp.used c).symm, ((h c).1 (0 : Fin 5)).trans ((dats hr m ρ 0 c).arrAt_in (0 : Fin 5) rfl _), ((h c).1 (1 : Fin 5)).trans ((dats hr m ρ 0 c).arrAt_in (1 : Fin 5) rfl _), ((h c).1 (2 : Fin 5)).trans ((dats hr m ρ 0 c).arrAt_in (2 : Fin 5) rfl _), ((h c).1 (3 : Fin 5)).trans ((dats hr m ρ 0 c).arrAt_in (3 : Fin 5) rfl _)⟩) (run_main hr m ρ hp)

include hr in
/-- and every semaphore ends at zero. -/
theorem frame (hp : Placed T0 T1 m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged hr m ρ hp) ((θ_run defs _ _).mono (fun _ h => h.2) (run_main_quiescent hr m ρ hp))

end Cert.Up.Ffn

end
-- ==== Proof.UpVal.lean ====
/- The up projection's result array, entry by entry. -/
module

public import proofs.«01_k».proof.Proof.UpFrame
public import proofs.«01_k».proof.Proof.DownVal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Up.Ffn

open Cert.Up Cert.Up.Gen
open Idealize.ShloMosaic.Pipeline (Dat Cfg Window)

open Cert.Down.Ffn (tileOf minsi_own)

/-- Row `r`, held in two halves, times column `f` of the matrix of its tile's expert. -/
def contract (T0 : S41.Idx → BitVec 32) (h0 : ∀ x, (T0 x).toNat < 16) (A B : S20992x1024.Idx → EReal)
    (W : S16x2048x5632.Idx → EReal) (r : Fin 20992) (f : Fin 5632) : EReal :=
  (∑ k : Fin 1024, A (ix2 r k) * W (ix3 ⟨(T0 (ix1 (tileOf r))).toNat, h0 _⟩ ⟨k.val, by omega⟩ f))
    + ∑ k : Fin 1024, B (ix2 r k) * W (ix3 ⟨(T0 (ix1 (tileOf r))).toNat, h0 _⟩ ⟨1024 + k.val, by omega⟩ f)

/-- Row `r`, column `f` of the experts' gated hidden rows: zero beyond the tiles in use. -/
def hiddenAt (T0 : S41.Idx → BitVec 32) (T1 : S1.Idx → BitVec 32) (h0 : ∀ x, (T0 x).toNat < 16) (A B : S20992x1024.Idx → EReal)
    (W W' : S16x2048x5632.Idx → EReal) (r : Fin 20992) (f : Fin 5632) : EReal :=
  if ((tileOf r).val : ℤ) < (T1 (ix1 0)).toInt then
    contract T0 h0 A B W r f * Ideal.logistic (contract T0 h0 A B W r f) * contract T0 h0 A B W' r f
  else 0

theorem copied_at (x : Vec Ideal S1x2048x512 .f32) (k : Fin 2048) (d : Fin 512) :
    k0_pay1 (F := Ideal) x (ix2 k d) = x (ix3 0 k d) := by
  pointwise [k0_pay1]

theorem copied_at' (x : Vec Ideal S1x2048x512 .f32) (k : Fin 2048) (d : Fin 512) :
    k0_pay2 (F := Ideal) x (ix2 k d) = x (ix3 0 k d) := by
  pointwise [k0_pay2]

theorem upper_at (w : S2048x512.Idx → EReal) (k : Fin 1024) (d : Fin 512) : upper (F := Ideal) w (ix2 k d) = w (ix2 ⟨k.val, by omega⟩ d) := by
  refine congrArg w (funext fun a => Fin.ext ?_)
  match a with
  | ⟨0, _⟩ => show 0 + 1 * k.val = k.val; omega
  | ⟨1, _⟩ => show 0 + 1 * d.val = d.val; omega

theorem lower_at (w : S2048x512.Idx → EReal) (k : Fin 1024) (d : Fin 512) : lower (F := Ideal) w (ix2 k d) = w (ix2 ⟨1024 + k.val, by omega⟩ d) := by
  refine congrArg w (funext fun a => Fin.ext ?_)
  match a with
  | ⟨0, _⟩ => show 1024 + 1 * k.val = 1024 + k.val; omega
  | ⟨1, _⟩ => show 0 + 1 * d.val = d.val; omega

/-- A row in two halves times a column in two halves. -/
def halves (a b : S512x1024.Idx → EReal) (u v : S1024x512.Idx → EReal) (r d : Fin 512) : EReal :=
  (∑ k : Fin 1024, a (ix2 r k) * u (ix2 k d)) + ∑ k : Fin 1024, b (ix2 r k) * v (ix2 k d)

theorem gate_at (a b : Vec Ideal S512x1024 .bf16) (u v u' v' : Vec Ideal S1024x512 .bf16) (r d : Fin 512) :
    k0_pay3 (F := Ideal) a b u v u' v' (ix2 r d)
      = halves a b u v r d * Ideal.logistic (halves a b u v r d) * halves a b u' v' r d := by
  pointwise [k0_pay3, halves]

theorem zero_at (r d : Fin 512) : k0_pay4 (F := Ideal) (ix2 r d) = 0 := by
  pointwise [k0_pay4]

theorem used_iff (i : grid0.Coords) (T1 : S1.Idx → BitVec 32) : Used Ideal i T1 ↔ ((i 1).val : ℤ) < (T1 (ix1 0)).toInt := by
  have hw : wordUsed Ideal T1 = T1 (ix1 0) := congrArg T1 (funext fun a => Fin.ext (by match a with | ⟨0, _⟩ => rfl))
  have h1 : (BitVec.ofNat 32 (i 1).val).toInt = (i 1).val := by
    have hi : (i 1).val < 41 := (i 1).isLt
    rw [BitVec.toInt_eq_toNat_of_lt (by rw [BitVec.toNat_ofNat]; omega), BitVec.toNat_ofNat]; omega
  unfold Used k0_cond2
  rw [hw]
  generalize T1 (ix1 0) = v
  dsimp only
  unfold Scalar.cmpi
  rw [WordCmp.cmpi_slt_eq, h1]
  by_cases h : ((i 1).val : ℤ) < v.toInt
  · rw [decide_eq_true h]; exact ⟨fun _ => h, fun _ => rfl⟩
  · rw [decide_eq_false h]; exact ⟨fun e => absurd e (by decide), fun e => absurd e h⟩

variable {T0 : S41.Idx → BitVec 32} {T1 : S1.Idx → BitVec 32} (hr : InRange T0 T1)
variable (m : (ℓ : Loc nD τ sig) → Buf (Elt Ideal) ℓ) (ρ : Dev nD → PrngReg)

/-- The two halves of the rows and the experts' two matrices. -/
def argA (c : Dev nD) : S20992x1024.Idx → EReal := m ((c : Thread nD τ).loc main_arg2)
def argB (c : Dev nD) : S20992x1024.Idx → EReal := m ((c : Thread nD τ).loc main_arg3)
def argW (c : Dev nD) : S16x2048x5632.Idx → EReal := m ((c : Thread nD τ).loc main_arg4)
def argW' (c : Dev nD) : S16x2048x5632.Idx → EReal := m ((c : Thread nD τ).loc main_arg5)

/-- At a tile in use the block of rows is the tile's own. -/
theorem rows_at0 (c : Dev nD) (t : Fin (cfgA Ideal hr).N) (hu : ((crd hr t 1).val : ℤ) < (T1 (ix1 0)).toInt) (r : Fin 512) (k : Fin 1024) (e : Fin 20992)
    (he : e.val = 512 * (crd hr t 1).val + r.val) :
    iblk hr m ρ c (0 : Fin 5) t (ix2 r k : S512x1024.Idx) = argA m c (ix2 e k) := by
  unfold iblk
  rw [View.read_apply]
  refine congrArg (α := S20992x1024.Idx) (β := EReal) (fun u => m ((c : Thread nD τ).loc main_arg2) u) (funext fun a => Fin.ext ?_)
  have hw : wordUsed Ideal T1 = T1 (ix1 0) := congrArg T1 (funext fun a => Fin.ext (by match a with | ⟨0, _⟩ => rfl))
  have key : ((cfgA Ideal hr).win (0 : Fin 5)).index t 0 = (crd hr t 1).val := by
    show (Scalar.minsi (BitVec.ofNat 32 (crd hr t 1).val) (Scalar.subi (wordUsed Ideal T1) 1#32)).toNat = _
    rw [hw]
    exact minsi_own _ (crd hr t 1).isLt _ hu
  match a with
  | ⟨0, _⟩ =>
    show ((cfgA Ideal hr).win (0 : Fin 5)).index t 0 * 512 + 1 * r.val = e.val
    rw [key]; omega
  | ⟨1, _⟩ =>
    show 0 * 1024 + 1 * k.val = k.val
    omega

/-- At a tile in use the block of rows is the tile's own. -/
theorem rows_at1 (c : Dev nD) (t : Fin (cfgA Ideal hr).N) (hu : ((crd hr t 1).val : ℤ) < (T1 (ix1 0)).toInt) (r : Fin 512) (k : Fin 1024) (e : Fin 20992)
    (he : e.val = 512 * (crd hr t 1).val + r.val) :
    iblk hr m ρ c (1 : Fin 5) t (ix2 r k : S512x1024.Idx) = argB m c (ix2 e k) := by
  unfold iblk
  rw [View.read_apply]
  refine congrArg (α := S20992x1024.Idx) (β := EReal) (fun u => m ((c : Thread nD τ).loc main_arg3) u) (funext fun a => Fin.ext ?_)
  have hw : wordUsed Ideal T1 = T1 (ix1 0) := congrArg T1 (funext fun a => Fin.ext (by match a with | ⟨0, _⟩ => rfl))
  have key : ((cfgA Ideal hr).win (1 : Fin 5)).index t 0 = (crd hr t 1).val := by
    show (Scalar.minsi (BitVec.ofNat 32 (crd hr t 1).val) (Scalar.subi (wordUsed Ideal T1) 1#32)).toNat = _
    rw [hw]
    exact minsi_own _ (crd hr t 1).isLt _ hu
  match a with
  | ⟨0, _⟩ =>
    show ((cfgA Ideal hr).win (1 : Fin 5)).index t 0 * 512 + 1 * r.val = e.val
    rw [key]; omega
  | ⟨1, _⟩ =>
    show 0 * 1024 + 1 * k.val = k.val
    omega

/-- The block of weights is a column block of the tile's expert. -/
theorem weights_at2 (c : Dev nD) (t : Fin (cfgA Ideal hr).N) (k : Fin 2048) (d : Fin 512) (x : Fin 16) (e : Fin 5632)
    (hx : x.val = (T0 (ix1 (crd hr t 1))).toNat) (he : e.val = 512 * (crd hr t 0).val + d.val) :
    iblk hr m ρ c (2 : Fin 5) t (ix3 0 k d : S1x2048x512.Idx) = argW m c (ix3 x k e) := by
  unfold iblk
  rw [View.read_apply]
  refine congrArg (α := S16x2048x5632.Idx) (β := EReal) (fun u => m ((c : Thread nD τ).loc main_arg4) u) (funext fun a => Fin.ext ?_)
  have h0 : (crd hr t 0).val < 11 := (crd hr t 0).isLt
  have h1 : (crd hr t 1).val < 41 := (crd hr t 1).isLt
  have hw : wordHere Ideal (crd hr t) T0 = T0 (ix1 (crd hr t 1)) := by
    refine congrArg T0 (funext fun a => Fin.ext ?_)
    match a with
    | ⟨0, _⟩ =>
      show (BitVec.ofNat 32 (crd hr t 1).val).toNat + 1 * 0 = (crd hr t 1).val
      rw [BitVec.toNat_ofNat]; omega
  match a with
  | ⟨0, _⟩ =>
    show (wordHere Ideal (crd hr t) T0).toNat * 1 + 1 * 0 = x.val
    rw [hw]; omega
  | ⟨1, _⟩ =>
    show 0 * 2048 + 1 * k.val = k.val
    omega
  | ⟨2, _⟩ =>
    show (BitVec.ofNat 32 (crd hr t 0).val).toNat * 512 + 1 * d.val = e.val
    rw [BitVec.toNat_ofNat]; omega

/-- The block of weights is a column block of the tile's expert. -/
theorem weights_at3 (c : Dev nD) (t : Fin (cfgA Ideal hr).N) (k : Fin 2048) (d : Fin 512) (x : Fin 16) (e : Fin 5632)
    (hx : x.val = (T0 (ix1 (crd hr t 1))).toNat) (he : e.val = 512 * (crd hr t 0).val + d.val) :
    iblk hr m ρ c (3 : Fin 5) t (ix3 0 k d : S1x2048x512.Idx) = argW' m c (ix3 x k e) := by
  unfold iblk
  rw [View.read_apply]
  refine congrArg (α := S16x2048x5632.Idx) (β := EReal) (fun u => m ((c : Thread nD τ).loc main_arg5) u) (funext fun a => Fin.ext ?_)
  have h0 : (crd hr t 0).val < 11 := (crd hr t 0).isLt
  have h1 : (crd hr t 1).val < 41 := (crd hr t 1).isLt
  have hw : wordHere Ideal (crd hr t) T0 = T0 (ix1 (crd hr t 1)) := by
    refine congrArg T0 (funext fun a => Fin.ext ?_)
    match a with
    | ⟨0, _⟩ =>
      show (BitVec.ofNat 32 (crd hr t 1).val).toNat + 1 * 0 = (crd hr t 1).val
      rw [BitVec.toNat_ofNat]; omega
  match a with
  | ⟨0, _⟩ =>
    show (wordHere Ideal (crd hr t) T0).toNat * 1 + 1 * 0 = x.val
    rw [hw]; omega
  | ⟨1, _⟩ =>
    show 0 * 2048 + 1 * k.val = k.val
    omega
  | ⟨2, _⟩ =>
    show (BitVec.ofNat 32 (crd hr t 0).val).toNat * 512 + 1 * d.val = e.val
    rw [BitVec.toNat_ofNat]; omega

/-- A point's product with a block of the first weights, and of the second. -/
theorem halves_at (c : Dev nD) (t : Fin (cfgA Ideal hr).N) (hu : ((crd hr t 1).val : ℤ) < (T1 (ix1 0)).toInt) (r d : Fin 512) (e : Fin 20992) (f : Fin 5632)
    (he : e.val = 512 * (crd hr t 1).val + r.val) (hf : f.val = 512 * (crd hr t 0).val + d.val) :
    halves (iblk hr m ρ c (0 : Fin 5) t) (iblk hr m ρ c (1 : Fin 5) t)
        (upper (F := Ideal) (k0_pay1 (F := Ideal) (iblk hr m ρ c (2 : Fin 5) t))) (lower (F := Ideal) (k0_pay1 (F := Ideal) (iblk hr m ρ c (2 : Fin 5) t))) r d
      = contract T0 hr.expert (argA m c) (argB m c) (argW m c) e f := by
  have h1 : (crd hr t 1).val < 41 := (crd hr t 1).isLt
  have ht : crd hr t 1 = tileOf e := Fin.ext (by show (crd hr t 1).val = e.val / 512; omega)
  unfold halves contract
  congr 1
  · refine Finset.sum_congr rfl fun k _ => ?_
    rw [upper_at, copied_at, weights_at2 hr m ρ c t _ d ⟨_, hr.expert (ix1 (tileOf e))⟩ f (by rw [ht]) hf, rows_at0 hr m ρ c t hu r k e he]
  · refine Finset.sum_congr rfl fun k _ => ?_
    rw [lower_at, copied_at, weights_at2 hr m ρ c t _ d ⟨_, hr.expert (ix1 (tileOf e))⟩ f (by rw [ht]) hf, rows_at1 hr m ρ c t hu r k e he]

theorem halves_at' (c : Dev nD) (t : Fin (cfgA Ideal hr).N) (hu : ((crd hr t 1).val : ℤ) < (T1 (ix1 0)).toInt) (r d : Fin 512) (e : Fin 20992) (f : Fin 5632)
    (he : e.val = 512 * (crd hr t 1).val + r.val) (hf : f.val = 512 * (crd hr t 0).val + d.val) :
    halves (iblk hr m ρ c (0 : Fin 5) t) (iblk hr m ρ c (1 : Fin 5) t)
        (upper (F := Ideal) (k0_pay2 (F := Ideal) (iblk hr m ρ c (3 : Fin 5) t))) (lower (F := Ideal) (k0_pay2 (F := Ideal) (iblk hr m ρ c (3 : Fin 5) t))) r d
      = contract T0 hr.expert (argA m c) (argB m c) (argW' m c) e f := by
  have h1 : (crd hr t 1).val < 41 := (crd hr t 1).isLt
  have ht : crd hr t 1 = tileOf e := Fin.ext (by show (crd hr t 1).val = e.val / 512; omega)
  unfold halves contract
  congr 1
  · refine Finset.sum_congr rfl fun k _ => ?_
    rw [upper_at, copied_at', weights_at3 hr m ρ c t _ d ⟨_, hr.expert (ix1 (tileOf e))⟩ f (by rw [ht]) hf, rows_at0 hr m ρ c t hu r k e he]
  · refine Finset.sum_congr rfl fun k _ => ?_
    rw [lower_at, copied_at', weights_at3 hr m ρ c t _ d ⟨_, hr.expert (ix1 (tileOf e))⟩ f (by rw [ht]) hf, rows_at1 hr m ρ c t hu r k e he]

/-- What one point leaves at row `r` and column `d` of its block. -/
theorem point (c : Dev nD) (t : Fin (cfgA Ideal hr).N) (r d : Fin 512) (e : Fin 20992) (f : Fin 5632)
    (he : e.val = 512 * (crd hr t 1).val + r.val) (hf : f.val = 512 * (crd hr t 0).val + d.val) :
    outOf (crd hr t) T1 (iblk hr m ρ c (0 : Fin 5) t) (iblk hr m ρ c (1 : Fin 5) t) (iblk hr m ρ c (2 : Fin 5) t) (iblk hr m ρ c (3 : Fin 5) t) (ix2 r d)
      = hiddenAt T0 T1 hr.expert (argA m c) (argB m c) (argW m c) (argW' m c) e f := by
  have h1 : (crd hr t 1).val < 41 := (crd hr t 1).isLt
  have ht : crd hr t 1 = tileOf e := Fin.ext (by show (crd hr t 1).val = e.val / 512; omega)
  unfold outOf hiddenAt
  by_cases hu : ((crd hr t 1).val : ℤ) < (T1 (ix1 0)).toInt
  · have hu' : ((tileOf e).val : ℤ) < (T1 (ix1 0)).toInt := ht ▸ hu
    rw [if_pos ((used_iff _ _).2 hu), if_pos hu']
    unfold gated
    rw [gate_at, halves_at hr m ρ c t hu r d e f he hf, halves_at' hr m ρ c t hu r d e f he hf]
  · have hu' : ¬((tileOf e).val : ℤ) < (T1 (ix1 0)).toInt := ht ▸ hu
    rw [if_neg (fun h => hu ((used_iff _ _).1 h)), if_neg hu', zero_at]

/-- The point of tile `i` and column block `j`. -/
theorem point_of : ∀ (i : Fin 41) (j : Fin 11), ∃ t : Fin grid0.N, (grid0.coords t 1).val = i.val ∧ (grid0.coords t 0).val = j.val := by
  decide +kernel

/-- The result array. -/
theorem result (c : Dev nD) :
    (dats hr m ρ 0 c).arrAt (4 : Fin 5) (cfgA Ideal hr).N
      = fun u : S20992x5632.Idx => hiddenAt T0 T1 hr.expert (argA m c) (argB m c) (argW m c) (argW' m c) (u 0) (u 1) := by
  refine (dats hr m ρ 0 c).arrAt_eq_of_emb (4 : Fin 5) _ (fun t hf y => ?_) ?_
  · have h0 : (crd hr t 0).val < 11 := (crd hr t 0).isLt
    have h1 : (crd hr t 1).val < 41 := (crd hr t 1).isLt
    have ly0 : (y 0).val < 512 := (y 0).isLt
    have ly1 : (y 1).val < 512 := (y 1).isLt
    have e : (((cfgA Ideal hr).win (4 : Fin 5)).blk t).view.emb y
        = (ix2 (⟨512 * (crd hr t 1).val + (y 0).val, by omega⟩ : Fin 20992) (⟨512 * (crd hr t 0).val + (y 1).val, by omega⟩ : Fin 5632) : S20992x5632.Idx) := by
      funext a
      refine Fin.ext ?_
      match a with
      | ⟨0, _⟩ =>
        show (BitVec.ofNat 32 (crd hr t 1).val).toNat * 512 + 1 * (y 0).val = 512 * (crd hr t 1).val + (y 0).val
        rw [BitVec.toNat_ofNat]; omega
      | ⟨1, _⟩ =>
        show (BitVec.ofNat 32 (crd hr t 0).val).toNat * 512 + 1 * (y 1).val = 512 * (crd hr t 0).val + (y 1).val
        rw [BitVec.toNat_ofNat]; omega
    have ey : ((cfgA Ideal hr).win (4 : Fin 5)).xinj ((cfgA Ideal hr).grid.coords t) y = (ix2 ⟨(y 0).val, ly0⟩ ⟨(y 1).val, ly1⟩ : S512x512.Idx) := by
      funext a
      refine Fin.ext ?_
      match a with
      | ⟨0, _⟩ => rfl
      | ⟨1, _⟩ => rfl
    rw [e, ey, after4, cast_eq]
    exact point hr m ρ c t _ _ _ _ rfl rfl
  · intro u
    have l0 : (u 0).val < 20992 := (u 0).isLt
    have l1 : (u 1).val < 5632 := (u 1).isLt
    obtain ⟨t, ht1, ht0⟩ := point_of ⟨(u 0).val / 512, by omega⟩ ⟨(u 1).val / 512, by omega⟩
    refine ⟨t, flush4 hr t, ?_⟩
    have e : (((cfgA Ideal hr).win (4 : Fin 5)).blk t).view.emb (ix2 ⟨(u 0).val % 512, by omega⟩ ⟨(u 1).val % 512, by omega⟩ : S512x512.Idx) = u := by
      funext a
      refine Fin.ext ?_
      match a with
      | ⟨0, _⟩ =>
        show (BitVec.ofNat 32 (grid0.coords t 1).val).toNat * 512 + 1 * ((u 0).val % 512) = (u 0).val
        rw [ht1, BitVec.toNat_ofNat]
        show (u 0).val / 512 % 2 ^ 32 * 512 + 1 * ((u 0).val % 512) = (u 0).val
        omega
      | ⟨1, _⟩ =>
        show (BitVec.ofNat 32 (grid0.coords t 0).val).toNat * 512 + 1 * ((u 1).val % 512) = (u 1).val
        rw [ht0, BitVec.toNat_ofNat]
        show (u 1).val / 512 % 2 ^ 32 * 512 + 1 * ((u 1).val % 512) = (u 1).val
        omega
    rw [← e]
    exact View.emb_mem_set _ _

end Cert.Up.Ffn

end
-- ==== Proof.UpRef.lean ====
/- The up projection's reference, read at an index. -/
module

public import proofs.«01_k».proof.Proof.UpVal
public import proofs.«01_k».proof.Proof.Gen.UpRefIdeal.Run
public import Idealize.ShloMosaic.Lib.Pointwise
public import Idealize.ShloMosaic.Lib.ValueIdxCore

@[expose] public section

set_option maxRecDepth 16384

noncomputable section

open Idealize.ShloMosaic Idealize.ShloMosaic.TcCoe Idealize.SL.Sem

namespace Cert.UpRefIdeal.Layers

open Cert.UpRefIdeal Cert.UpRefIdeal.Gen Cert.UpRefIdeal.Value
open Cert.Down.Ffn (tileOf)
open Cert.Up.Ffn (contract hiddenAt)

variable (T0 : IVec S41 32) (T1 : IVec S1 32) (A B : FVec Ideal S20992x1024 .bf16) (W W' : FVec Ideal S16x2048x5632 .f32)

/-- The rows, their two halves side by side, tile by tile. -/
def rows : FVec Ideal S41x512x2048 .f32 :=
  shapeCast _ (extf (F := Ideal) .f32 (concatenate S20992x2048 1 [⟨S20992x1024, A⟩, ⟨S20992x1024, B⟩] concatenates_S20992x1024_S20992x1024_S20992x2048_d1) bitsLt_bf16_f32) shapeCasts_S20992x2048_S41x512x2048

/-- The experts' numbers as the gather reads them, one to a tile. -/
def starts : IVec S41x1 32 :=
  broadcastInDim S41x1 ![0] bcast_S41_S41x1_0 (select (cmpi .slt T0 (broadcastInDim S41 ![] bcast_S_S41 (constantI S_ 32 0#32))) (addi T0 (broadcastInDim S41 ![] bcast_S_S41 (constantI S_ 32 16#32))) T0)

/-- Each tile's expert's matrix. -/
def chosen : FVec Ideal S41x2048x5632 .f32 :=
  Host.gather gather_S16x2048x5632_S41x1_S41x2048x5632_12_0_n_n_0_1_120485632 W (starts T0)

/-- The tiles' products with their experts' matrices. -/
def products : FVec Ideal S41x512x5632 .f32 :=
  Host.dotGeneral (F := Ideal) (φ₁ := .f32) (φ₂ := .f32) dot_S41x512x2048_S41x2048x5632_S41x512x5632_2_1_1_2_0_0 none (rows A B) (chosen T0 W)

/-- Which tiles are in use. -/
def inUse : IVec S41 1 :=
  cmpi .slt (iotaInDim S41 32 0) (broadcastInDim S41 ![] bcast_S_S41 (shapeCast _ T1 shapeCasts_S1_S_))

/-- A vector times its own logistic. -/
def silu (a : FVec Ideal S41x512x5632 .f32) : FVec Ideal S41x512x5632 .f32 :=
  mulf a (Host.divf (broadcastInDim S41x512x5632 ![] bcast_S_S41x512x5632 (constant S_ .f32 0x3F800000#32)) (addf (broadcastInDim S41x512x5632 ![] bcast_S_S41x512x5632 (constant S_ .f32 0x3F800000#32)) (Host.exp (Host.negf a))))

def masked : FVec Ideal S41x512x5632 .f32 :=
  select (broadcastInDim S41x512x5632 ![0, 1, 2] bcast_S41x1x1_S41x512x5632_0_1_2 (broadcastInDim S41x1x1 ![0] bcast_S41_S41x1x1_0 (inUse T1))) (mulf (silu (products T0 A B W)) (products T0 A B W')) (broadcastInDim S41x512x5632 ![] bcast_S_S41x512x5632 (id (constant S_ .f32 0x00000000#32)))

def value : FVec Ideal S20992x5632 .bf16 := truncf (F := Ideal) .bf16 (shapeCast _ (masked T0 T1 A B W W') shapeCasts_S41x512x5632_S20992x5632) bitsLt_bf16_f32

variable {T0} (h0 : ∀ x, (T0 x).toNat < 16)

include h0 in
theorem starts_at (t : Fin 41) : starts T0 (ix2 t 0) = T0 (ix1 t) := by
  have h1 : ∀ v : BitVec 32, v.toNat < 16 → IntOp.cmpi .slt v 0#32 = 0#1 := by
    intro v hv
    have : v.toInt = v.toNat := BitVec.toInt_eq_toNat_of_lt (by omega)
    rw [WordCmp.cmpi_slt_eq, decide_eq_false (by rw [this]; simp)]
    rfl
  have h2 := h1 _ (h0 (ix1 t))
  pointwise [starts]
  rw [h2]
  rfl

theorem gathered_at (x : S16x2048x5632.Idx → EReal) (idx : IVec S41x1 32) (t : Fin 41) (k : Fin 2048) (d : Fin 5632) (e : Fin 16)
    (he : (idx (ix2 t 0)).toNat = e.val) :
    Host.gather gather_S16x2048x5632_S41x1_S41x2048x5632_12_0_n_n_0_1_120485632 x idx (ix3 t k d) = x (ix3 e k d) := by
  unfold Host.gather
  refine congrArg x (funext fun a => Fin.ext ?_)
  match a with
  | ⟨0, _⟩ =>
    show min (idx _).toInt.toNat (16 - 1) + 0 + 0 = e.val
    have hi : ∀ u : S41x1.Idx, u = ix2 t 0 → min (idx u).toInt.toNat (16 - 1) + 0 + 0 = e.val := by
      rintro u rfl
      have hv := e.isLt
      rw [BitVec.toInt_eq_toNat_of_lt (by omega), he]
      show min ((e.val : ℤ)).toNat 15 + 0 + 0 = e.val
      omega
    refine hi _ (funext fun b => Fin.ext ?_)
    match b with
    | ⟨0, _⟩ => rfl
    | ⟨1, _⟩ => rfl
  | ⟨1, _⟩ => show 0 + 0 + k.val = k.val; omega
  | ⟨2, _⟩ => show 0 + 0 + d.val = d.val; omega

theorem rows_left (t : Fin 41) (r : Fin 512) (k : Fin 1024) :
    rows A B (ix3 t r ⟨k.val, by omega⟩) = A (ix2 ⟨t.val * 512 + r.val, by omega⟩ k) := by
  pointwise [rows]

theorem rows_right (t : Fin 41) (r : Fin 512) (k : Fin 1024) :
    rows A B (ix3 t r ⟨1024 + k.val, by omega⟩) = B (ix2 ⟨t.val * 512 + r.val, by omega⟩ k) := by
  pointwise [rows]

include h0 in
theorem products_at (t : Fin 41) (r : Fin 512) (f : Fin 5632) :
    products T0 A B W (ix3 t r f) = contract T0 h0 A B W ⟨t.val * 512 + r.val, by omega⟩ f := by
  have ht : tileOf ⟨t.val * 512 + r.val, by omega⟩ = t := Fin.ext (by show (t.val * 512 + r.val) / 512 = t.val; omega)
  have e : products T0 A B W (ix3 t r f) = ∑ k : Fin 2048, rows A B (ix3 t r k) * chosen T0 W (ix3 t k f) := by
    pointwise [products]
  have hg : ∀ k : Fin 2048, chosen T0 W (ix3 t k f) = W (ix3 ⟨(T0 (ix1 t)).toNat, h0 _⟩ k f) := fun k =>
    gathered_at W _ t k f ⟨(T0 (ix1 t)).toNat, h0 _⟩ (congrArg BitVec.toNat (starts_at h0 t))
  rw [e, Fin.sum_univ_two_halves 1024 1024 rfl]
  unfold contract
  simp only [ht]
  congr 1
  · refine Finset.sum_congr rfl fun k _ => ?_
    rw [hg]
    exact congrArg (· * _) (rows_left A B t r k)
  · refine Finset.sum_congr rfl fun k _ => ?_
    rw [hg]
    exact congrArg (· * _) (rows_right A B t r k)

theorem silu_at (a : FVec Ideal S41x512x5632 .f32) (u : S41x512x5632.Idx) : silu a u = a u * Ideal.logistic (a u) := by
  have e1 : constant (F := Ideal) S_ .f32 0x3F800000#32 = fun _ => (1 : EReal) := by
    funext v
    pointwise
  unfold silu
  rw [e1]
  rfl

theorem inUse_at (t : Fin 41) : inUse T1 (ix1 t) = if (t.val : ℤ) < (T1 (ix1 0)).toInt then 1#1 else 0#1 := by
  have h1 : (BitVec.ofNat 32 t.val).toInt = t.val := by
    rw [BitVec.toInt_eq_toNat_of_lt (by rw [BitVec.toNat_ofNat]; omega), BitVec.toNat_ofNat]; omega
  pointwise [inUse]
  rw [WordCmp.cmpi_slt_eq, h1]
  by_cases h : (t.val : ℤ) < (T1 (ix1 0)).toInt
  · rw [decide_eq_true h, if_pos h]; rfl
  · rw [decide_eq_false h, if_neg h]; rfl

include h0 in
theorem masked_at (t : Fin 41) (r : Fin 512) (d : Fin 5632) :
    masked T0 T1 A B W W' (ix3 t r d) = hiddenAt T0 T1 h0 A B W W' ⟨t.val * 512 + r.val, by omega⟩ d := by
  have ht : tileOf ⟨t.val * 512 + r.val, by omega⟩ = t := Fin.ext (by show (t.val * 512 + r.val) / 512 = t.val; omega)
  pointwise [masked]
  rw [inUse_at T1 t, silu_at, products_at A B W h0 t r d, products_at A B W' h0 t r d]
  unfold hiddenAt
  simp only [ht]
  by_cases h : (t.val : ℤ) < (T1 (ix1 0)).toInt
  · rw [if_pos h, if_pos h]; rfl
  · rw [if_neg h, if_neg h]
    show constant (F := Ideal) S_ .f32 0x00000000#32 ix0 = (0 : EReal)
    pointwise

include h0 in
/-- The reference's result. -/
theorem value_eq : value T0 T1 A B W W' = fun u : S20992x5632.Idx => hiddenAt T0 T1 h0 A B W W' (u 0) (u 1) := by
  funext u
  have l0 : (u 0).val < 20992 := (u 0).isLt
  have l1 : (u 1).val < 5632 := (u 1).isLt
  have eu : u = ix2 ⟨(u 0).val, l0⟩ ⟨(u 1).val, l1⟩ := funext fun a => Fin.ext (by match a with | ⟨0, _⟩ => rfl | ⟨1, _⟩ => rfl)
  have e : value T0 T1 A B W W' (ix2 ⟨(u 0).val, l0⟩ ⟨(u 1).val, l1⟩)
      = masked T0 T1 A B W W' (ix3 ⟨(u 0).val / 512, by omega⟩ ⟨(u 0).val % 512, by omega⟩ ⟨(u 1).val, l1⟩) := by
    pointwise [value]
  have hm := masked_at T1 A B W W' h0 ⟨(u 0).val / 512, by omega⟩ ⟨(u 0).val % 512, by omega⟩ ⟨(u 1).val, l1⟩
  have hi : (⟨(u 0).val / 512 * 512 + (u 0).val % 512, by omega⟩ : Fin 20992) = u 0 := Fin.ext (by show (u 0).val / 512 * 512 + (u 0).val % 512 = (u 0).val; omega)
  refine (congrArg (value T0 T1 A B W W') eu).trans (e.trans (hm.trans ?_))
  exact congrArg₂ (hiddenAt T0 T1 h0 A B W W') hi rfl

end Cert.UpRefIdeal.Layers

end
-- ==== Proof.UpClaims.lean ====
/- The claims about the experts' up projection. -/
module

public import proofs.«01_k».proof.Defs
public import proofs.«01_k».proof.Proof.DownClaims
public import proofs.«01_k».proof.Proof.UpFrame
public import proofs.«01_k».proof.Proof.UpRef
public import proofs.«01_k».proof.Proof.Gen.UpIdeal
public import proofs.«01_k».proof.Proof.Gen.Pre_up_tables
public import Idealize.ShloMosaic.Lib.WordCmp
public import Idealize.ShloMosaic.Lib.ReduceAll
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Proof.UpClaims

open Cert.Proof.DownClaims (small positive)

instance : Subsingleton Cert.Pre_up_tables.S_.Idx := ⟨fun a b => funext fun i => i.elim0⟩

/-- The precondition puts the experts' numbers in range and at least one tile in use. -/
theorem in_range {F : FTy → Type} [FloatOps F] (a0 : IVec Cert.Pre_up_tables.S41 32) (a1 : IVec Cert.Pre_up_tables.S1 32)
    (a2 a3 : FVec F Cert.Pre_up_tables.S20992x1024 .bf16) (a4 a5 : FVec F Cert.Pre_up_tables.S16x2048x5632 .f32)
    (h : Cert.Pre_up_tables.fn (F := F) a0 a1 a2 a3 a4 a5 = fun _ => 1#1) :
    (∀ x, (a0 x).toNat < 16) ∧ ∀ x, 1 ≤ (a1 x).toInt := by
  have e := congrFun h (fun i => i.elim0)
  dsimp only [Cert.Pre_up_tables.fn] at e
  obtain ⟨e0, e1⟩ := IntOp.andi_eq_one.1 e
  exact ⟨fun x => small _ (Host.reduce_andi_all _ _ _ _ _ e0 x), fun x => positive _ (Host.reduce_andi_all _ _ _ _ _ e1 x)⟩

theorem placed {F : FTy → Type} [FloatOps F] (m : (ℓ : Loc Up.nD Up.τ Up.sig) → Buf (Elt F) ℓ) :
    Up.Ffn.Placed (m ((((0 : Dev Up.nD).tc : Thread Up.nD Up.τ)).loc Up.main_arg0)) (m ((((0 : Dev Up.nD).tc : Thread Up.nD Up.τ)).loc Up.main_arg1)) m :=
  ⟨fun c => by obtain rfl : c = 0 := Subsingleton.elim _ _; rfl, fun c => by obtain rfl : c = 0 := Subsingleton.elim _ _; rfl⟩

theorem range_p (m : (ℓ : Loc Up.nD Up.τ Up.sig) → Buf (Elt Bits) ℓ) (h : Cert.Pre_Up m) :
    Up.Ffn.InRange (m ((((0 : Dev Up.nD).tc : Thread Up.nD Up.τ)).loc Up.main_arg0)) (m ((((0 : Dev Up.nD).tc : Thread Up.nD Up.τ)).loc Up.main_arg1)) :=
  ⟨(in_range _ _ _ _ _ _ (h 0)).1, (in_range _ _ _ _ _ _ (h 0)).2⟩

theorem range_pi (m : (ℓ : Loc Up.nD Up.τ Up.sig) → Buf (Elt Ideal) ℓ) (h : Cert.Pre_UpIdeal m) :
    Up.Ffn.InRange (m ((((0 : Dev Up.nD).tc : Thread Up.nD Up.τ)).loc Up.main_arg0)) (m ((((0 : Dev Up.nD).tc : Thread Up.nD Up.τ)).loc Up.main_arg1)) :=
  ⟨(in_range _ _ _ _ _ _ (h 0)).1, (in_range _ _ _ _ _ _ (h 0)).2⟩

/-- Idealizing changes no operation of the kernel: over the extended reals the two programs have the same bodies, -/
theorem same_bodies : UpIdeal.defs₀ (F := Ideal) = Up.defs₀ (F := Ideal) := by
  unfold UpIdeal.defs₀ Up.defs₀
  congr 1
  funext l a
  match l, a with
  | 0, (t, s) => rfl

/-- and the same pipelines, so what is proved of the kernel over any numbers holds of its idealization. -/
theorem same_program : UpIdeal.defs (F := Ideal) = Up.defs (F := Ideal) := by
  unfold UpIdeal.defs Up.defs
  rw [same_bodies]
  rfl

theorem frame_p : Cert.quiescent_Up := fun m ρ h => Up.Ffn.frame (range_p m h) m ρ (placed m)
theorem frame_pi : Cert.quiescent_UpIdeal := fun m ρ h => by
  rw [same_program]
  exact Up.Ffn.frame (F := Ideal) (range_pi m h) m ρ (placed m)
theorem frame_ri : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)
theorem frame_ri_tables : Cert.quiescent_UpRefIdeal_pre_up_tables := fun m ρ _ => frame_ri m ρ trivial

theorem preserves : Cert.preserves_Up_UpIdeal := trivial

/-- From tables in range the kernel and the reference end with the same gated hidden rows. -/
theorem algebraic : Cert.algebraic_UpIdeal_UpRefIdeal := by
  intro m g m' g' pre same
  have hr := range_pi m pre
  have hp := placed (F := Ideal) m
  refine ⟨fun c => (Up.Ffn.dats hr m g 0 c).arrAt (4 : Fin 5) (Up.Ffn.cfgA Ideal hr).N, ?_, ?_⟩
  · rw [same_program]
    exact (θ_run Up.defs _ _).mono (fun r h c => ⟨(h.1 c).1 (4 : Fin 5), h.2 c⟩)
      (θ_run_and (Up.Ffn.run_main hr m g hp) (Up.Ffn.unchanged hr m g hp))
  · refine (θ_run UpRefIdeal.defs _ _).mono (fun r h c => ⟨(h c).1.trans ?_, (h c).2⟩) (UpRefIdeal.Value.run (F := Ideal) m' g')
    obtain ⟨a0, a1, a2, a3, a4, a5⟩ := same c
    obtain rfl : c = 0 := Subsingleton.elim _ _
    rw [a0, a1, a2, a3, a4, a5]
    exact (UpRefIdeal.Layers.value_eq _ _ _ _ _ hr.expert).trans (Up.Ffn.result hr m g 0).symm

end Cert.Proof.UpClaims

end
-- ==== Proof.DenseDownRuns.lean ====
/- One grid point of the down projection of the experts' feed-forward layer: what the body leaves in the block of the
   result and in its scratch copy of the weights, on each of the four ways through it. -/
module

public import proofs.«01_k».proof.Proof.Gen.DenseDown.Skeleton
public import proofs.«01_k».proof.Proof.Gen.DenseDown.Launch
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.PureOps.BitExact

@[expose] public section

set_option maxRecDepth 16384
set_option Elab.async false

noncomputable section

namespace Cert.DenseDown.Ffn

open Cert.DenseDown Cert.DenseDown.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the tiles' experts, the number of tiles in use, and the scratch copy of a block of weights. -/
abbrev teM : Memref sig .tc .smem S16 .i32 := Memref.whole main_arg0
abbrev nvM : Memref sig .tc .smem S1 .i32 := Memref.whole main_arg1
abbrev scM : Memref sig .tc .vmem S5632x512 .bf16 := Memref.whole cc0_scratch0

variable (F)

/-- The expert of the point's tile, the expert of the tile before it, and the number of tiles in use. -/
abbrev wordHere (i : grid0.Coords) (T0 : S16.Idx → Elt F .i32) : Elt F .i32 :=
  View.readAt (Elt F) teM.view (Rect.unit (s := S16) (k0_off1 i) S1.size (k0_off1_inb i)).toLoadRect T0 (Shape.Idx.first (numel1_S1.symm ▸ Nat.one_pos))
abbrev wordBefore (i : grid0.Coords) (T0 : S16.Idx → Elt F .i32) : Elt F .i32 :=
  View.readAt (Elt F) teM.view (Rect.unit (s := S16) (k0_off2 i) S1.size (k0_off2_inb i)).toLoadRect T0 (Shape.Idx.first (numel1_S1.symm ▸ Nat.one_pos))
abbrev wordUsed (T1 : S1.Idx → Elt F .i32) : Elt F .i32 :=
  View.readAt (Elt F) nvM.view (Rect.unit (s := S1) ![0] S1.size inb_S1_S1_0).toLoadRect T1 (Shape.Idx.first (numel1_S1.symm ▸ Nat.one_pos))

/-- The body copies the weights at this point. -/
abbrev Copies (i : grid0.Coords) (T0 : S16.Idx → Elt F .i32) : Prop :=
  Scalar.cmpi .ne (Scalar.extui (Scalar.ori (Scalar.cmpi .eq (BitVec.ofNat 32 (i 1).val) 0#32) (Scalar.cmpi .ne (wordHere F i T0) (wordBefore F i T0)))) 0#32 = 1#1
/-- The point's tile is in use; -/
abbrev Used (i : grid0.Coords) (T1 : S1.Idx → Elt F .i32) : Prop := k0_cond2 i (wordUsed F T1) = 1#1
/-- it is not. -/
abbrev Unused (i : grid0.Coords) (T1 : S1.Idx → Elt F .i32) : Prop := k0_cond3 i (wordUsed F T1) = 1#1

variable {F}

variable (c : Dev nD) (i : grid0.Coords) (a4 : Memref sig .tc .vmem S512x5632 .bf16) (h4 : a4.IsWhole)
  (a5 : Memref sig .tc .vmem S1x5632x512 .f32) (h5 : a5.IsWhole) (a6 : Memref sig .tc .vmem S512x512 .f32) (h6 : a6.IsWhole)
  (T0 : S16.Idx → Elt F .i32) (T1 : S1.Idx → Elt F .i32)
  (x0 : S512x5632.Idx → Elt F .bf16) (x1 : S1x5632x512.Idx → Elt F .f32)

/-- What the body needs beside its result block and its scratch, and gives back. -/
abbrev kept : sProp 𝕄 :=
  iprop((a4.view.loc (c : Thread nD τ) ↦[a4.view.set]{fullShare} a4.view.rep x0)
    ∗ (a5.view.loc (c : Thread nD τ) ↦[a5.view.set]{fullShare} a5.view.rep x1)
    ∗ (teM.view.loc (c : Thread nD τ) ↦{fullShare.right} T0)
    ∗ (nvM.view.loc (c : Thread nD τ) ↦{fullShare.right} T1))

/-- The body at a point, on the point's staging buffers. -/
abbrev body : Prog (TpuEff nD τ sig (Elt F) Λ₀ .tc) PUnit :=
  cc0_ffn_down i teM (Memref.isWhole_whole _) nvM (Memref.isWhole_whole _) a4 h4 a5 h5 a6 h6 scM (Memref.isWhole_whole _)

set_option backward.proofsInPublic true in
set_option maxHeartbeats 8000000 in
/-- A point that copies the weights, its tile in use: the pieces of its result block and its scratch, as the run finds them. -/
noncomputable def runA (hc : Copies F i T0) (hu : Used F i T1) (hd : ¬Unused F i T1) :
    Σ' (out : List (View.Piece (Elt F) S512x512 .f32)), { sc : Buf (Elt F) ((c : Thread nD τ).loc cc0_scratch0) //
      ∀ (xa : Buf (Elt F) ((c : Thread nD τ).loc cc0_scratch0)) (K : PUnit → sProp 𝕄),
        iprop(kept c a4 a5 T0 T1 x0 x1
          ∗ (∃ d, owns (c : Thread nD τ) a6 fullShare d)
          ∗ (scM.view.loc (c : Thread nD τ) ↦{fullShare} xa)
          ∗ (iprop(kept c a4 a5 T0 T1 x0 x1
              ∗ (∃ f, a6.view.loc (c : Thread nD τ) ↦[a6.view.set]{fullShare} a6.view.writes (Elt F) f out)
              ∗ (scM.view.loc (c : Thread nD τ) ↦{fullShare} sc)) -∗ K ⟨⟩))
          ⊢ wp frame (wpE (defs₀ (F := F)) Variants.none c none) Set.univ (body i a4 h4 a5 h5 a6 h6) K } :=
  ⟨_, _, fun (xa : Buf (Elt F) ((c : Thread nD τ).loc cc0_scratch0)) K => by
    unfold owns kept body
    rw [cc0_ffn_down_eq_skeleton]; unfold cc0_ffn_down_skel
    iintro ⟨⟨H0, H1, HT0, HT1⟩, ⟨%d2, %f2, -, HO2⟩, HS0, Hk⟩
    have hS0 : scM.IsWhole := Memref.isWhole_whole _
    have hT0 : teM.IsWhole := Memref.isWhole_whole _
    have hT1 : nvM.IsWhole := Memref.isWhole_whole _
    sl_exec! (disch := first | (guard_target = Scalar.cmpi = _; exact hc) | (guard_target = k0_cond2 _ _ = _; exact hu) | (guard_target = ¬(k0_cond3 _ _ = _); exact hd))
    sl_step
    iapply Hk
    isplitl [H0 H1 HT0 HT1]
    · isplitl [H0]; · iexact H0
      isplitl [H1]; · iexact H1
      isplitl [HT0]; · iexact HT0
      iexact HT1
    isplitl [HO2]; · iexists _; iexact HO2
    iexact HS0⟩

set_option backward.proofsInPublic true in
set_option maxHeartbeats 8000000 in
/-- A point that keeps the copy, its tile in use. -/
noncomputable def runB (xa : Buf (Elt F) ((c : Thread nD τ).loc cc0_scratch0)) (hc : ¬Copies F i T0) (hu : Used F i T1) (hd : ¬Unused F i T1) :
    Σ' (out : List (View.Piece (Elt F) S512x512 .f32)), { sc : Buf (Elt F) ((c : Thread nD τ).loc cc0_scratch0) //
      ∀ (K : PUnit → sProp 𝕄),
        iprop(kept c a4 a5 T0 T1 x0 x1
          ∗ (∃ d, owns (c : Thread nD τ) a6 fullShare d)
          ∗ (scM.view.loc (c : Thread nD τ) ↦{fullShare} xa)
          ∗ (iprop(kept c a4 a5 T0 T1 x0 x1
              ∗ (∃ f, a6.view.loc (c : Thread nD τ) ↦[a6.view.set]{fullShare} a6.view.writes (Elt F) f out)
              ∗ (scM.view.loc (c : Thread nD τ) ↦{fullShare} sc)) -∗ K ⟨⟩))
          ⊢ wp frame (wpE (defs₀ (F := F)) Variants.none c none) Set.univ (body i a4 h4 a5 h5 a6 h6) K } :=
  ⟨_, _, fun K => by
    unfold owns kept body
    rw [cc0_ffn_down_eq_skeleton]; unfold cc0_ffn_down_skel
    iintro ⟨⟨H0, H1, HT0, HT1⟩, ⟨%d2, %f2, -, HO2⟩, HS0, Hk⟩
    have hS0 : scM.IsWhole := Memref.isWhole_whole _
    have hT0 : teM.IsWhole := Memref.isWhole_whole _
    have hT1 : nvM.IsWhole := Memref.isWhole_whole _
    sl_exec! (disch := first | (guard_target = ¬(Scalar.cmpi = _); exact hc) | (guard_target = k0_cond2 _ _ = _; exact hu) | (guard_target = ¬(k0_cond3 _ _ = _); exact hd))
    sl_step
    iapply Hk
    isplitl [H0 H1 HT0 HT1]
    · isplitl [H0]; · iexact H0
      isplitl [H1]; · iexact H1
      isplitl [HT0]; · iexact HT0
      iexact HT1
    isplitl [HO2]; · iexists _; iexact HO2
    iexact HS0⟩

set_option backward.proofsInPublic true in
set_option maxHeartbeats 8000000 in
/-- A point that copies the weights, its tile not in use. -/
noncomputable def runC (hc : Copies F i T0) (hu : ¬Used F i T1) (hd : Unused F i T1) :
    Σ' (out : List (View.Piece (Elt F) S512x512 .f32)), { sc : Buf (Elt F) ((c : Thread nD τ).loc cc0_scratch0) //
      ∀ (xa : Buf (Elt F) ((c : Thread nD τ).loc cc0_scratch0)) (K : PUnit → sProp 𝕄),
        iprop(kept c a4 a5 T0 T1 x0 x1
          ∗ (∃ d, owns (c : Thread nD τ) a6 fullShare d)
          ∗ (scM.view.loc (c : Thread nD τ) ↦{fullShare} xa)
          ∗ (iprop(kept c a4 a5 T0 T1 x0 x1
              ∗ (∃ f, a6.view.loc (c : Thread nD τ) ↦[a6.view.set]{fullShare} a6.view.writes (Elt F) f out)
              ∗ (scM.view.loc (c : Thread nD τ) ↦{fullShare} sc)) -∗ K ⟨⟩))
          ⊢ wp frame (wpE (defs₀ (F := F)) Variants.none c none) Set.univ (body i a4 h4 a5 h5 a6 h6) K } :=
  ⟨_, _, fun (xa : Buf (Elt F) ((c : Thread nD τ).loc cc0_scratch0)) K => by
    unfold owns kept body
    rw [cc0_ffn_down_eq_skeleton]; unfold cc0_ffn_down_skel
    iintro ⟨⟨H0, H1, HT0, HT1⟩, ⟨%d2, %f2, -, HO2⟩, HS0, Hk⟩
    have hS0 : scM.IsWhole := Memref.isWhole_whole _
    have hT0 : teM.IsWhole := Memref.isWhole_whole _
    have hT1 : nvM.IsWhole := Memref.isWhole_whole _
    sl_exec! (disch := first | (guard_target = Scalar.cmpi = _; exact hc) | (guard_target = ¬(k0_cond2 _ _ = _); exact hu) | (guard_target = k0_cond3 _ _ = _; exact hd))
    sl_step
    iapply Hk
    isplitl [H0 H1 HT0 HT1]
    · isplitl [H0]; · iexact H0
      isplitl [H1]; · iexact H1
      isplitl [HT0]; · iexact HT0
      iexact HT1
    isplitl [HO2]; · iexists _; iexact HO2
    iexact HS0⟩

set_option backward.proofsInPublic true in
set_option maxHeartbeats 8000000 in
/-- A point that keeps the copy, its tile not in use. -/
noncomputable def runD (xa : Buf (Elt F) ((c : Thread nD τ).loc cc0_scratch0)) (hc : ¬Copies F i T0) (hu : ¬Used F i T1) (hd : Unused F i T1) :
    Σ' (out : List (View.Piece (Elt F) S512x512 .f32)), { sc : Buf (Elt F) ((c : Thread nD τ).loc cc0_scratch0) //
      ∀ (K : PUnit → sProp 𝕄),
        iprop(kept c a4 a5 T0 T1 x0 x1
          ∗ (∃ d, owns (c : Thread nD τ) a6 fullShare d)
          ∗ (scM.view.loc (c : Thread nD τ) ↦{fullShare} xa)
          ∗ (iprop(kept c a4 a5 T0 T1 x0 x1
              ∗ (∃ f, a6.view.loc (c : Thread nD τ) ↦[a6.view.set]{fullShare} a6.view.writes (Elt F) f out)
              ∗ (scM.view.loc (c : Thread nD τ) ↦{fullShare} sc)) -∗ K ⟨⟩))
          ⊢ wp frame (wpE (defs₀ (F := F)) Variants.none c none) Set.univ (body i a4 h4 a5 h5 a6 h6) K } :=
  ⟨_, _, fun K => by
    unfold owns kept body
    rw [cc0_ffn_down_eq_skeleton]; unfold cc0_ffn_down_skel
    iintro ⟨⟨H0, H1, HT0, HT1⟩, ⟨%d2, %f2, -, HO2⟩, HS0, Hk⟩
    have hS0 : scM.IsWhole := Memref.isWhole_whole _
    have hT0 : teM.IsWhole := Memref.isWhole_whole _
    have hT1 : nvM.IsWhole := Memref.isWhole_whole _
    sl_exec! (disch := first | (guard_target = ¬(Scalar.cmpi = _); exact hc) | (guard_target = ¬(k0_cond2 _ _ = _); exact hu) | (guard_target = k0_cond3 _ _ = _; exact hd))
    sl_step
    iapply Hk
    isplitl [H0 H1 HT0 HT1]
    · isplitl [H0]; · iexact H0
      isplitl [H1]; · iexact H1
      isplitl [HT0]; · iexact HT0
      iexact HT1
    isplitl [HO2]; · iexists _; iexact HO2
    iexact HS0⟩

end Cert.DenseDown.Ffn

end
-- ==== Proof.DenseDownStep.lean ====
/- The down projection's body at a point as one statement: with the copy of the point's weights in place where the body
   keeps it, the body leaves the product of the tile and those weights, or zeros, and the copy of the point's weights. -/
module

public import proofs.«01_k».proof.Proof.DenseDownRuns
public import Idealize.ShloMosaic.Lib.Pipeline.Value

@[expose] public section

set_option maxRecDepth 16384
set_option Elab.async false

noncomputable section

namespace Cert.DenseDown.Ffn

open Cert.DenseDown Cert.DenseDown.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (a4 : Memref sig .tc .vmem S512x5632 .bf16) (h4 : a4.IsWhole)
  (a5 : Memref sig .tc .vmem S1x5632x512 .f32) (h5 : a5.IsWhole) (a6 : Memref sig .tc .vmem S512x512 .f32) (h6 : a6.IsWhole)
  (T0 : S16.Idx → Elt F .i32) (T1 : S1.Idx → Elt F .i32)
  (x0 : S512x5632.Idx → Elt F .bf16) (x1 : S1x5632x512.Idx → Elt F .f32)

/-- The scratch copy of a block of weights. -/
abbrev copyOf (x1 : S1x5632x512.Idx → Elt F .f32) : Buf (Elt F) ((c : Thread nD τ).loc cc0_scratch0) := k0_pay1 (F := F) x1

/-- What the body leaves in the result block. -/
def outOf (i : grid0.Coords) (T1 : S1.Idx → Elt F .i32) (x0 : S512x5632.Idx → Elt F .bf16) (x1 : S1x5632x512.Idx → Elt F .f32) :
    S512x512.Idx → Elt F .f32 :=
  if Used F i T1 then k0_pay2 (F := F) x0 (k0_pay1 (F := F) x1) else k0_pay3 (F := F)

theorem off2 : (![0, 0] : Fin 2 → Nat) = fun _ => 0 := funext fun a => by fin_cases a <;> rfl
theorem off3 : (![0, 0, 0] : Fin 3 → Nat) = fun _ => 0 := funext fun a => by fin_cases a <;> rfl

/-- One store over a whole buffer leaves what it stores. -/
theorem whole_write (b : Ref sig .tc) {off : Fin b.ty.shape.rank → Nat} (h : off = fun _ => 0) (inb : ∀ a, off a + b.ty.shape.size a ≤ b.ty.shape.size a)
    (f : b.ty.Contents (Elt F)) (w : b.ty.shape.Idx → Elt F b.ty.elt) :
    (View.whole b).writes (Elt F) f [⟨Rect.unit off b.ty.shape.size inb, w⟩] = w := by
  subst h
  exact View.read_writes_whole (View.whole b) f w

theorem scratchA (hc : Copies F i T0) (hu : Used F i T1) (hd : ¬Unused F i T1) :
    (runA c i a4 h4 a5 h5 a6 h6 T0 T1 x0 x1 hc hu hd).2.1 = copyOf c x1 := by
  unfold runA
  dsimp only
  sl_unfold_words
  refine (whole_write cc0_scratch0 off2 _ _ _).trans ?_
  rw [View.readAt_eq_ld, View.read_rep, View.ld_unit_zero (S := S1x5632x512) off3]

theorem outA (hc : Copies F i T0) (hu : Used F i T1) (hd : ¬Unused F i T1) (f) :
    a6.view.read (Elt F) (a6.view.writes (Elt F) f (runA c i a4 h4 a5 h5 a6 h6 T0 T1 x0 x1 hc hu hd).1) = k0_pay2 (F := F) x0 (k0_pay1 (F := F) x1) := by
  rw [View.read_writes_eq_canon _ _ _ (View.cover_of_tiledL (runA c i a4 h4 a5 h5 a6 h6 T0 T1 x0 x1 hc hu hd).1 S512x512.size (by sl_kernel_rfl))]
  unfold runA
  dsimp only
  sl_unfold_words
  rw [View.canon_unit_zero (S := S512x512) off2]
  rw [View.readCov_unit_zero (S := S5632x512) _ off2, View.readAt_eq_ld, View.readAt_eq_ld, View.read_rep, View.read_rep,
    View.ld_unit_zero (S := S512x5632) off2, View.ld_unit_zero (S := S1x5632x512) off3]

theorem scratchB (xa : Buf (Elt F) ((c : Thread nD τ).loc cc0_scratch0)) (hc : ¬Copies F i T0) (hu : Used F i T1) (hd : ¬Unused F i T1) :
    (runB c i a4 h4 a5 h5 a6 h6 T0 T1 x0 x1 xa hc hu hd).2.1 = xa := by
  unfold runB
  rfl

theorem outB (xa : Buf (Elt F) ((c : Thread nD τ).loc cc0_scratch0)) (hc : ¬Copies F i T0) (hu : Used F i T1) (hd : ¬Unused F i T1) (f) :
    a6.view.read (Elt F) (a6.view.writes (Elt F) f (runB c i a4 h4 a5 h5 a6 h6 T0 T1 x0 x1 xa hc hu hd).1) = k0_pay2 (F := F) x0 xa := by
  rw [View.read_writes_eq_canon _ _ _ (View.cover_of_tiledL (runB c i a4 h4 a5 h5 a6 h6 T0 T1 x0 x1 xa hc hu hd).1 S512x512.size (by sl_kernel_rfl))]
  unfold runB
  dsimp only
  sl_unfold_words
  rw [View.canon_unit_zero (S := S512x512) off2]
  rw [View.readAt_eq_ld, View.readAt_eq_ld, View.read_rep, View.ld_unit_zero (S := S512x5632) off2, View.ld_unit_zero (S := S5632x512) off2]
  rfl

theorem scratchC (hc : Copies F i T0) (hu : ¬Used F i T1) (hd : Unused F i T1) :
    (runC c i a4 h4 a5 h5 a6 h6 T0 T1 x0 x1 hc hu hd).2.1 = copyOf c x1 := by
  unfold runC
  dsimp only
  sl_unfold_words
  refine (whole_write cc0_scratch0 off2 _ _ _).trans ?_
  rw [View.readAt_eq_ld, View.read_rep, View.ld_unit_zero (S := S1x5632x512) off3]

theorem outC (hc : Copies F i T0) (hu : ¬Used F i T1) (hd : Unused F i T1) (f) :
    a6.view.read (Elt F) (a6.view.writes (Elt F) f (runC c i a4 h4 a5 h5 a6 h6 T0 T1 x0 x1 hc hu hd).1) = k0_pay3 (F := F) := by
  rw [View.read_writes_eq_canon _ _ _ (View.cover_of_tiledL (runC c i a4 h4 a5 h5 a6 h6 T0 T1 x0 x1 hc hu hd).1 S512x512.size (by sl_kernel_rfl))]
  unfold runC
  dsimp only
  sl_unfold_words
  rw [View.canon_unit_zero (S := S512x512) off2]

theorem scratchD (xa : Buf (Elt F) ((c : Thread nD τ).loc cc0_scratch0)) (hc : ¬Copies F i T0) (hu : ¬Used F i T1) (hd : Unused F i T1) :
    (runD c i a4 h4 a5 h5 a6 h6 T0 T1 x0 x1 xa hc hu hd).2.1 = xa := by
  unfold runD
  rfl

theorem outD (xa : Buf (Elt F) ((c : Thread nD τ).loc cc0_scratch0)) (hc : ¬Copies F i T0) (hu : ¬Used F i T1) (hd : Unused F i T1) (f) :
    a6.view.read (Elt F) (a6.view.writes (Elt F) f (runD c i a4 h4 a5 h5 a6 h6 T0 T1 x0 x1 xa hc hu hd).1) = k0_pay3 (F := F) := by
  rw [View.read_writes_eq_canon _ _ _ (View.cover_of_tiledL (runD c i a4 h4 a5 h5 a6 h6 T0 T1 x0 x1 xa hc hu hd).1 S512x512.size (by sl_kernel_rfl))]
  unfold runD
  dsimp only
  sl_unfold_words
  rw [View.canon_unit_zero (S := S512x512) off2]

/-- The body at a point, whichever way it takes. -/
theorem step (xa : Buf (Elt F) ((c : Thread nD τ).loc cc0_scratch0)) (hk : ¬Copies F i T0 → xa = copyOf c x1)
    (hx : Unused F i T1 ↔ ¬Used F i T1) (K : PUnit → sProp 𝕄) :
    iprop(kept c a4 a5 T0 T1 x0 x1
        ∗ (∃ d, owns (c : Thread nD τ) a6 fullShare d)
        ∗ (scM.view.loc (c : Thread nD τ) ↦{fullShare} xa)
        ∗ (iprop(kept c a4 a5 T0 T1 x0 x1
            ∗ owns (c : Thread nD τ) a6 fullShare (outOf i T1 x0 x1)
            ∗ (scM.view.loc (c : Thread nD τ) ↦{fullShare} copyOf c x1)) -∗ K ⟨⟩))
      ⊢ wp frame (wpE (defs₀ (F := F)) Variants.none c none) Set.univ (body i a4 h4 a5 h5 a6 h6) K := by
  by_cases hc : Copies F i T0 <;> by_cases hu : Used F i T1
  · have hd : ¬Unused F i T1 := fun h => hx.1 h hu
    iintro ⟨Hk, HO, HS, HK⟩
    iapply ((runA c i a4 h4 a5 h5 a6 h6 T0 T1 x0 x1 hc hu hd).2.2 xa _)
    isplitl [Hk]; · iexact Hk
    isplitl [HO]; · iexact HO
    isplitl [HS]; · iexact HS
    iintro ⟨Hk, ⟨%f, HO⟩, HS⟩
    iapply HK
    isplitl [Hk]; · iexact Hk
    isplitl [HO]
    · unfold owns; iexists _; isplitr; swap
      · iexact HO
      · ipureintro
        rw [outA c i a4 h4 a5 h5 a6 h6 T0 T1 x0 x1 hc hu hd]
        unfold outOf
        rw [if_pos hu]
    rw [scratchA c i a4 h4 a5 h5 a6 h6 T0 T1 x0 x1 hc hu hd]
    iexact HS
  · have hd : Unused F i T1 := hx.2 hu
    iintro ⟨Hk, HO, HS, HK⟩
    iapply ((runC c i a4 h4 a5 h5 a6 h6 T0 T1 x0 x1 hc hu hd).2.2 xa _)
    isplitl [Hk]; · iexact Hk
    isplitl [HO]; · iexact HO
    isplitl [HS]; · iexact HS
    iintro ⟨Hk, ⟨%f, HO⟩, HS⟩
    iapply HK
    isplitl [Hk]; · iexact Hk
    isplitl [HO]
    · unfold owns; iexists _; isplitr; swap
      · iexact HO
      · ipureintro
        rw [outC c i a4 h4 a5 h5 a6 h6 T0 T1 x0 x1 hc hu hd]
        unfold outOf
        rw [if_neg hu]
    rw [scratchC c i a4 h4 a5 h5 a6 h6 T0 T1 x0 x1 hc hu hd]
    iexact HS
  · have hd : ¬Unused F i T1 := fun h => hx.1 h hu
    iintro ⟨Hk, HO, HS, HK⟩
    iapply ((runB c i a4 h4 a5 h5 a6 h6 T0 T1 x0 x1 xa hc hu hd).2.2 _)
    isplitl [Hk]; · iexact Hk
    isplitl [HO]; · iexact HO
    isplitl [HS]; · iexact HS
    iintro ⟨Hk, ⟨%f, HO⟩, HS⟩
    iapply HK
    isplitl [Hk]; · iexact Hk
    isplitl [HO]
    · unfold owns; iexists _; isplitr; swap
      · iexact HO
      · ipureintro
        rw [outB c i a4 h4 a5 h5 a6 h6 T0 T1 x0 x1 xa hc hu hd]
        unfold outOf
        rw [if_pos hu]
        exact congrArg (k0_pay2 (F := F) x0) (hk hc)
    rw [scratchB c i a4 h4 a5 h5 a6 h6 T0 T1 x0 x1 xa hc hu hd, hk hc]
    iexact HS
  · have hd : Unused F i T1 := hx.2 hu
    iintro ⟨Hk, HO, HS, HK⟩
    iapply ((runD c i a4 h4 a5 h5 a6 h6 T0 T1 x0 x1 xa hc hu hd).2.2 _)
    isplitl [Hk]; · iexact Hk
    isplitl [HO]; · iexact HO
    isplitl [HS]; · iexact HS
    iintro ⟨Hk, ⟨%f, HO⟩, HS⟩
    iapply HK
    isplitl [Hk]; · iexact Hk
    isplitl [HO]
    · unfold owns; iexists _; isplitr; swap
      · iexact HO
      · ipureintro
        rw [outD c i a4 h4 a5 h5 a6 h6 T0 T1 x0 x1 xa hc hu hd]
        unfold outOf
        rw [if_neg hu]
    rw [scratchD c i a4 h4 a5 h5 a6 h6 T0 T1 x0 x1 xa hc hu hd, hk hc]
    iexact HS

end Cert.DenseDown.Ffn

end
-- ==== Proof.DenseDownTables.lean ====
/- The tables the down projection is steered by: what they must satisfy, the pipeline at them, and which way its body
   goes at a point. -/
module

public import proofs.«01_k».proof.Proof.DenseDownStep
public import Idealize.ShloMosaic.Lib.Pipeline.Kit
public import Idealize.ShloMosaic.Lib.Pipeline.TableIdle
public import Idealize.ShloMosaic.Lib.Affine
public import Idealize.ShloMosaic.Lib.WordCmp

@[expose] public section

set_option maxRecDepth 16384
set_option Elab.async false

noncomputable section

namespace Cert.DenseDown.Ffn

open Cert.DenseDown Cert.DenseDown.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (F) in
/-- The two tables as the pipeline's prefetched contents. -/
def tables (T0 : S16.Idx → BitVec 32) (T1 : S1.Idx → BitVec 32) : pre0.Contents (Elt F) := fun j => match j with
  | ⟨0, _⟩ => T0
  | ⟨1, _⟩ => T1
  | ⟨_ + 2, h⟩ => absurd h (Nat.not_lt.2 (Nat.le_add_left _ _))

/-- Every tile's expert is one of the sixteen, and at least one tile is in use. -/
structure InRange (T0 : S16.Idx → BitVec 32) (T1 : S1.Idx → BitVec 32) : Prop where
  expert : ∀ x, (T0 x).toNat < 2
  used : ∀ x, 1 ≤ (T1 x).toInt

/-- The smaller of a tile's number and the last tile in use is a tile's number, and it is the tile's own if that is in use. -/
theorem minsi_last (n : ℕ) (hn : n < 16) (v : BitVec 32) (hv : 1 ≤ v.toInt) :
    (Scalar.minsi (BitVec.ofNat 32 n) (Scalar.subi v 1#32)).toNat ≤ n := by
  have e0 : (BitVec.ofNat 32 n).toNat = n := by rw [BitVec.toNat_ofNat]; omega
  have e1 : (BitVec.ofNat 32 n).toInt = n := by rw [BitVec.toInt_eq_toNat_of_lt (by omega), e0]
  unfold Scalar.minsi Scalar.subi IntOp.minsi IntOp.subi
  split
  · omega
  · rename_i h
    have hb : v.toNat < 2 ^ 32 := v.isLt
    have h2 : (v - 1#32).toInt = v.toInt - 1 := by
      have := BitVec.toInt_eq_toNat_cond v
      have := BitVec.toInt_eq_toNat_cond (v - 1#32)
      have := BitVec.toNat_sub v 1#32
      have : (1#32).toNat = 1 := rfl
      split at * <;> split at * <;> omega
    have h3 : (v - 1#32).toInt ≤ (BitVec.ofNat 32 n).toInt := by
      have : ¬ (BitVec.ofNat 32 n).toInt < (v - 1#32).toInt := by
        simpa [BitVec.slt] using h
      omega
    have h4 := BitVec.toInt_eq_toNat_cond (v - 1#32)
    split at h4 <;> omega

/-- A row block's number, and a weight block's, at given tables. -/
theorem row_le {T0 : S16.Idx → BitVec 32} {T1 : S1.Idx → BitVec 32} (h : InRange T0 T1) (i : grid0.Coords) :
    cc0_transform_0 (F := F) inb_S1_S1_0 numel1_S1 (tables F T0 T1) i 0 ≤ (i 1).val :=
  minsi_last (i 1).val (i 1).isLt _ (h.used _)

theorem expert_lt {T0 : S16.Idx → BitVec 32} {T1 : S1.Idx → BitVec 32} (h : InRange T0 T1) (i : grid0.Coords) :
    cc0_transform_1 (F := F) k0_off1_inb numel1_S1 (tables F T0 T1) i 0 < 2 := h.expert _

theorem column_lt {T0 : S16.Idx → BitVec 32} {T1 : S1.Idx → BitVec 32} (i : grid0.Coords) :
    cc0_transform_1 (F := F) k0_off1_inb numel1_S1 (tables F T0 T1) i 2 < 4 := by
  have hi : (i 0).val < 4 := (i 0).isLt
  show (BitVec.ofNat 32 (i 0).val).toNat < 4
  rw [BitVec.toNat_ofNat]
  omega

theorem ok_tables {T0 : S16.Idx → BitVec 32} {T1 : S1.Idx → BitVec 32} (h : InRange T0 T1) : ok0 (F := F) (tables F T0 T1) := by
  constructor
  · intro i
    refine ⟨?_, .inr (Affine.block_words_dvd (s := S8192x5632) (p := EltTy.packing .bf16) (by decide) (by decide))⟩
    have hi : (i 1).val < 16 := (i 1).isLt
    have key := row_le (F := F) h i
    intro a
    match a with
    | ⟨0, _⟩ =>
      show (cc0_transform_0 (F := F) inb_S1_S1_0 numel1_S1 (tables F T0 T1) i 0 + 1) * 512 ≤ 8192
      generalize cc0_transform_0 (F := F) inb_S1_S1_0 numel1_S1 (tables F T0 T1) i 0 = k at key ⊢
      omega
    | ⟨1, _⟩ => show (0 + 1) * 5632 ≤ 5632; omega
  · intro i
    refine ⟨?_, .inl rfl⟩
    have key := expert_lt (F := F) h i
    have key2 := column_lt (F := F) (T0 := T0) (T1 := T1) i
    intro a
    match a with
    | ⟨0, _⟩ =>
      show (cc0_transform_1 (F := F) k0_off1_inb numel1_S1 (tables F T0 T1) i 0 + 1) * 1 ≤ 2
      generalize cc0_transform_1 (F := F) k0_off1_inb numel1_S1 (tables F T0 T1) i 0 = k at key ⊢
      omega
    | ⟨1, _⟩ => show (0 + 1) * 5632 ≤ 5632; omega
    | ⟨2, _⟩ =>
      show (cc0_transform_1 (F := F) k0_off1_inb numel1_S1 (tables F T0 T1) i 2 + 1) * 512 ≤ 2048
      generalize cc0_transform_1 (F := F) k0_off1_inb numel1_S1 (tables F T0 T1) i 2 = k at key2 ⊢
      omega

/-! ## The pipeline at given tables -/

variable {T0 : S16.Idx → BitVec 32} {T1 : S1.Idx → BitVec 32} (hr : InRange T0 T1)

variable (F)

def adm : (pcfg0 (F := F)).Adm := ⟨tables F T0 T1, ok_tables hr⟩
abbrev cfgA : Pipeline.Cfg sig Λ₀ := cfg0 (F := F) (adm F hr)
abbrev pcs : Fin 1 → Pipeline.Cfg sig Λ₀ := Pipeline.pin (pcfgs (F := F)) fun _ => adm F hr

variable {F}

variable (m : (ℓ : Loc nD τ sig) → Buf (Elt F) ℓ) (ρ : Dev nD → PrngReg)

/-- A point's coordinates and its staging buffers. -/
abbrev crd (t : Fin (cfgA F hr).N) : (cfgA F hr).grid.Coords := (cfgA F hr).grid.coords t
abbrev stg0 (t : Fin (cfgA F hr).N) : Memref sig .tc .vmem S512x5632 .bf16 := spec0_0.stage ((cfgA F hr).slots t (0 : Fin 3))
abbrev whole0 (t : Fin (cfgA F hr).N) : (stg0 hr t).IsWhole := hstage0_0 (((cfgA F hr).slots t (0 : Fin 3)).cast nbuf0_0)
abbrev stg1 (t : Fin (cfgA F hr).N) : Memref sig .tc .vmem S1x5632x512 .f32 := spec0_1.stage ((cfgA F hr).slots t (1 : Fin 3))
abbrev whole1 (t : Fin (cfgA F hr).N) : (stg1 hr t).IsWhole := hstage0_1 (((cfgA F hr).slots t (1 : Fin 3)).cast nbuf0_1)
abbrev stg2 (t : Fin (cfgA F hr).N) : Memref sig .tc .vmem S512x512 .f32 := spec0_2.stage ((cfgA F hr).slots t (2 : Fin 3))
abbrev whole2 (t : Fin (cfgA F hr).N) : (stg2 hr t).IsWhole := hstage0_2 (((cfgA F hr).slots t (2 : Fin 3)).cast nbuf0_2)

/-- A window's block at a point, read off its array at the start. -/
def iblk (c : Dev nD) (w : Fin (cfgA F hr).W) (t : Fin (cfgA F hr).N) : (((cfgA F hr).win w).xblock (crd hr t)).Idx → Elt F ((cfgA F hr).win w).elt :=
  (((cfgA F hr).win w).blk t).view.read (Elt F) ((s₀ m ρ).mem (((cfgA F hr).win w).arr.view.loc (c : Thread nD τ)))

/-! ## Which way the body goes -/

theorem unused_iff (i : grid0.Coords) (T1 : S1.Idx → Elt F .i32) : Unused F i T1 ↔ ¬Used F i T1 := by
  unfold Unused Used k0_cond2 k0_cond3
  generalize wordUsed F T1 = v
  dsimp only
  unfold Scalar.cmpi
  rw [WordCmp.cmpi_slt_eq, WordCmp.cmpi_sge_eq]
  by_cases h : (BitVec.ofNat 32 (i 1).val).toInt < BitVec.toInt v
  · rw [decide_eq_true h, decide_eq_false (by omega)]; decide
  · rw [decide_eq_false h, decide_eq_true (by omega)]; decide

theorem idle2 (t : Fin (cfgA F hr).N) : (cfgA F hr).idle (2 : Fin 3) (crd hr t) = false := by
  show (!(k0_cond2 (crd hr t) ((tables F T0 T1).atD 1 ![0]) == 1#1) && !(k0_cond3 (crd hr t) ((tables F T0 T1).atD 1 ![0]) == 1#1)) = false
  have := unused_iff (crd hr t) (fun _ => (tables F T0 T1).atD 1 ![0])
  change (k0_cond3 (crd hr t) ((tables F T0 T1).atD 1 ![0]) = 1#1 ↔ ¬ k0_cond2 (crd hr t) ((tables F T0 T1).atD 1 ![0]) = 1#1) at this
  by_cases h : k0_cond2 (crd hr t) ((tables F T0 T1).atD 1 ![0]) = 1#1
  · rw [h]; rfl
  · rw [this.2 h]; simp

/-- Beyond the first tile of a column the point before is the column's tile before. -/
theorem tile_before : ∀ t : Fin grid0.N, ((grid0.coords t) 1).val ≠ 0 →
    ∃ h : 0 < t.val, ((grid0.coords (⟨t.val - 1, by omega⟩ : Fin grid0.N)) 0).val = ((grid0.coords t) 0).val
      ∧ k0_off2 (grid0.coords t) 0 = k0_off1 (grid0.coords (⟨t.val - 1, by omega⟩ : Fin grid0.N)) 0 := by
  decide +kernel

theorem flush2 (t : Fin (cfgA F hr).N) : ((cfgA F hr).win (2 : Fin 3)).flush t = true := by
  rw [Window.flush_eq_flushOf]
  have : ∀ t : Fin grid0.N, Window.flushOf grid0 true cc0_transform_2 t = true := by decide +kernel
  exact this t

/-- The point before. -/
abbrev prior (t : Fin (cfgA F hr).N) : Fin (cfgA F hr).N := ⟨t.val - 1, lt_of_le_of_lt (Nat.sub_le _ _) t.isLt⟩

/-- At a point that does not copy the weights the block of weights is the point before's. -/
theorem same_block (c : Dev nD) (t : Fin (cfgA F hr).N) (h : ¬Copies F (crd hr t) T0) :
    0 < t.val ∧ iblk hr m ρ c (1 : Fin 3) t = iblk hr m ρ c (1 : Fin 3) (prior hr t) := by
  have h1 : ((crd hr t) 1).val ≠ 0 := by
    intro e
    apply h
    unfold Copies
    rw [e]
    unfold Scalar.cmpi Scalar.ori
    rw [show IntOp.cmpi .eq (BitVec.ofNat 32 0) 0#32 = 1#1 from rfl]
    generalize IntOp.cmpi .ne (wordHere F (crd hr t) T0) (wordBefore F (crd hr t) T0) = b
    revert b; decide
  have h2 : wordHere F (crd hr t) T0 = wordBefore F (crd hr t) T0 := by
    by_contra e
    apply h
    unfold Copies Scalar.cmpi Scalar.ori
    rw [show IntOp.cmpi .ne (wordHere F (crd hr t) T0) (wordBefore F (crd hr t) T0) = 1#1 from by
      rw [WordCmp.cmpi_ne_eq, decide_eq_true e]; rfl]
    generalize IntOp.cmpi .eq (BitVec.ofNat 32 ((crd hr t) 1).val) 0#32 = b
    revert b; decide
  obtain ⟨h0, hj, ho⟩ := tile_before t h1
  refine ⟨h0, ?_⟩
  have hw : wordHere F (crd hr (prior hr t)) T0 = wordHere F (crd hr t) T0 := by
    rw [h2]
    refine congrArg T0 (funext fun a => Fin.ext ?_)
    fin_cases a
    show k0_off1 _ 0 + 1 * _ = k0_off2 _ 0 + 1 * _
    exact congrArg (· + _) ho.symm
  have hidx : ((cfgA F hr).win (1 : Fin 3)).index t = ((cfgA F hr).win (1 : Fin 3)).index (prior hr t) := by
    show ![(wordHere F (crd hr t) T0).toNat, 0, (BitVec.ofNat 32 ((crd hr t) 0).val).toNat]
      = ![(wordHere F (crd hr (prior hr t)) T0).toNat, 0, (BitVec.ofNat 32 ((crd hr (prior hr t)) 0).val).toNat]
    rw [hw, show ((crd hr (prior hr t)) 0).val = ((crd hr t) 0).val from hj]
  funext x
  unfold iblk
  rw [View.read_apply, View.read_apply]
  refine congrArg (α := S2x5632x2048.Idx) (β := Elt F .f32) (fun u => m ((c : Thread nD τ).loc main_arg3) u) (funext fun a => Fin.ext ?_)
  show ((cfgA F hr).win (1 : Fin 3)).index t a * _ + 1 * _ = ((cfgA F hr).win (1 : Fin 3)).index (prior hr t) a * _ + 1 * _
  rw [hidx]

end Cert.DenseDown.Ffn

end
-- ==== Proof.DenseDownFrame.lean ====
/- The down projection, run from a memory whose tables are in range: it ends, its arguments unchanged, its result as the
   pipeline computes it. Between two points the scratch holds the copy of the earlier point's weights. -/
module

public import proofs.«01_k».proof.Proof.DenseDownTables
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Adequacy
public import Idealize.ShloMosaic.Init

@[expose] public section

set_option maxRecDepth 16384
set_option Elab.async false

noncomputable section

namespace Cert.DenseDown.Ffn

open Cert.DenseDown Cert.DenseDown.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The resource algebra of the pipeline's staging cells. -/
abbrev EP : Emb (UR sig nD τ) 𝕄 := emb₁

variable {T0 : S16.Idx → BitVec 32} {T1 : S1.Idx → BitVec 32} (hr : InRange T0 T1)
variable (m : (ℓ : Loc nD τ sig) → Buf (Elt F) ℓ) (ρ : Dev nD → PrngReg)

/-- The memory holds the two tables. -/
structure Placed (T0 : S16.Idx → BitVec 32) (T1 : S1.Idx → BitVec 32) (m : (ℓ : Loc nD τ sig) → Buf (Elt F) ℓ) : Prop where
  expert : ∀ c : Dev nD, m ((c : Thread nD τ).loc main_arg0) = T0
  used : ∀ c : Dev nD, m ((c : Thread nD τ).loc main_arg1) = T1

/-- What the scratch holds before point `n`: after the first point, the copy of the point before's weights. -/
def Held (c : Dev nD) (n : ℕ) (a : Buf (Elt F) ((c : Thread nD τ).loc cc0_scratch0)) : Prop :=
  ∀ k (e : n = k + 1) (h : k < (cfgA F hr).N), a = copyOf c (iblk hr m ρ c (1 : Fin 3) ⟨k, h⟩)

/-- The invariant before a point: the scratch, and the body's share of the tables. -/
def Phi (c : Dev nD) (t : Fin ((cfgA F hr).N + 1)) : sProp 𝕄 :=
  iprop((∃ a, ⌜Held hr m ρ c t.val a⌝ ∗ (scM.view.loc (c : Thread nD τ) ↦{fullShare} a))
    ∗ (teM.view.loc (c : Thread nD τ) ↦{fullShare.right} T0) ∗ (nvM.view.loc (c : Thread nD τ) ↦{fullShare.right} T1))

/-- The pipeline's proof data: each input buffer keeps its block, the result's gets what the body leaves. -/
def dats (_ : Fin 1) (c : Dev nD) : Dat τ (Elt F) Unit ℕ (UR sig nD τ) ℕ (cfgA F hr) c where
  A w := (s₀ m ρ).mem (((cfgA F hr).win w).arr.view.loc (c : Thread nD τ))
  after w t := match w with
    | ⟨0, _⟩ => iblk hr m ρ c (0 : Fin 3) t
    | ⟨1, _⟩ => iblk hr m ρ c (1 : Fin 3) t
    | ⟨2, _⟩ => outOf (crd hr t) T1 (iblk hr m ρ c (0 : Fin 3) t) (iblk hr m ρ c (1 : Fin 3) t)
  Φ t := Phi hr m ρ c t
  q _ := fullShare
  owed _ := 0

theorem after0 (c : Dev nD) (t : Fin (cfgA F hr).N) : (dats hr m ρ 0 c).after (0 : Fin 3) t = iblk hr m ρ c (0 : Fin 3) t := rfl
theorem after1 (c : Dev nD) (t : Fin (cfgA F hr).N) : (dats hr m ρ 0 c).after (1 : Fin 3) t = iblk hr m ρ c (1 : Fin 3) t := rfl
theorem after2 (c : Dev nD) (t : Fin (cfgA F hr).N) : (dats hr m ρ 0 c).after (2 : Fin 3) t
    = outOf (crd hr t) T1 (iblk hr m ρ c (0 : Fin 3) t) (iblk hr m ρ c (1 : Fin 3) t) := rfl

/-- An input's buffer holds its block when the body runs, fetched at the point or kept from before. -/
theorem before0 (c : Dev nD) (t : Fin (cfgA F hr).N) (d) : (dats hr m ρ 0 c).before (0 : Fin 3) t d = iblk hr m ρ c (0 : Fin 3) t :=
  ((dats hr m ρ 0 c).before_in_eq_fetched (0 : Fin 3) rfl (fun _ => rfl) (fun _ _ _ => rfl) (fun t => by rw [after0]; unfold Dat.blockOf iblk; rfl) t d).trans
    (by unfold Dat.fetched Dat.blockOf iblk; rfl)
theorem before1 (c : Dev nD) (t : Fin (cfgA F hr).N) (d) : (dats hr m ρ 0 c).before (1 : Fin 3) t d = iblk hr m ρ c (1 : Fin 3) t :=
  ((dats hr m ρ 0 c).before_in_eq_fetched (1 : Fin 3) rfl (fun _ => rfl) (fun _ _ _ => rfl) (fun t => by rw [after1]; unfold Dat.blockOf iblk; rfl) t d).trans
    (by unfold Dat.fetched Dat.blockOf iblk; rfl)

/-- What the scratch holds at a point that keeps it is the copy of the point's own weights. -/
theorem held_here (c : Dev nD) (t : Fin (cfgA F hr).N) (a) (ha : Held hr m ρ c t.val a) (h : ¬Copies F (crd hr t) T0) :
    a = copyOf c (iblk hr m ρ c (1 : Fin 3) t) := by
  obtain ⟨h0, e⟩ := same_block hr m ρ c t h
  rw [e]
  exact ha (t.val - 1) (by omega) (lt_of_le_of_lt (Nat.sub_le _ _) t.isLt)

theorem held_next (c : Dev nD) (t : Fin (cfgA F hr).N) : Held hr m ρ c (t.val + 1) (copyOf c (iblk hr m ρ c (1 : Fin 3) t)) := by
  intro k e h
  obtain rfl : t = ⟨k, h⟩ := Fin.ext (by simpa using e)
  rfl

set_option maxHeartbeats 4000000 in
/-- The body at a point, from the invariant to the invariant. -/
theorem sound_body (c : Dev nD) (t : Fin (cfgA F hr).N) :
    iprop((dats hr m ρ 0 c).Φ t.castSucc ∗ (dats hr m ρ 0 c).owesAt () t.castSucc
        ∗ (∃ d, owns (c : Thread nD τ) (stg0 hr t) fullShare ((dats hr m ρ 0 c).before (0 : Fin 3) t d))
        ∗ (∃ d, owns (c : Thread nD τ) (stg1 hr t) fullShare ((dats hr m ρ 0 c).before (1 : Fin 3) t d))
        ∗ (∃ d, owns (c : Thread nD τ) (stg2 hr t) fullShare ((dats hr m ρ 0 c).before (2 : Fin 3) t d)))
      ⊢ wp frame (wpE (defs₀ (F := F)) Variants.none c none) Set.univ
          (body (crd hr t) (stg0 hr t) (whole0 hr t) (stg1 hr t) (whole1 hr t) (stg2 hr t) (whole2 hr t)) fun _ =>
          iprop((dats hr m ρ 0 c).Φ t.succ ∗ (dats hr m ρ 0 c).owesAt () t.succ
            ∗ bigSep Finset.univ fun w : Fin (cfgA F hr).W =>
                match (cfgA F hr).idle w ((cfgA F hr).grid.coords t) with
                | true =>
                  match ((cfgA F hr).win w).flush t with
                  | false => iprop(∃ d, owns (c : Thread nD τ) (((cfgA F hr).win w).stage ((cfgA F hr).slots t w)) fullShare ((dats hr m ρ 0 c).before w t d))
                  | true => owns (c : Thread nD τ) (((cfgA F hr).win w).stage ((cfgA F hr).slots t w)) fullShare ((dats hr m ρ 0 c).after w t)
                | false => owns (c : Thread nD τ) (((cfgA F hr).win w).stage ((cfgA F hr).slots t w)) fullShare ((dats hr m ρ 0 c).after w t)) := by
  rw [bigSep_W0]
  rewrite [idle2 hr t]
  simp only [before0, before1, after0, after1, after2]
  rewrite [show (dats hr m ρ 0 c).Φ t.succ = Phi hr m ρ c t.succ from rfl, show (dats hr m ρ 0 c).Φ t.castSucc = Phi hr m ρ c t.castSucc from rfl,
    show (dats hr m ρ 0 c).owesAt () t.succ = (dats hr m ρ 0 c).owesAt () t.castSucc from rfl]
  unfold Phi; simp only [Fin.val_castSucc, Fin.val_succ]
  iintro ⟨⟨⟨%a0, %ha0, HS0⟩, HT0, HT1⟩, Ho, ⟨%d0, H0⟩, ⟨%d1, H1⟩, ⟨%d2, H2⟩⟩
  iapply (step c (crd hr t) (stg0 hr t) (whole0 hr t) (stg1 hr t) (whole1 hr t) (stg2 hr t) (whole2 hr t) T0 T1
    (iblk hr m ρ c (0 : Fin 3) t) (iblk hr m ρ c (1 : Fin 3) t) a0 (held_here hr m ρ c t a0 ha0) (unused_iff _ _) _)
  unfold kept
  isplitl [H0 H1 HT0 HT1]
  · isplitl [H0]; · iapply rep_of_owns; iexact H0
    isplitl [H1]; · iapply rep_of_owns; iexact H1
    isplitl [HT0]; · iexact HT0
    iexact HT1
  isplitl [H2]; · iexists _; iexact H2
  isplitl [HS0]; · iexact HS0
  iintro ⟨⟨H0, H1, HT0, HT1⟩, H2, HS0⟩
  isplitl [HS0 HT0 HT1]
  · isplitl [HS0]
    · iexists _; isplitr; swap
      · iexact HS0
      · ipureintro; exact held_next hr m ρ c t
    isplitl [HT0]
    · iexact HT0
    iexact HT1
  isplitl [Ho]; · iexact Ho
  isplitl [H0]
  · iapply owns_of_rep; iexact H0
  isplitl [H1]
  · iapply owns_of_rep; iexact H1
  iexact H2

theorem body_obligation (c : Dev nD) : BodyObligation (dats hr m ρ 0 c) (defs₀ (F := F)) Variants.none () Set.univ := fun t => by
  rw [bigSep_W0]
  exact sound_body hr m ρ c t

/-! ## The launch -/

variable (F) in
/-- The launch's element of the staging cells' algebra. -/
def u₀ : UR sig nD τ :=
  initOf (Pipeline.cells (pcs F hr) ((launch0 (F := F)).cellOf_inj fun _ => adm F hr))
    (Pipeline.launchToks (pcs F hr) ((launch0 (F := F)).cellOf_inj fun _ => adm F hr))

theorem share_eq (c : Dev nD) (w : Fin (cfgA F hr).W) : (dats hr m ρ 0 c).share w = fullShare := by unfold Dat.share; split <;> rfl

/-- The two tables, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant holds at the start, -/
theorem phi0_intro (c : Dev nD) :
    iprop(BI.emp ∗ Pipeline.prefHeld pre0 c (fun _ => fullShare.right) (adm F hr).1 ∗ Pipeline.scopedRest spec0 c) ⊢ (dats hr m ρ 0 c).Φ 0 := by
  rw [prefHeld_eq, scopedRest0_eq, show (dats hr m ρ 0 c).Φ 0 = Phi hr m ρ c 0 from rfl]
  unfold Phi
  iintro ⟨-, ⟨HT0, HT1⟩, ⟨%a0, HS0⟩⟩
  isplitl [HS0]
  · iexists a0; isplitr; swap
    · iexact HS0
    · ipureintro; exact fun n hn => absurd hn (Nat.succ_ne_zero n).symm
  isplitl [HT0]
  · iexact HT0
  iexact HT1

/-- and at the end it gives the scratch back. -/
theorem phiN_exit (c : Dev nD) : (dats hr m ρ 0 c).Φ (Fin.last (cfgA F hr).N) ⊢ iprop(BI.emp ∗ Pipeline.scopedRest spec0 c) := by
  rw [scopedRest0_eq, show (dats hr m ρ 0 c).Φ (Fin.last (cfgA F hr).N) = Phi hr m ρ c (Fin.last _) from rfl]
  unfold Phi
  iintro ⟨⟨%a0, -, HS0⟩, -, -⟩
  isplitr; · iempintro
  iexists a0; iexact HS0

/-- The final state: each array as computed, each table as it was. -/
def QC : PUnit × MemSt nD τ sig (Elt F) → Prop := fun r =>
  ∀ c : Dev nD, (∀ w : Fin (cfgA F hr).W, r.2.mem (((cfgA F hr).win w).arr.view.loc (c : Thread nD τ)) = (dats hr m ρ 0 c).arrAt w (cfgA F hr).N)
    ∧ ∀ j, r.2.mem ((c : Thread nD τ).loc (pre0.ref j)) = (adm F hr).1 j

theorem V_pre (hp : Placed T0 T1 m) (c : Dev nD) (j : Fin 2) : m ((c : Thread nD τ).loc (pre0.ref j)) = (adm F hr).1 j := by
  fin_cases j
  · exact hp.expert c
  · exact hp.used c

set_option backward.isDefEq.respectTransparency.types false in
set_option maxHeartbeats 4000000 in
/-- Every run ends, with each array as computed and every semaphore at zero. -/
theorem run_main_quiescent (hp : Placed T0 T1 m) : θ_run (defs (F := F)) (onTc (τ := τ) (main (F := F))) (s₀ m ρ) (fun r => QC hr m ρ r ∧ r.2.sem = fun _ => 0) :=
  Pipeline.θ_run_region_noSem_pf_quiescent pcfgs (fun _ => adm F hr) (dats hr m ρ) () ((launch0 (F := F)).cellOf_inj fun _ => adm F hr) (0 : Fin 1)
    (launch0 (F := F)).win.to₀ (launch0 (F := F)).pre EP defs₀ Variants.none m ρ main
    (hbody := fun c => (body_obligation hr m ρ c).loose) (hne := (launch0 (F := F)).block_pos)
    (harr := (launch0 (F := F)).arr_whole) (hstage := (launch0 (F := F)).stage_whole) (howed := fun _ _ => rfl)
    (u₀ := u₀ F hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs F hr) (dats hr m ρ) 0 (launch0 (F := F)).win.arr_inj c (launch0 (F := F)).arr_whole
      (share_eq hr m ρ c) _ _ fun _ => rfl)
    (hpf := V_pre hr m hp)
    (X := fun _ => iprop(emp)) (Y := fun _ => iprop(emp)) (Z := fun _ => iprop(emp))
    (hX := fun c => by rw [unscopedRestP0_eq]; iintro -; isplitr <;> iempintro)
    (hin := phi0_intro hr m ρ)
    (hout := phiN_exit hr m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the semaphores. -/
theorem run_main (hp : Placed T0 T1 m) : θ_run (defs (F := F)) (onTc (τ := τ) (main (F := F))) (s₀ m ρ) (QC hr m ρ) :=
  (θ_run defs _ _).mono (fun _ h => h.1) (run_main_quiescent hr m ρ hp)

include hr in
/-- The argument arrays end unchanged, -/
theorem unchanged (hp : Placed T0 T1 m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 0).trans (hp.expert c).symm, ((h c).2 1).trans (hp.used c).symm, ((h c).1 (0 : Fin 3)).trans ((dats hr m ρ 0 c).arrAt_in (0 : Fin 3) rfl _), ((h c).1 (1 : Fin 3)).trans ((dats hr m ρ 0 c).arrAt_in (1 : Fin 3) rfl _)⟩) (run_main hr m ρ hp)

include hr in
/-- and every semaphore ends at zero. -/
theorem frame (hp : Placed T0 T1 m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged hr m ρ hp) ((θ_run defs _ _).mono (fun _ h => h.2) (run_main_quiescent hr m ρ hp))

end Cert.DenseDown.Ffn

end
-- ==== Proof.DenseDownVal.lean ====
/- The down projection's result array, entry by entry. -/
module

public import proofs.«01_k».proof.Proof.DenseDownFrame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DenseDown.Ffn

open Cert.DenseDown Cert.DenseDown.Gen
open Idealize.ShloMosaic.Pipeline (Dat Cfg Window)

/-- The tile a row lies in. -/
def tileOf (r : Fin 8192) : Fin 16 := ⟨r.val / 512, by omega⟩

/-- Row `r`, column `d` of the projection by the experts: the row times its tile's expert's matrix where the tile is
    in use, and zero beyond. -/
def project (T0 : S16.Idx → BitVec 32) (T1 : S1.Idx → BitVec 32) (h0 : ∀ x, (T0 x).toNat < 2) (H : S8192x5632.Idx → EReal)
    (W : S2x5632x2048.Idx → EReal) (r : Fin 8192) (d : Fin 2048) : EReal :=
  if ((tileOf r).val : ℤ) < (T1 (ix1 0)).toInt then
    ∑ k : Fin 5632, H (ix2 r k) * W (ix3 ⟨(T0 (ix1 (tileOf r))).toNat, h0 _⟩ k d)
  else 0

theorem copied_at (x1 : Vec Ideal S1x5632x512 .f32) (k : Fin 5632) (d : Fin 512) :
    k0_pay1 (F := Ideal) x1 (ix2 k d) = x1 (ix3 0 k d) := by
  pointwise [k0_pay1]

theorem product_at (x0 : Vec Ideal S512x5632 .bf16) (w : Vec Ideal S5632x512 .bf16) (r d : Fin 512) :
    k0_pay2 (F := Ideal) x0 w (ix2 r d) = ∑ k : Fin 5632, x0 (ix2 r k) * w (ix2 k d) := by
  pointwise [k0_pay2]

theorem zero_at (r d : Fin 512) : k0_pay3 (F := Ideal) (ix2 r d) = 0 := by
  pointwise [k0_pay3]

theorem used_iff (i : grid0.Coords) (T1 : S1.Idx → BitVec 32) : Used Ideal i T1 ↔ ((i 1).val : ℤ) < (T1 (ix1 0)).toInt := by
  have hw : wordUsed Ideal T1 = T1 (ix1 0) := congrArg T1 (funext fun a => Fin.ext (by match a with | ⟨0, _⟩ => rfl))
  have h1 : (BitVec.ofNat 32 (i 1).val).toInt = (i 1).val := by
    have hi : (i 1).val < 16 := (i 1).isLt
    rw [BitVec.toInt_eq_toNat_of_lt (by rw [BitVec.toNat_ofNat]; omega), BitVec.toNat_ofNat]; omega
  unfold Used k0_cond2
  rw [hw]
  generalize T1 (ix1 0) = v
  dsimp only
  unfold Scalar.cmpi
  rw [WordCmp.cmpi_slt_eq, h1]
  by_cases h : ((i 1).val : ℤ) < v.toInt
  · rw [decide_eq_true h]; exact ⟨fun _ => h, fun _ => rfl⟩
  · rw [decide_eq_false h]; exact ⟨fun e => absurd e (by decide), fun e => absurd e h⟩

/-- In a tile in use the smaller of the tile's number and the last tile in use is the tile's own. -/
theorem minsi_own (n : ℕ) (hn : n < 16) (v : BitVec 32) (hv : (n : ℤ) < v.toInt) :
    (Scalar.minsi (BitVec.ofNat 32 n) (Scalar.subi v 1#32)).toNat = n := by
  have e0 : (BitVec.ofNat 32 n).toNat = n := by rw [BitVec.toNat_ofNat]; omega
  have e1 : (BitVec.ofNat 32 n).toInt = n := by rw [BitVec.toInt_eq_toNat_of_lt (by omega), e0]
  have hb : v.toNat < 2 ^ 32 := v.isLt
  have h2 : (v - 1#32).toInt = v.toInt - 1 := by
    have := BitVec.toInt_eq_toNat_cond v
    have := BitVec.toInt_eq_toNat_cond (v - 1#32)
    have := BitVec.toNat_sub v 1#32
    have : (1#32).toNat = 1 := rfl
    split at * <;> split at * <;> omega
  have h4 := BitVec.toInt_eq_toNat_cond (v - 1#32)
  unfold Scalar.minsi Scalar.subi IntOp.minsi IntOp.subi
  split
  · exact e0
  · rename_i h
    have : ¬ (BitVec.ofNat 32 n).toInt < (v - 1#32).toInt := by
      simpa [BitVec.slt] using h
    split at h4 <;> omega

variable {T0 : S16.Idx → BitVec 32} {T1 : S1.Idx → BitVec 32} (hr : InRange T0 T1)
variable (m : (ℓ : Loc nD τ sig) → Buf (Elt Ideal) ℓ) (ρ : Dev nD → PrngReg)

/-- The rows and the experts' matrices. -/
def argH (c : Dev nD) : S8192x5632.Idx → EReal := m ((c : Thread nD τ).loc main_arg2)
def argW (c : Dev nD) : S2x5632x2048.Idx → EReal := m ((c : Thread nD τ).loc main_arg3)

/-- At a tile in use the block of rows is the tile's own. -/
theorem rows_at (c : Dev nD) (t : Fin (cfgA Ideal hr).N) (hu : ((crd hr t 1).val : ℤ) < (T1 (ix1 0)).toInt) (r : Fin 512) (k : Fin 5632) (e : Fin 8192)
    (he : e.val = 512 * (crd hr t 1).val + r.val) :
    iblk hr m ρ c (0 : Fin 3) t (ix2 r k : S512x5632.Idx) = argH m c (ix2 e k) := by
  unfold iblk
  rw [View.read_apply]
  refine congrArg (α := S8192x5632.Idx) (β := EReal) (fun u => m ((c : Thread nD τ).loc main_arg2) u) (funext fun a => Fin.ext ?_)
  have hw : wordUsed Ideal T1 = T1 (ix1 0) := congrArg T1 (funext fun a => Fin.ext (by match a with | ⟨0, _⟩ => rfl))
  have key : ((cfgA Ideal hr).win (0 : Fin 3)).index t 0 = (crd hr t 1).val := by
    show (Scalar.minsi (BitVec.ofNat 32 (crd hr t 1).val) (Scalar.subi (wordUsed Ideal T1) 1#32)).toNat = _
    rw [hw]
    exact minsi_own _ (crd hr t 1).isLt _ hu
  match a with
  | ⟨0, _⟩ =>
    show ((cfgA Ideal hr).win (0 : Fin 3)).index t 0 * 512 + 1 * r.val = e.val
    rw [key]; omega
  | ⟨1, _⟩ =>
    show 0 * 5632 + 1 * k.val = k.val
    omega

/-- The block of weights is a column block of the tile's expert. -/
theorem weights_at (c : Dev nD) (t : Fin (cfgA Ideal hr).N) (k : Fin 5632) (d : Fin 512) (x : Fin 2) (e : Fin 2048)
    (hx : x.val = (T0 (ix1 (crd hr t 1))).toNat) (he : e.val = 512 * (crd hr t 0).val + d.val) :
    iblk hr m ρ c (1 : Fin 3) t (ix3 0 k d : S1x5632x512.Idx) = argW m c (ix3 x k e) := by
  unfold iblk
  rw [View.read_apply]
  refine congrArg (α := S2x5632x2048.Idx) (β := EReal) (fun u => m ((c : Thread nD τ).loc main_arg3) u) (funext fun a => Fin.ext ?_)
  have h0 : (crd hr t 0).val < 4 := (crd hr t 0).isLt
  have h1 : (crd hr t 1).val < 16 := (crd hr t 1).isLt
  have hw : wordHere Ideal (crd hr t) T0 = T0 (ix1 (crd hr t 1)) := by
    refine congrArg T0 (funext fun a => Fin.ext ?_)
    match a with
    | ⟨0, _⟩ =>
      show (BitVec.ofNat 32 (crd hr t 1).val).toNat + 1 * 0 = (crd hr t 1).val
      rw [BitVec.toNat_ofNat]; omega
  match a with
  | ⟨0, _⟩ =>
    show (wordHere Ideal (crd hr t) T0).toNat * 1 + 1 * 0 = x.val
    rw [hw]; omega
  | ⟨1, _⟩ =>
    show 0 * 5632 + 1 * k.val = k.val
    omega
  | ⟨2, _⟩ =>
    show (BitVec.ofNat 32 (crd hr t 0).val).toNat * 512 + 1 * d.val = e.val
    rw [BitVec.toNat_ofNat]; omega

/-- What one point leaves at row `r` and column `d` of its block. -/
theorem point (c : Dev nD) (t : Fin (cfgA Ideal hr).N) (r d : Fin 512) (e : Fin 8192) (f : Fin 2048)
    (he : e.val = 512 * (crd hr t 1).val + r.val) (hf : f.val = 512 * (crd hr t 0).val + d.val) :
    outOf (crd hr t) T1 (iblk hr m ρ c (0 : Fin 3) t) (iblk hr m ρ c (1 : Fin 3) t) (ix2 r d)
      = project T0 T1 hr.expert (argH m c) (argW m c) e f := by
  have h1 : (crd hr t 1).val < 16 := (crd hr t 1).isLt
  have ht : crd hr t 1 = tileOf e := Fin.ext (by show (crd hr t 1).val = e.val / 512; omega)
  unfold outOf project
  by_cases hu : ((crd hr t 1).val : ℤ) < (T1 (ix1 0)).toInt
  · have hu' : ((tileOf e).val : ℤ) < (T1 (ix1 0)).toInt := ht ▸ hu
    rw [if_pos ((used_iff _ _).2 hu), if_pos hu', product_at]
    refine Finset.sum_congr rfl fun k _ => ?_
    rw [copied_at, weights_at hr m ρ c t k d ⟨_, hr.expert (ix1 (tileOf e))⟩ f (by rw [ht]) hf, rows_at hr m ρ c t hu r k e he]
  · have hu' : ¬((tileOf e).val : ℤ) < (T1 (ix1 0)).toInt := ht ▸ hu
    rw [if_neg (fun h => hu ((used_iff _ _).1 h)), if_neg hu', zero_at]

/-- The point of tile `i` and column block `j`. -/
theorem point_of : ∀ (i : Fin 16) (j : Fin 4), ∃ t : Fin grid0.N, (grid0.coords t 1).val = i.val ∧ (grid0.coords t 0).val = j.val := by
  decide +kernel

/-- The result array. -/
theorem result (c : Dev nD) :
    (dats hr m ρ 0 c).arrAt (2 : Fin 3) (cfgA Ideal hr).N
      = fun u : S8192x2048.Idx => project T0 T1 hr.expert (argH m c) (argW m c) (u 0) (u 1) := by
  refine (dats hr m ρ 0 c).arrAt_eq_of_emb (2 : Fin 3) _ (fun t hf y => ?_) ?_
  · have h0 : (crd hr t 0).val < 4 := (crd hr t 0).isLt
    have h1 : (crd hr t 1).val < 16 := (crd hr t 1).isLt
    have ly0 : (y 0).val < 512 := (y 0).isLt
    have ly1 : (y 1).val < 512 := (y 1).isLt
    have e : (((cfgA Ideal hr).win (2 : Fin 3)).blk t).view.emb y
        = (ix2 (⟨512 * (crd hr t 1).val + (y 0).val, by omega⟩ : Fin 8192) (⟨512 * (crd hr t 0).val + (y 1).val, by omega⟩ : Fin 2048) : S8192x2048.Idx) := by
      funext a
      refine Fin.ext ?_
      match a with
      | ⟨0, _⟩ =>
        show (BitVec.ofNat 32 (crd hr t 1).val).toNat * 512 + 1 * (y 0).val = 512 * (crd hr t 1).val + (y 0).val
        rw [BitVec.toNat_ofNat]; omega
      | ⟨1, _⟩ =>
        show (BitVec.ofNat 32 (crd hr t 0).val).toNat * 512 + 1 * (y 1).val = 512 * (crd hr t 0).val + (y 1).val
        rw [BitVec.toNat_ofNat]; omega
    have ey : ((cfgA Ideal hr).win (2 : Fin 3)).xinj ((cfgA Ideal hr).grid.coords t) y = (ix2 ⟨(y 0).val, ly0⟩ ⟨(y 1).val, ly1⟩ : S512x512.Idx) := by
      funext a
      refine Fin.ext ?_
      match a with
      | ⟨0, _⟩ => rfl
      | ⟨1, _⟩ => rfl
    rw [e, ey, after2, cast_eq]
    exact point hr m ρ c t _ _ _ _ rfl rfl
  · intro u
    have l0 : (u 0).val < 8192 := (u 0).isLt
    have l1 : (u 1).val < 2048 := (u 1).isLt
    obtain ⟨t, ht1, ht0⟩ := point_of ⟨(u 0).val / 512, by omega⟩ ⟨(u 1).val / 512, by omega⟩
    refine ⟨t, flush2 hr t, ?_⟩
    have e : (((cfgA Ideal hr).win (2 : Fin 3)).blk t).view.emb (ix2 ⟨(u 0).val % 512, by omega⟩ ⟨(u 1).val % 512, by omega⟩ : S512x512.Idx) = u := by
      funext a
      refine Fin.ext ?_
      match a with
      | ⟨0, _⟩ =>
        show (BitVec.ofNat 32 (grid0.coords t 1).val).toNat * 512 + 1 * ((u 0).val % 512) = (u 0).val
        rw [ht1, BitVec.toNat_ofNat]
        show (u 0).val / 512 % 2 ^ 32 * 512 + 1 * ((u 0).val % 512) = (u 0).val
        omega
      | ⟨1, _⟩ =>
        show (BitVec.ofNat 32 (grid0.coords t 0).val).toNat * 512 + 1 * ((u 1).val % 512) = (u 1).val
        rw [ht0, BitVec.toNat_ofNat]
        show (u 1).val / 512 % 2 ^ 32 * 512 + 1 * ((u 1).val % 512) = (u 1).val
        omega
    rw [← e]
    exact View.emb_mem_set _ _

end Cert.DenseDown.Ffn

end
-- ==== Proof.DenseDownRef.lean ====
/- The down projection's reference, read at an index. -/
module

public import proofs.«01_k».proof.Proof.DenseDownVal
public import proofs.«01_k».proof.Proof.Gen.DenseDownRefIdeal.Run
public import Idealize.ShloMosaic.Lib.Pointwise
public import Idealize.ShloMosaic.Lib.ValueIdxCore

@[expose] public section

set_option maxRecDepth 16384

noncomputable section

open Idealize.ShloMosaic Idealize.ShloMosaic.TcCoe Idealize.SL.Sem

namespace Cert.DenseDownRefIdeal.Layers

open Cert.DenseDownRefIdeal Cert.DenseDownRefIdeal.Gen Cert.DenseDownRefIdeal.Value
open Cert.DenseDown.Ffn (tileOf project)

variable (T0 : IVec S16 32) (T1 : IVec S1 32) (H : FVec Ideal S8192x5632 .bf16) (W : FVec Ideal S2x5632x2048 .f32)

/-- The experts' numbers as the gather reads them, one to a tile. -/
def starts : IVec S16x1 32 :=
  broadcastInDim S16x1 ![0] bcast_S16_S16x1_0 (select (cmpi .slt T0 (broadcastInDim S16 ![] bcast_S_S16 (constantI S_ 32 0#32))) (addi T0 (broadcastInDim S16 ![] bcast_S_S16 (constantI S_ 32 2#32))) T0)

/-- Each tile's expert's matrix. -/
def chosen : FVec Ideal S16x5632x2048 .f32 :=
  Host.gather gather_S2x5632x2048_S16x1_S16x5632x2048_12_0_n_n_0_1_156322048 W (starts T0)

/-- The tiles' products. -/
def products : FVec Ideal S16x512x2048 .f32 :=
  Host.dotGeneral (F := Ideal) (φ₁ := .f32) (φ₂ := .f32) dot_S16x512x5632_S16x5632x2048_S16x512x2048_2_1_1_2_0_0 none (shapeCast _ (extf (F := Ideal) .f32 H bitsLt_bf16_f32) shapeCasts_S8192x5632_S16x512x5632) (chosen T0 W)

/-- Which tiles are in use. -/
def inUse : IVec S16 1 :=
  cmpi .slt (iotaInDim S16 32 0) (broadcastInDim S16 ![] bcast_S_S16 (shapeCast _ T1 shapeCasts_S1_S_))

def masked : FVec Ideal S16x512x2048 .f32 :=
  select (broadcastInDim S16x512x2048 ![0, 1, 2] bcast_S16x1x1_S16x512x2048_0_1_2 (broadcastInDim S16x1x1 ![0] bcast_S16_S16x1x1_0 (inUse T1))) (products T0 H W) (broadcastInDim S16x512x2048 ![] bcast_S_S16x512x2048 (id (constant S_ .f32 0x00000000#32)))

def value : FVec Ideal S8192x2048 .f32 := shapeCast _ (masked T0 T1 H W) shapeCasts_S16x512x2048_S8192x2048

variable {T0} (h0 : ∀ x, (T0 x).toNat < 2)

include h0 in
theorem starts_at (t : Fin 16) : starts T0 (ix2 t 0) = T0 (ix1 t) := by
  have h1 : ∀ v : BitVec 32, v.toNat < 2 → IntOp.cmpi .slt v 0#32 = 0#1 := by
    intro v hv
    have : v.toInt = v.toNat := BitVec.toInt_eq_toNat_of_lt (by omega)
    rw [WordCmp.cmpi_slt_eq, decide_eq_false (by rw [this]; simp)]
    rfl
  have h2 := h1 _ (h0 (ix1 t))
  pointwise [starts]
  rw [h2]
  rfl

theorem gathered_at (x : S2x5632x2048.Idx → EReal) (idx : IVec S16x1 32) (t : Fin 16) (k : Fin 5632) (d : Fin 2048) (e : Fin 2)
    (he : (idx (ix2 t 0)).toNat = e.val) :
    Host.gather gather_S2x5632x2048_S16x1_S16x5632x2048_12_0_n_n_0_1_156322048 x idx (ix3 t k d) = x (ix3 e k d) := by
  unfold Host.gather
  refine congrArg x (funext fun a => Fin.ext ?_)
  match a with
  | ⟨0, _⟩ =>
    show min (idx _).toInt.toNat (2 - 1) + 0 + 0 = e.val
    have hi : ∀ u : S16x1.Idx, u = ix2 t 0 → min (idx u).toInt.toNat (2 - 1) + 0 + 0 = e.val := by
      rintro u rfl
      have hv := e.isLt
      rw [BitVec.toInt_eq_toNat_of_lt (by omega), he]
      show min ((e.val : ℤ)).toNat 1 + 0 + 0 = e.val
      omega
    refine hi _ (funext fun b => Fin.ext ?_)
    match b with
    | ⟨0, _⟩ => rfl
    | ⟨1, _⟩ => rfl
  | ⟨1, _⟩ => show 0 + 0 + k.val = k.val; omega
  | ⟨2, _⟩ => show 0 + 0 + d.val = d.val; omega

include h0 in
theorem products_at (t : Fin 16) (r : Fin 512) (d : Fin 2048) :
    products T0 H W (ix3 t r d) = ∑ k : Fin 5632, H (ix2 ⟨t.val * 512 + r.val, by omega⟩ k) * W (ix3 ⟨(T0 (ix1 t)).toNat, h0 _⟩ k d) := by
  pointwise [products]
  refine Finset.sum_congr rfl fun k _ => ?_
  unfold chosen
  rw [gathered_at W _ t k d ⟨(T0 (ix1 t)).toNat, h0 _⟩ (congrArg BitVec.toNat (starts_at h0 t))]

theorem inUse_at (t : Fin 16) : inUse T1 (ix1 t) = if (t.val : ℤ) < (T1 (ix1 0)).toInt then 1#1 else 0#1 := by
  have h1 : (BitVec.ofNat 32 t.val).toInt = t.val := by
    rw [BitVec.toInt_eq_toNat_of_lt (by rw [BitVec.toNat_ofNat]; omega), BitVec.toNat_ofNat]; omega
  pointwise [inUse]
  rw [WordCmp.cmpi_slt_eq, h1]
  by_cases h : (t.val : ℤ) < (T1 (ix1 0)).toInt
  · rw [decide_eq_true h, if_pos h]; rfl
  · rw [decide_eq_false h, if_neg h]; rfl

include h0 in
theorem masked_at (t : Fin 16) (r : Fin 512) (d : Fin 2048) :
    masked T0 T1 H W (ix3 t r d) = project T0 T1 h0 H W ⟨t.val * 512 + r.val, by omega⟩ d := by
  have ht : tileOf ⟨t.val * 512 + r.val, by omega⟩ = t := Fin.ext (by show (t.val * 512 + r.val) / 512 = t.val; omega)
  pointwise [masked]
  rw [inUse_at T1 t, products_at H W h0 t r d]
  unfold project
  simp only [ht]
  by_cases h : (t.val : ℤ) < (T1 (ix1 0)).toInt
  · rw [if_pos h, if_pos h]; rfl
  · rw [if_neg h, if_neg h]
    show constant (F := Ideal) S_ .f32 0x00000000#32 ix0 = (0 : EReal)
    pointwise

include h0 in
/-- The reference's result. -/
theorem value_eq : value T0 T1 H W = fun u : S8192x2048.Idx => project T0 T1 h0 H W (u 0) (u 1) := by
  funext u
  have l0 : (u 0).val < 8192 := (u 0).isLt
  have l1 : (u 1).val < 2048 := (u 1).isLt
  have eu : u = ix2 ⟨(u 0).val, l0⟩ ⟨(u 1).val, l1⟩ := funext fun a => Fin.ext (by match a with | ⟨0, _⟩ => rfl | ⟨1, _⟩ => rfl)
  have e : value T0 T1 H W (ix2 ⟨(u 0).val, l0⟩ ⟨(u 1).val, l1⟩)
      = masked T0 T1 H W (ix3 ⟨(u 0).val / 512, by omega⟩ ⟨(u 0).val % 512, by omega⟩ ⟨(u 1).val, l1⟩) := by
    pointwise [value]
  have hm := masked_at T1 H W h0 ⟨(u 0).val / 512, by omega⟩ ⟨(u 0).val % 512, by omega⟩ ⟨(u 1).val, l1⟩
  have hi : (⟨(u 0).val / 512 * 512 + (u 0).val % 512, by omega⟩ : Fin 8192) = u 0 := Fin.ext (by show (u 0).val / 512 * 512 + (u 0).val % 512 = (u 0).val; omega)
  refine (congrArg (value T0 T1 H W) eu).trans (e.trans (hm.trans ?_))
  exact congrArg₂ (project T0 T1 h0 H W) hi rfl

end Cert.DenseDownRefIdeal.Layers

end
-- ==== Proof.DenseDownClaims.lean ====
/- The claims about the dense down projection. -/
module

public import proofs.«01_k».proof.Defs
public import proofs.«01_k».proof.Proof.DenseDownFrame
public import proofs.«01_k».proof.Proof.DenseDownRef
public import proofs.«01_k».proof.Proof.Gen.DenseDownIdeal
public import proofs.«01_k».proof.Proof.Gen.Pre_dense_down_tables
public import Idealize.ShloMosaic.Lib.WordCmp
public import Idealize.ShloMosaic.Lib.ReduceAll
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Proof.DenseDownClaims

instance : Subsingleton Cert.Pre_dense_down_tables.S_.Idx := ⟨fun a b => funext fun i => i.elim0⟩

/-- A word between 0 and 2, read signed, is below 2, read unsigned. -/
theorem small (v : BitVec 32) (h : IntOp.andi (IntOp.cmpi .sge v 0#32) (IntOp.cmpi .slt v 2#32) = 1#1) : v.toNat < 2 := by
  obtain ⟨h1, h2⟩ := IntOp.andi_eq_one.1 h
  rw [WordCmp.cmpi_sge_eq] at h1
  rw [WordCmp.cmpi_slt_eq] at h2
  have h1' : (0 : ℤ) ≤ v.toInt := by
    by_contra n
    rw [decide_eq_false (by simpa using n)] at h1
    exact absurd h1 (by decide)
  have h2' : v.toInt < 2 := by
    by_contra n
    rw [decide_eq_false (by simpa using n)] at h2
    exact absurd h2 (by decide)
  have hb : v.toNat < 2 ^ 32 := v.isLt
  have e := BitVec.toInt_eq_toNat_cond v
  split at e <;> omega

theorem positive (v : BitVec 32) (h : IntOp.cmpi .sge v 1#32 = 1#1) : 1 ≤ v.toInt := by
  rw [WordCmp.cmpi_sge_eq] at h
  by_contra n
  rw [decide_eq_false (by simpa using n)] at h
  exact absurd h (by decide)

/-- The precondition puts the experts' numbers in range and at least one tile in use. -/
theorem in_range {F : FTy → Type} [FloatOps F] (a0 : IVec Cert.Pre_dense_down_tables.S16 32) (a1 : IVec Cert.Pre_dense_down_tables.S1 32)
    (a2 : FVec F Cert.Pre_dense_down_tables.S8192x5632 .bf16) (a3 : FVec F Cert.Pre_dense_down_tables.S2x5632x2048 .f32)
    (h : Cert.Pre_dense_down_tables.fn (F := F) a0 a1 a2 a3 = fun _ => 1#1) :
    (∀ x, (a0 x).toNat < 2) ∧ ∀ x, 1 ≤ (a1 x).toInt := by
  have e := congrFun h (fun i => i.elim0)
  dsimp only [Cert.Pre_dense_down_tables.fn] at e
  obtain ⟨e0, e1⟩ := IntOp.andi_eq_one.1 e
  exact ⟨fun x => small _ (Host.reduce_andi_all _ _ _ _ _ e0 x), fun x => positive _ (Host.reduce_andi_all _ _ _ _ _ e1 x)⟩

theorem placed {F : FTy → Type} [FloatOps F] (m : (ℓ : Loc DenseDown.nD DenseDown.τ DenseDown.sig) → Buf (Elt F) ℓ) :
    DenseDown.Ffn.Placed (m ((((0 : Dev DenseDown.nD).tc : Thread DenseDown.nD DenseDown.τ)).loc DenseDown.main_arg0)) (m ((((0 : Dev DenseDown.nD).tc : Thread DenseDown.nD DenseDown.τ)).loc DenseDown.main_arg1)) m :=
  ⟨fun c => by obtain rfl : c = 0 := Subsingleton.elim _ _; rfl, fun c => by obtain rfl : c = 0 := Subsingleton.elim _ _; rfl⟩

theorem range_p (m : (ℓ : Loc DenseDown.nD DenseDown.τ DenseDown.sig) → Buf (Elt Bits) ℓ) (h : Cert.Pre_DenseDown m) :
    DenseDown.Ffn.InRange (m ((((0 : Dev DenseDown.nD).tc : Thread DenseDown.nD DenseDown.τ)).loc DenseDown.main_arg0)) (m ((((0 : Dev DenseDown.nD).tc : Thread DenseDown.nD DenseDown.τ)).loc DenseDown.main_arg1)) :=
  ⟨(in_range _ _ _ _ (h 0)).1, (in_range _ _ _ _ (h 0)).2⟩

theorem range_pi (m : (ℓ : Loc DenseDown.nD DenseDown.τ DenseDown.sig) → Buf (Elt Ideal) ℓ) (h : Cert.Pre_DenseDownIdeal m) :
    DenseDown.Ffn.InRange (m ((((0 : Dev DenseDown.nD).tc : Thread DenseDown.nD DenseDown.τ)).loc DenseDown.main_arg0)) (m ((((0 : Dev DenseDown.nD).tc : Thread DenseDown.nD DenseDown.τ)).loc DenseDown.main_arg1)) :=
  ⟨(in_range _ _ _ _ (h 0)).1, (in_range _ _ _ _ (h 0)).2⟩

/-- Idealizing changes no operation of the kernel: over the extended reals the two programs have the same bodies, -/
theorem same_bodies : DenseDownIdeal.defs₀ (F := Ideal) = DenseDown.defs₀ (F := Ideal) := by
  unfold DenseDownIdeal.defs₀ DenseDown.defs₀
  congr 1
  funext l a
  match l, a with
  | 0, (t, s) => rfl

/-- and the same pipelines, so what is proved of the kernel over any numbers holds of its idealization. -/
theorem same_program : DenseDownIdeal.defs (F := Ideal) = DenseDown.defs (F := Ideal) := by
  unfold DenseDownIdeal.defs DenseDown.defs
  rw [same_bodies]
  rfl

theorem frame_p : Cert.quiescent_DenseDown := fun m ρ h => DenseDown.Ffn.frame (range_p m h) m ρ (placed m)
theorem frame_pi : Cert.quiescent_DenseDownIdeal := fun m ρ h => by
  rw [same_program]
  exact DenseDown.Ffn.frame (F := Ideal) (range_pi m h) m ρ (placed m)
theorem frame_ri : Cert.quiescent_DenseDownRefIdeal := fun m ρ _ =>
  (θ_run Cert.DenseDownRefIdeal.defs _ _).mono (fun r h => ⟨fun c => (h c).2, sem_eq_zero_of_no_sems (by decide) r.2⟩)
    (Cert.DenseDownRefIdeal.Value.run (F := Ideal) m ρ)
theorem frame_ri_tables : Cert.quiescent_DenseDownRefIdeal_pre_dense_down_tables := fun m ρ _ => frame_ri m ρ trivial

theorem preserves : Cert.preserves_DenseDown_DenseDownIdeal := trivial

/-- From tables in range the kernel and the reference end with the same projection. -/
theorem algebraic : Cert.algebraic_DenseDownIdeal_DenseDownRefIdeal := by
  intro m g m' g' pre same
  have hr := range_pi m pre
  have hp := placed (F := Ideal) m
  refine ⟨fun c => (DenseDown.Ffn.dats hr m g 0 c).arrAt (2 : Fin 3) (DenseDown.Ffn.cfgA Ideal hr).N, ?_, ?_⟩
  · rw [same_program]
    exact (θ_run DenseDown.defs _ _).mono (fun r h c => ⟨(h.1 c).1 (2 : Fin 3), h.2 c⟩)
      (θ_run_and (DenseDown.Ffn.run_main hr m g hp) (DenseDown.Ffn.unchanged hr m g hp))
  · refine (θ_run DenseDownRefIdeal.defs _ _).mono (fun r h c => ⟨(h c).1.trans ?_, (h c).2⟩) (DenseDownRefIdeal.Value.run (F := Ideal) m' g')
    obtain ⟨a0, a1, a2, a3⟩ := same c
    obtain rfl : c = 0 := Subsingleton.elim _ _
    rw [a0, a1, a2, a3]
    exact (DenseDownRefIdeal.Layers.value_eq _ _ _ hr.expert).trans (DenseDown.Ffn.result hr m g 0).symm

end Cert.Proof.DenseDownClaims

end
-- ==== Proof.DenseUpRuns.lean ====
/- One grid point of the dense up projection of the experts' feed-forward layer: what the body leaves in the block of the
   result and in its scratch copies of the weights, on each of the four ways through it. -/
module

public import proofs.«01_k».proof.Proof.Gen.DenseUp.Skeleton
public import proofs.«01_k».proof.Proof.Gen.DenseUp.Launch
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.PureOps.BitExact

@[expose] public section

set_option maxRecDepth 16384
set_option Elab.async false

noncomputable section

namespace Cert.DenseUp.Ffn

open Cert.DenseUp Cert.DenseUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the tiles' layers, the number of tiles in use, and the scratch copies of a block of each of the two weights. -/
abbrev teM : Memref sig .tc .smem S8 .i32 := Memref.whole main_arg0
abbrev nvM : Memref sig .tc .smem S1 .i32 := Memref.whole main_arg1
abbrev scM : Memref sig .tc .vmem S2048x512 .bf16 := Memref.whole cc0_scratch0
abbrev sgM : Memref sig .tc .vmem S2048x512 .bf16 := Memref.whole cc0_scratch1

variable (F)

/-- The layer of the point's tile, the layer of the tile before it, and the number of tiles in use. -/
abbrev wordHere (i : grid0.Coords) (T0 : S8.Idx → Elt F .i32) : Elt F .i32 :=
  View.readAt (Elt F) teM.view (Rect.unit (s := S8) (k0_off1 i) S1.size (k0_off1_inb i)).toLoadRect T0 (Shape.Idx.first (numel1_S1.symm ▸ Nat.one_pos))
abbrev wordBefore (i : grid0.Coords) (T0 : S8.Idx → Elt F .i32) : Elt F .i32 :=
  View.readAt (Elt F) teM.view (Rect.unit (s := S8) (k0_off2 i) S1.size (k0_off2_inb i)).toLoadRect T0 (Shape.Idx.first (numel1_S1.symm ▸ Nat.one_pos))
abbrev wordUsed (T1 : S1.Idx → Elt F .i32) : Elt F .i32 :=
  View.readAt (Elt F) nvM.view (Rect.unit (s := S1) ![0] S1.size inb_S1_S1_0).toLoadRect T1 (Shape.Idx.first (numel1_S1.symm ▸ Nat.one_pos))

/-- The body copies the weights at this point. -/
abbrev Copies (i : grid0.Coords) (T0 : S8.Idx → Elt F .i32) : Prop :=
  Scalar.cmpi .ne (Scalar.extui (Scalar.ori (Scalar.cmpi .eq (BitVec.ofNat 32 (i 1).val) 0#32) (Scalar.cmpi .ne (wordHere F i T0) (wordBefore F i T0)))) 0#32 = 1#1
/-- The point's tile is in use; -/
abbrev Used (i : grid0.Coords) (T1 : S1.Idx → Elt F .i32) : Prop := k0_cond2 i (wordUsed F T1) = 1#1
/-- it is not. -/
abbrev Unused (i : grid0.Coords) (T1 : S1.Idx → Elt F .i32) : Prop := k0_cond3 i (wordUsed F T1) = 1#1

variable {F}

variable (c : Dev nD) (i : grid0.Coords) (a4 : Memref sig .tc .vmem S1024x1024 .bf16) (h4 : a4.IsWhole) (a5 : Memref sig .tc .vmem S1024x1024 .bf16) (h5 : a5.IsWhole)
  (a6 : Memref sig .tc .vmem S1x2048x512 .f32) (h6 : a6.IsWhole) (a7 : Memref sig .tc .vmem S1x2048x512 .f32) (h7 : a7.IsWhole) (a8 : Memref sig .tc .vmem S1024x512 .bf16) (h8 : a8.IsWhole)
  (T0 : S8.Idx → Elt F .i32) (T1 : S1.Idx → Elt F .i32)
  (x0 : S1024x1024.Idx → Elt F .bf16) (x1 : S1024x1024.Idx → Elt F .bf16) (x2 : S1x2048x512.Idx → Elt F .f32) (x3 : S1x2048x512.Idx → Elt F .f32)

/-- What the body needs beside its result block and its scratches, and gives back. -/
abbrev kept : sProp 𝕄 :=
  iprop((a4.view.loc (c : Thread nD τ) ↦[a4.view.set]{fullShare} a4.view.rep x0)
    ∗ (a5.view.loc (c : Thread nD τ) ↦[a5.view.set]{fullShare} a5.view.rep x1)
    ∗ (a6.view.loc (c : Thread nD τ) ↦[a6.view.set]{fullShare} a6.view.rep x2)
    ∗ (a7.view.loc (c : Thread nD τ) ↦[a7.view.set]{fullShare} a7.view.rep x3)
    ∗ (teM.view.loc (c : Thread nD τ) ↦{fullShare.right} T0)
    ∗ (nvM.view.loc (c : Thread nD τ) ↦{fullShare.right} T1))

/-- The body at a point, on the point's staging buffers. -/
abbrev body : Prog (TpuEff nD τ sig (Elt F) Λ₀ .tc) PUnit :=
  cc0_ffn_up i teM (Memref.isWhole_whole _) nvM (Memref.isWhole_whole _) a4 h4 a5 h5 a6 h6 a7 h7 a8 h8 scM (Memref.isWhole_whole _) sgM (Memref.isWhole_whole _)

set_option backward.proofsInPublic true in
set_option maxHeartbeats 16000000 in
/-- A point that copies the weights, its tile in use: the pieces of its result block and its scratches, as the run finds them. -/
noncomputable def runA (hc : Copies F i T0) (hu : Used F i T1) (hd : ¬Unused F i T1) :
    Σ' (out : List (View.Piece (Elt F) S1024x512 .bf16)) (sc : Buf (Elt F) ((c : Thread nD τ).loc cc0_scratch0)), { sg : Buf (Elt F) ((c : Thread nD τ).loc cc0_scratch1) //
      ∀ (xa : Buf (Elt F) ((c : Thread nD τ).loc cc0_scratch0)) (xb : Buf (Elt F) ((c : Thread nD τ).loc cc0_scratch1)) (K : PUnit → sProp 𝕄),
        iprop(kept c a4 a5 a6 a7 T0 T1 x0 x1 x2 x3
          ∗ (∃ d, owns (c : Thread nD τ) a8 fullShare d)
          ∗ (scM.view.loc (c : Thread nD τ) ↦{fullShare} xa)
          ∗ (sgM.view.loc (c : Thread nD τ) ↦{fullShare} xb)
          ∗ (iprop(kept c a4 a5 a6 a7 T0 T1 x0 x1 x2 x3
              ∗ (∃ f, a8.view.loc (c : Thread nD τ) ↦[a8.view.set]{fullShare} a8.view.writes (Elt F) f out)
              ∗ (scM.view.loc (c : Thread nD τ) ↦{fullShare} sc)
              ∗ (sgM.view.loc (c : Thread nD τ) ↦{fullShare} sg)) -∗ K ⟨⟩))
          ⊢ wp frame (wpE (defs₀ (F := F)) Variants.none c none) Set.univ (body i a4 h4 a5 h5 a6 h6 a7 h7 a8 h8) K } :=
  ⟨_, _, _, fun (xa : Buf (Elt F) ((c : Thread nD τ).loc cc0_scratch0)) (xb : Buf (Elt F) ((c : Thread nD τ).loc cc0_scratch1)) K => by
    unfold owns kept body
    rw [cc0_ffn_up_eq_skeleton]; unfold cc0_ffn_up_skel
    iintro ⟨⟨H0, H1, H2, H3, HT0, HT1⟩, ⟨%d4, %f4, -, HO4⟩, HS0, HS1, Hk⟩
    have hS0 : scM.IsWhole := Memref.isWhole_whole _
    have hS1 : sgM.IsWhole := Memref.isWhole_whole _
    have hT0 : teM.IsWhole := Memref.isWhole_whole _
    have hT1 : nvM.IsWhole := Memref.isWhole_whole _
    sl_exec! (disch := first | (guard_target = Scalar.cmpi = _; exact hc) | (guard_target = k0_cond2 _ _ = _; exact hu) | (guard_target = ¬(k0_cond3 _ _ = _); exact hd))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    iexact HS1⟩

set_option backward.proofsInPublic true in
set_option maxHeartbeats 16000000 in
/-- A point that keeps the copies, its tile in use. -/
noncomputable def runB (xa : Buf (Elt F) ((c : Thread nD τ).loc cc0_scratch0)) (xb : Buf (Elt F) ((c : Thread nD τ).loc cc0_scratch1)) (hc : ¬Copies F i T0) (hu : Used F i T1) (hd : ¬Unused F i T1) :
    Σ' (out : List (View.Piece (Elt F) S1024x512 .bf16)) (sc : Buf (Elt F) ((c : Thread nD τ).loc cc0_scratch0)), { sg : Buf (Elt F) ((c : Thread nD τ).loc cc0_scratch1) //
      ∀ (K : PUnit → sProp 𝕄),
        iprop(kept c a4 a5 a6 a7 T0 T1 x0 x1 x2 x3
          ∗ (∃ d, owns (c : Thread nD τ) a8 fullShare d)
          ∗ (scM.view.loc (c : Thread nD τ) ↦{fullShare} xa)
          ∗ (sgM.view.loc (c : Thread nD τ) ↦{fullShare} xb)
          ∗ (iprop(kept c a4 a5 a6 a7 T0 T1 x0 x1 x2 x3
              ∗ (∃ f, a8.view.loc (c : Thread nD τ) ↦[a8.view.set]{fullShare} a8.view.writes (Elt F) f out)
              ∗ (scM.view.loc (c : Thread nD τ) ↦{fullShare} sc)
              ∗ (sgM.view.loc (c : Thread nD τ) ↦{fullShare} sg)) -∗ K ⟨⟩))
          ⊢ wp frame (wpE (defs₀ (F := F)) Variants.none c none) Set.univ (body i a4 h4 a5 h5 a6 h6 a7 h7 a8 h8) K } :=
  ⟨_, _, _, fun K => by
    unfold owns kept body
    rw [cc0_ffn_up_eq_skeleton]; unfold cc0_ffn_up_skel
    iintro ⟨⟨H0, H1, H2, H3, HT0, HT1⟩, ⟨%d4, %f4, -, HO4⟩, HS0, HS1, Hk⟩
    have hS0 : scM.IsWhole := Memref.isWhole_whole _
    have hS1 : sgM.IsWhole := Memref.isWhole_whole _
    have hT0 : teM.IsWhole := Memref.isWhole_whole _
    have hT1 : nvM.IsWhole := Memref.isWhole_whole _
    sl_exec! (disch := first | (guard_target = ¬(Scalar.cmpi = _); exact hc) | (guard_target = k0_cond2 _ _ = _; exact hu) | (guard_target = ¬(k0_cond3 _ _ = _); exact hd))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    iexact HS1⟩

set_option backward.proofsInPublic true in
set_option maxHeartbeats 16000000 in
/-- A point that copies the weights, its tile not in use. -/
noncomputable def runC (hc : Copies F i T0) (hu : ¬Used F i T1) (hd : Unused F i T1) :
    Σ' (out : List (View.Piece (Elt F) S1024x512 .bf16)) (sc : Buf (Elt F) ((c : Thread nD τ).loc cc0_scratch0)), { sg : Buf (Elt F) ((c : Thread nD τ).loc cc0_scratch1) //
      ∀ (xa : Buf (Elt F) ((c : Thread nD τ).loc cc0_scratch0)) (xb : Buf (Elt F) ((c : Thread nD τ).loc cc0_scratch1)) (K : PUnit → sProp 𝕄),
        iprop(kept c a4 a5 a6 a7 T0 T1 x0 x1 x2 x3
          ∗ (∃ d, owns (c : Thread nD τ) a8 fullShare d)
          ∗ (scM.view.loc (c : Thread nD τ) ↦{fullShare} xa)
          ∗ (sgM.view.loc (c : Thread nD τ) ↦{fullShare} xb)
          ∗ (iprop(kept c a4 a5 a6 a7 T0 T1 x0 x1 x2 x3
              ∗ (∃ f, a8.view.loc (c : Thread nD τ) ↦[a8.view.set]{fullShare} a8.view.writes (Elt F) f out)
              ∗ (scM.view.loc (c : Thread nD τ) ↦{fullShare} sc)
              ∗ (sgM.view.loc (c : Thread nD τ) ↦{fullShare} sg)) -∗ K ⟨⟩))
          ⊢ wp frame (wpE (defs₀ (F := F)) Variants.none c none) Set.univ (body i a4 h4 a5 h5 a6 h6 a7 h7 a8 h8) K } :=
  ⟨_, _, _, fun (xa : Buf (Elt F) ((c : Thread nD τ).loc cc0_scratch0)) (xb : Buf (Elt F) ((c : Thread nD τ).loc cc0_scratch1)) K => by
    unfold owns kept body
    rw [cc0_ffn_up_eq_skeleton]; unfold cc0_ffn_up_skel
    iintro ⟨⟨H0, H1, H2, H3, HT0, HT1⟩, ⟨%d4, %f4, -, HO4⟩, HS0, HS1, Hk⟩
    have hS0 : scM.IsWhole := Memref.isWhole_whole _
    have hS1 : sgM.IsWhole := Memref.isWhole_whole _
    have hT0 : teM.IsWhole := Memref.isWhole_whole _
    have hT1 : nvM.IsWhole := Memref.isWhole_whole _
    sl_exec! (disch := first | (guard_target = Scalar.cmpi = _; exact hc) | (guard_target = ¬(k0_cond2 _ _ = _); exact hu) | (guard_target = k0_cond3 _ _ = _; exact hd))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    iexact HS1⟩

set_option backward.proofsInPublic true in
set_option maxHeartbeats 16000000 in
/-- A point that keeps the copies, its tile not in use. -/
noncomputable def runD (xa : Buf (Elt F) ((c : Thread nD τ).loc cc0_scratch0)) (xb : Buf (Elt F) ((c : Thread nD τ).loc cc0_scratch1)) (hc : ¬Copies F i T0) (hu : ¬Used F i T1) (hd : Unused F i T1) :
    Σ' (out : List (View.Piece (Elt F) S1024x512 .bf16)) (sc : Buf (Elt F) ((c : Thread nD τ).loc cc0_scratch0)), { sg : Buf (Elt F) ((c : Thread nD τ).loc cc0_scratch1) //
      ∀ (K : PUnit → sProp 𝕄),
        iprop(kept c a4 a5 a6 a7 T0 T1 x0 x1 x2 x3
          ∗ (∃ d, owns (c : Thread nD τ) a8 fullShare d)
          ∗ (scM.view.loc (c : Thread nD τ) ↦{fullShare} xa)
          ∗ (sgM.view.loc (c : Thread nD τ) ↦{fullShare} xb)
          ∗ (iprop(kept c a4 a5 a6 a7 T0 T1 x0 x1 x2 x3
              ∗ (∃ f, a8.view.loc (c : Thread nD τ) ↦[a8.view.set]{fullShare} a8.view.writes (Elt F) f out)
              ∗ (scM.view.loc (c : Thread nD τ) ↦{fullShare} sc)
              ∗ (sgM.view.loc (c : Thread nD τ) ↦{fullShare} sg)) -∗ K ⟨⟩))
          ⊢ wp frame (wpE (defs₀ (F := F)) Variants.none c none) Set.univ (body i a4 h4 a5 h5 a6 h6 a7 h7 a8 h8) K } :=
  ⟨_, _, _, fun K => by
    unfold owns kept body
    rw [cc0_ffn_up_eq_skeleton]; unfold cc0_ffn_up_skel
    iintro ⟨⟨H0, H1, H2, H3, HT0, HT1⟩, ⟨%d4, %f4, -, HO4⟩, HS0, HS1, Hk⟩
    have hS0 : scM.IsWhole := Memref.isWhole_whole _
    have hS1 : sgM.IsWhole := Memref.isWhole_whole _
    have hT0 : teM.IsWhole := Memref.isWhole_whole _
    have hT1 : nvM.IsWhole := Memref.isWhole_whole _
    sl_exec! (disch := first | (guard_target = ¬(Scalar.cmpi = _); exact hc) | (guard_target = ¬(k0_cond2 _ _ = _); exact hu) | (guard_target = k0_cond3 _ _ = _; exact hd))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    isplitl [HS0]; · iexact HS0
    iexact HS1⟩

end Cert.DenseUp.Ffn

end
-- ==== Proof.DenseUpStep.lean ====
/- The dense up projection's body at a point as one statement: with the copy of the point's weights in place where the body
   keeps it, the body leaves the product of the tile and those weights, or zeros, and the copy of the point's weights. -/
module

public import proofs.«01_k».proof.Proof.DenseUpRuns
public import Idealize.ShloMosaic.Lib.Pipeline.Value

@[expose] public section

set_option maxRecDepth 16384
set_option Elab.async false

noncomputable section

namespace Cert.DenseUp.Ffn

open Cert.DenseUp Cert.DenseUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (a4 : Memref sig .tc .vmem S1024x1024 .bf16) (h4 : a4.IsWhole) (a5 : Memref sig .tc .vmem S1024x1024 .bf16) (h5 : a5.IsWhole)
  (a6 : Memref sig .tc .vmem S1x2048x512 .f32) (h6 : a6.IsWhole) (a7 : Memref sig .tc .vmem S1x2048x512 .f32) (h7 : a7.IsWhole) (a8 : Memref sig .tc .vmem S1024x512 .bf16) (h8 : a8.IsWhole)
  (T0 : S8.Idx → Elt F .i32) (T1 : S1.Idx → Elt F .i32)
  (x0 : S1024x1024.Idx → Elt F .bf16) (x1 : S1024x1024.Idx → Elt F .bf16) (x2 : S1x2048x512.Idx → Elt F .f32) (x3 : S1x2048x512.Idx → Elt F .f32)

/-- The scratch copies of a block of each of the two weights. -/
abbrev copyOf (x2 : S1x2048x512.Idx → Elt F .f32) : Buf (Elt F) ((c : Thread nD τ).loc cc0_scratch0) := k0_pay1 (F := F) x2
abbrev copyOf' (x3 : S1x2048x512.Idx → Elt F .f32) : Buf (Elt F) ((c : Thread nD τ).loc cc0_scratch1) := k0_pay2 (F := F) x3

/-- The upper and the lower half of a copy. -/
abbrev upper (w : S2048x512.Idx → Elt F .bf16) : S1024x512.Idx → Elt F .bf16 :=
  View.ld w (Rect.unit (s := S2048x512) ![0, 0] S1024x512.size inb_S2048x512_S1024x512_0_0)
abbrev lower (w : S2048x512.Idx → Elt F .bf16) : S1024x512.Idx → Elt F .bf16 :=
  View.ld w (Rect.unit (s := S2048x512) ![1024, 0] S1024x512.size inb_S2048x512_S1024x512_1024_0)

/-- What the body makes of its rows and its copies of the weights. -/
def gated (x0 x1 : S1024x1024.Idx → Elt F .bf16) (w w' : S2048x512.Idx → Elt F .bf16) : S1024x512.Idx → Elt F .bf16 :=
  k0_pay3 (F := F) x0 x1 (upper w) (lower w) (upper w') (lower w')

/-- What the body leaves in the result block. -/
def outOf (i : grid0.Coords) (T1 : S1.Idx → Elt F .i32) (x0 x1 : S1024x1024.Idx → Elt F .bf16) (x2 x3 : S1x2048x512.Idx → Elt F .f32) :
    S1024x512.Idx → Elt F .bf16 :=
  if Used F i T1 then gated x0 x1 (k0_pay1 (F := F) x2) (k0_pay2 (F := F) x3) else k0_pay4 (F := F)

theorem off2 : (![0, 0] : Fin 2 → Nat) = fun _ => 0 := funext fun a => by fin_cases a <;> rfl
theorem off3 : (![0, 0, 0] : Fin 3 → Nat) = fun _ => 0 := funext fun a => by fin_cases a <;> rfl

/-- One store over a whole buffer leaves what it stores. -/
theorem whole_write (b : Ref sig .tc) {off : Fin b.ty.shape.rank → Nat} (h : off = fun _ => 0) (inb : ∀ a, off a + b.ty.shape.size a ≤ b.ty.shape.size a)
    (f : b.ty.Contents (Elt F)) (w : b.ty.shape.Idx → Elt F b.ty.elt) :
    (View.whole b).writes (Elt F) f [⟨Rect.unit off b.ty.shape.size inb, w⟩] = w := by
  subst h
  exact View.read_writes_whole (View.whole b) f w

/-- A part of what one store over a whole buffer left is a part of what it stored. -/
theorem part_of_whole {sp : Space} (v : View sig .tc sp S2048x512 .bf16) {off : Fin S2048x512.rank → Nat} (h : off = fun _ => 0)
    (inb : ∀ a, off a + S2048x512.size a ≤ S2048x512.size a) (w : S2048x512.Idx → Elt F .bf16) (r : Rect S2048x512) :
    v.readCov [(⟨Rect.unit off S2048x512.size inb, w⟩ : View.Piece (Elt F) S2048x512 .bf16)] r = View.ld w r := by
  subst h
  rw [View.readCov_eq_canon_ld _ _ _ (fun y => ⟨_, List.mem_singleton.2 rfl, by
    show y ∈ (Rect.whole S2048x512).set; rw [Rect.set_whole]; exact Finset.mem_univ y⟩), View.canon_unit_zero (S := S2048x512) rfl]

theorem scratchA0 (hc : Copies F i T0) (hu : Used F i T1) (hd : ¬Unused F i T1) :
    (runA c i a4 h4 a5 h5 a6 h6 a7 h7 a8 h8 T0 T1 x0 x1 x2 x3 hc hu hd).2.1 = copyOf c x2 := by
  unfold runA
  dsimp only
  sl_unfold_words
  refine (whole_write cc0_scratch0 off2 _ _ _).trans ?_
  rw [View.readAt_eq_ld, View.read_rep, View.ld_unit_zero (S := S1x2048x512) off3]

theorem scratchA1 (hc : Copies F i T0) (hu : Used F i T1) (hd : ¬Unused F i T1) :
    (runA c i a4 h4 a5 h5 a6 h6 a7 h7 a8 h8 T0 T1 x0 x1 x2 x3 hc hu hd).2.2.1 = copyOf' c x3 := by
  unfold runA
  dsimp only
  sl_unfold_words
  refine (whole_write cc0_scratch1 off2 _ _ _).trans ?_
  rw [View.readAt_eq_ld, View.read_rep, View.ld_unit_zero (S := S1x2048x512) off3]

theorem outA (hc : Copies F i T0) (hu : Used F i T1) (hd : ¬Unused F i T1) (f) :
    a8.view.read (Elt F) (a8.view.writes (Elt F) f (runA c i a4 h4 a5 h5 a6 h6 a7 h7 a8 h8 T0 T1 x0 x1 x2 x3 hc hu hd).1) = gated x0 x1 (k0_pay1 (F := F) x2) (k0_pay2 (F := F) x3) := by
  rw [View.read_writes_eq_canon _ _ _ (View.cover_of_tiledL (runA c i a4 h4 a5 h5 a6 h6 a7 h7 a8 h8 T0 T1 x0 x1 x2 x3 hc hu hd).1 S1024x512.size (by sl_kernel_rfl))]
  unfold runA
  dsimp only
  sl_unfold_words
  rw [View.canon_unit_zero (S := S1024x512) off2]
  unfold gated
  rw [part_of_whole _ off2, part_of_whole _ off2, part_of_whole _ off2, part_of_whole _ off2]
  simp only [View.readAt_eq_ld, View.read_rep, View.ld_unit_zero (S := S1024x1024) off2, View.ld_unit_zero (S := S1x2048x512) off3]

theorem scratchB0 (xa : Buf (Elt F) ((c : Thread nD τ).loc cc0_scratch0)) (xb : Buf (Elt F) ((c : Thread nD τ).loc cc0_scratch1)) (hc : ¬Copies F i T0) (hu : Used F i T1) (hd : ¬Unused F i T1) :
    (runB c i a4 h4 a5 h5 a6 h6 a7 h7 a8 h8 T0 T1 x0 x1 x2 x3 xa xb hc hu hd).2.1 = xa := by
  unfold runB
  rfl

theorem scratchB1 (xa : Buf (Elt F) ((c : Thread nD τ).loc cc0_scratch0)) (xb : Buf (Elt F) ((c : Thread nD τ).loc cc0_scratch1)) (hc : ¬Copies F i T0) (hu : Used F i T1) (hd : ¬Unused F i T1) :
    (runB c i a4 h4 a5 h5 a6 h6 a7 h7 a8 h8 T0 T1 x0 x1 x2 x3 xa xb hc hu hd).2.2.1 = xb := by
  unfold runB
  rfl

theorem outB (xa : Buf (Elt F) ((c : Thread nD τ).loc cc0_scratch0)) (xb : Buf (Elt F) ((c : Thread nD τ).loc cc0_scratch1)) (hc : ¬Copies F i T0) (hu : Used F i T1) (hd : ¬Unused F i T1) (f) :
    a8.view.read (Elt F) (a8.view.writes (Elt F) f (runB c i a4 h4 a5 h5 a6 h6 a7 h7 a8 h8 T0 T1 x0 x1 x2 x3 xa xb hc hu hd).1) = gated x0 x1 xa xb := by
  rw [View.read_writes_eq_canon _ _ _ (View.cover_of_tiledL (runB c i a4 h4 a5 h5 a6 h6 a7 h7 a8 h8 T0 T1 x0 x1 x2 x3 xa xb hc hu hd).1 S1024x512.size (by sl_kernel_rfl))]
  unfold runB
  dsimp only
  sl_unfold_words
  rw [View.canon_unit_zero (S := S1024x512) off2]
  unfold gated
  simp only [View.readAt_eq_ld, View.read_rep, View.ld_unit_zero (S := S1024x1024) off2]
  rfl

theorem scratchC0 (hc : Copies F i T0) (hu : ¬Used F i T1) (hd : Unused F i T1) :
    (runC c i a4 h4 a5 h5 a6 h6 a7 h7 a8 h8 T0 T1 x0 x1 x2 x3 hc hu hd).2.1 = copyOf c x2 := by
  unfold runC
  dsimp only
  sl_unfold_words
  refine (whole_write cc0_scratch0 off2 _ _ _).trans ?_
  rw [View.readAt_eq_ld, View.read_rep, View.ld_unit_zero (S := S1x2048x512) off3]

theorem scratchC1 (hc : Copies F i T0) (hu : ¬Used F i T1) (hd : Unused F i T1) :
    (runC c i a4 h4 a5 h5 a6 h6 a7 h7 a8 h8 T0 T1 x0 x1 x2 x3 hc hu hd).2.2.1 = copyOf' c x3 := by
  unfold runC
  dsimp only
  sl_unfold_words
  refine (whole_write cc0_scratch1 off2 _ _ _).trans ?_
  rw [View.readAt_eq_ld, View.read_rep, View.ld_unit_zero (S := S1x2048x512) off3]

theorem outC (hc : Copies F i T0) (hu : ¬Used F i T1) (hd : Unused F i T1) (f) :
    a8.view.read (Elt F) (a8.view.writes (Elt F) f (runC c i a4 h4 a5 h5 a6 h6 a7 h7 a8 h8 T0 T1 x0 x1 x2 x3 hc hu hd).1) = k0_pay4 (F := F) := by
  rw [View.read_writes_eq_canon _ _ _ (View.cover_of_tiledL (runC c i a4 h4 a5 h5 a6 h6 a7 h7 a8 h8 T0 T1 x0 x1 x2 x3 hc hu hd).1 S1024x512.size (by sl_kernel_rfl))]
  unfold runC
  dsimp only
  sl_unfold_words
  rw [View.canon_unit_zero (S := S1024x512) off2]

theorem scratchD0 (xa : Buf (Elt F) ((c : Thread nD τ).loc cc0_scratch0)) (xb : Buf (Elt F) ((c : Thread nD τ).loc cc0_scratch1)) (hc : ¬Copies F i T0) (hu : ¬Used F i T1) (hd : Unused F i T1) :
    (runD c i a4 h4 a5 h5 a6 h6 a7 h7 a8 h8 T0 T1 x0 x1 x2 x3 xa xb hc hu hd).2.1 = xa := by
  unfold runD
  rfl

theorem scratchD1 (xa : Buf (Elt F) ((c : Thread nD τ).loc cc0_scratch0)) (xb : Buf (Elt F) ((c : Thread nD τ).loc cc0_scratch1)) (hc : ¬Copies F i T0) (hu : ¬Used F i T1) (hd : Unused F i T1) :
    (runD c i a4 h4 a5 h5 a6 h6 a7 h7 a8 h8 T0 T1 x0 x1 x2 x3 xa xb hc hu hd).2.2.1 = xb := by
  unfold runD
  rfl

theorem outD (xa : Buf (Elt F) ((c : Thread nD τ).loc cc0_scratch0)) (xb : Buf (Elt F) ((c : Thread nD τ).loc cc0_scratch1)) (hc : ¬Copies F i T0) (hu : ¬Used F i T1) (hd : Unused F i T1) (f) :
    a8.view.read (Elt F) (a8.view.writes (Elt F) f (runD c i a4 h4 a5 h5 a6 h6 a7 h7 a8 h8 T0 T1 x0 x1 x2 x3 xa xb hc hu hd).1) = k0_pay4 (F := F) := by
  rw [View.read_writes_eq_canon _ _ _ (View.cover_of_tiledL (runD c i a4 h4 a5 h5 a6 h6 a7 h7 a8 h8 T0 T1 x0 x1 x2 x3 xa xb hc hu hd).1 S1024x512.size (by sl_kernel_rfl))]
  unfold runD
  dsimp only
  sl_unfold_words
  rw [View.canon_unit_zero (S := S1024x512) off2]

/-- The body at a point, whichever way it takes. -/
theorem step (xa : Buf (Elt F) ((c : Thread nD τ).loc cc0_scratch0)) (xb : Buf (Elt F) ((c : Thread nD τ).loc cc0_scratch1)) (hk : ¬Copies F i T0 → xa = copyOf c x2 ∧ xb = copyOf' c x3)
    (hx : Unused F i T1 ↔ ¬Used F i T1) (K : PUnit → sProp 𝕄) :
    iprop(kept c a4 a5 a6 a7 T0 T1 x0 x1 x2 x3
        ∗ (∃ d, owns (c : Thread nD τ) a8 fullShare d)
        ∗ (scM.view.loc (c : Thread nD τ) ↦{fullShare} xa)
        ∗ (sgM.view.loc (c : Thread nD τ) ↦{fullShare} xb)
        ∗ (iprop(kept c a4 a5 a6 a7 T0 T1 x0 x1 x2 x3
            ∗ owns (c : Thread nD τ) a8 fullShare (outOf i T1 x0 x1 x2 x3)
            ∗ (scM.view.loc (c : Thread nD τ) ↦{fullShare} copyOf c x2)
            ∗ (sgM.view.loc (c : Thread nD τ) ↦{fullShare} copyOf' c x3)) -∗ K ⟨⟩))
      ⊢ wp frame (wpE (defs₀ (F := F)) Variants.none c none) Set.univ (body i a4 h4 a5 h5 a6 h6 a7 h7 a8 h8) K := by
  by_cases hc : Copies F i T0 <;> by_cases hu : Used F i T1
  · have hd : ¬Unused F i T1 := fun h => hx.1 h hu
    iintro ⟨Hk, HO, HS0, HS1, HK⟩
    iapply ((runA c i a4 h4 a5 h5 a6 h6 a7 h7 a8 h8 T0 T1 x0 x1 x2 x3 hc hu hd).2.2.2 xa xb _)
    isplitl [Hk]; · iexact Hk
    isplitl [HO]; · iexact HO
    isplitl [HS0]; · iexact HS0
    isplitl [HS1]; · iexact HS1
    iintro ⟨Hk, ⟨%f, HO⟩, HS0, HS1⟩
    iapply HK
    isplitl [Hk]; · iexact Hk
    isplitl [HO]
    · unfold owns; iexists _; isplitr; swap
      · iexact HO
      · ipureintro
        rw [outA c i a4 h4 a5 h5 a6 h6 a7 h7 a8 h8 T0 T1 x0 x1 x2 x3 hc hu hd]
        unfold outOf
        rw [if_pos hu]
    isplitl [HS0]
    · rw [scratchA0 c i a4 h4 a5 h5 a6 h6 a7 h7 a8 h8 T0 T1 x0 x1 x2 x3 hc hu hd]
      iexact HS0
    rw [scratchA1 c i a4 h4 a5 h5 a6 h6 a7 h7 a8 h8 T0 T1 x0 x1 x2 x3 hc hu hd]
    iexact HS1
  · have hd : Unused F i T1 := hx.2 hu
    iintro ⟨Hk, HO, HS0, HS1, HK⟩
    iapply ((runC c i a4 h4 a5 h5 a6 h6 a7 h7 a8 h8 T0 T1 x0 x1 x2 x3 hc hu hd).2.2.2 xa xb _)
    isplitl [Hk]; · iexact Hk
    isplitl [HO]; · iexact HO
    isplitl [HS0]; · iexact HS0
    isplitl [HS1]; · iexact HS1
    iintro ⟨Hk, ⟨%f, HO⟩, HS0, HS1⟩
    iapply HK
    isplitl [Hk]; · iexact Hk
    isplitl [HO]
    · unfold owns; iexists _; isplitr; swap
      · iexact HO
      · ipureintro
        rw [outC c i a4 h4 a5 h5 a6 h6 a7 h7 a8 h8 T0 T1 x0 x1 x2 x3 hc hu hd]
        unfold outOf
        rw [if_neg hu]
    isplitl [HS0]
    · rw [scratchC0 c i a4 h4 a5 h5 a6 h6 a7 h7 a8 h8 T0 T1 x0 x1 x2 x3 hc hu hd]
      iexact HS0
    rw [scratchC1 c i a4 h4 a5 h5 a6 h6 a7 h7 a8 h8 T0 T1 x0 x1 x2 x3 hc hu hd]
    iexact HS1
  · have hd : ¬Unused F i T1 := fun h => hx.1 h hu
    obtain ⟨ea, eb⟩ := hk hc
    iintro ⟨Hk, HO, HS0, HS1, HK⟩
    iapply ((runB c i a4 h4 a5 h5 a6 h6 a7 h7 a8 h8 T0 T1 x0 x1 x2 x3 xa xb hc hu hd).2.2.2 _)
    isplitl [Hk]; · iexact Hk
    isplitl [HO]; · iexact HO
    isplitl [HS0]; · iexact HS0
    isplitl [HS1]; · iexact HS1
    iintro ⟨Hk, ⟨%f, HO⟩, HS0, HS1⟩
    iapply HK
    isplitl [Hk]; · iexact Hk
    isplitl [HO]
    · unfold owns; iexists _; isplitr; swap
      · iexact HO
      · ipureintro
        rw [outB c i a4 h4 a5 h5 a6 h6 a7 h7 a8 h8 T0 T1 x0 x1 x2 x3 xa xb hc hu hd]
        unfold outOf
        rw [if_pos hu]
        rw [ea, eb]
    isplitl [HS0]
    · rw [scratchB0 c i a4 h4 a5 h5 a6 h6 a7 h7 a8 h8 T0 T1 x0 x1 x2 x3 xa xb hc hu hd, ea]
      iexact HS0
    rw [scratchB1 c i a4 h4 a5 h5 a6 h6 a7 h7 a8 h8 T0 T1 x0 x1 x2 x3 xa xb hc hu hd, eb]
    iexact HS1
  · have hd : Unused F i T1 := hx.2 hu
    obtain ⟨ea, eb⟩ := hk hc
    iintro ⟨Hk, HO, HS0, HS1, HK⟩
    iapply ((runD c i a4 h4 a5 h5 a6 h6 a7 h7 a8 h8 T0 T1 x0 x1 x2 x3 xa xb hc hu hd).2.2.2 _)
    isplitl [Hk]; · iexact Hk
    isplitl [HO]; · iexact HO
    isplitl [HS0]; · iexact HS0
    isplitl [HS1]; · iexact HS1
    iintro ⟨Hk, ⟨%f, HO⟩, HS0, HS1⟩
    iapply HK
    isplitl [Hk]; · iexact Hk
    isplitl [HO]
    · unfold owns; iexists _; isplitr; swap
      · iexact HO
      · ipureintro
        rw [outD c i a4 h4 a5 h5 a6 h6 a7 h7 a8 h8 T0 T1 x0 x1 x2 x3 xa xb hc hu hd]
        unfold outOf
        rw [if_neg hu]
    isplitl [HS0]
    · rw [scratchD0 c i a4 h4 a5 h5 a6 h6 a7 h7 a8 h8 T0 T1 x0 x1 x2 x3 xa xb hc hu hd, ea]
      iexact HS0
    rw [scratchD1 c i a4 h4 a5 h5 a6 h6 a7 h7 a8 h8 T0 T1 x0 x1 x2 x3 xa xb hc hu hd, eb]
    iexact HS1

end Cert.DenseUp.Ffn

end
-- ==== Proof.DenseUpTables.lean ====
/- The tables the dense up projection is steered by: what they must satisfy, the pipeline at them, and which way its body
   goes at a point. -/
module

public import proofs.«01_k».proof.Proof.DenseUpStep
public import Idealize.ShloMosaic.Lib.Pipeline.Kit
public import Idealize.ShloMosaic.Lib.Pipeline.TableIdle
public import Idealize.ShloMosaic.Lib.Affine
public import Idealize.ShloMosaic.Lib.WordCmp

@[expose] public section

set_option maxRecDepth 16384
set_option Elab.async false

noncomputable section

namespace Cert.DenseUp.Ffn

open Cert.DenseUp Cert.DenseUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (F) in
/-- The two tables as the pipeline's prefetched contents. -/
def tables (T0 : S8.Idx → BitVec 32) (T1 : S1.Idx → BitVec 32) : pre0.Contents (Elt F) := fun j => match j with
  | ⟨0, _⟩ => T0
  | ⟨1, _⟩ => T1
  | ⟨_ + 2, h⟩ => absurd h (Nat.not_lt.2 (Nat.le_add_left _ _))

/-- Every tile's layer is one of the two, and at least one tile is in use. -/
structure InRange (T0 : S8.Idx → BitVec 32) (T1 : S1.Idx → BitVec 32) : Prop where
  expert : ∀ x, (T0 x).toNat < 2
  used : ∀ x, 1 ≤ (T1 x).toInt

/-- The smaller of a tile's number and the last tile in use is a tile's number, and it is the tile's own if that is in use. -/
theorem minsi_last (n : ℕ) (hn : n < 8) (v : BitVec 32) (hv : 1 ≤ v.toInt) :
    (Scalar.minsi (BitVec.ofNat 32 n) (Scalar.subi v 1#32)).toNat ≤ n := by
  have e0 : (BitVec.ofNat 32 n).toNat = n := by rw [BitVec.toNat_ofNat]; omega
  have e1 : (BitVec.ofNat 32 n).toInt = n := by rw [BitVec.toInt_eq_toNat_of_lt (by omega), e0]
  unfold Scalar.minsi Scalar.subi IntOp.minsi IntOp.subi
  split
  · omega
  · rename_i h
    have hb : v.toNat < 2 ^ 32 := v.isLt
    have h2 : (v - 1#32).toInt = v.toInt - 1 := by
      have := BitVec.toInt_eq_toNat_cond v
      have := BitVec.toInt_eq_toNat_cond (v - 1#32)
      have := BitVec.toNat_sub v 1#32
      have : (1#32).toNat = 1 := rfl
      split at * <;> split at * <;> omega
    have h3 : (v - 1#32).toInt ≤ (BitVec.ofNat 32 n).toInt := by
      have : ¬ (BitVec.ofNat 32 n).toInt < (v - 1#32).toInt := by
        simpa [BitVec.slt] using h
      omega
    have h4 := BitVec.toInt_eq_toNat_cond (v - 1#32)
    split at h4 <;> omega

/-- A row block's number, and a weight block's, at given tables. -/
theorem row0_le {T0 : S8.Idx → BitVec 32} {T1 : S1.Idx → BitVec 32} (h : InRange T0 T1) (i : grid0.Coords) :
    cc0_transform_0 (F := F) inb_S1_S1_0 numel1_S1 (tables F T0 T1) i 0 ≤ (i 1).val :=
  minsi_last (i 1).val (i 1).isLt _ (h.used _)

theorem row1_le {T0 : S8.Idx → BitVec 32} {T1 : S1.Idx → BitVec 32} (h : InRange T0 T1) (i : grid0.Coords) :
    cc0_transform_1 (F := F) inb_S1_S1_0 numel1_S1 (tables F T0 T1) i 0 ≤ (i 1).val :=
  minsi_last (i 1).val (i 1).isLt _ (h.used _)

theorem expert2_lt {T0 : S8.Idx → BitVec 32} {T1 : S1.Idx → BitVec 32} (h : InRange T0 T1) (i : grid0.Coords) :
    cc0_transform_2 (F := F) k0_off1_inb numel1_S1 (tables F T0 T1) i 0 < 2 := h.expert _

theorem column2_lt {T0 : S8.Idx → BitVec 32} {T1 : S1.Idx → BitVec 32} (i : grid0.Coords) :
    cc0_transform_2 (F := F) k0_off1_inb numel1_S1 (tables F T0 T1) i 2 < 11 := by
  have hi : (i 0).val < 11 := (i 0).isLt
  show (BitVec.ofNat 32 (i 0).val).toNat < 11
  rw [BitVec.toNat_ofNat]
  omega

theorem expert3_lt {T0 : S8.Idx → BitVec 32} {T1 : S1.Idx → BitVec 32} (h : InRange T0 T1) (i : grid0.Coords) :
    cc0_transform_3 (F := F) k0_off1_inb numel1_S1 (tables F T0 T1) i 0 < 2 := h.expert _

theorem column3_lt {T0 : S8.Idx → BitVec 32} {T1 : S1.Idx → BitVec 32} (i : grid0.Coords) :
    cc0_transform_3 (F := F) k0_off1_inb numel1_S1 (tables F T0 T1) i 2 < 11 := by
  have hi : (i 0).val < 11 := (i 0).isLt
  show (BitVec.ofNat 32 (i 0).val).toNat < 11
  rw [BitVec.toNat_ofNat]
  omega

theorem ok_tables {T0 : S8.Idx → BitVec 32} {T1 : S1.Idx → BitVec 32} (h : InRange T0 T1) : ok0 (F := F) (tables F T0 T1) := by
  refine ⟨?_, ?_, ?_, ?_⟩
  · intro i
    refine ⟨?_, .inr (Affine.block_words_dvd (s := S8192x2048) (p := EltTy.packing .bf16) (by decide) (by decide))⟩
    have hi : (i 1).val < 8 := (i 1).isLt
    have key := row0_le (F := F) h i
    intro a
    match a with
    | ⟨0, _⟩ =>
      show (cc0_transform_0 (F := F) inb_S1_S1_0 numel1_S1 (tables F T0 T1) i 0 + 1) * 1024 ≤ 8192
      generalize cc0_transform_0 (F := F) inb_S1_S1_0 numel1_S1 (tables F T0 T1) i 0 = k at key ⊢
      omega
    | ⟨1, _⟩ => show (0 + 1) * 1024 ≤ 2048; omega
  · intro i
    refine ⟨?_, .inr (Affine.block_words_dvd (s := S8192x2048) (p := EltTy.packing .bf16) (by decide) (by decide))⟩
    have hi : (i 1).val < 8 := (i 1).isLt
    have key := row1_le (F := F) h i
    intro a
    match a with
    | ⟨0, _⟩ =>
      show (cc0_transform_1 (F := F) inb_S1_S1_0 numel1_S1 (tables F T0 T1) i 0 + 1) * 1024 ≤ 8192
      generalize cc0_transform_1 (F := F) inb_S1_S1_0 numel1_S1 (tables F T0 T1) i 0 = k at key ⊢
      omega
    | ⟨1, _⟩ => show (1 + 1) * 1024 ≤ 2048; omega
  · intro i
    refine ⟨?_, .inl rfl⟩
    have key := expert2_lt (F := F) h i
    have key2 := column2_lt (F := F) (T0 := T0) (T1 := T1) i
    intro a
    match a with
    | ⟨0, _⟩ =>
      show (cc0_transform_2 (F := F) k0_off1_inb numel1_S1 (tables F T0 T1) i 0 + 1) * 1 ≤ 2
      generalize cc0_transform_2 (F := F) k0_off1_inb numel1_S1 (tables F T0 T1) i 0 = k at key ⊢
      omega
    | ⟨1, _⟩ => show (0 + 1) * 2048 ≤ 2048; omega
    | ⟨2, _⟩ =>
      show (cc0_transform_2 (F := F) k0_off1_inb numel1_S1 (tables F T0 T1) i 2 + 1) * 512 ≤ 5632
      generalize cc0_transform_2 (F := F) k0_off1_inb numel1_S1 (tables F T0 T1) i 2 = k at key2 ⊢
      omega
  · intro i
    refine ⟨?_, .inl rfl⟩
    have key := expert3_lt (F := F) h i
    have key2 := column3_lt (F := F) (T0 := T0) (T1 := T1) i
    intro a
    match a with
    | ⟨0, _⟩ =>
      show (cc0_transform_3 (F := F) k0_off1_inb numel1_S1 (tables F T0 T1) i 0 + 1) * 1 ≤ 2
      generalize cc0_transform_3 (F := F) k0_off1_inb numel1_S1 (tables F T0 T1) i 0 = k at key ⊢
      omega
    | ⟨1, _⟩ => show (0 + 1) * 2048 ≤ 2048; omega
    | ⟨2, _⟩ =>
      show (cc0_transform_3 (F := F) k0_off1_inb numel1_S1 (tables F T0 T1) i 2 + 1) * 512 ≤ 5632
      generalize cc0_transform_3 (F := F) k0_off1_inb numel1_S1 (tables F T0 T1) i 2 = k at key2 ⊢
      omega

/-! ## The pipeline at given tables -/

variable {T0 : S8.Idx → BitVec 32} {T1 : S1.Idx → BitVec 32} (hr : InRange T0 T1)

variable (F)

def adm : (pcfg0 (F := F)).Adm := ⟨tables F T0 T1, ok_tables hr⟩
abbrev cfgA : Pipeline.Cfg sig Λ₀ := cfg0 (F := F) (adm F hr)
abbrev pcs : Fin 1 → Pipeline.Cfg sig Λ₀ := Pipeline.pin (pcfgs (F := F)) fun _ => adm F hr

variable {F}

variable (m : (ℓ : Loc nD τ sig) → Buf (Elt F) ℓ) (ρ : Dev nD → PrngReg)

/-- A point's coordinates and its staging buffers. -/
abbrev crd (t : Fin (cfgA F hr).N) : (cfgA F hr).grid.Coords := (cfgA F hr).grid.coords t
abbrev stg0 (t : Fin (cfgA F hr).N) : Memref sig .tc .vmem S1024x1024 .bf16 := spec0_0.stage ((cfgA F hr).slots t (0 : Fin 5))
abbrev whole0 (t : Fin (cfgA F hr).N) : (stg0 hr t).IsWhole := hstage0_0 (((cfgA F hr).slots t (0 : Fin 5)).cast nbuf0_0)
abbrev stg1 (t : Fin (cfgA F hr).N) : Memref sig .tc .vmem S1024x1024 .bf16 := spec0_1.stage ((cfgA F hr).slots t (1 : Fin 5))
abbrev whole1 (t : Fin (cfgA F hr).N) : (stg1 hr t).IsWhole := hstage0_1 (((cfgA F hr).slots t (1 : Fin 5)).cast nbuf0_1)
abbrev stg2 (t : Fin (cfgA F hr).N) : Memref sig .tc .vmem S1x2048x512 .f32 := spec0_2.stage ((cfgA F hr).slots t (2 : Fin 5))
abbrev whole2 (t : Fin (cfgA F hr).N) : (stg2 hr t).IsWhole := hstage0_2 (((cfgA F hr).slots t (2 : Fin 5)).cast nbuf0_2)
abbrev stg3 (t : Fin (cfgA F hr).N) : Memref sig .tc .vmem S1x2048x512 .f32 := spec0_3.stage ((cfgA F hr).slots t (3 : Fin 5))
abbrev whole3 (t : Fin (cfgA F hr).N) : (stg3 hr t).IsWhole := hstage0_3 (((cfgA F hr).slots t (3 : Fin 5)).cast nbuf0_3)
abbrev stg4 (t : Fin (cfgA F hr).N) : Memref sig .tc .vmem S1024x512 .bf16 := spec0_4.stage ((cfgA F hr).slots t (4 : Fin 5))
abbrev whole4 (t : Fin (cfgA F hr).N) : (stg4 hr t).IsWhole := hstage0_4 (((cfgA F hr).slots t (4 : Fin 5)).cast nbuf0_4)

/-- A window's block at a point, read off its array at the start. -/
def iblk (c : Dev nD) (w : Fin (cfgA F hr).W) (t : Fin (cfgA F hr).N) : (((cfgA F hr).win w).xblock (crd hr t)).Idx → Elt F ((cfgA F hr).win w).elt :=
  (((cfgA F hr).win w).blk t).view.read (Elt F) ((s₀ m ρ).mem (((cfgA F hr).win w).arr.view.loc (c : Thread nD τ)))

/-! ## Which way the body goes -/

theorem unused_iff (i : grid0.Coords) (T1 : S1.Idx → Elt F .i32) : Unused F i T1 ↔ ¬Used F i T1 := by
  unfold Unused Used k0_cond2 k0_cond3
  generalize wordUsed F T1 = v
  dsimp only
  unfold Scalar.cmpi
  rw [WordCmp.cmpi_slt_eq, WordCmp.cmpi_sge_eq]
  by_cases h : (BitVec.ofNat 32 (i 1).val).toInt < BitVec.toInt v
  · rw [decide_eq_true h, decide_eq_false (by omega)]; decide
  · rw [decide_eq_false h, decide_eq_true (by omega)]; decide

theorem idle4 (t : Fin (cfgA F hr).N) : (cfgA F hr).idle (4 : Fin 5) (crd hr t) = false := by
  show (!(k0_cond2 (crd hr t) ((tables F T0 T1).atD 1 ![0]) == 1#1) && !(k0_cond3 (crd hr t) ((tables F T0 T1).atD 1 ![0]) == 1#1)) = false
  have := unused_iff (crd hr t) (fun _ => (tables F T0 T1).atD 1 ![0])
  change (k0_cond3 (crd hr t) ((tables F T0 T1).atD 1 ![0]) = 1#1 ↔ ¬ k0_cond2 (crd hr t) ((tables F T0 T1).atD 1 ![0]) = 1#1) at this
  by_cases h : k0_cond2 (crd hr t) ((tables F T0 T1).atD 1 ![0]) = 1#1
  · rw [h]; rfl
  · rw [this.2 h]; simp

/-- Beyond the first tile of a column the point before is the column's tile before. -/
theorem tile_before : ∀ t : Fin grid0.N, ((grid0.coords t) 1).val ≠ 0 →
    ∃ h : 0 < t.val, ((grid0.coords (⟨t.val - 1, by omega⟩ : Fin grid0.N)) 0).val = ((grid0.coords t) 0).val
      ∧ k0_off2 (grid0.coords t) 0 = k0_off1 (grid0.coords (⟨t.val - 1, by omega⟩ : Fin grid0.N)) 0 := by
  decide +kernel

theorem flush4 (t : Fin (cfgA F hr).N) : ((cfgA F hr).win (4 : Fin 5)).flush t = true := by
  rw [Window.flush_eq_flushOf]
  have : ∀ t : Fin grid0.N, Window.flushOf grid0 true cc0_transform_4 t = true := by decide +kernel
  exact this t

/-- The point before. -/
abbrev prior (t : Fin (cfgA F hr).N) : Fin (cfgA F hr).N := ⟨t.val - 1, lt_of_le_of_lt (Nat.sub_le _ _) t.isLt⟩

/-- At a point that does not copy the weights the blocks of weights are the point before's. -/
theorem same_block (c : Dev nD) (t : Fin (cfgA F hr).N) (h : ¬Copies F (crd hr t) T0) :
    0 < t.val ∧ iblk hr m ρ c (2 : Fin 5) t = iblk hr m ρ c (2 : Fin 5) (prior hr t)
      ∧ iblk hr m ρ c (3 : Fin 5) t = iblk hr m ρ c (3 : Fin 5) (prior hr t) := by
  have h1 : ((crd hr t) 1).val ≠ 0 := by
    intro e
    apply h
    unfold Copies
    rw [e]
    unfold Scalar.cmpi Scalar.ori
    rw [show IntOp.cmpi .eq (BitVec.ofNat 32 0) 0#32 = 1#1 from rfl]
    generalize IntOp.cmpi .ne (wordHere F (crd hr t) T0) (wordBefore F (crd hr t) T0) = b
    revert b; decide
  have h2 : wordHere F (crd hr t) T0 = wordBefore F (crd hr t) T0 := by
    by_contra e
    apply h
    unfold Copies Scalar.cmpi Scalar.ori
    rw [show IntOp.cmpi .ne (wordHere F (crd hr t) T0) (wordBefore F (crd hr t) T0) = 1#1 from by
      rw [WordCmp.cmpi_ne_eq, decide_eq_true e]; rfl]
    generalize IntOp.cmpi .eq (BitVec.ofNat 32 ((crd hr t) 1).val) 0#32 = b
    revert b; decide
  obtain ⟨h0, hj, ho⟩ := tile_before t h1
  refine ⟨h0, ?_⟩
  have hw : wordHere F (crd hr (prior hr t)) T0 = wordHere F (crd hr t) T0 := by
    rw [h2]
    refine congrArg T0 (funext fun a => Fin.ext ?_)
    fin_cases a
    show k0_off1 _ 0 + 1 * _ = k0_off2 _ 0 + 1 * _
    exact congrArg (· + _) ho.symm
  constructor
  · have hidx : ((cfgA F hr).win (2 : Fin 5)).index t = ((cfgA F hr).win (2 : Fin 5)).index (prior hr t) := by
      show ![(wordHere F (crd hr t) T0).toNat, 0, (BitVec.ofNat 32 ((crd hr t) 0).val).toNat]
        = ![(wordHere F (crd hr (prior hr t)) T0).toNat, 0, (BitVec.ofNat 32 ((crd hr (prior hr t)) 0).val).toNat]
      rw [hw, show ((crd hr (prior hr t)) 0).val = ((crd hr t) 0).val from hj]
    funext x
    unfold iblk
    rw [View.read_apply, View.read_apply]
    refine congrArg (α := S2x2048x5632.Idx) (β := Elt F .f32) (fun u => m ((c : Thread nD τ).loc main_arg3) u) (funext fun a => Fin.ext ?_)
    show ((cfgA F hr).win (2 : Fin 5)).index t a * _ + 1 * _ = ((cfgA F hr).win (2 : Fin 5)).index (prior hr t) a * _ + 1 * _
    rw [hidx]
  · have hidx : ((cfgA F hr).win (3 : Fin 5)).index t = ((cfgA F hr).win (3 : Fin 5)).index (prior hr t) := by
      show ![(wordHere F (crd hr t) T0).toNat, 0, (BitVec.ofNat 32 ((crd hr t) 0).val).toNat]
        = ![(wordHere F (crd hr (prior hr t)) T0).toNat, 0, (BitVec.ofNat 32 ((crd hr (prior hr t)) 0).val).toNat]
      rw [hw, show ((crd hr (prior hr t)) 0).val = ((crd hr t) 0).val from hj]
    funext x
    unfold iblk
    rw [View.read_apply, View.read_apply]
    refine congrArg (α := S2x2048x5632.Idx) (β := Elt F .f32) (fun u => m ((c : Thread nD τ).loc main_arg4) u) (funext fun a => Fin.ext ?_)
    show ((cfgA F hr).win (3 : Fin 5)).index t a * _ + 1 * _ = ((cfgA F hr).win (3 : Fin 5)).index (prior hr t) a * _ + 1 * _
    rw [hidx]

end Cert.DenseUp.Ffn

end
-- ==== Proof.DenseUpFrame.lean ====
/- The dense up projection, run from a memory whose tables are in range: it ends, its arguments unchanged, its result as the
   pipeline computes it. Between two points the scratch holds the copy of the earlier point's weights. -/
module

public import proofs.«01_k».proof.Proof.DenseUpTables
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Adequacy
public import Idealize.ShloMosaic.Init

@[expose] public section

set_option maxRecDepth 16384
set_option Elab.async false

noncomputable section

namespace Cert.DenseUp.Ffn

open Cert.DenseUp Cert.DenseUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The resource algebra of the pipeline's staging cells. -/
abbrev EP : Emb (UR sig nD τ) 𝕄 := emb₁

variable {T0 : S8.Idx → BitVec 32} {T1 : S1.Idx → BitVec 32} (hr : InRange T0 T1)
variable (m : (ℓ : Loc nD τ sig) → Buf (Elt F) ℓ) (ρ : Dev nD → PrngReg)

/-- The memory holds the two tables. -/
structure Placed (T0 : S8.Idx → BitVec 32) (T1 : S1.Idx → BitVec 32) (m : (ℓ : Loc nD τ sig) → Buf (Elt F) ℓ) : Prop where
  expert : ∀ c : Dev nD, m ((c : Thread nD τ).loc main_arg0) = T0
  used : ∀ c : Dev nD, m ((c : Thread nD τ).loc main_arg1) = T1

/-- What the scratches hold before point `n`: after the first point, the copies of the point before's weights. -/
def Held (c : Dev nD) (n : ℕ) (a : Buf (Elt F) ((c : Thread nD τ).loc cc0_scratch0)) (b : Buf (Elt F) ((c : Thread nD τ).loc cc0_scratch1)) : Prop :=
  ∀ k (e : n = k + 1) (h : k < (cfgA F hr).N), a = copyOf c (iblk hr m ρ c (2 : Fin 5) ⟨k, h⟩) ∧ b = copyOf' c (iblk hr m ρ c (3 : Fin 5) ⟨k, h⟩)

/-- The invariant before a point: the scratches, and the body's share of the tables. -/
def Phi (c : Dev nD) (t : Fin ((cfgA F hr).N + 1)) : sProp 𝕄 :=
  iprop((∃ a b, ⌜Held hr m ρ c t.val a b⌝ ∗ (scM.view.loc (c : Thread nD τ) ↦{fullShare} a) ∗ (sgM.view.loc (c : Thread nD τ) ↦{fullShare} b))
    ∗ (teM.view.loc (c : Thread nD τ) ↦{fullShare.right} T0) ∗ (nvM.view.loc (c : Thread nD τ) ↦{fullShare.right} T1))

/-- The pipeline's proof data: each input buffer keeps its block, the result's gets what the body leaves. The two windows on the
    rows each hold a share of them. -/
def dats (_ : Fin 1) (c : Dev nD) : Dat τ (Elt F) Unit ℕ (UR sig nD τ) ℕ (cfgA F hr) c where
  A w := (s₀ m ρ).mem (((cfgA F hr).win w).arr.view.loc (c : Thread nD τ))
  after w t := match w with
    | ⟨0, _⟩ => iblk hr m ρ c (0 : Fin 5) t
    | ⟨1, _⟩ => iblk hr m ρ c (1 : Fin 5) t
    | ⟨2, _⟩ => iblk hr m ρ c (2 : Fin 5) t
    | ⟨3, _⟩ => iblk hr m ρ c (3 : Fin 5) t
    | ⟨4, _⟩ => outOf (crd hr t) T1 (iblk hr m ρ c (0 : Fin 5) t) (iblk hr m ρ c (1 : Fin 5) t) (iblk hr m ρ c (2 : Fin 5) t) (iblk hr m ρ c (3 : Fin 5) t)
  Φ t := Phi hr m ρ c t
  q w := Pipeline.shareOf (cfgA F hr).spec w
  owed _ := 0

theorem after0 (c : Dev nD) (t : Fin (cfgA F hr).N) : (dats hr m ρ 0 c).after (0 : Fin 5) t = iblk hr m ρ c (0 : Fin 5) t := rfl
theorem after1 (c : Dev nD) (t : Fin (cfgA F hr).N) : (dats hr m ρ 0 c).after (1 : Fin 5) t = iblk hr m ρ c (1 : Fin 5) t := rfl
theorem after2 (c : Dev nD) (t : Fin (cfgA F hr).N) : (dats hr m ρ 0 c).after (2 : Fin 5) t = iblk hr m ρ c (2 : Fin 5) t := rfl
theorem after3 (c : Dev nD) (t : Fin (cfgA F hr).N) : (dats hr m ρ 0 c).after (3 : Fin 5) t = iblk hr m ρ c (3 : Fin 5) t := rfl
theorem after4 (c : Dev nD) (t : Fin (cfgA F hr).N) : (dats hr m ρ 0 c).after (4 : Fin 5) t
    = outOf (crd hr t) T1 (iblk hr m ρ c (0 : Fin 5) t) (iblk hr m ρ c (1 : Fin 5) t) (iblk hr m ρ c (2 : Fin 5) t) (iblk hr m ρ c (3 : Fin 5) t) := rfl

/-- An input's buffer holds its block when the body runs, fetched at the point or kept from before. -/
theorem before0 (c : Dev nD) (t : Fin (cfgA F hr).N) (d) : (dats hr m ρ 0 c).before (0 : Fin 5) t d = iblk hr m ρ c (0 : Fin 5) t :=
  ((dats hr m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA F hr).N) (d) : (dats hr m ρ 0 c).before (1 : Fin 5) t d = iblk hr m ρ c (1 : Fin 5) t :=
  ((dats hr m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA F hr).N) (d) : (dats hr m ρ 0 c).before (2 : Fin 5) t d = iblk hr m ρ c (2 : Fin 5) t :=
  ((dats hr m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA F hr).N) (d) : (dats hr m ρ 0 c).before (3 : Fin 5) t d = iblk hr m ρ c (3 : Fin 5) t :=
  ((dats hr m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- What the scratches hold at a point that keeps them are the copies of the point's own weights. -/
theorem held_here (c : Dev nD) (t : Fin (cfgA F hr).N) (a b) (ha : Held hr m ρ c t.val a b) (h : ¬Copies F (crd hr t) T0) :
    a = copyOf c (iblk hr m ρ c (2 : Fin 5) t) ∧ b = copyOf' c (iblk hr m ρ c (3 : Fin 5) t) := by
  obtain ⟨h0, e2, e3⟩ := same_block hr m ρ c t h
  rw [e2, e3]
  exact ha (t.val - 1) (by omega) (lt_of_le_of_lt (Nat.sub_le _ _) t.isLt)

theorem held_next (c : Dev nD) (t : Fin (cfgA F hr).N) : Held hr m ρ c (t.val + 1) (copyOf c (iblk hr m ρ c (2 : Fin 5) t)) (copyOf' c (iblk hr m ρ c (3 : Fin 5) t)) := by
  intro k e h
  obtain rfl : t = ⟨k, h⟩ := Fin.ext (by simpa using e)
  exact ⟨rfl, rfl⟩

set_option maxHeartbeats 4000000 in
/-- The body at a point, from the invariant to the invariant. -/
theorem sound_body (c : Dev nD) (t : Fin (cfgA F hr).N) :
    iprop((dats hr m ρ 0 c).Φ t.castSucc ∗ (dats hr m ρ 0 c).owesAt () t.castSucc
        ∗ (∃ d, owns (c : Thread nD τ) (stg0 hr t) fullShare ((dats hr m ρ 0 c).before (0 : Fin 5) t d))
        ∗ (∃ d, owns (c : Thread nD τ) (stg1 hr t) fullShare ((dats hr m ρ 0 c).before (1 : Fin 5) t d))
        ∗ (∃ d, owns (c : Thread nD τ) (stg2 hr t) fullShare ((dats hr m ρ 0 c).before (2 : Fin 5) t d))
        ∗ (∃ d, owns (c : Thread nD τ) (stg3 hr t) fullShare ((dats hr m ρ 0 c).before (3 : Fin 5) t d))
        ∗ (∃ d, owns (c : Thread nD τ) (stg4 hr t) fullShare ((dats hr m ρ 0 c).before (4 : Fin 5) t d)))
      ⊢ wp frame (wpE (defs₀ (F := F)) Variants.none c none) Set.univ
          (body (crd hr t) (stg0 hr t) (whole0 hr t) (stg1 hr t) (whole1 hr t) (stg2 hr t) (whole2 hr t) (stg3 hr t) (whole3 hr t) (stg4 hr t) (whole4 hr t)) fun _ =>
          iprop((dats hr m ρ 0 c).Φ t.succ ∗ (dats hr m ρ 0 c).owesAt () t.succ
            ∗ bigSep Finset.univ fun w : Fin (cfgA F hr).W =>
                match (cfgA F hr).idle w ((cfgA F hr).grid.coords t) with
                | true =>
                  match ((cfgA F hr).win w).flush t with
                  | false => iprop(∃ d, owns (c : Thread nD τ) (((cfgA F hr).win w).stage ((cfgA F hr).slots t w)) fullShare ((dats hr m ρ 0 c).before w t d))
                  | true => owns (c : Thread nD τ) (((cfgA F hr).win w).stage ((cfgA F hr).slots t w)) fullShare ((dats hr m ρ 0 c).after w t)
                | false => owns (c : Thread nD τ) (((cfgA F hr).win w).stage ((cfgA F hr).slots t w)) fullShare ((dats hr m ρ 0 c).after w t)) := by
  rw [bigSep_W0]
  rewrite [idle4 hr t]
  simp only [before0, before1, before2, before3, after0, after1, after2, after3, after4]
  rewrite [show (dats hr m ρ 0 c).Φ t.succ = Phi hr m ρ c t.succ from rfl, show (dats hr m ρ 0 c).Φ t.castSucc = Phi hr m ρ c t.castSucc from rfl,
    show (dats hr m ρ 0 c).owesAt () t.succ = (dats hr m ρ 0 c).owesAt () t.castSucc from rfl]
  unfold Phi; simp only [Fin.val_castSucc, Fin.val_succ]
  iintro ⟨⟨⟨%a0, %b0, %ha0, HS0, HS1⟩, HT0, HT1⟩, Ho, ⟨%d0, H0⟩, ⟨%d1, H1⟩, ⟨%d2, H2⟩, ⟨%d3, H3⟩, ⟨%d4, H4⟩⟩
  iapply (step c (crd hr t) (stg0 hr t) (whole0 hr t) (stg1 hr t) (whole1 hr t) (stg2 hr t) (whole2 hr t) (stg3 hr t) (whole3 hr t) (stg4 hr t) (whole4 hr t) T0 T1
    (iblk hr m ρ c (0 : Fin 5) t) (iblk hr m ρ c (1 : Fin 5) t) (iblk hr m ρ c (2 : Fin 5) t) (iblk hr m ρ c (3 : Fin 5) t) a0 b0 (held_here hr m ρ c t a0 b0 ha0) (unused_iff _ _) _)
  unfold kept
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists _; iexact H4
  isplitl [HS0]; · iexact HS0
  isplitl [HS1]; · iexact HS1
  iintro ⟨⟨H0, H1, H2, H3, HT0, HT1⟩, H4, HS0, HS1⟩
  isplitl [HS0 HS1 HT0 HT1]
  · isplitl [HS0 HS1]
    · iexists _; iexists _; isplitr; swap
      · isplitl [HS0]; · iexact HS0
        iexact HS1
      · ipureintro; exact held_next hr m ρ c t
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexact H4

theorem body_obligation (c : Dev nD) : BodyObligation (dats hr m ρ 0 c) (defs₀ (F := F)) Variants.none () Set.univ := fun t => by
  rw [bigSep_W0]
  exact sound_body hr m ρ c t

/-! ## The launch -/

variable (F) in
/-- The launch's element of the staging cells' algebra. -/
def u₀ : UR sig nD τ :=
  initOf (Pipeline.cells (pcs F hr) ((launch₀0 (F := F)).cellOf_inj fun _ => adm F hr))
    (Pipeline.launchToks (pcs F hr) ((launch₀0 (F := F)).cellOf_inj fun _ => adm F hr))

/-- The two tables, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant holds at the start, -/
theorem phi0_intro (c : Dev nD) :
    iprop(BI.emp ∗ Pipeline.prefHeld pre0 c (fun _ => fullShare.right) (adm F hr).1 ∗ Pipeline.scopedRest spec0 c) ⊢ (dats hr m ρ 0 c).Φ 0 := by
  rw [prefHeld_eq, scopedRest0_eq, show (dats hr m ρ 0 c).Φ 0 = Phi hr m ρ c 0 from rfl]
  unfold Phi
  iintro ⟨-, ⟨HT0, HT1⟩, ⟨%a0, HS0⟩, ⟨%b0, HS1⟩⟩
  isplitl [HS0 HS1]
  · iexists a0; iexists b0; isplitr; swap
    · isplitl [HS0]; · iexact HS0
      iexact HS1
    · ipureintro; exact fun n hn => absurd hn (Nat.succ_ne_zero n).symm
  isplitl [HT0]
  · iexact HT0
  iexact HT1

/-- and at the end it gives the scratches back. -/
theorem phiN_exit (c : Dev nD) : (dats hr m ρ 0 c).Φ (Fin.last (cfgA F hr).N) ⊢ iprop(BI.emp ∗ Pipeline.scopedRest spec0 c) := by
  rw [scopedRest0_eq, show (dats hr m ρ 0 c).Φ (Fin.last (cfgA F hr).N) = Phi hr m ρ c (Fin.last _) from rfl]
  unfold Phi
  iintro ⟨⟨%a0, %b0, -, HS0, HS1⟩, -, -⟩
  isplitr; · iempintro
  isplitl [HS0]
  · iexists a0; iexact HS0
  iexists b0; iexact HS1

/-- The final state: each array as computed, each table as it was. -/
def QC : PUnit × MemSt nD τ sig (Elt F) → Prop := fun r =>
  ∀ c : Dev nD, (∀ w : Fin (cfgA F hr).W, r.2.mem (((cfgA F hr).win w).arr.view.loc (c : Thread nD τ)) = (dats hr m ρ 0 c).arrAt w (cfgA F hr).N)
    ∧ ∀ j, r.2.mem ((c : Thread nD τ).loc (pre0.ref j)) = (adm F hr).1 j

theorem V_pre (hp : Placed T0 T1 m) (c : Dev nD) (j : Fin 2) : m ((c : Thread nD τ).loc (pre0.ref j)) = (adm F hr).1 j := by
  fin_cases j
  · exact hp.expert c
  · exact hp.used c

set_option backward.isDefEq.respectTransparency.types false in
set_option maxHeartbeats 4000000 in
/-- Every run ends, with each array as computed and every semaphore at zero. -/
theorem run_main_quiescent (hp : Placed T0 T1 m) : θ_run (defs (F := F)) (onTc (τ := τ) (main (F := F))) (s₀ m ρ) (fun r => QC hr m ρ r ∧ r.2.sem = fun _ => 0) :=
  Pipeline.θ_run_region_noSem_pf_quiescent pcfgs (fun _ => adm F hr) (dats hr m ρ) () ((launch₀0 (F := F)).cellOf_inj fun _ => adm F hr) (0 : Fin 1)
    (launch₀0 (F := F)).win (launch₀0 (F := F)).pre EP defs₀ Variants.none m ρ main
    (hbody := fun c => (body_obligation hr m ρ c).loose) (hne := (launch₀0 (F := F)).block_pos)
    (harr := (launch₀0 (F := F)).arr_whole) (hstage := (launch₀0 (F := F)).stage_whole) (howed := fun _ _ => rfl)
    (u₀ := u₀ F hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => (dats hr m ρ 0 c).arrays_split_shared (launch₀0 (F := F)).sharedIn (launch₀0 (F := F)).arr_whole
      (fun _ _ => rfl) _ _ fun _ => rfl)
    (hpf := V_pre hr m hp)
    (X := fun _ => iprop(emp)) (Y := fun _ => iprop(emp)) (Z := fun _ => iprop(emp))
    (hX := fun c => by rw [unscopedRestP0_eq]; iintro -; isplitr <;> iempintro)
    (hin := phi0_intro hr m ρ)
    (hout := phiN_exit hr m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the semaphores. -/
theorem run_main (hp : Placed T0 T1 m) : θ_run (defs (F := F)) (onTc (τ := τ) (main (F := F))) (s₀ m ρ) (QC hr m ρ) :=
  (θ_run defs _ _).mono (fun _ h => h.1) (run_main_quiescent hr m ρ hp)

include hr in
/-- The argument arrays end unchanged, -/
theorem unchanged (hp : Placed T0 T1 m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 0).trans (hp.expert c).symm, ((h c).2 1).trans (hp.used c).symm, ((h c).1 (0 : Fin 5)).trans ((dats hr m ρ 0 c).arrAt_in (0 : Fin 5) rfl _), ((h c).1 (2 : Fin 5)).trans ((dats hr m ρ 0 c).arrAt_in (2 : Fin 5) rfl _), ((h c).1 (3 : Fin 5)).trans ((dats hr m ρ 0 c).arrAt_in (3 : Fin 5) rfl _)⟩) (run_main hr m ρ hp)

include hr in
/-- and every semaphore ends at zero. -/
theorem frame (hp : Placed T0 T1 m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged hr m ρ hp) ((θ_run defs _ _).mono (fun _ h => h.2) (run_main_quiescent hr m ρ hp))

end Cert.DenseUp.Ffn

end
-- ==== Proof.DenseUpVal.lean ====
/- The dense up projection's result array, entry by entry. -/
module

public import proofs.«01_k».proof.Proof.DenseUpFrame
public import proofs.«01_k».proof.Proof.DownVal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DenseUp.Ffn

open Cert.DenseUp Cert.DenseUp.Gen
open Idealize.ShloMosaic.Pipeline (Dat Cfg Window)

open Cert.Down.Ffn (minsi_own)

/-- The tile of a row. -/
def tileOf (r : Fin 8192) : Fin 8 := ⟨r.val / 1024, by omega⟩

/-- Row `r`, its two halves one after the other, times column `f` of the matrix of its tile's layer. -/
def contract (T0 : S8.Idx → BitVec 32) (h0 : ∀ x, (T0 x).toNat < 2) (A : S8192x2048.Idx → EReal)
    (W : S2x2048x5632.Idx → EReal) (r : Fin 8192) (f : Fin 5632) : EReal :=
  (∑ k : Fin 1024, A (ix2 r ⟨k.val, by omega⟩) * W (ix3 ⟨(T0 (ix1 (tileOf r))).toNat, h0 _⟩ ⟨k.val, by omega⟩ f))
    + ∑ k : Fin 1024, A (ix2 r ⟨1024 + k.val, by omega⟩) * W (ix3 ⟨(T0 (ix1 (tileOf r))).toNat, h0 _⟩ ⟨1024 + k.val, by omega⟩ f)

/-- Row `r`, column `f` of the layers' gated hidden rows: zero beyond the tiles in use. -/
def hiddenAt (T0 : S8.Idx → BitVec 32) (T1 : S1.Idx → BitVec 32) (h0 : ∀ x, (T0 x).toNat < 2) (A : S8192x2048.Idx → EReal)
    (W W' : S2x2048x5632.Idx → EReal) (r : Fin 8192) (f : Fin 5632) : EReal :=
  if ((tileOf r).val : ℤ) < (T1 (ix1 0)).toInt then
    contract T0 h0 A W r f * Ideal.logistic (contract T0 h0 A W r f) * contract T0 h0 A W' r f
  else 0

theorem copied_at (x : Vec Ideal S1x2048x512 .f32) (k : Fin 2048) (d : Fin 512) :
    k0_pay1 (F := Ideal) x (ix2 k d) = x (ix3 0 k d) := by
  pointwise [k0_pay1]

theorem copied_at' (x : Vec Ideal S1x2048x512 .f32) (k : Fin 2048) (d : Fin 512) :
    k0_pay2 (F := Ideal) x (ix2 k d) = x (ix3 0 k d) := by
  pointwise [k0_pay2]

theorem upper_at (w : S2048x512.Idx → EReal) (k : Fin 1024) (d : Fin 512) : upper (F := Ideal) w (ix2 k d) = w (ix2 ⟨k.val, by omega⟩ d) := by
  refine congrArg w (funext fun a => Fin.ext ?_)
  match a with
  | ⟨0, _⟩ => show 0 + 1 * k.val = k.val; omega
  | ⟨1, _⟩ => show 0 + 1 * d.val = d.val; omega

theorem lower_at (w : S2048x512.Idx → EReal) (k : Fin 1024) (d : Fin 512) : lower (F := Ideal) w (ix2 k d) = w (ix2 ⟨1024 + k.val, by omega⟩ d) := by
  refine congrArg w (funext fun a => Fin.ext ?_)
  match a with
  | ⟨0, _⟩ => show 1024 + 1 * k.val = 1024 + k.val; omega
  | ⟨1, _⟩ => show 0 + 1 * d.val = d.val; omega

/-- A row in two halves times a column in two halves. -/
def halves (a b : S1024x1024.Idx → EReal) (u v : S1024x512.Idx → EReal) (r : Fin 1024) (d : Fin 512) : EReal :=
  (∑ k : Fin 1024, a (ix2 r k) * u (ix2 k d)) + ∑ k : Fin 1024, b (ix2 r k) * v (ix2 k d)

theorem gate_at (a b : Vec Ideal S1024x1024 .bf16) (u v u' v' : Vec Ideal S1024x512 .bf16) (r : Fin 1024) (d : Fin 512) :
    k0_pay3 (F := Ideal) a b u v u' v' (ix2 r d)
      = halves a b u v r d * Ideal.logistic (halves a b u v r d) * halves a b u' v' r d := by
  pointwise [k0_pay3, halves]

theorem zero_at (r : Fin 1024) (d : Fin 512) : k0_pay4 (F := Ideal) (ix2 r d) = 0 := by
  pointwise [k0_pay4]

theorem used_iff (i : grid0.Coords) (T1 : S1.Idx → BitVec 32) : Used Ideal i T1 ↔ ((i 1).val : ℤ) < (T1 (ix1 0)).toInt := by
  have hw : wordUsed Ideal T1 = T1 (ix1 0) := congrArg T1 (funext fun a => Fin.ext (by match a with | ⟨0, _⟩ => rfl))
  have h1 : (BitVec.ofNat 32 (i 1).val).toInt = (i 1).val := by
    have hi : (i 1).val < 8 := (i 1).isLt
    rw [BitVec.toInt_eq_toNat_of_lt (by rw [BitVec.toNat_ofNat]; omega), BitVec.toNat_ofNat]; omega
  unfold Used k0_cond2
  rw [hw]
  generalize T1 (ix1 0) = v
  dsimp only
  unfold Scalar.cmpi
  rw [WordCmp.cmpi_slt_eq, h1]
  by_cases h : ((i 1).val : ℤ) < v.toInt
  · rw [decide_eq_true h]; exact ⟨fun _ => h, fun _ => rfl⟩
  · rw [decide_eq_false h]; exact ⟨fun e => absurd e (by decide), fun e => absurd e h⟩

variable {T0 : S8.Idx → BitVec 32} {T1 : S1.Idx → BitVec 32} (hr : InRange T0 T1)
variable (m : (ℓ : Loc nD τ sig) → Buf (Elt Ideal) ℓ) (ρ : Dev nD → PrngReg)

/-- The rows and the layers' two matrices. -/
def argA (c : Dev nD) : S8192x2048.Idx → EReal := m ((c : Thread nD τ).loc main_arg2)
def argW (c : Dev nD) : S2x2048x5632.Idx → EReal := m ((c : Thread nD τ).loc main_arg3)
def argW' (c : Dev nD) : S2x2048x5632.Idx → EReal := m ((c : Thread nD τ).loc main_arg4)

/-- At a tile in use the first block of rows is the left half of the tile's own, -/
theorem rows_at0 (c : Dev nD) (t : Fin (cfgA Ideal hr).N) (hu : ((crd hr t 1).val : ℤ) < (T1 (ix1 0)).toInt) (r : Fin 1024) (k : Fin 1024) (e : Fin 8192)
    (he : e.val = 1024 * (crd hr t 1).val + r.val) :
    iblk hr m ρ c (0 : Fin 5) t (ix2 r k : S1024x1024.Idx) = argA m c (ix2 e ⟨k.val, by omega⟩) := by
  unfold iblk
  rw [View.read_apply]
  refine congrArg (α := S8192x2048.Idx) (β := EReal) (fun u => m ((c : Thread nD τ).loc main_arg2) u) (funext fun a => Fin.ext ?_)
  have hw : wordUsed Ideal T1 = T1 (ix1 0) := congrArg T1 (funext fun a => Fin.ext (by match a with | ⟨0, _⟩ => rfl))
  have key : ((cfgA Ideal hr).win (0 : Fin 5)).index t 0 = (crd hr t 1).val := by
    show (Scalar.minsi (BitVec.ofNat 32 (crd hr t 1).val) (Scalar.subi (wordUsed Ideal T1) 1#32)).toNat = _
    rw [hw]
    exact minsi_own _ (Nat.lt_trans (crd hr t 1).isLt (by decide : 8 < 41)) _ hu
  match a with
  | ⟨0, _⟩ =>
    show ((cfgA Ideal hr).win (0 : Fin 5)).index t 0 * 1024 + 1 * r.val = e.val
    rw [key]; omega
  | ⟨1, _⟩ =>
    show 0 * 1024 + 1 * k.val = k.val
    omega

/-- and the second the right half. -/
theorem rows_at1 (c : Dev nD) (t : Fin (cfgA Ideal hr).N) (hu : ((crd hr t 1).val : ℤ) < (T1 (ix1 0)).toInt) (r : Fin 1024) (k : Fin 1024) (e : Fin 8192)
    (he : e.val = 1024 * (crd hr t 1).val + r.val) :
    iblk hr m ρ c (1 : Fin 5) t (ix2 r k : S1024x1024.Idx) = argA m c (ix2 e ⟨1024 + k.val, by omega⟩) := by
  unfold iblk
  rw [View.read_apply]
  refine congrArg (α := S8192x2048.Idx) (β := EReal) (fun u => m ((c : Thread nD τ).loc main_arg2) u) (funext fun a => Fin.ext ?_)
  have hw : wordUsed Ideal T1 = T1 (ix1 0) := congrArg T1 (funext fun a => Fin.ext (by match a with | ⟨0, _⟩ => rfl))
  have key : ((cfgA Ideal hr).win (1 : Fin 5)).index t 0 = (crd hr t 1).val := by
    show (Scalar.minsi (BitVec.ofNat 32 (crd hr t 1).val) (Scalar.subi (wordUsed Ideal T1) 1#32)).toNat = _
    rw [hw]
    exact minsi_own _ (Nat.lt_trans (crd hr t 1).isLt (by decide : 8 < 41)) _ hu
  match a with
  | ⟨0, _⟩ =>
    show ((cfgA Ideal hr).win (1 : Fin 5)).index t 0 * 1024 + 1 * r.val = e.val
    rw [key]; omega
  | ⟨1, _⟩ =>
    show 1 * 1024 + 1 * k.val = 1024 + k.val
    omega

/-- The block of weights is a column block of the tile's layer. -/
theorem weights_at2 (c : Dev nD) (t : Fin (cfgA Ideal hr).N) (k : Fin 2048) (d : Fin 512) (x : Fin 2) (e : Fin 5632)
    (hx : x.val = (T0 (ix1 (crd hr t 1))).toNat) (he : e.val = 512 * (crd hr t 0).val + d.val) :
    iblk hr m ρ c (2 : Fin 5) t (ix3 0 k d : S1x2048x512.Idx) = argW m c (ix3 x k e) := by
  unfold iblk
  rw [View.read_apply]
  refine congrArg (α := S2x2048x5632.Idx) (β := EReal) (fun u => m ((c : Thread nD τ).loc main_arg3) u) (funext fun a => Fin.ext ?_)
  have h0 : (crd hr t 0).val < 11 := (crd hr t 0).isLt
  have h1 : (crd hr t 1).val < 8 := (crd hr t 1).isLt
  have hw : wordHere Ideal (crd hr t) T0 = T0 (ix1 (crd hr t 1)) := by
    refine congrArg T0 (funext fun a => Fin.ext ?_)
    match a with
    | ⟨0, _⟩ =>
      show (BitVec.ofNat 32 (crd hr t 1).val).toNat + 1 * 0 = (crd hr t 1).val
      rw [BitVec.toNat_ofNat]; omega
  match a with
  | ⟨0, _⟩ =>
    show (wordHere Ideal (crd hr t) T0).toNat * 1 + 1 * 0 = x.val
    rw [hw]; omega
  | ⟨1, _⟩ =>
    show 0 * 2048 + 1 * k.val = k.val
    omega
  | ⟨2, _⟩ =>
    show (BitVec.ofNat 32 (crd hr t 0).val).toNat * 512 + 1 * d.val = e.val
    rw [BitVec.toNat_ofNat]; omega

/-- The block of weights is a column block of the tile's layer. -/
theorem weights_at3 (c : Dev nD) (t : Fin (cfgA Ideal hr).N) (k : Fin 2048) (d : Fin 512) (x : Fin 2) (e : Fin 5632)
    (hx : x.val = (T0 (ix1 (crd hr t 1))).toNat) (he : e.val = 512 * (crd hr t 0).val + d.val) :
    iblk hr m ρ c (3 : Fin 5) t (ix3 0 k d : S1x2048x512.Idx) = argW' m c (ix3 x k e) := by
  unfold iblk
  rw [View.read_apply]
  refine congrArg (α := S2x2048x5632.Idx) (β := EReal) (fun u => m ((c : Thread nD τ).loc main_arg4) u) (funext fun a => Fin.ext ?_)
  have h0 : (crd hr t 0).val < 11 := (crd hr t 0).isLt
  have h1 : (crd hr t 1).val < 8 := (crd hr t 1).isLt
  have hw : wordHere Ideal (crd hr t) T0 = T0 (ix1 (crd hr t 1)) := by
    refine congrArg T0 (funext fun a => Fin.ext ?_)
    match a with
    | ⟨0, _⟩ =>
      show (BitVec.ofNat 32 (crd hr t 1).val).toNat + 1 * 0 = (crd hr t 1).val
      rw [BitVec.toNat_ofNat]; omega
  match a with
  | ⟨0, _⟩ =>
    show (wordHere Ideal (crd hr t) T0).toNat * 1 + 1 * 0 = x.val
    rw [hw]; omega
  | ⟨1, _⟩ =>
    show 0 * 2048 + 1 * k.val = k.val
    omega
  | ⟨2, _⟩ =>
    show (BitVec.ofNat 32 (crd hr t 0).val).toNat * 512 + 1 * d.val = e.val
    rw [BitVec.toNat_ofNat]; omega

/-- A point's product with a block of the first weights, and of the second. -/
theorem halves_at (c : Dev nD) (t : Fin (cfgA Ideal hr).N) (hu : ((crd hr t 1).val : ℤ) < (T1 (ix1 0)).toInt) (r : Fin 1024) (d : Fin 512) (e : Fin 8192) (f : Fin 5632)
    (he : e.val = 1024 * (crd hr t 1).val + r.val) (hf : f.val = 512 * (crd hr t 0).val + d.val) :
    halves (iblk hr m ρ c (0 : Fin 5) t) (iblk hr m ρ c (1 : Fin 5) t)
        (upper (F := Ideal) (k0_pay1 (F := Ideal) (iblk hr m ρ c (2 : Fin 5) t))) (lower (F := Ideal) (k0_pay1 (F := Ideal) (iblk hr m ρ c (2 : Fin 5) t))) r d
      = contract T0 hr.expert (argA m c) (argW m c) e f := by
  have h1 : (crd hr t 1).val < 8 := (crd hr t 1).isLt
  have ht : crd hr t 1 = tileOf e := Fin.ext (by show (crd hr t 1).val = e.val / 1024; omega)
  unfold halves contract
  congr 1
  · refine Finset.sum_congr rfl fun k _ => ?_
    rw [upper_at, copied_at, weights_at2 hr m ρ c t _ d ⟨_, hr.expert (ix1 (tileOf e))⟩ f (by rw [ht]) hf, rows_at0 hr m ρ c t hu r k e he]
  · refine Finset.sum_congr rfl fun k _ => ?_
    rw [lower_at, copied_at, weights_at2 hr m ρ c t _ d ⟨_, hr.expert (ix1 (tileOf e))⟩ f (by rw [ht]) hf, rows_at1 hr m ρ c t hu r k e he]

theorem halves_at' (c : Dev nD) (t : Fin (cfgA Ideal hr).N) (hu : ((crd hr t 1).val : ℤ) < (T1 (ix1 0)).toInt) (r : Fin 1024) (d : Fin 512) (e : Fin 8192) (f : Fin 5632)
    (he : e.val = 1024 * (crd hr t 1).val + r.val) (hf : f.val = 512 * (crd hr t 0).val + d.val) :
    halves (iblk hr m ρ c (0 : Fin 5) t) (iblk hr m ρ c (1 : Fin 5) t)
        (upper (F := Ideal) (k0_pay2 (F := Ideal) (iblk hr m ρ c (3 : Fin 5) t))) (lower (F := Ideal) (k0_pay2 (F := Ideal) (iblk hr m ρ c (3 : Fin 5) t))) r d
      = contract T0 hr.expert (argA m c) (argW' m c) e f := by
  have h1 : (crd hr t 1).val < 8 := (crd hr t 1).isLt
  have ht : crd hr t 1 = tileOf e := Fin.ext (by show (crd hr t 1).val = e.val / 1024; omega)
  unfold halves contract
  congr 1
  · refine Finset.sum_congr rfl fun k _ => ?_
    rw [upper_at, copied_at', weights_at3 hr m ρ c t _ d ⟨_, hr.expert (ix1 (tileOf e))⟩ f (by rw [ht]) hf, rows_at0 hr m ρ c t hu r k e he]
  · refine Finset.sum_congr rfl fun k _ => ?_
    rw [lower_at, copied_at', weights_at3 hr m ρ c t _ d ⟨_, hr.expert (ix1 (tileOf e))⟩ f (by rw [ht]) hf, rows_at1 hr m ρ c t hu r k e he]

/-- What one point leaves at row `r` and column `d` of its block. -/
theorem point (c : Dev nD) (t : Fin (cfgA Ideal hr).N) (r : Fin 1024) (d : Fin 512) (e : Fin 8192) (f : Fin 5632)
    (he : e.val = 1024 * (crd hr t 1).val + r.val) (hf : f.val = 512 * (crd hr t 0).val + d.val) :
    outOf (crd hr t) T1 (iblk hr m ρ c (0 : Fin 5) t) (iblk hr m ρ c (1 : Fin 5) t) (iblk hr m ρ c (2 : Fin 5) t) (iblk hr m ρ c (3 : Fin 5) t) (ix2 r d)
      = hiddenAt T0 T1 hr.expert (argA m c) (argW m c) (argW' m c) e f := by
  have h1 : (crd hr t 1).val < 8 := (crd hr t 1).isLt
  have ht : crd hr t 1 = tileOf e := Fin.ext (by show (crd hr t 1).val = e.val / 1024; omega)
  unfold outOf hiddenAt
  by_cases hu : ((crd hr t 1).val : ℤ) < (T1 (ix1 0)).toInt
  · have hu' : ((tileOf e).val : ℤ) < (T1 (ix1 0)).toInt := ht ▸ hu
    rw [if_pos ((used_iff _ _).2 hu), if_pos hu']
    unfold gated
    rw [gate_at, halves_at hr m ρ c t hu r d e f he hf, halves_at' hr m ρ c t hu r d e f he hf]
  · have hu' : ¬((tileOf e).val : ℤ) < (T1 (ix1 0)).toInt := ht ▸ hu
    rw [if_neg (fun h => hu ((used_iff _ _).1 h)), if_neg hu', zero_at]

/-- The point of tile `i` and column block `j`. -/
theorem point_of : ∀ (i : Fin 8) (j : Fin 11), ∃ t : Fin grid0.N, (grid0.coords t 1).val = i.val ∧ (grid0.coords t 0).val = j.val := by
  decide +kernel

/-- The result array. -/
theorem result (c : Dev nD) :
    (dats hr m ρ 0 c).arrAt (4 : Fin 5) (cfgA Ideal hr).N
      = fun u : S8192x5632.Idx => hiddenAt T0 T1 hr.expert (argA m c) (argW m c) (argW' m c) (u 0) (u 1) := by
  refine (dats hr m ρ 0 c).arrAt_eq_of_emb (4 : Fin 5) _ (fun t hf y => ?_) ?_
  · have h0 : (crd hr t 0).val < 11 := (crd hr t 0).isLt
    have h1 : (crd hr t 1).val < 8 := (crd hr t 1).isLt
    have ly0 : (y 0).val < 1024 := (y 0).isLt
    have ly1 : (y 1).val < 512 := (y 1).isLt
    have e : (((cfgA Ideal hr).win (4 : Fin 5)).blk t).view.emb y
        = (ix2 (⟨1024 * (crd hr t 1).val + (y 0).val, by omega⟩ : Fin 8192) (⟨512 * (crd hr t 0).val + (y 1).val, by omega⟩ : Fin 5632) : S8192x5632.Idx) := by
      funext a
      refine Fin.ext ?_
      match a with
      | ⟨0, _⟩ =>
        show (BitVec.ofNat 32 (crd hr t 1).val).toNat * 1024 + 1 * (y 0).val = 1024 * (crd hr t 1).val + (y 0).val
        rw [BitVec.toNat_ofNat]; omega
      | ⟨1, _⟩ =>
        show (BitVec.ofNat 32 (crd hr t 0).val).toNat * 512 + 1 * (y 1).val = 512 * (crd hr t 0).val + (y 1).val
        rw [BitVec.toNat_ofNat]; omega
    have ey : ((cfgA Ideal hr).win (4 : Fin 5)).xinj ((cfgA Ideal hr).grid.coords t) y = (ix2 ⟨(y 0).val, ly0⟩ ⟨(y 1).val, ly1⟩ : S1024x512.Idx) := by
      funext a
      refine Fin.ext ?_
      match a with
      | ⟨0, _⟩ => rfl
      | ⟨1, _⟩ => rfl
    rw [e, ey, after4, cast_eq]
    exact point hr m ρ c t _ _ _ _ rfl rfl
  · intro u
    have l0 : (u 0).val < 8192 := (u 0).isLt
    have l1 : (u 1).val < 5632 := (u 1).isLt
    obtain ⟨t, ht1, ht0⟩ := point_of ⟨(u 0).val / 1024, by omega⟩ ⟨(u 1).val / 512, by omega⟩
    refine ⟨t, flush4 hr t, ?_⟩
    have e : (((cfgA Ideal hr).win (4 : Fin 5)).blk t).view.emb (ix2 ⟨(u 0).val % 1024, by omega⟩ ⟨(u 1).val % 512, by omega⟩ : S1024x512.Idx) = u := by
      funext a
      refine Fin.ext ?_
      match a with
      | ⟨0, _⟩ =>
        show (BitVec.ofNat 32 (grid0.coords t 1).val).toNat * 1024 + 1 * ((u 0).val % 1024) = (u 0).val
        rw [ht1, BitVec.toNat_ofNat]
        show (u 0).val / 1024 % 2 ^ 32 * 1024 + 1 * ((u 0).val % 1024) = (u 0).val
        omega
      | ⟨1, _⟩ =>
        show (BitVec.ofNat 32 (grid0.coords t 0).val).toNat * 512 + 1 * ((u 1).val % 512) = (u 1).val
        rw [ht0, BitVec.toNat_ofNat]
        show (u 1).val / 512 % 2 ^ 32 * 512 + 1 * ((u 1).val % 512) = (u 1).val
        omega
    rw [← e]
    exact View.emb_mem_set _ _

end Cert.DenseUp.Ffn

end
-- ==== Proof.DenseUpRef.lean ====
/- The dense up projection's reference, read at an index. -/
module

public import proofs.«01_k».proof.Proof.DenseUpVal
public import proofs.«01_k».proof.Proof.Gen.DenseUpRefIdeal.Run
public import Idealize.ShloMosaic.Lib.Pointwise
public import Idealize.ShloMosaic.Lib.ValueIdxCore

@[expose] public section

set_option maxRecDepth 16384

noncomputable section

open Idealize.ShloMosaic Idealize.ShloMosaic.TcCoe Idealize.SL.Sem

namespace Cert.DenseUpRefIdeal.Layers

open Cert.DenseUpRefIdeal Cert.DenseUpRefIdeal.Gen Cert.DenseUpRefIdeal.Value
open Cert.DenseUp.Ffn (tileOf contract hiddenAt)

variable (T0 : IVec S8 32) (T1 : IVec S1 32) (A : FVec Ideal S8192x2048 .bf16) (W W' : FVec Ideal S2x2048x5632 .f32)

/-- The rows, tile by tile. -/
def rows : FVec Ideal S8x1024x2048 .f32 :=
  shapeCast _ (extf (F := Ideal) .f32 A bitsLt_bf16_f32) shapeCasts_S8192x2048_S8x1024x2048

/-- The layers' numbers as the gather reads them, one to a tile. -/
def starts : IVec S8x1 32 :=
  broadcastInDim S8x1 ![0] bcast_S8_S8x1_0 (select (cmpi .slt T0 (broadcastInDim S8 ![] bcast_S_S8 (constantI S_ 32 0#32))) (addi T0 (broadcastInDim S8 ![] bcast_S_S8 (constantI S_ 32 2#32))) T0)

/-- Each tile's layer's matrix. -/
def chosen : FVec Ideal S8x2048x5632 .f32 :=
  Host.gather gather_S2x2048x5632_S8x1_S8x2048x5632_12_0_n_n_0_1_120485632 W (starts T0)

/-- The tiles' products with their layers' matrices. -/
def products : FVec Ideal S8x1024x5632 .f32 :=
  Host.dotGeneral (F := Ideal) (φ₁ := .f32) (φ₂ := .f32) dot_S8x1024x2048_S8x2048x5632_S8x1024x5632_2_1_1_2_0_0 none (rows A) (chosen T0 W)

/-- Which tiles are in use. -/
def inUse : IVec S8 1 :=
  cmpi .slt (iotaInDim S8 32 0) (broadcastInDim S8 ![] bcast_S_S8 (shapeCast _ T1 shapeCasts_S1_S_))

/-- A vector times its own logistic. -/
def silu (a : FVec Ideal S8x1024x5632 .f32) : FVec Ideal S8x1024x5632 .f32 :=
  mulf a (Host.divf (broadcastInDim S8x1024x5632 ![] bcast_S_S8x1024x5632 (constant S_ .f32 0x3F800000#32)) (addf (broadcastInDim S8x1024x5632 ![] bcast_S_S8x1024x5632 (constant S_ .f32 0x3F800000#32)) (Host.exp (Host.negf a))))

def masked : FVec Ideal S8x1024x5632 .f32 :=
  select (broadcastInDim S8x1024x5632 ![0, 1, 2] bcast_S8x1x1_S8x1024x5632_0_1_2 (broadcastInDim S8x1x1 ![0] bcast_S8_S8x1x1_0 (inUse T1))) (mulf (silu (products T0 A W)) (products T0 A W')) (broadcastInDim S8x1024x5632 ![] bcast_S_S8x1024x5632 (id (constant S_ .f32 0x00000000#32)))

def value : FVec Ideal S8192x5632 .bf16 := truncf (F := Ideal) .bf16 (shapeCast _ (masked T0 T1 A W W') shapeCasts_S8x1024x5632_S8192x5632) bitsLt_bf16_f32

variable {T0} (h0 : ∀ x, (T0 x).toNat < 2)

include h0 in
theorem starts_at (t : Fin 8) : starts T0 (ix2 t 0) = T0 (ix1 t) := by
  have h1 : ∀ v : BitVec 32, v.toNat < 2 → IntOp.cmpi .slt v 0#32 = 0#1 := by
    intro v hv
    have : v.toInt = v.toNat := BitVec.toInt_eq_toNat_of_lt (by omega)
    rw [WordCmp.cmpi_slt_eq, decide_eq_false (by rw [this]; simp)]
    rfl
  have h2 := h1 _ (h0 (ix1 t))
  pointwise [starts]
  rw [h2]
  rfl

theorem gathered_at (x : S2x2048x5632.Idx → EReal) (idx : IVec S8x1 32) (t : Fin 8) (k : Fin 2048) (d : Fin 5632) (e : Fin 2)
    (he : (idx (ix2 t 0)).toNat = e.val) :
    Host.gather gather_S2x2048x5632_S8x1_S8x2048x5632_12_0_n_n_0_1_120485632 x idx (ix3 t k d) = x (ix3 e k d) := by
  unfold Host.gather
  refine congrArg x (funext fun a => Fin.ext ?_)
  match a with
  | ⟨0, _⟩ =>
    show min (idx _).toInt.toNat (2 - 1) + 0 + 0 = e.val
    have hi : ∀ u : S8x1.Idx, u = ix2 t 0 → min (idx u).toInt.toNat (2 - 1) + 0 + 0 = e.val := by
      rintro u rfl
      have hv := e.isLt
      rw [BitVec.toInt_eq_toNat_of_lt (by omega), he]
      show min ((e.val : ℤ)).toNat 1 + 0 + 0 = e.val
      omega
    refine hi _ (funext fun b => Fin.ext ?_)
    match b with
    | ⟨0, _⟩ => rfl
    | ⟨1, _⟩ => rfl
  | ⟨1, _⟩ => show 0 + 0 + k.val = k.val; omega
  | ⟨2, _⟩ => show 0 + 0 + d.val = d.val; omega

theorem rows_at (t : Fin 8) (r : Fin 1024) (k : Fin 2048) : rows A (ix3 t r k) = A (ix2 ⟨t.val * 1024 + r.val, by omega⟩ k) := by
  pointwise [rows]

include h0 in
theorem products_at (t : Fin 8) (r : Fin 1024) (f : Fin 5632) :
    products T0 A W (ix3 t r f) = contract T0 h0 A W ⟨t.val * 1024 + r.val, by omega⟩ f := by
  have ht : tileOf ⟨t.val * 1024 + r.val, by omega⟩ = t := Fin.ext (by show (t.val * 1024 + r.val) / 1024 = t.val; omega)
  have e : products T0 A W (ix3 t r f) = ∑ k : Fin 2048, rows A (ix3 t r k) * chosen T0 W (ix3 t k f) := by
    pointwise [products]
  have hg : ∀ k : Fin 2048, chosen T0 W (ix3 t k f) = W (ix3 ⟨(T0 (ix1 t)).toNat, h0 _⟩ k f) := fun k =>
    gathered_at W _ t k f ⟨(T0 (ix1 t)).toNat, h0 _⟩ (congrArg BitVec.toNat (starts_at h0 t))
  rw [e, Fin.sum_univ_two_halves 1024 1024 rfl]
  unfold contract
  simp only [ht]
  congr 1
  · refine Finset.sum_congr rfl fun k _ => ?_
    rw [hg]
    exact congrArg (· * _) (rows_at A t r _)
  · refine Finset.sum_congr rfl fun k _ => ?_
    rw [hg]
    exact congrArg (· * _) (rows_at A t r _)

theorem silu_at (a : FVec Ideal S8x1024x5632 .f32) (u : S8x1024x5632.Idx) : silu a u = a u * Ideal.logistic (a u) := by
  have e1 : constant (F := Ideal) S_ .f32 0x3F800000#32 = fun _ => (1 : EReal) := by
    funext v
    pointwise
  unfold silu
  rw [e1]
  rfl

theorem inUse_at (t : Fin 8) : inUse T1 (ix1 t) = if (t.val : ℤ) < (T1 (ix1 0)).toInt then 1#1 else 0#1 := by
  have h1 : (BitVec.ofNat 32 t.val).toInt = t.val := by
    rw [BitVec.toInt_eq_toNat_of_lt (by rw [BitVec.toNat_ofNat]; omega), BitVec.toNat_ofNat]; omega
  pointwise [inUse]
  rw [WordCmp.cmpi_slt_eq, h1]
  by_cases h : (t.val : ℤ) < (T1 (ix1 0)).toInt
  · rw [decide_eq_true h, if_pos h]; rfl
  · rw [decide_eq_false h, if_neg h]; rfl

include h0 in
theorem masked_at (t : Fin 8) (r : Fin 1024) (d : Fin 5632) :
    masked T0 T1 A W W' (ix3 t r d) = hiddenAt T0 T1 h0 A W W' ⟨t.val * 1024 + r.val, by omega⟩ d := by
  have ht : tileOf ⟨t.val * 1024 + r.val, by omega⟩ = t := Fin.ext (by show (t.val * 1024 + r.val) / 1024 = t.val; omega)
  pointwise [masked]
  rw [inUse_at T1 t, silu_at, products_at A W h0 t r d, products_at A W' h0 t r d]
  unfold hiddenAt
  simp only [ht]
  by_cases h : (t.val : ℤ) < (T1 (ix1 0)).toInt
  · rw [if_pos h, if_pos h]; rfl
  · rw [if_neg h, if_neg h]
    show constant (F := Ideal) S_ .f32 0x00000000#32 ix0 = (0 : EReal)
    pointwise

include h0 in
/-- The reference's result. -/
theorem value_eq : value T0 T1 A W W' = fun u : S8192x5632.Idx => hiddenAt T0 T1 h0 A W W' (u 0) (u 1) := by
  funext u
  have l0 : (u 0).val < 8192 := (u 0).isLt
  have l1 : (u 1).val < 5632 := (u 1).isLt
  have eu : u = ix2 ⟨(u 0).val, l0⟩ ⟨(u 1).val, l1⟩ := funext fun a => Fin.ext (by match a with | ⟨0, _⟩ => rfl | ⟨1, _⟩ => rfl)
  have e : value T0 T1 A W W' (ix2 ⟨(u 0).val, l0⟩ ⟨(u 1).val, l1⟩)
      = masked T0 T1 A W W' (ix3 ⟨(u 0).val / 1024, by omega⟩ ⟨(u 0).val % 1024, by omega⟩ ⟨(u 1).val, l1⟩) := by
    pointwise [value]
  have hm := masked_at T1 A W W' h0 ⟨(u 0).val / 1024, by omega⟩ ⟨(u 0).val % 1024, by omega⟩ ⟨(u 1).val, l1⟩
  have hi : (⟨(u 0).val / 1024 * 1024 + (u 0).val % 1024, by omega⟩ : Fin 8192) = u 0 := Fin.ext (by show (u 0).val / 1024 * 1024 + (u 0).val % 1024 = (u 0).val; omega)
  refine (congrArg (value T0 T1 A W W') eu).trans (e.trans (hm.trans ?_))
  exact congrArg₂ (hiddenAt T0 T1 h0 A W W') hi rfl

end Cert.DenseUpRefIdeal.Layers

end
-- ==== Proof.DenseUpClaims.lean ====
/- The claims about the dense up projection. -/
module

public import proofs.«01_k».proof.Defs
public import proofs.«01_k».proof.Proof.DenseDownClaims
public import proofs.«01_k».proof.Proof.DenseUpFrame
public import proofs.«01_k».proof.Proof.DenseUpRef
public import proofs.«01_k».proof.Proof.Gen.DenseUpIdeal
public import proofs.«01_k».proof.Proof.Gen.Pre_dense_up_tables
public import Idealize.ShloMosaic.Lib.WordCmp
public import Idealize.ShloMosaic.Lib.ReduceAll
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Proof.DenseUpClaims

open Cert.Proof.DenseDownClaims (small positive)

instance : Subsingleton Cert.Pre_dense_up_tables.S_.Idx := ⟨fun a b => funext fun i => i.elim0⟩

/-- The precondition puts the layers' numbers in range and at least one tile in use. -/
theorem in_range {F : FTy → Type} [FloatOps F] (a0 : IVec Cert.Pre_dense_up_tables.S8 32) (a1 : IVec Cert.Pre_dense_up_tables.S1 32)
    (a2 : FVec F Cert.Pre_dense_up_tables.S8192x2048 .bf16) (a3 a4 : FVec F Cert.Pre_dense_up_tables.S2x2048x5632 .f32)
    (h : Cert.Pre_dense_up_tables.fn (F := F) a0 a1 a2 a3 a4 = fun _ => 1#1) :
    (∀ x, (a0 x).toNat < 2) ∧ ∀ x, 1 ≤ (a1 x).toInt := by
  have e := congrFun h (fun i => i.elim0)
  dsimp only [Cert.Pre_dense_up_tables.fn] at e
  obtain ⟨e0, e1⟩ := IntOp.andi_eq_one.1 e
  exact ⟨fun x => small _ (Host.reduce_andi_all _ _ _ _ _ e0 x), fun x => positive _ (Host.reduce_andi_all _ _ _ _ _ e1 x)⟩

theorem placed {F : FTy → Type} [FloatOps F] (m : (ℓ : Loc DenseUp.nD DenseUp.τ DenseUp.sig) → Buf (Elt F) ℓ) :
    DenseUp.Ffn.Placed (m ((((0 : Dev DenseUp.nD).tc : Thread DenseUp.nD DenseUp.τ)).loc DenseUp.main_arg0)) (m ((((0 : Dev DenseUp.nD).tc : Thread DenseUp.nD DenseUp.τ)).loc DenseUp.main_arg1)) m :=
  ⟨fun c => by obtain rfl : c = 0 := Subsingleton.elim _ _; rfl, fun c => by obtain rfl : c = 0 := Subsingleton.elim _ _; rfl⟩

theorem range_p (m : (ℓ : Loc DenseUp.nD DenseUp.τ DenseUp.sig) → Buf (Elt Bits) ℓ) (h : Cert.Pre_DenseUp m) :
    DenseUp.Ffn.InRange (m ((((0 : Dev DenseUp.nD).tc : Thread DenseUp.nD DenseUp.τ)).loc DenseUp.main_arg0)) (m ((((0 : Dev DenseUp.nD).tc : Thread DenseUp.nD DenseUp.τ)).loc DenseUp.main_arg1)) :=
  ⟨(in_range _ _ _ _ _ (h 0)).1, (in_range _ _ _ _ _ (h 0)).2⟩

theorem range_pi (m : (ℓ : Loc DenseUp.nD DenseUp.τ DenseUp.sig) → Buf (Elt Ideal) ℓ) (h : Cert.Pre_DenseUpIdeal m) :
    DenseUp.Ffn.InRange (m ((((0 : Dev DenseUp.nD).tc : Thread DenseUp.nD DenseUp.τ)).loc DenseUp.main_arg0)) (m ((((0 : Dev DenseUp.nD).tc : Thread DenseUp.nD DenseUp.τ)).loc DenseUp.main_arg1)) :=
  ⟨(in_range _ _ _ _ _ (h 0)).1, (in_range _ _ _ _ _ (h 0)).2⟩

/-- Idealizing changes no operation of the kernel: over the extended reals the two programs have the same bodies, -/
theorem same_bodies : DenseUpIdeal.defs₀ (F := Ideal) = DenseUp.defs₀ (F := Ideal) := by
  unfold DenseUpIdeal.defs₀ DenseUp.defs₀
  congr 1
  funext l a
  match l, a with
  | 0, (t, s) => rfl

/-- and the same pipelines, so what is proved of the kernel over any numbers holds of its idealization. -/
theorem same_program : DenseUpIdeal.defs (F := Ideal) = DenseUp.defs (F := Ideal) := by
  unfold DenseUpIdeal.defs DenseUp.defs
  rw [same_bodies]
  rfl

theorem frame_p : Cert.quiescent_DenseUp := fun m ρ h => DenseUp.Ffn.frame (range_p m h) m ρ (placed m)
theorem frame_pi : Cert.quiescent_DenseUpIdeal := fun m ρ h => by
  rw [same_program]
  exact DenseUp.Ffn.frame (F := Ideal) (range_pi m h) m ρ (placed m)
theorem frame_ri : Cert.quiescent_DenseUpRefIdeal := fun m ρ _ =>
  (θ_run Cert.DenseUpRefIdeal.defs _ _).mono (fun r h => ⟨fun c => (h c).2, sem_eq_zero_of_no_sems (by decide) r.2⟩)
    (Cert.DenseUpRefIdeal.Value.run (F := Ideal) m ρ)
theorem frame_ri_tables : Cert.quiescent_DenseUpRefIdeal_pre_dense_up_tables := fun m ρ _ => frame_ri m ρ trivial

theorem preserves : Cert.preserves_DenseUp_DenseUpIdeal := trivial

/-- From tables in range the kernel and the reference end with the same gated hidden rows. -/
theorem algebraic : Cert.algebraic_DenseUpIdeal_DenseUpRefIdeal := by
  intro m g m' g' pre same
  have hr := range_pi m pre
  have hp := placed (F := Ideal) m
  refine ⟨fun c => (DenseUp.Ffn.dats hr m g 0 c).arrAt (4 : Fin 5) (DenseUp.Ffn.cfgA Ideal hr).N, ?_, ?_⟩
  · rw [same_program]
    exact (θ_run DenseUp.defs _ _).mono (fun r h c => ⟨(h.1 c).1 (4 : Fin 5), h.2 c⟩)
      (θ_run_and (DenseUp.Ffn.run_main hr m g hp) (DenseUp.Ffn.unchanged hr m g hp))
  · refine (θ_run DenseUpRefIdeal.defs _ _).mono (fun r h c => ⟨(h c).1.trans ?_, (h c).2⟩) (DenseUpRefIdeal.Value.run (F := Ideal) m' g')
    obtain ⟨a0, a1, a2, a3, a4⟩ := same c
    obtain rfl : c = 0 := Subsingleton.elim _ _
    rw [a0, a1, a2, a3, a4]
    exact (DenseUpRefIdeal.Layers.value_eq _ _ _ _ hr.expert).trans (DenseUp.Ffn.result hr m g 0).symm

end Cert.Proof.DenseUpClaims

end
-- ==== Proof.MatIn0Val.lean ====
/- The projection's result array, entry by entry: a block of columns is multiplied by the copy of its weights that the
   first of its points made. -/
module

public import proofs.«01_k».proof.Proof.Gen.MatIn0Ideal.Value
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.Tactic Idealize.SL.Sem

namespace Cert.MatIn0Ideal.Mat

open Cert.MatIn0Ideal Cert.MatIn0Ideal.Gen
open Idealize.ShloMosaic.Pipeline (Dat Cfg Window)

theorem off2 : (![0, 0] : Fin 2 → Nat) = fun _ => 0 := funext fun a => by fin_cases a <;> rfl
theorem off3 : (![0, 0, 0] : Fin 3 → Nat) = fun _ => 0 := funext fun a => by fin_cases a <;> rfl

/-- Row `r`, column `f` of the projection by the layer's matrix. -/
def project (X : S8192x2048.Idx → EReal) (W : S4x2048x12800.Idx → EReal) (r : Fin 8192) (f : Fin 4608) : EReal :=
  ∑ k : Fin 2048, X (ix2 r k) * W (ix3 0 k ⟨f.val, by omega⟩)

section Body
variable (c : Dev nD) (i : grid0.Coords) (a2 : Memref sig .tc .vmem S1024x2048 .bf16) (h2 : a2.IsWhole)
  (a3 : Memref sig .tc .vmem S1x2048x768 .f32) (h3 : a3.IsWhole) (a4 : Memref sig .tc .vmem S1024x768 .f32) (h4 : a4.IsWhole)
  (a5 : Memref sig .tc .vmem S2048x768 .bf16) (h5 : a5.IsWhole)
  (x0 : Vec Ideal S1024x2048 .bf16) (x1 : Vec Ideal S1x2048x768 .f32) (xs : Vec Ideal S2048x768 .bf16)

/-- The first point of a block of columns leaves the copy of the weights in the scratch. -/
theorem scratchA (hc : cond0_0 i) : sout0_A_0 (F := Ideal) c i a2 h2 a3 h3 a4 h4 a5 h5 hc x0 x1 = k0_pay1 (F := Ideal) x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero (S := S2048x768) off2]
  rw [View.readAt_eq_ld, h3.read_unread, View.ld_unit_zero (S := S1x2048x768) off3]

theorem outA (hc : cond0_0 i) :
    out0_A_2 (F := Ideal) c i a2 h2 a3 h3 a4 h4 a5 h5 hc x0 x1 = k0_pay2 (F := Ideal) x0 (k0_pay1 (F := Ideal) x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero (S := S1024x768) off2]
  rw [View.readCov_unit_zero (S := S2048x768) _ off2, View.readAt_eq_ld, View.readAt_eq_ld, h2.read_unread, h3.read_unread,
    View.ld_unit_zero (S := S1024x2048) off2, View.ld_unit_zero (S := S1x2048x768) off3]

theorem outB (hc : ¬cond0_0 i) :
    out0_B_2 (F := Ideal) c i a2 h2 a3 h3 a4 h4 a5 h5 hc x0 x1 xs = k0_pay2 (F := Ideal) x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero (S := S1024x768) off2]
  rw [View.readAt_eq_ld, View.readAt_eq_ld, h2.read_unread, h5.read_unread, View.ld_unit_zero (S := S1024x2048) off2,
    View.ld_unit_zero (S := S2048x768) off2]

end Body

theorem copied_at (x1 : Vec Ideal S1x2048x768 .f32) (k : Fin 2048) (d : Fin 768) :
    k0_pay1 (F := Ideal) x1 (ix2 k d) = x1 (ix3 0 k d) := by
  pointwise [k0_pay1]

theorem product_at (x0 : Vec Ideal S1024x2048 .bf16) (w : Vec Ideal S2048x768 .bf16) (r : Fin 1024) (d : Fin 768) :
    k0_pay2 (F := Ideal) x0 w (ix2 r d) = ∑ k : Fin 2048, x0 (ix2 r k) * w (ix2 k d) := by
  pointwise [k0_pay2]

variable (m : (ℓ : Loc nD τ sig) → Buf (Elt Ideal) ℓ)

/-- The rows and the layers' matrices. -/
def argX (c : Dev nD) : S8192x2048.Idx → EReal := m ((c : Thread nD τ).loc main_arg0)
def argW (c : Dev nD) : S4x2048x12800.Idx → EReal := m ((c : Thread nD τ).loc main_arg1)

/-- A point's block of rows. -/
theorem rows_at (c : Dev nD) (t : Fin cfg0.N) (r : Fin 1024) (k : Fin 2048) (e : Fin 8192) (he : e.val = 1024 * (grid0.coords t 1).val + r.val) :
    iblk m c 0 t (ix2 r k : S1024x2048.Idx) = argX m c (ix2 e k) := by
  unfold iblk
  rw [View.read_apply]
  refine congrArg (α := S8192x2048.Idx) (β := EReal) (fun u => m ((c : Thread nD τ).loc main_arg0) u) (funext fun a => Fin.ext ?_)
  have h1 : (grid0.coords t 1).val < 8 := (grid0.coords t 1).isLt
  match a with
  | ⟨0, _⟩ =>
    show (BitVec.ofNat 32 (grid0.coords t 1).val).toNat * 1024 + 1 * r.val = e.val
    rw [BitVec.toNat_ofNat]; omega
  | ⟨1, _⟩ =>
    show 0 * 2048 + 1 * k.val = k.val
    omega

/-- A point's block of weights is a column block of the layer's matrix. -/
theorem weights_at (c : Dev nD) (t : Fin cfg0.N) (k : Fin 2048) (d : Fin 768) (e : Fin 12800) (he : e.val = 768 * (grid0.coords t 0).val + d.val) :
    X0_1 m c t (ix3 0 k d : S1x2048x768.Idx) = argW m c (ix3 0 k e) := by
  unfold X0_1 Window.fill
  rw [dif_pos (moved0_1 t _)]
  unfold iblk
  rw [View.read_apply]
  refine congrArg (α := S4x2048x12800.Idx) (β := EReal) (fun u => m ((c : Thread nD τ).loc main_arg1) u) (funext fun a => Fin.ext ?_)
  have h0 : (grid0.coords t 0).val < 6 := (grid0.coords t 0).isLt
  match a with
  | ⟨0, _⟩ =>
    show 0 * 1 + 1 * 0 = 0
    omega
  | ⟨1, _⟩ =>
    show 0 * 2048 + 1 * k.val = k.val
    omega
  | ⟨2, _⟩ =>
    show (0#32 + BitVec.ofNat 32 (grid0.coords t 0).val).toNat * 768 + 1 * d.val = e.val
    rw [BitVec.zero_add, BitVec.toNat_ofNat]; omega

/-- A point that is not the first of its block of columns has the same block of columns as the point before. -/
theorem same_column : ∀ t : Fin grid0.N, ¬t.val % 8 = 0 →
    (grid0.coords ⟨t.val - 1, Nat.lt_of_le_of_lt (Nat.sub_le _ _) t.isLt⟩ 0).val = (grid0.coords t 0).val := by
  decide +kernel

/-- After every point the scratch holds the point's column block of the layer's matrix. -/
theorem held (c : Dev nD) (n : ℕ) : ∀ (t : Fin cfg0.N), t.val = n → ∀ (k : Fin 2048) (d : Fin 768) (e : Fin 12800),
    e.val = 768 * (grid0.coords t 0).val + d.val →
    (outsAt0 m c t.val t.isLt).2 (ix2 k d : S2048x768.Idx) = argW m c (ix3 0 k e) := by
  induction n with
  | zero =>
    intro t ht k d e he
    rw [outsAt0_A m c t (by rw [ht])]
    dsimp only
    rw [scratchA]
    exact (copied_at _ k d).trans (weights_at m c t k d e he)
  | succ n ih =>
    intro t ht k d e he
    by_cases h : t.val % 8 = 0
    · rw [outsAt0_A m c t h]
      dsimp only
      rw [scratchA]
      exact (copied_at _ k d).trans (weights_at m c t k d e he)
    · rw [outsAt0_B m c t h]
      dsimp only
      unfold sout0_B_0
      exact ih ⟨t.val - 1, Nat.lt_of_le_of_lt (Nat.sub_le _ _) t.isLt⟩ (by show t.val - 1 = n; omega) k d e (by
        rw [he]; exact congrArg (fun v => 768 * v + d.val) (same_column t h).symm)

/-- What one point leaves at row `r` and column `d` of its block. -/
theorem point (c : Dev nD) (t : Fin cfg0.N) (r : Fin 1024) (d : Fin 768) (e : Fin 8192) (f : Fin 4608)
    (he : e.val = 1024 * (grid0.coords t 1).val + r.val) (hf : f.val = 768 * (grid0.coords t 0).val + d.val) :
    (outsAt0 m c t.val t.isLt).1 (ix2 r d : S1024x768.Idx) = project (argX m c) (argW m c) e f := by
  unfold project
  by_cases h : t.val % 8 = 0
  · rw [outsAt0_A m c t h]
    dsimp only
    rw [outA]
    refine (product_at _ _ r d).trans (Finset.sum_congr rfl fun k _ => ?_)
    rw [copied_at, weights_at m c t k d ⟨f.val, by omega⟩ hf, rows_at m c t r k e he]
  · rw [outsAt0_B m c t h]
    dsimp only
    rw [outB]
    refine (product_at _ _ r d).trans (Finset.sum_congr rfl fun k _ => ?_)
    rw [rows_at m c t r k e he]
    refine congrArg (fun v : EReal => argX m c (ix2 e k) * v) ?_
    exact held m c (t.val - 1) ⟨t.val - 1, Nat.lt_of_le_of_lt (Nat.sub_le _ _) t.isLt⟩ rfl k d ⟨f.val, by omega⟩ (by
      show f.val = _
      rw [hf]; exact congrArg (fun v => 768 * v + d.val) (same_column t h).symm)

/-- The point of row block `i` and column block `j`. -/
theorem point_of : ∀ (i : Fin 8) (j : Fin 6), ∃ t : Fin grid0.N, (grid0.coords t 1).val = i.val ∧ (grid0.coords t 0).val = j.val := by
  decide +kernel

/-- The result array. -/
theorem result (c : Dev nD) :
    (dats m 0 c).arrAt 2 cfg0.N = fun u : S8192x4608.Idx => project (argX m c) (argW m c) (u 0) (u 1) := by
  refine (dats m 0 c).arrAt_eq_of_emb 2 _ (fun t hf y => ?_) ?_
  · have h0 : (grid0.coords t 0).val < 6 := (grid0.coords t 0).isLt
    have h1 : (grid0.coords t 1).val < 8 := (grid0.coords t 1).isLt
    have ly0 : (y 0).val < 1024 := (y 0).isLt
    have ly1 : (y 1).val < 768 := (y 1).isLt
    have e : ((cfg0.win 2).blk t).view.emb y
        = (ix2 (⟨1024 * (grid0.coords t 1).val + (y 0).val, by omega⟩ : Fin 8192) (⟨768 * (grid0.coords t 0).val + (y 1).val, by omega⟩ : Fin 4608) : S8192x4608.Idx) := by
      funext a
      refine Fin.ext ?_
      match a with
      | ⟨0, _⟩ =>
        show (BitVec.ofNat 32 (grid0.coords t 1).val).toNat * 1024 + 1 * (y 0).val = 1024 * (grid0.coords t 1).val + (y 0).val
        rw [BitVec.toNat_ofNat]; omega
      | ⟨1, _⟩ =>
        show (BitVec.ofNat 32 (grid0.coords t 0).val).toNat * 768 + 1 * (y 1).val = 768 * (grid0.coords t 0).val + (y 1).val
        rw [BitVec.toNat_ofNat]; omega
    have ey : (cfg0.win 2).xinj (cfg0.grid.coords t) y = (ix2 ⟨(y 0).val, ly0⟩ ⟨(y 1).val, ly1⟩ : S1024x768.Idx) := by
      funext a
      refine Fin.ext ?_
      match a with
      | ⟨0, _⟩ => rfl
      | ⟨1, _⟩ => rfl
    rw [e, ey, after0_2, cast_eq]
    exact point m c t _ _ _ _ rfl rfl
  · intro u
    have l0 : (u 0).val < 8192 := (u 0).isLt
    have l1 : (u 1).val < 4608 := (u 1).isLt
    obtain ⟨t, ht1, ht0⟩ := point_of ⟨(u 0).val / 1024, by omega⟩ ⟨(u 1).val / 768, by omega⟩
    refine ⟨t, flush0_2 t, ?_⟩
    have e : ((cfg0.win 2).blk t).view.emb (ix2 ⟨(u 0).val % 1024, by omega⟩ ⟨(u 1).val % 768, by omega⟩ : S1024x768.Idx) = u := by
      funext a
      refine Fin.ext ?_
      match a with
      | ⟨0, _⟩ =>
        show (BitVec.ofNat 32 (grid0.coords t 1).val).toNat * 1024 + 1 * ((u 0).val % 1024) = (u 0).val
        rw [ht1, BitVec.toNat_ofNat]
        show (u 0).val / 1024 % 2 ^ 32 * 1024 + 1 * ((u 0).val % 1024) = (u 0).val
        omega
      | ⟨1, _⟩ =>
        show (BitVec.ofNat 32 (grid0.coords t 0).val).toNat * 768 + 1 * ((u 1).val % 768) = (u 1).val
        rw [ht0, BitVec.toNat_ofNat]
        show (u 1).val / 768 % 2 ^ 32 * 768 + 1 * ((u 1).val % 768) = (u 1).val
        omega
    rw [← e]
    exact View.emb_mem_set _ _

end Cert.MatIn0Ideal.Mat

end
-- ==== Proof.MatIn0Claims.lean ====
/- The claims about the projection. -/
module

public import proofs.«01_k».proof.Defs
public import proofs.«01_k».proof.Proof.MatIn0Val
public import proofs.«01_k».proof.Proof.Gen.MatIn0.Frame
public import proofs.«01_k».proof.Proof.Gen.MatIn0RefIdeal.Run
public import Idealize.ShloMosaic.Lib.Pointwise
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.MatIn0RefIdeal.Mat

open Cert.MatIn0RefIdeal Cert.MatIn0RefIdeal.Gen
open Cert.MatIn0Ideal.Mat (project)

/-- The reference's term. -/
def value (X : FVec Ideal S8192x2048 .bf16) (W : FVec Ideal S4x2048x12800 .f32) : FVec Ideal S8192x4608 .f32 :=
  Host.dotGeneral (F := Ideal) (φ₁ := .f32) (φ₂ := .f32) dot_S8192x2048_S2048x4608_S8192x4608_1_0_0_1_n_n none (extf .f32 X bitsLt_bf16_f32)
    (shapeCast _ (extractStridedSlice S1x2048x4608 ![0, 0, 0] W slices_S4x2048x12800_S1x2048x4608_0_0_0) shapeCasts_S1x2048x4608_S2048x4608)

theorem value_at (X : FVec Ideal S8192x2048 .bf16) (W : FVec Ideal S4x2048x12800 .f32) (r : Fin 8192) (f : Fin 4608) :
    value X W (ix2 r f) = project X W r f := by
  unfold project
  pointwise [value]

theorem value_eq (X : FVec Ideal S8192x2048 .bf16) (W : FVec Ideal S4x2048x12800 .f32) :
    value X W = fun u : S8192x4608.Idx => project X W (u 0) (u 1) := by
  funext u
  have eu : u = ix2 (u 0) (u 1) := funext fun a => Fin.ext (by match a with | ⟨0, _⟩ => rfl | ⟨1, _⟩ => rfl)
  exact (congrArg (value X W) eu).trans (value_at X W (u 0) (u 1))

end Cert.MatIn0RefIdeal.Mat

namespace Cert.Proof.MatIn0Claims

theorem frame_p : Cert.quiescent_MatIn0 := fun m ρ _ => MatIn0.Gen.frame m ρ
theorem frame_pi : Cert.quiescent_MatIn0Ideal := fun m ρ _ => MatIn0Ideal.Gen.frame m ρ
theorem frame_ri : Cert.quiescent_MatIn0RefIdeal := fun m ρ _ =>
  (θ_run Cert.MatIn0RefIdeal.defs _ _).mono (fun r h => ⟨fun c => (h c).2, sem_eq_zero_of_no_sems (by decide) r.2⟩)
    (Cert.MatIn0RefIdeal.Value.run (F := Ideal) m ρ)

theorem preserves : Cert.preserves_MatIn0_MatIn0Ideal := trivial

/-- The kernel and the reference end with the same projection. -/
theorem algebraic : Cert.algebraic_MatIn0Ideal_MatIn0RefIdeal := by
  intro m g m' g' pre same
  refine ⟨fun c => (MatIn0Ideal.Gen.dats m 0 c).arrAt 2 MatIn0Ideal.cfg0.N, MatIn0Ideal.Value.run_blocks m g, ?_⟩
  refine (θ_run MatIn0RefIdeal.defs _ _).mono (fun r h c => ⟨(h c).1.trans ?_, (h c).2⟩) (MatIn0RefIdeal.Value.run (F := Ideal) m' g')
  obtain ⟨a0, a1⟩ := same c
  rw [a0, a1]
  exact (MatIn0RefIdeal.Mat.value_eq _ _).trans (MatIn0Ideal.Mat.result m c).symm

end Cert.Proof.MatIn0Claims

end
-- ==== Proof.MatIn1Val.lean ====
/- The projection's result array, entry by entry: a block of columns is multiplied by the copy of its weights that the
   first of its points made. -/
module

public import proofs.«01_k».proof.Proof.Gen.MatIn1Ideal.Value
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.Tactic Idealize.SL.Sem

namespace Cert.MatIn1Ideal.Mat

open Cert.MatIn1Ideal Cert.MatIn1Ideal.Gen
open Idealize.ShloMosaic.Pipeline (Dat Cfg Window)

theorem off2 : (![0, 0] : Fin 2 → Nat) = fun _ => 0 := funext fun a => by fin_cases a <;> rfl
theorem off3 : (![0, 0, 0] : Fin 3 → Nat) = fun _ => 0 := funext fun a => by fin_cases a <;> rfl

/-- Row `r`, column `f` of the projection by the layer's matrix. -/
def project (X : S8192x2048.Idx → EReal) (W : S4x2048x12800.Idx → EReal) (r : Fin 8192) (f : Fin 4608) : EReal :=
  ∑ k : Fin 2048, X (ix2 r k) * W (ix3 1 k ⟨f.val, by omega⟩)

section Body
variable (c : Dev nD) (i : grid0.Coords) (a2 : Memref sig .tc .vmem S1024x2048 .bf16) (h2 : a2.IsWhole)
  (a3 : Memref sig .tc .vmem S1x2048x768 .f32) (h3 : a3.IsWhole) (a4 : Memref sig .tc .vmem S1024x768 .f32) (h4 : a4.IsWhole)
  (a5 : Memref sig .tc .vmem S2048x768 .bf16) (h5 : a5.IsWhole)
  (x0 : Vec Ideal S1024x2048 .bf16) (x1 : Vec Ideal S1x2048x768 .f32) (xs : Vec Ideal S2048x768 .bf16)

/-- The first point of a block of columns leaves the copy of the weights in the scratch. -/
theorem scratchA (hc : cond0_0 i) : sout0_A_0 (F := Ideal) c i a2 h2 a3 h3 a4 h4 a5 h5 hc x0 x1 = k0_pay1 (F := Ideal) x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero (S := S2048x768) off2]
  rw [View.readAt_eq_ld, h3.read_unread, View.ld_unit_zero (S := S1x2048x768) off3]

theorem outA (hc : cond0_0 i) :
    out0_A_2 (F := Ideal) c i a2 h2 a3 h3 a4 h4 a5 h5 hc x0 x1 = k0_pay2 (F := Ideal) x0 (k0_pay1 (F := Ideal) x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero (S := S1024x768) off2]
  rw [View.readCov_unit_zero (S := S2048x768) _ off2, View.readAt_eq_ld, View.readAt_eq_ld, h2.read_unread, h3.read_unread,
    View.ld_unit_zero (S := S1024x2048) off2, View.ld_unit_zero (S := S1x2048x768) off3]

theorem outB (hc : ¬cond0_0 i) :
    out0_B_2 (F := Ideal) c i a2 h2 a3 h3 a4 h4 a5 h5 hc x0 x1 xs = k0_pay2 (F := Ideal) x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero (S := S1024x768) off2]
  rw [View.readAt_eq_ld, View.readAt_eq_ld, h2.read_unread, h5.read_unread, View.ld_unit_zero (S := S1024x2048) off2,
    View.ld_unit_zero (S := S2048x768) off2]

end Body

theorem copied_at (x1 : Vec Ideal S1x2048x768 .f32) (k : Fin 2048) (d : Fin 768) :
    k0_pay1 (F := Ideal) x1 (ix2 k d) = x1 (ix3 0 k d) := by
  pointwise [k0_pay1]

theorem product_at (x0 : Vec Ideal S1024x2048 .bf16) (w : Vec Ideal S2048x768 .bf16) (r : Fin 1024) (d : Fin 768) :
    k0_pay2 (F := Ideal) x0 w (ix2 r d) = ∑ k : Fin 2048, x0 (ix2 r k) * w (ix2 k d) := by
  pointwise [k0_pay2]

variable (m : (ℓ : Loc nD τ sig) → Buf (Elt Ideal) ℓ)

/-- The rows and the layers' matrices. -/
def argX (c : Dev nD) : S8192x2048.Idx → EReal := m ((c : Thread nD τ).loc main_arg0)
def argW (c : Dev nD) : S4x2048x12800.Idx → EReal := m ((c : Thread nD τ).loc main_arg1)

/-- A point's block of rows. -/
theorem rows_at (c : Dev nD) (t : Fin cfg0.N) (r : Fin 1024) (k : Fin 2048) (e : Fin 8192) (he : e.val = 1024 * (grid0.coords t 1).val + r.val) :
    iblk m c 0 t (ix2 r k : S1024x2048.Idx) = argX m c (ix2 e k) := by
  unfold iblk
  rw [View.read_apply]
  refine congrArg (α := S8192x2048.Idx) (β := EReal) (fun u => m ((c : Thread nD τ).loc main_arg0) u) (funext fun a => Fin.ext ?_)
  have h1 : (grid0.coords t 1).val < 8 := (grid0.coords t 1).isLt
  match a with
  | ⟨0, _⟩ =>
    show (BitVec.ofNat 32 (grid0.coords t 1).val).toNat * 1024 + 1 * r.val = e.val
    rw [BitVec.toNat_ofNat]; omega
  | ⟨1, _⟩ =>
    show 0 * 2048 + 1 * k.val = k.val
    omega

/-- A point's block of weights is a column block of the layer's matrix. -/
theorem weights_at (c : Dev nD) (t : Fin cfg0.N) (k : Fin 2048) (d : Fin 768) (e : Fin 12800) (he : e.val = 768 * (grid0.coords t 0).val + d.val) :
    X0_1 m c t (ix3 0 k d : S1x2048x768.Idx) = argW m c (ix3 1 k e) := by
  unfold X0_1 Window.fill
  rw [dif_pos (moved0_1 t _)]
  unfold iblk
  rw [View.read_apply]
  refine congrArg (α := S4x2048x12800.Idx) (β := EReal) (fun u => m ((c : Thread nD τ).loc main_arg1) u) (funext fun a => Fin.ext ?_)
  have h0 : (grid0.coords t 0).val < 6 := (grid0.coords t 0).isLt
  match a with
  | ⟨0, _⟩ =>
    show 1 * 1 + 1 * 0 = 1
    omega
  | ⟨1, _⟩ =>
    show 0 * 2048 + 1 * k.val = k.val
    omega
  | ⟨2, _⟩ =>
    show (0#32 + BitVec.ofNat 32 (grid0.coords t 0).val).toNat * 768 + 1 * d.val = e.val
    rw [BitVec.zero_add, BitVec.toNat_ofNat]; omega

/-- A point that is not the first of its block of columns has the same block of columns as the point before. -/
theorem same_column : ∀ t : Fin grid0.N, ¬t.val % 8 = 0 →
    (grid0.coords ⟨t.val - 1, Nat.lt_of_le_of_lt (Nat.sub_le _ _) t.isLt⟩ 0).val = (grid0.coords t 0).val := by
  decide +kernel

/-- After every point the scratch holds the point's column block of the layer's matrix. -/
theorem held (c : Dev nD) (n : ℕ) : ∀ (t : Fin cfg0.N), t.val = n → ∀ (k : Fin 2048) (d : Fin 768) (e : Fin 12800),
    e.val = 768 * (grid0.coords t 0).val + d.val →
    (outsAt0 m c t.val t.isLt).2 (ix2 k d : S2048x768.Idx) = argW m c (ix3 1 k e) := by
  induction n with
  | zero =>
    intro t ht k d e he
    rw [outsAt0_A m c t (by rw [ht])]
    dsimp only
    rw [scratchA]
    exact (copied_at _ k d).trans (weights_at m c t k d e he)
  | succ n ih =>
    intro t ht k d e he
    by_cases h : t.val % 8 = 0
    · rw [outsAt0_A m c t h]
      dsimp only
      rw [scratchA]
      exact (copied_at _ k d).trans (weights_at m c t k d e he)
    · rw [outsAt0_B m c t h]
      dsimp only
      unfold sout0_B_0
      exact ih ⟨t.val - 1, Nat.lt_of_le_of_lt (Nat.sub_le _ _) t.isLt⟩ (by show t.val - 1 = n; omega) k d e (by
        rw [he]; exact congrArg (fun v => 768 * v + d.val) (same_column t h).symm)

/-- What one point leaves at row `r` and column `d` of its block. -/
theorem point (c : Dev nD) (t : Fin cfg0.N) (r : Fin 1024) (d : Fin 768) (e : Fin 8192) (f : Fin 4608)
    (he : e.val = 1024 * (grid0.coords t 1).val + r.val) (hf : f.val = 768 * (grid0.coords t 0).val + d.val) :
    (outsAt0 m c t.val t.isLt).1 (ix2 r d : S1024x768.Idx) = project (argX m c) (argW m c) e f := by
  unfold project
  by_cases h : t.val % 8 = 0
  · rw [outsAt0_A m c t h]
    dsimp only
    rw [outA]
    refine (product_at _ _ r d).trans (Finset.sum_congr rfl fun k _ => ?_)
    rw [copied_at, weights_at m c t k d ⟨f.val, by omega⟩ hf, rows_at m c t r k e he]
  · rw [outsAt0_B m c t h]
    dsimp only
    rw [outB]
    refine (product_at _ _ r d).trans (Finset.sum_congr rfl fun k _ => ?_)
    rw [rows_at m c t r k e he]
    refine congrArg (fun v : EReal => argX m c (ix2 e k) * v) ?_
    exact held m c (t.val - 1) ⟨t.val - 1, Nat.lt_of_le_of_lt (Nat.sub_le _ _) t.isLt⟩ rfl k d ⟨f.val, by omega⟩ (by
      show f.val = _
      rw [hf]; exact congrArg (fun v => 768 * v + d.val) (same_column t h).symm)

/-- The point of row block `i` and column block `j`. -/
theorem point_of : ∀ (i : Fin 8) (j : Fin 6), ∃ t : Fin grid0.N, (grid0.coords t 1).val = i.val ∧ (grid0.coords t 0).val = j.val := by
  decide +kernel

/-- The result array. -/
theorem result (c : Dev nD) :
    (dats m 0 c).arrAt 2 cfg0.N = fun u : S8192x4608.Idx => project (argX m c) (argW m c) (u 0) (u 1) := by
  refine (dats m 0 c).arrAt_eq_of_emb 2 _ (fun t hf y => ?_) ?_
  · have h0 : (grid0.coords t 0).val < 6 := (grid0.coords t 0).isLt
    have h1 : (grid0.coords t 1).val < 8 := (grid0.coords t 1).isLt
    have ly0 : (y 0).val < 1024 := (y 0).isLt
    have ly1 : (y 1).val < 768 := (y 1).isLt
    have e : ((cfg0.win 2).blk t).view.emb y
        = (ix2 (⟨1024 * (grid0.coords t 1).val + (y 0).val, by omega⟩ : Fin 8192) (⟨768 * (grid0.coords t 0).val + (y 1).val, by omega⟩ : Fin 4608) : S8192x4608.Idx) := by
      funext a
      refine Fin.ext ?_
      match a with
      | ⟨0, _⟩ =>
        show (BitVec.ofNat 32 (grid0.coords t 1).val).toNat * 1024 + 1 * (y 0).val = 1024 * (grid0.coords t 1).val + (y 0).val
        rw [BitVec.toNat_ofNat]; omega
      | ⟨1, _⟩ =>
        show (BitVec.ofNat 32 (grid0.coords t 0).val).toNat * 768 + 1 * (y 1).val = 768 * (grid0.coords t 0).val + (y 1).val
        rw [BitVec.toNat_ofNat]; omega
    have ey : (cfg0.win 2).xinj (cfg0.grid.coords t) y = (ix2 ⟨(y 0).val, ly0⟩ ⟨(y 1).val, ly1⟩ : S1024x768.Idx) := by
      funext a
      refine Fin.ext ?_
      match a with
      | ⟨0, _⟩ => rfl
      | ⟨1, _⟩ => rfl
    rw [e, ey, after0_2, cast_eq]
    exact point m c t _ _ _ _ rfl rfl
  · intro u
    have l0 : (u 0).val < 8192 := (u 0).isLt
    have l1 : (u 1).val < 4608 := (u 1).isLt
    obtain ⟨t, ht1, ht0⟩ := point_of ⟨(u 0).val / 1024, by omega⟩ ⟨(u 1).val / 768, by omega⟩
    refine ⟨t, flush0_2 t, ?_⟩
    have e : ((cfg0.win 2).blk t).view.emb (ix2 ⟨(u 0).val % 1024, by omega⟩ ⟨(u 1).val % 768, by omega⟩ : S1024x768.Idx) = u := by
      funext a
      refine Fin.ext ?_
      match a with
      | ⟨0, _⟩ =>
        show (BitVec.ofNat 32 (grid0.coords t 1).val).toNat * 1024 + 1 * ((u 0).val % 1024) = (u 0).val
        rw [ht1, BitVec.toNat_ofNat]
        show (u 0).val / 1024 % 2 ^ 32 * 1024 + 1 * ((u 0).val % 1024) = (u 0).val
        omega
      | ⟨1, _⟩ =>
        show (BitVec.ofNat 32 (grid0.coords t 0).val).toNat * 768 + 1 * ((u 1).val % 768) = (u 1).val
        rw [ht0, BitVec.toNat_ofNat]
        show (u 1).val / 768 % 2 ^ 32 * 768 + 1 * ((u 1).val % 768) = (u 1).val
        omega
    rw [← e]
    exact View.emb_mem_set _ _

end Cert.MatIn1Ideal.Mat

end
-- ==== Proof.MatIn1Claims.lean ====
/- The claims about the projection. -/
module

public import proofs.«01_k».proof.Defs
public import proofs.«01_k».proof.Proof.MatIn1Val
public import proofs.«01_k».proof.Proof.Gen.MatIn1.Frame
public import proofs.«01_k».proof.Proof.Gen.MatIn1RefIdeal.Run
public import Idealize.ShloMosaic.Lib.Pointwise
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.MatIn1RefIdeal.Mat

open Cert.MatIn1RefIdeal Cert.MatIn1RefIdeal.Gen
open Cert.MatIn1Ideal.Mat (project)

/-- The reference's term. -/
def value (X : FVec Ideal S8192x2048 .bf16) (W : FVec Ideal S4x2048x12800 .f32) : FVec Ideal S8192x4608 .f32 :=
  Host.dotGeneral (F := Ideal) (φ₁ := .f32) (φ₂ := .f32) dot_S8192x2048_S2048x4608_S8192x4608_1_0_0_1_n_n none (extf .f32 X bitsLt_bf16_f32)
    (shapeCast _ (extractStridedSlice S1x2048x4608 ![1, 0, 0] W slices_S4x2048x12800_S1x2048x4608_1_0_0) shapeCasts_S1x2048x4608_S2048x4608)

theorem value_at (X : FVec Ideal S8192x2048 .bf16) (W : FVec Ideal S4x2048x12800 .f32) (r : Fin 8192) (f : Fin 4608) :
    value X W (ix2 r f) = project X W r f := by
  unfold project
  pointwise [value]

theorem value_eq (X : FVec Ideal S8192x2048 .bf16) (W : FVec Ideal S4x2048x12800 .f32) :
    value X W = fun u : S8192x4608.Idx => project X W (u 0) (u 1) := by
  funext u
  have eu : u = ix2 (u 0) (u 1) := funext fun a => Fin.ext (by match a with | ⟨0, _⟩ => rfl | ⟨1, _⟩ => rfl)
  exact (congrArg (value X W) eu).trans (value_at X W (u 0) (u 1))

end Cert.MatIn1RefIdeal.Mat

namespace Cert.Proof.MatIn1Claims

theorem frame_p : Cert.quiescent_MatIn1 := fun m ρ _ => MatIn1.Gen.frame m ρ
theorem frame_pi : Cert.quiescent_MatIn1Ideal := fun m ρ _ => MatIn1Ideal.Gen.frame m ρ
theorem frame_ri : Cert.quiescent_MatIn1RefIdeal := fun m ρ _ =>
  (θ_run Cert.MatIn1RefIdeal.defs _ _).mono (fun r h => ⟨fun c => (h c).2, sem_eq_zero_of_no_sems (by decide) r.2⟩)
    (Cert.MatIn1RefIdeal.Value.run (F := Ideal) m ρ)

theorem preserves : Cert.preserves_MatIn1_MatIn1Ideal := trivial

/-- The kernel and the reference end with the same projection. -/
theorem algebraic : Cert.algebraic_MatIn1Ideal_MatIn1RefIdeal := by
  intro m g m' g' pre same
  refine ⟨fun c => (MatIn1Ideal.Gen.dats m 0 c).arrAt 2 MatIn1Ideal.cfg0.N, MatIn1Ideal.Value.run_blocks m g, ?_⟩
  refine (θ_run MatIn1RefIdeal.defs _ _).mono (fun r h c => ⟨(h c).1.trans ?_, (h c).2⟩) (MatIn1RefIdeal.Value.run (F := Ideal) m' g')
  obtain ⟨a0, a1⟩ := same c
  rw [a0, a1]
  exact (MatIn1RefIdeal.Mat.value_eq _ _).trans (MatIn1Ideal.Mat.result m c).symm

end Cert.Proof.MatIn1Claims

end
-- ==== Proof.MatIn2Val.lean ====
/- The projection's result array, entry by entry: a block of columns is multiplied by the copy of its weights that the
   first of its points made. -/
module

public import proofs.«01_k».proof.Proof.Gen.MatIn2Ideal.Value
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.Tactic Idealize.SL.Sem

namespace Cert.MatIn2Ideal.Mat

open Cert.MatIn2Ideal Cert.MatIn2Ideal.Gen
open Idealize.ShloMosaic.Pipeline (Dat Cfg Window)

theorem off2 : (![0, 0] : Fin 2 → Nat) = fun _ => 0 := funext fun a => by fin_cases a <;> rfl
theorem off3 : (![0, 0, 0] : Fin 3 → Nat) = fun _ => 0 := funext fun a => by fin_cases a <;> rfl

/-- Row `r`, column `f` of the projection by the layer's matrix. -/
def project (X : S8192x2048.Idx → EReal) (W : S4x2048x12800.Idx → EReal) (r : Fin 8192) (f : Fin 4608) : EReal :=
  ∑ k : Fin 2048, X (ix2 r k) * W (ix3 2 k ⟨f.val, by omega⟩)

section Body
variable (c : Dev nD) (i : grid0.Coords) (a2 : Memref sig .tc .vmem S1024x2048 .bf16) (h2 : a2.IsWhole)
  (a3 : Memref sig .tc .vmem S1x2048x768 .f32) (h3 : a3.IsWhole) (a4 : Memref sig .tc .vmem S1024x768 .f32) (h4 : a4.IsWhole)
  (a5 : Memref sig .tc .vmem S2048x768 .bf16) (h5 : a5.IsWhole)
  (x0 : Vec Ideal S1024x2048 .bf16) (x1 : Vec Ideal S1x2048x768 .f32) (xs : Vec Ideal S2048x768 .bf16)

/-- The first point of a block of columns leaves the copy of the weights in the scratch. -/
theorem scratchA (hc : cond0_0 i) : sout0_A_0 (F := Ideal) c i a2 h2 a3 h3 a4 h4 a5 h5 hc x0 x1 = k0_pay1 (F := Ideal) x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero (S := S2048x768) off2]
  rw [View.readAt_eq_ld, h3.read_unread, View.ld_unit_zero (S := S1x2048x768) off3]

theorem outA (hc : cond0_0 i) :
    out0_A_2 (F := Ideal) c i a2 h2 a3 h3 a4 h4 a5 h5 hc x0 x1 = k0_pay2 (F := Ideal) x0 (k0_pay1 (F := Ideal) x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero (S := S1024x768) off2]
  rw [View.readCov_unit_zero (S := S2048x768) _ off2, View.readAt_eq_ld, View.readAt_eq_ld, h2.read_unread, h3.read_unread,
    View.ld_unit_zero (S := S1024x2048) off2, View.ld_unit_zero (S := S1x2048x768) off3]

theorem outB (hc : ¬cond0_0 i) :
    out0_B_2 (F := Ideal) c i a2 h2 a3 h3 a4 h4 a5 h5 hc x0 x1 xs = k0_pay2 (F := Ideal) x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero (S := S1024x768) off2]
  rw [View.readAt_eq_ld, View.readAt_eq_ld, h2.read_unread, h5.read_unread, View.ld_unit_zero (S := S1024x2048) off2,
    View.ld_unit_zero (S := S2048x768) off2]

end Body

theorem copied_at (x1 : Vec Ideal S1x2048x768 .f32) (k : Fin 2048) (d : Fin 768) :
    k0_pay1 (F := Ideal) x1 (ix2 k d) = x1 (ix3 0 k d) := by
  pointwise [k0_pay1]

theorem product_at (x0 : Vec Ideal S1024x2048 .bf16) (w : Vec Ideal S2048x768 .bf16) (r : Fin 1024) (d : Fin 768) :
    k0_pay2 (F := Ideal) x0 w (ix2 r d) = ∑ k : Fin 2048, x0 (ix2 r k) * w (ix2 k d) := by
  pointwise [k0_pay2]

variable (m : (ℓ : Loc nD τ sig) → Buf (Elt Ideal) ℓ)

/-- The rows and the layers' matrices. -/
def argX (c : Dev nD) : S8192x2048.Idx → EReal := m ((c : Thread nD τ).loc main_arg0)
def argW (c : Dev nD) : S4x2048x12800.Idx → EReal := m ((c : Thread nD τ).loc main_arg1)

/-- A point's block of rows. -/
theorem rows_at (c : Dev nD) (t : Fin cfg0.N) (r : Fin 1024) (k : Fin 2048) (e : Fin 8192) (he : e.val = 1024 * (grid0.coords t 1).val + r.val) :
    iblk m c 0 t (ix2 r k : S1024x2048.Idx) = argX m c (ix2 e k) := by
  unfold iblk
  rw [View.read_apply]
  refine congrArg (α := S8192x2048.Idx) (β := EReal) (fun u => m ((c : Thread nD τ).loc main_arg0) u) (funext fun a => Fin.ext ?_)
  have h1 : (grid0.coords t 1).val < 8 := (grid0.coords t 1).isLt
  match a with
  | ⟨0, _⟩ =>
    show (BitVec.ofNat 32 (grid0.coords t 1).val).toNat * 1024 + 1 * r.val = e.val
    rw [BitVec.toNat_ofNat]; omega
  | ⟨1, _⟩ =>
    show 0 * 2048 + 1 * k.val = k.val
    omega

/-- A point's block of weights is a column block of the layer's matrix. -/
theorem weights_at (c : Dev nD) (t : Fin cfg0.N) (k : Fin 2048) (d : Fin 768) (e : Fin 12800) (he : e.val = 768 * (grid0.coords t 0).val + d.val) :
    X0_1 m c t (ix3 0 k d : S1x2048x768.Idx) = argW m c (ix3 2 k e) := by
  unfold X0_1 Window.fill
  rw [dif_pos (moved0_1 t _)]
  unfold iblk
  rw [View.read_apply]
  refine congrArg (α := S4x2048x12800.Idx) (β := EReal) (fun u => m ((c : Thread nD τ).loc main_arg1) u) (funext fun a => Fin.ext ?_)
  have h0 : (grid0.coords t 0).val < 6 := (grid0.coords t 0).isLt
  match a with
  | ⟨0, _⟩ =>
    show 2 * 1 + 1 * 0 = 2
    omega
  | ⟨1, _⟩ =>
    show 0 * 2048 + 1 * k.val = k.val
    omega
  | ⟨2, _⟩ =>
    show (0#32 + BitVec.ofNat 32 (grid0.coords t 0).val).toNat * 768 + 1 * d.val = e.val
    rw [BitVec.zero_add, BitVec.toNat_ofNat]; omega

/-- A point that is not the first of its block of columns has the same block of columns as the point before. -/
theorem same_column : ∀ t : Fin grid0.N, ¬t.val % 8 = 0 →
    (grid0.coords ⟨t.val - 1, Nat.lt_of_le_of_lt (Nat.sub_le _ _) t.isLt⟩ 0).val = (grid0.coords t 0).val := by
  decide +kernel

/-- After every point the scratch holds the point's column block of the layer's matrix. -/
theorem held (c : Dev nD) (n : ℕ) : ∀ (t : Fin cfg0.N), t.val = n → ∀ (k : Fin 2048) (d : Fin 768) (e : Fin 12800),
    e.val = 768 * (grid0.coords t 0).val + d.val →
    (outsAt0 m c t.val t.isLt).2 (ix2 k d : S2048x768.Idx) = argW m c (ix3 2 k e) := by
  induction n with
  | zero =>
    intro t ht k d e he
    rw [outsAt0_A m c t (by rw [ht])]
    dsimp only
    rw [scratchA]
    exact (copied_at _ k d).trans (weights_at m c t k d e he)
  | succ n ih =>
    intro t ht k d e he
    by_cases h : t.val % 8 = 0
    · rw [outsAt0_A m c t h]
      dsimp only
      rw [scratchA]
      exact (copied_at _ k d).trans (weights_at m c t k d e he)
    · rw [outsAt0_B m c t h]
      dsimp only
      unfold sout0_B_0
      exact ih ⟨t.val - 1, Nat.lt_of_le_of_lt (Nat.sub_le _ _) t.isLt⟩ (by show t.val - 1 = n; omega) k d e (by
        rw [he]; exact congrArg (fun v => 768 * v + d.val) (same_column t h).symm)

/-- What one point leaves at row `r` and column `d` of its block. -/
theorem point (c : Dev nD) (t : Fin cfg0.N) (r : Fin 1024) (d : Fin 768) (e : Fin 8192) (f : Fin 4608)
    (he : e.val = 1024 * (grid0.coords t 1).val + r.val) (hf : f.val = 768 * (grid0.coords t 0).val + d.val) :
    (outsAt0 m c t.val t.isLt).1 (ix2 r d : S1024x768.Idx) = project (argX m c) (argW m c) e f := by
  unfold project
  by_cases h : t.val % 8 = 0
  · rw [outsAt0_A m c t h]
    dsimp only
    rw [outA]
    refine (product_at _ _ r d).trans (Finset.sum_congr rfl fun k _ => ?_)
    rw [copied_at, weights_at m c t k d ⟨f.val, by omega⟩ hf, rows_at m c t r k e he]
  · rw [outsAt0_B m c t h]
    dsimp only
    rw [outB]
    refine (product_at _ _ r d).trans (Finset.sum_congr rfl fun k _ => ?_)
    rw [rows_at m c t r k e he]
    refine congrArg (fun v : EReal => argX m c (ix2 e k) * v) ?_
    exact held m c (t.val - 1) ⟨t.val - 1, Nat.lt_of_le_of_lt (Nat.sub_le _ _) t.isLt⟩ rfl k d ⟨f.val, by omega⟩ (by
      show f.val = _
      rw [hf]; exact congrArg (fun v => 768 * v + d.val) (same_column t h).symm)

/-- The point of row block `i` and column block `j`. -/
theorem point_of : ∀ (i : Fin 8) (j : Fin 6), ∃ t : Fin grid0.N, (grid0.coords t 1).val = i.val ∧ (grid0.coords t 0).val = j.val := by
  decide +kernel

/-- The result array. -/
theorem result (c : Dev nD) :
    (dats m 0 c).arrAt 2 cfg0.N = fun u : S8192x4608.Idx => project (argX m c) (argW m c) (u 0) (u 1) := by
  refine (dats m 0 c).arrAt_eq_of_emb 2 _ (fun t hf y => ?_) ?_
  · have h0 : (grid0.coords t 0).val < 6 := (grid0.coords t 0).isLt
    have h1 : (grid0.coords t 1).val < 8 := (grid0.coords t 1).isLt
    have ly0 : (y 0).val < 1024 := (y 0).isLt
    have ly1 : (y 1).val < 768 := (y 1).isLt
    have e : ((cfg0.win 2).blk t).view.emb y
        = (ix2 (⟨1024 * (grid0.coords t 1).val + (y 0).val, by omega⟩ : Fin 8192) (⟨768 * (grid0.coords t 0).val + (y 1).val, by omega⟩ : Fin 4608) : S8192x4608.Idx) := by
      funext a
      refine Fin.ext ?_
      match a with
      | ⟨0, _⟩ =>
        show (BitVec.ofNat 32 (grid0.coords t 1).val).toNat * 1024 + 1 * (y 0).val = 1024 * (grid0.coords t 1).val + (y 0).val
        rw [BitVec.toNat_ofNat]; omega
      | ⟨1, _⟩ =>
        show (BitVec.ofNat 32 (grid0.coords t 0).val).toNat * 768 + 1 * (y 1).val = 768 * (grid0.coords t 0).val + (y 1).val
        rw [BitVec.toNat_ofNat]; omega
    have ey : (cfg0.win 2).xinj (cfg0.grid.coords t) y = (ix2 ⟨(y 0).val, ly0⟩ ⟨(y 1).val, ly1⟩ : S1024x768.Idx) := by
      funext a
      refine Fin.ext ?_
      match a with
      | ⟨0, _⟩ => rfl
      | ⟨1, _⟩ => rfl
    rw [e, ey, after0_2, cast_eq]
    exact point m c t _ _ _ _ rfl rfl
  · intro u
    have l0 : (u 0).val < 8192 := (u 0).isLt
    have l1 : (u 1).val < 4608 := (u 1).isLt
    obtain ⟨t, ht1, ht0⟩ := point_of ⟨(u 0).val / 1024, by omega⟩ ⟨(u 1).val / 768, by omega⟩
    refine ⟨t, flush0_2 t, ?_⟩
    have e : ((cfg0.win 2).blk t).view.emb (ix2 ⟨(u 0).val % 1024, by omega⟩ ⟨(u 1).val % 768, by omega⟩ : S1024x768.Idx) = u := by
      funext a
      refine Fin.ext ?_
      match a with
      | ⟨0, _⟩ =>
        show (BitVec.ofNat 32 (grid0.coords t 1).val).toNat * 1024 + 1 * ((u 0).val % 1024) = (u 0).val
        rw [ht1, BitVec.toNat_ofNat]
        show (u 0).val / 1024 % 2 ^ 32 * 1024 + 1 * ((u 0).val % 1024) = (u 0).val
        omega
      | ⟨1, _⟩ =>
        show (BitVec.ofNat 32 (grid0.coords t 0).val).toNat * 768 + 1 * ((u 1).val % 768) = (u 1).val
        rw [ht0, BitVec.toNat_ofNat]
        show (u 1).val / 768 % 2 ^ 32 * 768 + 1 * ((u 1).val % 768) = (u 1).val
        omega
    rw [← e]
    exact View.emb_mem_set _ _

end Cert.MatIn2Ideal.Mat

end
-- ==== Proof.MatIn2Claims.lean ====
/- The claims about the projection. -/
module

public import proofs.«01_k».proof.Defs
public import proofs.«01_k».proof.Proof.MatIn2Val
public import proofs.«01_k».proof.Proof.Gen.MatIn2.Frame
public import proofs.«01_k».proof.Proof.Gen.MatIn2RefIdeal.Run
public import Idealize.ShloMosaic.Lib.Pointwise
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.MatIn2RefIdeal.Mat

open Cert.MatIn2RefIdeal Cert.MatIn2RefIdeal.Gen
open Cert.MatIn2Ideal.Mat (project)

/-- The reference's term. -/
def value (X : FVec Ideal S8192x2048 .bf16) (W : FVec Ideal S4x2048x12800 .f32) : FVec Ideal S8192x4608 .f32 :=
  Host.dotGeneral (F := Ideal) (φ₁ := .f32) (φ₂ := .f32) dot_S8192x2048_S2048x4608_S8192x4608_1_0_0_1_n_n none (extf .f32 X bitsLt_bf16_f32)
    (shapeCast _ (extractStridedSlice S1x2048x4608 ![2, 0, 0] W slices_S4x2048x12800_S1x2048x4608_2_0_0) shapeCasts_S1x2048x4608_S2048x4608)

theorem value_at (X : FVec Ideal S8192x2048 .bf16) (W : FVec Ideal S4x2048x12800 .f32) (r : Fin 8192) (f : Fin 4608) :
    value X W (ix2 r f) = project X W r f := by
  unfold project
  pointwise [value]

theorem value_eq (X : FVec Ideal S8192x2048 .bf16) (W : FVec Ideal S4x2048x12800 .f32) :
    value X W = fun u : S8192x4608.Idx => project X W (u 0) (u 1) := by
  funext u
  have eu : u = ix2 (u 0) (u 1) := funext fun a => Fin.ext (by match a with | ⟨0, _⟩ => rfl | ⟨1, _⟩ => rfl)
  exact (congrArg (value X W) eu).trans (value_at X W (u 0) (u 1))

end Cert.MatIn2RefIdeal.Mat

namespace Cert.Proof.MatIn2Claims

theorem frame_p : Cert.quiescent_MatIn2 := fun m ρ _ => MatIn2.Gen.frame m ρ
theorem frame_pi : Cert.quiescent_MatIn2Ideal := fun m ρ _ => MatIn2Ideal.Gen.frame m ρ
theorem frame_ri : Cert.quiescent_MatIn2RefIdeal := fun m ρ _ =>
  (θ_run Cert.MatIn2RefIdeal.defs _ _).mono (fun r h => ⟨fun c => (h c).2, sem_eq_zero_of_no_sems (by decide) r.2⟩)
    (Cert.MatIn2RefIdeal.Value.run (F := Ideal) m ρ)

theorem preserves : Cert.preserves_MatIn2_MatIn2Ideal := trivial

/-- The kernel and the reference end with the same projection. -/
theorem algebraic : Cert.algebraic_MatIn2Ideal_MatIn2RefIdeal := by
  intro m g m' g' pre same
  refine ⟨fun c => (MatIn2Ideal.Gen.dats m 0 c).arrAt 2 MatIn2Ideal.cfg0.N, MatIn2Ideal.Value.run_blocks m g, ?_⟩
  refine (θ_run MatIn2RefIdeal.defs _ _).mono (fun r h c => ⟨(h c).1.trans ?_, (h c).2⟩) (MatIn2RefIdeal.Value.run (F := Ideal) m' g')
  obtain ⟨a0, a1⟩ := same c
  rw [a0, a1]
  exact (MatIn2RefIdeal.Mat.value_eq _ _).trans (MatIn2Ideal.Mat.result m c).symm

end Cert.Proof.MatIn2Claims

end
-- ==== Proof.MatIn3Val.lean ====
/- The projection's result array, entry by entry: a block of columns is multiplied by the copy of its weights that the
   first of its points made. -/
module

public import proofs.«01_k».proof.Proof.Gen.MatIn3Ideal.Value
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.Tactic Idealize.SL.Sem

namespace Cert.MatIn3Ideal.Mat

open Cert.MatIn3Ideal Cert.MatIn3Ideal.Gen
open Idealize.ShloMosaic.Pipeline (Dat Cfg Window)

theorem off2 : (![0, 0] : Fin 2 → Nat) = fun _ => 0 := funext fun a => by fin_cases a <;> rfl
theorem off3 : (![0, 0, 0] : Fin 3 → Nat) = fun _ => 0 := funext fun a => by fin_cases a <;> rfl

/-- Row `r`, column `f` of the projection by the layer's matrix. -/
def project (X : S8192x2048.Idx → EReal) (W : S4x2048x12800.Idx → EReal) (r : Fin 8192) (f : Fin 4608) : EReal :=
  ∑ k : Fin 2048, X (ix2 r k) * W (ix3 3 k ⟨f.val, by omega⟩)

section Body
variable (c : Dev nD) (i : grid0.Coords) (a2 : Memref sig .tc .vmem S1024x2048 .bf16) (h2 : a2.IsWhole)
  (a3 : Memref sig .tc .vmem S1x2048x768 .f32) (h3 : a3.IsWhole) (a4 : Memref sig .tc .vmem S1024x768 .f32) (h4 : a4.IsWhole)
  (a5 : Memref sig .tc .vmem S2048x768 .bf16) (h5 : a5.IsWhole)
  (x0 : Vec Ideal S1024x2048 .bf16) (x1 : Vec Ideal S1x2048x768 .f32) (xs : Vec Ideal S2048x768 .bf16)

/-- The first point of a block of columns leaves the copy of the weights in the scratch. -/
theorem scratchA (hc : cond0_0 i) : sout0_A_0 (F := Ideal) c i a2 h2 a3 h3 a4 h4 a5 h5 hc x0 x1 = k0_pay1 (F := Ideal) x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero (S := S2048x768) off2]
  rw [View.readAt_eq_ld, h3.read_unread, View.ld_unit_zero (S := S1x2048x768) off3]

theorem outA (hc : cond0_0 i) :
    out0_A_2 (F := Ideal) c i a2 h2 a3 h3 a4 h4 a5 h5 hc x0 x1 = k0_pay2 (F := Ideal) x0 (k0_pay1 (F := Ideal) x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero (S := S1024x768) off2]
  rw [View.readCov_unit_zero (S := S2048x768) _ off2, View.readAt_eq_ld, View.readAt_eq_ld, h2.read_unread, h3.read_unread,
    View.ld_unit_zero (S := S1024x2048) off2, View.ld_unit_zero (S := S1x2048x768) off3]

theorem outB (hc : ¬cond0_0 i) :
    out0_B_2 (F := Ideal) c i a2 h2 a3 h3 a4 h4 a5 h5 hc x0 x1 xs = k0_pay2 (F := Ideal) x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero (S := S1024x768) off2]
  rw [View.readAt_eq_ld, View.readAt_eq_ld, h2.read_unread, h5.read_unread, View.ld_unit_zero (S := S1024x2048) off2,
    View.ld_unit_zero (S := S2048x768) off2]

end Body

theorem copied_at (x1 : Vec Ideal S1x2048x768 .f32) (k : Fin 2048) (d : Fin 768) :
    k0_pay1 (F := Ideal) x1 (ix2 k d) = x1 (ix3 0 k d) := by
  pointwise [k0_pay1]

theorem product_at (x0 : Vec Ideal S1024x2048 .bf16) (w : Vec Ideal S2048x768 .bf16) (r : Fin 1024) (d : Fin 768) :
    k0_pay2 (F := Ideal) x0 w (ix2 r d) = ∑ k : Fin 2048, x0 (ix2 r k) * w (ix2 k d) := by
  pointwise [k0_pay2]

variable (m : (ℓ : Loc nD τ sig) → Buf (Elt Ideal) ℓ)

/-- The rows and the layers' matrices. -/
def argX (c : Dev nD) : S8192x2048.Idx → EReal := m ((c : Thread nD τ).loc main_arg0)
def argW (c : Dev nD) : S4x2048x12800.Idx → EReal := m ((c : Thread nD τ).loc main_arg1)

/-- A point's block of rows. -/
theorem rows_at (c : Dev nD) (t : Fin cfg0.N) (r : Fin 1024) (k : Fin 2048) (e : Fin 8192) (he : e.val = 1024 * (grid0.coords t 1).val + r.val) :
    iblk m c 0 t (ix2 r k : S1024x2048.Idx) = argX m c (ix2 e k) := by
  unfold iblk
  rw [View.read_apply]
  refine congrArg (α := S8192x2048.Idx) (β := EReal) (fun u => m ((c : Thread nD τ).loc main_arg0) u) (funext fun a => Fin.ext ?_)
  have h1 : (grid0.coords t 1).val < 8 := (grid0.coords t 1).isLt
  match a with
  | ⟨0, _⟩ =>
    show (BitVec.ofNat 32 (grid0.coords t 1).val).toNat * 1024 + 1 * r.val = e.val
    rw [BitVec.toNat_ofNat]; omega
  | ⟨1, _⟩ =>
    show 0 * 2048 + 1 * k.val = k.val
    omega

/-- A point's block of weights is a column block of the layer's matrix. -/
theorem weights_at (c : Dev nD) (t : Fin cfg0.N) (k : Fin 2048) (d : Fin 768) (e : Fin 12800) (he : e.val = 768 * (grid0.coords t 0).val + d.val) :
    X0_1 m c t (ix3 0 k d : S1x2048x768.Idx) = argW m c (ix3 3 k e) := by
  unfold X0_1 Window.fill
  rw [dif_pos (moved0_1 t _)]
  unfold iblk
  rw [View.read_apply]
  refine congrArg (α := S4x2048x12800.Idx) (β := EReal) (fun u => m ((c : Thread nD τ).loc main_arg1) u) (funext fun a => Fin.ext ?_)
  have h0 : (grid0.coords t 0).val < 6 := (grid0.coords t 0).isLt
  match a with
  | ⟨0, _⟩ =>
    show 3 * 1 + 1 * 0 = 3
    omega
  | ⟨1, _⟩ =>
    show 0 * 2048 + 1 * k.val = k.val
    omega
  | ⟨2, _⟩ =>
    show (0#32 + BitVec.ofNat 32 (grid0.coords t 0).val).toNat * 768 + 1 * d.val = e.val
    rw [BitVec.zero_add, BitVec.toNat_ofNat]; omega

/-- A point that is not the first of its block of columns has the same block of columns as the point before. -/
theorem same_column : ∀ t : Fin grid0.N, ¬t.val % 8 = 0 →
    (grid0.coords ⟨t.val - 1, Nat.lt_of_le_of_lt (Nat.sub_le _ _) t.isLt⟩ 0).val = (grid0.coords t 0).val := by
  decide +kernel

/-- After every point the scratch holds the point's column block of the layer's matrix. -/
theorem held (c : Dev nD) (n : ℕ) : ∀ (t : Fin cfg0.N), t.val = n → ∀ (k : Fin 2048) (d : Fin 768) (e : Fin 12800),
    e.val = 768 * (grid0.coords t 0).val + d.val →
    (outsAt0 m c t.val t.isLt).2 (ix2 k d : S2048x768.Idx) = argW m c (ix3 3 k e) := by
  induction n with
  | zero =>
    intro t ht k d e he
    rw [outsAt0_A m c t (by rw [ht])]
    dsimp only
    rw [scratchA]
    exact (copied_at _ k d).trans (weights_at m c t k d e he)
  | succ n ih =>
    intro t ht k d e he
    by_cases h : t.val % 8 = 0
    · rw [outsAt0_A m c t h]
      dsimp only
      rw [scratchA]
      exact (copied_at _ k d).trans (weights_at m c t k d e he)
    · rw [outsAt0_B m c t h]
      dsimp only
      unfold sout0_B_0
      exact ih ⟨t.val - 1, Nat.lt_of_le_of_lt (Nat.sub_le _ _) t.isLt⟩ (by show t.val - 1 = n; omega) k d e (by
        rw [he]; exact congrArg (fun v => 768 * v + d.val) (same_column t h).symm)

/-- What one point leaves at row `r` and column `d` of its block. -/
theorem point (c : Dev nD) (t : Fin cfg0.N) (r : Fin 1024) (d : Fin 768) (e : Fin 8192) (f : Fin 4608)
    (he : e.val = 1024 * (grid0.coords t 1).val + r.val) (hf : f.val = 768 * (grid0.coords t 0).val + d.val) :
    (outsAt0 m c t.val t.isLt).1 (ix2 r d : S1024x768.Idx) = project (argX m c) (argW m c) e f := by
  unfold project
  by_cases h : t.val % 8 = 0
  · rw [outsAt0_A m c t h]
    dsimp only
    rw [outA]
    refine (product_at _ _ r d).trans (Finset.sum_congr rfl fun k _ => ?_)
    rw [copied_at, weights_at m c t k d ⟨f.val, by omega⟩ hf, rows_at m c t r k e he]
  · rw [outsAt0_B m c t h]
    dsimp only
    rw [outB]
    refine (product_at _ _ r d).trans (Finset.sum_congr rfl fun k _ => ?_)
    rw [rows_at m c t r k e he]
    refine congrArg (fun v : EReal => argX m c (ix2 e k) * v) ?_
    exact held m c (t.val - 1) ⟨t.val - 1, Nat.lt_of_le_of_lt (Nat.sub_le _ _) t.isLt⟩ rfl k d ⟨f.val, by omega⟩ (by
      show f.val = _
      rw [hf]; exact congrArg (fun v => 768 * v + d.val) (same_column t h).symm)

/-- The point of row block `i` and column block `j`. -/
theorem point_of : ∀ (i : Fin 8) (j : Fin 6), ∃ t : Fin grid0.N, (grid0.coords t 1).val = i.val ∧ (grid0.coords t 0).val = j.val := by
  decide +kernel

/-- The result array. -/
theorem result (c : Dev nD) :
    (dats m 0 c).arrAt 2 cfg0.N = fun u : S8192x4608.Idx => project (argX m c) (argW m c) (u 0) (u 1) := by
  refine (dats m 0 c).arrAt_eq_of_emb 2 _ (fun t hf y => ?_) ?_
  · have h0 : (grid0.coords t 0).val < 6 := (grid0.coords t 0).isLt
    have h1 : (grid0.coords t 1).val < 8 := (grid0.coords t 1).isLt
    have ly0 : (y 0).val < 1024 := (y 0).isLt
    have ly1 : (y 1).val < 768 := (y 1).isLt
    have e : ((cfg0.win 2).blk t).view.emb y
        = (ix2 (⟨1024 * (grid0.coords t 1).val + (y 0).val, by omega⟩ : Fin 8192) (⟨768 * (grid0.coords t 0).val + (y 1).val, by omega⟩ : Fin 4608) : S8192x4608.Idx) := by
      funext a
      refine Fin.ext ?_
      match a with
      | ⟨0, _⟩ =>
        show (BitVec.ofNat 32 (grid0.coords t 1).val).toNat * 1024 + 1 * (y 0).val = 1024 * (grid0.coords t 1).val + (y 0).val
        rw [BitVec.toNat_ofNat]; omega
      | ⟨1, _⟩ =>
        show (BitVec.ofNat 32 (grid0.coords t 0).val).toNat * 768 + 1 * (y 1).val = 768 * (grid0.coords t 0).val + (y 1).val
        rw [BitVec.toNat_ofNat]; omega
    have ey : (cfg0.win 2).xinj (cfg0.grid.coords t) y = (ix2 ⟨(y 0).val, ly0⟩ ⟨(y 1).val, ly1⟩ : S1024x768.Idx) := by
      funext a
      refine Fin.ext ?_
      match a with
      | ⟨0, _⟩ => rfl
      | ⟨1, _⟩ => rfl
    rw [e, ey, after0_2, cast_eq]
    exact point m c t _ _ _ _ rfl rfl
  · intro u
    have l0 : (u 0).val < 8192 := (u 0).isLt
    have l1 : (u 1).val < 4608 := (u 1).isLt
    obtain ⟨t, ht1, ht0⟩ := point_of ⟨(u 0).val / 1024, by omega⟩ ⟨(u 1).val / 768, by omega⟩
    refine ⟨t, flush0_2 t, ?_⟩
    have e : ((cfg0.win 2).blk t).view.emb (ix2 ⟨(u 0).val % 1024, by omega⟩ ⟨(u 1).val % 768, by omega⟩ : S1024x768.Idx) = u := by
      funext a
      refine Fin.ext ?_
      match a with
      | ⟨0, _⟩ =>
        show (BitVec.ofNat 32 (grid0.coords t 1).val).toNat * 1024 + 1 * ((u 0).val % 1024) = (u 0).val
        rw [ht1, BitVec.toNat_ofNat]
        show (u 0).val / 1024 % 2 ^ 32 * 1024 + 1 * ((u 0).val % 1024) = (u 0).val
        omega
      | ⟨1, _⟩ =>
        show (BitVec.ofNat 32 (grid0.coords t 0).val).toNat * 768 + 1 * ((u 1).val % 768) = (u 1).val
        rw [ht0, BitVec.toNat_ofNat]
        show (u 1).val / 768 % 2 ^ 32 * 768 + 1 * ((u 1).val % 768) = (u 1).val
        omega
    rw [← e]
    exact View.emb_mem_set _ _

end Cert.MatIn3Ideal.Mat

end
-- ==== Proof.MatIn3Claims.lean ====
/- The claims about the projection. -/
module

public import proofs.«01_k».proof.Defs
public import proofs.«01_k».proof.Proof.MatIn3Val
public import proofs.«01_k».proof.Proof.Gen.MatIn3.Frame
public import proofs.«01_k».proof.Proof.Gen.MatIn3RefIdeal.Run
public import Idealize.ShloMosaic.Lib.Pointwise
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.MatIn3RefIdeal.Mat

open Cert.MatIn3RefIdeal Cert.MatIn3RefIdeal.Gen
open Cert.MatIn3Ideal.Mat (project)

/-- The reference's term. -/
def value (X : FVec Ideal S8192x2048 .bf16) (W : FVec Ideal S4x2048x12800 .f32) : FVec Ideal S8192x4608 .f32 :=
  Host.dotGeneral (F := Ideal) (φ₁ := .f32) (φ₂ := .f32) dot_S8192x2048_S2048x4608_S8192x4608_1_0_0_1_n_n none (extf .f32 X bitsLt_bf16_f32)
    (shapeCast _ (extractStridedSlice S1x2048x4608 ![3, 0, 0] W slices_S4x2048x12800_S1x2048x4608_3_0_0) shapeCasts_S1x2048x4608_S2048x4608)

theorem value_at (X : FVec Ideal S8192x2048 .bf16) (W : FVec Ideal S4x2048x12800 .f32) (r : Fin 8192) (f : Fin 4608) :
    value X W (ix2 r f) = project X W r f := by
  unfold project
  pointwise [value]

theorem value_eq (X : FVec Ideal S8192x2048 .bf16) (W : FVec Ideal S4x2048x12800 .f32) :
    value X W = fun u : S8192x4608.Idx => project X W (u 0) (u 1) := by
  funext u
  have eu : u = ix2 (u 0) (u 1) := funext fun a => Fin.ext (by match a with | ⟨0, _⟩ => rfl | ⟨1, _⟩ => rfl)
  exact (congrArg (value X W) eu).trans (value_at X W (u 0) (u 1))

end Cert.MatIn3RefIdeal.Mat

namespace Cert.Proof.MatIn3Claims

theorem frame_p : Cert.quiescent_MatIn3 := fun m ρ _ => MatIn3.Gen.frame m ρ
theorem frame_pi : Cert.quiescent_MatIn3Ideal := fun m ρ _ => MatIn3Ideal.Gen.frame m ρ
theorem frame_ri : Cert.quiescent_MatIn3RefIdeal := fun m ρ _ =>
  (θ_run Cert.MatIn3RefIdeal.defs _ _).mono (fun r h => ⟨fun c => (h c).2, sem_eq_zero_of_no_sems (by decide) r.2⟩)
    (Cert.MatIn3RefIdeal.Value.run (F := Ideal) m ρ)

theorem preserves : Cert.preserves_MatIn3_MatIn3Ideal := trivial

/-- The kernel and the reference end with the same projection. -/
theorem algebraic : Cert.algebraic_MatIn3Ideal_MatIn3RefIdeal := by
  intro m g m' g' pre same
  refine ⟨fun c => (MatIn3Ideal.Gen.dats m 0 c).arrAt 2 MatIn3Ideal.cfg0.N, MatIn3Ideal.Value.run_blocks m g, ?_⟩
  refine (θ_run MatIn3RefIdeal.defs _ _).mono (fun r h c => ⟨(h c).1.trans ?_, (h c).2⟩) (MatIn3RefIdeal.Value.run (F := Ideal) m' g')
  obtain ⟨a0, a1⟩ := same c
  rw [a0, a1]
  exact (MatIn3RefIdeal.Mat.value_eq _ _).trans (MatIn3Ideal.Mat.result m c).symm

end Cert.Proof.MatIn3Claims

end
-- ==== Proof.MatOut0Val.lean ====
/- The projection's result array, entry by entry: a block of columns is multiplied by the copy of its weights that the
   first of its points made. -/
module

public import proofs.«01_k».proof.Proof.Gen.MatOut0Ideal.Value
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.Tactic Idealize.SL.Sem

namespace Cert.MatOut0Ideal.Mat

open Cert.MatOut0Ideal Cert.MatOut0Ideal.Gen
open Idealize.ShloMosaic.Pipeline (Dat Cfg Window)

theorem off2 : (![0, 0] : Fin 2 → Nat) = fun _ => 0 := funext fun a => by fin_cases a <;> rfl
theorem off3 : (![0, 0, 0] : Fin 3 → Nat) = fun _ => 0 := funext fun a => by fin_cases a <;> rfl

/-- Row `r`, column `f` of the projection by the layer's matrix. -/
def project (X : S8192x2048.Idx → EReal) (W : S4x2048x2048.Idx → EReal) (r : Fin 8192) (f : Fin 2048) : EReal :=
  ∑ k : Fin 2048, X (ix2 r k) * W (ix3 0 k ⟨f.val, by omega⟩)

section Body
variable (c : Dev nD) (i : grid0.Coords) (a2 : Memref sig .tc .vmem S1024x2048 .bf16) (h2 : a2.IsWhole)
  (a3 : Memref sig .tc .vmem S1x2048x512 .f32) (h3 : a3.IsWhole) (a4 : Memref sig .tc .vmem S1024x512 .f32) (h4 : a4.IsWhole)
  (a5 : Memref sig .tc .vmem S2048x512 .bf16) (h5 : a5.IsWhole)
  (x0 : Vec Ideal S1024x2048 .bf16) (x1 : Vec Ideal S1x2048x512 .f32) (xs : Vec Ideal S2048x512 .bf16)

/-- The first point of a block of columns leaves the copy of the weights in the scratch. -/
theorem scratchA (hc : cond0_0 i) : sout0_A_0 (F := Ideal) c i a2 h2 a3 h3 a4 h4 a5 h5 hc x0 x1 = k0_pay1 (F := Ideal) x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero (S := S2048x512) off2]
  rw [View.readAt_eq_ld, h3.read_unread, View.ld_unit_zero (S := S1x2048x512) off3]

theorem outA (hc : cond0_0 i) :
    out0_A_2 (F := Ideal) c i a2 h2 a3 h3 a4 h4 a5 h5 hc x0 x1 = k0_pay2 (F := Ideal) x0 (k0_pay1 (F := Ideal) x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero (S := S1024x512) off2]
  rw [View.readCov_unit_zero (S := S2048x512) _ off2, View.readAt_eq_ld, View.readAt_eq_ld, h2.read_unread, h3.read_unread,
    View.ld_unit_zero (S := S1024x2048) off2, View.ld_unit_zero (S := S1x2048x512) off3]

theorem outB (hc : ¬cond0_0 i) :
    out0_B_2 (F := Ideal) c i a2 h2 a3 h3 a4 h4 a5 h5 hc x0 x1 xs = k0_pay2 (F := Ideal) x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero (S := S1024x512) off2]
  rw [View.readAt_eq_ld, View.readAt_eq_ld, h2.read_unread, h5.read_unread, View.ld_unit_zero (S := S1024x2048) off2,
    View.ld_unit_zero (S := S2048x512) off2]

end Body

theorem copied_at (x1 : Vec Ideal S1x2048x512 .f32) (k : Fin 2048) (d : Fin 512) :
    k0_pay1 (F := Ideal) x1 (ix2 k d) = x1 (ix3 0 k d) := by
  pointwise [k0_pay1]

theorem product_at (x0 : Vec Ideal S1024x2048 .bf16) (w : Vec Ideal S2048x512 .bf16) (r : Fin 1024) (d : Fin 512) :
    k0_pay2 (F := Ideal) x0 w (ix2 r d) = ∑ k : Fin 2048, x0 (ix2 r k) * w (ix2 k d) := by
  pointwise [k0_pay2]

variable (m : (ℓ : Loc nD τ sig) → Buf (Elt Ideal) ℓ)

/-- The rows and the layers' matrices. -/
def argX (c : Dev nD) : S8192x2048.Idx → EReal := m ((c : Thread nD τ).loc main_arg0)
def argW (c : Dev nD) : S4x2048x2048.Idx → EReal := m ((c : Thread nD τ).loc main_arg1)

/-- A point's block of rows. -/
theorem rows_at (c : Dev nD) (t : Fin cfg0.N) (r : Fin 1024) (k : Fin 2048) (e : Fin 8192) (he : e.val = 1024 * (grid0.coords t 1).val + r.val) :
    iblk m c 0 t (ix2 r k : S1024x2048.Idx) = argX m c (ix2 e k) := by
  unfold iblk
  rw [View.read_apply]
  refine congrArg (α := S8192x2048.Idx) (β := EReal) (fun u => m ((c : Thread nD τ).loc main_arg0) u) (funext fun a => Fin.ext ?_)
  have h1 : (grid0.coords t 1).val < 8 := (grid0.coords t 1).isLt
  match a with
  | ⟨0, _⟩ =>
    show (BitVec.ofNat 32 (grid0.coords t 1).val).toNat * 1024 + 1 * r.val = e.val
    rw [BitVec.toNat_ofNat]; omega
  | ⟨1, _⟩ =>
    show 0 * 2048 + 1 * k.val = k.val
    omega

/-- A point's block of weights is a column block of the layer's matrix. -/
theorem weights_at (c : Dev nD) (t : Fin cfg0.N) (k : Fin 2048) (d : Fin 512) (e : Fin 2048) (he : e.val = 512 * (grid0.coords t 0).val + d.val) :
    iblk m c 1 t (ix3 0 k d : S1x2048x512.Idx) = argW m c (ix3 0 k e) := by
  unfold iblk
  rw [View.read_apply]
  refine congrArg (α := S4x2048x2048.Idx) (β := EReal) (fun u => m ((c : Thread nD τ).loc main_arg1) u) (funext fun a => Fin.ext ?_)
  have h0 : (grid0.coords t 0).val < 4 := (grid0.coords t 0).isLt
  match a with
  | ⟨0, _⟩ =>
    show 0 * 1 + 1 * 0 = 0
    omega
  | ⟨1, _⟩ =>
    show 0 * 2048 + 1 * k.val = k.val
    omega
  | ⟨2, _⟩ =>
    show (0#32 + BitVec.ofNat 32 (grid0.coords t 0).val).toNat * 512 + 1 * d.val = e.val
    rw [BitVec.zero_add, BitVec.toNat_ofNat]; omega

/-- A point that is not the first of its block of columns has the same block of columns as the point before. -/
theorem same_column : ∀ t : Fin grid0.N, ¬t.val % 8 = 0 →
    (grid0.coords ⟨t.val - 1, Nat.lt_of_le_of_lt (Nat.sub_le _ _) t.isLt⟩ 0).val = (grid0.coords t 0).val := by
  decide +kernel

/-- After every point the scratch holds the point's column block of the layer's matrix. -/
theorem held (c : Dev nD) (n : ℕ) : ∀ (t : Fin cfg0.N), t.val = n → ∀ (k : Fin 2048) (d : Fin 512) (e : Fin 2048),
    e.val = 512 * (grid0.coords t 0).val + d.val →
    (outsAt0 m c t.val t.isLt).2 (ix2 k d : S2048x512.Idx) = argW m c (ix3 0 k e) := by
  induction n with
  | zero =>
    intro t ht k d e he
    rw [outsAt0_A m c t (by rw [ht])]
    dsimp only
    rw [scratchA]
    exact (copied_at _ k d).trans (weights_at m c t k d e he)
  | succ n ih =>
    intro t ht k d e he
    by_cases h : t.val % 8 = 0
    · rw [outsAt0_A m c t h]
      dsimp only
      rw [scratchA]
      exact (copied_at _ k d).trans (weights_at m c t k d e he)
    · rw [outsAt0_B m c t h]
      dsimp only
      unfold sout0_B_0
      exact ih ⟨t.val - 1, Nat.lt_of_le_of_lt (Nat.sub_le _ _) t.isLt⟩ (by show t.val - 1 = n; omega) k d e (by
        rw [he]; exact congrArg (fun v => 512 * v + d.val) (same_column t h).symm)

/-- What one point leaves at row `r` and column `d` of its block. -/
theorem point (c : Dev nD) (t : Fin cfg0.N) (r : Fin 1024) (d : Fin 512) (e : Fin 8192) (f : Fin 2048)
    (he : e.val = 1024 * (grid0.coords t 1).val + r.val) (hf : f.val = 512 * (grid0.coords t 0).val + d.val) :
    (outsAt0 m c t.val t.isLt).1 (ix2 r d : S1024x512.Idx) = project (argX m c) (argW m c) e f := by
  unfold project
  by_cases h : t.val % 8 = 0
  · rw [outsAt0_A m c t h]
    dsimp only
    rw [outA]
    refine (product_at _ _ r d).trans (Finset.sum_congr rfl fun k _ => ?_)
    rw [copied_at, weights_at m c t k d ⟨f.val, by omega⟩ hf, rows_at m c t r k e he]
  · rw [outsAt0_B m c t h]
    dsimp only
    rw [outB]
    refine (product_at _ _ r d).trans (Finset.sum_congr rfl fun k _ => ?_)
    rw [rows_at m c t r k e he]
    refine congrArg (fun v : EReal => argX m c (ix2 e k) * v) ?_
    exact held m c (t.val - 1) ⟨t.val - 1, Nat.lt_of_le_of_lt (Nat.sub_le _ _) t.isLt⟩ rfl k d ⟨f.val, by omega⟩ (by
      show f.val = _
      rw [hf]; exact congrArg (fun v => 512 * v + d.val) (same_column t h).symm)

/-- The point of row block `i` and column block `j`. -/
theorem point_of : ∀ (i : Fin 8) (j : Fin 4), ∃ t : Fin grid0.N, (grid0.coords t 1).val = i.val ∧ (grid0.coords t 0).val = j.val := by
  decide +kernel

/-- The result array. -/
theorem result (c : Dev nD) :
    (dats m 0 c).arrAt 2 cfg0.N = fun u : S8192x2048.Idx => project (argX m c) (argW m c) (u 0) (u 1) := by
  refine (dats m 0 c).arrAt_eq_of_emb 2 _ (fun t hf y => ?_) ?_
  · have h0 : (grid0.coords t 0).val < 4 := (grid0.coords t 0).isLt
    have h1 : (grid0.coords t 1).val < 8 := (grid0.coords t 1).isLt
    have ly0 : (y 0).val < 1024 := (y 0).isLt
    have ly1 : (y 1).val < 512 := (y 1).isLt
    have e : ((cfg0.win 2).blk t).view.emb y
        = (ix2 (⟨1024 * (grid0.coords t 1).val + (y 0).val, by omega⟩ : Fin 8192) (⟨512 * (grid0.coords t 0).val + (y 1).val, by omega⟩ : Fin 2048) : S8192x2048.Idx) := by
      funext a
      refine Fin.ext ?_
      match a with
      | ⟨0, _⟩ =>
        show (BitVec.ofNat 32 (grid0.coords t 1).val).toNat * 1024 + 1 * (y 0).val = 1024 * (grid0.coords t 1).val + (y 0).val
        rw [BitVec.toNat_ofNat]; omega
      | ⟨1, _⟩ =>
        show (BitVec.ofNat 32 (grid0.coords t 0).val).toNat * 512 + 1 * (y 1).val = 512 * (grid0.coords t 0).val + (y 1).val
        rw [BitVec.toNat_ofNat]; omega
    have ey : (cfg0.win 2).xinj (cfg0.grid.coords t) y = (ix2 ⟨(y 0).val, ly0⟩ ⟨(y 1).val, ly1⟩ : S1024x512.Idx) := by
      funext a
      refine Fin.ext ?_
      match a with
      | ⟨0, _⟩ => rfl
      | ⟨1, _⟩ => rfl
    rw [e, ey, after0_2, cast_eq]
    exact point m c t _ _ _ _ rfl rfl
  · intro u
    have l0 : (u 0).val < 8192 := (u 0).isLt
    have l1 : (u 1).val < 2048 := (u 1).isLt
    obtain ⟨t, ht1, ht0⟩ := point_of ⟨(u 0).val / 1024, by omega⟩ ⟨(u 1).val / 512, by omega⟩
    refine ⟨t, flush0_2 t, ?_⟩
    have e : ((cfg0.win 2).blk t).view.emb (ix2 ⟨(u 0).val % 1024, by omega⟩ ⟨(u 1).val % 512, by omega⟩ : S1024x512.Idx) = u := by
      funext a
      refine Fin.ext ?_
      match a with
      | ⟨0, _⟩ =>
        show (BitVec.ofNat 32 (grid0.coords t 1).val).toNat * 1024 + 1 * ((u 0).val % 1024) = (u 0).val
        rw [ht1, BitVec.toNat_ofNat]
        show (u 0).val / 1024 % 2 ^ 32 * 1024 + 1 * ((u 0).val % 1024) = (u 0).val
        omega
      | ⟨1, _⟩ =>
        show (BitVec.ofNat 32 (grid0.coords t 0).val).toNat * 512 + 1 * ((u 1).val % 512) = (u 1).val
        rw [ht0, BitVec.toNat_ofNat]
        show (u 1).val / 512 % 2 ^ 32 * 512 + 1 * ((u 1).val % 512) = (u 1).val
        omega
    rw [← e]
    exact View.emb_mem_set _ _

end Cert.MatOut0Ideal.Mat

end
-- ==== Proof.MatOut0Claims.lean ====
/- The claims about the projection. -/
module

public import proofs.«01_k».proof.Defs
public import proofs.«01_k».proof.Proof.MatOut0Val
public import proofs.«01_k».proof.Proof.Gen.MatOut0.Frame
public import proofs.«01_k».proof.Proof.Gen.MatOut0RefIdeal.Run
public import Idealize.ShloMosaic.Lib.Pointwise
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.MatOut0RefIdeal.Mat

open Cert.MatOut0RefIdeal Cert.MatOut0RefIdeal.Gen
open Cert.MatOut0Ideal.Mat (project)

/-- The reference's term. -/
def value (X : FVec Ideal S8192x2048 .bf16) (W : FVec Ideal S4x2048x2048 .f32) : FVec Ideal S8192x2048 .f32 :=
  Host.dotGeneral (F := Ideal) (φ₁ := .f32) (φ₂ := .f32) dot_S8192x2048_S2048x2048_S8192x2048_1_0_0_1_n_n none (extf .f32 X bitsLt_bf16_f32)
    (shapeCast _ (extractStridedSlice S1x2048x2048 ![0, 0, 0] W slices_S4x2048x2048_S1x2048x2048_0_0_0) shapeCasts_S1x2048x2048_S2048x2048)

theorem value_at (X : FVec Ideal S8192x2048 .bf16) (W : FVec Ideal S4x2048x2048 .f32) (r : Fin 8192) (f : Fin 2048) :
    value X W (ix2 r f) = project X W r f := by
  unfold project
  pointwise [value]

theorem value_eq (X : FVec Ideal S8192x2048 .bf16) (W : FVec Ideal S4x2048x2048 .f32) :
    value X W = fun u : S8192x2048.Idx => project X W (u 0) (u 1) := by
  funext u
  have eu : u = ix2 (u 0) (u 1) := funext fun a => Fin.ext (by match a with | ⟨0, _⟩ => rfl | ⟨1, _⟩ => rfl)
  exact (congrArg (value X W) eu).trans (value_at X W (u 0) (u 1))

end Cert.MatOut0RefIdeal.Mat

namespace Cert.Proof.MatOut0Claims

theorem frame_p : Cert.quiescent_MatOut0 := fun m ρ _ => MatOut0.Gen.frame m ρ
theorem frame_pi : Cert.quiescent_MatOut0Ideal := fun m ρ _ => MatOut0Ideal.Gen.frame m ρ
theorem frame_ri : Cert.quiescent_MatOut0RefIdeal := fun m ρ _ =>
  (θ_run Cert.MatOut0RefIdeal.defs _ _).mono (fun r h => ⟨fun c => (h c).2, sem_eq_zero_of_no_sems (by decide) r.2⟩)
    (Cert.MatOut0RefIdeal.Value.run (F := Ideal) m ρ)

theorem preserves : Cert.preserves_MatOut0_MatOut0Ideal := trivial

/-- The kernel and the reference end with the same projection. -/
theorem algebraic : Cert.algebraic_MatOut0Ideal_MatOut0RefIdeal := by
  intro m g m' g' pre same
  refine ⟨fun c => (MatOut0Ideal.Gen.dats m 0 c).arrAt 2 MatOut0Ideal.cfg0.N, MatOut0Ideal.Value.run_blocks m g, ?_⟩
  refine (θ_run MatOut0RefIdeal.defs _ _).mono (fun r h c => ⟨(h c).1.trans ?_, (h c).2⟩) (MatOut0RefIdeal.Value.run (F := Ideal) m' g')
  obtain ⟨a0, a1⟩ := same c
  rw [a0, a1]
  exact (MatOut0RefIdeal.Mat.value_eq _ _).trans (MatOut0Ideal.Mat.result m c).symm

end Cert.Proof.MatOut0Claims

end
-- ==== Proof.MatOut1Val.lean ====
/- The projection's result array, entry by entry: a block of columns is multiplied by the copy of its weights that the
   first of its points made. -/
module

public import proofs.«01_k».proof.Proof.Gen.MatOut1Ideal.Value
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.Tactic Idealize.SL.Sem

namespace Cert.MatOut1Ideal.Mat

open Cert.MatOut1Ideal Cert.MatOut1Ideal.Gen
open Idealize.ShloMosaic.Pipeline (Dat Cfg Window)

theorem off2 : (![0, 0] : Fin 2 → Nat) = fun _ => 0 := funext fun a => by fin_cases a <;> rfl
theorem off3 : (![0, 0, 0] : Fin 3 → Nat) = fun _ => 0 := funext fun a => by fin_cases a <;> rfl

/-- Row `r`, column `f` of the projection by the layer's matrix. -/
def project (X : S8192x2048.Idx → EReal) (W : S4x2048x2048.Idx → EReal) (r : Fin 8192) (f : Fin 2048) : EReal :=
  ∑ k : Fin 2048, X (ix2 r k) * W (ix3 1 k ⟨f.val, by omega⟩)

section Body
variable (c : Dev nD) (i : grid0.Coords) (a2 : Memref sig .tc .vmem S1024x2048 .bf16) (h2 : a2.IsWhole)
  (a3 : Memref sig .tc .vmem S1x2048x512 .f32) (h3 : a3.IsWhole) (a4 : Memref sig .tc .vmem S1024x512 .f32) (h4 : a4.IsWhole)
  (a5 : Memref sig .tc .vmem S2048x512 .bf16) (h5 : a5.IsWhole)
  (x0 : Vec Ideal S1024x2048 .bf16) (x1 : Vec Ideal S1x2048x512 .f32) (xs : Vec Ideal S2048x512 .bf16)

/-- The first point of a block of columns leaves the copy of the weights in the scratch. -/
theorem scratchA (hc : cond0_0 i) : sout0_A_0 (F := Ideal) c i a2 h2 a3 h3 a4 h4 a5 h5 hc x0 x1 = k0_pay1 (F := Ideal) x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero (S := S2048x512) off2]
  rw [View.readAt_eq_ld, h3.read_unread, View.ld_unit_zero (S := S1x2048x512) off3]

theorem outA (hc : cond0_0 i) :
    out0_A_2 (F := Ideal) c i a2 h2 a3 h3 a4 h4 a5 h5 hc x0 x1 = k0_pay2 (F := Ideal) x0 (k0_pay1 (F := Ideal) x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero (S := S1024x512) off2]
  rw [View.readCov_unit_zero (S := S2048x512) _ off2, View.readAt_eq_ld, View.readAt_eq_ld, h2.read_unread, h3.read_unread,
    View.ld_unit_zero (S := S1024x2048) off2, View.ld_unit_zero (S := S1x2048x512) off3]

theorem outB (hc : ¬cond0_0 i) :
    out0_B_2 (F := Ideal) c i a2 h2 a3 h3 a4 h4 a5 h5 hc x0 x1 xs = k0_pay2 (F := Ideal) x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero (S := S1024x512) off2]
  rw [View.readAt_eq_ld, View.readAt_eq_ld, h2.read_unread, h5.read_unread, View.ld_unit_zero (S := S1024x2048) off2,
    View.ld_unit_zero (S := S2048x512) off2]

end Body

theorem copied_at (x1 : Vec Ideal S1x2048x512 .f32) (k : Fin 2048) (d : Fin 512) :
    k0_pay1 (F := Ideal) x1 (ix2 k d) = x1 (ix3 0 k d) := by
  pointwise [k0_pay1]

theorem product_at (x0 : Vec Ideal S1024x2048 .bf16) (w : Vec Ideal S2048x512 .bf16) (r : Fin 1024) (d : Fin 512) :
    k0_pay2 (F := Ideal) x0 w (ix2 r d) = ∑ k : Fin 2048, x0 (ix2 r k) * w (ix2 k d) := by
  pointwise [k0_pay2]

variable (m : (ℓ : Loc nD τ sig) → Buf (Elt Ideal) ℓ)

/-- The rows and the layers' matrices. -/
def argX (c : Dev nD) : S8192x2048.Idx → EReal := m ((c : Thread nD τ).loc main_arg0)
def argW (c : Dev nD) : S4x2048x2048.Idx → EReal := m ((c : Thread nD τ).loc main_arg1)

/-- A point's block of rows. -/
theorem rows_at (c : Dev nD) (t : Fin cfg0.N) (r : Fin 1024) (k : Fin 2048) (e : Fin 8192) (he : e.val = 1024 * (grid0.coords t 1).val + r.val) :
    iblk m c 0 t (ix2 r k : S1024x2048.Idx) = argX m c (ix2 e k) := by
  unfold iblk
  rw [View.read_apply]
  refine congrArg (α := S8192x2048.Idx) (β := EReal) (fun u => m ((c : Thread nD τ).loc main_arg0) u) (funext fun a => Fin.ext ?_)
  have h1 : (grid0.coords t 1).val < 8 := (grid0.coords t 1).isLt
  match a with
  | ⟨0, _⟩ =>
    show (BitVec.ofNat 32 (grid0.coords t 1).val).toNat * 1024 + 1 * r.val = e.val
    rw [BitVec.toNat_ofNat]; omega
  | ⟨1, _⟩ =>
    show 0 * 2048 + 1 * k.val = k.val
    omega

/-- A point's block of weights is a column block of the layer's matrix. -/
theorem weights_at (c : Dev nD) (t : Fin cfg0.N) (k : Fin 2048) (d : Fin 512) (e : Fin 2048) (he : e.val = 512 * (grid0.coords t 0).val + d.val) :
    iblk m c 1 t (ix3 0 k d : S1x2048x512.Idx) = argW m c (ix3 1 k e) := by
  unfold iblk
  rw [View.read_apply]
  refine congrArg (α := S4x2048x2048.Idx) (β := EReal) (fun u => m ((c : Thread nD τ).loc main_arg1) u) (funext fun a => Fin.ext ?_)
  have h0 : (grid0.coords t 0).val < 4 := (grid0.coords t 0).isLt
  match a with
  | ⟨0, _⟩ =>
    show 1 * 1 + 1 * 0 = 1
    omega
  | ⟨1, _⟩ =>
    show 0 * 2048 + 1 * k.val = k.val
    omega
  | ⟨2, _⟩ =>
    show (0#32 + BitVec.ofNat 32 (grid0.coords t 0).val).toNat * 512 + 1 * d.val = e.val
    rw [BitVec.zero_add, BitVec.toNat_ofNat]; omega

/-- A point that is not the first of its block of columns has the same block of columns as the point before. -/
theorem same_column : ∀ t : Fin grid0.N, ¬t.val % 8 = 0 →
    (grid0.coords ⟨t.val - 1, Nat.lt_of_le_of_lt (Nat.sub_le _ _) t.isLt⟩ 0).val = (grid0.coords t 0).val := by
  decide +kernel

/-- After every point the scratch holds the point's column block of the layer's matrix. -/
theorem held (c : Dev nD) (n : ℕ) : ∀ (t : Fin cfg0.N), t.val = n → ∀ (k : Fin 2048) (d : Fin 512) (e : Fin 2048),
    e.val = 512 * (grid0.coords t 0).val + d.val →
    (outsAt0 m c t.val t.isLt).2 (ix2 k d : S2048x512.Idx) = argW m c (ix3 1 k e) := by
  induction n with
  | zero =>
    intro t ht k d e he
    rw [outsAt0_A m c t (by rw [ht])]
    dsimp only
    rw [scratchA]
    exact (copied_at _ k d).trans (weights_at m c t k d e he)
  | succ n ih =>
    intro t ht k d e he
    by_cases h : t.val % 8 = 0
    · rw [outsAt0_A m c t h]
      dsimp only
      rw [scratchA]
      exact (copied_at _ k d).trans (weights_at m c t k d e he)
    · rw [outsAt0_B m c t h]
      dsimp only
      unfold sout0_B_0
      exact ih ⟨t.val - 1, Nat.lt_of_le_of_lt (Nat.sub_le _ _) t.isLt⟩ (by show t.val - 1 = n; omega) k d e (by
        rw [he]; exact congrArg (fun v => 512 * v + d.val) (same_column t h).symm)

/-- What one point leaves at row `r` and column `d` of its block. -/
theorem point (c : Dev nD) (t : Fin cfg0.N) (r : Fin 1024) (d : Fin 512) (e : Fin 8192) (f : Fin 2048)
    (he : e.val = 1024 * (grid0.coords t 1).val + r.val) (hf : f.val = 512 * (grid0.coords t 0).val + d.val) :
    (outsAt0 m c t.val t.isLt).1 (ix2 r d : S1024x512.Idx) = project (argX m c) (argW m c) e f := by
  unfold project
  by_cases h : t.val % 8 = 0
  · rw [outsAt0_A m c t h]
    dsimp only
    rw [outA]
    refine (product_at _ _ r d).trans (Finset.sum_congr rfl fun k _ => ?_)
    rw [copied_at, weights_at m c t k d ⟨f.val, by omega⟩ hf, rows_at m c t r k e he]
  · rw [outsAt0_B m c t h]
    dsimp only
    rw [outB]
    refine (product_at _ _ r d).trans (Finset.sum_congr rfl fun k _ => ?_)
    rw [rows_at m c t r k e he]
    refine congrArg (fun v : EReal => argX m c (ix2 e k) * v) ?_
    exact held m c (t.val - 1) ⟨t.val - 1, Nat.lt_of_le_of_lt (Nat.sub_le _ _) t.isLt⟩ rfl k d ⟨f.val, by omega⟩ (by
      show f.val = _
      rw [hf]; exact congrArg (fun v => 512 * v + d.val) (same_column t h).symm)

/-- The point of row block `i` and column block `j`. -/
theorem point_of : ∀ (i : Fin 8) (j : Fin 4), ∃ t : Fin grid0.N, (grid0.coords t 1).val = i.val ∧ (grid0.coords t 0).val = j.val := by
  decide +kernel

/-- The result array. -/
theorem result (c : Dev nD) :
    (dats m 0 c).arrAt 2 cfg0.N = fun u : S8192x2048.Idx => project (argX m c) (argW m c) (u 0) (u 1) := by
  refine (dats m 0 c).arrAt_eq_of_emb 2 _ (fun t hf y => ?_) ?_
  · have h0 : (grid0.coords t 0).val < 4 := (grid0.coords t 0).isLt
    have h1 : (grid0.coords t 1).val < 8 := (grid0.coords t 1).isLt
    have ly0 : (y 0).val < 1024 := (y 0).isLt
    have ly1 : (y 1).val < 512 := (y 1).isLt
    have e : ((cfg0.win 2).blk t).view.emb y
        = (ix2 (⟨1024 * (grid0.coords t 1).val + (y 0).val, by omega⟩ : Fin 8192) (⟨512 * (grid0.coords t 0).val + (y 1).val, by omega⟩ : Fin 2048) : S8192x2048.Idx) := by
      funext a
      refine Fin.ext ?_
      match a with
      | ⟨0, _⟩ =>
        show (BitVec.ofNat 32 (grid0.coords t 1).val).toNat * 1024 + 1 * (y 0).val = 1024 * (grid0.coords t 1).val + (y 0).val
        rw [BitVec.toNat_ofNat]; omega
      | ⟨1, _⟩ =>
        show (BitVec.ofNat 32 (grid0.coords t 0).val).toNat * 512 + 1 * (y 1).val = 512 * (grid0.coords t 0).val + (y 1).val
        rw [BitVec.toNat_ofNat]; omega
    have ey : (cfg0.win 2).xinj (cfg0.grid.coords t) y = (ix2 ⟨(y 0).val, ly0⟩ ⟨(y 1).val, ly1⟩ : S1024x512.Idx) := by
      funext a
      refine Fin.ext ?_
      match a with
      | ⟨0, _⟩ => rfl
      | ⟨1, _⟩ => rfl
    rw [e, ey, after0_2, cast_eq]
    exact point m c t _ _ _ _ rfl rfl
  · intro u
    have l0 : (u 0).val < 8192 := (u 0).isLt
    have l1 : (u 1).val < 2048 := (u 1).isLt
    obtain ⟨t, ht1, ht0⟩ := point_of ⟨(u 0).val / 1024, by omega⟩ ⟨(u 1).val / 512, by omega⟩
    refine ⟨t, flush0_2 t, ?_⟩
    have e : ((cfg0.win 2).blk t).view.emb (ix2 ⟨(u 0).val % 1024, by omega⟩ ⟨(u 1).val % 512, by omega⟩ : S1024x512.Idx) = u := by
      funext a
      refine Fin.ext ?_
      match a with
      | ⟨0, _⟩ =>
        show (BitVec.ofNat 32 (grid0.coords t 1).val).toNat * 1024 + 1 * ((u 0).val % 1024) = (u 0).val
        rw [ht1, BitVec.toNat_ofNat]
        show (u 0).val / 1024 % 2 ^ 32 * 1024 + 1 * ((u 0).val % 1024) = (u 0).val
        omega
      | ⟨1, _⟩ =>
        show (BitVec.ofNat 32 (grid0.coords t 0).val).toNat * 512 + 1 * ((u 1).val % 512) = (u 1).val
        rw [ht0, BitVec.toNat_ofNat]
        show (u 1).val / 512 % 2 ^ 32 * 512 + 1 * ((u 1).val % 512) = (u 1).val
        omega
    rw [← e]
    exact View.emb_mem_set _ _

end Cert.MatOut1Ideal.Mat

end
-- ==== Proof.MatOut1Claims.lean ====
/- The claims about the projection. -/
module

public import proofs.«01_k».proof.Defs
public import proofs.«01_k».proof.Proof.MatOut1Val
public import proofs.«01_k».proof.Proof.Gen.MatOut1.Frame
public import proofs.«01_k».proof.Proof.Gen.MatOut1RefIdeal.Run
public import Idealize.ShloMosaic.Lib.Pointwise
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.MatOut1RefIdeal.Mat

open Cert.MatOut1RefIdeal Cert.MatOut1RefIdeal.Gen
open Cert.MatOut1Ideal.Mat (project)

/-- The reference's term. -/
def value (X : FVec Ideal S8192x2048 .bf16) (W : FVec Ideal S4x2048x2048 .f32) : FVec Ideal S8192x2048 .f32 :=
  Host.dotGeneral (F := Ideal) (φ₁ := .f32) (φ₂ := .f32) dot_S8192x2048_S2048x2048_S8192x2048_1_0_0_1_n_n none (extf .f32 X bitsLt_bf16_f32)
    (shapeCast _ (extractStridedSlice S1x2048x2048 ![1, 0, 0] W slices_S4x2048x2048_S1x2048x2048_1_0_0) shapeCasts_S1x2048x2048_S2048x2048)

theorem value_at (X : FVec Ideal S8192x2048 .bf16) (W : FVec Ideal S4x2048x2048 .f32) (r : Fin 8192) (f : Fin 2048) :
    value X W (ix2 r f) = project X W r f := by
  unfold project
  pointwise [value]

theorem value_eq (X : FVec Ideal S8192x2048 .bf16) (W : FVec Ideal S4x2048x2048 .f32) :
    value X W = fun u : S8192x2048.Idx => project X W (u 0) (u 1) := by
  funext u
  have eu : u = ix2 (u 0) (u 1) := funext fun a => Fin.ext (by match a with | ⟨0, _⟩ => rfl | ⟨1, _⟩ => rfl)
  exact (congrArg (value X W) eu).trans (value_at X W (u 0) (u 1))

end Cert.MatOut1RefIdeal.Mat

namespace Cert.Proof.MatOut1Claims

theorem frame_p : Cert.quiescent_MatOut1 := fun m ρ _ => MatOut1.Gen.frame m ρ
theorem frame_pi : Cert.quiescent_MatOut1Ideal := fun m ρ _ => MatOut1Ideal.Gen.frame m ρ
theorem frame_ri : Cert.quiescent_MatOut1RefIdeal := fun m ρ _ =>
  (θ_run Cert.MatOut1RefIdeal.defs _ _).mono (fun r h => ⟨fun c => (h c).2, sem_eq_zero_of_no_sems (by decide) r.2⟩)
    (Cert.MatOut1RefIdeal.Value.run (F := Ideal) m ρ)

theorem preserves : Cert.preserves_MatOut1_MatOut1Ideal := trivial

/-- The kernel and the reference end with the same projection. -/
theorem algebraic : Cert.algebraic_MatOut1Ideal_MatOut1RefIdeal := by
  intro m g m' g' pre same
  refine ⟨fun c => (MatOut1Ideal.Gen.dats m 0 c).arrAt 2 MatOut1Ideal.cfg0.N, MatOut1Ideal.Value.run_blocks m g, ?_⟩
  refine (θ_run MatOut1RefIdeal.defs _ _).mono (fun r h c => ⟨(h c).1.trans ?_, (h c).2⟩) (MatOut1RefIdeal.Value.run (F := Ideal) m' g')
  obtain ⟨a0, a1⟩ := same c
  rw [a0, a1]
  exact (MatOut1RefIdeal.Mat.value_eq _ _).trans (MatOut1Ideal.Mat.result m c).symm

end Cert.Proof.MatOut1Claims

end
-- ==== Proof.MatOut2Val.lean ====
/- The projection's result array, entry by entry: a block of columns is multiplied by the copy of its weights that the
   first of its points made. -/
module

public import proofs.«01_k».proof.Proof.Gen.MatOut2Ideal.Value
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.Tactic Idealize.SL.Sem

namespace Cert.MatOut2Ideal.Mat

open Cert.MatOut2Ideal Cert.MatOut2Ideal.Gen
open Idealize.ShloMosaic.Pipeline (Dat Cfg Window)

theorem off2 : (![0, 0] : Fin 2 → Nat) = fun _ => 0 := funext fun a => by fin_cases a <;> rfl
theorem off3 : (![0, 0, 0] : Fin 3 → Nat) = fun _ => 0 := funext fun a => by fin_cases a <;> rfl

/-- Row `r`, column `f` of the projection by the layer's matrix. -/
def project (X : S8192x2048.Idx → EReal) (W : S4x2048x2048.Idx → EReal) (r : Fin 8192) (f : Fin 2048) : EReal :=
  ∑ k : Fin 2048, X (ix2 r k) * W (ix3 2 k ⟨f.val, by omega⟩)

section Body
variable (c : Dev nD) (i : grid0.Coords) (a2 : Memref sig .tc .vmem S1024x2048 .bf16) (h2 : a2.IsWhole)
  (a3 : Memref sig .tc .vmem S1x2048x512 .f32) (h3 : a3.IsWhole) (a4 : Memref sig .tc .vmem S1024x512 .f32) (h4 : a4.IsWhole)
  (a5 : Memref sig .tc .vmem S2048x512 .bf16) (h5 : a5.IsWhole)
  (x0 : Vec Ideal S1024x2048 .bf16) (x1 : Vec Ideal S1x2048x512 .f32) (xs : Vec Ideal S2048x512 .bf16)

/-- The first point of a block of columns leaves the copy of the weights in the scratch. -/
theorem scratchA (hc : cond0_0 i) : sout0_A_0 (F := Ideal) c i a2 h2 a3 h3 a4 h4 a5 h5 hc x0 x1 = k0_pay1 (F := Ideal) x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero (S := S2048x512) off2]
  rw [View.readAt_eq_ld, h3.read_unread, View.ld_unit_zero (S := S1x2048x512) off3]

theorem outA (hc : cond0_0 i) :
    out0_A_2 (F := Ideal) c i a2 h2 a3 h3 a4 h4 a5 h5 hc x0 x1 = k0_pay2 (F := Ideal) x0 (k0_pay1 (F := Ideal) x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero (S := S1024x512) off2]
  rw [View.readCov_unit_zero (S := S2048x512) _ off2, View.readAt_eq_ld, View.readAt_eq_ld, h2.read_unread, h3.read_unread,
    View.ld_unit_zero (S := S1024x2048) off2, View.ld_unit_zero (S := S1x2048x512) off3]

theorem outB (hc : ¬cond0_0 i) :
    out0_B_2 (F := Ideal) c i a2 h2 a3 h3 a4 h4 a5 h5 hc x0 x1 xs = k0_pay2 (F := Ideal) x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero (S := S1024x512) off2]
  rw [View.readAt_eq_ld, View.readAt_eq_ld, h2.read_unread, h5.read_unread, View.ld_unit_zero (S := S1024x2048) off2,
    View.ld_unit_zero (S := S2048x512) off2]

end Body

theorem copied_at (x1 : Vec Ideal S1x2048x512 .f32) (k : Fin 2048) (d : Fin 512) :
    k0_pay1 (F := Ideal) x1 (ix2 k d) = x1 (ix3 0 k d) := by
  pointwise [k0_pay1]

theorem product_at (x0 : Vec Ideal S1024x2048 .bf16) (w : Vec Ideal S2048x512 .bf16) (r : Fin 1024) (d : Fin 512) :
    k0_pay2 (F := Ideal) x0 w (ix2 r d) = ∑ k : Fin 2048, x0 (ix2 r k) * w (ix2 k d) := by
  pointwise [k0_pay2]

variable (m : (ℓ : Loc nD τ sig) → Buf (Elt Ideal) ℓ)

/-- The rows and the layers' matrices. -/
def argX (c : Dev nD) : S8192x2048.Idx → EReal := m ((c : Thread nD τ).loc main_arg0)
def argW (c : Dev nD) : S4x2048x2048.Idx → EReal := m ((c : Thread nD τ).loc main_arg1)

/-- A point's block of rows. -/
theorem rows_at (c : Dev nD) (t : Fin cfg0.N) (r : Fin 1024) (k : Fin 2048) (e : Fin 8192) (he : e.val = 1024 * (grid0.coords t 1).val + r.val) :
    iblk m c 0 t (ix2 r k : S1024x2048.Idx) = argX m c (ix2 e k) := by
  unfold iblk
  rw [View.read_apply]
  refine congrArg (α := S8192x2048.Idx) (β := EReal) (fun u => m ((c : Thread nD τ).loc main_arg0) u) (funext fun a => Fin.ext ?_)
  have h1 : (grid0.coords t 1).val < 8 := (grid0.coords t 1).isLt
  match a with
  | ⟨0, _⟩ =>
    show (BitVec.ofNat 32 (grid0.coords t 1).val).toNat * 1024 + 1 * r.val = e.val
    rw [BitVec.toNat_ofNat]; omega
  | ⟨1, _⟩ =>
    show 0 * 2048 + 1 * k.val = k.val
    omega

/-- A point's block of weights is a column block of the layer's matrix. -/
theorem weights_at (c : Dev nD) (t : Fin cfg0.N) (k : Fin 2048) (d : Fin 512) (e : Fin 2048) (he : e.val = 512 * (grid0.coords t 0).val + d.val) :
    iblk m c 1 t (ix3 0 k d : S1x2048x512.Idx) = argW m c (ix3 2 k e) := by
  unfold iblk
  rw [View.read_apply]
  refine congrArg (α := S4x2048x2048.Idx) (β := EReal) (fun u => m ((c : Thread nD τ).loc main_arg1) u) (funext fun a => Fin.ext ?_)
  have h0 : (grid0.coords t 0).val < 4 := (grid0.coords t 0).isLt
  match a with
  | ⟨0, _⟩ =>
    show 2 * 1 + 1 * 0 = 2
    omega
  | ⟨1, _⟩ =>
    show 0 * 2048 + 1 * k.val = k.val
    omega
  | ⟨2, _⟩ =>
    show (0#32 + BitVec.ofNat 32 (grid0.coords t 0).val).toNat * 512 + 1 * d.val = e.val
    rw [BitVec.zero_add, BitVec.toNat_ofNat]; omega

/-- A point that is not the first of its block of columns has the same block of columns as the point before. -/
theorem same_column : ∀ t : Fin grid0.N, ¬t.val % 8 = 0 →
    (grid0.coords ⟨t.val - 1, Nat.lt_of_le_of_lt (Nat.sub_le _ _) t.isLt⟩ 0).val = (grid0.coords t 0).val := by
  decide +kernel

/-- After every point the scratch holds the point's column block of the layer's matrix. -/
theorem held (c : Dev nD) (n : ℕ) : ∀ (t : Fin cfg0.N), t.val = n → ∀ (k : Fin 2048) (d : Fin 512) (e : Fin 2048),
    e.val = 512 * (grid0.coords t 0).val + d.val →
    (outsAt0 m c t.val t.isLt).2 (ix2 k d : S2048x512.Idx) = argW m c (ix3 2 k e) := by
  induction n with
  | zero =>
    intro t ht k d e he
    rw [outsAt0_A m c t (by rw [ht])]
    dsimp only
    rw [scratchA]
    exact (copied_at _ k d).trans (weights_at m c t k d e he)
  | succ n ih =>
    intro t ht k d e he
    by_cases h : t.val % 8 = 0
    · rw [outsAt0_A m c t h]
      dsimp only
      rw [scratchA]
      exact (copied_at _ k d).trans (weights_at m c t k d e he)
    · rw [outsAt0_B m c t h]
      dsimp only
      unfold sout0_B_0
      exact ih ⟨t.val - 1, Nat.lt_of_le_of_lt (Nat.sub_le _ _) t.isLt⟩ (by show t.val - 1 = n; omega) k d e (by
        rw [he]; exact congrArg (fun v => 512 * v + d.val) (same_column t h).symm)

/-- What one point leaves at row `r` and column `d` of its block. -/
theorem point (c : Dev nD) (t : Fin cfg0.N) (r : Fin 1024) (d : Fin 512) (e : Fin 8192) (f : Fin 2048)
    (he : e.val = 1024 * (grid0.coords t 1).val + r.val) (hf : f.val = 512 * (grid0.coords t 0).val + d.val) :
    (outsAt0 m c t.val t.isLt).1 (ix2 r d : S1024x512.Idx) = project (argX m c) (argW m c) e f := by
  unfold project
  by_cases h : t.val % 8 = 0
  · rw [outsAt0_A m c t h]
    dsimp only
    rw [outA]
    refine (product_at _ _ r d).trans (Finset.sum_congr rfl fun k _ => ?_)
    rw [copied_at, weights_at m c t k d ⟨f.val, by omega⟩ hf, rows_at m c t r k e he]
  · rw [outsAt0_B m c t h]
    dsimp only
    rw [outB]
    refine (product_at _ _ r d).trans (Finset.sum_congr rfl fun k _ => ?_)
    rw [rows_at m c t r k e he]
    refine congrArg (fun v : EReal => argX m c (ix2 e k) * v) ?_
    exact held m c (t.val - 1) ⟨t.val - 1, Nat.lt_of_le_of_lt (Nat.sub_le _ _) t.isLt⟩ rfl k d ⟨f.val, by omega⟩ (by
      show f.val = _
      rw [hf]; exact congrArg (fun v => 512 * v + d.val) (same_column t h).symm)

/-- The point of row block `i` and column block `j`. -/
theorem point_of : ∀ (i : Fin 8) (j : Fin 4), ∃ t : Fin grid0.N, (grid0.coords t 1).val = i.val ∧ (grid0.coords t 0).val = j.val := by
  decide +kernel

/-- The result array. -/
theorem result (c : Dev nD) :
    (dats m 0 c).arrAt 2 cfg0.N = fun u : S8192x2048.Idx => project (argX m c) (argW m c) (u 0) (u 1) := by
  refine (dats m 0 c).arrAt_eq_of_emb 2 _ (fun t hf y => ?_) ?_
  · have h0 : (grid0.coords t 0).val < 4 := (grid0.coords t 0).isLt
    have h1 : (grid0.coords t 1).val < 8 := (grid0.coords t 1).isLt
    have ly0 : (y 0).val < 1024 := (y 0).isLt
    have ly1 : (y 1).val < 512 := (y 1).isLt
    have e : ((cfg0.win 2).blk t).view.emb y
        = (ix2 (⟨1024 * (grid0.coords t 1).val + (y 0).val, by omega⟩ : Fin 8192) (⟨512 * (grid0.coords t 0).val + (y 1).val, by omega⟩ : Fin 2048) : S8192x2048.Idx) := by
      funext a
      refine Fin.ext ?_
      match a with
      | ⟨0, _⟩ =>
        show (BitVec.ofNat 32 (grid0.coords t 1).val).toNat * 1024 + 1 * (y 0).val = 1024 * (grid0.coords t 1).val + (y 0).val
        rw [BitVec.toNat_ofNat]; omega
      | ⟨1, _⟩ =>
        show (BitVec.ofNat 32 (grid0.coords t 0).val).toNat * 512 + 1 * (y 1).val = 512 * (grid0.coords t 0).val + (y 1).val
        rw [BitVec.toNat_ofNat]; omega
    have ey : (cfg0.win 2).xinj (cfg0.grid.coords t) y = (ix2 ⟨(y 0).val, ly0⟩ ⟨(y 1).val, ly1⟩ : S1024x512.Idx) := by
      funext a
      refine Fin.ext ?_
      match a with
      | ⟨0, _⟩ => rfl
      | ⟨1, _⟩ => rfl
    rw [e, ey, after0_2, cast_eq]
    exact point m c t _ _ _ _ rfl rfl
  · intro u
    have l0 : (u 0).val < 8192 := (u 0).isLt
    have l1 : (u 1).val < 2048 := (u 1).isLt
    obtain ⟨t, ht1, ht0⟩ := point_of ⟨(u 0).val / 1024, by omega⟩ ⟨(u 1).val / 512, by omega⟩
    refine ⟨t, flush0_2 t, ?_⟩
    have e : ((cfg0.win 2).blk t).view.emb (ix2 ⟨(u 0).val % 1024, by omega⟩ ⟨(u 1).val % 512, by omega⟩ : S1024x512.Idx) = u := by
      funext a
      refine Fin.ext ?_
      match a with
      | ⟨0, _⟩ =>
        show (BitVec.ofNat 32 (grid0.coords t 1).val).toNat * 1024 + 1 * ((u 0).val % 1024) = (u 0).val
        rw [ht1, BitVec.toNat_ofNat]
        show (u 0).val / 1024 % 2 ^ 32 * 1024 + 1 * ((u 0).val % 1024) = (u 0).val
        omega
      | ⟨1, _⟩ =>
        show (BitVec.ofNat 32 (grid0.coords t 0).val).toNat * 512 + 1 * ((u 1).val % 512) = (u 1).val
        rw [ht0, BitVec.toNat_ofNat]
        show (u 1).val / 512 % 2 ^ 32 * 512 + 1 * ((u 1).val % 512) = (u 1).val
        omega
    rw [← e]
    exact View.emb_mem_set _ _

end Cert.MatOut2Ideal.Mat

end
-- ==== Proof.MatOut2Claims.lean ====
/- The claims about the projection. -/
module

public import proofs.«01_k».proof.Defs
public import proofs.«01_k».proof.Proof.MatOut2Val
public import proofs.«01_k».proof.Proof.Gen.MatOut2.Frame
public import proofs.«01_k».proof.Proof.Gen.MatOut2RefIdeal.Run
public import Idealize.ShloMosaic.Lib.Pointwise
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.MatOut2RefIdeal.Mat

open Cert.MatOut2RefIdeal Cert.MatOut2RefIdeal.Gen
open Cert.MatOut2Ideal.Mat (project)

/-- The reference's term. -/
def value (X : FVec Ideal S8192x2048 .bf16) (W : FVec Ideal S4x2048x2048 .f32) : FVec Ideal S8192x2048 .f32 :=
  Host.dotGeneral (F := Ideal) (φ₁ := .f32) (φ₂ := .f32) dot_S8192x2048_S2048x2048_S8192x2048_1_0_0_1_n_n none (extf .f32 X bitsLt_bf16_f32)
    (shapeCast _ (extractStridedSlice S1x2048x2048 ![2, 0, 0] W slices_S4x2048x2048_S1x2048x2048_2_0_0) shapeCasts_S1x2048x2048_S2048x2048)

theorem value_at (X : FVec Ideal S8192x2048 .bf16) (W : FVec Ideal S4x2048x2048 .f32) (r : Fin 8192) (f : Fin 2048) :
    value X W (ix2 r f) = project X W r f := by
  unfold project
  pointwise [value]

theorem value_eq (X : FVec Ideal S8192x2048 .bf16) (W : FVec Ideal S4x2048x2048 .f32) :
    value X W = fun u : S8192x2048.Idx => project X W (u 0) (u 1) := by
  funext u
  have eu : u = ix2 (u 0) (u 1) := funext fun a => Fin.ext (by match a with | ⟨0, _⟩ => rfl | ⟨1, _⟩ => rfl)
  exact (congrArg (value X W) eu).trans (value_at X W (u 0) (u 1))

end Cert.MatOut2RefIdeal.Mat

namespace Cert.Proof.MatOut2Claims

theorem frame_p : Cert.quiescent_MatOut2 := fun m ρ _ => MatOut2.Gen.frame m ρ
theorem frame_pi : Cert.quiescent_MatOut2Ideal := fun m ρ _ => MatOut2Ideal.Gen.frame m ρ
theorem frame_ri : Cert.quiescent_MatOut2RefIdeal := fun m ρ _ =>
  (θ_run Cert.MatOut2RefIdeal.defs _ _).mono (fun r h => ⟨fun c => (h c).2, sem_eq_zero_of_no_sems (by decide) r.2⟩)
    (Cert.MatOut2RefIdeal.Value.run (F := Ideal) m ρ)

theorem preserves : Cert.preserves_MatOut2_MatOut2Ideal := trivial

/-- The kernel and the reference end with the same projection. -/
theorem algebraic : Cert.algebraic_MatOut2Ideal_MatOut2RefIdeal := by
  intro m g m' g' pre same
  refine ⟨fun c => (MatOut2Ideal.Gen.dats m 0 c).arrAt 2 MatOut2Ideal.cfg0.N, MatOut2Ideal.Value.run_blocks m g, ?_⟩
  refine (θ_run MatOut2RefIdeal.defs _ _).mono (fun r h c => ⟨(h c).1.trans ?_, (h c).2⟩) (MatOut2RefIdeal.Value.run (F := Ideal) m' g')
  obtain ⟨a0, a1⟩ := same c
  rw [a0, a1]
  exact (MatOut2RefIdeal.Mat.value_eq _ _).trans (MatOut2Ideal.Mat.result m c).symm

end Cert.Proof.MatOut2Claims

end
-- ==== Proof.MatOut3Val.lean ====
/- The projection's result array, entry by entry: a block of columns is multiplied by the copy of its weights that the
   first of its points made. -/
module

public import proofs.«01_k».proof.Proof.Gen.MatOut3Ideal.Value
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.Tactic Idealize.SL.Sem

namespace Cert.MatOut3Ideal.Mat

open Cert.MatOut3Ideal Cert.MatOut3Ideal.Gen
open Idealize.ShloMosaic.Pipeline (Dat Cfg Window)

theorem off2 : (![0, 0] : Fin 2 → Nat) = fun _ => 0 := funext fun a => by fin_cases a <;> rfl
theorem off3 : (![0, 0, 0] : Fin 3 → Nat) = fun _ => 0 := funext fun a => by fin_cases a <;> rfl

/-- Row `r`, column `f` of the projection by the layer's matrix. -/
def project (X : S8192x2048.Idx → EReal) (W : S4x2048x2048.Idx → EReal) (r : Fin 8192) (f : Fin 2048) : EReal :=
  ∑ k : Fin 2048, X (ix2 r k) * W (ix3 3 k ⟨f.val, by omega⟩)

section Body
variable (c : Dev nD) (i : grid0.Coords) (a2 : Memref sig .tc .vmem S1024x2048 .bf16) (h2 : a2.IsWhole)
  (a3 : Memref sig .tc .vmem S1x2048x512 .f32) (h3 : a3.IsWhole) (a4 : Memref sig .tc .vmem S1024x512 .f32) (h4 : a4.IsWhole)
  (a5 : Memref sig .tc .vmem S2048x512 .bf16) (h5 : a5.IsWhole)
  (x0 : Vec Ideal S1024x2048 .bf16) (x1 : Vec Ideal S1x2048x512 .f32) (xs : Vec Ideal S2048x512 .bf16)

/-- The first point of a block of columns leaves the copy of the weights in the scratch. -/
theorem scratchA (hc : cond0_0 i) : sout0_A_0 (F := Ideal) c i a2 h2 a3 h3 a4 h4 a5 h5 hc x0 x1 = k0_pay1 (F := Ideal) x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero (S := S2048x512) off2]
  rw [View.readAt_eq_ld, h3.read_unread, View.ld_unit_zero (S := S1x2048x512) off3]

theorem outA (hc : cond0_0 i) :
    out0_A_2 (F := Ideal) c i a2 h2 a3 h3 a4 h4 a5 h5 hc x0 x1 = k0_pay2 (F := Ideal) x0 (k0_pay1 (F := Ideal) x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero (S := S1024x512) off2]
  rw [View.readCov_unit_zero (S := S2048x512) _ off2, View.readAt_eq_ld, View.readAt_eq_ld, h2.read_unread, h3.read_unread,
    View.ld_unit_zero (S := S1024x2048) off2, View.ld_unit_zero (S := S1x2048x512) off3]

theorem outB (hc : ¬cond0_0 i) :
    out0_B_2 (F := Ideal) c i a2 h2 a3 h3 a4 h4 a5 h5 hc x0 x1 xs = k0_pay2 (F := Ideal) x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero (S := S1024x512) off2]
  rw [View.readAt_eq_ld, View.readAt_eq_ld, h2.read_unread, h5.read_unread, View.ld_unit_zero (S := S1024x2048) off2,
    View.ld_unit_zero (S := S2048x512) off2]

end Body

theorem copied_at (x1 : Vec Ideal S1x2048x512 .f32) (k : Fin 2048) (d : Fin 512) :
    k0_pay1 (F := Ideal) x1 (ix2 k d) = x1 (ix3 0 k d) := by
  pointwise [k0_pay1]

theorem product_at (x0 : Vec Ideal S1024x2048 .bf16) (w : Vec Ideal S2048x512 .bf16) (r : Fin 1024) (d : Fin 512) :
    k0_pay2 (F := Ideal) x0 w (ix2 r d) = ∑ k : Fin 2048, x0 (ix2 r k) * w (ix2 k d) := by
  pointwise [k0_pay2]

variable (m : (ℓ : Loc nD τ sig) → Buf (Elt Ideal) ℓ)

/-- The rows and the layers' matrices. -/
def argX (c : Dev nD) : S8192x2048.Idx → EReal := m ((c : Thread nD τ).loc main_arg0)
def argW (c : Dev nD) : S4x2048x2048.Idx → EReal := m ((c : Thread nD τ).loc main_arg1)

/-- A point's block of rows. -/
theorem rows_at (c : Dev nD) (t : Fin cfg0.N) (r : Fin 1024) (k : Fin 2048) (e : Fin 8192) (he : e.val = 1024 * (grid0.coords t 1).val + r.val) :
    iblk m c 0 t (ix2 r k : S1024x2048.Idx) = argX m c (ix2 e k) := by
  unfold iblk
  rw [View.read_apply]
  refine congrArg (α := S8192x2048.Idx) (β := EReal) (fun u => m ((c : Thread nD τ).loc main_arg0) u) (funext fun a => Fin.ext ?_)
  have h1 : (grid0.coords t 1).val < 8 := (grid0.coords t 1).isLt
  match a with
  | ⟨0, _⟩ =>
    show (BitVec.ofNat 32 (grid0.coords t 1).val).toNat * 1024 + 1 * r.val = e.val
    rw [BitVec.toNat_ofNat]; omega
  | ⟨1, _⟩ =>
    show 0 * 2048 + 1 * k.val = k.val
    omega

/-- A point's block of weights is a column block of the layer's matrix. -/
theorem weights_at (c : Dev nD) (t : Fin cfg0.N) (k : Fin 2048) (d : Fin 512) (e : Fin 2048) (he : e.val = 512 * (grid0.coords t 0).val + d.val) :
    iblk m c 1 t (ix3 0 k d : S1x2048x512.Idx) = argW m c (ix3 3 k e) := by
  unfold iblk
  rw [View.read_apply]
  refine congrArg (α := S4x2048x2048.Idx) (β := EReal) (fun u => m ((c : Thread nD τ).loc main_arg1) u) (funext fun a => Fin.ext ?_)
  have h0 : (grid0.coords t 0).val < 4 := (grid0.coords t 0).isLt
  match a with
  | ⟨0, _⟩ =>
    show 3 * 1 + 1 * 0 = 3
    omega
  | ⟨1, _⟩ =>
    show 0 * 2048 + 1 * k.val = k.val
    omega
  | ⟨2, _⟩ =>
    show (0#32 + BitVec.ofNat 32 (grid0.coords t 0).val).toNat * 512 + 1 * d.val = e.val
    rw [BitVec.zero_add, BitVec.toNat_ofNat]; omega

/-- A point that is not the first of its block of columns has the same block of columns as the point before. -/
theorem same_column : ∀ t : Fin grid0.N, ¬t.val % 8 = 0 →
    (grid0.coords ⟨t.val - 1, Nat.lt_of_le_of_lt (Nat.sub_le _ _) t.isLt⟩ 0).val = (grid0.coords t 0).val := by
  decide +kernel

/-- After every point the scratch holds the point's column block of the layer's matrix. -/
theorem held (c : Dev nD) (n : ℕ) : ∀ (t : Fin cfg0.N), t.val = n → ∀ (k : Fin 2048) (d : Fin 512) (e : Fin 2048),
    e.val = 512 * (grid0.coords t 0).val + d.val →
    (outsAt0 m c t.val t.isLt).2 (ix2 k d : S2048x512.Idx) = argW m c (ix3 3 k e) := by
  induction n with
  | zero =>
    intro t ht k d e he
    rw [outsAt0_A m c t (by rw [ht])]
    dsimp only
    rw [scratchA]
    exact (copied_at _ k d).trans (weights_at m c t k d e he)
  | succ n ih =>
    intro t ht k d e he
    by_cases h : t.val % 8 = 0
    · rw [outsAt0_A m c t h]
      dsimp only
      rw [scratchA]
      exact (copied_at _ k d).trans (weights_at m c t k d e he)
    · rw [outsAt0_B m c t h]
      dsimp only
      unfold sout0_B_0
      exact ih ⟨t.val - 1, Nat.lt_of_le_of_lt (Nat.sub_le _ _) t.isLt⟩ (by show t.val - 1 = n; omega) k d e (by
        rw [he]; exact congrArg (fun v => 512 * v + d.val) (same_column t h).symm)

/-- What one point leaves at row `r` and column `d` of its block. -/
theorem point (c : Dev nD) (t : Fin cfg0.N) (r : Fin 1024) (d : Fin 512) (e : Fin 8192) (f : Fin 2048)
    (he : e.val = 1024 * (grid0.coords t 1).val + r.val) (hf : f.val = 512 * (grid0.coords t 0).val + d.val) :
    (outsAt0 m c t.val t.isLt).1 (ix2 r d : S1024x512.Idx) = project (argX m c) (argW m c) e f := by
  unfold project
  by_cases h : t.val % 8 = 0
  · rw [outsAt0_A m c t h]
    dsimp only
    rw [outA]
    refine (product_at _ _ r d).trans (Finset.sum_congr rfl fun k _ => ?_)
    rw [copied_at, weights_at m c t k d ⟨f.val, by omega⟩ hf, rows_at m c t r k e he]
  · rw [outsAt0_B m c t h]
    dsimp only
    rw [outB]
    refine (product_at _ _ r d).trans (Finset.sum_congr rfl fun k _ => ?_)
    rw [rows_at m c t r k e he]
    refine congrArg (fun v : EReal => argX m c (ix2 e k) * v) ?_
    exact held m c (t.val - 1) ⟨t.val - 1, Nat.lt_of_le_of_lt (Nat.sub_le _ _) t.isLt⟩ rfl k d ⟨f.val, by omega⟩ (by
      show f.val = _
      rw [hf]; exact congrArg (fun v => 512 * v + d.val) (same_column t h).symm)

/-- The point of row block `i` and column block `j`. -/
theorem point_of : ∀ (i : Fin 8) (j : Fin 4), ∃ t : Fin grid0.N, (grid0.coords t 1).val = i.val ∧ (grid0.coords t 0).val = j.val := by
  decide +kernel

/-- The result array. -/
theorem result (c : Dev nD) :
    (dats m 0 c).arrAt 2 cfg0.N = fun u : S8192x2048.Idx => project (argX m c) (argW m c) (u 0) (u 1) := by
  refine (dats m 0 c).arrAt_eq_of_emb 2 _ (fun t hf y => ?_) ?_
  · have h0 : (grid0.coords t 0).val < 4 := (grid0.coords t 0).isLt
    have h1 : (grid0.coords t 1).val < 8 := (grid0.coords t 1).isLt
    have ly0 : (y 0).val < 1024 := (y 0).isLt
    have ly1 : (y 1).val < 512 := (y 1).isLt
    have e : ((cfg0.win 2).blk t).view.emb y
        = (ix2 (⟨1024 * (grid0.coords t 1).val + (y 0).val, by omega⟩ : Fin 8192) (⟨512 * (grid0.coords t 0).val + (y 1).val, by omega⟩ : Fin 2048) : S8192x2048.Idx) := by
      funext a
      refine Fin.ext ?_
      match a with
      | ⟨0, _⟩ =>
        show (BitVec.ofNat 32 (grid0.coords t 1).val).toNat * 1024 + 1 * (y 0).val = 1024 * (grid0.coords t 1).val + (y 0).val
        rw [BitVec.toNat_ofNat]; omega
      | ⟨1, _⟩ =>
        show (BitVec.ofNat 32 (grid0.coords t 0).val).toNat * 512 + 1 * (y 1).val = 512 * (grid0.coords t 0).val + (y 1).val
        rw [BitVec.toNat_ofNat]; omega
    have ey : (cfg0.win 2).xinj (cfg0.grid.coords t) y = (ix2 ⟨(y 0).val, ly0⟩ ⟨(y 1).val, ly1⟩ : S1024x512.Idx) := by
      funext a
      refine Fin.ext ?_
      match a with
      | ⟨0, _⟩ => rfl
      | ⟨1, _⟩ => rfl
    rw [e, ey, after0_2, cast_eq]
    exact point m c t _ _ _ _ rfl rfl
  · intro u
    have l0 : (u 0).val < 8192 := (u 0).isLt
    have l1 : (u 1).val < 2048 := (u 1).isLt
    obtain ⟨t, ht1, ht0⟩ := point_of ⟨(u 0).val / 1024, by omega⟩ ⟨(u 1).val / 512, by omega⟩
    refine ⟨t, flush0_2 t, ?_⟩
    have e : ((cfg0.win 2).blk t).view.emb (ix2 ⟨(u 0).val % 1024, by omega⟩ ⟨(u 1).val % 512, by omega⟩ : S1024x512.Idx) = u := by
      funext a
      refine Fin.ext ?_
      match a with
      | ⟨0, _⟩ =>
        show (BitVec.ofNat 32 (grid0.coords t 1).val).toNat * 1024 + 1 * ((u 0).val % 1024) = (u 0).val
        rw [ht1, BitVec.toNat_ofNat]
        show (u 0).val / 1024 % 2 ^ 32 * 1024 + 1 * ((u 0).val % 1024) = (u 0).val
        omega
      | ⟨1, _⟩ =>
        show (BitVec.ofNat 32 (grid0.coords t 0).val).toNat * 512 + 1 * ((u 1).val % 512) = (u 1).val
        rw [ht0, BitVec.toNat_ofNat]
        show (u 1).val / 512 % 2 ^ 32 * 512 + 1 * ((u 1).val % 512) = (u 1).val
        omega
    rw [← e]
    exact View.emb_mem_set _ _

end Cert.MatOut3Ideal.Mat

end
-- ==== Proof.MatOut3Claims.lean ====
/- The claims about the projection. -/
module

public import proofs.«01_k».proof.Defs
public import proofs.«01_k».proof.Proof.MatOut3Val
public import proofs.«01_k».proof.Proof.Gen.MatOut3.Frame
public import proofs.«01_k».proof.Proof.Gen.MatOut3RefIdeal.Run
public import Idealize.ShloMosaic.Lib.Pointwise
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.MatOut3RefIdeal.Mat

open Cert.MatOut3RefIdeal Cert.MatOut3RefIdeal.Gen
open Cert.MatOut3Ideal.Mat (project)

/-- The reference's term. -/
def value (X : FVec Ideal S8192x2048 .bf16) (W : FVec Ideal S4x2048x2048 .f32) : FVec Ideal S8192x2048 .f32 :=
  Host.dotGeneral (F := Ideal) (φ₁ := .f32) (φ₂ := .f32) dot_S8192x2048_S2048x2048_S8192x2048_1_0_0_1_n_n none (extf .f32 X bitsLt_bf16_f32)
    (shapeCast _ (extractStridedSlice S1x2048x2048 ![3, 0, 0] W slices_S4x2048x2048_S1x2048x2048_3_0_0) shapeCasts_S1x2048x2048_S2048x2048)

theorem value_at (X : FVec Ideal S8192x2048 .bf16) (W : FVec Ideal S4x2048x2048 .f32) (r : Fin 8192) (f : Fin 2048) :
    value X W (ix2 r f) = project X W r f := by
  unfold project
  pointwise [value]

theorem value_eq (X : FVec Ideal S8192x2048 .bf16) (W : FVec Ideal S4x2048x2048 .f32) :
    value X W = fun u : S8192x2048.Idx => project X W (u 0) (u 1) := by
  funext u
  have eu : u = ix2 (u 0) (u 1) := funext fun a => Fin.ext (by match a with | ⟨0, _⟩ => rfl | ⟨1, _⟩ => rfl)
  exact (congrArg (value X W) eu).trans (value_at X W (u 0) (u 1))

end Cert.MatOut3RefIdeal.Mat

namespace Cert.Proof.MatOut3Claims

theorem frame_p : Cert.quiescent_MatOut3 := fun m ρ _ => MatOut3.Gen.frame m ρ
theorem frame_pi : Cert.quiescent_MatOut3Ideal := fun m ρ _ => MatOut3Ideal.Gen.frame m ρ
theorem frame_ri : Cert.quiescent_MatOut3RefIdeal := fun m ρ _ =>
  (θ_run Cert.MatOut3RefIdeal.defs _ _).mono (fun r h => ⟨fun c => (h c).2, sem_eq_zero_of_no_sems (by decide) r.2⟩)
    (Cert.MatOut3RefIdeal.Value.run (F := Ideal) m ρ)

theorem preserves : Cert.preserves_MatOut3_MatOut3Ideal := trivial

/-- The kernel and the reference end with the same projection. -/
theorem algebraic : Cert.algebraic_MatOut3Ideal_MatOut3RefIdeal := by
  intro m g m' g' pre same
  refine ⟨fun c => (MatOut3Ideal.Gen.dats m 0 c).arrAt 2 MatOut3Ideal.cfg0.N, MatOut3Ideal.Value.run_blocks m g, ?_⟩
  refine (θ_run MatOut3RefIdeal.defs _ _).mono (fun r h c => ⟨(h c).1.trans ?_, (h c).2⟩) (MatOut3RefIdeal.Value.run (F := Ideal) m' g')
  obtain ⟨a0, a1⟩ := same c
  rw [a0, a1]
  exact (MatOut3RefIdeal.Mat.value_eq _ _).trans (MatOut3Ideal.Mat.result m c).symm

end Cert.Proof.MatOut3Claims

end
-- ==== Proof.MixBoxes.lean ====
/- The mixture of the branches as a sum, and four matrices of 256 columns kept one after the other in one buffer. -/
module

public import Idealize.ShloMosaic.Lib.Pipeline.ValueKit
public import Idealize.ShloMosaic.Lib.Pipeline.Value
public import Idealize.ShloMosaic.Lib.Pointwise

@[expose] public section

noncomputable section

open Idealize.ShloMosaic Idealize.ShloMosaic.TcCoe Idealize.SL.Sem

namespace Cert.Mix

theorem off2 : (![0, 0] : Fin 2 → Nat) = fun _ => 0 := funext fun a => by fin_cases a <;> rfl
theorem off3 : (![0, 0, 0] : Fin 3 → Nat) = fun _ => 0 := funext fun a => by fin_cases a <;> rfl

/-! ## The mixture -/

/-- One branch's term at row `r` and column `f`: its projected row times the logistic of its gate. -/
def termAt (l : Fin 4) (X : (⟨2, ![8192, 2048]⟩ : Shape).Idx → EReal) (H : (⟨2, ![8192, 512]⟩ : Shape).Idx → EReal)
    (W : (⟨3, ![4, 2048, 12800]⟩ : Shape).Idx → EReal) (P : (⟨3, ![4, 512, 2048]⟩ : Shape).Idx → EReal) (b : Fin 4) (r : Fin 8192) (f : Fin 2048) : EReal :=
  Ideal.logistic (∑ k : Fin 2048, X (ix2 r k) * W (ix3 l k ⟨4608 + 2048 * b.val + f.val, by omega⟩)) * ∑ k : Fin 512, H (ix2 r k) * P (ix3 l k f)

/-- The sum of the four branches' terms. -/
def mixAt (l : Fin 4) (X : (⟨2, ![8192, 2048]⟩ : Shape).Idx → EReal) (H : Fin 4 → (⟨2, ![8192, 512]⟩ : Shape).Idx → EReal)
    (W : (⟨3, ![4, 2048, 12800]⟩ : Shape).Idx → EReal) (P : Fin 4 → (⟨3, ![4, 512, 2048]⟩ : Shape).Idx → EReal) (r : Fin 8192) (f : Fin 2048) : EReal :=
  termAt l X (H 0) W (P 0) 0 r f + termAt l X (H 1) W (P 1) 1 r f + termAt l X (H 2) W (P 2) 2 r f + termAt l X (H 3) W (P 3) 3 r f

/-! ## Where a window's block lies -/

/-- The index of the branches' rows. -/
theorem place_rows (i : Fin 8) (r : Fin 1024) (k : Fin 512) (e : Fin 8192) (he : e.val = 1024 * i.val + r.val) (x : (⟨2, ![8192, 512]⟩ : Shape).Idx)
    (p : (x 0).val = (BitVec.ofNat 32 i.val).toNat * 1024 + 1 * r.val) (q : (x 1).val = 0 * 512 + 1 * k.val) : x = ix2 e k := by
  rw [BitVec.toNat_ofNat] at p
  funext a
  refine Fin.ext ?_
  match a with
  | ⟨0, _⟩ => show (x 0).val = e.val; omega
  | ⟨1, _⟩ => show (x 1).val = k.val; omega

/-- The index of the layer's gates' weights. -/
theorem place_gate (l : Fin 4) (j : Fin 8) (b : Fin 4) (k : Fin 2048) (d : Fin 256) (e : Fin 12800) (he : e.val = 4608 + 2048 * b.val + (256 * j.val + d.val))
    (x : (⟨3, ![4, 2048, 12800]⟩ : Shape).Idx) (p : (x 0).val = l.val * 1 + 1 * 0) (q : (x 1).val = 0 * 2048 + 1 * k.val)
    (s : (x 2).val = (BitVec.ofNat 32 (18 + 8 * b.val) + BitVec.ofNat 32 j.val).toNat * 256 + 1 * d.val) : x = ix3 l k e := by
  rw [BitVec.toNat_add, BitVec.toNat_ofNat, BitVec.toNat_ofNat] at s
  funext a
  refine Fin.ext ?_
  match a with
  | ⟨0, _⟩ => show (x 0).val = l.val; omega
  | ⟨1, _⟩ => show (x 1).val = k.val; omega
  | ⟨2, _⟩ => show (x 2).val = e.val; omega

/-- The index of the layer's projections. -/
theorem place_projection (l : Fin 4) (j : Fin 8) (k : Fin 512) (d : Fin 256) (f : Fin 2048) (hf : f.val = 256 * j.val + d.val)
    (x : (⟨3, ![4, 512, 2048]⟩ : Shape).Idx) (p : (x 0).val = l.val * 1 + 1 * 0) (q : (x 1).val = 0 * 512 + 1 * k.val)
    (s : (x 2).val = (BitVec.ofNat 32 j.val).toNat * 256 + 1 * d.val) : x = ix3 l k f := by
  rw [BitVec.toNat_ofNat] at s
  funext a
  refine Fin.ext ?_
  match a with
  | ⟨0, _⟩ => show (x 0).val = l.val; omega
  | ⟨1, _⟩ => show (x 1).val = k.val; omega
  | ⟨2, _⟩ => show (x 2).val = f.val; omega

/-! ## Four matrices kept in one buffer -/

/-- The buffer of four `n` by 256 matrices, and one such matrix under a leading axis of extent one. -/
abbrev Four (n : ℕ) : Shape := ⟨3, ![4, n, 256]⟩
abbrev One (n : ℕ) : Shape := ⟨3, ![1, n, 256]⟩

/-- Four matrices one after the other. -/
def stack {n : ℕ} (f : Fin 4 → Vec Ideal (One n) .bf16) : Vec Ideal (Four n) .bf16 := fun y => f (y 0) (ix3 0 (y 1) (y 2))

/-- Matrix `b` of a buffer. -/
def member {n : ℕ} (X : Vec Ideal (Four n) .bf16) (b : Fin 4) : Vec Ideal (One n) .bf16 := fun j => X (ix3 b (j 1) (j 2))

/-- Where the box of matrix `b` puts an index. -/
theorem box_idx {n : ℕ} (b : Fin 4) (inb : ∀ a, (![b.val, 0, 0] : Fin 3 → ℕ) a + (One n).size a ≤ (Four n).size a) (j : (One n).Idx) :
    (Rect.unit (s := Four n) ![b.val, 0, 0] (One n).size inb).idx j = ix3 b (j 1) (j 2) := by
  have h0 : (j 0).val < 1 := (j 0).isLt
  funext a
  refine Fin.ext ?_
  rw [Rect.idx_unit_val]
  match a with
  | ⟨0, _⟩ => show b.val + (j 0).val = b.val; omega
  | ⟨1, _⟩ => show 0 + (j 1).val = (j 1).val; omega
  | ⟨2, _⟩ => show 0 + (j 2).val = (j 2).val; omega

theorem ld_box {n : ℕ} (X : Vec Ideal (Four n) .bf16) (b : Fin 4) (inb : ∀ a, (![b.val, 0, 0] : Fin 3 → ℕ) a + (One n).size a ≤ (Four n).size a) :
    View.ld X (Rect.unit (s := Four n) ![b.val, 0, 0] (One n).size inb) = member X b :=
  funext fun j => congrArg X (box_idx b inb j)

/-- What one store into a box of the buffer agrees with. -/
theorem piece_at {n : ℕ} (f : Fin 4 → Vec Ideal (One n) .bf16) (b : Fin 4) (inb : ∀ a, (![b.val, 0, 0] : Fin 3 → ℕ) a + (One n).size a ≤ (Four n).size a)
    (j : (One n).Idx) : f b j = stack f ((Rect.unit (s := Four n) ![b.val, 0, 0] (One n).size inb).emb j) := by
  have h0 : (j 0).val < 1 := (j 0).isLt
  have e : (Rect.unit (s := Four n) ![b.val, 0, 0] (One n).size inb).emb j = ix3 b (j 1) (j 2) := box_idx b inb j
  rw [e]
  show f b j = f b (ix3 0 (j 1) (j 2))
  refine congrArg (f b) (funext fun a => Fin.ext ?_)
  match a with
  | ⟨0, _⟩ => show (j 0).val = 0; omega
  | ⟨1, _⟩ => rfl
  | ⟨2, _⟩ => rfl

/-- Four stores, one into each box, leave the four matrices. -/
theorem canon_stack {n : ℕ} (w0 w1 w2 w3 : Vec Ideal (One n) .bf16)
    (i3 : ∀ a, (![3, 0, 0] : Fin 3 → ℕ) a + (One n).size a ≤ (Four n).size a) (i2 : ∀ a, (![2, 0, 0] : Fin 3 → ℕ) a + (One n).size a ≤ (Four n).size a)
    (i1 : ∀ a, (![1, 0, 0] : Fin 3 → ℕ) a + (One n).size a ≤ (Four n).size a) (i0 : ∀ a, (![0, 0, 0] : Fin 3 → ℕ) a + (One n).size a ≤ (Four n).size a) :
    View.canon (Val := Elt Ideal) (e := .bf16) (s := Four n) [⟨Rect.unit (s := Four n) ![3, 0, 0] (One n).size i3, w3⟩,
      ⟨Rect.unit (s := Four n) ![2, 0, 0] (One n).size i2, w2⟩, ⟨Rect.unit (s := Four n) ![1, 0, 0] (One n).size i1, w1⟩,
      ⟨Rect.unit (s := Four n) ![0, 0, 0] (One n).size i0, w0⟩] = stack ![w0, w1, w2, w3] := by
  funext y
  have cover : ∀ (b : Fin 4) (inb : ∀ a, (![b.val, 0, 0] : Fin 3 → ℕ) a + (One n).size a ≤ (Four n).size a), y 0 = b →
      y ∈ (Rect.unit (s := Four n) ![b.val, 0, 0] (One n).size inb).set := by
    intro b inb hb
    have e : (Rect.unit (s := Four n) ![b.val, 0, 0] (One n).size inb).idx (ix3 0 (y 1) (y 2)) = y := by
      rw [box_idx]
      funext a
      match a with
      | ⟨0, _⟩ => exact hb.symm
      | ⟨1, _⟩ => rfl
      | ⟨2, _⟩ => rfl
    rw [← e]
    exact LoadRect.idx_mem _ _
  refine View.canon_apply_of_pieces (S := Four n) (stack ![w0, w1, w2, w3]) _ (fun p hp => ?_) y ?_
  · rcases List.mem_cons.mp hp with rfl | hp
    · exact piece_at ![w0, w1, w2, w3] 3 i3
    rcases List.mem_cons.mp hp with rfl | hp
    · exact piece_at ![w0, w1, w2, w3] 2 i2
    rcases List.mem_cons.mp hp with rfl | hp
    · exact piece_at ![w0, w1, w2, w3] 1 i1
    rcases List.mem_cons.mp hp with rfl | hp
    · exact piece_at ![w0, w1, w2, w3] 0 i0
    · exact absurd hp List.not_mem_nil
  · have hy : y 0 = (0 : Fin 4) ∨ y 0 = (1 : Fin 4) ∨ y 0 = (2 : Fin 4) ∨ y 0 = (3 : Fin 4) :=
      (by decide : ∀ b : Fin 4, b = 0 ∨ b = 1 ∨ b = 2 ∨ b = 3) (y 0)
    rcases hy with h | h | h | h
    · exact ⟨⟨Rect.unit (s := Four n) ![0, 0, 0] (One n).size i0, w0⟩, .tail _ (.tail _ (.tail _ (.head _))), cover 0 i0 h⟩
    · exact ⟨⟨Rect.unit (s := Four n) ![1, 0, 0] (One n).size i1, w1⟩, .tail _ (.tail _ (.head _)), cover 1 i1 h⟩
    · exact ⟨⟨Rect.unit (s := Four n) ![2, 0, 0] (One n).size i2, w2⟩, .tail _ (.head _), cover 2 i2 h⟩
    · exact ⟨⟨Rect.unit (s := Four n) ![3, 0, 0] (One n).size i3, w3⟩, .head _, cover 3 i3 h⟩

/-- A load of box `b` after the four stores reads matrix `b`. -/
theorem read_stack {sig : RefSig} {n : ℕ} (v : View sig .tc .vmem (Four n) .bf16) (w0 w1 w2 w3 : Vec Ideal (One n) .bf16)
    (i3 : ∀ a, (![3, 0, 0] : Fin 3 → ℕ) a + (One n).size a ≤ (Four n).size a) (i2 : ∀ a, (![2, 0, 0] : Fin 3 → ℕ) a + (One n).size a ≤ (Four n).size a)
    (i1 : ∀ a, (![1, 0, 0] : Fin 3 → ℕ) a + (One n).size a ≤ (Four n).size a) (i0 : ∀ a, (![0, 0, 0] : Fin 3 → ℕ) a + (One n).size a ≤ (Four n).size a)
    (b : Fin 4) (inb : ∀ a, (![b.val, 0, 0] : Fin 3 → ℕ) a + (One n).size a ≤ (Four n).size a) :
    v.readCov (Val := Elt Ideal) [⟨Rect.unit (s := Four n) ![3, 0, 0] (One n).size i3, w3⟩,
      ⟨Rect.unit (s := Four n) ![2, 0, 0] (One n).size i2, w2⟩, ⟨Rect.unit (s := Four n) ![1, 0, 0] (One n).size i1, w1⟩,
      ⟨Rect.unit (s := Four n) ![0, 0, 0] (One n).size i0, w0⟩] (Rect.unit (s := Four n) ![b.val, 0, 0] (One n).size inb).toLoadRect
      = member (stack ![w0, w1, w2, w3]) b := by
  rw [View.readCov_eq_canon', canon_stack]
  funext j
  exact congrArg (stack ![w0, w1, w2, w3]) (box_idx b inb j)

/-- A load of a whole window buffer. -/
theorem rows_read {sig : RefSig} {s : Shape} {e : EltTy} {a : Memref sig .tc .vmem s e} (h : a.IsWhole) (X : Vec Ideal s e) {off : Fin s.rank → Nat} (z : off = fun _ => 0)
    (inb : ∀ d, off d + s.size d ≤ s.size d) :
    View.readAt (Elt Ideal) a.view (Rect.unit (s := s) off s.size inb).toLoadRect (h.unread X) = X := by
  rw [View.readAt_eq_ld, h.read_unread, View.ld_unit_zero z]

/-- A load of box `b` of a buffer of four matrices. -/
theorem box_read {sig : RefSig} {n : ℕ} {a : Memref sig .tc .vmem (Four n) .bf16} (h : a.IsWhole) (X : Vec Ideal (Four n) .bf16) (b : Fin 4)
    (inb : ∀ d, (![b.val, 0, 0] : Fin 3 → ℕ) d + (One n).size d ≤ (Four n).size d) :
    View.readAt (Elt Ideal) a.view (Rect.unit (s := Four n) ![b.val, 0, 0] (One n).size inb).toLoadRect (h.unread X) = member X b := by
  rw [View.readAt_eq_ld, h.read_unread]
  exact ld_box X b inb

end Cert.Mix

end
-- ==== Proof.MixPay.lean ====
/- What a point of the mixture of the branches computes. The bodies of the four layers' programs are the same; this names the
   first one's. -/
module

public import proofs.«01_k».proof.Proof.Gen.Mix0Ideal.Skeleton
public import proofs.«01_k».proof.Proof.MixBoxes
public import Idealize.ShloMosaic.Lib.Pipeline.ValueKit
public import Idealize.ShloMosaic.Lib.Pipeline.Value
public import Idealize.ShloMosaic.Lib.Pointwise

@[expose] public section

noncomputable section

open Idealize.ShloMosaic Idealize.ShloMosaic.TcCoe Idealize.SL.Sem

namespace Cert.Mix

open Cert.Mix0Ideal Cert.Mix0Ideal.Gen

/-- The block a point computes from its rows, the branches' rows and the kept weights. -/
def mixOf (x0 : Vec Ideal S1024x2048 .bf16) (x1 x2 x3 x4 : Vec Ideal S1024x512 .bf16) (G : Vec Ideal (Four 2048) .bf16) (P : Vec Ideal (Four 512) .bf16) :
    Vec Ideal S1024x256 .bf16 :=
  k0_pay1 (F := Ideal) x0 (k0_pay11 (F := Ideal) x0 (member G 0) x1 (member P 0) (member G 1) x2 (member P 1))
    (k0_pay12 (F := Ideal) x0 (member G 2)) x3 (member P 2) (member G 3) x4 (member P 3)

theorem mixOf_congr {u0 u1 u2 x0 : Vec Ideal S1024x2048 .bf16} {ha hb hc hd x1 x2 x3 x4 : Vec Ideal S1024x512 .bf16}
    {g0 g1 g2 g3 : Vec Ideal (One 2048) .bf16} {p0 p1 p2 p3 : Vec Ideal (One 512) .bf16} {G : Vec Ideal (Four 2048) .bf16} {P : Vec Ideal (Four 512) .bf16}
    (e0 : u0 = x0) (e1 : u1 = x0) (e2 : u2 = x0) (ea : ha = x1) (eb : hb = x2) (ec : hc = x3) (ed : hd = x4)
    (f0 : g0 = member G 0) (f1 : g1 = member G 1) (f2 : g2 = member G 2) (f3 : g3 = member G 3)
    (q0 : p0 = member P 0) (q1 : p1 = member P 1) (q2 : p2 = member P 2) (q3 : p3 = member P 3) :
    k0_pay1 (F := Ideal) u0 (k0_pay11 (F := Ideal) u1 g0 ha p0 g1 hb p1) (k0_pay12 (F := Ideal) u2 g2) hc p2 g3 hd p3 = mixOf x0 x1 x2 x3 x4 G P := by
  subst e0 e1 e2 ea eb ec ed f0 f1 f2 f3 q0 q1 q2 q3
  rfl

/-- The copies of the four gates' weights and of the four projections. -/
def gates (x5 x6 x7 x8 : Vec Ideal S1x2048x256 .f32) : Vec Ideal (Four 2048) .bf16 :=
  stack ![k0_pay2 (F := Ideal) x5, k0_pay4 (F := Ideal) x6, k0_pay7 (F := Ideal) (k0_pay6 (F := Ideal) x7), k0_pay9 (F := Ideal) x8]
def projections (x9 x10 x11 x12 : Vec Ideal S1x512x256 .f32) : Vec Ideal (Four 512) .bf16 :=
  stack ![k0_pay3 (F := Ideal) x9, k0_pay5 (F := Ideal) x10, k0_pay8 (F := Ideal) x11, k0_pay10 (F := Ideal) x12]

/-- The copies are the weights. -/
theorem gates_at (w : Fin 4 → Vec Ideal S1x2048x256 .f32) (b : Fin 4) (k : Fin 2048) (d : Fin 256) :
    gates (w 0) (w 1) (w 2) (w 3) (ix3 b k d) = w b (ix3 0 k d) := by
  match b with
  | 0 => show k0_pay2 (F := Ideal) (w 0) (ix3 0 k d) = w 0 (ix3 0 k d); pointwise [k0_pay2]
  | 1 => show k0_pay4 (F := Ideal) (w 1) (ix3 0 k d) = w 1 (ix3 0 k d); pointwise [k0_pay4]
  | 2 => show k0_pay7 (F := Ideal) (k0_pay6 (F := Ideal) (w 2)) (ix3 0 k d) = w 2 (ix3 0 k d); pointwise [k0_pay7, k0_pay6]
  | 3 => show k0_pay9 (F := Ideal) (w 3) (ix3 0 k d) = w 3 (ix3 0 k d); pointwise [k0_pay9]

theorem projections_at (w : Fin 4 → Vec Ideal S1x512x256 .f32) (b : Fin 4) (k : Fin 512) (d : Fin 256) :
    projections (w 0) (w 1) (w 2) (w 3) (ix3 b k d) = w b (ix3 0 k d) := by
  match b with
  | 0 => show k0_pay3 (F := Ideal) (w 0) (ix3 0 k d) = w 0 (ix3 0 k d); pointwise [k0_pay3]
  | 1 => show k0_pay5 (F := Ideal) (w 1) (ix3 0 k d) = w 1 (ix3 0 k d); pointwise [k0_pay5]
  | 2 => show k0_pay8 (F := Ideal) (w 2) (ix3 0 k d) = w 2 (ix3 0 k d); pointwise [k0_pay8]
  | 3 => show k0_pay10 (F := Ideal) (w 3) (ix3 0 k d) = w 3 (ix3 0 k d); pointwise [k0_pay10]

/-- One branch's term of a point's block. -/
def part (x0 : Vec Ideal S1024x2048 .bf16) (h : Vec Ideal S1024x512 .bf16) (G : Vec Ideal (Four 2048) .bf16) (P : Vec Ideal (Four 512) .bf16) (b : Fin 4)
    (r : Fin 1024) (d : Fin 256) : EReal :=
  Ideal.logistic (∑ k : Fin 2048, x0 (ix2 r k) * G (ix3 b k d)) * ∑ k : Fin 512, h (ix2 r k) * P (ix3 b k d)

theorem mixOf_at (x0 : Vec Ideal S1024x2048 .bf16) (x1 x2 x3 x4 : Vec Ideal S1024x512 .bf16) (G : Vec Ideal (Four 2048) .bf16) (P : Vec Ideal (Four 512) .bf16)
    (r : Fin 1024) (d : Fin 256) :
    mixOf x0 x1 x2 x3 x4 G P (ix2 r d) = part x0 x1 G P 0 r d + part x0 x2 G P 1 r d + part x0 x3 G P 2 r d + part x0 x4 G P 3 r d := by
  unfold mixOf part
  pointwise [k0_pay1, k0_pay11, k0_pay12]
  rfl

/-- Two buffers of four matrices hold column block `j` of the layer's weights. -/
def Holds (l : Fin 4) (W : (⟨3, ![4, 2048, 12800]⟩ : Shape).Idx → EReal) (Q : Fin 4 → (⟨3, ![4, 512, 2048]⟩ : Shape).Idx → EReal) (j : ℕ)
    (G : Vec Ideal (Four 2048) .bf16) (P : Vec Ideal (Four 512) .bf16) : Prop :=
  (∀ (b : Fin 4) (k : Fin 2048) (d : Fin 256) (e : Fin 12800), e.val = 4608 + 2048 * b.val + (256 * j + d.val) → G (ix3 b k d) = W (ix3 l k e)) ∧
  (∀ (b : Fin 4) (k : Fin 512) (d : Fin 256) (f : Fin 2048), f.val = 256 * j + d.val → P (ix3 b k d) = Q b (ix3 l k f))

/-- A block computed with them, from row block `i`, is the block of the mixture. -/
theorem mixOf_eq {l : Fin 4} {X : (⟨2, ![8192, 2048]⟩ : Shape).Idx → EReal} {H : Fin 4 → (⟨2, ![8192, 512]⟩ : Shape).Idx → EReal}
    {W : (⟨3, ![4, 2048, 12800]⟩ : Shape).Idx → EReal} {Q : Fin 4 → (⟨3, ![4, 512, 2048]⟩ : Shape).Idx → EReal} {i j : ℕ}
    {x0 : Vec Ideal S1024x2048 .bf16} {h : Fin 4 → S1024x512.Idx → EReal} {G : Vec Ideal (Four 2048) .bf16} {P : Vec Ideal (Four 512) .bf16}
    (hx : ∀ (r : Fin 1024) (k : Fin 2048) (e : Fin 8192), e.val = 1024 * i + r.val → x0 (ix2 r k) = X (ix2 e k))
    (hh : ∀ (b : Fin 4) (r : Fin 1024) (k : Fin 512) (e : Fin 8192), e.val = 1024 * i + r.val → h b (ix2 r k) = H b (ix2 e k))
    (K : Holds l W Q j G P) (r : Fin 1024) (d : Fin 256) (e : Fin 8192) (f : Fin 2048) (he : e.val = 1024 * i + r.val) (hf : f.val = 256 * j + d.val) :
    mixOf x0 (h 0) (h 1) (h 2) (h 3) G P (ix2 r d) = mixAt l X H W Q e f := by
  have term : ∀ b : Fin 4, part x0 (h b) G P b r d = termAt l X (H b) W (Q b) b e f := by
    intro b
    unfold part termAt
    congr 2
    · refine Finset.sum_congr rfl fun k _ => ?_
      rw [hx r k e he, K.1 b k d ⟨4608 + 2048 * b.val + f.val, by omega⟩ (by show 4608 + 2048 * b.val + f.val = _; rw [hf])]
    · funext k
      rw [hh b r k e he, K.2 b k d f hf]
  rw [mixOf_at]
  unfold mixAt
  rw [← term 0, ← term 1, ← term 2, ← term 3]

end Cert.Mix

end
-- ==== Proof.Mix0Val.lean ====
/- One call of the mixture of the branches, entry by entry: a block of columns uses the copies of its gate and projection
   weights that the first of its points made. -/
module

public import proofs.«01_k».proof.Proof.Gen.Mix0Ideal.Value
public import proofs.«01_k».proof.Proof.MixPay
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.Tactic Idealize.SL.Sem

namespace Cert.Mix0Ideal.Mat

open Cert.Mix0Ideal Cert.Mix0Ideal.Gen Cert.Mix
open Idealize.ShloMosaic.Pipeline (Dat Cfg Window)

section Body
variable (c : Dev nD) (i : grid0.Coords) (a2 : Memref sig .tc .vmem S1024x2048 .bf16) (h2 : a2.IsWhole) (a3 : Memref sig .tc .vmem S1024x512 .bf16) (h3 : a3.IsWhole) (a4 : Memref sig .tc .vmem S1024x512 .bf16) (h4 : a4.IsWhole) (a5 : Memref sig .tc .vmem S1024x512 .bf16) (h5 : a5.IsWhole) (a6 : Memref sig .tc .vmem S1024x512 .bf16) (h6 : a6.IsWhole) (a7 : Memref sig .tc .vmem S1x2048x256 .f32) (h7 : a7.IsWhole) (a8 : Memref sig .tc .vmem S1x2048x256 .f32) (h8 : a8.IsWhole) (a9 : Memref sig .tc .vmem S1x2048x256 .f32) (h9 : a9.IsWhole) (a10 : Memref sig .tc .vmem S1x2048x256 .f32) (h10 : a10.IsWhole) (a11 : Memref sig .tc .vmem S1x512x256 .f32) (h11 : a11.IsWhole) (a12 : Memref sig .tc .vmem S1x512x256 .f32) (h12 : a12.IsWhole) (a13 : Memref sig .tc .vmem S1x512x256 .f32) (h13 : a13.IsWhole) (a14 : Memref sig .tc .vmem S1x512x256 .f32) (h14 : a14.IsWhole) (a15 : Memref sig .tc .vmem S1024x256 .bf16) (h15 : a15.IsWhole) (a16 : Memref sig .tc .vmem S4x2048x256 .bf16) (h16 : a16.IsWhole) (a17 : Memref sig .tc .vmem S4x512x256 .bf16) (h17 : a17.IsWhole)
  (x0 : Vec Ideal S1024x2048 .bf16) (x1 x2 x3 x4 : Vec Ideal S1024x512 .bf16) (x5 x6 x7 x8 : Vec Ideal S1x2048x256 .f32) (x9 x10 x11 x12 : Vec Ideal S1x512x256 .f32)
  (xs : Vec Ideal S4x2048x256 .bf16) (ys : Vec Ideal S4x512x256 .bf16)

/-- The first point of a block of columns leaves the copies of the weights in the scratches. -/
theorem scratchA (hc : cond0_0 i) :
    sout0_A_0 (F := Ideal) c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 = gates x5 x6 x7 x8 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12)]
  unfold kernelRun0_A
  dsimp only
  sl_unfold_words
  simp only [rows_read (s := S1x2048x256) _ _ off3]
  exact canon_stack (n := 2048) (k0_pay2 (F := Ideal) x5) (k0_pay4 (F := Ideal) x6) (k0_pay7 (F := Ideal) (k0_pay6 (F := Ideal) x7)) (k0_pay9 (F := Ideal) x8) _ _ _ _

theorem scratchA' (hc : cond0_0 i) :
    sout0_A_1 (F := Ideal) c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 = projections x9 x10 x11 x12 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12)]
  unfold kernelRun0_A
  dsimp only
  sl_unfold_words
  simp only [rows_read (s := S1x512x256) _ _ off3]
  exact canon_stack (n := 512) (k0_pay3 (F := Ideal) x9) (k0_pay5 (F := Ideal) x10) (k0_pay8 (F := Ideal) x11) (k0_pay10 (F := Ideal) x12) _ _ _ _

theorem outA (hc : cond0_0 i) :
    out0_A_13 (F := Ideal) c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 = mixOf x0 x1 x2 x3 x4 (gates x5 x6 x7 x8) (projections x9 x10 x11 x12) := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12)]
  unfold kernelRun0_A
  dsimp only
  sl_unfold_words
  rw [View.canon_unit_zero (S := S1024x256) off2]
  simp only [rows_read (s := S1x2048x256) _ _ off3, rows_read (s := S1x512x256) _ _ off3]
  exact mixOf_congr (rows_read (s := S1024x2048) _ _ off2 _) (rows_read (s := S1024x2048) _ _ off2 _) (rows_read (s := S1024x2048) _ _ off2 _)
    (rows_read (s := S1024x512) _ _ off2 _) (rows_read (s := S1024x512) _ _ off2 _) (rows_read (s := S1024x512) _ _ off2 _) (rows_read (s := S1024x512) _ _ off2 _)
    (read_stack _ _ _ _ _ _ _ _ _ 0 _) (read_stack _ _ _ _ _ _ _ _ _ 1 _) (read_stack _ _ _ _ _ _ _ _ _ 2 _) (read_stack _ _ _ _ _ _ _ _ _ 3 _)
    (read_stack _ _ _ _ _ _ _ _ _ 0 _) (read_stack _ _ _ _ _ _ _ _ _ 1 _) (read_stack _ _ _ _ _ _ _ _ _ 2 _) (read_stack _ _ _ _ _ _ _ _ _ 3 _)

theorem outB (hc : ¬cond0_0 i) :
    out0_B_13 (F := Ideal) c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 xs ys = mixOf x0 x1 x2 x3 x4 xs ys := by
  unfold out0_B_13
  rw [View.read_writes_eq_canon _ _ _ (cover0_B_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 xs ys)]
  unfold kernelRun0_B
  dsimp only
  sl_unfold_words
  rw [View.canon_unit_zero (S := S1024x256) off2]
  exact mixOf_congr (rows_read (s := S1024x2048) _ _ off2 _) (rows_read (s := S1024x2048) _ _ off2 _) (rows_read (s := S1024x2048) _ _ off2 _)
    (rows_read (s := S1024x512) _ _ off2 _) (rows_read (s := S1024x512) _ _ off2 _) (rows_read (s := S1024x512) _ _ off2 _) (rows_read (s := S1024x512) _ _ off2 _)
    (box_read _ _ 0 _) (box_read _ _ 1 _) (box_read _ _ 2 _) (box_read _ _ 3 _)
    (box_read _ _ 0 _) (box_read _ _ 1 _) (box_read _ _ 2 _) (box_read _ _ 3 _)

end Body

variable (m : (ℓ : Loc nD τ sig) → Buf (Elt Ideal) ℓ)

/-- The rows, the branches' rows, the layers' input matrices and the layers' projections of each branch. -/
def argX (c : Dev nD) : S8192x2048.Idx → EReal := m ((c : Thread nD τ).loc main_arg0)
def argH (c : Dev nD) : Fin 4 → S8192x512.Idx → EReal :=
  ![m ((c : Thread nD τ).loc main_arg1), m ((c : Thread nD τ).loc main_arg2), m ((c : Thread nD τ).loc main_arg3), m ((c : Thread nD τ).loc main_arg4)]
def argW (c : Dev nD) : S4x2048x12800.Idx → EReal := m ((c : Thread nD τ).loc main_arg5)
def argP (c : Dev nD) : Fin 4 → S4x512x2048.Idx → EReal :=
  ![m ((c : Thread nD τ).loc main_arg6), m ((c : Thread nD τ).loc main_arg7), m ((c : Thread nD τ).loc main_arg8), m ((c : Thread nD τ).loc main_arg9)]

/-- A point's block of rows. -/
theorem rows_at (c : Dev nD) (t : Fin cfg0.N) (r : Fin 1024) (k : Fin 2048) (e : Fin 8192) (he : e.val = 1024 * (grid0.coords t 1).val + r.val) :
    iblk m c 0 t (ix2 r k : S1024x2048.Idx) = argX m c (ix2 e k) := by
  unfold iblk
  rw [View.read_apply]
  refine congrArg (α := S8192x2048.Idx) (β := EReal) (fun u => m ((c : Thread nD τ).loc main_arg0) u) (funext fun a => Fin.ext ?_)
  have h1 : (grid0.coords t 1).val < 8 := (grid0.coords t 1).isLt
  match a with
  | ⟨0, _⟩ =>
    show (BitVec.ofNat 32 (grid0.coords t 1).val).toNat * 1024 + 1 * r.val = e.val
    rw [BitVec.toNat_ofNat]; omega
  | ⟨1, _⟩ =>
    show 0 * 2048 + 1 * k.val = k.val
    omega

/-- A point's blocks of the branches' rows. -/
def blockH (c : Dev nD) (t : Fin cfg0.N) : Fin 4 → S1024x512.Idx → EReal := ![iblk m c 1 t, iblk m c 2 t, iblk m c 3 t, iblk m c 4 t]

theorem branch_at (c : Dev nD) (t : Fin cfg0.N) (b : Fin 4) (r : Fin 1024) (k : Fin 512) (e : Fin 8192) (he : e.val = 1024 * (grid0.coords t 1).val + r.val) :
    blockH m c t b (ix2 r k) = argH m c b (ix2 e k) := by
  have place := place_rows (grid0.coords t 1) r k e he
  match b with
  | 0 => exact congrArg (argH m c 0) (place _ rfl rfl)
  | 1 => exact congrArg (argH m c 1) (place _ rfl rfl)
  | 2 => exact congrArg (argH m c 2) (place _ rfl rfl)
  | 3 => exact congrArg (argH m c 3) (place _ rfl rfl)

/-- A point's blocks of the gates' weights are column blocks of the layer's matrix. -/
def blockW (c : Dev nD) (t : Fin cfg0.N) : Fin 4 → S1x2048x256.Idx → EReal := ![iblk m c 5 t, iblk m c 6 t, iblk m c 7 t, iblk m c 8 t]

theorem weights_at (c : Dev nD) (t : Fin cfg0.N) (b : Fin 4) (k : Fin 2048) (d : Fin 256) (e : Fin 12800)
    (he : e.val = 4608 + 2048 * b.val + (256 * (grid0.coords t 0).val + d.val)) :
    blockW m c t b (ix3 0 k d) = argW m c (ix3 0 k e) := by
  have place := place_gate 0 (grid0.coords t 0) b k d e he
  match b with
  | 0 => exact congrArg (argW m c) (place _ rfl rfl rfl)
  | 1 => exact congrArg (argW m c) (place _ rfl rfl rfl)
  | 2 => exact congrArg (argW m c) (place _ rfl rfl rfl)
  | 3 => exact congrArg (argW m c) (place _ rfl rfl rfl)

/-- A point's blocks of the projections are column blocks of the layer's. -/
def blockP (c : Dev nD) (t : Fin cfg0.N) : Fin 4 → S1x512x256.Idx → EReal := ![iblk m c 9 t, iblk m c 10 t, iblk m c 11 t, iblk m c 12 t]

theorem projection_at (c : Dev nD) (t : Fin cfg0.N) (b : Fin 4) (k : Fin 512) (d : Fin 256) (f : Fin 2048) (hf : f.val = 256 * (grid0.coords t 0).val + d.val) :
    blockP m c t b (ix3 0 k d) = argP m c b (ix3 0 k f) := by
  have place := place_projection 0 (grid0.coords t 0) k d f hf
  match b with
  | 0 => exact congrArg (argP m c 0) (place _ rfl rfl rfl)
  | 1 => exact congrArg (argP m c 1) (place _ rfl rfl rfl)
  | 2 => exact congrArg (argP m c 2) (place _ rfl rfl rfl)
  | 3 => exact congrArg (argP m c 3) (place _ rfl rfl rfl)

/-- The scratches hold the point's column blocks of the layer's weights. -/
abbrev Held (c : Dev nD) (t : Fin cfg0.N) := Holds 0 (argW m c) (argP m c) (grid0.coords t 0).val

theorem held_first (c : Dev nD) (t : Fin cfg0.N) :
    Held m c t (gates (iblk m c 5 t) (iblk m c 6 t) (iblk m c 7 t) (iblk m c 8 t)) (projections (iblk m c 9 t) (iblk m c 10 t) (iblk m c 11 t) (iblk m c 12 t)) :=
  ⟨fun b k d e he => (gates_at (blockW m c t) b k d).trans (weights_at m c t b k d e he),
    fun b k d f hf => (projections_at (blockP m c t) b k d).trans (projection_at m c t b k d f hf)⟩

/-- A point that is not the first of its block of columns has the same block of columns as the point before. -/
theorem same_column : ∀ t : Fin grid0.N, ¬t.val % 8 = 0 →
    (grid0.coords ⟨t.val - 1, Nat.lt_of_le_of_lt (Nat.sub_le _ _) t.isLt⟩ 0).val = (grid0.coords t 0).val := by
  decide +kernel

theorem held_same (c : Dev nD) (t s : Fin cfg0.N) (h : (grid0.coords s 0).val = (grid0.coords t 0).val) {G : Vec Ideal (Four 2048) .bf16} {P : Vec Ideal (Four 512) .bf16}
    (H : Held m c s G P) : Held m c t G P := by
  unfold Held at H ⊢
  rw [← h]
  exact H

/-- After every point the scratches hold its column blocks. -/
theorem held (c : Dev nD) (n : ℕ) : ∀ (t : Fin cfg0.N), t.val = n → Held m c t (outsAt0 m c t.val t.isLt).2.1 (outsAt0 m c t.val t.isLt).2.2 := by
  induction n with
  | zero =>
    intro t ht
    rw [outsAt0_A m c t (by rw [ht])]
    dsimp only
    rw [scratchA, scratchA']
    exact held_first m c t
  | succ n ih =>
    intro t ht
    by_cases h : t.val % 8 = 0
    · rw [outsAt0_A m c t h]
      dsimp only
      rw [scratchA, scratchA']
      exact held_first m c t
    · rw [outsAt0_B m c t h]
      dsimp only
      unfold sout0_B_0 sout0_B_1
      exact held_same m c t _ (same_column t h) (ih ⟨t.val - 1, Nat.lt_of_le_of_lt (Nat.sub_le _ _) t.isLt⟩ (by show t.val - 1 = n; omega))

/-- A point's block is computed with what its scratches hold. -/
theorem block_of (c : Dev nD) (t : Fin cfg0.N) : ∃ (G : Vec Ideal (Four 2048) .bf16) (P : Vec Ideal (Four 512) .bf16), Held m c t G P ∧
    (outsAt0 m c t.val t.isLt).1 = mixOf (iblk m c 0 t) (iblk m c 1 t) (iblk m c 2 t) (iblk m c 3 t) (iblk m c 4 t) G P := by
  by_cases h : t.val % 8 = 0
  · refine ⟨_, _, held_first m c t, ?_⟩
    rw [outsAt0_A m c t h]
    dsimp only
    rw [outA]
  · refine ⟨_, _, held_same m c t _ (same_column t h) (held m c (t.val - 1) ⟨t.val - 1, Nat.lt_of_le_of_lt (Nat.sub_le _ _) t.isLt⟩ rfl), ?_⟩
    rw [outsAt0_B m c t h]
    dsimp only
    rw [outB]

/-- What one point leaves at row `r` and column `d` of its block. -/
theorem point (c : Dev nD) (t : Fin cfg0.N) (r : Fin 1024) (d : Fin 256) (e : Fin 8192) (f : Fin 2048)
    (he : e.val = 1024 * (grid0.coords t 1).val + r.val) (hf : f.val = 256 * (grid0.coords t 0).val + d.val) :
    (outsAt0 m c t.val t.isLt).1 (ix2 r d : S1024x256.Idx) = mixAt 0 (argX m c) (argH m c) (argW m c) (argP m c) e f := by
  obtain ⟨G, P, H, eq⟩ := block_of m c t
  rw [eq]
  exact mixOf_eq (rows_at m c t) (fun b => branch_at m c t b) H r d e f he hf

/-- The point of row block `i` and column block `j`. -/
theorem point_of : ∀ (i : Fin 8) (j : Fin 8), ∃ t : Fin grid0.N, (grid0.coords t 1).val = i.val ∧ (grid0.coords t 0).val = j.val := by
  decide +kernel

/-- The result array. -/
theorem result (c : Dev nD) :
    (dats m 0 c).arrAt 13 cfg0.N = fun u : S8192x2048.Idx => mixAt 0 (argX m c) (argH m c) (argW m c) (argP m c) (u 0) (u 1) := by
  refine (dats m 0 c).arrAt_eq_of_emb 13 _ (fun t hf y => ?_) ?_
  · have h0 : (grid0.coords t 0).val < 8 := (grid0.coords t 0).isLt
    have h1 : (grid0.coords t 1).val < 8 := (grid0.coords t 1).isLt
    have ly0 : (y 0).val < 1024 := (y 0).isLt
    have ly1 : (y 1).val < 256 := (y 1).isLt
    have e : ((cfg0.win 13).blk t).view.emb y
        = (ix2 (⟨1024 * (grid0.coords t 1).val + (y 0).val, by omega⟩ : Fin 8192) (⟨256 * (grid0.coords t 0).val + (y 1).val, by omega⟩ : Fin 2048) : S8192x2048.Idx) := by
      funext a
      refine Fin.ext ?_
      match a with
      | ⟨0, _⟩ =>
        show (BitVec.ofNat 32 (grid0.coords t 1).val).toNat * 1024 + 1 * (y 0).val = 1024 * (grid0.coords t 1).val + (y 0).val
        rw [BitVec.toNat_ofNat]; omega
      | ⟨1, _⟩ =>
        show (BitVec.ofNat 32 (grid0.coords t 0).val).toNat * 256 + 1 * (y 1).val = 256 * (grid0.coords t 0).val + (y 1).val
        rw [BitVec.toNat_ofNat]; omega
    have ey : (cfg0.win 13).xinj (cfg0.grid.coords t) y = (ix2 ⟨(y 0).val, ly0⟩ ⟨(y 1).val, ly1⟩ : S1024x256.Idx) := by
      funext a
      refine Fin.ext ?_
      match a with
      | ⟨0, _⟩ => rfl
      | ⟨1, _⟩ => rfl
    rw [e, ey, after0_13, cast_eq]
    exact point m c t _ _ _ _ rfl rfl
  · intro u
    have l0 : (u 0).val < 8192 := (u 0).isLt
    have l1 : (u 1).val < 2048 := (u 1).isLt
    obtain ⟨t, ht1, ht0⟩ := point_of ⟨(u 0).val / 1024, by omega⟩ ⟨(u 1).val / 256, by omega⟩
    refine ⟨t, flush0_13 t, ?_⟩
    have e : ((cfg0.win 13).blk t).view.emb (ix2 ⟨(u 0).val % 1024, by omega⟩ ⟨(u 1).val % 256, by omega⟩ : S1024x256.Idx) = u := by
      funext a
      refine Fin.ext ?_
      match a with
      | ⟨0, _⟩ =>
        show (BitVec.ofNat 32 (grid0.coords t 1).val).toNat * 1024 + 1 * ((u 0).val % 1024) = (u 0).val
        rw [ht1, BitVec.toNat_ofNat]
        show (u 0).val / 1024 % 2 ^ 32 * 1024 + 1 * ((u 0).val % 1024) = (u 0).val
        omega
      | ⟨1, _⟩ =>
        show (BitVec.ofNat 32 (grid0.coords t 0).val).toNat * 256 + 1 * ((u 1).val % 256) = (u 1).val
        rw [ht0, BitVec.toNat_ofNat]
        show (u 1).val / 256 % 2 ^ 32 * 256 + 1 * ((u 1).val % 256) = (u 1).val
        omega
    rw [← e]
    exact View.emb_mem_set _ _

end Cert.Mix0Ideal.Mat

end
-- ==== Proof.MixRef.lean ====
/- The reference of the mixture of the branches, for every layer. -/
module

public import proofs.«01_k».proof.Proof.Gen.Mix0RefIdeal.Run
public import proofs.«01_k».proof.Proof.MixBoxes
public import Idealize.ShloMosaic.Lib.Pipeline.ValueKit
public import Idealize.ShloMosaic.Lib.Pipeline.Value
public import Idealize.ShloMosaic.Lib.Pointwise

@[expose] public section

noncomputable section

open Idealize.ShloMosaic Idealize.ShloMosaic.TcCoe Idealize.SL.Sem

namespace Cert.Mix

open Cert.Mix0RefIdeal Cert.Mix0RefIdeal.Gen

/-- Layer `l`'s gate columns and its projection lie inside of the arrays. -/
theorem gate_slice (l : Fin 4) : S4x2048x12800.Slices ![l.val, 0, 4608] S1x2048x8192 :=
  ⟨rfl, fun a => by
    match a with
    | ⟨0, _⟩ => exact l.isLt
    | ⟨1, _⟩ => show 0 + 2048 ≤ 2048; omega
    | ⟨2, _⟩ => show 4608 + 8192 ≤ 12800; omega⟩
theorem projection_slice (l : Fin 4) : S4x512x2048.Slices ![l.val, 0, 0] S1x512x2048 :=
  ⟨rfl, fun a => by
    match a with
    | ⟨0, _⟩ => exact l.isLt
    | ⟨1, _⟩ => show 0 + 512 ≤ 512; omega
    | ⟨2, _⟩ => show 0 + 2048 ≤ 2048; omega⟩

/-- The reference's gates' products, their logistics and one branch's projected rows. -/
def products (l : Fin 4) (X : FVec Ideal S8192x2048 .bf16) (W : FVec Ideal S4x2048x12800 .f32) : FVec Ideal S8192x4x2048 .f32 :=
  shapeCast _ (Host.dotGeneral (F := Ideal) (φ₁ := .f32) (φ₂ := .f32) dot_S8192x2048_S2048x8192_S8192x8192_1_0_0_1_n_n none (extf .f32 X bitsLt_bf16_f32)
    (shapeCast _ (extractStridedSlice S1x2048x8192 ![l.val, 0, 4608] W (gate_slice l)) shapeCasts_S1x2048x8192_S2048x8192)) shapeCasts_S8192x8192_S8192x4x2048

def sigmoid (a : FVec Ideal S8192x4x2048 .f32) : FVec Ideal S8192x4x2048 .f32 :=
  Host.divf (broadcastInDim S8192x4x2048 ![] bcast_S_S8192x4x2048 (constant S_ .f32 0x3F800000#32))
    (addf (broadcastInDim S8192x4x2048 ![] bcast_S_S8192x4x2048 (constant S_ .f32 0x3F800000#32)) (Host.exp (Host.negf a)))

def projected (l : Fin 4) (H : FVec Ideal S8192x512 .bf16) (P : FVec Ideal S4x512x2048 .f32) : FVec Ideal S8192x2048 .f32 :=
  Host.dotGeneral (F := Ideal) (φ₁ := .f32) (φ₂ := .f32) dot_S8192x512_S512x2048_S8192x2048_1_0_0_1_n_n none (extf .f32 H bitsLt_bf16_f32)
    (shapeCast _ (extractStridedSlice S1x512x2048 ![l.val, 0, 0] P (projection_slice l)) shapeCasts_S1x512x2048_S512x2048)

/-- The reference's term. -/
def value (l : Fin 4) (X : FVec Ideal S8192x2048 .bf16) (H : Fin 4 → FVec Ideal S8192x512 .bf16) (W : FVec Ideal S4x2048x12800 .f32) (P : Fin 4 → FVec Ideal S4x512x2048 .f32) :
    FVec Ideal S8192x2048 .bf16 :=
  truncf .bf16 (addf (addf (addf
    (mulf (shapeCast _ (extractStridedSlice S8192x1x2048 ![0, 0, 0] (sigmoid (products l X W)) slices_S8192x4x2048_S8192x1x2048_0_0_0) shapeCasts_S8192x1x2048_S8192x2048) (projected l (H 0) (P 0)))
    (mulf (shapeCast _ (extractStridedSlice S8192x1x2048 ![0, 1, 0] (sigmoid (products l X W)) slices_S8192x4x2048_S8192x1x2048_0_1_0) shapeCasts_S8192x1x2048_S8192x2048) (projected l (H 1) (P 1))))
    (mulf (shapeCast _ (extractStridedSlice S8192x1x2048 ![0, 2, 0] (sigmoid (products l X W)) slices_S8192x4x2048_S8192x1x2048_0_2_0) shapeCasts_S8192x1x2048_S8192x2048) (projected l (H 2) (P 2))))
    (mulf (shapeCast _ (extractStridedSlice S8192x1x2048 ![0, 3, 0] (sigmoid (products l X W)) slices_S8192x4x2048_S8192x1x2048_0_3_0) shapeCasts_S8192x1x2048_S8192x2048) (projected l (H 3) (P 3)))) bitsLt_bf16_f32

theorem products_at (l : Fin 4) (X : FVec Ideal S8192x2048 .bf16) (W : FVec Ideal S4x2048x12800 .f32) (r : Fin 8192) (b : Fin 4) (f : Fin 2048) :
    products l X W (ix3 r b f) = ∑ k : Fin 2048, X (ix2 r k) * W (ix3 l k ⟨4608 + 2048 * b.val + f.val, by omega⟩) := by
  pointwise [products]
  refine Finset.sum_congr rfl fun k _ => ?_
  refine congrArg (fun x : Fin 12800 => X (ix2 r k) * W (ix3 l k x)) (Fin.ext ?_)
  show 4608 + (b.val * 2048 + f.val) = 4608 + 2048 * b.val + f.val
  omega

theorem sigmoid_at (a : FVec Ideal S8192x4x2048 .f32) (u : S8192x4x2048.Idx) : sigmoid a u = Ideal.logistic (a u) := by
  have e1 : constant (F := Ideal) S_ .f32 0x3F800000#32 = fun _ => (1 : EReal) := by
    funext v
    pointwise
  unfold sigmoid
  rw [e1]
  rfl

theorem projected_at (l : Fin 4) (H : FVec Ideal S8192x512 .bf16) (P : FVec Ideal S4x512x2048 .f32) (r : Fin 8192) (f : Fin 2048) :
    projected l H P (ix2 r f) = ∑ k : Fin 512, H (ix2 r k) * P (ix3 l k f) := by
  pointwise [projected]

theorem value_at (l : Fin 4) (X : FVec Ideal S8192x2048 .bf16) (H : Fin 4 → FVec Ideal S8192x512 .bf16) (W : FVec Ideal S4x2048x12800 .f32) (P : Fin 4 → FVec Ideal S4x512x2048 .f32)
    (r : Fin 8192) (f : Fin 2048) : value l X H W P (ix2 r f) = mixAt l X H W P r f := by
  have term : ∀ b : Fin 4, sigmoid (products l X W) (ix3 r b f) * projected l (H b) (P b) (ix2 r f) = termAt l X (H b) W (P b) b r f := by
    intro b
    rw [sigmoid_at, products_at, projected_at]
    rfl
  unfold mixAt
  rw [← term 0, ← term 1, ← term 2, ← term 3]
  pointwise [value]

theorem value_eq (l : Fin 4) (X : FVec Ideal S8192x2048 .bf16) (H : Fin 4 → FVec Ideal S8192x512 .bf16) (W : FVec Ideal S4x2048x12800 .f32) (P : Fin 4 → FVec Ideal S4x512x2048 .f32) :
    value l X H W P = fun u : S8192x2048.Idx => mixAt l X H W P (u 0) (u 1) := by
  funext u
  have eu : u = ix2 (u 0) (u 1) := funext fun a => Fin.ext (by match a with | ⟨0, _⟩ => rfl | ⟨1, _⟩ => rfl)
  exact (congrArg (value l X H W P) eu).trans (value_at l X H W P (u 0) (u 1))

end Cert.Mix

end
-- ==== Proof.Mix0Claims.lean ====
/- The claims about the mixture of the branches. -/
module

public import proofs.«01_k».proof.Defs
public import proofs.«01_k».proof.Proof.Mix0Val
public import proofs.«01_k».proof.Proof.MixRef
public import proofs.«01_k».proof.Proof.Gen.Mix0.Frame
public import proofs.«01_k».proof.Proof.Gen.Mix0RefIdeal.Run
public import Idealize.ShloMosaic.Lib.Pointwise
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Proof.Mix0Claims

theorem frame_p : Cert.quiescent_Mix0 := fun m ρ _ => Mix0.Gen.frame m ρ
theorem frame_pi : Cert.quiescent_Mix0Ideal := fun m ρ _ => Mix0Ideal.Gen.frame m ρ
theorem frame_ri : Cert.quiescent_Mix0RefIdeal := fun m ρ _ =>
  (θ_run Cert.Mix0RefIdeal.defs _ _).mono (fun r h => ⟨fun c => (h c).2, sem_eq_zero_of_no_sems (by decide) r.2⟩)
    (Cert.Mix0RefIdeal.Value.run (F := Ideal) m ρ)

theorem preserves : Cert.preserves_Mix0_Mix0Ideal := trivial

/-- The kernel and the reference end with the same mixture. -/
theorem algebraic : Cert.algebraic_Mix0Ideal_Mix0RefIdeal := by
  intro m g m' g' pre same
  refine ⟨fun c => (Mix0Ideal.Gen.dats m 0 c).arrAt 13 Mix0Ideal.cfg0.N, Mix0Ideal.Value.run_blocks m g, ?_⟩
  refine (θ_run Mix0RefIdeal.defs _ _).mono (fun r h c => ⟨(h c).1.trans ?_, (h c).2⟩) (Mix0RefIdeal.Value.run (F := Ideal) m' g')
  obtain ⟨a0, a1, a2, a3, a4, a5, a6, a7, a8, a9⟩ := same c
  unfold Mix0RefIdeal.Value.res_main_v42
  rw [a0, a1, a2, a3, a4, a5, a6, a7, a8, a9]
  exact (Mix.value_eq 0 _ (Mix0Ideal.Mat.argH m c) _ (Mix0Ideal.Mat.argP m c)).trans (Mix0Ideal.Mat.result m c).symm

end Cert.Proof.Mix0Claims

end
-- ==== Proof.Mix1Val.lean ====
/- One call of the mixture of the branches, entry by entry: a block of columns uses the copies of its gate and projection
   weights that the first of its points made. -/
module

public import proofs.«01_k».proof.Proof.Gen.Mix1Ideal.Value
public import proofs.«01_k».proof.Proof.MixPay
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.Tactic Idealize.SL.Sem

namespace Cert.Mix1Ideal.Mat

open Cert.Mix1Ideal Cert.Mix1Ideal.Gen Cert.Mix
open Idealize.ShloMosaic.Pipeline (Dat Cfg Window)

section Body
variable (c : Dev nD) (i : grid0.Coords) (a2 : Memref sig .tc .vmem S1024x2048 .bf16) (h2 : a2.IsWhole) (a3 : Memref sig .tc .vmem S1024x512 .bf16) (h3 : a3.IsWhole) (a4 : Memref sig .tc .vmem S1024x512 .bf16) (h4 : a4.IsWhole) (a5 : Memref sig .tc .vmem S1024x512 .bf16) (h5 : a5.IsWhole) (a6 : Memref sig .tc .vmem S1024x512 .bf16) (h6 : a6.IsWhole) (a7 : Memref sig .tc .vmem S1x2048x256 .f32) (h7 : a7.IsWhole) (a8 : Memref sig .tc .vmem S1x2048x256 .f32) (h8 : a8.IsWhole) (a9 : Memref sig .tc .vmem S1x2048x256 .f32) (h9 : a9.IsWhole) (a10 : Memref sig .tc .vmem S1x2048x256 .f32) (h10 : a10.IsWhole) (a11 : Memref sig .tc .vmem S1x512x256 .f32) (h11 : a11.IsWhole) (a12 : Memref sig .tc .vmem S1x512x256 .f32) (h12 : a12.IsWhole) (a13 : Memref sig .tc .vmem S1x512x256 .f32) (h13 : a13.IsWhole) (a14 : Memref sig .tc .vmem S1x512x256 .f32) (h14 : a14.IsWhole) (a15 : Memref sig .tc .vmem S1024x256 .bf16) (h15 : a15.IsWhole) (a16 : Memref sig .tc .vmem S4x2048x256 .bf16) (h16 : a16.IsWhole) (a17 : Memref sig .tc .vmem S4x512x256 .bf16) (h17 : a17.IsWhole)
  (x0 : Vec Ideal S1024x2048 .bf16) (x1 x2 x3 x4 : Vec Ideal S1024x512 .bf16) (x5 x6 x7 x8 : Vec Ideal S1x2048x256 .f32) (x9 x10 x11 x12 : Vec Ideal S1x512x256 .f32)
  (xs : Vec Ideal S4x2048x256 .bf16) (ys : Vec Ideal S4x512x256 .bf16)

/-- The first point of a block of columns leaves the copies of the weights in the scratches. -/
theorem scratchA (hc : cond0_0 i) :
    sout0_A_0 (F := Ideal) c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 = gates x5 x6 x7 x8 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12)]
  unfold kernelRun0_A
  dsimp only
  sl_unfold_words
  simp only [rows_read (s := S1x2048x256) _ _ off3]
  exact canon_stack (n := 2048) (k0_pay2 (F := Ideal) x5) (k0_pay4 (F := Ideal) x6) (k0_pay7 (F := Ideal) (k0_pay6 (F := Ideal) x7)) (k0_pay9 (F := Ideal) x8) _ _ _ _

theorem scratchA' (hc : cond0_0 i) :
    sout0_A_1 (F := Ideal) c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 = projections x9 x10 x11 x12 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12)]
  unfold kernelRun0_A
  dsimp only
  sl_unfold_words
  simp only [rows_read (s := S1x512x256) _ _ off3]
  exact canon_stack (n := 512) (k0_pay3 (F := Ideal) x9) (k0_pay5 (F := Ideal) x10) (k0_pay8 (F := Ideal) x11) (k0_pay10 (F := Ideal) x12) _ _ _ _

theorem outA (hc : cond0_0 i) :
    out0_A_13 (F := Ideal) c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 = mixOf x0 x1 x2 x3 x4 (gates x5 x6 x7 x8) (projections x9 x10 x11 x12) := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12)]
  unfold kernelRun0_A
  dsimp only
  sl_unfold_words
  rw [View.canon_unit_zero (S := S1024x256) off2]
  simp only [rows_read (s := S1x2048x256) _ _ off3, rows_read (s := S1x512x256) _ _ off3]
  exact mixOf_congr (rows_read (s := S1024x2048) _ _ off2 _) (rows_read (s := S1024x2048) _ _ off2 _) (rows_read (s := S1024x2048) _ _ off2 _)
    (rows_read (s := S1024x512) _ _ off2 _) (rows_read (s := S1024x512) _ _ off2 _) (rows_read (s := S1024x512) _ _ off2 _) (rows_read (s := S1024x512) _ _ off2 _)
    (read_stack _ _ _ _ _ _ _ _ _ 0 _) (read_stack _ _ _ _ _ _ _ _ _ 1 _) (read_stack _ _ _ _ _ _ _ _ _ 2 _) (read_stack _ _ _ _ _ _ _ _ _ 3 _)
    (read_stack _ _ _ _ _ _ _ _ _ 0 _) (read_stack _ _ _ _ _ _ _ _ _ 1 _) (read_stack _ _ _ _ _ _ _ _ _ 2 _) (read_stack _ _ _ _ _ _ _ _ _ 3 _)

theorem outB (hc : ¬cond0_0 i) :
    out0_B_13 (F := Ideal) c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 xs ys = mixOf x0 x1 x2 x3 x4 xs ys := by
  unfold out0_B_13
  rw [View.read_writes_eq_canon _ _ _ (cover0_B_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 xs ys)]
  unfold kernelRun0_B
  dsimp only
  sl_unfold_words
  rw [View.canon_unit_zero (S := S1024x256) off2]
  exact mixOf_congr (rows_read (s := S1024x2048) _ _ off2 _) (rows_read (s := S1024x2048) _ _ off2 _) (rows_read (s := S1024x2048) _ _ off2 _)
    (rows_read (s := S1024x512) _ _ off2 _) (rows_read (s := S1024x512) _ _ off2 _) (rows_read (s := S1024x512) _ _ off2 _) (rows_read (s := S1024x512) _ _ off2 _)
    (box_read _ _ 0 _) (box_read _ _ 1 _) (box_read _ _ 2 _) (box_read _ _ 3 _)
    (box_read _ _ 0 _) (box_read _ _ 1 _) (box_read _ _ 2 _) (box_read _ _ 3 _)

end Body

variable (m : (ℓ : Loc nD τ sig) → Buf (Elt Ideal) ℓ)

/-- The rows, the branches' rows, the layers' input matrices and the layers' projections of each branch. -/
def argX (c : Dev nD) : S8192x2048.Idx → EReal := m ((c : Thread nD τ).loc main_arg0)
def argH (c : Dev nD) : Fin 4 → S8192x512.Idx → EReal :=
  ![m ((c : Thread nD τ).loc main_arg1), m ((c : Thread nD τ).loc main_arg2), m ((c : Thread nD τ).loc main_arg3), m ((c : Thread nD τ).loc main_arg4)]
def argW (c : Dev nD) : S4x2048x12800.Idx → EReal := m ((c : Thread nD τ).loc main_arg5)
def argP (c : Dev nD) : Fin 4 → S4x512x2048.Idx → EReal :=
  ![m ((c : Thread nD τ).loc main_arg6), m ((c : Thread nD τ).loc main_arg7), m ((c : Thread nD τ).loc main_arg8), m ((c : Thread nD τ).loc main_arg9)]

/-- A point's block of rows. -/
theorem rows_at (c : Dev nD) (t : Fin cfg0.N) (r : Fin 1024) (k : Fin 2048) (e : Fin 8192) (he : e.val = 1024 * (grid0.coords t 1).val + r.val) :
    iblk m c 0 t (ix2 r k : S1024x2048.Idx) = argX m c (ix2 e k) := by
  unfold iblk
  rw [View.read_apply]
  refine congrArg (α := S8192x2048.Idx) (β := EReal) (fun u => m ((c : Thread nD τ).loc main_arg0) u) (funext fun a => Fin.ext ?_)
  have h1 : (grid0.coords t 1).val < 8 := (grid0.coords t 1).isLt
  match a with
  | ⟨0, _⟩ =>
    show (BitVec.ofNat 32 (grid0.coords t 1).val).toNat * 1024 + 1 * r.val = e.val
    rw [BitVec.toNat_ofNat]; omega
  | ⟨1, _⟩ =>
    show 0 * 2048 + 1 * k.val = k.val
    omega

/-- A point's blocks of the branches' rows. -/
def blockH (c : Dev nD) (t : Fin cfg0.N) : Fin 4 → S1024x512.Idx → EReal := ![iblk m c 1 t, iblk m c 2 t, iblk m c 3 t, iblk m c 4 t]

theorem branch_at (c : Dev nD) (t : Fin cfg0.N) (b : Fin 4) (r : Fin 1024) (k : Fin 512) (e : Fin 8192) (he : e.val = 1024 * (grid0.coords t 1).val + r.val) :
    blockH m c t b (ix2 r k) = argH m c b (ix2 e k) := by
  have place := place_rows (grid0.coords t 1) r k e he
  match b with
  | 0 => exact congrArg (argH m c 0) (place _ rfl rfl)
  | 1 => exact congrArg (argH m c 1) (place _ rfl rfl)
  | 2 => exact congrArg (argH m c 2) (place _ rfl rfl)
  | 3 => exact congrArg (argH m c 3) (place _ rfl rfl)

/-- A point's blocks of the gates' weights are column blocks of the layer's matrix. -/
def blockW (c : Dev nD) (t : Fin cfg0.N) : Fin 4 → S1x2048x256.Idx → EReal := ![iblk m c 5 t, iblk m c 6 t, iblk m c 7 t, iblk m c 8 t]

theorem weights_at (c : Dev nD) (t : Fin cfg0.N) (b : Fin 4) (k : Fin 2048) (d : Fin 256) (e : Fin 12800)
    (he : e.val = 4608 + 2048 * b.val + (256 * (grid0.coords t 0).val + d.val)) :
    blockW m c t b (ix3 0 k d) = argW m c (ix3 1 k e) := by
  have place := place_gate 1 (grid0.coords t 0) b k d e he
  match b with
  | 0 => exact congrArg (argW m c) (place _ rfl rfl rfl)
  | 1 => exact congrArg (argW m c) (place _ rfl rfl rfl)
  | 2 => exact congrArg (argW m c) (place _ rfl rfl rfl)
  | 3 => exact congrArg (argW m c) (place _ rfl rfl rfl)

/-- A point's blocks of the projections are column blocks of the layer's. -/
def blockP (c : Dev nD) (t : Fin cfg0.N) : Fin 4 → S1x512x256.Idx → EReal := ![iblk m c 9 t, iblk m c 10 t, iblk m c 11 t, iblk m c 12 t]

theorem projection_at (c : Dev nD) (t : Fin cfg0.N) (b : Fin 4) (k : Fin 512) (d : Fin 256) (f : Fin 2048) (hf : f.val = 256 * (grid0.coords t 0).val + d.val) :
    blockP m c t b (ix3 0 k d) = argP m c b (ix3 1 k f) := by
  have place := place_projection 1 (grid0.coords t 0) k d f hf
  match b with
  | 0 => exact congrArg (argP m c 0) (place _ rfl rfl rfl)
  | 1 => exact congrArg (argP m c 1) (place _ rfl rfl rfl)
  | 2 => exact congrArg (argP m c 2) (place _ rfl rfl rfl)
  | 3 => exact congrArg (argP m c 3) (place _ rfl rfl rfl)

/-- The scratches hold the point's column blocks of the layer's weights. -/
abbrev Held (c : Dev nD) (t : Fin cfg0.N) := Holds 1 (argW m c) (argP m c) (grid0.coords t 0).val

theorem held_first (c : Dev nD) (t : Fin cfg0.N) :
    Held m c t (gates (iblk m c 5 t) (iblk m c 6 t) (iblk m c 7 t) (iblk m c 8 t)) (projections (iblk m c 9 t) (iblk m c 10 t) (iblk m c 11 t) (iblk m c 12 t)) :=
  ⟨fun b k d e he => (gates_at (blockW m c t) b k d).trans (weights_at m c t b k d e he),
    fun b k d f hf => (projections_at (blockP m c t) b k d).trans (projection_at m c t b k d f hf)⟩

/-- A point that is not the first of its block of columns has the same block of columns as the point before. -/
theorem same_column : ∀ t : Fin grid0.N, ¬t.val % 8 = 0 →
    (grid0.coords ⟨t.val - 1, Nat.lt_of_le_of_lt (Nat.sub_le _ _) t.isLt⟩ 0).val = (grid0.coords t 0).val := by
  decide +kernel

theorem held_same (c : Dev nD) (t s : Fin cfg0.N) (h : (grid0.coords s 0).val = (grid0.coords t 0).val) {G : Vec Ideal (Four 2048) .bf16} {P : Vec Ideal (Four 512) .bf16}
    (H : Held m c s G P) : Held m c t G P := by
  unfold Held at H ⊢
  rw [← h]
  exact H

/-- After every point the scratches hold its column blocks. -/
theorem held (c : Dev nD) (n : ℕ) : ∀ (t : Fin cfg0.N), t.val = n → Held m c t (outsAt0 m c t.val t.isLt).2.1 (outsAt0 m c t.val t.isLt).2.2 := by
  induction n with
  | zero =>
    intro t ht
    rw [outsAt0_A m c t (by rw [ht])]
    dsimp only
    rw [scratchA, scratchA']
    exact held_first m c t
  | succ n ih =>
    intro t ht
    by_cases h : t.val % 8 = 0
    · rw [outsAt0_A m c t h]
      dsimp only
      rw [scratchA, scratchA']
      exact held_first m c t
    · rw [outsAt0_B m c t h]
      dsimp only
      unfold sout0_B_0 sout0_B_1
      exact held_same m c t _ (same_column t h) (ih ⟨t.val - 1, Nat.lt_of_le_of_lt (Nat.sub_le _ _) t.isLt⟩ (by show t.val - 1 = n; omega))

/-- A point's block is computed with what its scratches hold. -/
theorem block_of (c : Dev nD) (t : Fin cfg0.N) : ∃ (G : Vec Ideal (Four 2048) .bf16) (P : Vec Ideal (Four 512) .bf16), Held m c t G P ∧
    (outsAt0 m c t.val t.isLt).1 = mixOf (iblk m c 0 t) (iblk m c 1 t) (iblk m c 2 t) (iblk m c 3 t) (iblk m c 4 t) G P := by
  by_cases h : t.val % 8 = 0
  · refine ⟨_, _, held_first m c t, ?_⟩
    rw [outsAt0_A m c t h]
    dsimp only
    rw [outA]
  · refine ⟨_, _, held_same m c t _ (same_column t h) (held m c (t.val - 1) ⟨t.val - 1, Nat.lt_of_le_of_lt (Nat.sub_le _ _) t.isLt⟩ rfl), ?_⟩
    rw [outsAt0_B m c t h]
    dsimp only
    rw [outB]

/-- What one point leaves at row `r` and column `d` of its block. -/
theorem point (c : Dev nD) (t : Fin cfg0.N) (r : Fin 1024) (d : Fin 256) (e : Fin 8192) (f : Fin 2048)
    (he : e.val = 1024 * (grid0.coords t 1).val + r.val) (hf : f.val = 256 * (grid0.coords t 0).val + d.val) :
    (outsAt0 m c t.val t.isLt).1 (ix2 r d : S1024x256.Idx) = mixAt 1 (argX m c) (argH m c) (argW m c) (argP m c) e f := by
  obtain ⟨G, P, H, eq⟩ := block_of m c t
  rw [eq]
  exact mixOf_eq (rows_at m c t) (fun b => branch_at m c t b) H r d e f he hf

/-- The point of row block `i` and column block `j`. -/
theorem point_of : ∀ (i : Fin 8) (j : Fin 8), ∃ t : Fin grid0.N, (grid0.coords t 1).val = i.val ∧ (grid0.coords t 0).val = j.val := by
  decide +kernel

/-- The result array. -/
theorem result (c : Dev nD) :
    (dats m 0 c).arrAt 13 cfg0.N = fun u : S8192x2048.Idx => mixAt 1 (argX m c) (argH m c) (argW m c) (argP m c) (u 0) (u 1) := by
  refine (dats m 0 c).arrAt_eq_of_emb 13 _ (fun t hf y => ?_) ?_
  · have h0 : (grid0.coords t 0).val < 8 := (grid0.coords t 0).isLt
    have h1 : (grid0.coords t 1).val < 8 := (grid0.coords t 1).isLt
    have ly0 : (y 0).val < 1024 := (y 0).isLt
    have ly1 : (y 1).val < 256 := (y 1).isLt
    have e : ((cfg0.win 13).blk t).view.emb y
        = (ix2 (⟨1024 * (grid0.coords t 1).val + (y 0).val, by omega⟩ : Fin 8192) (⟨256 * (grid0.coords t 0).val + (y 1).val, by omega⟩ : Fin 2048) : S8192x2048.Idx) := by
      funext a
      refine Fin.ext ?_
      match a with
      | ⟨0, _⟩ =>
        show (BitVec.ofNat 32 (grid0.coords t 1).val).toNat * 1024 + 1 * (y 0).val = 1024 * (grid0.coords t 1).val + (y 0).val
        rw [BitVec.toNat_ofNat]; omega
      | ⟨1, _⟩ =>
        show (BitVec.ofNat 32 (grid0.coords t 0).val).toNat * 256 + 1 * (y 1).val = 256 * (grid0.coords t 0).val + (y 1).val
        rw [BitVec.toNat_ofNat]; omega
    have ey : (cfg0.win 13).xinj (cfg0.grid.coords t) y = (ix2 ⟨(y 0).val, ly0⟩ ⟨(y 1).val, ly1⟩ : S1024x256.Idx) := by
      funext a
      refine Fin.ext ?_
      match a with
      | ⟨0, _⟩ => rfl
      | ⟨1, _⟩ => rfl
    rw [e, ey, after0_13, cast_eq]
    exact point m c t _ _ _ _ rfl rfl
  · intro u
    have l0 : (u 0).val < 8192 := (u 0).isLt
    have l1 : (u 1).val < 2048 := (u 1).isLt
    obtain ⟨t, ht1, ht0⟩ := point_of ⟨(u 0).val / 1024, by omega⟩ ⟨(u 1).val / 256, by omega⟩
    refine ⟨t, flush0_13 t, ?_⟩
    have e : ((cfg0.win 13).blk t).view.emb (ix2 ⟨(u 0).val % 1024, by omega⟩ ⟨(u 1).val % 256, by omega⟩ : S1024x256.Idx) = u := by
      funext a
      refine Fin.ext ?_
      match a with
      | ⟨0, _⟩ =>
        show (BitVec.ofNat 32 (grid0.coords t 1).val).toNat * 1024 + 1 * ((u 0).val % 1024) = (u 0).val
        rw [ht1, BitVec.toNat_ofNat]
        show (u 0).val / 1024 % 2 ^ 32 * 1024 + 1 * ((u 0).val % 1024) = (u 0).val
        omega
      | ⟨1, _⟩ =>
        show (BitVec.ofNat 32 (grid0.coords t 0).val).toNat * 256 + 1 * ((u 1).val % 256) = (u 1).val
        rw [ht0, BitVec.toNat_ofNat]
        show (u 1).val / 256 % 2 ^ 32 * 256 + 1 * ((u 1).val % 256) = (u 1).val
        omega
    rw [← e]
    exact View.emb_mem_set _ _

end Cert.Mix1Ideal.Mat

end
-- ==== Proof.Mix1Claims.lean ====
/- The claims about the mixture of the branches. -/
module

public import proofs.«01_k».proof.Defs
public import proofs.«01_k».proof.Proof.Mix1Val
public import proofs.«01_k».proof.Proof.MixRef
public import proofs.«01_k».proof.Proof.Gen.Mix1.Frame
public import proofs.«01_k».proof.Proof.Gen.Mix1RefIdeal.Run
public import Idealize.ShloMosaic.Lib.Pointwise
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Proof.Mix1Claims

theorem frame_p : Cert.quiescent_Mix1 := fun m ρ _ => Mix1.Gen.frame m ρ
theorem frame_pi : Cert.quiescent_Mix1Ideal := fun m ρ _ => Mix1Ideal.Gen.frame m ρ
theorem frame_ri : Cert.quiescent_Mix1RefIdeal := fun m ρ _ =>
  (θ_run Cert.Mix1RefIdeal.defs _ _).mono (fun r h => ⟨fun c => (h c).2, sem_eq_zero_of_no_sems (by decide) r.2⟩)
    (Cert.Mix1RefIdeal.Value.run (F := Ideal) m ρ)

theorem preserves : Cert.preserves_Mix1_Mix1Ideal := trivial

/-- The kernel and the reference end with the same mixture. -/
theorem algebraic : Cert.algebraic_Mix1Ideal_Mix1RefIdeal := by
  intro m g m' g' pre same
  refine ⟨fun c => (Mix1Ideal.Gen.dats m 0 c).arrAt 13 Mix1Ideal.cfg0.N, Mix1Ideal.Value.run_blocks m g, ?_⟩
  refine (θ_run Mix1RefIdeal.defs _ _).mono (fun r h c => ⟨(h c).1.trans ?_, (h c).2⟩) (Mix1RefIdeal.Value.run (F := Ideal) m' g')
  obtain ⟨a0, a1, a2, a3, a4, a5, a6, a7, a8, a9⟩ := same c
  unfold Mix1RefIdeal.Value.res_main_v42
  rw [a0, a1, a2, a3, a4, a5, a6, a7, a8, a9]
  exact (Mix.value_eq 1 _ (Mix1Ideal.Mat.argH m c) _ (Mix1Ideal.Mat.argP m c)).trans (Mix1Ideal.Mat.result m c).symm

end Cert.Proof.Mix1Claims

end
-- ==== Proof.Mix2Val.lean ====
/- One call of the mixture of the branches, entry by entry: a block of columns uses the copies of its gate and projection
   weights that the first of its points made. -/
module

public import proofs.«01_k».proof.Proof.Gen.Mix2Ideal.Value
public import proofs.«01_k».proof.Proof.MixPay
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.Tactic Idealize.SL.Sem

namespace Cert.Mix2Ideal.Mat

open Cert.Mix2Ideal Cert.Mix2Ideal.Gen Cert.Mix
open Idealize.ShloMosaic.Pipeline (Dat Cfg Window)

section Body
variable (c : Dev nD) (i : grid0.Coords) (a2 : Memref sig .tc .vmem S1024x2048 .bf16) (h2 : a2.IsWhole) (a3 : Memref sig .tc .vmem S1024x512 .bf16) (h3 : a3.IsWhole) (a4 : Memref sig .tc .vmem S1024x512 .bf16) (h4 : a4.IsWhole) (a5 : Memref sig .tc .vmem S1024x512 .bf16) (h5 : a5.IsWhole) (a6 : Memref sig .tc .vmem S1024x512 .bf16) (h6 : a6.IsWhole) (a7 : Memref sig .tc .vmem S1x2048x256 .f32) (h7 : a7.IsWhole) (a8 : Memref sig .tc .vmem S1x2048x256 .f32) (h8 : a8.IsWhole) (a9 : Memref sig .tc .vmem S1x2048x256 .f32) (h9 : a9.IsWhole) (a10 : Memref sig .tc .vmem S1x2048x256 .f32) (h10 : a10.IsWhole) (a11 : Memref sig .tc .vmem S1x512x256 .f32) (h11 : a11.IsWhole) (a12 : Memref sig .tc .vmem S1x512x256 .f32) (h12 : a12.IsWhole) (a13 : Memref sig .tc .vmem S1x512x256 .f32) (h13 : a13.IsWhole) (a14 : Memref sig .tc .vmem S1x512x256 .f32) (h14 : a14.IsWhole) (a15 : Memref sig .tc .vmem S1024x256 .bf16) (h15 : a15.IsWhole) (a16 : Memref sig .tc .vmem S4x2048x256 .bf16) (h16 : a16.IsWhole) (a17 : Memref sig .tc .vmem S4x512x256 .bf16) (h17 : a17.IsWhole)
  (x0 : Vec Ideal S1024x2048 .bf16) (x1 x2 x3 x4 : Vec Ideal S1024x512 .bf16) (x5 x6 x7 x8 : Vec Ideal S1x2048x256 .f32) (x9 x10 x11 x12 : Vec Ideal S1x512x256 .f32)
  (xs : Vec Ideal S4x2048x256 .bf16) (ys : Vec Ideal S4x512x256 .bf16)

/-- The first point of a block of columns leaves the copies of the weights in the scratches. -/
theorem scratchA (hc : cond0_0 i) :
    sout0_A_0 (F := Ideal) c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 = gates x5 x6 x7 x8 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12)]
  unfold kernelRun0_A
  dsimp only
  sl_unfold_words
  simp only [rows_read (s := S1x2048x256) _ _ off3]
  exact canon_stack (n := 2048) (k0_pay2 (F := Ideal) x5) (k0_pay4 (F := Ideal) x6) (k0_pay7 (F := Ideal) (k0_pay6 (F := Ideal) x7)) (k0_pay9 (F := Ideal) x8) _ _ _ _

theorem scratchA' (hc : cond0_0 i) :
    sout0_A_1 (F := Ideal) c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 = projections x9 x10 x11 x12 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12)]
  unfold kernelRun0_A
  dsimp only
  sl_unfold_words
  simp only [rows_read (s := S1x512x256) _ _ off3]
  exact canon_stack (n := 512) (k0_pay3 (F := Ideal) x9) (k0_pay5 (F := Ideal) x10) (k0_pay8 (F := Ideal) x11) (k0_pay10 (F := Ideal) x12) _ _ _ _

theorem outA (hc : cond0_0 i) :
    out0_A_13 (F := Ideal) c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 = mixOf x0 x1 x2 x3 x4 (gates x5 x6 x7 x8) (projections x9 x10 x11 x12) := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12)]
  unfold kernelRun0_A
  dsimp only
  sl_unfold_words
  rw [View.canon_unit_zero (S := S1024x256) off2]
  simp only [rows_read (s := S1x2048x256) _ _ off3, rows_read (s := S1x512x256) _ _ off3]
  exact mixOf_congr (rows_read (s := S1024x2048) _ _ off2 _) (rows_read (s := S1024x2048) _ _ off2 _) (rows_read (s := S1024x2048) _ _ off2 _)
    (rows_read (s := S1024x512) _ _ off2 _) (rows_read (s := S1024x512) _ _ off2 _) (rows_read (s := S1024x512) _ _ off2 _) (rows_read (s := S1024x512) _ _ off2 _)
    (read_stack _ _ _ _ _ _ _ _ _ 0 _) (read_stack _ _ _ _ _ _ _ _ _ 1 _) (read_stack _ _ _ _ _ _ _ _ _ 2 _) (read_stack _ _ _ _ _ _ _ _ _ 3 _)
    (read_stack _ _ _ _ _ _ _ _ _ 0 _) (read_stack _ _ _ _ _ _ _ _ _ 1 _) (read_stack _ _ _ _ _ _ _ _ _ 2 _) (read_stack _ _ _ _ _ _ _ _ _ 3 _)

theorem outB (hc : ¬cond0_0 i) :
    out0_B_13 (F := Ideal) c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 xs ys = mixOf x0 x1 x2 x3 x4 xs ys := by
  unfold out0_B_13
  rw [View.read_writes_eq_canon _ _ _ (cover0_B_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 xs ys)]
  unfold kernelRun0_B
  dsimp only
  sl_unfold_words
  rw [View.canon_unit_zero (S := S1024x256) off2]
  exact mixOf_congr (rows_read (s := S1024x2048) _ _ off2 _) (rows_read (s := S1024x2048) _ _ off2 _) (rows_read (s := S1024x2048) _ _ off2 _)
    (rows_read (s := S1024x512) _ _ off2 _) (rows_read (s := S1024x512) _ _ off2 _) (rows_read (s := S1024x512) _ _ off2 _) (rows_read (s := S1024x512) _ _ off2 _)
    (box_read _ _ 0 _) (box_read _ _ 1 _) (box_read _ _ 2 _) (box_read _ _ 3 _)
    (box_read _ _ 0 _) (box_read _ _ 1 _) (box_read _ _ 2 _) (box_read _ _ 3 _)

end Body

variable (m : (ℓ : Loc nD τ sig) → Buf (Elt Ideal) ℓ)

/-- The rows, the branches' rows, the layers' input matrices and the layers' projections of each branch. -/
def argX (c : Dev nD) : S8192x2048.Idx → EReal := m ((c : Thread nD τ).loc main_arg0)
def argH (c : Dev nD) : Fin 4 → S8192x512.Idx → EReal :=
  ![m ((c : Thread nD τ).loc main_arg1), m ((c : Thread nD τ).loc main_arg2), m ((c : Thread nD τ).loc main_arg3), m ((c : Thread nD τ).loc main_arg4)]
def argW (c : Dev nD) : S4x2048x12800.Idx → EReal := m ((c : Thread nD τ).loc main_arg5)
def argP (c : Dev nD) : Fin 4 → S4x512x2048.Idx → EReal :=
  ![m ((c : Thread nD τ).loc main_arg6), m ((c : Thread nD τ).loc main_arg7), m ((c : Thread nD τ).loc main_arg8), m ((c : Thread nD τ).loc main_arg9)]

/-- A point's block of rows. -/
theorem rows_at (c : Dev nD) (t : Fin cfg0.N) (r : Fin 1024) (k : Fin 2048) (e : Fin 8192) (he : e.val = 1024 * (grid0.coords t 1).val + r.val) :
    iblk m c 0 t (ix2 r k : S1024x2048.Idx) = argX m c (ix2 e k) := by
  unfold iblk
  rw [View.read_apply]
  refine congrArg (α := S8192x2048.Idx) (β := EReal) (fun u => m ((c : Thread nD τ).loc main_arg0) u) (funext fun a => Fin.ext ?_)
  have h1 : (grid0.coords t 1).val < 8 := (grid0.coords t 1).isLt
  match a with
  | ⟨0, _⟩ =>
    show (BitVec.ofNat 32 (grid0.coords t 1).val).toNat * 1024 + 1 * r.val = e.val
    rw [BitVec.toNat_ofNat]; omega
  | ⟨1, _⟩ =>
    show 0 * 2048 + 1 * k.val = k.val
    omega

/-- A point's blocks of the branches' rows. -/
def blockH (c : Dev nD) (t : Fin cfg0.N) : Fin 4 → S1024x512.Idx → EReal := ![iblk m c 1 t, iblk m c 2 t, iblk m c 3 t, iblk m c 4 t]

theorem branch_at (c : Dev nD) (t : Fin cfg0.N) (b : Fin 4) (r : Fin 1024) (k : Fin 512) (e : Fin 8192) (he : e.val = 1024 * (grid0.coords t 1).val + r.val) :
    blockH m c t b (ix2 r k) = argH m c b (ix2 e k) := by
  have place := place_rows (grid0.coords t 1) r k e he
  match b with
  | 0 => exact congrArg (argH m c 0) (place _ rfl rfl)
  | 1 => exact congrArg (argH m c 1) (place _ rfl rfl)
  | 2 => exact congrArg (argH m c 2) (place _ rfl rfl)
  | 3 => exact congrArg (argH m c 3) (place _ rfl rfl)

/-- A point's blocks of the gates' weights are column blocks of the layer's matrix. -/
def blockW (c : Dev nD) (t : Fin cfg0.N) : Fin 4 → S1x2048x256.Idx → EReal := ![iblk m c 5 t, iblk m c 6 t, iblk m c 7 t, iblk m c 8 t]

theorem weights_at (c : Dev nD) (t : Fin cfg0.N) (b : Fin 4) (k : Fin 2048) (d : Fin 256) (e : Fin 12800)
    (he : e.val = 4608 + 2048 * b.val + (256 * (grid0.coords t 0).val + d.val)) :
    blockW m c t b (ix3 0 k d) = argW m c (ix3 2 k e) := by
  have place := place_gate 2 (grid0.coords t 0) b k d e he
  match b with
  | 0 => exact congrArg (argW m c) (place _ rfl rfl rfl)
  | 1 => exact congrArg (argW m c) (place _ rfl rfl rfl)
  | 2 => exact congrArg (argW m c) (place _ rfl rfl rfl)
  | 3 => exact congrArg (argW m c) (place _ rfl rfl rfl)

/-- A point's blocks of the projections are column blocks of the layer's. -/
def blockP (c : Dev nD) (t : Fin cfg0.N) : Fin 4 → S1x512x256.Idx → EReal := ![iblk m c 9 t, iblk m c 10 t, iblk m c 11 t, iblk m c 12 t]

theorem projection_at (c : Dev nD) (t : Fin cfg0.N) (b : Fin 4) (k : Fin 512) (d : Fin 256) (f : Fin 2048) (hf : f.val = 256 * (grid0.coords t 0).val + d.val) :
    blockP m c t b (ix3 0 k d) = argP m c b (ix3 2 k f) := by
  have place := place_projection 2 (grid0.coords t 0) k d f hf
  match b with
  | 0 => exact congrArg (argP m c 0) (place _ rfl rfl rfl)
  | 1 => exact congrArg (argP m c 1) (place _ rfl rfl rfl)
  | 2 => exact congrArg (argP m c 2) (place _ rfl rfl rfl)
  | 3 => exact congrArg (argP m c 3) (place _ rfl rfl rfl)

/-- The scratches hold the point's column blocks of the layer's weights. -/
abbrev Held (c : Dev nD) (t : Fin cfg0.N) := Holds 2 (argW m c) (argP m c) (grid0.coords t 0).val

theorem held_first (c : Dev nD) (t : Fin cfg0.N) :
    Held m c t (gates (iblk m c 5 t) (iblk m c 6 t) (iblk m c 7 t) (iblk m c 8 t)) (projections (iblk m c 9 t) (iblk m c 10 t) (iblk m c 11 t) (iblk m c 12 t)) :=
  ⟨fun b k d e he => (gates_at (blockW m c t) b k d).trans (weights_at m c t b k d e he),
    fun b k d f hf => (projections_at (blockP m c t) b k d).trans (projection_at m c t b k d f hf)⟩

/-- A point that is not the first of its block of columns has the same block of columns as the point before. -/
theorem same_column : ∀ t : Fin grid0.N, ¬t.val % 8 = 0 →
    (grid0.coords ⟨t.val - 1, Nat.lt_of_le_of_lt (Nat.sub_le _ _) t.isLt⟩ 0).val = (grid0.coords t 0).val := by
  decide +kernel

theorem held_same (c : Dev nD) (t s : Fin cfg0.N) (h : (grid0.coords s 0).val = (grid0.coords t 0).val) {G : Vec Ideal (Four 2048) .bf16} {P : Vec Ideal (Four 512) .bf16}
    (H : Held m c s G P) : Held m c t G P := by
  unfold Held at H ⊢
  rw [← h]
  exact H

/-- After every point the scratches hold its column blocks. -/
theorem held (c : Dev nD) (n : ℕ) : ∀ (t : Fin cfg0.N), t.val = n → Held m c t (outsAt0 m c t.val t.isLt).2.1 (outsAt0 m c t.val t.isLt).2.2 := by
  induction n with
  | zero =>
    intro t ht
    rw [outsAt0_A m c t (by rw [ht])]
    dsimp only
    rw [scratchA, scratchA']
    exact held_first m c t
  | succ n ih =>
    intro t ht
    by_cases h : t.val % 8 = 0
    · rw [outsAt0_A m c t h]
      dsimp only
      rw [scratchA, scratchA']
      exact held_first m c t
    · rw [outsAt0_B m c t h]
      dsimp only
      unfold sout0_B_0 sout0_B_1
      exact held_same m c t _ (same_column t h) (ih ⟨t.val - 1, Nat.lt_of_le_of_lt (Nat.sub_le _ _) t.isLt⟩ (by show t.val - 1 = n; omega))

/-- A point's block is computed with what its scratches hold. -/
theorem block_of (c : Dev nD) (t : Fin cfg0.N) : ∃ (G : Vec Ideal (Four 2048) .bf16) (P : Vec Ideal (Four 512) .bf16), Held m c t G P ∧
    (outsAt0 m c t.val t.isLt).1 = mixOf (iblk m c 0 t) (iblk m c 1 t) (iblk m c 2 t) (iblk m c 3 t) (iblk m c 4 t) G P := by
  by_cases h : t.val % 8 = 0
  · refine ⟨_, _, held_first m c t, ?_⟩
    rw [outsAt0_A m c t h]
    dsimp only
    rw [outA]
  · refine ⟨_, _, held_same m c t _ (same_column t h) (held m c (t.val - 1) ⟨t.val - 1, Nat.lt_of_le_of_lt (Nat.sub_le _ _) t.isLt⟩ rfl), ?_⟩
    rw [outsAt0_B m c t h]
    dsimp only
    rw [outB]

/-- What one point leaves at row `r` and column `d` of its block. -/
theorem point (c : Dev nD) (t : Fin cfg0.N) (r : Fin 1024) (d : Fin 256) (e : Fin 8192) (f : Fin 2048)
    (he : e.val = 1024 * (grid0.coords t 1).val + r.val) (hf : f.val = 256 * (grid0.coords t 0).val + d.val) :
    (outsAt0 m c t.val t.isLt).1 (ix2 r d : S1024x256.Idx) = mixAt 2 (argX m c) (argH m c) (argW m c) (argP m c) e f := by
  obtain ⟨G, P, H, eq⟩ := block_of m c t
  rw [eq]
  exact mixOf_eq (rows_at m c t) (fun b => branch_at m c t b) H r d e f he hf

/-- The point of row block `i` and column block `j`. -/
theorem point_of : ∀ (i : Fin 8) (j : Fin 8), ∃ t : Fin grid0.N, (grid0.coords t 1).val = i.val ∧ (grid0.coords t 0).val = j.val := by
  decide +kernel

/-- The result array. -/
theorem result (c : Dev nD) :
    (dats m 0 c).arrAt 13 cfg0.N = fun u : S8192x2048.Idx => mixAt 2 (argX m c) (argH m c) (argW m c) (argP m c) (u 0) (u 1) := by
  refine (dats m 0 c).arrAt_eq_of_emb 13 _ (fun t hf y => ?_) ?_
  · have h0 : (grid0.coords t 0).val < 8 := (grid0.coords t 0).isLt
    have h1 : (grid0.coords t 1).val < 8 := (grid0.coords t 1).isLt
    have ly0 : (y 0).val < 1024 := (y 0).isLt
    have ly1 : (y 1).val < 256 := (y 1).isLt
    have e : ((cfg0.win 13).blk t).view.emb y
        = (ix2 (⟨1024 * (grid0.coords t 1).val + (y 0).val, by omega⟩ : Fin 8192) (⟨256 * (grid0.coords t 0).val + (y 1).val, by omega⟩ : Fin 2048) : S8192x2048.Idx) := by
      funext a
      refine Fin.ext ?_
      match a with
      | ⟨0, _⟩ =>
        show (BitVec.ofNat 32 (grid0.coords t 1).val).toNat * 1024 + 1 * (y 0).val = 1024 * (grid0.coords t 1).val + (y 0).val
        rw [BitVec.toNat_ofNat]; omega
      | ⟨1, _⟩ =>
        show (BitVec.ofNat 32 (grid0.coords t 0).val).toNat * 256 + 1 * (y 1).val = 256 * (grid0.coords t 0).val + (y 1).val
        rw [BitVec.toNat_ofNat]; omega
    have ey : (cfg0.win 13).xinj (cfg0.grid.coords t) y = (ix2 ⟨(y 0).val, ly0⟩ ⟨(y 1).val, ly1⟩ : S1024x256.Idx) := by
      funext a
      refine Fin.ext ?_
      match a with
      | ⟨0, _⟩ => rfl
      | ⟨1, _⟩ => rfl
    rw [e, ey, after0_13, cast_eq]
    exact point m c t _ _ _ _ rfl rfl
  · intro u
    have l0 : (u 0).val < 8192 := (u 0).isLt
    have l1 : (u 1).val < 2048 := (u 1).isLt
    obtain ⟨t, ht1, ht0⟩ := point_of ⟨(u 0).val / 1024, by omega⟩ ⟨(u 1).val / 256, by omega⟩
    refine ⟨t, flush0_13 t, ?_⟩
    have e : ((cfg0.win 13).blk t).view.emb (ix2 ⟨(u 0).val % 1024, by omega⟩ ⟨(u 1).val % 256, by omega⟩ : S1024x256.Idx) = u := by
      funext a
      refine Fin.ext ?_
      match a with
      | ⟨0, _⟩ =>
        show (BitVec.ofNat 32 (grid0.coords t 1).val).toNat * 1024 + 1 * ((u 0).val % 1024) = (u 0).val
        rw [ht1, BitVec.toNat_ofNat]
        show (u 0).val / 1024 % 2 ^ 32 * 1024 + 1 * ((u 0).val % 1024) = (u 0).val
        omega
      | ⟨1, _⟩ =>
        show (BitVec.ofNat 32 (grid0.coords t 0).val).toNat * 256 + 1 * ((u 1).val % 256) = (u 1).val
        rw [ht0, BitVec.toNat_ofNat]
        show (u 1).val / 256 % 2 ^ 32 * 256 + 1 * ((u 1).val % 256) = (u 1).val
        omega
    rw [← e]
    exact View.emb_mem_set _ _

end Cert.Mix2Ideal.Mat

end
-- ==== Proof.Mix2Claims.lean ====
/- The claims about the mixture of the branches. -/
module

public import proofs.«01_k».proof.Defs
public import proofs.«01_k».proof.Proof.Mix2Val
public import proofs.«01_k».proof.Proof.MixRef
public import proofs.«01_k».proof.Proof.Gen.Mix2.Frame
public import proofs.«01_k».proof.Proof.Gen.Mix2RefIdeal.Run
public import Idealize.ShloMosaic.Lib.Pointwise
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Proof.Mix2Claims

theorem frame_p : Cert.quiescent_Mix2 := fun m ρ _ => Mix2.Gen.frame m ρ
theorem frame_pi : Cert.quiescent_Mix2Ideal := fun m ρ _ => Mix2Ideal.Gen.frame m ρ
theorem frame_ri : Cert.quiescent_Mix2RefIdeal := fun m ρ _ =>
  (θ_run Cert.Mix2RefIdeal.defs _ _).mono (fun r h => ⟨fun c => (h c).2, sem_eq_zero_of_no_sems (by decide) r.2⟩)
    (Cert.Mix2RefIdeal.Value.run (F := Ideal) m ρ)

theorem preserves : Cert.preserves_Mix2_Mix2Ideal := trivial

/-- The kernel and the reference end with the same mixture. -/
theorem algebraic : Cert.algebraic_Mix2Ideal_Mix2RefIdeal := by
  intro m g m' g' pre same
  refine ⟨fun c => (Mix2Ideal.Gen.dats m 0 c).arrAt 13 Mix2Ideal.cfg0.N, Mix2Ideal.Value.run_blocks m g, ?_⟩
  refine (θ_run Mix2RefIdeal.defs _ _).mono (fun r h c => ⟨(h c).1.trans ?_, (h c).2⟩) (Mix2RefIdeal.Value.run (F := Ideal) m' g')
  obtain ⟨a0, a1, a2, a3, a4, a5, a6, a7, a8, a9⟩ := same c
  unfold Mix2RefIdeal.Value.res_main_v42
  rw [a0, a1, a2, a3, a4, a5, a6, a7, a8, a9]
  exact (Mix.value_eq 2 _ (Mix2Ideal.Mat.argH m c) _ (Mix2Ideal.Mat.argP m c)).trans (Mix2Ideal.Mat.result m c).symm

end Cert.Proof.Mix2Claims

end
-- ==== Proof.Mix3Val.lean ====
/- One call of the mixture of the branches, entry by entry: a block of columns uses the copies of its gate and projection
   weights that the first of its points made. -/
module

public import proofs.«01_k».proof.Proof.Gen.Mix3Ideal.Value
public import proofs.«01_k».proof.Proof.MixPay
public import Idealize.ShloMosaic.Lib.Pipeline.ValueKit
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.Tactic Idealize.SL.Sem

namespace Cert.Mix3Ideal.Mat

open Cert.Mix3Ideal Cert.Mix3Ideal.Gen Cert.Mix
open Idealize.ShloMosaic.Pipeline (Dat Cfg Window)

section Body
variable (c : Dev nD) (i : grid0.Coords) (a2 : Memref sig .tc .vmem S1024x2048 .bf16) (h2 : a2.IsWhole) (a3 : Memref sig .tc .vmem S1024x512 .bf16) (h3 : a3.IsWhole) (a4 : Memref sig .tc .vmem S1024x512 .bf16) (h4 : a4.IsWhole) (a5 : Memref sig .tc .vmem S1024x512 .bf16) (h5 : a5.IsWhole) (a6 : Memref sig .tc .vmem S1024x512 .bf16) (h6 : a6.IsWhole) (a7 : Memref sig .tc .vmem S1x2048x256 .f32) (h7 : a7.IsWhole) (a8 : Memref sig .tc .vmem S1x2048x256 .f32) (h8 : a8.IsWhole) (a9 : Memref sig .tc .vmem S1x2048x256 .f32) (h9 : a9.IsWhole) (a10 : Memref sig .tc .vmem S1x2048x256 .f32) (h10 : a10.IsWhole) (a11 : Memref sig .tc .vmem S1x512x256 .f32) (h11 : a11.IsWhole) (a12 : Memref sig .tc .vmem S1x512x256 .f32) (h12 : a12.IsWhole) (a13 : Memref sig .tc .vmem S1x512x256 .f32) (h13 : a13.IsWhole) (a14 : Memref sig .tc .vmem S1x512x256 .f32) (h14 : a14.IsWhole) (a15 : Memref sig .tc .vmem S1024x256 .bf16) (h15 : a15.IsWhole) (a16 : Memref sig .tc .vmem S4x2048x256 .bf16) (h16 : a16.IsWhole) (a17 : Memref sig .tc .vmem S4x512x256 .bf16) (h17 : a17.IsWhole)
  (x0 : Vec Ideal S1024x2048 .bf16) (x1 x2 x3 x4 : Vec Ideal S1024x512 .bf16) (x5 x6 x7 x8 : Vec Ideal S1x2048x256 .f32) (x9 x10 x11 x12 : Vec Ideal S1x512x256 .f32)
  (xs : Vec Ideal S4x2048x256 .bf16) (ys : Vec Ideal S4x512x256 .bf16)

/-- The first point of a block of columns leaves the copies of the weights in the scratches. -/
theorem scratchA (hc : cond0_0 i) :
    sout0_A_0 (F := Ideal) c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 = gates x5 x6 x7 x8 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12)]
  unfold kernelRun0_A
  dsimp only
  sl_unfold_words
  simp only [rows_read (s := S1x2048x256) _ _ off3]
  exact canon_stack (n := 2048) (k0_pay2 (F := Ideal) x5) (k0_pay4 (F := Ideal) x6) (k0_pay7 (F := Ideal) (k0_pay6 (F := Ideal) x7)) (k0_pay9 (F := Ideal) x8) _ _ _ _

theorem scratchA' (hc : cond0_0 i) :
    sout0_A_1 (F := Ideal) c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 = projections x9 x10 x11 x12 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12)]
  unfold kernelRun0_A
  dsimp only
  sl_unfold_words
  simp only [rows_read (s := S1x512x256) _ _ off3]
  exact canon_stack (n := 512) (k0_pay3 (F := Ideal) x9) (k0_pay5 (F := Ideal) x10) (k0_pay8 (F := Ideal) x11) (k0_pay10 (F := Ideal) x12) _ _ _ _

theorem outA (hc : cond0_0 i) :
    out0_A_13 (F := Ideal) c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 = mixOf x0 x1 x2 x3 x4 (gates x5 x6 x7 x8) (projections x9 x10 x11 x12) := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12)]
  unfold kernelRun0_A
  dsimp only
  sl_unfold_words
  rw [View.canon_unit_zero (S := S1024x256) off2]
  simp only [rows_read (s := S1x2048x256) _ _ off3, rows_read (s := S1x512x256) _ _ off3]
  exact mixOf_congr (rows_read (s := S1024x2048) _ _ off2 _) (rows_read (s := S1024x2048) _ _ off2 _) (rows_read (s := S1024x2048) _ _ off2 _)
    (rows_read (s := S1024x512) _ _ off2 _) (rows_read (s := S1024x512) _ _ off2 _) (rows_read (s := S1024x512) _ _ off2 _) (rows_read (s := S1024x512) _ _ off2 _)
    (read_stack _ _ _ _ _ _ _ _ _ 0 _) (read_stack _ _ _ _ _ _ _ _ _ 1 _) (read_stack _ _ _ _ _ _ _ _ _ 2 _) (read_stack _ _ _ _ _ _ _ _ _ 3 _)
    (read_stack _ _ _ _ _ _ _ _ _ 0 _) (read_stack _ _ _ _ _ _ _ _ _ 1 _) (read_stack _ _ _ _ _ _ _ _ _ 2 _) (read_stack _ _ _ _ _ _ _ _ _ 3 _)

theorem outB (hc : ¬cond0_0 i) :
    out0_B_13 (F := Ideal) c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 xs ys = mixOf x0 x1 x2 x3 x4 xs ys := by
  unfold out0_B_13
  rw [View.read_writes_eq_canon _ _ _ (cover0_B_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 xs ys)]
  unfold kernelRun0_B
  dsimp only
  sl_unfold_words
  rw [View.canon_unit_zero (S := S1024x256) off2]
  exact mixOf_congr (rows_read (s := S1024x2048) _ _ off2 _) (rows_read (s := S1024x2048) _ _ off2 _) (rows_read (s := S1024x2048) _ _ off2 _)
    (rows_read (s := S1024x512) _ _ off2 _) (rows_read (s := S1024x512) _ _ off2 _) (rows_read (s := S1024x512) _ _ off2 _) (rows_read (s := S1024x512) _ _ off2 _)
    (box_read _ _ 0 _) (box_read _ _ 1 _) (box_read _ _ 2 _) (box_read _ _ 3 _)
    (box_read _ _ 0 _) (box_read _ _ 1 _) (box_read _ _ 2 _) (box_read _ _ 3 _)

end Body

variable (m : (ℓ : Loc nD τ sig) → Buf (Elt Ideal) ℓ)

/-- The rows, the branches' rows, the layers' input matrices and the layers' projections of each branch. -/
def argX (c : Dev nD) : S8192x2048.Idx → EReal := m ((c : Thread nD τ).loc main_arg0)
def argH (c : Dev nD) : Fin 4 → S8192x512.Idx → EReal :=
  ![m ((c : Thread nD τ).loc main_arg1), m ((c : Thread nD τ).loc main_arg2), m ((c : Thread nD τ).loc main_arg3), m ((c : Thread nD τ).loc main_arg4)]
def argW (c : Dev nD) : S4x2048x12800.Idx → EReal := m ((c : Thread nD τ).loc main_arg5)
def argP (c : Dev nD) : Fin 4 → S4x512x2048.Idx → EReal :=
  ![m ((c : Thread nD τ).loc main_arg6), m ((c : Thread nD τ).loc main_arg7), m ((c : Thread nD τ).loc main_arg8), m ((c : Thread nD τ).loc main_arg9)]

/-- A point's block of rows. -/
theorem rows_at (c : Dev nD) (t : Fin cfg0.N) (r : Fin 1024) (k : Fin 2048) (e : Fin 8192) (he : e.val = 1024 * (grid0.coords t 1).val + r.val) :
    iblk m c 0 t (ix2 r k : S1024x2048.Idx) = argX m c (ix2 e k) := by
  unfold iblk
  rw [View.read_apply]
  refine congrArg (α := S8192x2048.Idx) (β := EReal) (fun u => m ((c : Thread nD τ).loc main_arg0) u) (funext fun a => Fin.ext ?_)
  have h1 : (grid0.coords t 1).val < 8 := (grid0.coords t 1).isLt
  match a with
  | ⟨0, _⟩ =>
    show (BitVec.ofNat 32 (grid0.coords t 1).val).toNat * 1024 + 1 * r.val = e.val
    rw [BitVec.toNat_ofNat]; omega
  | ⟨1, _⟩ =>
    show 0 * 2048 + 1 * k.val = k.val
    omega

/-- A point's blocks of the branches' rows. -/
def blockH (c : Dev nD) (t : Fin cfg0.N) : Fin 4 → S1024x512.Idx → EReal := ![iblk m c 1 t, iblk m c 2 t, iblk m c 3 t, iblk m c 4 t]

theorem branch_at (c : Dev nD) (t : Fin cfg0.N) (b : Fin 4) (r : Fin 1024) (k : Fin 512) (e : Fin 8192) (he : e.val = 1024 * (grid0.coords t 1).val + r.val) :
    blockH m c t b (ix2 r k) = argH m c b (ix2 e k) := by
  have place := place_rows (grid0.coords t 1) r k e he
  match b with
  | 0 => exact congrArg (argH m c 0) (place _ rfl rfl)
  | 1 => exact congrArg (argH m c 1) (place _ rfl rfl)
  | 2 => exact congrArg (argH m c 2) (place _ rfl rfl)
  | 3 => exact congrArg (argH m c 3) (place _ rfl rfl)

/-- A point's blocks of the gates' weights are column blocks of the layer's matrix. -/
def blockW (c : Dev nD) (t : Fin cfg0.N) : Fin 4 → S1x2048x256.Idx → EReal := ![iblk m c 5 t, iblk m c 6 t, iblk m c 7 t, iblk m c 8 t]

theorem weights_at (c : Dev nD) (t : Fin cfg0.N) (b : Fin 4) (k : Fin 2048) (d : Fin 256) (e : Fin 12800)
    (he : e.val = 4608 + 2048 * b.val + (256 * (grid0.coords t 0).val + d.val)) :
    blockW m c t b (ix3 0 k d) = argW m c (ix3 3 k e) := by
  have place := place_gate 3 (grid0.coords t 0) b k d e he
  match b with
  | 0 => exact congrArg (argW m c) (place _ rfl rfl rfl)
  | 1 => exact congrArg (argW m c) (place _ rfl rfl rfl)
  | 2 => exact congrArg (argW m c) (place _ rfl rfl rfl)
  | 3 => exact congrArg (argW m c) (place _ rfl rfl rfl)

/-- A point's blocks of the projections are column blocks of the layer's. -/
def blockP (c : Dev nD) (t : Fin cfg0.N) : Fin 4 → S1x512x256.Idx → EReal := ![iblk m c 9 t, iblk m c 10 t, iblk m c 11 t, iblk m c 12 t]

theorem projection_at (c : Dev nD) (t : Fin cfg0.N) (b : Fin 4) (k : Fin 512) (d : Fin 256) (f : Fin 2048) (hf : f.val = 256 * (grid0.coords t 0).val + d.val) :
    blockP m c t b (ix3 0 k d) = argP m c b (ix3 3 k f) := by
  have place := place_projection 3 (grid0.coords t 0) k d f hf
  match b with
  | 0 => exact congrArg (argP m c 0) (place _ rfl rfl rfl)
  | 1 => exact congrArg (argP m c 1) (place _ rfl rfl rfl)
  | 2 => exact congrArg (argP m c 2) (place _ rfl rfl rfl)
  | 3 => exact congrArg (argP m c 3) (place _ rfl rfl rfl)

/-- The scratches hold the point's column blocks of the layer's weights. -/
abbrev Held (c : Dev nD) (t : Fin cfg0.N) := Holds 3 (argW m c) (argP m c) (grid0.coords t 0).val

theorem held_first (c : Dev nD) (t : Fin cfg0.N) :
    Held m c t (gates (iblk m c 5 t) (iblk m c 6 t) (iblk m c 7 t) (iblk m c 8 t)) (projections (iblk m c 9 t) (iblk m c 10 t) (iblk m c 11 t) (iblk m c 12 t)) :=
  ⟨fun b k d e he => (gates_at (blockW m c t) b k d).trans (weights_at m c t b k d e he),
    fun b k d f hf => (projections_at (blockP m c t) b k d).trans (projection_at m c t b k d f hf)⟩

/-- A point that is not the first of its block of columns has the same block of columns as the point before. -/
theorem same_column : ∀ t : Fin grid0.N, ¬t.val % 8 = 0 →
    (grid0.coords ⟨t.val - 1, Nat.lt_of_le_of_lt (Nat.sub_le _ _) t.isLt⟩ 0).val = (grid0.coords t 0).val := by
  decide +kernel

theorem held_same (c : Dev nD) (t s : Fin cfg0.N) (h : (grid0.coords s 0).val = (grid0.coords t 0).val) {G : Vec Ideal (Four 2048) .bf16} {P : Vec Ideal (Four 512) .bf16}
    (H : Held m c s G P) : Held m c t G P := by
  unfold Held at H ⊢
  rw [← h]
  exact H

/-- After every point the scratches hold its column blocks. -/
theorem held (c : Dev nD) (n : ℕ) : ∀ (t : Fin cfg0.N), t.val = n → Held m c t (outsAt0 m c t.val t.isLt).2.1 (outsAt0 m c t.val t.isLt).2.2 := by
  induction n with
  | zero =>
    intro t ht
    rw [outsAt0_A m c t (by rw [ht])]
    dsimp only
    rw [scratchA, scratchA']
    exact held_first m c t
  | succ n ih =>
    intro t ht
    by_cases h : t.val % 8 = 0
    · rw [outsAt0_A m c t h]
      dsimp only
      rw [scratchA, scratchA']
      exact held_first m c t
    · rw [outsAt0_B m c t h]
      dsimp only
      unfold sout0_B_0 sout0_B_1
      exact held_same m c t _ (same_column t h) (ih ⟨t.val - 1, Nat.lt_of_le_of_lt (Nat.sub_le _ _) t.isLt⟩ (by show t.val - 1 = n; omega))

/-- A point's block is computed with what its scratches hold. -/
theorem block_of (c : Dev nD) (t : Fin cfg0.N) : ∃ (G : Vec Ideal (Four 2048) .bf16) (P : Vec Ideal (Four 512) .bf16), Held m c t G P ∧
    (outsAt0 m c t.val t.isLt).1 = mixOf (iblk m c 0 t) (iblk m c 1 t) (iblk m c 2 t) (iblk m c 3 t) (iblk m c 4 t) G P := by
  by_cases h : t.val % 8 = 0
  · refine ⟨_, _, held_first m c t, ?_⟩
    rw [outsAt0_A m c t h]
    dsimp only
    rw [outA]
  · refine ⟨_, _, held_same m c t _ (same_column t h) (held m c (t.val - 1) ⟨t.val - 1, Nat.lt_of_le_of_lt (Nat.sub_le _ _) t.isLt⟩ rfl), ?_⟩
    rw [outsAt0_B m c t h]
    dsimp only
    rw [outB]

/-- What one point leaves at row `r` and column `d` of its block. -/
theorem point (c : Dev nD) (t : Fin cfg0.N) (r : Fin 1024) (d : Fin 256) (e : Fin 8192) (f : Fin 2048)
    (he : e.val = 1024 * (grid0.coords t 1).val + r.val) (hf : f.val = 256 * (grid0.coords t 0).val + d.val) :
    (outsAt0 m c t.val t.isLt).1 (ix2 r d : S1024x256.Idx) = mixAt 3 (argX m c) (argH m c) (argW m c) (argP m c) e f := by
  obtain ⟨G, P, H, eq⟩ := block_of m c t
  rw [eq]
  exact mixOf_eq (rows_at m c t) (fun b => branch_at m c t b) H r d e f he hf

/-- The point of row block `i` and column block `j`. -/
theorem point_of : ∀ (i : Fin 8) (j : Fin 8), ∃ t : Fin grid0.N, (grid0.coords t 1).val = i.val ∧ (grid0.coords t 0).val = j.val := by
  decide +kernel

/-- The result array. -/
theorem result (c : Dev nD) :
    (dats m 0 c).arrAt 13 cfg0.N = fun u : S8192x2048.Idx => mixAt 3 (argX m c) (argH m c) (argW m c) (argP m c) (u 0) (u 1) := by
  refine (dats m 0 c).arrAt_eq_of_emb 13 _ (fun t hf y => ?_) ?_
  · have h0 : (grid0.coords t 0).val < 8 := (grid0.coords t 0).isLt
    have h1 : (grid0.coords t 1).val < 8 := (grid0.coords t 1).isLt
    have ly0 : (y 0).val < 1024 := (y 0).isLt
    have ly1 : (y 1).val < 256 := (y 1).isLt
    have e : ((cfg0.win 13).blk t).view.emb y
        = (ix2 (⟨1024 * (grid0.coords t 1).val + (y 0).val, by omega⟩ : Fin 8192) (⟨256 * (grid0.coords t 0).val + (y 1).val, by omega⟩ : Fin 2048) : S8192x2048.Idx) := by
      funext a
      refine Fin.ext ?_
      match a with
      | ⟨0, _⟩ =>
        show (BitVec.ofNat 32 (grid0.coords t 1).val).toNat * 1024 + 1 * (y 0).val = 1024 * (grid0.coords t 1).val + (y 0).val
        rw [BitVec.toNat_ofNat]; omega
      | ⟨1, _⟩ =>
        show (BitVec.ofNat 32 (grid0.coords t 0).val).toNat * 256 + 1 * (y 1).val = 256 * (grid0.coords t 0).val + (y 1).val
        rw [BitVec.toNat_ofNat]; omega
    have ey : (cfg0.win 13).xinj (cfg0.grid.coords t) y = (ix2 ⟨(y 0).val, ly0⟩ ⟨(y 1).val, ly1⟩ : S1024x256.Idx) := by
      funext a
      refine Fin.ext ?_
      match a with
      | ⟨0, _⟩ => rfl
      | ⟨1, _⟩ => rfl
    rw [e, ey, after0_13, cast_eq]
    exact point m c t _ _ _ _ rfl rfl
  · intro u
    have l0 : (u 0).val < 8192 := (u 0).isLt
    have l1 : (u 1).val < 2048 := (u 1).isLt
    obtain ⟨t, ht1, ht0⟩ := point_of ⟨(u 0).val / 1024, by omega⟩ ⟨(u 1).val / 256, by omega⟩
    refine ⟨t, flush0_13 t, ?_⟩
    have e : ((cfg0.win 13).blk t).view.emb (ix2 ⟨(u 0).val % 1024, by omega⟩ ⟨(u 1).val % 256, by omega⟩ : S1024x256.Idx) = u := by
      funext a
      refine Fin.ext ?_
      match a with
      | ⟨0, _⟩ =>
        show (BitVec.ofNat 32 (grid0.coords t 1).val).toNat * 1024 + 1 * ((u 0).val % 1024) = (u 0).val
        rw [ht1, BitVec.toNat_ofNat]
        show (u 0).val / 1024 % 2 ^ 32 * 1024 + 1 * ((u 0).val % 1024) = (u 0).val
        omega
      | ⟨1, _⟩ =>
        show (BitVec.ofNat 32 (grid0.coords t 0).val).toNat * 256 + 1 * ((u 1).val % 256) = (u 1).val
        rw [ht0, BitVec.toNat_ofNat]
        show (u 1).val / 256 % 2 ^ 32 * 256 + 1 * ((u 1).val % 256) = (u 1).val
        omega
    rw [← e]
    exact View.emb_mem_set _ _

end Cert.Mix3Ideal.Mat

end
-- ==== Proof.Mix3Claims.lean ====
/- The claims about the mixture of the branches. -/
module

public import proofs.«01_k».proof.Defs
public import proofs.«01_k».proof.Proof.Mix3Val
public import proofs.«01_k».proof.Proof.MixRef
public import proofs.«01_k».proof.Proof.Gen.Mix3.Frame
public import proofs.«01_k».proof.Proof.Gen.Mix3RefIdeal.Run
public import Idealize.ShloMosaic.Lib.Pointwise
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Proof.Mix3Claims

theorem frame_p : Cert.quiescent_Mix3 := fun m ρ _ => Mix3.Gen.frame m ρ
theorem frame_pi : Cert.quiescent_Mix3Ideal := fun m ρ _ => Mix3Ideal.Gen.frame m ρ
theorem frame_ri : Cert.quiescent_Mix3RefIdeal := fun m ρ _ =>
  (θ_run Cert.Mix3RefIdeal.defs _ _).mono (fun r h => ⟨fun c => (h c).2, sem_eq_zero_of_no_sems (by decide) r.2⟩)
    (Cert.Mix3RefIdeal.Value.run (F := Ideal) m ρ)

theorem preserves : Cert.preserves_Mix3_Mix3Ideal := trivial

/-- The kernel and the reference end with the same mixture. -/
theorem algebraic : Cert.algebraic_Mix3Ideal_Mix3RefIdeal := by
  intro m g m' g' pre same
  refine ⟨fun c => (Mix3Ideal.Gen.dats m 0 c).arrAt 13 Mix3Ideal.cfg0.N, Mix3Ideal.Value.run_blocks m g, ?_⟩
  refine (θ_run Mix3RefIdeal.defs _ _).mono (fun r h c => ⟨(h c).1.trans ?_, (h c).2⟩) (Mix3RefIdeal.Value.run (F := Ideal) m' g')
  obtain ⟨a0, a1, a2, a3, a4, a5, a6, a7, a8, a9⟩ := same c
  unfold Mix3RefIdeal.Value.res_main_v42
  rw [a0, a1, a2, a3, a4, a5, a6, a7, a8, a9]
  exact (Mix.value_eq 3 _ (Mix3Ideal.Mat.argH m c) _ (Mix3Ideal.Mat.argP m c)).trans (Mix3Ideal.Mat.result m c).symm

end Cert.Proof.Mix3Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Down
public import proofs.«01_k».proof.Proof.Gen.Down.Skeleton
public import proofs.«01_k».proof.Proof.Gen.Down.Launch
public import proofs.«01_k».proof.Proof.Gen.DownIdeal
public import proofs.«01_k».proof.Proof.Gen.DownRefIdeal
public import proofs.«01_k».proof.Proof.Gen.DownRefIdeal.Run
public import proofs.«01_k».proof.Proof.Gen.Pre_down_tables
public import proofs.«01_k».proof.Proof.Gen.Up
public import proofs.«01_k».proof.Proof.Gen.Up.Skeleton
public import proofs.«01_k».proof.Proof.Gen.Up.Launch
public import proofs.«01_k».proof.Proof.Gen.UpIdeal
public import proofs.«01_k».proof.Proof.Gen.UpRefIdeal
public import proofs.«01_k».proof.Proof.Gen.UpRefIdeal.Run
public import proofs.«01_k».proof.Proof.Gen.Pre_up_tables
public import proofs.«01_k».proof.Proof.Gen.DenseDown
public import proofs.«01_k».proof.Proof.Gen.DenseDown.Skeleton
public import proofs.«01_k».proof.Proof.Gen.DenseDown.Launch
public import proofs.«01_k».proof.Proof.Gen.DenseDownIdeal
public import proofs.«01_k».proof.Proof.Gen.DenseDownRefIdeal
public import proofs.«01_k».proof.Proof.Gen.DenseDownRefIdeal.Run
public import proofs.«01_k».proof.Proof.Gen.Pre_dense_down_tables
public import proofs.«01_k».proof.Proof.Gen.DenseUp
public import proofs.«01_k».proof.Proof.Gen.DenseUp.Skeleton
public import proofs.«01_k».proof.Proof.Gen.DenseUp.Launch
public import proofs.«01_k».proof.Proof.Gen.DenseUpIdeal
public import proofs.«01_k».proof.Proof.Gen.DenseUpRefIdeal
public import proofs.«01_k».proof.Proof.Gen.DenseUpRefIdeal.Run
public import proofs.«01_k».proof.Proof.Gen.Pre_dense_up_tables
public import proofs.«01_k».proof.Proof.Gen.MatIn0
public import proofs.«01_k».proof.Proof.Gen.MatIn0.Skeleton
public import proofs.«01_k».proof.Proof.Gen.MatIn0.Launch
public import proofs.«01_k».proof.Proof.Gen.MatIn0.Points
public import proofs.«01_k».proof.Proof.Gen.MatIn0.Frame
public import proofs.«01_k».proof.Proof.Gen.MatIn0Ideal
public import proofs.«01_k».proof.Proof.Gen.MatIn0Ideal.Skeleton
public import proofs.«01_k».proof.Proof.Gen.MatIn0Ideal.Launch
public import proofs.«01_k».proof.Proof.Gen.MatIn0Ideal.Points
public import proofs.«01_k».proof.Proof.Gen.MatIn0Ideal.Frame
public import proofs.«01_k».proof.Proof.Gen.MatIn0RefIdeal
public import proofs.«01_k».proof.Proof.Gen.MatIn0RefIdeal.Run
public import proofs.«01_k».proof.Proof.Gen.MatIn0Ideal.Value
public import proofs.«01_k».proof.Proof.Gen.MatIn1
public import proofs.«01_k».proof.Proof.Gen.MatIn1.Skeleton
public import proofs.«01_k».proof.Proof.Gen.MatIn1.Launch
public import proofs.«01_k».proof.Proof.Gen.MatIn1.Points
public import proofs.«01_k».proof.Proof.Gen.MatIn1.Frame
public import proofs.«01_k».proof.Proof.Gen.MatIn1Ideal
public import proofs.«01_k».proof.Proof.Gen.MatIn1Ideal.Skeleton
public import proofs.«01_k».proof.Proof.Gen.MatIn1Ideal.Launch
public import proofs.«01_k».proof.Proof.Gen.MatIn1Ideal.Points
public import proofs.«01_k».proof.Proof.Gen.MatIn1Ideal.Frame
public import proofs.«01_k».proof.Proof.Gen.MatIn1RefIdeal
public import proofs.«01_k».proof.Proof.Gen.MatIn1RefIdeal.Run
public import proofs.«01_k».proof.Proof.Gen.MatIn1Ideal.Value
public import proofs.«01_k».proof.Proof.Gen.MatIn2
public import proofs.«01_k».proof.Proof.Gen.MatIn2.Skeleton
public import proofs.«01_k».proof.Proof.Gen.MatIn2.Launch
public import proofs.«01_k».proof.Proof.Gen.MatIn2.Points
public import proofs.«01_k».proof.Proof.Gen.MatIn2.Frame
public import proofs.«01_k».proof.Proof.Gen.MatIn2Ideal
public import proofs.«01_k».proof.Proof.Gen.MatIn2Ideal.Skeleton
public import proofs.«01_k».proof.Proof.Gen.MatIn2Ideal.Launch
public import proofs.«01_k».proof.Proof.Gen.MatIn2Ideal.Points
public import proofs.«01_k».proof.Proof.Gen.MatIn2Ideal.Frame
public import proofs.«01_k».proof.Proof.Gen.MatIn2RefIdeal
public import proofs.«01_k».proof.Proof.Gen.MatIn2RefIdeal.Run
public import proofs.«01_k».proof.Proof.Gen.MatIn2Ideal.Value
public import proofs.«01_k».proof.Proof.Gen.MatIn3
public import proofs.«01_k».proof.Proof.Gen.MatIn3.Skeleton
public import proofs.«01_k».proof.Proof.Gen.MatIn3.Launch
public import proofs.«01_k».proof.Proof.Gen.MatIn3.Points
public import proofs.«01_k».proof.Proof.Gen.MatIn3.Frame
public import proofs.«01_k».proof.Proof.Gen.MatIn3Ideal
public import proofs.«01_k».proof.Proof.Gen.MatIn3Ideal.Skeleton
public import proofs.«01_k».proof.Proof.Gen.MatIn3Ideal.Launch
public import proofs.«01_k».proof.Proof.Gen.MatIn3Ideal.Points
public import proofs.«01_k».proof.Proof.Gen.MatIn3Ideal.Frame
public import proofs.«01_k».proof.Proof.Gen.MatIn3RefIdeal
public import proofs.«01_k».proof.Proof.Gen.MatIn3RefIdeal.Run
public import proofs.«01_k».proof.Proof.Gen.MatIn3Ideal.Value
public import proofs.«01_k».proof.Proof.Gen.MatOut0
public import proofs.«01_k».proof.Proof.Gen.MatOut0.Skeleton
public import proofs.«01_k».proof.Proof.Gen.MatOut0.Launch
public import proofs.«01_k».proof.Proof.Gen.MatOut0.Points
public import proofs.«01_k».proof.Proof.Gen.MatOut0.Frame
public import proofs.«01_k».proof.Proof.Gen.MatOut0Ideal
public import proofs.«01_k».proof.Proof.Gen.MatOut0Ideal.Skeleton
public import proofs.«01_k».proof.Proof.Gen.MatOut0Ideal.Launch
public import proofs.«01_k».proof.Proof.Gen.MatOut0Ideal.Points
public import proofs.«01_k».proof.Proof.Gen.MatOut0Ideal.Frame
public import proofs.«01_k».proof.Proof.Gen.MatOut0RefIdeal
public import proofs.«01_k».proof.Proof.Gen.MatOut0RefIdeal.Run
public import proofs.«01_k».proof.Proof.Gen.MatOut0Ideal.Value
public import proofs.«01_k».proof.Proof.Gen.MatOut1
public import proofs.«01_k».proof.Proof.Gen.MatOut1.Skeleton
public import proofs.«01_k».proof.Proof.Gen.MatOut1.Launch
public import proofs.«01_k».proof.Proof.Gen.MatOut1.Points
public import proofs.«01_k».proof.Proof.Gen.MatOut1.Frame
public import proofs.«01_k».proof.Proof.Gen.MatOut1Ideal
public import proofs.«01_k».proof.Proof.Gen.MatOut1Ideal.Skeleton
public import proofs.«01_k».proof.Proof.Gen.MatOut1Ideal.Launch
public import proofs.«01_k».proof.Proof.Gen.MatOut1Ideal.Points
public import proofs.«01_k».proof.Proof.Gen.MatOut1Ideal.Frame
public import proofs.«01_k».proof.Proof.Gen.MatOut1RefIdeal
public import proofs.«01_k».proof.Proof.Gen.MatOut1RefIdeal.Run
public import proofs.«01_k».proof.Proof.Gen.MatOut1Ideal.Value
public import proofs.«01_k».proof.Proof.Gen.MatOut2
public import proofs.«01_k».proof.Proof.Gen.MatOut2.Skeleton
public import proofs.«01_k».proof.Proof.Gen.MatOut2.Launch
public import proofs.«01_k».proof.Proof.Gen.MatOut2.Points
public import proofs.«01_k».proof.Proof.Gen.MatOut2.Frame
public import proofs.«01_k».proof.Proof.Gen.MatOut2Ideal
public import proofs.«01_k».proof.Proof.Gen.MatOut2Ideal.Skeleton
public import proofs.«01_k».proof.Proof.Gen.MatOut2Ideal.Launch
public import proofs.«01_k».proof.Proof.Gen.MatOut2Ideal.Points
public import proofs.«01_k».proof.Proof.Gen.MatOut2Ideal.Frame
public import proofs.«01_k».proof.Proof.Gen.MatOut2RefIdeal
public import proofs.«01_k».proof.Proof.Gen.MatOut2RefIdeal.Run
public import proofs.«01_k».proof.Proof.Gen.MatOut2Ideal.Value
public import proofs.«01_k».proof.Proof.Gen.MatOut3
public import proofs.«01_k».proof.Proof.Gen.MatOut3.Skeleton
public import proofs.«01_k».proof.Proof.Gen.MatOut3.Launch
public import proofs.«01_k».proof.Proof.Gen.MatOut3.Points
public import proofs.«01_k».proof.Proof.Gen.MatOut3.Frame
public import proofs.«01_k».proof.Proof.Gen.MatOut3Ideal
public import proofs.«01_k».proof.Proof.Gen.MatOut3Ideal.Skeleton
public import proofs.«01_k».proof.Proof.Gen.MatOut3Ideal.Launch
public import proofs.«01_k».proof.Proof.Gen.MatOut3Ideal.Points
public import proofs.«01_k».proof.Proof.Gen.MatOut3Ideal.Frame
public import proofs.«01_k».proof.Proof.Gen.MatOut3RefIdeal
public import proofs.«01_k».proof.Proof.Gen.MatOut3RefIdeal.Run
public import proofs.«01_k».proof.Proof.Gen.MatOut3Ideal.Value
public import proofs.«01_k».proof.Proof.Gen.Mix0
public import proofs.«01_k».proof.Proof.Gen.Mix0.Skeleton
public import proofs.«01_k».proof.Proof.Gen.Mix0.Launch
public import proofs.«01_k».proof.Proof.Gen.Mix0.Points
public import proofs.«01_k».proof.Proof.Gen.Mix0.Frame
public import proofs.«01_k».proof.Proof.Gen.Mix0Ideal
public import proofs.«01_k».proof.Proof.Gen.Mix0Ideal.Skeleton
public import proofs.«01_k».proof.Proof.Gen.Mix0Ideal.Launch
public import proofs.«01_k».proof.Proof.Gen.Mix0Ideal.Points
public import proofs.«01_k».proof.Proof.Gen.Mix0Ideal.Frame
public import proofs.«01_k».proof.Proof.Gen.Mix0RefIdeal
public import proofs.«01_k».proof.Proof.Gen.Mix0RefIdeal.Run
public import proofs.«01_k».proof.Proof.Gen.Mix0Ideal.Value
public import proofs.«01_k».proof.Proof.Gen.Mix1
public import proofs.«01_k».proof.Proof.Gen.Mix1.Skeleton
public import proofs.«01_k».proof.Proof.Gen.Mix1.Launch
public import proofs.«01_k».proof.Proof.Gen.Mix1.Points
public import proofs.«01_k».proof.Proof.Gen.Mix1.Frame
public import proofs.«01_k».proof.Proof.Gen.Mix1Ideal
public import proofs.«01_k».proof.Proof.Gen.Mix1Ideal.Skeleton
public import proofs.«01_k».proof.Proof.Gen.Mix1Ideal.Launch
public import proofs.«01_k».proof.Proof.Gen.Mix1Ideal.Points
public import proofs.«01_k».proof.Proof.Gen.Mix1Ideal.Frame
public import proofs.«01_k».proof.Proof.Gen.Mix1RefIdeal
public import proofs.«01_k».proof.Proof.Gen.Mix1RefIdeal.Run
public import proofs.«01_k».proof.Proof.Gen.Mix1Ideal.Value
public import proofs.«01_k».proof.Proof.Gen.Mix2
public import proofs.«01_k».proof.Proof.Gen.Mix2.Skeleton
public import proofs.«01_k».proof.Proof.Gen.Mix2.Launch
public import proofs.«01_k».proof.Proof.Gen.Mix2.Points
public import proofs.«01_k».proof.Proof.Gen.Mix2.Frame
public import proofs.«01_k».proof.Proof.Gen.Mix2Ideal
public import proofs.«01_k».proof.Proof.Gen.Mix2Ideal.Skeleton
public import proofs.«01_k».proof.Proof.Gen.Mix2Ideal.Launch
public import proofs.«01_k».proof.Proof.Gen.Mix2Ideal.Points
public import proofs.«01_k».proof.Proof.Gen.Mix2Ideal.Frame
public import proofs.«01_k».proof.Proof.Gen.Mix2RefIdeal
public import proofs.«01_k».proof.Proof.Gen.Mix2RefIdeal.Run
public import proofs.«01_k».proof.Proof.Gen.Mix2Ideal.Value
public import proofs.«01_k».proof.Proof.Gen.Mix3
public import proofs.«01_k».proof.Proof.Gen.Mix3.Skeleton
public import proofs.«01_k».proof.Proof.Gen.Mix3.Launch
public import proofs.«01_k».proof.Proof.Gen.Mix3.Points
public import proofs.«01_k».proof.Proof.Gen.Mix3.Frame
public import proofs.«01_k».proof.Proof.Gen.Mix3Ideal
public import proofs.«01_k».proof.Proof.Gen.Mix3Ideal.Skeleton
public import proofs.«01_k».proof.Proof.Gen.Mix3Ideal.Launch
public import proofs.«01_k».proof.Proof.Gen.Mix3Ideal.Points
public import proofs.«01_k».proof.Proof.Gen.Mix3Ideal.Frame
public import proofs.«01_k».proof.Proof.Gen.Mix3RefIdeal
public import proofs.«01_k».proof.Proof.Gen.Mix3RefIdeal.Run
public import proofs.«01_k».proof.Proof.Gen.Mix3Ideal.Value
public import proofs.«01_k».proof.Proof.Moba
public import proofs.«01_k».proof.Proof.DownClaims
public import proofs.«01_k».proof.Proof.UpClaims
public import proofs.«01_k».proof.Proof.DenseDownClaims
public import proofs.«01_k».proof.Proof.DenseUpClaims
public import proofs.«01_k».proof.Proof.MatIn0Claims
public import proofs.«01_k».proof.Proof.MatIn1Claims
public import proofs.«01_k».proof.Proof.MatIn2Claims
public import proofs.«01_k».proof.Proof.MatIn3Claims
public import proofs.«01_k».proof.Proof.MatOut0Claims
public import proofs.«01_k».proof.Proof.MatOut1Claims
public import proofs.«01_k».proof.Proof.MatOut2Claims
public import proofs.«01_k».proof.Proof.MatOut3Claims
public import proofs.«01_k».proof.Proof.Mix0Claims
public import proofs.«01_k».proof.Proof.Mix1Claims
public import proofs.«01_k».proof.Proof.Mix2Claims
public import proofs.«01_k».proof.Proof.Mix3Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Down.Gen.facts, Cert.DownIdeal.Gen.facts, Cert.DownRefIdeal.Gen.facts,
    Cert.Up.Gen.facts, Cert.UpIdeal.Gen.facts, Cert.UpRefIdeal.Gen.facts,
    Cert.DenseDown.Gen.facts, Cert.DenseDownIdeal.Gen.facts, Cert.DenseDownRefIdeal.Gen.facts,
    Cert.DenseUp.Gen.facts, Cert.DenseUpIdeal.Gen.facts, Cert.DenseUpRefIdeal.Gen.facts,
    Cert.MatIn0.Gen.facts, Cert.MatIn0Ideal.Gen.facts, Cert.MatIn0RefIdeal.Gen.facts,
    Cert.MatIn1.Gen.facts, Cert.MatIn1Ideal.Gen.facts, Cert.MatIn1RefIdeal.Gen.facts,
    Cert.MatIn2.Gen.facts, Cert.MatIn2Ideal.Gen.facts, Cert.MatIn2RefIdeal.Gen.facts,
    Cert.MatIn3.Gen.facts, Cert.MatIn3Ideal.Gen.facts, Cert.MatIn3RefIdeal.Gen.facts,
    Cert.MatOut0.Gen.facts, Cert.MatOut0Ideal.Gen.facts, Cert.MatOut0RefIdeal.Gen.facts,
    Cert.MatOut1.Gen.facts, Cert.MatOut1Ideal.Gen.facts, Cert.MatOut1RefIdeal.Gen.facts,
    Cert.MatOut2.Gen.facts, Cert.MatOut2Ideal.Gen.facts, Cert.MatOut2RefIdeal.Gen.facts,
    Cert.MatOut3.Gen.facts, Cert.MatOut3Ideal.Gen.facts, Cert.MatOut3RefIdeal.Gen.facts,
    Cert.Mix0.Gen.facts, Cert.Mix0Ideal.Gen.facts, Cert.Mix0RefIdeal.Gen.facts,
    Cert.Mix1.Gen.facts, Cert.Mix1Ideal.Gen.facts, Cert.Mix1RefIdeal.Gen.facts,
    Cert.Mix2.Gen.facts, Cert.Mix2Ideal.Gen.facts, Cert.Mix2RefIdeal.Gen.facts,
    Cert.Mix3.Gen.facts, Cert.Mix3Ideal.Gen.facts, Cert.Mix3RefIdeal.Gen.facts,
    Cert.Pre_finite.Gen.facts, Cert.Pre_down_tables.Gen.facts, Cert.Pre_up_tables.Gen.facts, Cert.Pre_dense_down_tables.Gen.facts, Cert.Pre_dense_up_tables.Gen.facts,
    MobaClaims.frame_p, MobaClaims.frame_pi, MobaClaims.frame_pi_finite, MobaClaims.frame_ri, MobaClaims.frame_ri_finite,
    DownClaims.frame_p, DownClaims.frame_pi, DownClaims.frame_ri, DownClaims.frame_ri_tables,
    UpClaims.frame_p, UpClaims.frame_pi, UpClaims.frame_ri, UpClaims.frame_ri_tables,
    DenseDownClaims.frame_p, DenseDownClaims.frame_pi, DenseDownClaims.frame_ri, DenseDownClaims.frame_ri_tables,
    DenseUpClaims.frame_p, DenseUpClaims.frame_pi, DenseUpClaims.frame_ri, DenseUpClaims.frame_ri_tables,
    MatIn0Claims.frame_p, MatIn0Claims.frame_pi, MatIn0Claims.frame_ri,
    MatIn1Claims.frame_p, MatIn1Claims.frame_pi, MatIn1Claims.frame_ri,
    MatIn2Claims.frame_p, MatIn2Claims.frame_pi, MatIn2Claims.frame_ri,
    MatIn3Claims.frame_p, MatIn3Claims.frame_pi, MatIn3Claims.frame_ri,
    MatOut0Claims.frame_p, MatOut0Claims.frame_pi, MatOut0Claims.frame_ri,
    MatOut1Claims.frame_p, MatOut1Claims.frame_pi, MatOut1Claims.frame_ri,
    MatOut2Claims.frame_p, MatOut2Claims.frame_pi, MatOut2Claims.frame_ri,
    MatOut3Claims.frame_p, MatOut3Claims.frame_pi, MatOut3Claims.frame_ri,
    Mix0Claims.frame_p, Mix0Claims.frame_pi, Mix0Claims.frame_ri,
    Mix1Claims.frame_p, Mix1Claims.frame_pi, Mix1Claims.frame_ri,
    Mix2Claims.frame_p, Mix2Claims.frame_pi, Mix2Claims.frame_ri,
    Mix3Claims.frame_p, Mix3Claims.frame_pi, Mix3Claims.frame_ri,
    MobaClaims.preserves, MobaClaims.algebraic, DownClaims.preserves, DownClaims.algebraic,
    UpClaims.preserves, UpClaims.algebraic,
    DenseDownClaims.preserves, DenseDownClaims.algebraic,
    DenseUpClaims.preserves, DenseUpClaims.algebraic,
    MatIn0Claims.preserves, MatIn0Claims.algebraic,
    MatIn1Claims.preserves, MatIn1Claims.algebraic,
    MatIn2Claims.preserves, MatIn2Claims.algebraic,
    MatIn3Claims.preserves, MatIn3Claims.algebraic,
    MatOut0Claims.preserves, MatOut0Claims.algebraic,
    MatOut1Claims.preserves, MatOut1Claims.algebraic,
    MatOut2Claims.preserves, MatOut2Claims.algebraic,
    MatOut3Claims.preserves, MatOut3Claims.algebraic,
    Mix0Claims.preserves, Mix0Claims.algebraic,
    Mix1Claims.preserves, Mix1Claims.algebraic,
    Mix2Claims.preserves, Mix2Claims.algebraic,
    Mix3Claims.preserves, Mix3Claims.algebraic⟩

end Cert.Proof

end
